-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_queries_and_keys [hPre_finite_queries_and_keys : Cert.Pre_finite_queries_and_keys.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_queries_and_keys.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_queries_and_keys.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_and_keys [hPre_finite_queries_and_keys : Cert.Pre_finite_queries_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxRefIdeal (m : (ℓ : Loc Cert.ODxRefIdeal.nD Cert.ODxRefIdeal.τ Cert.ODxRefIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwRefIdeal (m : (ℓ : Loc Cert.ODwRefIdeal.nD Cert.ODwRefIdeal.τ Cert.ODwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmO (m : (ℓ : Loc Cert.MmO.nD Cert.MmO.τ Cert.MmO.sig) → Buf (Elt Bits) ℓ) : Prop :=
  True

def Pre_MmOIdeal (m : (ℓ : Loc Cert.MmOIdeal.nD Cert.MmOIdeal.τ Cert.MmOIdeal.sig) → Buf (Elt Ideal) ℓ) : Prop :=
  True

def Pre_MmORefIdeal (m : (ℓ : Loc Cert.MmORefIdeal.nD Cert.MmORefIdeal.τ Cert.MmORefIdeal.sig) → Buf (Elt Ideal) ℓ) : Prop :=
  True

def Pre_MmKv (m : (ℓ : Loc Cert.MmKv.nD Cert.MmKv.τ Cert.MmKv.sig) → Buf (Elt Bits) ℓ) : Prop :=
  True

def Pre_MmKvIdeal (m : (ℓ : Loc Cert.MmKvIdeal.nD Cert.MmKvIdeal.τ Cert.MmKvIdeal.sig) → Buf (Elt Ideal) ℓ) : Prop :=
  True

def Pre_MmKvRefIdeal (m : (ℓ : Loc Cert.MmKvRefIdeal.nD Cert.MmKvRefIdeal.τ Cert.MmKvRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_NormBwdTop (m : (ℓ : Loc Cert.NormBwdTop.nD Cert.NormBwdTop.τ Cert.NormBwdTop.sig) → Buf (Elt Bits) ℓ) : Prop :=
  True

def Pre_NormBwdTopIdeal (m : (ℓ : Loc Cert.NormBwdTopIdeal.nD Cert.NormBwdTopIdeal.τ Cert.NormBwdTopIdeal.sig) → Buf (Elt Ideal) ℓ) : Prop :=
  True

def Pre_NormBwdTopRefIdeal (m : (ℓ : Loc Cert.NormBwdTopRefIdeal.nD Cert.NormBwdTopRefIdeal.τ Cert.NormBwdTopRefIdeal.sig) → Buf (Elt Ideal) ℓ) : Prop :=
  True

def Pre_NormBwdMem (m : (ℓ : Loc Cert.NormBwdMem.nD Cert.NormBwdMem.τ Cert.NormBwdMem.sig) → Buf (Elt Bits) ℓ) : Prop :=
  True

def Pre_NormBwdMemIdeal (m : (ℓ : Loc Cert.NormBwdMemIdeal.nD Cert.NormBwdMemIdeal.τ Cert.NormBwdMemIdeal.sig) → Buf (Elt Ideal) ℓ) : Prop :=
  True

def Pre_NormBwdMemRefIdeal (m : (ℓ : Loc Cert.NormBwdMemRefIdeal.nD Cert.NormBwdMemRefIdeal.τ Cert.NormBwdMemRefIdeal.sig) → Buf (Elt Ideal) ℓ) : Prop :=
  True

def Pre_NormBwdLast (m : (ℓ : Loc Cert.NormBwdLast.nD Cert.NormBwdLast.τ Cert.NormBwdLast.sig) → Buf (Elt Bits) ℓ) : Prop :=
  True

def Pre_NormBwdLastIdeal (m : (ℓ : Loc Cert.NormBwdLastIdeal.nD Cert.NormBwdLastIdeal.τ Cert.NormBwdLastIdeal.sig) → Buf (Elt Ideal) ℓ) : Prop :=
  True

def Pre_NormBwdLastRefIdeal (m : (ℓ : Loc Cert.NormBwdLastRefIdeal.nD Cert.NormBwdLastRefIdeal.τ Cert.NormBwdLastRefIdeal.sig) → Buf (Elt Ideal) ℓ) : Prop :=
  True

def Pre_NormBwdMid (m : (ℓ : Loc Cert.NormBwdMid.nD Cert.NormBwdMid.τ Cert.NormBwdMid.sig) → Buf (Elt Bits) ℓ) : Prop :=
  True

def Pre_NormBwdMidIdeal (m : (ℓ : Loc Cert.NormBwdMidIdeal.nD Cert.NormBwdMidIdeal.τ Cert.NormBwdMidIdeal.sig) → Buf (Elt Ideal) ℓ) : Prop :=
  True

def Pre_NormBwdMidRefIdeal (m : (ℓ : Loc Cert.NormBwdMidRefIdeal.nD Cert.NormBwdMidRefIdeal.τ Cert.NormBwdMidRefIdeal.sig) → Buf (Elt Ideal) ℓ) : Prop :=
  True

def Pre_BranchBBwd (m : (ℓ : Loc Cert.BranchBBwd.nD Cert.BranchBBwd.τ Cert.BranchBBwd.sig) → Buf (Elt Bits) ℓ) : Prop :=
  True

def Pre_BranchBBwdIdeal (m : (ℓ : Loc Cert.BranchBBwdIdeal.nD Cert.BranchBBwdIdeal.τ Cert.BranchBBwdIdeal.sig) → Buf (Elt Ideal) ℓ) : Prop :=
  True

def Pre_BranchBBwdRefIdeal (m : (ℓ : Loc Cert.BranchBBwdRefIdeal.nD Cert.BranchBBwdRefIdeal.τ Cert.BranchBBwdRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_NormMidRefIdeal (m : (ℓ : Loc Cert.NormMidRefIdeal.nD Cert.NormMidRefIdeal.τ Cert.NormMidRefIdeal.sig) → Buf (Elt Ideal) ℓ) : Prop :=
  True

def Pre_NormLoss (m : (ℓ : Loc Cert.NormLoss.nD Cert.NormLoss.τ Cert.NormLoss.sig) → Buf (Elt Bits) ℓ) : Prop :=
  True

def Pre_NormLossIdeal (m : (ℓ : Loc Cert.NormLossIdeal.nD Cert.NormLossIdeal.τ Cert.NormLossIdeal.sig) → Buf (Elt Ideal) ℓ) : Prop :=
  True

def Pre_NormLossRefIdeal (m : (ℓ : Loc Cert.NormLossRefIdeal.nD Cert.NormLossRefIdeal.τ Cert.NormLossRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_BranchBFwd (m : (ℓ : Loc Cert.BranchBFwd.nD Cert.BranchBFwd.τ Cert.BranchBFwd.sig) → Buf (Elt Bits) ℓ) : Prop :=
  True

def Pre_BranchBFwdIdeal (m : (ℓ : Loc Cert.BranchBFwdIdeal.nD Cert.BranchBFwdIdeal.τ Cert.BranchBFwdIdeal.sig) → Buf (Elt Ideal) ℓ) : Prop :=
  True

def Pre_BranchBFwdRefIdeal (m : (ℓ : Loc Cert.BranchBFwdRefIdeal.nD Cert.BranchBFwdRefIdeal.τ Cert.BranchBFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_queries_and_keys [hAttnBwdIdeal : Cert.AttnBwdIdeal.Facts] [hPre_finite_queries_and_keys : Cert.Pre_finite_queries_and_keys.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_queries_and_keys m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_queries_and_keys [hAttnRefIdeal : Cert.AttnRefIdeal.Facts] [hPre_finite_queries_and_keys : Cert.Pre_finite_queries_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ r.2.sem = fun _ => 0)

def quiescent_ODxRefIdeal [hODxRefIdeal : Cert.ODxRefIdeal.Facts] : Prop :=
  ∀ (m : (ℓ : Loc Cert.ODxRefIdeal.nD Cert.ODxRefIdeal.τ Cert.ODxRefIdeal.sig) → Buf (Elt Ideal) ℓ) (g : Dev Cert.ODxRefIdeal.nD → PrngReg), Pre_ODxRefIdeal m →
    θ_run (Cert.ODxRefIdeal.defs (F := Ideal)) (onTc (τ := Cert.ODxRefIdeal.τ) (Cert.ODxRefIdeal.main (F := Ideal))) ⟨m, fun _ => 0, g⟩ (fun r => (∀ c : Dev Cert.ODxRefIdeal.nD,
      r.2.mem ((c.tc : Thread Cert.ODxRefIdeal.nD Cert.ODxRefIdeal.τ).loc Cert.ODxRefIdeal.main_arg0) = m ((c.tc : Thread Cert.ODxRefIdeal.nD Cert.ODxRefIdeal.τ).loc Cert.ODxRefIdeal.main_arg0)
      ∧ r.2.mem ((c.tc : Thread Cert.ODxRefIdeal.nD Cert.ODxRefIdeal.τ).loc Cert.ODxRefIdeal.main_arg1) = m ((c.tc : Thread Cert.ODxRefIdeal.nD Cert.ODxRefIdeal.τ).loc Cert.ODxRefIdeal.main_arg1))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_ODwRefIdeal [hODwRefIdeal : Cert.ODwRefIdeal.Facts] : Prop :=
  ∀ (m : (ℓ : Loc Cert.ODwRefIdeal.nD Cert.ODwRefIdeal.τ Cert.ODwRefIdeal.sig) → Buf (Elt Ideal) ℓ) (g : Dev Cert.ODwRefIdeal.nD → PrngReg), Pre_ODwRefIdeal m →
    θ_run (Cert.ODwRefIdeal.defs (F := Ideal)) (onTc (τ := Cert.ODwRefIdeal.τ) (Cert.ODwRefIdeal.main (F := Ideal))) ⟨m, fun _ => 0, g⟩ (fun r => (∀ c : Dev Cert.ODwRefIdeal.nD,
      r.2.mem ((c.tc : Thread Cert.ODwRefIdeal.nD Cert.ODwRefIdeal.τ).loc Cert.ODwRefIdeal.main_arg0) = m ((c.tc : Thread Cert.ODwRefIdeal.nD Cert.ODwRefIdeal.τ).loc Cert.ODwRefIdeal.main_arg0)
      ∧ r.2.mem ((c.tc : Thread Cert.ODwRefIdeal.nD Cert.ODwRefIdeal.τ).loc Cert.ODwRefIdeal.main_arg1) = m ((c.tc : Thread Cert.ODwRefIdeal.nD Cert.ODwRefIdeal.τ).loc Cert.ODwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1))
      ∧ r.2.sem = fun _ => 0)

def quiescent_MmO [hMmO : Cert.MmO.Facts] : Prop :=
  ∀ (m : (ℓ : Loc Cert.MmO.nD Cert.MmO.τ Cert.MmO.sig) → Buf (Elt Bits) ℓ) (g : Dev Cert.MmO.nD → PrngReg), Pre_MmO m →
    θ_run (Cert.MmO.defs (F := Bits)) (onTc (τ := Cert.MmO.τ) (Cert.MmO.main (F := Bits))) ⟨m, fun _ => 0, g⟩ (fun r => (∀ c : Dev Cert.MmO.nD,
      r.2.mem ((c.tc : Thread Cert.MmO.nD Cert.MmO.τ).loc Cert.MmO.main_arg0) = m ((c.tc : Thread Cert.MmO.nD Cert.MmO.τ).loc Cert.MmO.main_arg0)
      ∧ r.2.mem ((c.tc : Thread Cert.MmO.nD Cert.MmO.τ).loc Cert.MmO.main_arg1) = m ((c.tc : Thread Cert.MmO.nD Cert.MmO.τ).loc Cert.MmO.main_arg1))
      ∧ r.2.sem = fun _ => 0)

def quiescent_MmOIdeal [hMmOIdeal : Cert.MmOIdeal.Facts] : Prop :=
  ∀ (m : (ℓ : Loc Cert.MmOIdeal.nD Cert.MmOIdeal.τ Cert.MmOIdeal.sig) → Buf (Elt Ideal) ℓ) (g : Dev Cert.MmOIdeal.nD → PrngReg), Pre_MmOIdeal m →
    θ_run (Cert.MmOIdeal.defs (F := Ideal)) (onTc (τ := Cert.MmOIdeal.τ) (Cert.MmOIdeal.main (F := Ideal))) ⟨m, fun _ => 0, g⟩ (fun r => (∀ c : Dev Cert.MmOIdeal.nD,
      r.2.mem ((c.tc : Thread Cert.MmOIdeal.nD Cert.MmOIdeal.τ).loc Cert.MmOIdeal.main_arg0) = m ((c.tc : Thread Cert.MmOIdeal.nD Cert.MmOIdeal.τ).loc Cert.MmOIdeal.main_arg0)
      ∧ r.2.mem ((c.tc : Thread Cert.MmOIdeal.nD Cert.MmOIdeal.τ).loc Cert.MmOIdeal.main_arg1) = m ((c.tc : Thread Cert.MmOIdeal.nD Cert.MmOIdeal.τ).loc Cert.MmOIdeal.main_arg1))
      ∧ r.2.sem = fun _ => 0)

def quiescent_MmORefIdeal [hMmORefIdeal : Cert.MmORefIdeal.Facts] : Prop :=
  ∀ (m : (ℓ : Loc Cert.MmORefIdeal.nD Cert.MmORefIdeal.τ Cert.MmORefIdeal.sig) → Buf (Elt Ideal) ℓ) (g : Dev Cert.MmORefIdeal.nD → PrngReg), Pre_MmORefIdeal m →
    θ_run (Cert.MmORefIdeal.defs (F := Ideal)) (onTc (τ := Cert.MmORefIdeal.τ) (Cert.MmORefIdeal.main (F := Ideal))) ⟨m, fun _ => 0, g⟩ (fun r => (∀ c : Dev Cert.MmORefIdeal.nD,
      r.2.mem ((c.tc : Thread Cert.MmORefIdeal.nD Cert.MmORefIdeal.τ).loc Cert.MmORefIdeal.main_arg0) = m ((c.tc : Thread Cert.MmORefIdeal.nD Cert.MmORefIdeal.τ).loc Cert.MmORefIdeal.main_arg0)
      ∧ r.2.mem ((c.tc : Thread Cert.MmORefIdeal.nD Cert.MmORefIdeal.τ).loc Cert.MmORefIdeal.main_arg1) = m ((c.tc : Thread Cert.MmORefIdeal.nD Cert.MmORefIdeal.τ).loc Cert.MmORefIdeal.main_arg1))
      ∧ r.2.sem = fun _ => 0)

def quiescent_MmKv [hMmKv : Cert.MmKv.Facts] : Prop :=
  ∀ (m : (ℓ : Loc Cert.MmKv.nD Cert.MmKv.τ Cert.MmKv.sig) → Buf (Elt Bits) ℓ) (g : Dev Cert.MmKv.nD → PrngReg), Pre_MmKv m →
    θ_run (Cert.MmKv.defs (F := Bits)) (onTc (τ := Cert.MmKv.τ) (Cert.MmKv.main (F := Bits))) ⟨m, fun _ => 0, g⟩ (fun r => (∀ c : Dev Cert.MmKv.nD,
      r.2.mem ((c.tc : Thread Cert.MmKv.nD Cert.MmKv.τ).loc Cert.MmKv.main_arg0) = m ((c.tc : Thread Cert.MmKv.nD Cert.MmKv.τ).loc Cert.MmKv.main_arg0)
      ∧ r.2.mem ((c.tc : Thread Cert.MmKv.nD Cert.MmKv.τ).loc Cert.MmKv.main_arg1) = m ((c.tc : Thread Cert.MmKv.nD Cert.MmKv.τ).loc Cert.MmKv.main_arg1))
      ∧ r.2.sem = fun _ => 0)

def quiescent_MmKvIdeal [hMmKvIdeal : Cert.MmKvIdeal.Facts] : Prop :=
  ∀ (m : (ℓ : Loc Cert.MmKvIdeal.nD Cert.MmKvIdeal.τ Cert.MmKvIdeal.sig) → Buf (Elt Ideal) ℓ) (g : Dev Cert.MmKvIdeal.nD → PrngReg), Pre_MmKvIdeal m →
    θ_run (Cert.MmKvIdeal.defs (F := Ideal)) (onTc (τ := Cert.MmKvIdeal.τ) (Cert.MmKvIdeal.main (F := Ideal))) ⟨m, fun _ => 0, g⟩ (fun r => (∀ c : Dev Cert.MmKvIdeal.nD,
      r.2.mem ((c.tc : Thread Cert.MmKvIdeal.nD Cert.MmKvIdeal.τ).loc Cert.MmKvIdeal.main_arg0) = m ((c.tc : Thread Cert.MmKvIdeal.nD Cert.MmKvIdeal.τ).loc Cert.MmKvIdeal.main_arg0)
      ∧ r.2.mem ((c.tc : Thread Cert.MmKvIdeal.nD Cert.MmKvIdeal.τ).loc Cert.MmKvIdeal.main_arg1) = m ((c.tc : Thread Cert.MmKvIdeal.nD Cert.MmKvIdeal.τ).loc Cert.MmKvIdeal.main_arg1))
      ∧ r.2.sem = fun _ => 0)

def quiescent_MmKvRefIdeal [hMmKvRefIdeal : Cert.MmKvRefIdeal.Facts] : Prop :=
  ∀ (m : (ℓ : Loc Cert.MmKvRefIdeal.nD Cert.MmKvRefIdeal.τ Cert.MmKvRefIdeal.sig) → Buf (Elt Ideal) ℓ) (g : Dev Cert.MmKvRefIdeal.nD → PrngReg), Pre_MmKvRefIdeal m →
    θ_run (Cert.MmKvRefIdeal.defs (F := Ideal)) (onTc (τ := Cert.MmKvRefIdeal.τ) (Cert.MmKvRefIdeal.main (F := Ideal))) ⟨m, fun _ => 0, g⟩ (fun r => (∀ c : Dev Cert.MmKvRefIdeal.nD,
      r.2.mem ((c.tc : Thread Cert.MmKvRefIdeal.nD Cert.MmKvRefIdeal.τ).loc Cert.MmKvRefIdeal.main_arg0) = m ((c.tc : Thread Cert.MmKvRefIdeal.nD Cert.MmKvRefIdeal.τ).loc Cert.MmKvRefIdeal.main_arg0)
      ∧ r.2.mem ((c.tc : Thread Cert.MmKvRefIdeal.nD Cert.MmKvRefIdeal.τ).loc Cert.MmKvRefIdeal.main_arg1) = m ((c.tc : Thread Cert.MmKvRefIdeal.nD Cert.MmKvRefIdeal.τ).loc Cert.MmKvRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_NormBwdTop [hNormBwdTop : Cert.NormBwdTop.Facts] : Prop :=
  ∀ (m : (ℓ : Loc Cert.NormBwdTop.nD Cert.NormBwdTop.τ Cert.NormBwdTop.sig) → Buf (Elt Bits) ℓ) (g : Dev Cert.NormBwdTop.nD → PrngReg), Pre_NormBwdTop m →
    θ_run (Cert.NormBwdTop.defs (F := Bits)) (onTc (τ := Cert.NormBwdTop.τ) (Cert.NormBwdTop.main (F := Bits))) ⟨m, fun _ => 0, g⟩ (fun r => (∀ c : Dev Cert.NormBwdTop.nD,
      r.2.mem ((c.tc : Thread Cert.NormBwdTop.nD Cert.NormBwdTop.τ).loc Cert.NormBwdTop.main_arg0) = m ((c.tc : Thread Cert.NormBwdTop.nD Cert.NormBwdTop.τ).loc Cert.NormBwdTop.main_arg0)
      ∧ r.2.mem ((c.tc : Thread Cert.NormBwdTop.nD Cert.NormBwdTop.τ).loc Cert.NormBwdTop.main_arg1) = m ((c.tc : Thread Cert.NormBwdTop.nD Cert.NormBwdTop.τ).loc Cert.NormBwdTop.main_arg1)
      ∧ r.2.mem ((c.tc : Thread Cert.NormBwdTop.nD Cert.NormBwdTop.τ).loc Cert.NormBwdTop.main_arg2) = m ((c.tc : Thread Cert.NormBwdTop.nD Cert.NormBwdTop.τ).loc Cert.NormBwdTop.main_arg2))
      ∧ r.2.sem = fun _ => 0)

def quiescent_NormBwdTopIdeal [hNormBwdTopIdeal : Cert.NormBwdTopIdeal.Facts] : Prop :=
  ∀ (m : (ℓ : Loc Cert.NormBwdTopIdeal.nD Cert.NormBwdTopIdeal.τ Cert.NormBwdTopIdeal.sig) → Buf (Elt Ideal) ℓ) (g : Dev Cert.NormBwdTopIdeal.nD → PrngReg), Pre_NormBwdTopIdeal m →
    θ_run (Cert.NormBwdTopIdeal.defs (F := Ideal)) (onTc (τ := Cert.NormBwdTopIdeal.τ) (Cert.NormBwdTopIdeal.main (F := Ideal))) ⟨m, fun _ => 0, g⟩ (fun r => (∀ c : Dev Cert.NormBwdTopIdeal.nD,
      r.2.mem ((c.tc : Thread Cert.NormBwdTopIdeal.nD Cert.NormBwdTopIdeal.τ).loc Cert.NormBwdTopIdeal.main_arg0) = m ((c.tc : Thread Cert.NormBwdTopIdeal.nD Cert.NormBwdTopIdeal.τ).loc Cert.NormBwdTopIdeal.main_arg0)
      ∧ r.2.mem ((c.tc : Thread Cert.NormBwdTopIdeal.nD Cert.NormBwdTopIdeal.τ).loc Cert.NormBwdTopIdeal.main_arg1) = m ((c.tc : Thread Cert.NormBwdTopIdeal.nD Cert.NormBwdTopIdeal.τ).loc Cert.NormBwdTopIdeal.main_arg1)
      ∧ r.2.mem ((c.tc : Thread Cert.NormBwdTopIdeal.nD Cert.NormBwdTopIdeal.τ).loc Cert.NormBwdTopIdeal.main_arg2) = m ((c.tc : Thread Cert.NormBwdTopIdeal.nD Cert.NormBwdTopIdeal.τ).loc Cert.NormBwdTopIdeal.main_arg2))
      ∧ r.2.sem = fun _ => 0)

def quiescent_NormBwdTopRefIdeal [hNormBwdTopRefIdeal : Cert.NormBwdTopRefIdeal.Facts] : Prop :=
  ∀ (m : (ℓ : Loc Cert.NormBwdTopRefIdeal.nD Cert.NormBwdTopRefIdeal.τ Cert.NormBwdTopRefIdeal.sig) → Buf (Elt Ideal) ℓ) (g : Dev Cert.NormBwdTopRefIdeal.nD → PrngReg), Pre_NormBwdTopRefIdeal m →
    θ_run (Cert.NormBwdTopRefIdeal.defs (F := Ideal)) (onTc (τ := Cert.NormBwdTopRefIdeal.τ) (Cert.NormBwdTopRefIdeal.main (F := Ideal))) ⟨m, fun _ => 0, g⟩ (fun r => (∀ c : Dev Cert.NormBwdTopRefIdeal.nD,
      r.2.mem ((c.tc : Thread Cert.NormBwdTopRefIdeal.nD Cert.NormBwdTopRefIdeal.τ).loc Cert.NormBwdTopRefIdeal.main_arg0) = m ((c.tc : Thread Cert.NormBwdTopRefIdeal.nD Cert.NormBwdTopRefIdeal.τ).loc Cert.NormBwdTopRefIdeal.main_arg0)
      ∧ r.2.mem ((c.tc : Thread Cert.NormBwdTopRefIdeal.nD Cert.NormBwdTopRefIdeal.τ).loc Cert.NormBwdTopRefIdeal.main_arg1) = m ((c.tc : Thread Cert.NormBwdTopRefIdeal.nD Cert.NormBwdTopRefIdeal.τ).loc Cert.NormBwdTopRefIdeal.main_arg1)
      ∧ r.2.mem ((c.tc : Thread Cert.NormBwdTopRefIdeal.nD Cert.NormBwdTopRefIdeal.τ).loc Cert.NormBwdTopRefIdeal.main_arg2) = m ((c.tc : Thread Cert.NormBwdTopRefIdeal.nD Cert.NormBwdTopRefIdeal.τ).loc Cert.NormBwdTopRefIdeal.main_arg2))
      ∧ r.2.sem = fun _ => 0)

def quiescent_NormBwdMem [hNormBwdMem : Cert.NormBwdMem.Facts] : Prop :=
  ∀ (m : (ℓ : Loc Cert.NormBwdMem.nD Cert.NormBwdMem.τ Cert.NormBwdMem.sig) → Buf (Elt Bits) ℓ) (g : Dev Cert.NormBwdMem.nD → PrngReg), Pre_NormBwdMem m →
    θ_run (Cert.NormBwdMem.defs (F := Bits)) (onTc (τ := Cert.NormBwdMem.τ) (Cert.NormBwdMem.main (F := Bits))) ⟨m, fun _ => 0, g⟩ (fun r => (∀ c : Dev Cert.NormBwdMem.nD,
      r.2.mem ((c.tc : Thread Cert.NormBwdMem.nD Cert.NormBwdMem.τ).loc Cert.NormBwdMem.main_arg0) = m ((c.tc : Thread Cert.NormBwdMem.nD Cert.NormBwdMem.τ).loc Cert.NormBwdMem.main_arg0)
      ∧ r.2.mem ((c.tc : Thread Cert.NormBwdMem.nD Cert.NormBwdMem.τ).loc Cert.NormBwdMem.main_arg1) = m ((c.tc : Thread Cert.NormBwdMem.nD Cert.NormBwdMem.τ).loc Cert.NormBwdMem.main_arg1)
      ∧ r.2.mem ((c.tc : Thread Cert.NormBwdMem.nD Cert.NormBwdMem.τ).loc Cert.NormBwdMem.main_arg2) = m ((c.tc : Thread Cert.NormBwdMem.nD Cert.NormBwdMem.τ).loc Cert.NormBwdMem.main_arg2))
      ∧ r.2.sem = fun _ => 0)

def quiescent_NormBwdMemIdeal [hNormBwdMemIdeal : Cert.NormBwdMemIdeal.Facts] : Prop :=
  ∀ (m : (ℓ : Loc Cert.NormBwdMemIdeal.nD Cert.NormBwdMemIdeal.τ Cert.NormBwdMemIdeal.sig) → Buf (Elt Ideal) ℓ) (g : Dev Cert.NormBwdMemIdeal.nD → PrngReg), Pre_NormBwdMemIdeal m →
    θ_run (Cert.NormBwdMemIdeal.defs (F := Ideal)) (onTc (τ := Cert.NormBwdMemIdeal.τ) (Cert.NormBwdMemIdeal.main (F := Ideal))) ⟨m, fun _ => 0, g⟩ (fun r => (∀ c : Dev Cert.NormBwdMemIdeal.nD,
      r.2.mem ((c.tc : Thread Cert.NormBwdMemIdeal.nD Cert.NormBwdMemIdeal.τ).loc Cert.NormBwdMemIdeal.main_arg0) = m ((c.tc : Thread Cert.NormBwdMemIdeal.nD Cert.NormBwdMemIdeal.τ).loc Cert.NormBwdMemIdeal.main_arg0)
      ∧ r.2.mem ((c.tc : Thread Cert.NormBwdMemIdeal.nD Cert.NormBwdMemIdeal.τ).loc Cert.NormBwdMemIdeal.main_arg1) = m ((c.tc : Thread Cert.NormBwdMemIdeal.nD Cert.NormBwdMemIdeal.τ).loc Cert.NormBwdMemIdeal.main_arg1)
      ∧ r.2.mem ((c.tc : Thread Cert.NormBwdMemIdeal.nD Cert.NormBwdMemIdeal.τ).loc Cert.NormBwdMemIdeal.main_arg2) = m ((c.tc : Thread Cert.NormBwdMemIdeal.nD Cert.NormBwdMemIdeal.τ).loc Cert.NormBwdMemIdeal.main_arg2))
      ∧ r.2.sem = fun _ => 0)

def quiescent_NormBwdMemRefIdeal [hNormBwdMemRefIdeal : Cert.NormBwdMemRefIdeal.Facts] : Prop :=
  ∀ (m : (ℓ : Loc Cert.NormBwdMemRefIdeal.nD Cert.NormBwdMemRefIdeal.τ Cert.NormBwdMemRefIdeal.sig) → Buf (Elt Ideal) ℓ) (g : Dev Cert.NormBwdMemRefIdeal.nD → PrngReg), Pre_NormBwdMemRefIdeal m →
    θ_run (Cert.NormBwdMemRefIdeal.defs (F := Ideal)) (onTc (τ := Cert.NormBwdMemRefIdeal.τ) (Cert.NormBwdMemRefIdeal.main (F := Ideal))) ⟨m, fun _ => 0, g⟩ (fun r => (∀ c : Dev Cert.NormBwdMemRefIdeal.nD,
      r.2.mem ((c.tc : Thread Cert.NormBwdMemRefIdeal.nD Cert.NormBwdMemRefIdeal.τ).loc Cert.NormBwdMemRefIdeal.main_arg0) = m ((c.tc : Thread Cert.NormBwdMemRefIdeal.nD Cert.NormBwdMemRefIdeal.τ).loc Cert.NormBwdMemRefIdeal.main_arg0)
      ∧ r.2.mem ((c.tc : Thread Cert.NormBwdMemRefIdeal.nD Cert.NormBwdMemRefIdeal.τ).loc Cert.NormBwdMemRefIdeal.main_arg1) = m ((c.tc : Thread Cert.NormBwdMemRefIdeal.nD Cert.NormBwdMemRefIdeal.τ).loc Cert.NormBwdMemRefIdeal.main_arg1)
      ∧ r.2.mem ((c.tc : Thread Cert.NormBwdMemRefIdeal.nD Cert.NormBwdMemRefIdeal.τ).loc Cert.NormBwdMemRefIdeal.main_arg2) = m ((c.tc : Thread Cert.NormBwdMemRefIdeal.nD Cert.NormBwdMemRefIdeal.τ).loc Cert.NormBwdMemRefIdeal.main_arg2))
      ∧ r.2.sem = fun _ => 0)

def quiescent_NormBwdLast [hNormBwdLast : Cert.NormBwdLast.Facts] : Prop :=
  ∀ (m : (ℓ : Loc Cert.NormBwdLast.nD Cert.NormBwdLast.τ Cert.NormBwdLast.sig) → Buf (Elt Bits) ℓ) (g : Dev Cert.NormBwdLast.nD → PrngReg), Pre_NormBwdLast m →
    θ_run (Cert.NormBwdLast.defs (F := Bits)) (onTc (τ := Cert.NormBwdLast.τ) (Cert.NormBwdLast.main (F := Bits))) ⟨m, fun _ => 0, g⟩ (fun r => (∀ c : Dev Cert.NormBwdLast.nD,
      r.2.mem ((c.tc : Thread Cert.NormBwdLast.nD Cert.NormBwdLast.τ).loc Cert.NormBwdLast.main_arg0) = m ((c.tc : Thread Cert.NormBwdLast.nD Cert.NormBwdLast.τ).loc Cert.NormBwdLast.main_arg0)
      ∧ r.2.mem ((c.tc : Thread Cert.NormBwdLast.nD Cert.NormBwdLast.τ).loc Cert.NormBwdLast.main_arg1) = m ((c.tc : Thread Cert.NormBwdLast.nD Cert.NormBwdLast.τ).loc Cert.NormBwdLast.main_arg1)
      ∧ r.2.mem ((c.tc : Thread Cert.NormBwdLast.nD Cert.NormBwdLast.τ).loc Cert.NormBwdLast.main_arg2) = m ((c.tc : Thread Cert.NormBwdLast.nD Cert.NormBwdLast.τ).loc Cert.NormBwdLast.main_arg2)
      ∧ r.2.mem ((c.tc : Thread Cert.NormBwdLast.nD Cert.NormBwdLast.τ).loc Cert.NormBwdLast.main_arg3) = m ((c.tc : Thread Cert.NormBwdLast.nD Cert.NormBwdLast.τ).loc Cert.NormBwdLast.main_arg3))
      ∧ r.2.sem = fun _ => 0)

def quiescent_NormBwdLastIdeal [hNormBwdLastIdeal : Cert.NormBwdLastIdeal.Facts] : Prop :=
  ∀ (m : (ℓ : Loc Cert.NormBwdLastIdeal.nD Cert.NormBwdLastIdeal.τ Cert.NormBwdLastIdeal.sig) → Buf (Elt Ideal) ℓ) (g : Dev Cert.NormBwdLastIdeal.nD → PrngReg), Pre_NormBwdLastIdeal m →
    θ_run (Cert.NormBwdLastIdeal.defs (F := Ideal)) (onTc (τ := Cert.NormBwdLastIdeal.τ) (Cert.NormBwdLastIdeal.main (F := Ideal))) ⟨m, fun _ => 0, g⟩ (fun r => (∀ c : Dev Cert.NormBwdLastIdeal.nD,
      r.2.mem ((c.tc : Thread Cert.NormBwdLastIdeal.nD Cert.NormBwdLastIdeal.τ).loc Cert.NormBwdLastIdeal.main_arg0) = m ((c.tc : Thread Cert.NormBwdLastIdeal.nD Cert.NormBwdLastIdeal.τ).loc Cert.NormBwdLastIdeal.main_arg0)
      ∧ r.2.mem ((c.tc : Thread Cert.NormBwdLastIdeal.nD Cert.NormBwdLastIdeal.τ).loc Cert.NormBwdLastIdeal.main_arg1) = m ((c.tc : Thread Cert.NormBwdLastIdeal.nD Cert.NormBwdLastIdeal.τ).loc Cert.NormBwdLastIdeal.main_arg1)
      ∧ r.2.mem ((c.tc : Thread Cert.NormBwdLastIdeal.nD Cert.NormBwdLastIdeal.τ).loc Cert.NormBwdLastIdeal.main_arg2) = m ((c.tc : Thread Cert.NormBwdLastIdeal.nD Cert.NormBwdLastIdeal.τ).loc Cert.NormBwdLastIdeal.main_arg2)
      ∧ r.2.mem ((c.tc : Thread Cert.NormBwdLastIdeal.nD Cert.NormBwdLastIdeal.τ).loc Cert.NormBwdLastIdeal.main_arg3) = m ((c.tc : Thread Cert.NormBwdLastIdeal.nD Cert.NormBwdLastIdeal.τ).loc Cert.NormBwdLastIdeal.main_arg3))
      ∧ r.2.sem = fun _ => 0)

def quiescent_NormBwdLastRefIdeal [hNormBwdLastRefIdeal : Cert.NormBwdLastRefIdeal.Facts] : Prop :=
  ∀ (m : (ℓ : Loc Cert.NormBwdLastRefIdeal.nD Cert.NormBwdLastRefIdeal.τ Cert.NormBwdLastRefIdeal.sig) → Buf (Elt Ideal) ℓ) (g : Dev Cert.NormBwdLastRefIdeal.nD → PrngReg), Pre_NormBwdLastRefIdeal m →
    θ_run (Cert.NormBwdLastRefIdeal.defs (F := Ideal)) (onTc (τ := Cert.NormBwdLastRefIdeal.τ) (Cert.NormBwdLastRefIdeal.main (F := Ideal))) ⟨m, fun _ => 0, g⟩ (fun r => (∀ c : Dev Cert.NormBwdLastRefIdeal.nD,
      r.2.mem ((c.tc : Thread Cert.NormBwdLastRefIdeal.nD Cert.NormBwdLastRefIdeal.τ).loc Cert.NormBwdLastRefIdeal.main_arg0) = m ((c.tc : Thread Cert.NormBwdLastRefIdeal.nD Cert.NormBwdLastRefIdeal.τ).loc Cert.NormBwdLastRefIdeal.main_arg0)
      ∧ r.2.mem ((c.tc : Thread Cert.NormBwdLastRefIdeal.nD Cert.NormBwdLastRefIdeal.τ).loc Cert.NormBwdLastRefIdeal.main_arg1) = m ((c.tc : Thread Cert.NormBwdLastRefIdeal.nD Cert.NormBwdLastRefIdeal.τ).loc Cert.NormBwdLastRefIdeal.main_arg1)
      ∧ r.2.mem ((c.tc : Thread Cert.NormBwdLastRefIdeal.nD Cert.NormBwdLastRefIdeal.τ).loc Cert.NormBwdLastRefIdeal.main_arg2) = m ((c.tc : Thread Cert.NormBwdLastRefIdeal.nD Cert.NormBwdLastRefIdeal.τ).loc Cert.NormBwdLastRefIdeal.main_arg2)
      ∧ r.2.mem ((c.tc : Thread Cert.NormBwdLastRefIdeal.nD Cert.NormBwdLastRefIdeal.τ).loc Cert.NormBwdLastRefIdeal.main_arg3) = m ((c.tc : Thread Cert.NormBwdLastRefIdeal.nD Cert.NormBwdLastRefIdeal.τ).loc Cert.NormBwdLastRefIdeal.main_arg3))
      ∧ r.2.sem = fun _ => 0)

def quiescent_NormBwdMid [hNormBwdMid : Cert.NormBwdMid.Facts] : Prop :=
  ∀ (m : (ℓ : Loc Cert.NormBwdMid.nD Cert.NormBwdMid.τ Cert.NormBwdMid.sig) → Buf (Elt Bits) ℓ) (g : Dev Cert.NormBwdMid.nD → PrngReg), Pre_NormBwdMid m →
    θ_run (Cert.NormBwdMid.defs (F := Bits)) (onTc (τ := Cert.NormBwdMid.τ) (Cert.NormBwdMid.main (F := Bits))) ⟨m, fun _ => 0, g⟩ (fun r => (∀ c : Dev Cert.NormBwdMid.nD,
      r.2.mem ((c.tc : Thread Cert.NormBwdMid.nD Cert.NormBwdMid.τ).loc Cert.NormBwdMid.main_arg0) = m ((c.tc : Thread Cert.NormBwdMid.nD Cert.NormBwdMid.τ).loc Cert.NormBwdMid.main_arg0)
      ∧ r.2.mem ((c.tc : Thread Cert.NormBwdMid.nD Cert.NormBwdMid.τ).loc Cert.NormBwdMid.main_arg1) = m ((c.tc : Thread Cert.NormBwdMid.nD Cert.NormBwdMid.τ).loc Cert.NormBwdMid.main_arg1)
      ∧ r.2.mem ((c.tc : Thread Cert.NormBwdMid.nD Cert.NormBwdMid.τ).loc Cert.NormBwdMid.main_arg2) = m ((c.tc : Thread Cert.NormBwdMid.nD Cert.NormBwdMid.τ).loc Cert.NormBwdMid.main_arg2)
      ∧ r.2.mem ((c.tc : Thread Cert.NormBwdMid.nD Cert.NormBwdMid.τ).loc Cert.NormBwdMid.main_arg3) = m ((c.tc : Thread Cert.NormBwdMid.nD Cert.NormBwdMid.τ).loc Cert.NormBwdMid.main_arg3)
      ∧ r.2.mem ((c.tc : Thread Cert.NormBwdMid.nD Cert.NormBwdMid.τ).loc Cert.NormBwdMid.main_arg4) = m ((c.tc : Thread Cert.NormBwdMid.nD Cert.NormBwdMid.τ).loc Cert.NormBwdMid.main_arg4)
      ∧ r.2.mem ((c.tc : Thread Cert.NormBwdMid.nD Cert.NormBwdMid.τ).loc Cert.NormBwdMid.main_arg5) = m ((c.tc : Thread Cert.NormBwdMid.nD Cert.NormBwdMid.τ).loc Cert.NormBwdMid.main_arg5))
      ∧ r.2.sem = fun _ => 0)

def quiescent_NormBwdMidIdeal [hNormBwdMidIdeal : Cert.NormBwdMidIdeal.Facts] : Prop :=
  ∀ (m : (ℓ : Loc Cert.NormBwdMidIdeal.nD Cert.NormBwdMidIdeal.τ Cert.NormBwdMidIdeal.sig) → Buf (Elt Ideal) ℓ) (g : Dev Cert.NormBwdMidIdeal.nD → PrngReg), Pre_NormBwdMidIdeal m →
    θ_run (Cert.NormBwdMidIdeal.defs (F := Ideal)) (onTc (τ := Cert.NormBwdMidIdeal.τ) (Cert.NormBwdMidIdeal.main (F := Ideal))) ⟨m, fun _ => 0, g⟩ (fun r => (∀ c : Dev Cert.NormBwdMidIdeal.nD,
      r.2.mem ((c.tc : Thread Cert.NormBwdMidIdeal.nD Cert.NormBwdMidIdeal.τ).loc Cert.NormBwdMidIdeal.main_arg0) = m ((c.tc : Thread Cert.NormBwdMidIdeal.nD Cert.NormBwdMidIdeal.τ).loc Cert.NormBwdMidIdeal.main_arg0)
      ∧ r.2.mem ((c.tc : Thread Cert.NormBwdMidIdeal.nD Cert.NormBwdMidIdeal.τ).loc Cert.NormBwdMidIdeal.main_arg1) = m ((c.tc : Thread Cert.NormBwdMidIdeal.nD Cert.NormBwdMidIdeal.τ).loc Cert.NormBwdMidIdeal.main_arg1)
      ∧ r.2.mem ((c.tc : Thread Cert.NormBwdMidIdeal.nD Cert.NormBwdMidIdeal.τ).loc Cert.NormBwdMidIdeal.main_arg2) = m ((c.tc : Thread Cert.NormBwdMidIdeal.nD Cert.NormBwdMidIdeal.τ).loc Cert.NormBwdMidIdeal.main_arg2)
      ∧ r.2.mem ((c.tc : Thread Cert.NormBwdMidIdeal.nD Cert.NormBwdMidIdeal.τ).loc Cert.NormBwdMidIdeal.main_arg3) = m ((c.tc : Thread Cert.NormBwdMidIdeal.nD Cert.NormBwdMidIdeal.τ).loc Cert.NormBwdMidIdeal.main_arg3)
      ∧ r.2.mem ((c.tc : Thread Cert.NormBwdMidIdeal.nD Cert.NormBwdMidIdeal.τ).loc Cert.NormBwdMidIdeal.main_arg4) = m ((c.tc : Thread Cert.NormBwdMidIdeal.nD Cert.NormBwdMidIdeal.τ).loc Cert.NormBwdMidIdeal.main_arg4)
      ∧ r.2.mem ((c.tc : Thread Cert.NormBwdMidIdeal.nD Cert.NormBwdMidIdeal.τ).loc Cert.NormBwdMidIdeal.main_arg5) = m ((c.tc : Thread Cert.NormBwdMidIdeal.nD Cert.NormBwdMidIdeal.τ).loc Cert.NormBwdMidIdeal.main_arg5))
      ∧ r.2.sem = fun _ => 0)

def quiescent_NormBwdMidRefIdeal [hNormBwdMidRefIdeal : Cert.NormBwdMidRefIdeal.Facts] : Prop :=
  ∀ (m : (ℓ : Loc Cert.NormBwdMidRefIdeal.nD Cert.NormBwdMidRefIdeal.τ Cert.NormBwdMidRefIdeal.sig) → Buf (Elt Ideal) ℓ) (g : Dev Cert.NormBwdMidRefIdeal.nD → PrngReg), Pre_NormBwdMidRefIdeal m →
    θ_run (Cert.NormBwdMidRefIdeal.defs (F := Ideal)) (onTc (τ := Cert.NormBwdMidRefIdeal.τ) (Cert.NormBwdMidRefIdeal.main (F := Ideal))) ⟨m, fun _ => 0, g⟩ (fun r => (∀ c : Dev Cert.NormBwdMidRefIdeal.nD,
      r.2.mem ((c.tc : Thread Cert.NormBwdMidRefIdeal.nD Cert.NormBwdMidRefIdeal.τ).loc Cert.NormBwdMidRefIdeal.main_arg0) = m ((c.tc : Thread Cert.NormBwdMidRefIdeal.nD Cert.NormBwdMidRefIdeal.τ).loc Cert.NormBwdMidRefIdeal.main_arg0)
      ∧ r.2.mem ((c.tc : Thread Cert.NormBwdMidRefIdeal.nD Cert.NormBwdMidRefIdeal.τ).loc Cert.NormBwdMidRefIdeal.main_arg1) = m ((c.tc : Thread Cert.NormBwdMidRefIdeal.nD Cert.NormBwdMidRefIdeal.τ).loc Cert.NormBwdMidRefIdeal.main_arg1)
      ∧ r.2.mem ((c.tc : Thread Cert.NormBwdMidRefIdeal.nD Cert.NormBwdMidRefIdeal.τ).loc Cert.NormBwdMidRefIdeal.main_arg2) = m ((c.tc : Thread Cert.NormBwdMidRefIdeal.nD Cert.NormBwdMidRefIdeal.τ).loc Cert.NormBwdMidRefIdeal.main_arg2)
      ∧ r.2.mem ((c.tc : Thread Cert.NormBwdMidRefIdeal.nD Cert.NormBwdMidRefIdeal.τ).loc Cert.NormBwdMidRefIdeal.main_arg3) = m ((c.tc : Thread Cert.NormBwdMidRefIdeal.nD Cert.NormBwdMidRefIdeal.τ).loc Cert.NormBwdMidRefIdeal.main_arg3)
      ∧ r.2.mem ((c.tc : Thread Cert.NormBwdMidRefIdeal.nD Cert.NormBwdMidRefIdeal.τ).loc Cert.NormBwdMidRefIdeal.main_arg4) = m ((c.tc : Thread Cert.NormBwdMidRefIdeal.nD Cert.NormBwdMidRefIdeal.τ).loc Cert.NormBwdMidRefIdeal.main_arg4)
      ∧ r.2.mem ((c.tc : Thread Cert.NormBwdMidRefIdeal.nD Cert.NormBwdMidRefIdeal.τ).loc Cert.NormBwdMidRefIdeal.main_arg5) = m ((c.tc : Thread Cert.NormBwdMidRefIdeal.nD Cert.NormBwdMidRefIdeal.τ).loc Cert.NormBwdMidRefIdeal.main_arg5))
      ∧ r.2.sem = fun _ => 0)

def quiescent_BranchBBwd [hBranchBBwd : Cert.BranchBBwd.Facts] : Prop :=
  ∀ (m : (ℓ : Loc Cert.BranchBBwd.nD Cert.BranchBBwd.τ Cert.BranchBBwd.sig) → Buf (Elt Bits) ℓ) (g : Dev Cert.BranchBBwd.nD → PrngReg), Pre_BranchBBwd m →
    θ_run (Cert.BranchBBwd.defs (F := Bits)) (onTc (τ := Cert.BranchBBwd.τ) (Cert.BranchBBwd.main (F := Bits))) ⟨m, fun _ => 0, g⟩ (fun r => (∀ c : Dev Cert.BranchBBwd.nD,
      r.2.mem ((c.tc : Thread Cert.BranchBBwd.nD Cert.BranchBBwd.τ).loc Cert.BranchBBwd.main_arg0) = m ((c.tc : Thread Cert.BranchBBwd.nD Cert.BranchBBwd.τ).loc Cert.BranchBBwd.main_arg0)
      ∧ r.2.mem ((c.tc : Thread Cert.BranchBBwd.nD Cert.BranchBBwd.τ).loc Cert.BranchBBwd.main_arg1) = m ((c.tc : Thread Cert.BranchBBwd.nD Cert.BranchBBwd.τ).loc Cert.BranchBBwd.main_arg1)
      ∧ r.2.mem ((c.tc : Thread Cert.BranchBBwd.nD Cert.BranchBBwd.τ).loc Cert.BranchBBwd.main_arg2) = m ((c.tc : Thread Cert.BranchBBwd.nD Cert.BranchBBwd.τ).loc Cert.BranchBBwd.main_arg2)
      ∧ r.2.mem ((c.tc : Thread Cert.BranchBBwd.nD Cert.BranchBBwd.τ).loc Cert.BranchBBwd.main_arg3) = m ((c.tc : Thread Cert.BranchBBwd.nD Cert.BranchBBwd.τ).loc Cert.BranchBBwd.main_arg3))
      ∧ r.2.sem = fun _ => 0)

def quiescent_BranchBBwdIdeal [hBranchBBwdIdeal : Cert.BranchBBwdIdeal.Facts] : Prop :=
  ∀ (m : (ℓ : Loc Cert.BranchBBwdIdeal.nD Cert.BranchBBwdIdeal.τ Cert.BranchBBwdIdeal.sig) → Buf (Elt Ideal) ℓ) (g : Dev Cert.BranchBBwdIdeal.nD → PrngReg), Pre_BranchBBwdIdeal m →
    θ_run (Cert.BranchBBwdIdeal.defs (F := Ideal)) (onTc (τ := Cert.BranchBBwdIdeal.τ) (Cert.BranchBBwdIdeal.main (F := Ideal))) ⟨m, fun _ => 0, g⟩ (fun r => (∀ c : Dev Cert.BranchBBwdIdeal.nD,
      r.2.mem ((c.tc : Thread Cert.BranchBBwdIdeal.nD Cert.BranchBBwdIdeal.τ).loc Cert.BranchBBwdIdeal.main_arg0) = m ((c.tc : Thread Cert.BranchBBwdIdeal.nD Cert.BranchBBwdIdeal.τ).loc Cert.BranchBBwdIdeal.main_arg0)
      ∧ r.2.mem ((c.tc : Thread Cert.BranchBBwdIdeal.nD Cert.BranchBBwdIdeal.τ).loc Cert.BranchBBwdIdeal.main_arg1) = m ((c.tc : Thread Cert.BranchBBwdIdeal.nD Cert.BranchBBwdIdeal.τ).loc Cert.BranchBBwdIdeal.main_arg1)
      ∧ r.2.mem ((c.tc : Thread Cert.BranchBBwdIdeal.nD Cert.BranchBBwdIdeal.τ).loc Cert.BranchBBwdIdeal.main_arg2) = m ((c.tc : Thread Cert.BranchBBwdIdeal.nD Cert.BranchBBwdIdeal.τ).loc Cert.BranchBBwdIdeal.main_arg2)
      ∧ r.2.mem ((c.tc : Thread Cert.BranchBBwdIdeal.nD Cert.BranchBBwdIdeal.τ).loc Cert.BranchBBwdIdeal.main_arg3) = m ((c.tc : Thread Cert.BranchBBwdIdeal.nD Cert.BranchBBwdIdeal.τ).loc Cert.BranchBBwdIdeal.main_arg3))
      ∧ r.2.sem = fun _ => 0)

def quiescent_BranchBBwdRefIdeal [hBranchBBwdRefIdeal : Cert.BranchBBwdRefIdeal.Facts] : Prop :=
  ∀ (m : (ℓ : Loc Cert.BranchBBwdRefIdeal.nD Cert.BranchBBwdRefIdeal.τ Cert.BranchBBwdRefIdeal.sig) → Buf (Elt Ideal) ℓ) (g : Dev Cert.BranchBBwdRefIdeal.nD → PrngReg), Pre_BranchBBwdRefIdeal m →
    θ_run (Cert.BranchBBwdRefIdeal.defs (F := Ideal)) (onTc (τ := Cert.BranchBBwdRefIdeal.τ) (Cert.BranchBBwdRefIdeal.main (F := Ideal))) ⟨m, fun _ => 0, g⟩ (fun r => (∀ c : Dev Cert.BranchBBwdRefIdeal.nD,
      r.2.mem ((c.tc : Thread Cert.BranchBBwdRefIdeal.nD Cert.BranchBBwdRefIdeal.τ).loc Cert.BranchBBwdRefIdeal.main_arg0) = m ((c.tc : Thread Cert.BranchBBwdRefIdeal.nD Cert.BranchBBwdRefIdeal.τ).loc Cert.BranchBBwdRefIdeal.main_arg0)
      ∧ r.2.mem ((c.tc : Thread Cert.BranchBBwdRefIdeal.nD Cert.BranchBBwdRefIdeal.τ).loc Cert.BranchBBwdRefIdeal.main_arg1) = m ((c.tc : Thread Cert.BranchBBwdRefIdeal.nD Cert.BranchBBwdRefIdeal.τ).loc Cert.BranchBBwdRefIdeal.main_arg1)
      ∧ r.2.mem ((c.tc : Thread Cert.BranchBBwdRefIdeal.nD Cert.BranchBBwdRefIdeal.τ).loc Cert.BranchBBwdRefIdeal.main_arg2) = m ((c.tc : Thread Cert.BranchBBwdRefIdeal.nD Cert.BranchBBwdRefIdeal.τ).loc Cert.BranchBBwdRefIdeal.main_arg2)
      ∧ r.2.mem ((c.tc : Thread Cert.BranchBBwdRefIdeal.nD Cert.BranchBBwdRefIdeal.τ).loc Cert.BranchBBwdRefIdeal.main_arg3) = m ((c.tc : Thread Cert.BranchBBwdRefIdeal.nD Cert.BranchBBwdRefIdeal.τ).loc Cert.BranchBBwdRefIdeal.main_arg3))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3))
      ∧ r.2.sem = fun _ => 0)

def quiescent_NormMidRefIdeal [hNormMidRefIdeal : Cert.NormMidRefIdeal.Facts] : Prop :=
  ∀ (m : (ℓ : Loc Cert.NormMidRefIdeal.nD Cert.NormMidRefIdeal.τ Cert.NormMidRefIdeal.sig) → Buf (Elt Ideal) ℓ) (g : Dev Cert.NormMidRefIdeal.nD → PrngReg), Pre_NormMidRefIdeal m →
    θ_run (Cert.NormMidRefIdeal.defs (F := Ideal)) (onTc (τ := Cert.NormMidRefIdeal.τ) (Cert.NormMidRefIdeal.main (F := Ideal))) ⟨m, fun _ => 0, g⟩ (fun r => (∀ c : Dev Cert.NormMidRefIdeal.nD,
      r.2.mem ((c.tc : Thread Cert.NormMidRefIdeal.nD Cert.NormMidRefIdeal.τ).loc Cert.NormMidRefIdeal.main_arg0) = m ((c.tc : Thread Cert.NormMidRefIdeal.nD Cert.NormMidRefIdeal.τ).loc Cert.NormMidRefIdeal.main_arg0)
      ∧ r.2.mem ((c.tc : Thread Cert.NormMidRefIdeal.nD Cert.NormMidRefIdeal.τ).loc Cert.NormMidRefIdeal.main_arg1) = m ((c.tc : Thread Cert.NormMidRefIdeal.nD Cert.NormMidRefIdeal.τ).loc Cert.NormMidRefIdeal.main_arg1)
      ∧ r.2.mem ((c.tc : Thread Cert.NormMidRefIdeal.nD Cert.NormMidRefIdeal.τ).loc Cert.NormMidRefIdeal.main_arg2) = m ((c.tc : Thread Cert.NormMidRefIdeal.nD Cert.NormMidRefIdeal.τ).loc Cert.NormMidRefIdeal.main_arg2)
      ∧ r.2.mem ((c.tc : Thread Cert.NormMidRefIdeal.nD Cert.NormMidRefIdeal.τ).loc Cert.NormMidRefIdeal.main_arg3) = m ((c.tc : Thread Cert.NormMidRefIdeal.nD Cert.NormMidRefIdeal.τ).loc Cert.NormMidRefIdeal.main_arg3))
      ∧ r.2.sem = fun _ => 0)

def quiescent_NormLoss [hNormLoss : Cert.NormLoss.Facts] : Prop :=
  ∀ (m : (ℓ : Loc Cert.NormLoss.nD Cert.NormLoss.τ Cert.NormLoss.sig) → Buf (Elt Bits) ℓ) (g : Dev Cert.NormLoss.nD → PrngReg), Pre_NormLoss m →
    θ_run (Cert.NormLoss.defs (F := Bits)) (onTc (τ := Cert.NormLoss.τ) (Cert.NormLoss.main (F := Bits))) ⟨m, fun _ => 0, g⟩ (fun r => (∀ c : Dev Cert.NormLoss.nD,
      r.2.mem ((c.tc : Thread Cert.NormLoss.nD Cert.NormLoss.τ).loc Cert.NormLoss.main_arg0) = m ((c.tc : Thread Cert.NormLoss.nD Cert.NormLoss.τ).loc Cert.NormLoss.main_arg0)
      ∧ r.2.mem ((c.tc : Thread Cert.NormLoss.nD Cert.NormLoss.τ).loc Cert.NormLoss.main_arg1) = m ((c.tc : Thread Cert.NormLoss.nD Cert.NormLoss.τ).loc Cert.NormLoss.main_arg1)
      ∧ r.2.mem ((c.tc : Thread Cert.NormLoss.nD Cert.NormLoss.τ).loc Cert.NormLoss.main_arg2) = m ((c.tc : Thread Cert.NormLoss.nD Cert.NormLoss.τ).loc Cert.NormLoss.main_arg2)
      ∧ r.2.mem ((c.tc : Thread Cert.NormLoss.nD Cert.NormLoss.τ).loc Cert.NormLoss.main_arg3) = m ((c.tc : Thread Cert.NormLoss.nD Cert.NormLoss.τ).loc Cert.NormLoss.main_arg3))
      ∧ r.2.sem = fun _ => 0)

def quiescent_NormLossIdeal [hNormLossIdeal : Cert.NormLossIdeal.Facts] : Prop :=
  ∀ (m : (ℓ : Loc Cert.NormLossIdeal.nD Cert.NormLossIdeal.τ Cert.NormLossIdeal.sig) → Buf (Elt Ideal) ℓ) (g : Dev Cert.NormLossIdeal.nD → PrngReg), Pre_NormLossIdeal m →
    θ_run (Cert.NormLossIdeal.defs (F := Ideal)) (onTc (τ := Cert.NormLossIdeal.τ) (Cert.NormLossIdeal.main (F := Ideal))) ⟨m, fun _ => 0, g⟩ (fun r => (∀ c : Dev Cert.NormLossIdeal.nD,
      r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
      ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
      ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
      ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3))
      ∧ r.2.sem = fun _ => 0)

def quiescent_NormLossRefIdeal [hNormLossRefIdeal : Cert.NormLossRefIdeal.Facts] : Prop :=
  ∀ (m : (ℓ : Loc Cert.NormLossRefIdeal.nD Cert.NormLossRefIdeal.τ Cert.NormLossRefIdeal.sig) → Buf (Elt Ideal) ℓ) (g : Dev Cert.NormLossRefIdeal.nD → PrngReg), Pre_NormLossRefIdeal m →
    θ_run (Cert.NormLossRefIdeal.defs (F := Ideal)) (onTc (τ := Cert.NormLossRefIdeal.τ) (Cert.NormLossRefIdeal.main (F := Ideal))) ⟨m, fun _ => 0, g⟩ (fun r => (∀ c : Dev Cert.NormLossRefIdeal.nD,
      r.2.mem ((c.tc : Thread Cert.NormLossRefIdeal.nD Cert.NormLossRefIdeal.τ).loc Cert.NormLossRefIdeal.main_arg0) = m ((c.tc : Thread Cert.NormLossRefIdeal.nD Cert.NormLossRefIdeal.τ).loc Cert.NormLossRefIdeal.main_arg0)
      ∧ r.2.mem ((c.tc : Thread Cert.NormLossRefIdeal.nD Cert.NormLossRefIdeal.τ).loc Cert.NormLossRefIdeal.main_arg1) = m ((c.tc : Thread Cert.NormLossRefIdeal.nD Cert.NormLossRefIdeal.τ).loc Cert.NormLossRefIdeal.main_arg1)
      ∧ r.2.mem ((c.tc : Thread Cert.NormLossRefIdeal.nD Cert.NormLossRefIdeal.τ).loc Cert.NormLossRefIdeal.main_arg2) = m ((c.tc : Thread Cert.NormLossRefIdeal.nD Cert.NormLossRefIdeal.τ).loc Cert.NormLossRefIdeal.main_arg2)
      ∧ r.2.mem ((c.tc : Thread Cert.NormLossRefIdeal.nD Cert.NormLossRefIdeal.τ).loc Cert.NormLossRefIdeal.main_arg3) = m ((c.tc : Thread Cert.NormLossRefIdeal.nD Cert.NormLossRefIdeal.τ).loc Cert.NormLossRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_BranchBFwd [hBranchBFwd : Cert.BranchBFwd.Facts] : Prop :=
  ∀ (m : (ℓ : Loc Cert.BranchBFwd.nD Cert.BranchBFwd.τ Cert.BranchBFwd.sig) → Buf (Elt Bits) ℓ) (g : Dev Cert.BranchBFwd.nD → PrngReg), Pre_BranchBFwd m →
    θ_run (Cert.BranchBFwd.defs (F := Bits)) (onTc (τ := Cert.BranchBFwd.τ) (Cert.BranchBFwd.main (F := Bits))) ⟨m, fun _ => 0, g⟩ (fun r => (∀ c : Dev Cert.BranchBFwd.nD,
      r.2.mem ((c.tc : Thread Cert.BranchBFwd.nD Cert.BranchBFwd.τ).loc Cert.BranchBFwd.main_arg0) = m ((c.tc : Thread Cert.BranchBFwd.nD Cert.BranchBFwd.τ).loc Cert.BranchBFwd.main_arg0)
      ∧ r.2.mem ((c.tc : Thread Cert.BranchBFwd.nD Cert.BranchBFwd.τ).loc Cert.BranchBFwd.main_arg1) = m ((c.tc : Thread Cert.BranchBFwd.nD Cert.BranchBFwd.τ).loc Cert.BranchBFwd.main_arg1))
      ∧ r.2.sem = fun _ => 0)

def quiescent_BranchBFwdIdeal [hBranchBFwdIdeal : Cert.BranchBFwdIdeal.Facts] : Prop :=
  ∀ (m : (ℓ : Loc Cert.BranchBFwdIdeal.nD Cert.BranchBFwdIdeal.τ Cert.BranchBFwdIdeal.sig) → Buf (Elt Ideal) ℓ) (g : Dev Cert.BranchBFwdIdeal.nD → PrngReg), Pre_BranchBFwdIdeal m →
    θ_run (Cert.BranchBFwdIdeal.defs (F := Ideal)) (onTc (τ := Cert.BranchBFwdIdeal.τ) (Cert.BranchBFwdIdeal.main (F := Ideal))) ⟨m, fun _ => 0, g⟩ (fun r => (∀ c : Dev Cert.BranchBFwdIdeal.nD,
      r.2.mem ((c.tc : Thread Cert.BranchBFwdIdeal.nD Cert.BranchBFwdIdeal.τ).loc Cert.BranchBFwdIdeal.main_arg0) = m ((c.tc : Thread Cert.BranchBFwdIdeal.nD Cert.BranchBFwdIdeal.τ).loc Cert.BranchBFwdIdeal.main_arg0)
      ∧ r.2.mem ((c.tc : Thread Cert.BranchBFwdIdeal.nD Cert.BranchBFwdIdeal.τ).loc Cert.BranchBFwdIdeal.main_arg1) = m ((c.tc : Thread Cert.BranchBFwdIdeal.nD Cert.BranchBFwdIdeal.τ).loc Cert.BranchBFwdIdeal.main_arg1))
      ∧ r.2.sem = fun _ => 0)

def quiescent_BranchBFwdRefIdeal [hBranchBFwdRefIdeal : Cert.BranchBFwdRefIdeal.Facts] : Prop :=
  ∀ (m : (ℓ : Loc Cert.BranchBFwdRefIdeal.nD Cert.BranchBFwdRefIdeal.τ Cert.BranchBFwdRefIdeal.sig) → Buf (Elt Ideal) ℓ) (g : Dev Cert.BranchBFwdRefIdeal.nD → PrngReg), Pre_BranchBFwdRefIdeal m →
    θ_run (Cert.BranchBFwdRefIdeal.defs (F := Ideal)) (onTc (τ := Cert.BranchBFwdRefIdeal.τ) (Cert.BranchBFwdRefIdeal.main (F := Ideal))) ⟨m, fun _ => 0, g⟩ (fun r => (∀ c : Dev Cert.BranchBFwdRefIdeal.nD,
      r.2.mem ((c.tc : Thread Cert.BranchBFwdRefIdeal.nD Cert.BranchBFwdRefIdeal.τ).loc Cert.BranchBFwdRefIdeal.main_arg0) = m ((c.tc : Thread Cert.BranchBFwdRefIdeal.nD Cert.BranchBFwdRefIdeal.τ).loc Cert.BranchBFwdRefIdeal.main_arg0)
      ∧ r.2.mem ((c.tc : Thread Cert.BranchBFwdRefIdeal.nD Cert.BranchBFwdRefIdeal.τ).loc Cert.BranchBFwdRefIdeal.main_arg1) = m ((c.tc : Thread Cert.BranchBFwdRefIdeal.nD Cert.BranchBFwdRefIdeal.τ).loc Cert.BranchBFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def preserves_AttnBwd_AttnBwdIdeal : Prop :=
  True

def algebraic_AttnBwdIdeal_AttnRefIdeal_pre_finite_queries_and_keys [hAttnBwdIdeal : Cert.AttnBwdIdeal.Facts] [hAttnRefIdeal : Cert.AttnRefIdeal.Facts] [hPre_finite_queries_and_keys : Cert.Pre_finite_queries_and_keys.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_queries_and_keys m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v78) = v0 c
          ∧ r.2.mem ((c.tc : Thread Cert.AttnRefIdeal.nD Cert.AttnRefIdeal.τ).loc Cert.AttnRefIdeal.main_v74) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v9) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v3) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_ODx_ODxIdeal : Prop :=
  True

def algebraic_ODxIdeal_ODxRefIdeal [hODxIdeal : Cert.ODxIdeal.Facts] [hODxRefIdeal : Cert.ODxRefIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxRefIdeal.nD Cert.ODxRefIdeal.τ Cert.ODxRefIdeal.sig) → Buf (Elt Ideal) ℓ) (g' : Dev Cert.ODxRefIdeal.nD → PrngReg), Pre_ODxIdeal m →
    (∀ c : Dev Cert.ODxIdeal.nD,
      m' ((c.tc : Thread Cert.ODxRefIdeal.nD Cert.ODxRefIdeal.τ).loc Cert.ODxRefIdeal.main_arg0) = m ((c.tc : Thread Cert.ODxIdeal.nD Cert.ODxIdeal.τ).loc Cert.ODxIdeal.main_arg0)
      ∧ m' ((c.tc : Thread Cert.ODxRefIdeal.nD Cert.ODxRefIdeal.τ).loc Cert.ODxRefIdeal.main_arg1) = m ((c.tc : Thread Cert.ODxIdeal.nD Cert.ODxIdeal.τ).loc Cert.ODxIdeal.main_arg1)) →
    ∃ (v0 : (c : Dev Cert.ODxIdeal.nD) → Buf (Elt Ideal) ((c.tc : Thread Cert.ODxIdeal.nD Cert.ODxIdeal.τ).loc Cert.ODxIdeal.main_v2)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v2) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ θ_run (Cert.ODxRefIdeal.defs (F := Ideal)) (onTc (τ := Cert.ODxRefIdeal.τ) (Cert.ODxRefIdeal.main (F := Ideal))) ⟨m', fun _ => 0, g'⟩ (fun r => ∀ c : Dev Cert.ODxRefIdeal.nD,
          r.2.mem ((c.tc : Thread Cert.ODxRefIdeal.nD Cert.ODxRefIdeal.τ).loc Cert.ODxRefIdeal.main_v4) = v0 c
          ∧ r.2.mem ((c.tc : Thread Cert.ODxRefIdeal.nD Cert.ODxRefIdeal.τ).loc Cert.ODxRefIdeal.main_arg0) = m' ((c.tc : Thread Cert.ODxRefIdeal.nD Cert.ODxRefIdeal.τ).loc Cert.ODxRefIdeal.main_arg0)
          ∧ r.2.mem ((c.tc : Thread Cert.ODxRefIdeal.nD Cert.ODxRefIdeal.τ).loc Cert.ODxRefIdeal.main_arg1) = m' ((c.tc : Thread Cert.ODxRefIdeal.nD Cert.ODxRefIdeal.τ).loc Cert.ODxRefIdeal.main_arg1))

def preserves_ODw_ODwIdeal : Prop :=
  True

def algebraic_ODwIdeal_ODwRefIdeal [hODwIdeal : Cert.ODwIdeal.Facts] [hODwRefIdeal : Cert.ODwRefIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwRefIdeal.nD Cert.ODwRefIdeal.τ Cert.ODwRefIdeal.sig) → Buf (Elt Ideal) ℓ) (g' : Dev Cert.ODwRefIdeal.nD → PrngReg), Pre_ODwIdeal m →
    (∀ c : Dev Cert.ODwIdeal.nD,
      m' ((c.tc : Thread Cert.ODwRefIdeal.nD Cert.ODwRefIdeal.τ).loc Cert.ODwRefIdeal.main_arg0) = m ((c.tc : Thread Cert.ODwIdeal.nD Cert.ODwIdeal.τ).loc Cert.ODwIdeal.main_arg0)
      ∧ m' ((c.tc : Thread Cert.ODwRefIdeal.nD Cert.ODwRefIdeal.τ).loc Cert.ODwRefIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.ODwRefIdeal.defs (F := Ideal)) (onTc (τ := Cert.ODwRefIdeal.τ) (Cert.ODwRefIdeal.main (F := Ideal))) ⟨m', fun _ => 0, g'⟩ (fun r => ∀ c : Dev Cert.ODwRefIdeal.nD,
          r.2.mem ((c.tc : Thread Cert.ODwRefIdeal.nD Cert.ODwRefIdeal.τ).loc Cert.ODwRefIdeal.main_v7) = v0 c
          ∧ r.2.mem ((c.tc : Thread Cert.ODwRefIdeal.nD Cert.ODwRefIdeal.τ).loc Cert.ODwRefIdeal.main_arg0) = m' ((c.tc : Thread Cert.ODwRefIdeal.nD Cert.ODwRefIdeal.τ).loc Cert.ODwRefIdeal.main_arg0)
          ∧ r.2.mem ((c.tc : Thread Cert.ODwRefIdeal.nD Cert.ODwRefIdeal.τ).loc Cert.ODwRefIdeal.main_arg1) = m' ((c.tc : Thread Cert.ODwRefIdeal.nD Cert.ODwRefIdeal.τ).loc Cert.ODwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v3)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v3) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v8) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v2)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v2) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v2) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v3)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v3) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v2) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v3)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v3) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v2) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v3)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v3) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v2) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1))

def preserves_MmO_MmOIdeal : Prop :=
  True

def algebraic_MmOIdeal_MmORefIdeal [hMmOIdeal : Cert.MmOIdeal.Facts] [hMmORefIdeal : Cert.MmORefIdeal.Facts] : Prop :=
  ∀ (m : (ℓ : Loc Cert.MmOIdeal.nD Cert.MmOIdeal.τ Cert.MmOIdeal.sig) → Buf (Elt Ideal) ℓ) (g : Dev Cert.MmOIdeal.nD → PrngReg)
    (m' : (ℓ : Loc Cert.MmORefIdeal.nD Cert.MmORefIdeal.τ Cert.MmORefIdeal.sig) → Buf (Elt Ideal) ℓ) (g' : Dev Cert.MmORefIdeal.nD → PrngReg), Pre_MmOIdeal m →
    (∀ c : Dev Cert.MmOIdeal.nD,
      m' ((c.tc : Thread Cert.MmORefIdeal.nD Cert.MmORefIdeal.τ).loc Cert.MmORefIdeal.main_arg0) = m ((c.tc : Thread Cert.MmOIdeal.nD Cert.MmOIdeal.τ).loc Cert.MmOIdeal.main_arg0)
      ∧ m' ((c.tc : Thread Cert.MmORefIdeal.nD Cert.MmORefIdeal.τ).loc Cert.MmORefIdeal.main_arg1) = m ((c.tc : Thread Cert.MmOIdeal.nD Cert.MmOIdeal.τ).loc Cert.MmOIdeal.main_arg1)) →
    ∃ (v0 : (c : Dev Cert.MmOIdeal.nD) → Buf (Elt Ideal) ((c.tc : Thread Cert.MmOIdeal.nD Cert.MmOIdeal.τ).loc Cert.MmOIdeal.main_v2)),
      θ_run (Cert.MmOIdeal.defs (F := Ideal)) (onTc (τ := Cert.MmOIdeal.τ) (Cert.MmOIdeal.main (F := Ideal))) ⟨m, fun _ => 0, g⟩ (fun r => ∀ c : Dev Cert.MmOIdeal.nD,
          r.2.mem ((c.tc : Thread Cert.MmOIdeal.nD Cert.MmOIdeal.τ).loc Cert.MmOIdeal.main_v2) = v0 c
          ∧ r.2.mem ((c.tc : Thread Cert.MmOIdeal.nD Cert.MmOIdeal.τ).loc Cert.MmOIdeal.main_arg0) = m ((c.tc : Thread Cert.MmOIdeal.nD Cert.MmOIdeal.τ).loc Cert.MmOIdeal.main_arg0)
          ∧ r.2.mem ((c.tc : Thread Cert.MmOIdeal.nD Cert.MmOIdeal.τ).loc Cert.MmOIdeal.main_arg1) = m ((c.tc : Thread Cert.MmOIdeal.nD Cert.MmOIdeal.τ).loc Cert.MmOIdeal.main_arg1))
      ∧ θ_run (Cert.MmORefIdeal.defs (F := Ideal)) (onTc (τ := Cert.MmORefIdeal.τ) (Cert.MmORefIdeal.main (F := Ideal))) ⟨m', fun _ => 0, g'⟩ (fun r => ∀ c : Dev Cert.MmORefIdeal.nD,
          r.2.mem ((c.tc : Thread Cert.MmORefIdeal.nD Cert.MmORefIdeal.τ).loc Cert.MmORefIdeal.main_v2) = v0 c
          ∧ r.2.mem ((c.tc : Thread Cert.MmORefIdeal.nD Cert.MmORefIdeal.τ).loc Cert.MmORefIdeal.main_arg0) = m' ((c.tc : Thread Cert.MmORefIdeal.nD Cert.MmORefIdeal.τ).loc Cert.MmORefIdeal.main_arg0)
          ∧ r.2.mem ((c.tc : Thread Cert.MmORefIdeal.nD Cert.MmORefIdeal.τ).loc Cert.MmORefIdeal.main_arg1) = m' ((c.tc : Thread Cert.MmORefIdeal.nD Cert.MmORefIdeal.τ).loc Cert.MmORefIdeal.main_arg1))

def preserves_MmKv_MmKvIdeal : Prop :=
  True

def algebraic_MmKvIdeal_MmKvRefIdeal [hMmKvIdeal : Cert.MmKvIdeal.Facts] [hMmKvRefIdeal : Cert.MmKvRefIdeal.Facts] : Prop :=
  ∀ (m : (ℓ : Loc Cert.MmKvIdeal.nD Cert.MmKvIdeal.τ Cert.MmKvIdeal.sig) → Buf (Elt Ideal) ℓ) (g : Dev Cert.MmKvIdeal.nD → PrngReg)
    (m' : (ℓ : Loc Cert.MmKvRefIdeal.nD Cert.MmKvRefIdeal.τ Cert.MmKvRefIdeal.sig) → Buf (Elt Ideal) ℓ) (g' : Dev Cert.MmKvRefIdeal.nD → PrngReg), Pre_MmKvIdeal m →
    (∀ c : Dev Cert.MmKvIdeal.nD,
      m' ((c.tc : Thread Cert.MmKvRefIdeal.nD Cert.MmKvRefIdeal.τ).loc Cert.MmKvRefIdeal.main_arg0) = m ((c.tc : Thread Cert.MmKvIdeal.nD Cert.MmKvIdeal.τ).loc Cert.MmKvIdeal.main_arg0)
      ∧ m' ((c.tc : Thread Cert.MmKvRefIdeal.nD Cert.MmKvRefIdeal.τ).loc Cert.MmKvRefIdeal.main_arg1) = m ((c.tc : Thread Cert.MmKvIdeal.nD Cert.MmKvIdeal.τ).loc Cert.MmKvIdeal.main_arg1)) →
    ∃ (v0 : (c : Dev Cert.MmKvIdeal.nD) → Buf (Elt Ideal) ((c.tc : Thread Cert.MmKvIdeal.nD Cert.MmKvIdeal.τ).loc Cert.MmKvIdeal.main_v2)),
      θ_run (Cert.MmKvIdeal.defs (F := Ideal)) (onTc (τ := Cert.MmKvIdeal.τ) (Cert.MmKvIdeal.main (F := Ideal))) ⟨m, fun _ => 0, g⟩ (fun r => ∀ c : Dev Cert.MmKvIdeal.nD,
          r.2.mem ((c.tc : Thread Cert.MmKvIdeal.nD Cert.MmKvIdeal.τ).loc Cert.MmKvIdeal.main_v2) = v0 c
          ∧ r.2.mem ((c.tc : Thread Cert.MmKvIdeal.nD Cert.MmKvIdeal.τ).loc Cert.MmKvIdeal.main_arg0) = m ((c.tc : Thread Cert.MmKvIdeal.nD Cert.MmKvIdeal.τ).loc Cert.MmKvIdeal.main_arg0)
          ∧ r.2.mem ((c.tc : Thread Cert.MmKvIdeal.nD Cert.MmKvIdeal.τ).loc Cert.MmKvIdeal.main_arg1) = m ((c.tc : Thread Cert.MmKvIdeal.nD Cert.MmKvIdeal.τ).loc Cert.MmKvIdeal.main_arg1))
      ∧ θ_run (Cert.MmKvRefIdeal.defs (F := Ideal)) (onTc (τ := Cert.MmKvRefIdeal.τ) (Cert.MmKvRefIdeal.main (F := Ideal))) ⟨m', fun _ => 0, g'⟩ (fun r => ∀ c : Dev Cert.MmKvRefIdeal.nD,
          r.2.mem ((c.tc : Thread Cert.MmKvRefIdeal.nD Cert.MmKvRefIdeal.τ).loc Cert.MmKvRefIdeal.main_v2) = v0 c
          ∧ r.2.mem ((c.tc : Thread Cert.MmKvRefIdeal.nD Cert.MmKvRefIdeal.τ).loc Cert.MmKvRefIdeal.main_arg0) = m' ((c.tc : Thread Cert.MmKvRefIdeal.nD Cert.MmKvRefIdeal.τ).loc Cert.MmKvRefIdeal.main_arg0)
          ∧ r.2.mem ((c.tc : Thread Cert.MmKvRefIdeal.nD Cert.MmKvRefIdeal.τ).loc Cert.MmKvRefIdeal.main_arg1) = m' ((c.tc : Thread Cert.MmKvRefIdeal.nD Cert.MmKvRefIdeal.τ).loc Cert.MmKvRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v2)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v2) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v4) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v1)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v1) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v43) = v0 c
          ∧ r.2.mem ((c.tc : Thread Cert.MergeBwdRefIdeal.nD Cert.MergeBwdRefIdeal.τ).loc Cert.MergeBwdRefIdeal.main_v44) = v1 c
          ∧ r.2.mem ((c.tc : Thread Cert.MergeBwdRefIdeal.nD Cert.MergeBwdRefIdeal.τ).loc Cert.MergeBwdRefIdeal.main_v45) = v2 c
          ∧ r.2.mem ((c.tc : Thread Cert.MergeBwdRefIdeal.nD Cert.MergeBwdRefIdeal.τ).loc Cert.MergeBwdRefIdeal.main_v46) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_NormBwdTop_NormBwdTopIdeal : Prop :=
  True

def algebraic_NormBwdTopIdeal_NormBwdTopRefIdeal [hNormBwdTopIdeal : Cert.NormBwdTopIdeal.Facts] [hNormBwdTopRefIdeal : Cert.NormBwdTopRefIdeal.Facts] : Prop :=
  ∀ (m : (ℓ : Loc Cert.NormBwdTopIdeal.nD Cert.NormBwdTopIdeal.τ Cert.NormBwdTopIdeal.sig) → Buf (Elt Ideal) ℓ) (g : Dev Cert.NormBwdTopIdeal.nD → PrngReg)
    (m' : (ℓ : Loc Cert.NormBwdTopRefIdeal.nD Cert.NormBwdTopRefIdeal.τ Cert.NormBwdTopRefIdeal.sig) → Buf (Elt Ideal) ℓ) (g' : Dev Cert.NormBwdTopRefIdeal.nD → PrngReg), Pre_NormBwdTopIdeal m →
    (∀ c : Dev Cert.NormBwdTopIdeal.nD,
      m' ((c.tc : Thread Cert.NormBwdTopRefIdeal.nD Cert.NormBwdTopRefIdeal.τ).loc Cert.NormBwdTopRefIdeal.main_arg0) = m ((c.tc : Thread Cert.NormBwdTopIdeal.nD Cert.NormBwdTopIdeal.τ).loc Cert.NormBwdTopIdeal.main_arg0)
      ∧ m' ((c.tc : Thread Cert.NormBwdTopRefIdeal.nD Cert.NormBwdTopRefIdeal.τ).loc Cert.NormBwdTopRefIdeal.main_arg1) = m ((c.tc : Thread Cert.NormBwdTopIdeal.nD Cert.NormBwdTopIdeal.τ).loc Cert.NormBwdTopIdeal.main_arg1)
      ∧ m' ((c.tc : Thread Cert.NormBwdTopRefIdeal.nD Cert.NormBwdTopRefIdeal.τ).loc Cert.NormBwdTopRefIdeal.main_arg2) = m ((c.tc : Thread Cert.NormBwdTopIdeal.nD Cert.NormBwdTopIdeal.τ).loc Cert.NormBwdTopIdeal.main_arg2)) →
    ∃ (v0 : (c : Dev Cert.NormBwdTopIdeal.nD) → Buf (Elt Ideal) ((c.tc : Thread Cert.NormBwdTopIdeal.nD Cert.NormBwdTopIdeal.τ).loc Cert.NormBwdTopIdeal.main_v1_0)) (v1 : (c : Dev Cert.NormBwdTopIdeal.nD) → Buf (Elt Ideal) ((c.tc : Thread Cert.NormBwdTopIdeal.nD Cert.NormBwdTopIdeal.τ).loc Cert.NormBwdTopIdeal.main_v1_1)),
      θ_run (Cert.NormBwdTopIdeal.defs (F := Ideal)) (onTc (τ := Cert.NormBwdTopIdeal.τ) (Cert.NormBwdTopIdeal.main (F := Ideal))) ⟨m, fun _ => 0, g⟩ (fun r => ∀ c : Dev Cert.NormBwdTopIdeal.nD,
          r.2.mem ((c.tc : Thread Cert.NormBwdTopIdeal.nD Cert.NormBwdTopIdeal.τ).loc Cert.NormBwdTopIdeal.main_v1_0) = v0 c
          ∧ r.2.mem ((c.tc : Thread Cert.NormBwdTopIdeal.nD Cert.NormBwdTopIdeal.τ).loc Cert.NormBwdTopIdeal.main_v1_1) = v1 c
          ∧ r.2.mem ((c.tc : Thread Cert.NormBwdTopIdeal.nD Cert.NormBwdTopIdeal.τ).loc Cert.NormBwdTopIdeal.main_arg0) = m ((c.tc : Thread Cert.NormBwdTopIdeal.nD Cert.NormBwdTopIdeal.τ).loc Cert.NormBwdTopIdeal.main_arg0)
          ∧ r.2.mem ((c.tc : Thread Cert.NormBwdTopIdeal.nD Cert.NormBwdTopIdeal.τ).loc Cert.NormBwdTopIdeal.main_arg1) = m ((c.tc : Thread Cert.NormBwdTopIdeal.nD Cert.NormBwdTopIdeal.τ).loc Cert.NormBwdTopIdeal.main_arg1)
          ∧ r.2.mem ((c.tc : Thread Cert.NormBwdTopIdeal.nD Cert.NormBwdTopIdeal.τ).loc Cert.NormBwdTopIdeal.main_arg2) = m ((c.tc : Thread Cert.NormBwdTopIdeal.nD Cert.NormBwdTopIdeal.τ).loc Cert.NormBwdTopIdeal.main_arg2))
      ∧ θ_run (Cert.NormBwdTopRefIdeal.defs (F := Ideal)) (onTc (τ := Cert.NormBwdTopRefIdeal.τ) (Cert.NormBwdTopRefIdeal.main (F := Ideal))) ⟨m', fun _ => 0, g'⟩ (fun r => ∀ c : Dev Cert.NormBwdTopRefIdeal.nD,
          r.2.mem ((c.tc : Thread Cert.NormBwdTopRefIdeal.nD Cert.NormBwdTopRefIdeal.τ).loc Cert.NormBwdTopRefIdeal.main_v37) = v0 c
          ∧ r.2.mem ((c.tc : Thread Cert.NormBwdTopRefIdeal.nD Cert.NormBwdTopRefIdeal.τ).loc Cert.NormBwdTopRefIdeal.main_v38) = v1 c
          ∧ r.2.mem ((c.tc : Thread Cert.NormBwdTopRefIdeal.nD Cert.NormBwdTopRefIdeal.τ).loc Cert.NormBwdTopRefIdeal.main_arg0) = m' ((c.tc : Thread Cert.NormBwdTopRefIdeal.nD Cert.NormBwdTopRefIdeal.τ).loc Cert.NormBwdTopRefIdeal.main_arg0)
          ∧ r.2.mem ((c.tc : Thread Cert.NormBwdTopRefIdeal.nD Cert.NormBwdTopRefIdeal.τ).loc Cert.NormBwdTopRefIdeal.main_arg1) = m' ((c.tc : Thread Cert.NormBwdTopRefIdeal.nD Cert.NormBwdTopRefIdeal.τ).loc Cert.NormBwdTopRefIdeal.main_arg1)
          ∧ r.2.mem ((c.tc : Thread Cert.NormBwdTopRefIdeal.nD Cert.NormBwdTopRefIdeal.τ).loc Cert.NormBwdTopRefIdeal.main_arg2) = m' ((c.tc : Thread Cert.NormBwdTopRefIdeal.nD Cert.NormBwdTopRefIdeal.τ).loc Cert.NormBwdTopRefIdeal.main_arg2))

def preserves_NormBwdMem_NormBwdMemIdeal : Prop :=
  True

def algebraic_NormBwdMemIdeal_NormBwdMemRefIdeal [hNormBwdMemIdeal : Cert.NormBwdMemIdeal.Facts] [hNormBwdMemRefIdeal : Cert.NormBwdMemRefIdeal.Facts] : Prop :=
  ∀ (m : (ℓ : Loc Cert.NormBwdMemIdeal.nD Cert.NormBwdMemIdeal.τ Cert.NormBwdMemIdeal.sig) → Buf (Elt Ideal) ℓ) (g : Dev Cert.NormBwdMemIdeal.nD → PrngReg)
    (m' : (ℓ : Loc Cert.NormBwdMemRefIdeal.nD Cert.NormBwdMemRefIdeal.τ Cert.NormBwdMemRefIdeal.sig) → Buf (Elt Ideal) ℓ) (g' : Dev Cert.NormBwdMemRefIdeal.nD → PrngReg), Pre_NormBwdMemIdeal m →
    (∀ c : Dev Cert.NormBwdMemIdeal.nD,
      m' ((c.tc : Thread Cert.NormBwdMemRefIdeal.nD Cert.NormBwdMemRefIdeal.τ).loc Cert.NormBwdMemRefIdeal.main_arg0) = m ((c.tc : Thread Cert.NormBwdMemIdeal.nD Cert.NormBwdMemIdeal.τ).loc Cert.NormBwdMemIdeal.main_arg0)
      ∧ m' ((c.tc : Thread Cert.NormBwdMemRefIdeal.nD Cert.NormBwdMemRefIdeal.τ).loc Cert.NormBwdMemRefIdeal.main_arg1) = m ((c.tc : Thread Cert.NormBwdMemIdeal.nD Cert.NormBwdMemIdeal.τ).loc Cert.NormBwdMemIdeal.main_arg1)
      ∧ m' ((c.tc : Thread Cert.NormBwdMemRefIdeal.nD Cert.NormBwdMemRefIdeal.τ).loc Cert.NormBwdMemRefIdeal.main_arg2) = m ((c.tc : Thread Cert.NormBwdMemIdeal.nD Cert.NormBwdMemIdeal.τ).loc Cert.NormBwdMemIdeal.main_arg2)) →
    ∃ (v0 : (c : Dev Cert.NormBwdMemIdeal.nD) → Buf (Elt Ideal) ((c.tc : Thread Cert.NormBwdMemIdeal.nD Cert.NormBwdMemIdeal.τ).loc Cert.NormBwdMemIdeal.main_v1)),
      θ_run (Cert.NormBwdMemIdeal.defs (F := Ideal)) (onTc (τ := Cert.NormBwdMemIdeal.τ) (Cert.NormBwdMemIdeal.main (F := Ideal))) ⟨m, fun _ => 0, g⟩ (fun r => ∀ c : Dev Cert.NormBwdMemIdeal.nD,
          r.2.mem ((c.tc : Thread Cert.NormBwdMemIdeal.nD Cert.NormBwdMemIdeal.τ).loc Cert.NormBwdMemIdeal.main_v1) = v0 c
          ∧ r.2.mem ((c.tc : Thread Cert.NormBwdMemIdeal.nD Cert.NormBwdMemIdeal.τ).loc Cert.NormBwdMemIdeal.main_arg0) = m ((c.tc : Thread Cert.NormBwdMemIdeal.nD Cert.NormBwdMemIdeal.τ).loc Cert.NormBwdMemIdeal.main_arg0)
          ∧ r.2.mem ((c.tc : Thread Cert.NormBwdMemIdeal.nD Cert.NormBwdMemIdeal.τ).loc Cert.NormBwdMemIdeal.main_arg1) = m ((c.tc : Thread Cert.NormBwdMemIdeal.nD Cert.NormBwdMemIdeal.τ).loc Cert.NormBwdMemIdeal.main_arg1)
          ∧ r.2.mem ((c.tc : Thread Cert.NormBwdMemIdeal.nD Cert.NormBwdMemIdeal.τ).loc Cert.NormBwdMemIdeal.main_arg2) = m ((c.tc : Thread Cert.NormBwdMemIdeal.nD Cert.NormBwdMemIdeal.τ).loc Cert.NormBwdMemIdeal.main_arg2))
      ∧ θ_run (Cert.NormBwdMemRefIdeal.defs (F := Ideal)) (onTc (τ := Cert.NormBwdMemRefIdeal.τ) (Cert.NormBwdMemRefIdeal.main (F := Ideal))) ⟨m', fun _ => 0, g'⟩ (fun r => ∀ c : Dev Cert.NormBwdMemRefIdeal.nD,
          r.2.mem ((c.tc : Thread Cert.NormBwdMemRefIdeal.nD Cert.NormBwdMemRefIdeal.τ).loc Cert.NormBwdMemRefIdeal.main_v17) = v0 c
          ∧ r.2.mem ((c.tc : Thread Cert.NormBwdMemRefIdeal.nD Cert.NormBwdMemRefIdeal.τ).loc Cert.NormBwdMemRefIdeal.main_arg0) = m' ((c.tc : Thread Cert.NormBwdMemRefIdeal.nD Cert.NormBwdMemRefIdeal.τ).loc Cert.NormBwdMemRefIdeal.main_arg0)
          ∧ r.2.mem ((c.tc : Thread Cert.NormBwdMemRefIdeal.nD Cert.NormBwdMemRefIdeal.τ).loc Cert.NormBwdMemRefIdeal.main_arg1) = m' ((c.tc : Thread Cert.NormBwdMemRefIdeal.nD Cert.NormBwdMemRefIdeal.τ).loc Cert.NormBwdMemRefIdeal.main_arg1)
          ∧ r.2.mem ((c.tc : Thread Cert.NormBwdMemRefIdeal.nD Cert.NormBwdMemRefIdeal.τ).loc Cert.NormBwdMemRefIdeal.main_arg2) = m' ((c.tc : Thread Cert.NormBwdMemRefIdeal.nD Cert.NormBwdMemRefIdeal.τ).loc Cert.NormBwdMemRefIdeal.main_arg2))

def preserves_NormBwdLast_NormBwdLastIdeal : Prop :=
  True

def algebraic_NormBwdLastIdeal_NormBwdLastRefIdeal [hNormBwdLastIdeal : Cert.NormBwdLastIdeal.Facts] [hNormBwdLastRefIdeal : Cert.NormBwdLastRefIdeal.Facts] : Prop :=
  ∀ (m : (ℓ : Loc Cert.NormBwdLastIdeal.nD Cert.NormBwdLastIdeal.τ Cert.NormBwdLastIdeal.sig) → Buf (Elt Ideal) ℓ) (g : Dev Cert.NormBwdLastIdeal.nD → PrngReg)
    (m' : (ℓ : Loc Cert.NormBwdLastRefIdeal.nD Cert.NormBwdLastRefIdeal.τ Cert.NormBwdLastRefIdeal.sig) → Buf (Elt Ideal) ℓ) (g' : Dev Cert.NormBwdLastRefIdeal.nD → PrngReg), Pre_NormBwdLastIdeal m →
    (∀ c : Dev Cert.NormBwdLastIdeal.nD,
      m' ((c.tc : Thread Cert.NormBwdLastRefIdeal.nD Cert.NormBwdLastRefIdeal.τ).loc Cert.NormBwdLastRefIdeal.main_arg0) = m ((c.tc : Thread Cert.NormBwdLastIdeal.nD Cert.NormBwdLastIdeal.τ).loc Cert.NormBwdLastIdeal.main_arg0)
      ∧ m' ((c.tc : Thread Cert.NormBwdLastRefIdeal.nD Cert.NormBwdLastRefIdeal.τ).loc Cert.NormBwdLastRefIdeal.main_arg1) = m ((c.tc : Thread Cert.NormBwdLastIdeal.nD Cert.NormBwdLastIdeal.τ).loc Cert.NormBwdLastIdeal.main_arg1)
      ∧ m' ((c.tc : Thread Cert.NormBwdLastRefIdeal.nD Cert.NormBwdLastRefIdeal.τ).loc Cert.NormBwdLastRefIdeal.main_arg2) = m ((c.tc : Thread Cert.NormBwdLastIdeal.nD Cert.NormBwdLastIdeal.τ).loc Cert.NormBwdLastIdeal.main_arg2)
      ∧ m' ((c.tc : Thread Cert.NormBwdLastRefIdeal.nD Cert.NormBwdLastRefIdeal.τ).loc Cert.NormBwdLastRefIdeal.main_arg3) = m ((c.tc : Thread Cert.NormBwdLastIdeal.nD Cert.NormBwdLastIdeal.τ).loc Cert.NormBwdLastIdeal.main_arg3)) →
    ∃ (v0 : (c : Dev Cert.NormBwdLastIdeal.nD) → Buf (Elt Ideal) ((c.tc : Thread Cert.NormBwdLastIdeal.nD Cert.NormBwdLastIdeal.τ).loc Cert.NormBwdLastIdeal.main_v1_0)) (v1 : (c : Dev Cert.NormBwdLastIdeal.nD) → Buf (Elt Ideal) ((c.tc : Thread Cert.NormBwdLastIdeal.nD Cert.NormBwdLastIdeal.τ).loc Cert.NormBwdLastIdeal.main_v1_1)),
      θ_run (Cert.NormBwdLastIdeal.defs (F := Ideal)) (onTc (τ := Cert.NormBwdLastIdeal.τ) (Cert.NormBwdLastIdeal.main (F := Ideal))) ⟨m, fun _ => 0, g⟩ (fun r => ∀ c : Dev Cert.NormBwdLastIdeal.nD,
          r.2.mem ((c.tc : Thread Cert.NormBwdLastIdeal.nD Cert.NormBwdLastIdeal.τ).loc Cert.NormBwdLastIdeal.main_v1_0) = v0 c
          ∧ r.2.mem ((c.tc : Thread Cert.NormBwdLastIdeal.nD Cert.NormBwdLastIdeal.τ).loc Cert.NormBwdLastIdeal.main_v1_1) = v1 c
          ∧ r.2.mem ((c.tc : Thread Cert.NormBwdLastIdeal.nD Cert.NormBwdLastIdeal.τ).loc Cert.NormBwdLastIdeal.main_arg0) = m ((c.tc : Thread Cert.NormBwdLastIdeal.nD Cert.NormBwdLastIdeal.τ).loc Cert.NormBwdLastIdeal.main_arg0)
          ∧ r.2.mem ((c.tc : Thread Cert.NormBwdLastIdeal.nD Cert.NormBwdLastIdeal.τ).loc Cert.NormBwdLastIdeal.main_arg1) = m ((c.tc : Thread Cert.NormBwdLastIdeal.nD Cert.NormBwdLastIdeal.τ).loc Cert.NormBwdLastIdeal.main_arg1)
          ∧ r.2.mem ((c.tc : Thread Cert.NormBwdLastIdeal.nD Cert.NormBwdLastIdeal.τ).loc Cert.NormBwdLastIdeal.main_arg2) = m ((c.tc : Thread Cert.NormBwdLastIdeal.nD Cert.NormBwdLastIdeal.τ).loc Cert.NormBwdLastIdeal.main_arg2)
          ∧ r.2.mem ((c.tc : Thread Cert.NormBwdLastIdeal.nD Cert.NormBwdLastIdeal.τ).loc Cert.NormBwdLastIdeal.main_arg3) = m ((c.tc : Thread Cert.NormBwdLastIdeal.nD Cert.NormBwdLastIdeal.τ).loc Cert.NormBwdLastIdeal.main_arg3))
      ∧ θ_run (Cert.NormBwdLastRefIdeal.defs (F := Ideal)) (onTc (τ := Cert.NormBwdLastRefIdeal.τ) (Cert.NormBwdLastRefIdeal.main (F := Ideal))) ⟨m', fun _ => 0, g'⟩ (fun r => ∀ c : Dev Cert.NormBwdLastRefIdeal.nD,
          r.2.mem ((c.tc : Thread Cert.NormBwdLastRefIdeal.nD Cert.NormBwdLastRefIdeal.τ).loc Cert.NormBwdLastRefIdeal.main_v37) = v0 c
          ∧ r.2.mem ((c.tc : Thread Cert.NormBwdLastRefIdeal.nD Cert.NormBwdLastRefIdeal.τ).loc Cert.NormBwdLastRefIdeal.main_v38) = v1 c
          ∧ r.2.mem ((c.tc : Thread Cert.NormBwdLastRefIdeal.nD Cert.NormBwdLastRefIdeal.τ).loc Cert.NormBwdLastRefIdeal.main_arg0) = m' ((c.tc : Thread Cert.NormBwdLastRefIdeal.nD Cert.NormBwdLastRefIdeal.τ).loc Cert.NormBwdLastRefIdeal.main_arg0)
          ∧ r.2.mem ((c.tc : Thread Cert.NormBwdLastRefIdeal.nD Cert.NormBwdLastRefIdeal.τ).loc Cert.NormBwdLastRefIdeal.main_arg1) = m' ((c.tc : Thread Cert.NormBwdLastRefIdeal.nD Cert.NormBwdLastRefIdeal.τ).loc Cert.NormBwdLastRefIdeal.main_arg1)
          ∧ r.2.mem ((c.tc : Thread Cert.NormBwdLastRefIdeal.nD Cert.NormBwdLastRefIdeal.τ).loc Cert.NormBwdLastRefIdeal.main_arg2) = m' ((c.tc : Thread Cert.NormBwdLastRefIdeal.nD Cert.NormBwdLastRefIdeal.τ).loc Cert.NormBwdLastRefIdeal.main_arg2)
          ∧ r.2.mem ((c.tc : Thread Cert.NormBwdLastRefIdeal.nD Cert.NormBwdLastRefIdeal.τ).loc Cert.NormBwdLastRefIdeal.main_arg3) = m' ((c.tc : Thread Cert.NormBwdLastRefIdeal.nD Cert.NormBwdLastRefIdeal.τ).loc Cert.NormBwdLastRefIdeal.main_arg3))

def preserves_NormBwdMid_NormBwdMidIdeal : Prop :=
  True

def algebraic_NormBwdMidIdeal_NormBwdMidRefIdeal [hNormBwdMidIdeal : Cert.NormBwdMidIdeal.Facts] [hNormBwdMidRefIdeal : Cert.NormBwdMidRefIdeal.Facts] : Prop :=
  ∀ (m : (ℓ : Loc Cert.NormBwdMidIdeal.nD Cert.NormBwdMidIdeal.τ Cert.NormBwdMidIdeal.sig) → Buf (Elt Ideal) ℓ) (g : Dev Cert.NormBwdMidIdeal.nD → PrngReg)
    (m' : (ℓ : Loc Cert.NormBwdMidRefIdeal.nD Cert.NormBwdMidRefIdeal.τ Cert.NormBwdMidRefIdeal.sig) → Buf (Elt Ideal) ℓ) (g' : Dev Cert.NormBwdMidRefIdeal.nD → PrngReg), Pre_NormBwdMidIdeal m →
    (∀ c : Dev Cert.NormBwdMidIdeal.nD,
      m' ((c.tc : Thread Cert.NormBwdMidRefIdeal.nD Cert.NormBwdMidRefIdeal.τ).loc Cert.NormBwdMidRefIdeal.main_arg0) = m ((c.tc : Thread Cert.NormBwdMidIdeal.nD Cert.NormBwdMidIdeal.τ).loc Cert.NormBwdMidIdeal.main_arg0)
      ∧ m' ((c.tc : Thread Cert.NormBwdMidRefIdeal.nD Cert.NormBwdMidRefIdeal.τ).loc Cert.NormBwdMidRefIdeal.main_arg1) = m ((c.tc : Thread Cert.NormBwdMidIdeal.nD Cert.NormBwdMidIdeal.τ).loc Cert.NormBwdMidIdeal.main_arg1)
      ∧ m' ((c.tc : Thread Cert.NormBwdMidRefIdeal.nD Cert.NormBwdMidRefIdeal.τ).loc Cert.NormBwdMidRefIdeal.main_arg2) = m ((c.tc : Thread Cert.NormBwdMidIdeal.nD Cert.NormBwdMidIdeal.τ).loc Cert.NormBwdMidIdeal.main_arg2)
      ∧ m' ((c.tc : Thread Cert.NormBwdMidRefIdeal.nD Cert.NormBwdMidRefIdeal.τ).loc Cert.NormBwdMidRefIdeal.main_arg3) = m ((c.tc : Thread Cert.NormBwdMidIdeal.nD Cert.NormBwdMidIdeal.τ).loc Cert.NormBwdMidIdeal.main_arg3)
      ∧ m' ((c.tc : Thread Cert.NormBwdMidRefIdeal.nD Cert.NormBwdMidRefIdeal.τ).loc Cert.NormBwdMidRefIdeal.main_arg4) = m ((c.tc : Thread Cert.NormBwdMidIdeal.nD Cert.NormBwdMidIdeal.τ).loc Cert.NormBwdMidIdeal.main_arg4)
      ∧ m' ((c.tc : Thread Cert.NormBwdMidRefIdeal.nD Cert.NormBwdMidRefIdeal.τ).loc Cert.NormBwdMidRefIdeal.main_arg5) = m ((c.tc : Thread Cert.NormBwdMidIdeal.nD Cert.NormBwdMidIdeal.τ).loc Cert.NormBwdMidIdeal.main_arg5)) →
    ∃ (v0 : (c : Dev Cert.NormBwdMidIdeal.nD) → Buf (Elt Ideal) ((c.tc : Thread Cert.NormBwdMidIdeal.nD Cert.NormBwdMidIdeal.τ).loc Cert.NormBwdMidIdeal.main_v17_0)) (v1 : (c : Dev Cert.NormBwdMidIdeal.nD) → Buf (Elt Ideal) ((c.tc : Thread Cert.NormBwdMidIdeal.nD Cert.NormBwdMidIdeal.τ).loc Cert.NormBwdMidIdeal.main_v17_1)) (v2 : (c : Dev Cert.NormBwdMidIdeal.nD) → Buf (Elt Ideal) ((c.tc : Thread Cert.NormBwdMidIdeal.nD Cert.NormBwdMidIdeal.τ).loc Cert.NormBwdMidIdeal.main_v17_2)) (v3 : (c : Dev Cert.NormBwdMidIdeal.nD) → Buf (Elt Ideal) ((c.tc : Thread Cert.NormBwdMidIdeal.nD Cert.NormBwdMidIdeal.τ).loc Cert.NormBwdMidIdeal.main_v17_3)),
      θ_run (Cert.NormBwdMidIdeal.defs (F := Ideal)) (onTc (τ := Cert.NormBwdMidIdeal.τ) (Cert.NormBwdMidIdeal.main (F := Ideal))) ⟨m, fun _ => 0, g⟩ (fun r => ∀ c : Dev Cert.NormBwdMidIdeal.nD,
          r.2.mem ((c.tc : Thread Cert.NormBwdMidIdeal.nD Cert.NormBwdMidIdeal.τ).loc Cert.NormBwdMidIdeal.main_v17_0) = v0 c
          ∧ r.2.mem ((c.tc : Thread Cert.NormBwdMidIdeal.nD Cert.NormBwdMidIdeal.τ).loc Cert.NormBwdMidIdeal.main_v17_1) = v1 c
          ∧ r.2.mem ((c.tc : Thread Cert.NormBwdMidIdeal.nD Cert.NormBwdMidIdeal.τ).loc Cert.NormBwdMidIdeal.main_v17_2) = v2 c
          ∧ r.2.mem ((c.tc : Thread Cert.NormBwdMidIdeal.nD Cert.NormBwdMidIdeal.τ).loc Cert.NormBwdMidIdeal.main_v17_3) = v3 c
          ∧ r.2.mem ((c.tc : Thread Cert.NormBwdMidIdeal.nD Cert.NormBwdMidIdeal.τ).loc Cert.NormBwdMidIdeal.main_arg0) = m ((c.tc : Thread Cert.NormBwdMidIdeal.nD Cert.NormBwdMidIdeal.τ).loc Cert.NormBwdMidIdeal.main_arg0)
          ∧ r.2.mem ((c.tc : Thread Cert.NormBwdMidIdeal.nD Cert.NormBwdMidIdeal.τ).loc Cert.NormBwdMidIdeal.main_arg1) = m ((c.tc : Thread Cert.NormBwdMidIdeal.nD Cert.NormBwdMidIdeal.τ).loc Cert.NormBwdMidIdeal.main_arg1)
          ∧ r.2.mem ((c.tc : Thread Cert.NormBwdMidIdeal.nD Cert.NormBwdMidIdeal.τ).loc Cert.NormBwdMidIdeal.main_arg2) = m ((c.tc : Thread Cert.NormBwdMidIdeal.nD Cert.NormBwdMidIdeal.τ).loc Cert.NormBwdMidIdeal.main_arg2)
          ∧ r.2.mem ((c.tc : Thread Cert.NormBwdMidIdeal.nD Cert.NormBwdMidIdeal.τ).loc Cert.NormBwdMidIdeal.main_arg3) = m ((c.tc : Thread Cert.NormBwdMidIdeal.nD Cert.NormBwdMidIdeal.τ).loc Cert.NormBwdMidIdeal.main_arg3)
          ∧ r.2.mem ((c.tc : Thread Cert.NormBwdMidIdeal.nD Cert.NormBwdMidIdeal.τ).loc Cert.NormBwdMidIdeal.main_arg4) = m ((c.tc : Thread Cert.NormBwdMidIdeal.nD Cert.NormBwdMidIdeal.τ).loc Cert.NormBwdMidIdeal.main_arg4)
          ∧ r.2.mem ((c.tc : Thread Cert.NormBwdMidIdeal.nD Cert.NormBwdMidIdeal.τ).loc Cert.NormBwdMidIdeal.main_arg5) = m ((c.tc : Thread Cert.NormBwdMidIdeal.nD Cert.NormBwdMidIdeal.τ).loc Cert.NormBwdMidIdeal.main_arg5))
      ∧ θ_run (Cert.NormBwdMidRefIdeal.defs (F := Ideal)) (onTc (τ := Cert.NormBwdMidRefIdeal.τ) (Cert.NormBwdMidRefIdeal.main (F := Ideal))) ⟨m', fun _ => 0, g'⟩ (fun r => ∀ c : Dev Cert.NormBwdMidRefIdeal.nD,
          r.2.mem ((c.tc : Thread Cert.NormBwdMidRefIdeal.nD Cert.NormBwdMidRefIdeal.τ).loc Cert.NormBwdMidRefIdeal.main_v55) = v0 c
          ∧ r.2.mem ((c.tc : Thread Cert.NormBwdMidRefIdeal.nD Cert.NormBwdMidRefIdeal.τ).loc Cert.NormBwdMidRefIdeal.main_v77) = v1 c
          ∧ r.2.mem ((c.tc : Thread Cert.NormBwdMidRefIdeal.nD Cert.NormBwdMidRefIdeal.τ).loc Cert.NormBwdMidRefIdeal.main_v78) = v2 c
          ∧ r.2.mem ((c.tc : Thread Cert.NormBwdMidRefIdeal.nD Cert.NormBwdMidRefIdeal.τ).loc Cert.NormBwdMidRefIdeal.main_v79) = v3 c
          ∧ r.2.mem ((c.tc : Thread Cert.NormBwdMidRefIdeal.nD Cert.NormBwdMidRefIdeal.τ).loc Cert.NormBwdMidRefIdeal.main_arg0) = m' ((c.tc : Thread Cert.NormBwdMidRefIdeal.nD Cert.NormBwdMidRefIdeal.τ).loc Cert.NormBwdMidRefIdeal.main_arg0)
          ∧ r.2.mem ((c.tc : Thread Cert.NormBwdMidRefIdeal.nD Cert.NormBwdMidRefIdeal.τ).loc Cert.NormBwdMidRefIdeal.main_arg1) = m' ((c.tc : Thread Cert.NormBwdMidRefIdeal.nD Cert.NormBwdMidRefIdeal.τ).loc Cert.NormBwdMidRefIdeal.main_arg1)
          ∧ r.2.mem ((c.tc : Thread Cert.NormBwdMidRefIdeal.nD Cert.NormBwdMidRefIdeal.τ).loc Cert.NormBwdMidRefIdeal.main_arg2) = m' ((c.tc : Thread Cert.NormBwdMidRefIdeal.nD Cert.NormBwdMidRefIdeal.τ).loc Cert.NormBwdMidRefIdeal.main_arg2)
          ∧ r.2.mem ((c.tc : Thread Cert.NormBwdMidRefIdeal.nD Cert.NormBwdMidRefIdeal.τ).loc Cert.NormBwdMidRefIdeal.main_arg3) = m' ((c.tc : Thread Cert.NormBwdMidRefIdeal.nD Cert.NormBwdMidRefIdeal.τ).loc Cert.NormBwdMidRefIdeal.main_arg3)
          ∧ r.2.mem ((c.tc : Thread Cert.NormBwdMidRefIdeal.nD Cert.NormBwdMidRefIdeal.τ).loc Cert.NormBwdMidRefIdeal.main_arg4) = m' ((c.tc : Thread Cert.NormBwdMidRefIdeal.nD Cert.NormBwdMidRefIdeal.τ).loc Cert.NormBwdMidRefIdeal.main_arg4)
          ∧ r.2.mem ((c.tc : Thread Cert.NormBwdMidRefIdeal.nD Cert.NormBwdMidRefIdeal.τ).loc Cert.NormBwdMidRefIdeal.main_arg5) = m' ((c.tc : Thread Cert.NormBwdMidRefIdeal.nD Cert.NormBwdMidRefIdeal.τ).loc Cert.NormBwdMidRefIdeal.main_arg5))

def preserves_BranchBBwd_BranchBBwdIdeal : Prop :=
  True

def algebraic_BranchBBwdIdeal_BranchBBwdRefIdeal [hBranchBBwdIdeal : Cert.BranchBBwdIdeal.Facts] [hBranchBBwdRefIdeal : Cert.BranchBBwdRefIdeal.Facts] : Prop :=
  ∀ (m : (ℓ : Loc Cert.BranchBBwdIdeal.nD Cert.BranchBBwdIdeal.τ Cert.BranchBBwdIdeal.sig) → Buf (Elt Ideal) ℓ) (g : Dev Cert.BranchBBwdIdeal.nD → PrngReg)
    (m' : (ℓ : Loc Cert.BranchBBwdRefIdeal.nD Cert.BranchBBwdRefIdeal.τ Cert.BranchBBwdRefIdeal.sig) → Buf (Elt Ideal) ℓ) (g' : Dev Cert.BranchBBwdRefIdeal.nD → PrngReg), Pre_BranchBBwdIdeal m →
    (∀ c : Dev Cert.BranchBBwdIdeal.nD,
      m' ((c.tc : Thread Cert.BranchBBwdRefIdeal.nD Cert.BranchBBwdRefIdeal.τ).loc Cert.BranchBBwdRefIdeal.main_arg0) = m ((c.tc : Thread Cert.BranchBBwdIdeal.nD Cert.BranchBBwdIdeal.τ).loc Cert.BranchBBwdIdeal.main_arg0)
      ∧ m' ((c.tc : Thread Cert.BranchBBwdRefIdeal.nD Cert.BranchBBwdRefIdeal.τ).loc Cert.BranchBBwdRefIdeal.main_arg1) = m ((c.tc : Thread Cert.BranchBBwdIdeal.nD Cert.BranchBBwdIdeal.τ).loc Cert.BranchBBwdIdeal.main_arg1)
      ∧ m' ((c.tc : Thread Cert.BranchBBwdRefIdeal.nD Cert.BranchBBwdRefIdeal.τ).loc Cert.BranchBBwdRefIdeal.main_arg2) = m ((c.tc : Thread Cert.BranchBBwdIdeal.nD Cert.BranchBBwdIdeal.τ).loc Cert.BranchBBwdIdeal.main_arg2)
      ∧ m' ((c.tc : Thread Cert.BranchBBwdRefIdeal.nD Cert.BranchBBwdRefIdeal.τ).loc Cert.BranchBBwdRefIdeal.main_arg3) = m ((c.tc : Thread Cert.BranchBBwdIdeal.nD Cert.BranchBBwdIdeal.τ).loc Cert.BranchBBwdIdeal.main_arg3)) →
    ∃ (v0 : (c : Dev Cert.BranchBBwdIdeal.nD) → Buf (Elt Ideal) ((c.tc : Thread Cert.BranchBBwdIdeal.nD Cert.BranchBBwdIdeal.τ).loc Cert.BranchBBwdIdeal.main_v0_0)) (v1 : (c : Dev Cert.BranchBBwdIdeal.nD) → Buf (Elt Ideal) ((c.tc : Thread Cert.BranchBBwdIdeal.nD Cert.BranchBBwdIdeal.τ).loc Cert.BranchBBwdIdeal.main_v0_1)),
      θ_run (Cert.BranchBBwdIdeal.defs (F := Ideal)) (onTc (τ := Cert.BranchBBwdIdeal.τ) (Cert.BranchBBwdIdeal.main (F := Ideal))) ⟨m, fun _ => 0, g⟩ (fun r => ∀ c : Dev Cert.BranchBBwdIdeal.nD,
          r.2.mem ((c.tc : Thread Cert.BranchBBwdIdeal.nD Cert.BranchBBwdIdeal.τ).loc Cert.BranchBBwdIdeal.main_v0_0) = v0 c
          ∧ r.2.mem ((c.tc : Thread Cert.BranchBBwdIdeal.nD Cert.BranchBBwdIdeal.τ).loc Cert.BranchBBwdIdeal.main_v0_1) = v1 c
          ∧ r.2.mem ((c.tc : Thread Cert.BranchBBwdIdeal.nD Cert.BranchBBwdIdeal.τ).loc Cert.BranchBBwdIdeal.main_arg0) = m ((c.tc : Thread Cert.BranchBBwdIdeal.nD Cert.BranchBBwdIdeal.τ).loc Cert.BranchBBwdIdeal.main_arg0)
          ∧ r.2.mem ((c.tc : Thread Cert.BranchBBwdIdeal.nD Cert.BranchBBwdIdeal.τ).loc Cert.BranchBBwdIdeal.main_arg1) = m ((c.tc : Thread Cert.BranchBBwdIdeal.nD Cert.BranchBBwdIdeal.τ).loc Cert.BranchBBwdIdeal.main_arg1)
          ∧ r.2.mem ((c.tc : Thread Cert.BranchBBwdIdeal.nD Cert.BranchBBwdIdeal.τ).loc Cert.BranchBBwdIdeal.main_arg2) = m ((c.tc : Thread Cert.BranchBBwdIdeal.nD Cert.BranchBBwdIdeal.τ).loc Cert.BranchBBwdIdeal.main_arg2)
          ∧ r.2.mem ((c.tc : Thread Cert.BranchBBwdIdeal.nD Cert.BranchBBwdIdeal.τ).loc Cert.BranchBBwdIdeal.main_arg3) = m ((c.tc : Thread Cert.BranchBBwdIdeal.nD Cert.BranchBBwdIdeal.τ).loc Cert.BranchBBwdIdeal.main_arg3))
      ∧ θ_run (Cert.BranchBBwdRefIdeal.defs (F := Ideal)) (onTc (τ := Cert.BranchBBwdRefIdeal.τ) (Cert.BranchBBwdRefIdeal.main (F := Ideal))) ⟨m', fun _ => 0, g'⟩ (fun r => ∀ c : Dev Cert.BranchBBwdRefIdeal.nD,
          r.2.mem ((c.tc : Thread Cert.BranchBBwdRefIdeal.nD Cert.BranchBBwdRefIdeal.τ).loc Cert.BranchBBwdRefIdeal.main_v76) = v0 c
          ∧ r.2.mem ((c.tc : Thread Cert.BranchBBwdRefIdeal.nD Cert.BranchBBwdRefIdeal.τ).loc Cert.BranchBBwdRefIdeal.main_v66) = v1 c
          ∧ r.2.mem ((c.tc : Thread Cert.BranchBBwdRefIdeal.nD Cert.BranchBBwdRefIdeal.τ).loc Cert.BranchBBwdRefIdeal.main_arg0) = m' ((c.tc : Thread Cert.BranchBBwdRefIdeal.nD Cert.BranchBBwdRefIdeal.τ).loc Cert.BranchBBwdRefIdeal.main_arg0)
          ∧ r.2.mem ((c.tc : Thread Cert.BranchBBwdRefIdeal.nD Cert.BranchBBwdRefIdeal.τ).loc Cert.BranchBBwdRefIdeal.main_arg1) = m' ((c.tc : Thread Cert.BranchBBwdRefIdeal.nD Cert.BranchBBwdRefIdeal.τ).loc Cert.BranchBBwdRefIdeal.main_arg1)
          ∧ r.2.mem ((c.tc : Thread Cert.BranchBBwdRefIdeal.nD Cert.BranchBBwdRefIdeal.τ).loc Cert.BranchBBwdRefIdeal.main_arg2) = m' ((c.tc : Thread Cert.BranchBBwdRefIdeal.nD Cert.BranchBBwdRefIdeal.τ).loc Cert.BranchBBwdRefIdeal.main_arg2)
          ∧ r.2.mem ((c.tc : Thread Cert.BranchBBwdRefIdeal.nD Cert.BranchBBwdRefIdeal.τ).loc Cert.BranchBBwdRefIdeal.main_arg3) = m' ((c.tc : Thread Cert.BranchBBwdRefIdeal.nD Cert.BranchBBwdRefIdeal.τ).loc Cert.BranchBBwdRefIdeal.main_arg3))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)) →
    ∃ (v0 : (c : Dev Cert.NormFirstIdeal.nD) → Buf (Elt Ideal) ((c.tc : Thread Cert.NormFirstIdeal.nD Cert.NormFirstIdeal.τ).loc Cert.NormFirstIdeal.main_v1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v1) = v0 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v13) = v0 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v13) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_NormMid_NormMidIdeal : Prop :=
  True

def algebraic_NormMidIdeal_NormMidRefIdeal [hNormMidIdeal : Cert.NormMidIdeal.Facts] [hNormMidRefIdeal : Cert.NormMidRefIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.NormMidRefIdeal.nD Cert.NormMidRefIdeal.τ Cert.NormMidRefIdeal.sig) → Buf (Elt Ideal) ℓ) (g' : Dev Cert.NormMidRefIdeal.nD → PrngReg), Pre_NormMidIdeal m →
    (∀ c : Dev Cert.NormMidIdeal.nD,
      m' ((c.tc : Thread Cert.NormMidRefIdeal.nD Cert.NormMidRefIdeal.τ).loc Cert.NormMidRefIdeal.main_arg0) = m ((c.tc : Thread Cert.NormMidIdeal.nD Cert.NormMidIdeal.τ).loc Cert.NormMidIdeal.main_arg0)
      ∧ m' ((c.tc : Thread Cert.NormMidRefIdeal.nD Cert.NormMidRefIdeal.τ).loc Cert.NormMidRefIdeal.main_arg1) = m ((c.tc : Thread Cert.NormMidIdeal.nD Cert.NormMidIdeal.τ).loc Cert.NormMidIdeal.main_arg1)
      ∧ m' ((c.tc : Thread Cert.NormMidRefIdeal.nD Cert.NormMidRefIdeal.τ).loc Cert.NormMidRefIdeal.main_arg2) = m ((c.tc : Thread Cert.NormMidIdeal.nD Cert.NormMidIdeal.τ).loc Cert.NormMidIdeal.main_arg2)
      ∧ m' ((c.tc : Thread Cert.NormMidRefIdeal.nD Cert.NormMidRefIdeal.τ).loc Cert.NormMidRefIdeal.main_arg3) = m ((c.tc : Thread Cert.NormMidIdeal.nD Cert.NormMidIdeal.τ).loc Cert.NormMidIdeal.main_arg3)) →
    ∃ (v0 : (c : Dev Cert.NormMidIdeal.nD) → Buf (Elt Ideal) ((c.tc : Thread Cert.NormMidIdeal.nD Cert.NormMidIdeal.τ).loc Cert.NormMidIdeal.main_v2_0)) (v1 : (c : Dev Cert.NormMidIdeal.nD) → Buf (Elt Ideal) ((c.tc : Thread Cert.NormMidIdeal.nD Cert.NormMidIdeal.τ).loc Cert.NormMidIdeal.main_v2_1)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v2_0) = v0 c
          ∧ r.2.mem ((c.tc : Thread Cert.NormMidIdeal.nD Cert.NormMidIdeal.τ).loc Cert.NormMidIdeal.main_v2_1) = v1 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3))
      ∧ θ_run (Cert.NormMidRefIdeal.defs (F := Ideal)) (onTc (τ := Cert.NormMidRefIdeal.τ) (Cert.NormMidRefIdeal.main (F := Ideal))) ⟨m', fun _ => 0, g'⟩ (fun r => ∀ c : Dev Cert.NormMidRefIdeal.nD,
          r.2.mem ((c.tc : Thread Cert.NormMidRefIdeal.nD Cert.NormMidRefIdeal.τ).loc Cert.NormMidRefIdeal.main_v14) = v0 c
          ∧ r.2.mem ((c.tc : Thread Cert.NormMidRefIdeal.nD Cert.NormMidRefIdeal.τ).loc Cert.NormMidRefIdeal.main_v28) = v1 c
          ∧ r.2.mem ((c.tc : Thread Cert.NormMidRefIdeal.nD Cert.NormMidRefIdeal.τ).loc Cert.NormMidRefIdeal.main_arg0) = m' ((c.tc : Thread Cert.NormMidRefIdeal.nD Cert.NormMidRefIdeal.τ).loc Cert.NormMidRefIdeal.main_arg0)
          ∧ r.2.mem ((c.tc : Thread Cert.NormMidRefIdeal.nD Cert.NormMidRefIdeal.τ).loc Cert.NormMidRefIdeal.main_arg1) = m' ((c.tc : Thread Cert.NormMidRefIdeal.nD Cert.NormMidRefIdeal.τ).loc Cert.NormMidRefIdeal.main_arg1)
          ∧ r.2.mem ((c.tc : Thread Cert.NormMidRefIdeal.nD Cert.NormMidRefIdeal.τ).loc Cert.NormMidRefIdeal.main_arg2) = m' ((c.tc : Thread Cert.NormMidRefIdeal.nD Cert.NormMidRefIdeal.τ).loc Cert.NormMidRefIdeal.main_arg2)
          ∧ r.2.mem ((c.tc : Thread Cert.NormMidRefIdeal.nD Cert.NormMidRefIdeal.τ).loc Cert.NormMidRefIdeal.main_arg3) = m' ((c.tc : Thread Cert.NormMidRefIdeal.nD Cert.NormMidRefIdeal.τ).loc Cert.NormMidRefIdeal.main_arg3))

def preserves_NormLoss_NormLossIdeal : Prop :=
  True

def algebraic_NormLossIdeal_NormLossRefIdeal [hNormLossIdeal : Cert.NormLossIdeal.Facts] [hNormLossRefIdeal : Cert.NormLossRefIdeal.Facts] : Prop :=
  ∀ (m : (ℓ : Loc Cert.NormLossIdeal.nD Cert.NormLossIdeal.τ Cert.NormLossIdeal.sig) → Buf (Elt Ideal) ℓ) (g : Dev Cert.NormLossIdeal.nD → PrngReg)
    (m' : (ℓ : Loc Cert.NormLossRefIdeal.nD Cert.NormLossRefIdeal.τ Cert.NormLossRefIdeal.sig) → Buf (Elt Ideal) ℓ) (g' : Dev Cert.NormLossRefIdeal.nD → PrngReg), Pre_NormLossIdeal m →
    (∀ c : Dev Cert.NormLossIdeal.nD,
      m' ((c.tc : Thread Cert.NormLossRefIdeal.nD Cert.NormLossRefIdeal.τ).loc Cert.NormLossRefIdeal.main_arg0) = m ((c.tc : Thread Cert.NormLossIdeal.nD Cert.NormLossIdeal.τ).loc Cert.NormLossIdeal.main_arg0)
      ∧ m' ((c.tc : Thread Cert.NormLossRefIdeal.nD Cert.NormLossRefIdeal.τ).loc Cert.NormLossRefIdeal.main_arg1) = m ((c.tc : Thread Cert.NormLossIdeal.nD Cert.NormLossIdeal.τ).loc Cert.NormLossIdeal.main_arg1)
      ∧ m' ((c.tc : Thread Cert.NormLossRefIdeal.nD Cert.NormLossRefIdeal.τ).loc Cert.NormLossRefIdeal.main_arg2) = m ((c.tc : Thread Cert.NormLossIdeal.nD Cert.NormLossIdeal.τ).loc Cert.NormLossIdeal.main_arg2)
      ∧ m' ((c.tc : Thread Cert.NormLossRefIdeal.nD Cert.NormLossRefIdeal.τ).loc Cert.NormLossRefIdeal.main_arg3) = m ((c.tc : Thread Cert.NormLossIdeal.nD Cert.NormLossIdeal.τ).loc Cert.NormLossIdeal.main_arg3)) →
    ∃ (v0 : (c : Dev Cert.NormLossIdeal.nD) → Buf (Elt Ideal) ((c.tc : Thread Cert.NormLossIdeal.nD Cert.NormLossIdeal.τ).loc Cert.NormLossIdeal.main_v1_0)) (v1 : (c : Dev Cert.NormLossIdeal.nD) → Buf (Elt Ideal) ((c.tc : Thread Cert.NormLossIdeal.nD Cert.NormLossIdeal.τ).loc Cert.NormLossIdeal.main_v4)),
      θ_run (Cert.NormLossIdeal.defs (F := Ideal)) (onTc (τ := Cert.NormLossIdeal.τ) (Cert.NormLossIdeal.main (F := Ideal))) ⟨m, fun _ => 0, g⟩ (fun r => ∀ c : Dev Cert.NormLossIdeal.nD,
          r.2.mem ((c.tc : Thread Cert.NormLossIdeal.nD Cert.NormLossIdeal.τ).loc Cert.NormLossIdeal.main_v1_0) = v0 c
          ∧ r.2.mem ((c.tc : Thread Cert.NormLossIdeal.nD Cert.NormLossIdeal.τ).loc Cert.NormLossIdeal.main_v4) = v1 c
          ∧ r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
          ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
          ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
          ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3))
      ∧ θ_run (Cert.NormLossRefIdeal.defs (F := Ideal)) (onTc (τ := Cert.NormLossRefIdeal.τ) (Cert.NormLossRefIdeal.main (F := Ideal))) ⟨m', fun _ => 0, g'⟩ (fun r => ∀ c : Dev Cert.NormLossRefIdeal.nD,
          r.2.mem ((c.tc : Thread Cert.NormLossRefIdeal.nD Cert.NormLossRefIdeal.τ).loc Cert.NormLossRefIdeal.main_v29) = v0 c
          ∧ r.2.mem ((c.tc : Thread Cert.NormLossRefIdeal.nD Cert.NormLossRefIdeal.τ).loc Cert.NormLossRefIdeal.main_v23) = v1 c
          ∧ r.2.mem ((c.tc : Thread Cert.NormLossRefIdeal.nD Cert.NormLossRefIdeal.τ).loc Cert.NormLossRefIdeal.main_arg0) = m' ((c.tc : Thread Cert.NormLossRefIdeal.nD Cert.NormLossRefIdeal.τ).loc Cert.NormLossRefIdeal.main_arg0)
          ∧ r.2.mem ((c.tc : Thread Cert.NormLossRefIdeal.nD Cert.NormLossRefIdeal.τ).loc Cert.NormLossRefIdeal.main_arg1) = m' ((c.tc : Thread Cert.NormLossRefIdeal.nD Cert.NormLossRefIdeal.τ).loc Cert.NormLossRefIdeal.main_arg1)
          ∧ r.2.mem ((c.tc : Thread Cert.NormLossRefIdeal.nD Cert.NormLossRefIdeal.τ).loc Cert.NormLossRefIdeal.main_arg2) = m' ((c.tc : Thread Cert.NormLossRefIdeal.nD Cert.NormLossRefIdeal.τ).loc Cert.NormLossRefIdeal.main_arg2)
          ∧ r.2.mem ((c.tc : Thread Cert.NormLossRefIdeal.nD Cert.NormLossRefIdeal.τ).loc Cert.NormLossRefIdeal.main_arg3) = m' ((c.tc : Thread Cert.NormLossRefIdeal.nD Cert.NormLossRefIdeal.τ).loc Cert.NormLossRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_BranchBFwd_BranchBFwdIdeal : Prop :=
  True

def algebraic_BranchBFwdIdeal_BranchBFwdRefIdeal [hBranchBFwdIdeal : Cert.BranchBFwdIdeal.Facts] [hBranchBFwdRefIdeal : Cert.BranchBFwdRefIdeal.Facts] : Prop :=
  ∀ (m : (ℓ : Loc Cert.BranchBFwdIdeal.nD Cert.BranchBFwdIdeal.τ Cert.BranchBFwdIdeal.sig) → Buf (Elt Ideal) ℓ) (g : Dev Cert.BranchBFwdIdeal.nD → PrngReg)
    (m' : (ℓ : Loc Cert.BranchBFwdRefIdeal.nD Cert.BranchBFwdRefIdeal.τ Cert.BranchBFwdRefIdeal.sig) → Buf (Elt Ideal) ℓ) (g' : Dev Cert.BranchBFwdRefIdeal.nD → PrngReg), Pre_BranchBFwdIdeal m →
    (∀ c : Dev Cert.BranchBFwdIdeal.nD,
      m' ((c.tc : Thread Cert.BranchBFwdRefIdeal.nD Cert.BranchBFwdRefIdeal.τ).loc Cert.BranchBFwdRefIdeal.main_arg0) = m ((c.tc : Thread Cert.BranchBFwdIdeal.nD Cert.BranchBFwdIdeal.τ).loc Cert.BranchBFwdIdeal.main_arg0)
      ∧ m' ((c.tc : Thread Cert.BranchBFwdRefIdeal.nD Cert.BranchBFwdRefIdeal.τ).loc Cert.BranchBFwdRefIdeal.main_arg1) = m ((c.tc : Thread Cert.BranchBFwdIdeal.nD Cert.BranchBFwdIdeal.τ).loc Cert.BranchBFwdIdeal.main_arg1)) →
    ∃ (v0 : (c : Dev Cert.BranchBFwdIdeal.nD) → Buf (Elt Ideal) ((c.tc : Thread Cert.BranchBFwdIdeal.nD Cert.BranchBFwdIdeal.τ).loc Cert.BranchBFwdIdeal.main_v0)),
      θ_run (Cert.BranchBFwdIdeal.defs (F := Ideal)) (onTc (τ := Cert.BranchBFwdIdeal.τ) (Cert.BranchBFwdIdeal.main (F := Ideal))) ⟨m, fun _ => 0, g⟩ (fun r => ∀ c : Dev Cert.BranchBFwdIdeal.nD,
          r.2.mem ((c.tc : Thread Cert.BranchBFwdIdeal.nD Cert.BranchBFwdIdeal.τ).loc Cert.BranchBFwdIdeal.main_v0) = v0 c
          ∧ r.2.mem ((c.tc : Thread Cert.BranchBFwdIdeal.nD Cert.BranchBFwdIdeal.τ).loc Cert.BranchBFwdIdeal.main_arg0) = m ((c.tc : Thread Cert.BranchBFwdIdeal.nD Cert.BranchBFwdIdeal.τ).loc Cert.BranchBFwdIdeal.main_arg0)
          ∧ r.2.mem ((c.tc : Thread Cert.BranchBFwdIdeal.nD Cert.BranchBFwdIdeal.τ).loc Cert.BranchBFwdIdeal.main_arg1) = m ((c.tc : Thread Cert.BranchBFwdIdeal.nD Cert.BranchBFwdIdeal.τ).loc Cert.BranchBFwdIdeal.main_arg1))
      ∧ θ_run (Cert.BranchBFwdRefIdeal.defs (F := Ideal)) (onTc (τ := Cert.BranchBFwdRefIdeal.τ) (Cert.BranchBFwdRefIdeal.main (F := Ideal))) ⟨m', fun _ => 0, g'⟩ (fun r => ∀ c : Dev Cert.BranchBFwdRefIdeal.nD,
          r.2.mem ((c.tc : Thread Cert.BranchBFwdRefIdeal.nD Cert.BranchBFwdRefIdeal.τ).loc Cert.BranchBFwdRefIdeal.main_v32) = v0 c
          ∧ r.2.mem ((c.tc : Thread Cert.BranchBFwdRefIdeal.nD Cert.BranchBFwdRefIdeal.τ).loc Cert.BranchBFwdRefIdeal.main_arg0) = m' ((c.tc : Thread Cert.BranchBFwdRefIdeal.nD Cert.BranchBFwdRefIdeal.τ).loc Cert.BranchBFwdRefIdeal.main_arg0)
          ∧ r.2.mem ((c.tc : Thread Cert.BranchBFwdRefIdeal.nD Cert.BranchBFwdRefIdeal.τ).loc Cert.BranchBFwdRefIdeal.main_arg1) = m' ((c.tc : Thread Cert.BranchBFwdRefIdeal.nD Cert.BranchBFwdRefIdeal.τ).loc Cert.BranchBFwdRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v27) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def Claim : Prop :=
  ∃ (hAttnBwd : Cert.AttnBwd.Facts) (hAttnBwdIdeal : Cert.AttnBwdIdeal.Facts) (hAttnRefIdeal : Cert.AttnRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hODx : Cert.ODx.Facts) (hODxIdeal : Cert.ODxIdeal.Facts) (hODxRefIdeal : Cert.ODxRefIdeal.Facts) (hODw : Cert.ODw.Facts) (hODwIdeal : Cert.ODwIdeal.Facts) (hODwRefIdeal : Cert.ODwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hMmIn : Cert.MmIn.Facts) (hMmInIdeal : Cert.MmInIdeal.Facts) (hMmInRefIdeal : Cert.MmInRefIdeal.Facts) (hMmUp : Cert.MmUp.Facts) (hMmUpIdeal : Cert.MmUpIdeal.Facts) (hMmUpRefIdeal : Cert.MmUpRefIdeal.Facts) (hMmOut : Cert.MmOut.Facts) (hMmOutIdeal : Cert.MmOutIdeal.Facts) (hMmOutRefIdeal : Cert.MmOutRefIdeal.Facts) (hMmO : Cert.MmO.Facts) (hMmOIdeal : Cert.MmOIdeal.Facts) (hMmORefIdeal : Cert.MmORefIdeal.Facts) (hMmKv : Cert.MmKv.Facts) (hMmKvIdeal : Cert.MmKvIdeal.Facts) (hMmKvRefIdeal : Cert.MmKvRefIdeal.Facts) (hMmDown : Cert.MmDown.Facts) (hMmDownIdeal : Cert.MmDownIdeal.Facts) (hMmDownRefIdeal : Cert.MmDownRefIdeal.Facts) (hMergeBwd : Cert.MergeBwd.Facts) (hMergeBwdIdeal : Cert.MergeBwdIdeal.Facts) (hMergeBwdRefIdeal : Cert.MergeBwdRefIdeal.Facts) (hNormBwdTop : Cert.NormBwdTop.Facts) (hNormBwdTopIdeal : Cert.NormBwdTopIdeal.Facts) (hNormBwdTopRefIdeal : Cert.NormBwdTopRefIdeal.Facts) (hNormBwdMem : Cert.NormBwdMem.Facts) (hNormBwdMemIdeal : Cert.NormBwdMemIdeal.Facts) (hNormBwdMemRefIdeal : Cert.NormBwdMemRefIdeal.Facts) (hNormBwdLast : Cert.NormBwdLast.Facts) (hNormBwdLastIdeal : Cert.NormBwdLastIdeal.Facts) (hNormBwdLastRefIdeal : Cert.NormBwdLastRefIdeal.Facts) (hNormBwdMid : Cert.NormBwdMid.Facts) (hNormBwdMidIdeal : Cert.NormBwdMidIdeal.Facts) (hNormBwdMidRefIdeal : Cert.NormBwdMidRefIdeal.Facts) (hBranchBBwd : Cert.BranchBBwd.Facts) (hBranchBBwdIdeal : Cert.BranchBBwdIdeal.Facts) (hBranchBBwdRefIdeal : Cert.BranchBBwdRefIdeal.Facts) (hNormFirst : Cert.NormFirst.Facts) (hNormFirstIdeal : Cert.NormFirstIdeal.Facts) (hNormFirstRefIdeal : Cert.NormFirstRefIdeal.Facts) (hNormMem : Cert.NormMem.Facts) (hNormMemIdeal : Cert.NormMemIdeal.Facts) (hNormMemRefIdeal : Cert.NormMemRefIdeal.Facts) (hNormMid : Cert.NormMid.Facts) (hNormMidIdeal : Cert.NormMidIdeal.Facts) (hNormMidRefIdeal : Cert.NormMidRefIdeal.Facts) (hNormLoss : Cert.NormLoss.Facts) (hNormLossIdeal : Cert.NormLossIdeal.Facts) (hNormLossRefIdeal : Cert.NormLossRefIdeal.Facts) (hMergeFwd : Cert.MergeFwd.Facts) (hMergeFwdIdeal : Cert.MergeFwdIdeal.Facts) (hMergeFwdRefIdeal : Cert.MergeFwdRefIdeal.Facts) (hBranchBFwd : Cert.BranchBFwd.Facts) (hBranchBFwdIdeal : Cert.BranchBFwdIdeal.Facts) (hBranchBFwdRefIdeal : Cert.BranchBFwdRefIdeal.Facts) (hAttnFwd : Cert.AttnFwd.Facts) (hAttnFwdIdeal : Cert.AttnFwdIdeal.Facts) (hAttnFwdRefIdeal : Cert.AttnFwdRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamKv : Cert.AdamKv.Facts) (hAdamKvIdeal : Cert.AdamKvIdeal.Facts) (hAdamKvRefIdeal : Cert.AdamKvRefIdeal.Facts) (hPre_finite_queries_and_keys : Cert.Pre_finite_queries_and_keys.Facts),
    quiescent_AttnBwd (hAttnBwd := hAttnBwd)
    ∧ quiescent_AttnBwdIdeal (hAttnBwdIdeal := hAttnBwdIdeal)
    ∧ quiescent_AttnBwdIdeal_pre_finite_queries_and_keys (hAttnBwdIdeal := hAttnBwdIdeal) (hPre_finite_queries_and_keys := hPre_finite_queries_and_keys)
    ∧ quiescent_AttnRefIdeal (hAttnRefIdeal := hAttnRefIdeal)
    ∧ quiescent_AttnRefIdeal_pre_finite_queries_and_keys (hAttnRefIdeal := hAttnRefIdeal) (hPre_finite_queries_and_keys := hPre_finite_queries_and_keys)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_ODx (hODx := hODx)
    ∧ quiescent_ODxIdeal (hODxIdeal := hODxIdeal)
    ∧ quiescent_ODxRefIdeal (hODxRefIdeal := hODxRefIdeal)
    ∧ quiescent_ODw (hODw := hODw)
    ∧ quiescent_ODwIdeal (hODwIdeal := hODwIdeal)
    ∧ quiescent_ODwRefIdeal (hODwRefIdeal := hODwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmO (hMmO := hMmO)
    ∧ quiescent_MmOIdeal (hMmOIdeal := hMmOIdeal)
    ∧ quiescent_MmORefIdeal (hMmORefIdeal := hMmORefIdeal)
    ∧ quiescent_MmKv (hMmKv := hMmKv)
    ∧ quiescent_MmKvIdeal (hMmKvIdeal := hMmKvIdeal)
    ∧ quiescent_MmKvRefIdeal (hMmKvRefIdeal := hMmKvRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_NormBwdTop (hNormBwdTop := hNormBwdTop)
    ∧ quiescent_NormBwdTopIdeal (hNormBwdTopIdeal := hNormBwdTopIdeal)
    ∧ quiescent_NormBwdTopRefIdeal (hNormBwdTopRefIdeal := hNormBwdTopRefIdeal)
    ∧ quiescent_NormBwdMem (hNormBwdMem := hNormBwdMem)
    ∧ quiescent_NormBwdMemIdeal (hNormBwdMemIdeal := hNormBwdMemIdeal)
    ∧ quiescent_NormBwdMemRefIdeal (hNormBwdMemRefIdeal := hNormBwdMemRefIdeal)
    ∧ quiescent_NormBwdLast (hNormBwdLast := hNormBwdLast)
    ∧ quiescent_NormBwdLastIdeal (hNormBwdLastIdeal := hNormBwdLastIdeal)
    ∧ quiescent_NormBwdLastRefIdeal (hNormBwdLastRefIdeal := hNormBwdLastRefIdeal)
    ∧ quiescent_NormBwdMid (hNormBwdMid := hNormBwdMid)
    ∧ quiescent_NormBwdMidIdeal (hNormBwdMidIdeal := hNormBwdMidIdeal)
    ∧ quiescent_NormBwdMidRefIdeal (hNormBwdMidRefIdeal := hNormBwdMidRefIdeal)
    ∧ quiescent_BranchBBwd (hBranchBBwd := hBranchBBwd)
    ∧ quiescent_BranchBBwdIdeal (hBranchBBwdIdeal := hBranchBBwdIdeal)
    ∧ quiescent_BranchBBwdRefIdeal (hBranchBBwdRefIdeal := hBranchBBwdRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_NormMid (hNormMid := hNormMid)
    ∧ quiescent_NormMidIdeal (hNormMidIdeal := hNormMidIdeal)
    ∧ quiescent_NormMidRefIdeal (hNormMidRefIdeal := hNormMidRefIdeal)
    ∧ quiescent_NormLoss (hNormLoss := hNormLoss)
    ∧ quiescent_NormLossIdeal (hNormLossIdeal := hNormLossIdeal)
    ∧ quiescent_NormLossRefIdeal (hNormLossRefIdeal := hNormLossRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_BranchBFwd (hBranchBFwd := hBranchBFwd)
    ∧ quiescent_BranchBFwdIdeal (hBranchBFwdIdeal := hBranchBFwdIdeal)
    ∧ quiescent_BranchBFwdRefIdeal (hBranchBFwdRefIdeal := hBranchBFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ preserves_AttnBwd_AttnBwdIdeal
    ∧ algebraic_AttnBwdIdeal_AttnRefIdeal_pre_finite_queries_and_keys (hAttnBwdIdeal := hAttnBwdIdeal) (hAttnRefIdeal := hAttnRefIdeal) (hPre_finite_queries_and_keys := hPre_finite_queries_and_keys)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_ODx_ODxIdeal
    ∧ algebraic_ODxIdeal_ODxRefIdeal (hODxIdeal := hODxIdeal) (hODxRefIdeal := hODxRefIdeal)
    ∧ preserves_ODw_ODwIdeal
    ∧ algebraic_ODwIdeal_ODwRefIdeal (hODwIdeal := hODwIdeal) (hODwRefIdeal := hODwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_MmIn_MmInIdeal
    ∧ algebraic_MmInIdeal_MmInRefIdeal (hMmInIdeal := hMmInIdeal) (hMmInRefIdeal := hMmInRefIdeal)
    ∧ preserves_MmUp_MmUpIdeal
    ∧ algebraic_MmUpIdeal_MmUpRefIdeal (hMmUpIdeal := hMmUpIdeal) (hMmUpRefIdeal := hMmUpRefIdeal)
    ∧ preserves_MmOut_MmOutIdeal
    ∧ algebraic_MmOutIdeal_MmOutRefIdeal (hMmOutIdeal := hMmOutIdeal) (hMmOutRefIdeal := hMmOutRefIdeal)
    ∧ preserves_MmO_MmOIdeal
    ∧ algebraic_MmOIdeal_MmORefIdeal (hMmOIdeal := hMmOIdeal) (hMmORefIdeal := hMmORefIdeal)
    ∧ preserves_MmKv_MmKvIdeal
    ∧ algebraic_MmKvIdeal_MmKvRefIdeal (hMmKvIdeal := hMmKvIdeal) (hMmKvRefIdeal := hMmKvRefIdeal)
    ∧ preserves_MmDown_MmDownIdeal
    ∧ algebraic_MmDownIdeal_MmDownRefIdeal (hMmDownIdeal := hMmDownIdeal) (hMmDownRefIdeal := hMmDownRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_NormBwdTop_NormBwdTopIdeal
    ∧ algebraic_NormBwdTopIdeal_NormBwdTopRefIdeal (hNormBwdTopIdeal := hNormBwdTopIdeal) (hNormBwdTopRefIdeal := hNormBwdTopRefIdeal)
    ∧ preserves_NormBwdMem_NormBwdMemIdeal
    ∧ algebraic_NormBwdMemIdeal_NormBwdMemRefIdeal (hNormBwdMemIdeal := hNormBwdMemIdeal) (hNormBwdMemRefIdeal := hNormBwdMemRefIdeal)
    ∧ preserves_NormBwdLast_NormBwdLastIdeal
    ∧ algebraic_NormBwdLastIdeal_NormBwdLastRefIdeal (hNormBwdLastIdeal := hNormBwdLastIdeal) (hNormBwdLastRefIdeal := hNormBwdLastRefIdeal)
    ∧ preserves_NormBwdMid_NormBwdMidIdeal
    ∧ algebraic_NormBwdMidIdeal_NormBwdMidRefIdeal (hNormBwdMidIdeal := hNormBwdMidIdeal) (hNormBwdMidRefIdeal := hNormBwdMidRefIdeal)
    ∧ preserves_BranchBBwd_BranchBBwdIdeal
    ∧ algebraic_BranchBBwdIdeal_BranchBBwdRefIdeal (hBranchBBwdIdeal := hBranchBBwdIdeal) (hBranchBBwdRefIdeal := hBranchBBwdRefIdeal)
    ∧ preserves_NormFirst_NormFirstIdeal
    ∧ algebraic_NormFirstIdeal_NormFirstRefIdeal (hNormFirstIdeal := hNormFirstIdeal) (hNormFirstRefIdeal := hNormFirstRefIdeal)
    ∧ preserves_NormMem_NormMemIdeal
    ∧ algebraic_NormMemIdeal_NormMemRefIdeal (hNormMemIdeal := hNormMemIdeal) (hNormMemRefIdeal := hNormMemRefIdeal)
    ∧ preserves_NormMid_NormMidIdeal
    ∧ algebraic_NormMidIdeal_NormMidRefIdeal (hNormMidIdeal := hNormMidIdeal) (hNormMidRefIdeal := hNormMidRefIdeal)
    ∧ preserves_NormLoss_NormLossIdeal
    ∧ algebraic_NormLossIdeal_NormLossRefIdeal (hNormLossIdeal := hNormLossIdeal) (hNormLossRefIdeal := hNormLossRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_BranchBFwd_BranchBFwdIdeal
    ∧ algebraic_BranchBFwdIdeal_BranchBFwdRefIdeal (hBranchBFwdIdeal := hBranchBFwdIdeal) (hBranchBFwdRefIdeal := hBranchBFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamKv_AdamKvIdeal
    ∧ algebraic_AdamKvIdeal_AdamKvRefIdeal (hAdamKvIdeal := hAdamKvIdeal) (hAdamKvRefIdeal := hAdamKvRefIdeal)
-- ==== Pre_finite_queries_and_keys.lean ====
abbrev S8192x12288 : Shape := ⟨2, ![8192, 12288]⟩
abbrev S8192x1024 : Shape := ⟨2, ![8192, 1024]⟩
abbrev S256x2048 : Shape := ⟨2, ![256, 2048]⟩
abbrev S256x1024 : Shape := ⟨2, ![256, 1024]⟩
abbrev S_ : Shape := ⟨0, ![]⟩

class Facts : Prop where
  slices_S8192x12288_S8192x1024_0_5120 : S8192x12288.Slices ![0, 5120] S8192x1024
  bitsLt_bf16_f32 : FTy.bits .bf16 < FTy.bits .f32
  slices_S256x2048_S256x1024_0_0 : S256x2048.Slices ![0, 0] S256x1024
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x12288 .bf16) (main_arg1 : FVec F S8192x1024 .bf16) (main_arg2 : FVec F S8192x12288 .bf16) (main_arg3 : FVec F S256x2048 .bf16) : IVec S8192x1024 1 × IVec S256x1024 1 :=
  let main_v0 : FVec F S8192x1024 .bf16 := (extractStridedSlice S8192x1024 ![0, 5120] · slices_S8192x12288_S8192x1024_0_5120) main_arg2
  let main_v1 : FVec F S8192x1024 .f32 := (extf .f32 · bitsLt_bf16_f32) main_v0
  let main_v2 : FVec F S256x1024 .bf16 := (extractStridedSlice S256x1024 ![0, 0] · slices_S256x2048_S256x1024_0_0) main_arg3
  let main_v3 : FVec F S256x1024 .f32 := (extf .f32 · bitsLt_bf16_f32) main_v2
  let main_v4 : FVec F S8192x1024 .f32 := Host.absf main_v1
  let main_cst : FVec F S_ .f32 := constant S_ .f32 0x7F800000#32
  let main_v5 : FVec F S8192x1024 .f32 := broadcastInDim S8192x1024 ![] bcast_S_S8192x1024 main_cst
  let main_v6 : IVec S8192x1024 1 := cmpf .olt main_v4 main_v5
  let main_v7 : FVec F S256x1024 .f32 := Host.absf main_v3
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  (main_v6, main_v9)
-- ==== AttnBwd.lean ====
abbrev S8192x12288 : Shape := ⟨2, ![8192, 12288]⟩
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S256x2048, .bf16⟩
  | .hbm, ⟨4, _⟩ => ⟨S8192x12288, .bf16⟩
  | .hbm, ⟨5, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnRefIdeal.lean ====
abbrev S8192x12288 : Shape := ⟨2, ![8192, 12288]⟩
abbrev S8192x1024 : Shape := ⟨2, ![8192, 1024]⟩
abbrev S256x2048 : Shape := ⟨2, ![256, 2048]⟩
abbrev S1x256x2048 : Shape := ⟨3, ![1, 256, 2048]⟩
abbrev S1x256x1024 : Shape := ⟨3, ![1, 256, 1024]⟩
abbrev S1x8192x1024 : Shape := ⟨3, ![1, 8192, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x4x256x256 : Shape := ⟨4, ![1, 4, 256, 256]⟩
abbrev S4x8192 : Shape := ⟨2, ![4, 8192]⟩
abbrev S8192x5120 : Shape := ⟨2, ![8192, 5120]⟩
abbrev S8192x6144 : Shape := ⟨2, ![8192, 6144]⟩

abbrev nBuf : Space → Nat
  | .hbm => 99
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S256x2048, .bf16⟩
  | .hbm, ⟨4, _⟩ => ⟨S8192x1024, .bf16⟩
  | .hbm, ⟨5, _⟩ => ⟨S8192x1024, .f32⟩
  | .hbm, ⟨6, _⟩ => ⟨S256x2048, .f32⟩
  | .hbm, ⟨7, _⟩ => ⟨S1x256x2048, .f32⟩
  | .hbm, ⟨8, _⟩ => ⟨S1x256x1024, .f32⟩
  | .hbm, ⟨9, _⟩ => ⟨S1x256x1024, .f32⟩
  | .hbm, ⟨10, _⟩ => ⟨S1x8192x1024, .f32⟩
  | .hbm, ⟨11, _⟩ => ⟨S1x8192x4x256, .f32⟩
  | .hbm, ⟨12, _⟩ => ⟨S1x256x4x256, .f32⟩
  | .hbm, ⟨13, _⟩ => ⟨S1x256x4x256, .f32⟩
  | .hbm, ⟨14, _⟩ => ⟨S1x4x8192x256, .f32⟩
  | .hbm, ⟨15, _⟩ => ⟨S_, .f32⟩
  | .hbm, ⟨16, _⟩ => ⟨S1x4x8192x256, .f32⟩
  | .hbm, ⟨17, _⟩ => ⟨S1x4x8192x256, .f32⟩
  | .hbm, ⟨18, _⟩ => ⟨S_, .f32⟩
  | .hbm, ⟨19, _⟩ => ⟨S1x4x8192, .f32⟩
  | .hbm, ⟨20, _⟩ => ⟨S1x4x8192x1, .f32⟩
  | .hbm, ⟨21, _⟩ => ⟨S1x4x8192x256, .f32⟩
  | .hbm, ⟨22, _⟩ => ⟨S1x4x8192x256, .i1⟩
  | .hbm, ⟨23, _⟩ => ⟨S1x4x8192x256, .f32⟩
  | .hbm, ⟨24, _⟩ => ⟨S_, .f32⟩
  | .hbm, ⟨25, _⟩ => ⟨S1x4x8192, .f32⟩
  | .hbm, ⟨26, _⟩ => ⟨S_, .f32⟩
  | .hbm, ⟨27, _⟩ => ⟨S1x4x8192, .f32⟩
  | .hbm, ⟨28, _⟩ => ⟨S1x4x8192, .f32⟩
  | .hbm, ⟨29, _⟩ => ⟨S_, .f32⟩
  | .hbm, ⟨30, _⟩ => ⟨S1x4x8192, .f32⟩
  | .hbm, ⟨31, _⟩ => ⟨S1x4x8192, .i1⟩
  | .hbm, ⟨32, _⟩ => ⟨S_, .f32⟩
  | .hbm, ⟨33, _⟩ => ⟨S1x4x8192, .f32⟩
  | .hbm, ⟨34, _⟩ => ⟨S1x4x8192, .i1⟩
  | .hbm, ⟨35, _⟩ => ⟨S_, .f32⟩
  | .hbm, ⟨36, _⟩ => ⟨S1x4x8192, .f32⟩
  | .hbm, ⟨37, _⟩ => ⟨S_, .f32⟩
  | .hbm, ⟨38, _⟩ => ⟨S1x4x8192, .f32⟩
  | .hbm, ⟨39, _⟩ => ⟨S_, .f32⟩
  | .hbm, ⟨40, _⟩ => ⟨S1x4x8192, .f32⟩
  | .hbm, ⟨41, _⟩ => ⟨S1x4x8192, .f32⟩
  | .hbm, ⟨42, _⟩ => ⟨S1x4x8192, .f32⟩
  | .hbm, ⟨43, _⟩ => ⟨S1x4x8192x1, .f32⟩
  | .hbm, ⟨44, _⟩ => ⟨S1x4x8192x256, .f32⟩
  | .hbm, ⟨45, _⟩ => ⟨S1x4x8192x256, .f32⟩
  | .hbm, ⟨46, _⟩ => ⟨S1x4x8192x256, .f32⟩
  | .hbm, ⟨47, _⟩ => ⟨S_, .f32⟩
  | .hbm, ⟨48, _⟩ => ⟨S1x4x8192, .f32⟩
  | .hbm, ⟨49, _⟩ => ⟨S1x4x8192x1, .f32⟩
  | .hbm, ⟨50, _⟩ => ⟨S1x4x8192x256, .f32⟩
  | .hbm, ⟨51, _⟩ => ⟨S1x4x8192x256, .f32⟩
  | .hbm, ⟨52, _⟩ => ⟨S1x4x8192x1, .f32⟩
  | .hbm, ⟨53, _⟩ => ⟨S_, .f32⟩
  | .hbm, ⟨54, _⟩ => ⟨S1x4x8192x1, .f32⟩
  | .hbm, ⟨55, _⟩ => ⟨S1x4x8192x1, .f32⟩
  | .hbm, ⟨56, _⟩ => ⟨S1x4x256x8192, .f32⟩
  | .hbm, ⟨57, _⟩ => ⟨S1x8192x4x256, .f32⟩
  | .hbm, ⟨58, _⟩ => ⟨S8192x1024, .f32⟩
  | .hbm, ⟨59, _⟩ => ⟨S8192x1024, .f32⟩
  | .hbm, ⟨60, _⟩ => ⟨S1x8192x4x256, .f32⟩
  | .hbm, ⟨61, _⟩ => ⟨S1x4x256x8192, .f32⟩
  | .hbm, ⟨62, _⟩ => ⟨S1x4x8192x256, .f32⟩
  | .hbm, ⟨63, _⟩ => ⟨S1x4x256x256, .f32⟩
  | .hbm, ⟨64, _⟩ => ⟨S1x256x4x256, .f32⟩
  | .hbm, ⟨65, _⟩ => ⟨S1x4x8192x256, .f32⟩
  | .hbm, ⟨66, _⟩ => ⟨S1x4x8192x256, .f32⟩
  | .hbm, ⟨67, _⟩ => ⟨S1x4x8192x256, .f32⟩
  | .hbm, ⟨68, _⟩ => ⟨S_, .f32⟩
  | .hbm, ⟨69, _⟩ => ⟨S1x4x8192, .f32⟩
  | .hbm, ⟨70, _⟩ => ⟨S1x4x8192x1, .f32⟩
  | .hbm, ⟨71, _⟩ => ⟨S1x4x8192x1, .f32⟩
  | .hbm, ⟨72, _⟩ => ⟨S1x4x8192x256, .f32⟩
  | .hbm, ⟨73, _⟩ => ⟨S1x4x8192x256, .f32⟩
  | .hbm, ⟨74, _⟩ => ⟨S_, .f32⟩
  | .hbm, ⟨75, _⟩ => ⟨S4x8192, .f32⟩
  | .hbm, ⟨76, _⟩ => ⟨S1x4x8192, .f32⟩
  | .hbm, ⟨77, _⟩ => ⟨S1x4x8192x256, .f32⟩
  | .hbm, ⟨78, _⟩ => ⟨S1x4x8192x256, .f32⟩
  | .hbm, ⟨79, _⟩ => ⟨S1x4x8192x256, .f32⟩
  | .hbm, ⟨80, _⟩ => ⟨S_, .f32⟩
  | .hbm, ⟨81, _⟩ => ⟨S1x4x8192x256, .f32⟩
  | .hbm, ⟨82, _⟩ => ⟨S1x4x8192x256, .f32⟩
  | .hbm, ⟨83, _⟩ => ⟨S1x4x256x256, .f32⟩
  | .hbm, ⟨84, _⟩ => ⟨S1x256x4x256, .f32⟩
  | .hbm, ⟨85, _⟩ => ⟨S1x4x8192x256, .f32⟩
  | .hbm, ⟨86, _⟩ => ⟨S1x8192x4x256, .f32⟩
  | .hbm, ⟨87, _⟩ => ⟨S1x256x1024, .f32⟩
  | .hbm, ⟨88, _⟩ => ⟨S1x256x1024, .f32⟩
  | .hbm, ⟨89, _⟩ => ⟨S1x8192x1024, .f32⟩
  | .hbm, ⟨90, _⟩ => ⟨S_, .f32⟩
  | .hbm, ⟨91, _⟩ => ⟨S8192x1024, .f32⟩
  | .hbm, ⟨92, _⟩ => ⟨S1x256x2048, .f32⟩
  | .hbm, ⟨93, _⟩ => ⟨S_, .f32⟩
  | .hbm, ⟨94, _⟩ => ⟨S256x2048, .f32⟩
  | .hbm, ⟨95, _⟩ => ⟨S8192x5120, .bf16⟩
  | .hbm, ⟨96, _⟩ => ⟨S8192x1024, .bf16⟩
  | .hbm, ⟨97, _⟩ => ⟨S8192x6144, .bf16⟩
  | .hbm, ⟨98, _⟩ => ⟨S8192x12288, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== DownDx.lean ====
abbrev S8192x2048 : Shape := ⟨2, ![8192, 2048]⟩
abbrev S8192x8192 : Shape := ⟨2, ![8192, 8192]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S1x8192x2048, .bf16⟩
  | .hbm, ⟨5, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x8192, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S8192x8192 : Shape := ⟨2, ![8192, 8192]⟩
abbrev S8192x2048 : Shape := ⟨2, ![8192, 2048]⟩
abbrev S1x8192x2048 : Shape := ⟨3, ![1, 8192, 2048]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S1x8192x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S1x8192x2048 : Shape := ⟨3, ![1, 8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | .hbm, ⟨14, _⟩ => ⟨S1x8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== UpDx.lean ====
abbrev S8192x8192 : Shape := ⟨2, ![8192, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8192x2048 : Shape := ⟨2, ![8192, 2048]⟩
abbrev S8192x8192 : Shape := ⟨2, ![8192, 8192]⟩
abbrev S4x2048x2048 : Shape := ⟨3, ![4, 2048, 2048]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S8192x12288 : Shape := ⟨2, ![8192, 12288]⟩
abbrev S2048x12288 : Shape := ⟨2, ![2048, 12288]⟩
abbrev S2048x4x3072 : Shape := ⟨3, ![2048, 4, 3072]⟩
abbrev S4x2048x3072 : Shape := ⟨3, ![4, 2048, 3072]⟩
abbrev S8192x2048 : Shape := ⟨2, ![8192, 2048]⟩
abbrev S1024x3072 : Shape := ⟨2, ![1024, 3072]⟩
abbrev S1x1024x3072 : Shape := ⟨3, ![1, 1024, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .f32⟩
  | .hbm, ⟨2, _⟩ => ⟨S2048x12288, .bf16⟩
  | .hbm, ⟨3, _⟩ => ⟨S2048x4x3072, .bf16⟩
  | .hbm, ⟨4, _⟩ => ⟨S4x2048x3072, .bf16⟩
  | .hbm, ⟨5, _⟩ => ⟨S8192x2048, .bf16⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x12288 : Shape := ⟨2, ![8192, 12288]⟩
abbrev S2048x12288 : Shape := ⟨2, ![2048, 12288]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .f32⟩
  | .hbm, ⟨2, _⟩ => ⟨S_, .f32⟩
  | .hbm, ⟨3, _⟩ => ⟨S8192x2048, .f32⟩
  | .hbm, ⟨4, _⟩ => ⟨S8192x12288, .f32⟩
  | .hbm, ⟨5, _⟩ => ⟨S8192x12288, .f32⟩
  | .hbm, ⟨6, _⟩ => ⟨S8192x2048, .f32⟩
  | .hbm, ⟨7, _⟩ => ⟨S8192x2048, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S8192x2048 : Shape := ⟨2, ![8192, 2048]⟩
abbrev S8192x12288 : Shape := ⟨2, ![8192, 12288]⟩
abbrev S4x2048x3072 : Shape := ⟨3, ![4, 2048, 3072]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S4x2048x3072, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩
abbrev S2048x4x3072 : Shape := ⟨3, ![2048, 4, 3072]⟩
abbrev S4x2048x3072 : Shape := ⟨3, ![4, 2048, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S_, .f32⟩
  | .hbm, ⟨3, _⟩ => ⟨S2048x12288, .f32⟩
  | .hbm, ⟨4, _⟩ => ⟨S8192x2048, .f32⟩
  | .hbm, ⟨5, _⟩ => ⟨S8192x12288, .f32⟩
  | .hbm, ⟨6, _⟩ => ⟨S8192x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | .hbm, ⟨10, _⟩ => ⟨S2048x4x3072, .bf16⟩
  | .hbm, ⟨11, _⟩ => ⟨S4x2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ODx.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ODw.lean ====
abbrev S8192x2048 : Shape := ⟨2, ![8192, 2048]⟩
abbrev S1x2048x2048 : Shape := ⟨3, ![1, 2048, 2048]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODwRefIdeal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDx.lean ====
abbrev S8192x2048 : Shape := ⟨2, ![8192, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S8192x1024 : Shape := ⟨2, ![8192, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S1024x2048, .bf16⟩
  | .hbm, ⟨3, _⟩ => ⟨S1024x4x512, .bf16⟩
  | .hbm, ⟨4, _⟩ => ⟨S4x1024x512, .bf16⟩
  | .hbm, ⟨5, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x1024, .f32⟩
  | .hbm, ⟨7, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x1024 : Shape := ⟨2, ![8192, 1024]⟩
abbrev S8192x2048 : Shape := ⟨2, ![8192, 2048]⟩
abbrev S4x1024x512 : Shape := ⟨3, ![4, 1024, 512]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x4x512, .bf16⟩
  | .hbm, ⟨11, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvDx.lean ====
abbrev S256x2048 : Shape := ⟨2, ![256, 2048]⟩
abbrev S2048x2048 : Shape := ⟨2, ![2048, 2048]⟩
abbrev S1x2048x2048 : Shape := ⟨3, ![1, 2048, 2048]⟩
abbrev S1x1024x2048 : Shape := ⟨3, ![1, 1024, 2048]⟩
abbrev S256x1024 : Shape := ⟨2, ![256, 1024]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S256x2048, .f32⟩
  | .local _ .vmem, ⟨0, _⟩ => ⟨S256x2048, .f32⟩
  | .local _ .vmem, ⟨1, _⟩ => ⟨S1x1024x2048, .bf16⟩
  | .local _ .vmem, ⟨2, _⟩ => ⟨S1x1024x2048, .bf16⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvDw.lean ====
abbrev S256x2048 : Shape := ⟨2, ![256, 2048]⟩
abbrev S1x2048x2048 : Shape := ⟨3, ![1, 2048, 2048]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S1x2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1024x1024, .bf16⟩
  | .local _ .vmem, ⟨5, _⟩ => ⟨S1x1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S256x2048 : Shape := ⟨2, ![256, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S1x2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmIn.lean ====
abbrev S8192x2048 : Shape := ⟨2, ![8192, 2048]⟩
abbrev S2048x12288 : Shape := ⟨2, ![2048, 12288]⟩
abbrev S2048x4x3072 : Shape := ⟨3, ![2048, 4, 3072]⟩
abbrev S4x2048x3072 : Shape := ⟨3, ![4, 2048, 3072]⟩
abbrev S8192x12288 : Shape := ⟨2, ![8192, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .f32⟩
  | .hbm, ⟨2, _⟩ => ⟨S2048x12288, .bf16⟩
  | .hbm, ⟨3, _⟩ => ⟨S2048x4x3072, .bf16⟩
  | .hbm, ⟨4, _⟩ => ⟨S4x2048x3072, .bf16⟩
  | .hbm, ⟨5, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .f32⟩
  | .hbm, ⟨2, _⟩ => ⟨S8192x2048, .f32⟩
  | .hbm, ⟨3, _⟩ => ⟨S8192x12288, .f32⟩
  | .hbm, ⟨4, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmUp.lean ====
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmOut.lean ====
abbrev S8192x1024 : Shape := ⟨2, ![8192, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S1024x2048, .bf16⟩
  | .hbm, ⟨3, _⟩ => ⟨S1024x4x512, .bf16⟩
  | .hbm, ⟨4, _⟩ => ⟨S4x1024x512, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x1024, .f32⟩
  | .hbm, ⟨3, _⟩ => ⟨S8192x2048, .f32⟩
  | .hbm, ⟨4, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmO.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmORefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmKv.lean ====
abbrev S256x2048 : Shape := ⟨2, ![256, 2048]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S256x2048, .bf16⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmKvRefIdeal.lean ====
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S256x2048, .f32⟩
  | .hbm, ⟨4, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDown.lean ====
abbrev S8192x8192 : Shape := ⟨2, ![8192, 8192]⟩
abbrev S8192x2048 : Shape := ⟨2, ![8192, 2048]⟩
abbrev S1x8192x2048 : Shape := ⟨3, ![1, 8192, 2048]⟩
abbrev S512x8192 : Shape := ⟨2, ![512, 8192]⟩
abbrev S1x8192x512 : Shape := ⟨3, ![1, 8192, 512]⟩
abbrev S512x512 : Shape := ⟨2, ![512, 512]⟩
abbrev S8192x512 : Shape := ⟨2, ![8192, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S1x8192x2048, .bf16⟩
  | .hbm, ⟨4, _⟩ => ⟨S8192x2048, .bf16⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .bf16⟩
  | .local _ .vmem, ⟨5, _⟩ => ⟨S512x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MergeBwd.lean ====
abbrev S8192x2048 : Shape := ⟨2, ![8192, 2048]⟩
abbrev S8192x12288 : Shape := ⟨2, ![8192, 12288]⟩
abbrev S256x2048 : Shape := ⟨2, ![256, 2048]⟩
abbrev S256x6144 : Shape := ⟨2, ![256, 6144]⟩
abbrev S8192x6144 : Shape := ⟨2, ![8192, 6144]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x12288, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x6144, .bf16⟩
  | .local _ .vmem, ⟨0, _⟩ => ⟨S256x2048, .bf16⟩
  | .local _ .vmem, ⟨1, _⟩ => ⟨S256x2048, .bf16⟩
  | .local _ .vmem, ⟨2, _⟩ => ⟨S256x6144, .bf16⟩
  | .local _ .vmem, ⟨3, _⟩ => ⟨S256x6144, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x6144, .bf16⟩
  | .local _ .vmem, ⟨11, _⟩ => ⟨S256x6144, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S8192x2048 : Shape := ⟨2, ![8192, 2048]⟩
abbrev S8192x12288 : Shape := ⟨2, ![8192, 12288]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x6144, .bf16⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S_, .f32⟩
  | .hbm, ⟨19, _⟩ => ⟨S8192x6144, .f32⟩
  | .hbm, ⟨20, _⟩ => ⟨S8192x6144, .f32⟩
  | .hbm, ⟨21, _⟩ => ⟨S8192x6144, .f32⟩
  | .hbm, ⟨22, _⟩ => ⟨S8192x3x2048, .f32⟩
  | .hbm, ⟨23, _⟩ => ⟨S8192x1x2048, .f32⟩
  | .hbm, ⟨24, _⟩ => ⟨S8192x2048, .f32⟩
  | .hbm, ⟨25, _⟩ => ⟨S8192x2048, .f32⟩
  | .hbm, ⟨26, _⟩ => ⟨S8192x1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1x2048, .f32⟩
  | .hbm, ⟨38, _⟩ => ⟨S_, .f32⟩
  | .hbm, ⟨39, _⟩ => ⟨S8192x3x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S_, .f32⟩
  | .hbm, ⟨44, _⟩ => ⟨S8192x3x2048, .f32⟩
  | .hbm, ⟨45, _⟩ => ⟨S8192x3x2048, .f32⟩
  | .hbm, ⟨46, _⟩ => ⟨S8192x2048, .f32⟩
  | .hbm, ⟨47, _⟩ => ⟨S8192x2048, .f32⟩
  | .hbm, ⟨48, _⟩ => ⟨S8192x1x2048, .f32⟩
  | .hbm, ⟨49, _⟩ => ⟨S_, .f32⟩
  | .hbm, ⟨50, _⟩ => ⟨S8192x3x2048, .f32⟩
  | .hbm, ⟨51, _⟩ => ⟨S8192x3x2048, .f32⟩
  | .hbm, ⟨52, _⟩ => ⟨S8192x6144, .f32⟩
  | .hbm, ⟨53, _⟩ => ⟨S8192x6144, .f32⟩
  | .hbm, ⟨54, _⟩ => ⟨S8192x6144, .bf16⟩
  | .hbm, ⟨55, _⟩ => ⟨S8192x2048, .bf16⟩
  | .hbm, ⟨56, _⟩ => ⟨S8192x2048, .bf16⟩
  | .hbm, ⟨57, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== NormBwdTop.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048, .f32⟩
  | .hbm, ⟨3, _⟩ => ⟨S1x2048, .f32⟩
  | .hbm, ⟨4, _⟩ => ⟨S8192x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBwdTopRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== NormBwdMem.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormBwdMemRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S2048, .f32⟩
  | .hbm, ⟨25, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== NormBwdLast.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdLastRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormBwdMid.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 30
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S8192x2048, .bf16⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S1x2048, .f32⟩
  | .hbm, ⟨26, _⟩ => ⟨S8192x2048, .f32⟩
  | .hbm, ⟨27, _⟩ => ⟨S8192x2048, .bf16⟩
  | .hbm, ⟨28, _⟩ => ⟨S1x2048, .f32⟩
  | .hbm, ⟨29, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdMidRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S8192x2048, .bf16⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S2048, .f32⟩
  | .hbm, ⟨84, _⟩ => ⟨S8192x2048, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x2048, .f32⟩
  | .hbm, ⟨89, _⟩ => ⟨S8192x2048, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S8192x2048, .bf16⟩
  | .hbm, ⟨102, _⟩ => ⟨S1x2048, .f32⟩
  | .hbm, ⟨103, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== BranchBBwd.lean ====
abbrev S8192x12288 : Shape := ⟨2, ![8192, 12288]⟩
abbrev S8192x1024 : Shape := ⟨2, ![8192, 1024]⟩
abbrev S3x1024 : Shape := ⟨2, ![3, 1024]⟩
abbrev S256x1024 : Shape := ⟨2, ![256, 1024]⟩
abbrev S32x1024 : Shape := ⟨2, ![32, 1024]⟩
abbrev S288x1024 : Shape := ⟨2, ![288, 1024]⟩
abbrev S3x256x1024 : Shape := ⟨3, ![3, 256, 1024]⟩
abbrev S1x1024 : Shape := ⟨2, ![1, 1024]⟩
abbrev S1024 : Shape := ⟨1, ![1024]⟩
abbrev S1x256x1024 : Shape := ⟨3, ![1, 256, 1024]⟩

abbrev nBuf : Space → Nat
  | .hbm => 6
  | .vmem => 23
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S3x1024, .f32⟩
  | .hbm, ⟨4, _⟩ => ⟨S8192x12288, .bf16⟩
  | .hbm, ⟨5, _⟩ => ⟨S3x1024, .f32⟩
  | .local _ .vmem, ⟨0, _⟩ => ⟨S256x1024, .bf16⟩
  | .local _ .vmem, ⟨1, _⟩ => ⟨S256x1024, .bf16⟩
  | .local _ .vmem, ⟨2, _⟩ => ⟨S32x1024, .bf16⟩
  | .local _ .vmem, ⟨3, _⟩ => ⟨S32x1024, .bf16⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S32x1024, .bf16⟩
  | .local _ .vmem, ⟨13, _⟩ => ⟨S32x1024, .bf16⟩
  | .local _ .vmem, ⟨14, _⟩ => ⟨S32x1024, .bf16⟩
  | .local _ .vmem, ⟨15, _⟩ => ⟨S32x1024, .bf16⟩
  | .local _ .vmem, ⟨16, _⟩ => ⟨S3x1024, .f32⟩
  | .local _ .vmem, ⟨17, _⟩ => ⟨S256x1024, .bf16⟩
  | .local _ .vmem, ⟨18, _⟩ => ⟨S256x1024, .bf16⟩
  | .local _ .vmem, ⟨19, _⟩ => ⟨S3x1024, .f32⟩
  | .local _ .vmem, ⟨20, _⟩ => ⟨S288x1024, .f32⟩
  | .local _ .vmem, ⟨21, _⟩ => ⟨S288x1024, .f32⟩
  | .local _ .vmem, ⟨22, _⟩ => ⟨S3x256x1024, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![32, 3], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_28 : BitVec 32 := 0#32
  let v45 : BitVec 1 := Scalar.cmpi .eq arg0 c0_i32_28
  let v46 : BitVec 32 := Scalar.extui v45
  let c0_i32_29 : BitVec 32 := 0#32
  let v47 : BitVec 1 := Scalar.cmpi .ne v46 c0_i32_29
  v47

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== BranchBBwdRefIdeal.lean ====
abbrev S8192x12288 : Shape := ⟨2, ![8192, 12288]⟩
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8192x2048 : Shape := ⟨2, ![8192, 2048]⟩
abbrev S8192x7168 : Shape := ⟨2, ![8192, 7168]⟩

abbrev nBuf : Space → Nat
  | .hbm => 96
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x1024, .bf16⟩
  | .hbm, ⟨2, _⟩ => ⟨S8192x12288, .bf16⟩
  | .hbm, ⟨3, _⟩ => ⟨S3x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S2x1024, .f32⟩
  | .hbm, ⟨13, _⟩ => ⟨S8194x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S8194x1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S8194x1024, .f32⟩
  | .hbm, ⟨66, _⟩ => ⟨S8194x1024, .f32⟩
  | .hbm, ⟨67, _⟩ => ⟨S1x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S8194x1024, .f32⟩
  | .hbm, ⟨81, _⟩ => ⟨S8194x1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S2x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x2048, .bf16⟩
  | .hbm, ⟨91, _⟩ => ⟨S8192x1024, .bf16⟩
  | .hbm, ⟨92, _⟩ => ⟨S8192x1024, .bf16⟩
  | .hbm, ⟨93, _⟩ => ⟨S8192x1024, .bf16⟩
  | .hbm, ⟨94, _⟩ => ⟨S8192x7168, .bf16⟩
  | .hbm, ⟨95, _⟩ => ⟨S8192x12288, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== NormFirst.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMem.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMid.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormMidRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== NormLoss.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormLossRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== MergeFwd.lean ====
abbrev S8192x12288 : Shape := ⟨2, ![8192, 12288]⟩
abbrev S8192x2048 : Shape := ⟨2, ![8192, 2048]⟩
abbrev S256x6144 : Shape := ⟨2, ![256, 6144]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x12288, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S8192x12288 : Shape := ⟨2, ![8192, 12288]⟩
abbrev S8192x2048 : Shape := ⟨2, ![8192, 2048]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x6144, .bf16⟩
  | .hbm, ⟨5, _⟩ => ⟨S8192x6144, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x3x2048, .f32⟩
  | .hbm, ⟨18, _⟩ => ⟨S8192x1x2048, .f32⟩
  | .hbm, ⟨19, _⟩ => ⟨S8192x2048, .f32⟩
  | .hbm, ⟨20, _⟩ => ⟨S8192x2048, .f32⟩
  | .hbm, ⟨21, _⟩ => ⟨S8192x1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== BranchBFwd.lean ====
abbrev S8192x12288 : Shape := ⟨2, ![8192, 12288]⟩
abbrev S3x1024 : Shape := ⟨2, ![3, 1024]⟩
abbrev S8192x1024 : Shape := ⟨2, ![8192, 1024]⟩
abbrev S256x1024 : Shape := ⟨2, ![256, 1024]⟩
abbrev S32x1024 : Shape := ⟨2, ![32, 1024]⟩
abbrev S288x1024 : Shape := ⟨2, ![288, 1024]⟩
abbrev S1x1024 : Shape := ⟨2, ![1, 1024]⟩

abbrev nBuf : Space → Nat
  | .hbm => 3
  | .vmem => 14
  | .smem => 0
  | _ => 0

abbrev bufTy : (tb : Table) → Fin (tcTables nBuf tb) → BufTy
  | .hbm, ⟨0, _⟩ => ⟨S8192x12288, .bf16⟩
  | .hbm, ⟨1, _⟩ => ⟨S3x1024, .f32⟩
  | .hbm, ⟨2, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .bf16⟩
  | .local _ .vmem, ⟨9, _⟩ => ⟨S32x1024, .bf16⟩
  | .local _ .vmem, ⟨10, _⟩ => ⟨S3x1024, .f32⟩
  | .local _ .vmem, ⟨11, _⟩ => ⟨S256x1024, .bf16⟩
  | .local _ .vmem, ⟨12, _⟩ => ⟨S256x1024, .bf16⟩
  | .local _ .vmem, ⟨13, _⟩ => ⟨S288x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BranchBFwdRefIdeal.lean ====
abbrev S8192x12288 : Shape := ⟨2, ![8192, 12288]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S3x1024, .f32⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S2x1024, .f32⟩
  | .hbm, ⟨11, _⟩ => ⟨S8194x1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== AttnFwd.lean ====
abbrev S8192x12288 : Shape := ⟨2, ![8192, 12288]⟩
abbrev S256x2048 : Shape := ⟨2, ![256, 2048]⟩
abbrev S8192x1024 : Shape := ⟨2, ![8192, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdRefIdeal.lean ====
abbrev S8192x12288 : Shape := ⟨2, ![8192, 12288]⟩
abbrev S256x2048 : Shape := ⟨2, ![256, 2048]⟩
abbrev S8192x1024 : Shape := ⟨2, ![8192, 1024]⟩
abbrev S1x256x2048 : Shape := ⟨3, ![1, 256, 2048]⟩
abbrev S1x256x1024 : Shape := ⟨3, ![1, 256, 1024]⟩
abbrev S1x8192x1024 : Shape := ⟨3, ![1, 8192, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S256x2048, .bf16⟩
  | .hbm, ⟨2, _⟩ => ⟨S8192x1024, .bf16⟩
  | .hbm, ⟨3, _⟩ => ⟨S8192x1024, .f32⟩
  | .hbm, ⟨4, _⟩ => ⟨S256x2048, .f32⟩
  | .hbm, ⟨5, _⟩ => ⟨S1x256x2048, .f32⟩
  | .hbm, ⟨6, _⟩ => ⟨S1x256x1024, .f32⟩
  | .hbm, ⟨7, _⟩ => ⟨S1x256x1024, .f32⟩
  | .hbm, ⟨8, _⟩ => ⟨S1x8192x1024, .f32⟩
  | .hbm, ⟨9, _⟩ => ⟨S1x8192x4x256, .f32⟩
  | .hbm, ⟨10, _⟩ => ⟨S1x256x4x256, .f32⟩
  | .hbm, ⟨11, _⟩ => ⟨S1x256x4x256, .f32⟩
  | .hbm, ⟨12, _⟩ => ⟨S1x4x8192x256, .f32⟩
  | .hbm, ⟨13, _⟩ => ⟨S_, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S_, .f32⟩
  | .hbm, ⟨19, _⟩ => ⟨S1x4x8192, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x256, .f32⟩
  | .hbm, ⟨29, _⟩ => ⟨S1x4x8192x256, .f32⟩
  | .hbm, ⟨30, _⟩ => ⟨S1x4x256x8192, .f32⟩
  | .hbm, ⟨31, _⟩ => ⟨S1x8192x4x256, .f32⟩
  | .hbm, ⟨32, _⟩ => ⟨S8192x1024, .f32⟩
  | .hbm, ⟨33, _⟩ => ⟨S8192x1024, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== AdamIn.lean ====
abbrev S4x2048x3072 : Shape := ⟨3, ![4, 2048, 3072]⟩
abbrev S1x128x3072 : Shape := ⟨3, ![1, 128, 3072]⟩
abbrev S128x3072 : Shape := ⟨2, ![128, 3072]⟩

abbrev nBuf : Space → Nat
  | .hbm => 10
  | .vmem => 28
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S4x2048x3072, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .hbm, ⟨9, _⟩ => ⟨S4x2048x3072, .f32⟩
  | .local _ .vmem, ⟨0, _⟩ => ⟨S1x128x3072, .f32⟩
  | .local _ .vmem, ⟨1, _⟩ => ⟨S1x128x3072, .f32⟩
  | .local _ .vmem, ⟨2, _⟩ => ⟨S1x128x3072, .f32⟩
  | .local _ .vmem, ⟨3, _⟩ => ⟨S1x128x3072, .f32⟩
  | .local _ .vmem, ⟨4, _⟩ => ⟨S1x128x3072, .f32⟩
  | .local _ .vmem, ⟨5, _⟩ => ⟨S1x128x3072, .f32⟩
  | .local _ .vmem, ⟨6, _⟩ => ⟨S1x128x3072, .f32⟩
  | .local _ .vmem, ⟨7, _⟩ => ⟨S1x128x3072, .f32⟩
  | .local _ .vmem, ⟨8, _⟩ => ⟨S1x128x3072, .f32⟩
  | .local _ .vmem, ⟨9, _⟩ => ⟨S1x128x3072, .f32⟩
  | .local _ .vmem, ⟨10, _⟩ => ⟨S1x128x3072, .f32⟩
  | .local _ .vmem, ⟨11, _⟩ => ⟨S1x128x3072, .f32⟩
  | .local _ .vmem, ⟨12, _⟩ => ⟨S1x128x3072, .f32⟩
  | .local _ .vmem, ⟨13, _⟩ => ⟨S1x128x3072, .f32⟩
  | .local _ .vmem, ⟨14, _⟩ => ⟨S1x128x3072, .f32⟩
  | .local _ .vmem, ⟨15, _⟩ => ⟨S1x128x3072, .f32⟩
  | .local _ .vmem, ⟨16, _⟩ => ⟨S1x128x3072, .f32⟩
  | .local _ .vmem, ⟨17, _⟩ => ⟨S1x128x3072, .f32⟩
  | .local _ .vmem, ⟨18, _⟩ => ⟨S1x128x3072, .f32⟩
  | .local _ .vmem, ⟨19, _⟩ => ⟨S1x128x3072, .f32⟩
  | .local _ .vmem, ⟨20, _⟩ => ⟨S1x128x3072, .f32⟩
  | .local _ .vmem, ⟨21, _⟩ => ⟨S1x128x3072, .f32⟩
  | .local _ .vmem, ⟨22, _⟩ => ⟨S1x128x3072, .f32⟩
  | .local _ .vmem, ⟨23, _⟩ => ⟨S1x128x3072, .f32⟩
  | .local _ .vmem, ⟨24, _⟩ => ⟨S1x128x3072, .f32⟩
  | .local _ .vmem, ⟨25, _⟩ => ⟨S1x128x3072, .f32⟩
  | .local _ .vmem, ⟨26, _⟩ => ⟨S1x128x3072, .f32⟩
  | .local _ .vmem, ⟨27, _⟩ => ⟨S1x128x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x128x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x3072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x3072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamInIdeal.lean ====
abbrev S4x2048x3072 : Shape := ⟨3, ![4, 2048, 3072]⟩
abbrev S1x128x3072 : Shape := ⟨3, ![1, 128, 3072]⟩
abbrev S128x3072 : Shape := ⟨2, ![128, 3072]⟩

abbrev nBuf : Space → Nat
  | .hbm => 10
  | .vmem => 28
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S4x2048x3072, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .hbm, ⟨9, _⟩ => ⟨S4x2048x3072, .f32⟩
  | .local _ .vmem, ⟨0, _⟩ => ⟨S1x128x3072, .f32⟩
  | .local _ .vmem, ⟨1, _⟩ => ⟨S1x128x3072, .f32⟩
  | .local _ .vmem, ⟨2, _⟩ => ⟨S1x128x3072, .f32⟩
  | .local _ .vmem, ⟨3, _⟩ => ⟨S1x128x3072, .f32⟩
  | .local _ .vmem, ⟨4, _⟩ => ⟨S1x128x3072, .f32⟩
  | .local _ .vmem, ⟨5, _⟩ => ⟨S1x128x3072, .f32⟩
  | .local _ .vmem, ⟨6, _⟩ => ⟨S1x128x3072, .f32⟩
  | .local _ .vmem, ⟨7, _⟩ => ⟨S1x128x3072, .f32⟩
  | .local _ .vmem, ⟨8, _⟩ => ⟨S1x128x3072, .f32⟩
  | .local _ .vmem, ⟨9, _⟩ => ⟨S1x128x3072, .f32⟩
  | .local _ .vmem, ⟨10, _⟩ => ⟨S1x128x3072, .f32⟩
  | .local _ .vmem, ⟨11, _⟩ => ⟨S1x128x3072, .f32⟩
  | .local _ .vmem, ⟨12, _⟩ => ⟨S1x128x3072, .f32⟩
  | .local _ .vmem, ⟨13, _⟩ => ⟨S1x128x3072, .f32⟩
  | .local _ .vmem, ⟨14, _⟩ => ⟨S1x128x3072, .f32⟩
  | .local _ .vmem, ⟨15, _⟩ => ⟨S1x128x3072, .f32⟩
  | .local _ .vmem, ⟨16, _⟩ => ⟨S1x128x3072, .f32⟩
  | .local _ .vmem, ⟨17, _⟩ => ⟨S1x128x3072, .f32⟩
  | .local _ .vmem, ⟨18, _⟩ => ⟨S1x128x3072, .f32⟩
  | .local _ .vmem, ⟨19, _⟩ => ⟨S1x128x3072, .f32⟩
  | .local _ .vmem, ⟨20, _⟩ => ⟨S1x128x3072, .f32⟩
  | .local _ .vmem, ⟨21, _⟩ => ⟨S1x128x3072, .f32⟩
  | .local _ .vmem, ⟨22, _⟩ => ⟨S1x128x3072, .f32⟩
  | .local _ .vmem, ⟨23, _⟩ => ⟨S1x128x3072, .f32⟩
  | .local _ .vmem, ⟨24, _⟩ => ⟨S1x128x3072, .f32⟩
  | .local _ .vmem, ⟨25, _⟩ => ⟨S1x128x3072, .f32⟩
  | .local _ .vmem, ⟨26, _⟩ => ⟨S1x128x3072, .f32⟩
  | .local _ .vmem, ⟨27, _⟩ => ⟨S1x128x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x128x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x3072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x3072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamInRefIdeal.lean ====
abbrev S4x2048x3072 : Shape := ⟨3, ![4, 2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S4x2048x3072, .f32⟩
  | .hbm, ⟨3, _⟩ => ⟨S4x2048x3072, .f32⟩
  | .hbm, ⟨4, _⟩ => ⟨S_, .f32⟩
  | .hbm, ⟨5, _⟩ => ⟨S4x2048x3072, .f32⟩
  | .hbm, ⟨6, _⟩ => ⟨S4x2048x3072, .f32⟩
  | .hbm, ⟨7, _⟩ => ⟨S_, .f32⟩
  | .hbm, ⟨8, _⟩ => ⟨S4x2048x3072, .f32⟩
  | .hbm, ⟨9, _⟩ => ⟨S4x2048x3072, .f32⟩
  | .hbm, ⟨10, _⟩ => ⟨S4x2048x3072, .f32⟩
  | .hbm, ⟨11, _⟩ => ⟨S_, .f32⟩
  | .hbm, ⟨12, _⟩ => ⟨S4x2048x3072, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S4x2048x3072, .f32⟩
  | .hbm, ⟨19, _⟩ => ⟨S_, .f32⟩
  | .hbm, ⟨20, _⟩ => ⟨S4x2048x3072, .f32⟩
  | .hbm, ⟨21, _⟩ => ⟨S4x2048x3072, .f32⟩
  | .hbm, ⟨22, _⟩ => ⟨S_, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S_, .f32⟩
  | .hbm, ⟨27, _⟩ => ⟨S4x2048x3072, .f32⟩
  | .hbm, ⟨28, _⟩ => ⟨S4x2048x3072, .f32⟩
  | .hbm, ⟨29, _⟩ => ⟨S4x2048x3072, .f32⟩
  | .hbm, ⟨30, _⟩ => ⟨S_, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4x2048x2048 : Shape := ⟨3, ![4, 2048, 2048]⟩
abbrev S1x128x2048 : Shape := ⟨3, ![1, 128, 2048]⟩
abbrev S128x2048 : Shape := ⟨2, ![128, 2048]⟩

abbrev nBuf : Space → Nat
  | .hbm => 10
  | .vmem => 28
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamUpIdeal.lean ====
abbrev S4x2048x2048 : Shape := ⟨3, ![4, 2048, 2048]⟩
abbrev S1x128x2048 : Shape := ⟨3, ![1, 128, 2048]⟩
abbrev S128x2048 : Shape := ⟨2, ![128, 2048]⟩

abbrev nBuf : Space → Nat
  | .hbm => 10
  | .vmem => 28
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamUpRefIdeal.lean ====
abbrev S4x2048x2048 : Shape := ⟨3, ![4, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S4x1024x512 : Shape := ⟨3, ![4, 1024, 512]⟩
abbrev S1x512x512 : Shape := ⟨3, ![1, 512, 512]⟩
abbrev S512x512 : Shape := ⟨2, ![512, 512]⟩

abbrev nBuf : Space → Nat
  | .hbm => 10
  | .vmem => 28
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamOutIdeal.lean ====
abbrev S4x1024x512 : Shape := ⟨3, ![4, 1024, 512]⟩
abbrev S1x512x512 : Shape := ⟨3, ![1, 512, 512]⟩
abbrev S512x512 : Shape := ⟨2, ![512, 512]⟩

abbrev nBuf : Space → Nat
  | .hbm => 10
  | .vmem => 28
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamOutRefIdeal.lean ====
abbrev S4x1024x512 : Shape := ⟨3, ![4, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S4x512x2048 : Shape := ⟨3, ![4, 512, 2048]⟩
abbrev S1x128x2048 : Shape := ⟨3, ![1, 128, 2048]⟩
abbrev S128x2048 : Shape := ⟨2, ![128, 2048]⟩

abbrev nBuf : Space → Nat
  | .hbm => 10
  | .vmem => 28
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AdamKvRefIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.BranchBBwdIdealRun.lean ====
/- The body of the backward call of branch_b (idealized) run at each of its grid's points, and what its results hold after
   each: at the points (i, 0) the three blocks of a band of rows are computed and kept, the taps' gradients added up;
   at the points (i, j) the kept block j is stored. -/
module

public import proofs.«01_k».proof.Proof.Gen.BranchBBwdIdeal.Frame
public import proofs.«01_k».proof.Proof.Gen.BranchBBwdIdeal.Skeleton

@[expose] public section

set_option maxRecDepth 16384

noncomputable section

namespace Cert.BranchBBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BranchBBwdIdeal Cert.BranchBBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- At a point whose second coordinate is 0 the block stored is the first. -/
theorem off_zero (i : grid0.Coords) (h : k0_cond1 i = 1#1) : k0_off1 i = ![0, 0, 0] := by
  have hz : ∀ x : Fin 3, Scalar.cmpi .ne (Scalar.extui (Scalar.cmpi .eq (BitVec.ofNat 32 x.val) 0#32)) 0#32 = 1#1 → x = 0 := by decide
  have e : i 1 = (0 : Fin 3) := hz (i 1) h
  unfold k0_off1
  rw [e]
  decide

theorem inb_zero : ∀ a, (![0, 0, 0] : Fin 3 → ℕ) a + S1x256x1024.size a ≤ S3x256x1024.size a := by decide

/-- What holds with one proof of a proposition holds with every proof of it. -/
theorem all_of (p : Prop) (Q : p → Prop) (h0 : p) (h : Q h0) : ∀ h1, Q h1 := fun _ => h

theorem cond1_iff : ∀ t : Fin cfg0.N, k0_cond1 (grid0.coords t) = 1#1 ↔ t.val % 3 = 0 := by decide +kernel
theorem cond2_iff : ∀ t : Fin cfg0.N, k0_cond2 (grid0.coords t) = 1#1 ↔ t.val < 3 := by decide +kernel
theorem idle_iff : ∀ t : Fin cfg0.N, cfg0.idle 10 (grid0.coords t) = true ↔ ¬t.val % 3 = 0 := by decide +kernel

/-! ## The runs -/

set_option maxHeartbeats 2000000 in
/-- The first point: the taps' gradients start from zero. -/
noncomputable def runA (c : Dev nD) (i : grid0.Coords) (b0 : Memref sig .tc .vmem S256x1024 .bf16) (hb0 : b0.IsWhole) (b1 : Memref sig .tc .vmem S32x1024 .bf16) (hb1 : b1.IsWhole) (b2 : Memref sig .tc .vmem S256x1024 .bf16) (hb2 : b2.IsWhole) (b3 : Memref sig .tc .vmem S32x1024 .bf16) (hb3 : b3.IsWhole) (b4 : Memref sig .tc .vmem S256x1024 .bf16) (hb4 : b4.IsWhole) (b5 : Memref sig .tc .vmem S256x1024 .bf16) (hb5 : b5.IsWhole) (b6 : Memref sig .tc .vmem S32x1024 .bf16) (hb6 : b6.IsWhole) (b7 : Memref sig .tc .vmem S32x1024 .bf16) (hb7 : b7.IsWhole) (b8 : Memref sig .tc .vmem S3x1024 .f32) (hb8 : b8.IsWhole) (b9 : Memref sig .tc .vmem S256x1024 .bf16) (hb9 : b9.IsWhole) (b10 : Memref sig .tc .vmem S3x1024 .f32) (hb10 : b10.IsWhole) (b11 : Memref sig .tc .vmem S288x1024 .f32) (hb11 : b11.IsWhole) (b12 : Memref sig .tc .vmem S288x1024 .f32) (hb12 : b12.IsWhole) (b13 : Memref sig .tc .vmem S3x256x1024 .bf16) (hb13 : b13.IsWhole) (hc : k0_cond1 i = 1#1) (hd : k0_cond2 i = 1#1) (x0 : Vec F S256x1024 .bf16) (x1 : Vec F S32x1024 .bf16) (x2 : Vec F S256x1024 .bf16) (x3 : Vec F S32x1024 .bf16) (x4 : Vec F S256x1024 .bf16) (x5 : Vec F S256x1024 .bf16) (x6 : Vec F S32x1024 .bf16) (x7 : Vec F S32x1024 .bf16) (x8 : Vec F S3x1024 .f32) :
    Σ' (L9 : List (View.Piece (Elt F) S256x1024 .bf16)) (L10 : List (View.Piece (Elt F) S3x1024 .f32))
      (L11 : List (View.Piece (Elt F) S288x1024 .f32)) (L12 : List (View.Piece (Elt F) S288x1024 .f32)),
      { L13 : List (View.Piece (Elt F) S3x256x1024 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ (∃ d, owns (c : Thread nD τ) b9 fullShare d) ∗ (∃ d, owns (c : Thread nD τ) b10 fullShare d) ∗ (∃ d, owns (c : Thread nD τ) b11 fullShare d) ∗ (∃ d, owns (c : Thread nD τ) b12 fullShare d) ∗ (∃ d, owns (c : Thread nD τ) b13 fullShare d)
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ (∃ f, b9.view.loc (c : Thread nD τ) ↦[b9.view.set]{fullShare} b9.view.writes (Elt F) f L9) ∗ (∃ f, b10.view.loc (c : Thread nD τ) ↦[b10.view.set]{fullShare} b10.view.writes (Elt F) f L10) ∗ (∃ f, b11.view.loc (c : Thread nD τ) ↦[b11.view.set]{fullShare} b11.view.writes (Elt F) f L11) ∗ (∃ f, b12.view.loc (c : Thread nD τ) ↦[b12.view.set]{fullShare} b12.view.writes (Elt F) f L12) ∗ (∃ f, b13.view.loc (c : Thread nD τ) ↦[b13.view.set]{fullShare} b13.view.writes (Elt F) f L13)) -∗ K ⟨⟩))
          ⊢ wp frame (wpE (defs₀ (F := F)) Variants.none c none) E (cc0_branch_b_bwd i (Memref.whole main_arg0) (Memref.isWhole_whole _) b0 hb0 b1 hb1 b2 hb2 b3 hb3 b4 hb4 b5 hb5 b6 hb6 b7 hb7 b8 hb8 b9 hb9 b10 hb10 b11 hb11 b12 hb12 b13 hb13) K } := by
  refine ⟨?_, ?_, ?_, ?_, ?_, fun E K => ?run⟩
  case run =>
    have e := off_zero i hc
    simp only [cc0_branch_b_bwd_eq_skeleton]; unfold cc0_branch_b_bwd_skel
    simp only [k0_part1_eq_skeleton, k0_part2_eq_skeleton, k0_part3_eq_skeleton]
    generalize k0_off1_inb i = hi
    revert hi
    rw [e]
    refine all_of _ _ inb_zero ?_
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := hb0.eq_unread hf0; obtain rfl := hb1.eq_unread hf1; obtain rfl := hb2.eq_unread hf2; obtain rfl := hb3.eq_unread hf3; obtain rfl := hb4.eq_unread hf4; obtain rfl := hb5.eq_unread hf5; obtain rfl := hb6.eq_unread hf6; obtain rfl := hb7.eq_unread hf7; obtain rfl := hb8.eq_unread hf8
    sl_exec (disch := first | sl_exact hc | sl_exact hd)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]
    · iexists _; isplitr; · ipureintro; exact hb4.read_unread _
      iexact H4
    isplitl [H5]
    · iexists _; isplitr; · ipureintro; exact hb5.read_unread _
      iexact H5
    isplitl [H6]
    · iexists _; isplitr; · ipureintro; exact hb6.read_unread _
      iexact H6
    isplitl [H7]
    · iexists _; isplitr; · ipureintro; exact hb7.read_unread _
      iexact H7
    isplitl [H8]
    · iexists _; isplitr; · ipureintro; exact hb8.read_unread _
      iexact H8
    isplitl [H9]; · iexists _; iexact H9
    isplitl [H10]; · iexists _; iexact H10
    isplitl [H11]; · iexists _; iexact H11
    isplitl [H12]; · iexists _; iexact H12
    iexists _; iexact H13

set_option maxHeartbeats 2000000 in
/-- A later point whose second coordinate is 0: the taps' gradients are added to what the buffer holds. -/
noncomputable def runB (c : Dev nD) (i : grid0.Coords) (b0 : Memref sig .tc .vmem S256x1024 .bf16) (hb0 : b0.IsWhole) (b1 : Memref sig .tc .vmem S32x1024 .bf16) (hb1 : b1.IsWhole) (b2 : Memref sig .tc .vmem S256x1024 .bf16) (hb2 : b2.IsWhole) (b3 : Memref sig .tc .vmem S32x1024 .bf16) (hb3 : b3.IsWhole) (b4 : Memref sig .tc .vmem S256x1024 .bf16) (hb4 : b4.IsWhole) (b5 : Memref sig .tc .vmem S256x1024 .bf16) (hb5 : b5.IsWhole) (b6 : Memref sig .tc .vmem S32x1024 .bf16) (hb6 : b6.IsWhole) (b7 : Memref sig .tc .vmem S32x1024 .bf16) (hb7 : b7.IsWhole) (b8 : Memref sig .tc .vmem S3x1024 .f32) (hb8 : b8.IsWhole) (b9 : Memref sig .tc .vmem S256x1024 .bf16) (hb9 : b9.IsWhole) (b10 : Memref sig .tc .vmem S3x1024 .f32) (hb10 : b10.IsWhole) (b11 : Memref sig .tc .vmem S288x1024 .f32) (hb11 : b11.IsWhole) (b12 : Memref sig .tc .vmem S288x1024 .f32) (hb12 : b12.IsWhole) (b13 : Memref sig .tc .vmem S3x256x1024 .bf16) (hb13 : b13.IsWhole) (hc : k0_cond1 i = 1#1) (hd : ¬k0_cond2 i = 1#1) (x0 : Vec F S256x1024 .bf16) (x1 : Vec F S32x1024 .bf16) (x2 : Vec F S256x1024 .bf16) (x3 : Vec F S32x1024 .bf16) (x4 : Vec F S256x1024 .bf16) (x5 : Vec F S256x1024 .bf16) (x6 : Vec F S32x1024 .bf16) (x7 : Vec F S32x1024 .bf16) (x8 : Vec F S3x1024 .f32) (x10 : Vec F S3x1024 .f32) :
    Σ' (L9 : List (View.Piece (Elt F) S256x1024 .bf16)) (L10 : List (View.Piece (Elt F) S3x1024 .f32))
      (L11 : List (View.Piece (Elt F) S288x1024 .f32)) (L12 : List (View.Piece (Elt F) S288x1024 .f32)),
      { L13 : List (View.Piece (Elt F) S3x256x1024 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ (∃ d, owns (c : Thread nD τ) b9 fullShare d) ∗ owns (c : Thread nD τ) b10 fullShare x10 ∗ (∃ d, owns (c : Thread nD τ) b11 fullShare d) ∗ (∃ d, owns (c : Thread nD τ) b12 fullShare d) ∗ (∃ d, owns (c : Thread nD τ) b13 fullShare d)
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ (∃ f, b9.view.loc (c : Thread nD τ) ↦[b9.view.set]{fullShare} b9.view.writes (Elt F) f L9) ∗ (∃ f, b10.view.loc (c : Thread nD τ) ↦[b10.view.set]{fullShare} b10.view.writes (Elt F) f L10) ∗ (∃ f, b11.view.loc (c : Thread nD τ) ↦[b11.view.set]{fullShare} b11.view.writes (Elt F) f L11) ∗ (∃ f, b12.view.loc (c : Thread nD τ) ↦[b12.view.set]{fullShare} b12.view.writes (Elt F) f L12) ∗ (∃ f, b13.view.loc (c : Thread nD τ) ↦[b13.view.set]{fullShare} b13.view.writes (Elt F) f L13)) -∗ K ⟨⟩))
          ⊢ wp frame (wpE (defs₀ (F := F)) Variants.none c none) E (cc0_branch_b_bwd i (Memref.whole main_arg0) (Memref.isWhole_whole _) b0 hb0 b1 hb1 b2 hb2 b3 hb3 b4 hb4 b5 hb5 b6 hb6 b7 hb7 b8 hb8 b9 hb9 b10 hb10 b11 hb11 b12 hb12 b13 hb13) K } := by
  refine ⟨?_, ?_, ?_, ?_, ?_, fun E K => ?run⟩
  case run =>
    have e := off_zero i hc
    simp only [cc0_branch_b_bwd_eq_skeleton]; unfold cc0_branch_b_bwd_skel
    simp only [k0_part1_eq_skeleton, k0_part2_eq_skeleton, k0_part3_eq_skeleton]
    generalize k0_off1_inb i = hi
    revert hi
    rw [e]
    refine all_of _ _ inb_zero ?_
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, Hk⟩
    obtain rfl := hb0.eq_unread hf0; obtain rfl := hb1.eq_unread hf1; obtain rfl := hb2.eq_unread hf2; obtain rfl := hb3.eq_unread hf3; obtain rfl := hb4.eq_unread hf4; obtain rfl := hb5.eq_unread hf5; obtain rfl := hb6.eq_unread hf6; obtain rfl := hb7.eq_unread hf7; obtain rfl := hb8.eq_unread hf8; obtain rfl := hb10.eq_unread hf10
    sl_exec (disch := first | sl_exact hc | sl_exact hd)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]
    · iexists _; isplitr; · ipureintro; exact hb4.read_unread _
      iexact H4
    isplitl [H5]
    · iexists _; isplitr; · ipureintro; exact hb5.read_unread _
      iexact H5
    isplitl [H6]
    · iexists _; isplitr; · ipureintro; exact hb6.read_unread _
      iexact H6
    isplitl [H7]
    · iexists _; isplitr; · ipureintro; exact hb7.read_unread _
      iexact H7
    isplitl [H8]
    · iexists _; isplitr; · ipureintro; exact hb8.read_unread _
      iexact H8
    isplitl [H9]; · iexists _; iexact H9
    isplitl [H10]; · iexists _; iexact H10
    isplitl [H11]; · iexists _; iexact H11
    isplitl [H12]; · iexists _; iexact H12
    iexists _; iexact H13

set_option maxHeartbeats 2000000 in
/-- A point whose second coordinate is not 0: the body reads one of the three kept blocks and stores it. -/
noncomputable def runC (c : Dev nD) (i : grid0.Coords) (b0 : Memref sig .tc .vmem S256x1024 .bf16) (hb0 : b0.IsWhole) (b1 : Memref sig .tc .vmem S32x1024 .bf16) (hb1 : b1.IsWhole) (b2 : Memref sig .tc .vmem S256x1024 .bf16) (hb2 : b2.IsWhole) (b3 : Memref sig .tc .vmem S32x1024 .bf16) (hb3 : b3.IsWhole) (b4 : Memref sig .tc .vmem S256x1024 .bf16) (hb4 : b4.IsWhole) (b5 : Memref sig .tc .vmem S256x1024 .bf16) (hb5 : b5.IsWhole) (b6 : Memref sig .tc .vmem S32x1024 .bf16) (hb6 : b6.IsWhole) (b7 : Memref sig .tc .vmem S32x1024 .bf16) (hb7 : b7.IsWhole) (b8 : Memref sig .tc .vmem S3x1024 .f32) (hb8 : b8.IsWhole) (b9 : Memref sig .tc .vmem S256x1024 .bf16) (hb9 : b9.IsWhole) (b10 : Memref sig .tc .vmem S3x1024 .f32) (hb10 : b10.IsWhole) (b11 : Memref sig .tc .vmem S288x1024 .f32) (hb11 : b11.IsWhole) (b12 : Memref sig .tc .vmem S288x1024 .f32) (hb12 : b12.IsWhole) (b13 : Memref sig .tc .vmem S3x256x1024 .bf16) (hb13 : b13.IsWhole) (hc : ¬k0_cond1 i = 1#1) (x13 : Vec F S3x256x1024 .bf16) :
    { L9 : List (View.Piece (Elt F) S256x1024 .bf16) //
      ∀ (E : Set ℕ) (K : PUnit → sProp 𝕄),
        iprop((∃ d, owns (c : Thread nD τ) b9 fullShare d) ∗ owns (c : Thread nD τ) b13 fullShare x13
            ∗ (iprop((∃ f, b9.view.loc (c : Thread nD τ) ↦[b9.view.set]{fullShare} b9.view.writes (Elt F) f L9) ∗ owns (c : Thread nD τ) b13 fullShare x13) -∗ K ⟨⟩))
          ⊢ wp frame (wpE (defs₀ (F := F)) Variants.none c none) E (cc0_branch_b_bwd i (Memref.whole main_arg0) (Memref.isWhole_whole _) b0 hb0 b1 hb1 b2 hb2 b3 hb3 b4 hb4 b5 hb5 b6 hb6 b7 hb7 b8 hb8 b9 hb9 b10 hb10 b11 hb11 b12 hb12 b13 hb13) K } := by
  refine ⟨?_, fun E K => ?run⟩
  case run =>
    simp only [cc0_branch_b_bwd_eq_skeleton]; unfold cc0_branch_b_bwd_skel
    unfold owns
    iintro ⟨⟨%d9, %f9, -, H9⟩, ⟨%f13, %hf13, H13⟩, Hk⟩
    obtain rfl := hb13.eq_unread hf13
    sl_exec (disch := first | sl_exact hc)
    sl_step
    iapply Hk
    isplitl [H9]; · iexists _; iexact H9
    iexists _; isplitr; · ipureintro; exact hb13.read_unread _
    iexact H13

end Cert.BranchBBwdIdeal.Body

end
-- ==== Proof.BranchBBwdIdealFrame.lean ====
/- The backward call of branch_b (idealized): what its results hold after each of its grid's points, its run from any
   memory, and that its arguments end as they were. -/
module

public import proofs.«01_k».proof.Proof.BranchBBwdIdealRun
public import Idealize.ShloMosaic.Lib.Claim

@[expose] public section

set_option maxRecDepth 16384

noncomputable section

namespace Cert.BranchBBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BranchBBwdIdeal Cert.BranchBBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S3x1024 .f32 := win0_10.stage (cfg0.slots t 10)
abbrev hs10 (t : Fin cfg0.N) : (ms10 t).IsWhole := hstage0_10 ((cfg0.slots t 10).cast nbuf0_10)
abbrev sc0 : Memref sig .tc .vmem S288x1024 .f32 := Memref.whole cc0_scratch0
abbrev sc1 : Memref sig .tc .vmem S288x1024 .f32 := Memref.whole cc0_scratch1
abbrev sc2 : Memref sig .tc .vmem S3x256x1024 .bf16 := Memref.whole cc0_scratch2
abbrev VO9 : View sig .tc .vmem S256x1024 .bf16 := (Memref.whole cc0_stg9_0 : Memref sig .tc .vmem S256x1024 .bf16).view
abbrev VO10 : View sig .tc .vmem S3x1024 .f32 := (Memref.whole cc0_stg10_0 : Memref sig .tc .vmem S3x1024 .f32).view
abbrev VR : View sig .tc .vmem S3x256x1024 .bf16 := (sc2 : Memref sig .tc .vmem S3x256x1024 .bf16).view

/-- What the launch hands the region: the three kept buffers at anything, and the generator's register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What a point's stores leave -/

/-- The stores of the first point into the result, the taps' gradients, and the three kept blocks. -/
def L9A (c : Dev nD) (t : Fin cfg0.N) (h1 : k0_cond1 (grid0.coords t) = 1#1) (h2 : k0_cond2 (grid0.coords t) = 1#1) : List (View.Piece (Elt F) S256x1024 .bf16) := (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t)).1
def L10A (c : Dev nD) (t : Fin cfg0.N) (h1 : k0_cond1 (grid0.coords t) = 1#1) (h2 : k0_cond2 (grid0.coords t) = 1#1) : List (View.Piece (Elt F) S3x1024 .f32) := (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t)).2.1
def L13A (c : Dev nD) (t : Fin cfg0.N) (h1 : k0_cond1 (grid0.coords t) = 1#1) (h2 : k0_cond2 (grid0.coords t) = 1#1) : List (View.Piece (Elt F) S3x256x1024 .bf16) := (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t)).2.2.2.2.1
theorem cover9A (c : Dev nD) (t : Fin cfg0.N) (h1 : k0_cond1 (grid0.coords t) = 1#1) (h2 : k0_cond2 (grid0.coords t) = 1#1) (y : S256x1024.Idx) : ∃ pc ∈ L9A m c t h1 h2, y ∈ pc.1.set := View.cover_of_tiledL (L9A m c t h1 h2) S256x1024.size (by sl_kernel_rfl) y
theorem cover10A (c : Dev nD) (t : Fin cfg0.N) (h1 : k0_cond1 (grid0.coords t) = 1#1) (h2 : k0_cond2 (grid0.coords t) = 1#1) (y : S3x1024.Idx) : ∃ pc ∈ L10A m c t h1 h2, y ∈ pc.1.set := by
  obtain ⟨p, hp, hy⟩ := View.cover_of_tiledL ((L10A m c t h1 h2).take 3) S1x1024.size (by sl_kernel_rfl) y
  exact ⟨p, List.mem_of_mem_take hp, hy⟩
theorem cover13A (c : Dev nD) (t : Fin cfg0.N) (h1 : k0_cond1 (grid0.coords t) = 1#1) (h2 : k0_cond2 (grid0.coords t) = 1#1) (y : S3x256x1024.Idx) : ∃ pc ∈ L13A m c t h1 h2, y ∈ pc.1.set := View.cover_of_tiledL (L13A m c t h1 h2) S1x256x1024.size (by sl_kernel_rfl) y
/-- What the result's block, the taps' gradients and the kept blocks are after the first point. -/
def vA (c : Dev nD) (t : Fin cfg0.N) (h1 : k0_cond1 (grid0.coords t) = 1#1) (h2 : k0_cond2 (grid0.coords t) = 1#1) : Vec F S256x1024 .bf16 × Vec F S3x1024 .f32 × Vec F S3x256x1024 .bf16 :=
  (VO9.read (Elt F) (VO9.writes (Elt F) VO9.junk (L9A m c t h1 h2)), VO10.read (Elt F) (VO10.writes (Elt F) VO10.junk (L10A m c t h1 h2)),
    VR.read (Elt F) (VR.writes (Elt F) VR.junk (L13A m c t h1 h2)))

/-- The stores of a later point (i, 0), the taps' gradients so far being `x10` into the result, the taps' gradients, and the three kept blocks. -/
def L9B (c : Dev nD) (t : Fin cfg0.N) (h1 : k0_cond1 (grid0.coords t) = 1#1) (h2 : ¬k0_cond2 (grid0.coords t) = 1#1) (x10 : Vec F S3x1024 .f32) : List (View.Piece (Elt F) S256x1024 .bf16) := (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t) x10).1
def L10B (c : Dev nD) (t : Fin cfg0.N) (h1 : k0_cond1 (grid0.coords t) = 1#1) (h2 : ¬k0_cond2 (grid0.coords t) = 1#1) (x10 : Vec F S3x1024 .f32) : List (View.Piece (Elt F) S3x1024 .f32) := (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t) x10).2.1
def L13B (c : Dev nD) (t : Fin cfg0.N) (h1 : k0_cond1 (grid0.coords t) = 1#1) (h2 : ¬k0_cond2 (grid0.coords t) = 1#1) (x10 : Vec F S3x1024 .f32) : List (View.Piece (Elt F) S3x256x1024 .bf16) := (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t) x10).2.2.2.2.1
theorem cover9B (c : Dev nD) (t : Fin cfg0.N) (h1 : k0_cond1 (grid0.coords t) = 1#1) (h2 : ¬k0_cond2 (grid0.coords t) = 1#1) (x10 : Vec F S3x1024 .f32) (y : S256x1024.Idx) : ∃ pc ∈ L9B m c t h1 h2 x10, y ∈ pc.1.set := View.cover_of_tiledL (L9B m c t h1 h2 x10) S256x1024.size (by sl_kernel_rfl) y
theorem cover10B (c : Dev nD) (t : Fin cfg0.N) (h1 : k0_cond1 (grid0.coords t) = 1#1) (h2 : ¬k0_cond2 (grid0.coords t) = 1#1) (x10 : Vec F S3x1024 .f32) (y : S3x1024.Idx) : ∃ pc ∈ L10B m c t h1 h2 x10, y ∈ pc.1.set := View.cover_of_tiledL (L10B m c t h1 h2 x10) S1x1024.size (by sl_kernel_rfl) y
theorem cover13B (c : Dev nD) (t : Fin cfg0.N) (h1 : k0_cond1 (grid0.coords t) = 1#1) (h2 : ¬k0_cond2 (grid0.coords t) = 1#1) (x10 : Vec F S3x1024 .f32) (y : S3x256x1024.Idx) : ∃ pc ∈ L13B m c t h1 h2 x10, y ∈ pc.1.set := View.cover_of_tiledL (L13B m c t h1 h2 x10) S1x256x1024.size (by sl_kernel_rfl) y
/-- What the result's block, the taps' gradients and the kept blocks are after a later point (i, 0), the taps' gradients so far being `x10`. -/
def vB (c : Dev nD) (t : Fin cfg0.N) (h1 : k0_cond1 (grid0.coords t) = 1#1) (h2 : ¬k0_cond2 (grid0.coords t) = 1#1) (x10 : Vec F S3x1024 .f32) : Vec F S256x1024 .bf16 × Vec F S3x1024 .f32 × Vec F S3x256x1024 .bf16 :=
  (VO9.read (Elt F) (VO9.writes (Elt F) VO9.junk (L9B m c t h1 h2 x10)), VO10.read (Elt F) (VO10.writes (Elt F) VO10.junk (L10B m c t h1 h2 x10)),
    VR.read (Elt F) (VR.writes (Elt F) VR.junk (L13B m c t h1 h2 x10)))

/-- The store of a point (i, j), j not 0, the kept blocks being `x13`. -/
def L9C (c : Dev nD) (t : Fin cfg0.N) (h1 : ¬k0_cond1 (grid0.coords t) = 1#1) (x13 : Vec F S3x256x1024 .bf16) : List (View.Piece (Elt F) S256x1024 .bf16) := (runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 x13).1
theorem cover9C (c : Dev nD) (t : Fin cfg0.N) (h1 : ¬k0_cond1 (grid0.coords t) = 1#1) (x13 : Vec F S3x256x1024 .bf16) (y : S256x1024.Idx) : ∃ pc ∈ L9C c t h1 x13, y ∈ pc.1.set := View.cover_of_tiledL (L9C c t h1 x13) S256x1024.size (by sl_kernel_rfl) y
/-- What the result's block is after it. -/
def vC (c : Dev nD) (t : Fin cfg0.N) (h1 : ¬k0_cond1 (grid0.coords t) = 1#1) (x13 : Vec F S3x256x1024 .bf16) : Vec F S256x1024 .bf16 := VO9.read (Elt F) (VO9.writes (Elt F) VO9.junk (L9C c t h1 x13))

/-! ## Point by point -/

theorem not_cond2 (n : ℕ) (hn : n + 1 < cfg0.N) (h : (n + 1) % 3 = 0) : ¬k0_cond2 (grid0.coords ⟨n + 1, hn⟩) = 1#1 := fun h2 => by
  have h3 := (cond2_iff ⟨n + 1, hn⟩).mp h2
  dsimp only at h3
  omega

/-- The result's block, the taps' gradients and the kept blocks after point `n`. -/
def st (c : Dev nD) : (n : ℕ) → n < cfg0.N → Vec F S256x1024 .bf16 × Vec F S3x1024 .f32 × Vec F S3x256x1024 .bf16
  | 0, hn => vA m c ⟨0, hn⟩ ((cond1_iff _).mpr (Nat.zero_mod _)) ((cond2_iff _).mpr (Nat.zero_lt_succ _))
  | n + 1, hn =>
    if h : (n + 1) % 3 = 0 then
      vB m c ⟨n + 1, hn⟩ ((cond1_iff _).mpr h) (not_cond2 n hn h) (st c n (Nat.lt_of_succ_lt hn)).2.1
    else
      (vC c ⟨n + 1, hn⟩ (fun h1 => h ((cond1_iff _).mp h1)) (st c n (Nat.lt_of_succ_lt hn)).2.2, (st c n (Nat.lt_of_succ_lt hn)).2.1, (st c n (Nat.lt_of_succ_lt hn)).2.2)

theorem pred_lt (t : Fin cfg0.N) : t.val - 1 < cfg0.N := Nat.lt_of_le_of_lt (Nat.sub_le _ _) t.isLt

theorem st_A (c : Dev nD) (t : Fin cfg0.N) (hz : t.val = 0) (h1 h2) : st m c t.val t.isLt = vA m c t h1 h2 := by
  obtain ⟨n, hn⟩ := t
  dsimp only at hz
  subst hz
  rfl

theorem st_B (c : Dev nD) (t : Fin cfg0.N) (hz : t.val ≠ 0) (h : t.val % 3 = 0) (h1 h2) :
    st m c t.val t.isLt = vB m c t h1 h2 (st m c (t.val - 1) (pred_lt t)).2.1 := by
  obtain ⟨n, hn⟩ := t
  cases n with
  | zero => exact absurd rfl hz
  | succ n => exact dif_pos h

theorem st_C (c : Dev nD) (t : Fin cfg0.N) (h : ¬t.val % 3 = 0) (h1) :
    st m c t.val t.isLt = (vC c t h1 (st m c (t.val - 1) (pred_lt t)).2.2, (st m c (t.val - 1) (pred_lt t)).2.1, (st m c (t.val - 1) (pred_lt t)).2.2) := by
  obtain ⟨n, hn⟩ := t
  cases n with
  | zero => exact absurd (Nat.zero_mod _) h
  | succ n => exact dif_neg h

/-- Before point `n`: the kept blocks as the point before left them, the other buffers at anything. -/
def PhiS (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d) ∗ owns (c : Thread nD τ) sc2 fullShare (st m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) sc0 fullShare d) ∗ (∃ d, owns (c : Thread nD τ) sc1 fullShare d) ∗ owns (c : Thread nD τ) sc2 fullShare (st m c n hn).2.2) ∗ (∃ r, prngReg c r)) := rfl

theorem PhiS_pos (c : Dev nD) (n : ℕ) (h : n ≤ cfg0.N) (hz : n ≠ 0) :
    PhiS m c n h = iprop(iprop((∃ d, owns (c : Thread nD τ) sc0 fullShare d) ∗ (∃ d, owns (c : Thread nD τ) sc1 fullShare d) ∗ owns (c : Thread nD τ) sc2 fullShare (st m c (n - 1) (by omega)).2.2) ∗ (∃ r, prngReg c r)) := by
  cases n with
  | zero => exact absurd rfl hz
  | succ n => rfl

/-- The pipeline's data: each array as launched, each argument's block as staged, each result's as `st` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (st m c t.val t.isLt).1
    | ⟨10, _⟩ => (st m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (st m c t.val t.isLt).1 := by dsimp only [dats]
theorem after10 (c : Dev nD) (t : Fin cfg0.N) : (dats m 0 c).after 10 t = (st m c t.val t.isLt).2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem leaves0 (c : Dev nD) (t : Fin cfg0.N) : (dats m 0 c).leavesExact 0 t = owns (c : Thread nD τ) (ms0 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (grid0.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (grid0.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (grid0.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (grid0.coords t) = false from rfl]
theorem leaves8 (c : Dev nD) (t : Fin cfg0.N) : (dats m 0 c).leavesExact 8 t = owns (c : Thread nD τ) (ms8 t) fullShare ((dats m 0 c).after 8 t) := by
  unfold Dat.leavesExact; rw [show cfg0.idle 8 (grid0.coords t) = false from rfl]
theorem leaves9 (c : Dev nD) (t : Fin cfg0.N) : (dats m 0 c).leavesExact 9 t = owns (c : Thread nD τ) (ms9 t) fullShare ((dats m 0 c).after 9 t) := by
  unfold Dat.leavesExact; rw [show cfg0.idle 9 (grid0.coords t) = false from rfl]

theorem noFlush (t : Fin cfg0.N) (h : t.val ≠ 95) : (cfg0.win 10).flush t = false := by
  have hN : t.val < 96 := lt_of_lt_of_eq t.isLt N_0
  exact Bool.eq_false_iff.mpr fun h' => by have := (flush0_10 t).mp h'; omega

theorem live10 (t : Fin cfg0.N) (h : t.val % 3 = 0) : cfg0.idle 10 (grid0.coords t) = false :=
  Bool.eq_false_iff.mpr fun h' => (idle_iff t).mp h' h

theorem idle10 (t : Fin cfg0.N) (h : ¬t.val % 3 = 0) : cfg0.idle 10 (grid0.coords t) = true := (idle_iff t).mpr h

/-- After the first point the taps' gradients are, before a point, what the point before left. -/
theorem before10 (c : Dev nD) : ∀ (n : ℕ) (hn : n + 1 < cfg0.N) (d), (dats m 0 c).before 10 ⟨n + 1, hn⟩ d = (st m c n (Nat.lt_of_succ_lt hn)).2.1 := by
  intro n
  induction n with
  | zero =>
    intro hn d
    rw [(dats m 0 c).before_of_pos 10 ⟨0 + 1, hn⟩ (Nat.succ_ne_zero _) ((cfg0.win 10).fetch_out rfl _) d,
      noFlush ⟨(⟨0 + 1, hn⟩ : Fin cfg0.N).val - 1, _⟩ (by dsimp only; omega), if_neg Bool.false_ne_true]
    unfold Dat.left
    rw [live10 ⟨(⟨0 + 1, hn⟩ : Fin cfg0.N).val - 1, _⟩ (by dsimp only)]
    dsimp only
    unfold Dat.kept
    rw [Pipeline.fill_of_clip_none 10 _ (fun _ => rfl) d ((dats m 0 c).after 10 _), Window.fill_cut]
    exact after10 m c _
  | succ n ih =>
    intro hn d
    rw [(dats m 0 c).before_of_pos 10 ⟨n + 1 + 1, hn⟩ (Nat.succ_ne_zero _) ((cfg0.win 10).fetch_out rfl _) d,
      noFlush ⟨(⟨n + 1 + 1, hn⟩ : Fin cfg0.N).val - 1, _⟩ (by have : n + 1 + 1 < 96 := lt_of_lt_of_eq hn N_0; dsimp only; omega), if_neg Bool.false_ne_true]
    unfold Dat.left
    by_cases h : (n + 1) % 3 = 0
    · rw [live10 ⟨(⟨n + 1 + 1, hn⟩ : Fin cfg0.N).val - 1, _⟩ h]
      dsimp only
      unfold Dat.kept
      rw [Pipeline.fill_of_clip_none 10 _ (fun _ => rfl) d ((dats m 0 c).after 10 _), Window.fill_cut]
      exact after10 m c _
    · rw [idle10 ⟨(⟨n + 1 + 1, hn⟩ : Fin cfg0.N).val - 1, _⟩ h]
      dsimp only
      refine (ih (Nat.lt_of_succ_lt hn) d).trans ?_
      exact (congrArg (fun s => s.2.1) (st_C m c ⟨n + 1, Nat.lt_of_succ_lt hn⟩ h (fun h1 => h ((cond1_iff _).mp h1)))).symm

theorem before10_pos (c : Dev nD) (t : Fin cfg0.N) (hz : t.val ≠ 0) (d) : (dats m 0 c).before 10 t d = (st m c (t.val - 1) (pred_lt t)).2.1 := by
  obtain ⟨n, hn⟩ := t
  cases n with
  | zero => exact absurd rfl hz
  | succ n => exact before10 m c n hn d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
theorem sound_0 (c : Dev nD) (t : Fin cfg0.N) (h0 : t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, after0, after1, after2, after3, after4, after5, after6, after7, after8, after9]
  rw [show (dats m 0 c).leavesExact 10 t = owns (c : Thread nD τ) (ms10 t) fullShare ((dats m 0 c).after 10 t) from by
    unfold Dat.leavesExact; rw [live10 t h0], after10]
  have h1 : k0_cond1 (grid0.coords t) = 1#1 := (cond1_iff t).mpr h0
  by_cases hz : t.val = 0
  · have h2 : k0_cond2 (grid0.coords t) = 1#1 := (cond2_iff t).mpr (by omega)
    rw [PhiS_castSucc m c t, PhiS_zero m c _ _ hz, PhiA0_eq, st_A m c t hz h1 h2]
    unfold vA; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, ⟨%e9, H9⟩, ⟨%e10, H10⟩, ⟨%e11, HS0⟩, ⟨%e12, HS1⟩, ⟨%e13, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; exact View.read_writes_of_cover _ _ _ _ _ (cover13A m c t _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover9A m c t _ _)
    unfold owns; iexists _; isplitr
    swap; · iexact H10
    ipureintro; exact View.read_writes_of_cover _ _ _ _ _ (cover10A m c t _ _)

  · have h2 : ¬k0_cond2 (grid0.coords t) = 1#1 := fun h => by have := (cond2_iff t).mp h; omega
    rw [PhiS_castSucc m c t, PhiS_pos m c _ _ hz, st_B m c t hz h0 h1 h2]
    simp only [before10_pos m c t hz]
    unfold vB; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 h2 (iblk m c 0 t) (iblk m c 1 t) (iblk m c 2 t) (iblk m c 3 t) (iblk m c 4 t) (iblk m c 5 t) (iblk m c 6 t) (iblk m c 7 t) (iblk m c 8 t) (st m c (t.val - 1) (pred_lt t)).2.1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    isplitl [HS1]; · iexact HS1
    isplitl [HS2]; · iexists _; iexact HS2
    iintro ⟨H0, H1, H2, H3, H4, H5, H6, H7, H8, ⟨%e9, H9⟩, ⟨%e10, H10⟩, ⟨%e11, HS0⟩, ⟨%e12, HS1⟩, ⟨%e13, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; exact View.read_writes_of_cover _ _ _ _ _ (cover13B m c t _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover9B m c t _ _ _)
    unfold owns; iexists _; isplitr
    swap; · iexact H10
    ipureintro; exact View.read_writes_of_cover _ _ _ _ _ (cover10B m c t _ _ _)

set_option maxHeartbeats 4800000 in
theorem sound_pos (c : Dev nD) (t : Fin cfg0.N) (h0 : ¬t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, after0, after1, after2, after3, after4, after5, after6, after7, after8, after9]
  have h1 : ¬k0_cond1 (grid0.coords t) = 1#1 := fun h => h0 ((cond1_iff t).mp h)
  have hz : t.val ≠ 0 := fun h => h0 (by omega)
  rw [PhiS_castSucc m c t, PhiS_pos m c _ _ hz, st_C m c t h0 h1]
  unfold vC; dsimp only
  have h10 : iprop(∃ d, owns (c : Thread nD τ) (ms10 t) fullShare ((dats m 0 c).before 10 t d)) ⊢ ((dats m 0 c).leavesExact 10 t : sProp 𝕄) := by
    by_cases hf : t.val = 95
    · unfold Dat.leavesExact
      rw [idle10 t h0, (flush0_10 t).mpr (by omega)]
      dsimp only
      rw [after10, st_C m c t h0 h1]
      simp only [before10_pos m c t hz]
      iintro ⟨%d, H⟩
      iexact H
    · rw [Dat.leavesExact_idle (dats m 0 c) 10 t (idle10 t h0) (noFlush t hf)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) h1 (st m c (t.val - 1) (pred_lt t)).2.2).2 Set.univ _)
  isplitl [H9]; · iexists _; iexact H9
  isplitl [HS2]; · iexact HS2
  iintro ⟨⟨%e9, H9⟩, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover9C c t _ _)
  iapply h10
  iexact H10

theorem sound_body (c : Dev nD) (t : Fin cfg0.N) :
    bodyPre m c t ⊢ wp frame (wpE (defs₀ (F := F)) Variants.none c none) Set.univ (bodyAt0 t) (fun _ => bodyPost m c t) := by
  by_cases h0 : t.val % 3 = 0
  · exact sound_0 m c t h0
  · exact sound_pos m c t h0

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]; · iexact HS0
    isplitl [HS1]; · iexact HS1
    iexists _; iexact HS2
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  frame_of m ρ (dats m) (A_eq m) (run_main m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

end Cert.BranchBBwdIdeal.Body

end
-- ==== Proof.AttnMath.lean ====
/-
  The gradient of one row of softmax attention over the extended reals: what the backward kernel computes of a row of
  queries, the keys, the values and the row's cotangent, and what differentiating the softmax quotient computes of them.
  The two agree once the row's exponentials have a finite nonzero sum, which finite queries and keys give.
-/
module

public import Idealize.ShloMosaic.PureOps.Ideal
public import Idealize.ShloMosaic.PureOps.Ideal.Laws

@[expose] public section

noncomputable section

namespace Cert.Attn

open Idealize.ShloMosaic

/-- The scale of the scores, one over the square root of the 256 columns of a head. -/
def sc : EReal := Ideal.ofBits .f32 0x3D800000#32

theorem sc_eq : sc = ((1 / 16 : ℝ) : EReal) := by
  simp [sc, Ideal.ofBits, Ideal.ieee]
  rw [← EReal.coe_mul]; norm_num

/-- A row's scaled scores against the 256 keys. -/
def score (q : Fin 256 → EReal) (K : Fin 256 → Fin 256 → EReal) (j : Fin 256) : EReal := (∑ d, q d * K j d) * sc

/-- The row's largest score. -/
def top (q : Fin 256 → EReal) (K : Fin 256 → Fin 256 → EReal) : EReal :=
  Finset.univ.fold max (Ideal.ofBits .f32 0xFF800000#32) fun j => score q K j

/-- The exponentials of the scores below the largest. -/
def expo (q : Fin 256 → EReal) (K : Fin 256 → Fin 256 → EReal) (j : Fin 256) : EReal :=
  Ideal.exp (score q K j - top q K)

/-- Their sum. -/
def total (q : Fin 256 → EReal) (K : Fin 256 → Fin 256 → EReal) : EReal := ∑ j, expo q K j

/-- The row's probabilities. -/
def prob (q : Fin 256 → EReal) (K : Fin 256 → Fin 256 → EReal) (j : Fin 256) : EReal :=
  Ideal.div (expo q K j) (total q K)

/-- The cotangent of the probabilities. -/
def dprob (o : Fin 256 → EReal) (V : Fin 256 → Fin 256 → EReal) (j : Fin 256) : EReal := ∑ d, o d * V j d

/-- The cotangent of the unscaled scores, as the kernel has it. -/
def dscore (q o : Fin 256 → EReal) (K V : Fin 256 → Fin 256 → EReal) (j : Fin 256) : EReal :=
  prob q K j * (dprob o V j - ∑ j', dprob o V j' * prob q K j')

/-- The cotangent of the unscaled scores, as differentiating the quotient of an exponential by the sum of all has it. -/
def dscoreQuot (q o : Fin 256 → EReal) (K V : Fin 256 → Fin 256 → EReal) (j : Fin 256) : EReal :=
  (Ideal.div (dprob o V j) (total q K)
    + -∑ j', dprob o V j' * Ideal.div 1 (total q K * total q K) * expo q K j') * expo q K j

theorem ofBits_negInf : Ideal.ofBits .f32 0xFF800000#32 = ⊥ := by
  simp [Ideal.ofBits, Ideal.ieee]

/-- A finite factor that is not negative comes out of a sum. -/
theorem sum_mul_of_nonneg {c : EReal} (h0 : 0 ≤ c) (hT : c ≠ ⊤) {n : ℕ} (f : Fin n → EReal) :
    ∑ i, f i * c = (∑ i, f i) * c := by
  have key : ∀ s : Finset (Fin n), ∑ i ∈ s, f i * c = (∑ i ∈ s, f i) * c := by
    intro s
    induction s using Finset.cons_induction with
    | empty => simp
    | cons a s ha ih => rw [Finset.sum_cons, Finset.sum_cons, ih, EReal.right_distrib_of_nonneg_of_ne_top h0 hT]
  exact key _

theorem sum_mul_sc {n : ℕ} (f : Fin n → EReal) : ∑ i, f i * sc = (∑ i, f i) * sc :=
  sum_mul_of_nonneg (by rw [sc_eq]; exact_mod_cast (by norm_num : (0 : ℝ) ≤ 1 / 16)) (by rw [sc_eq]; exact EReal.coe_ne_top _) f

/-- A sum of reals is the real sum. -/
theorem sum_coe {n : ℕ} (f : Fin n → ℝ) : ∑ i, (f i : EReal) = ((∑ i, f i : ℝ) : EReal) := by
  have key : ∀ s : Finset (Fin n), ∑ i ∈ s, (f i : EReal) = ((∑ i ∈ s, f i : ℝ) : EReal) := by
    intro s
    induction s using Finset.cons_induction with
    | empty => simp
    | cons a s ha ih => rw [Finset.sum_cons, Finset.sum_cons, ih, EReal.coe_add]
  exact key _

section Finite

variable {q : Fin 256 → EReal} {K : Fin 256 → Fin 256 → EReal}

/-- With finite queries and keys the scores are reals, so the exponentials are positive reals. -/
theorem expo_real (hq : ∀ d, ∃ r : ℝ, q d = r) (hK : ∀ j d, ∃ r : ℝ, K j d = r) :
    ∃ e : Fin 256 → ℝ, (∀ j, 0 < e j) ∧ ∀ j, expo q K j = (e j : EReal) := by
  choose q' hq using hq
  choose K' hK using hK
  have hs : ∀ j, score q K j = ((∑ d, q' d * K' j d) * (1 / 16) : ℝ) := by
    intro j
    rw [score, sc_eq, EReal.coe_mul, ← sum_coe]
    exact congrArg (· * _) (Finset.sum_congr rfl fun d _ => by rw [hq, hK, EReal.coe_mul])
  obtain ⟨t, ht⟩ : ∃ t : ℝ, top q K = t := by
    have : ∀ s : Finset (Fin 256), s.fold max ⊥ (fun j => score q K j) = ⊥ ∧ s = ∅
        ∨ ∃ t : ℝ, s.fold max ⊥ (fun j => score q K j) = t := by
      intro s
      induction s using Finset.cons_induction with
      | empty => exact .inl ⟨rfl, rfl⟩
      | cons a s ha ih =>
        refine .inr ?_
        rw [Finset.fold_cons, hs]
        rcases ih with ⟨h, -⟩ | ⟨t, h⟩
        · exact ⟨_, by rw [h]; exact max_eq_left bot_le⟩
        · exact ⟨max _ t, by rw [h]; exact (EReal.coe_strictMono.monotone.map_max).symm⟩
    rw [top, ofBits_negInf]
    rcases this Finset.univ with ⟨-, h⟩ | h
    · exact absurd h (Finset.univ_nonempty.ne_empty)
    · exact h
  refine ⟨fun j => Real.exp ((∑ d, q' d * K' j d) * (1 / 16) - t), fun j => Real.exp_pos _, fun j => ?_⟩
  rw [expo, hs, ht, ← EReal.coe_sub]; rfl

/-- With finite queries and keys both forms of the cotangent of the scores are one. -/
theorem dscoreQuot_eq (hq : ∀ d, ∃ r : ℝ, q d = r) (hK : ∀ j d, ∃ r : ℝ, K j d = r) (o : Fin 256 → EReal)
    (V : Fin 256 → Fin 256 → EReal) (j : Fin 256) : dscoreQuot q o K V j = dscore q o K V j := by
  obtain ⟨e, he0, he⟩ := expo_real hq hK
  have hS : 0 < ∑ j, e j := Finset.sum_pos (fun j _ => he0 j) Finset.univ_nonempty
  have ht : total q K = ((∑ j, e j : ℝ) : EReal) := by
    rw [total, ← sum_coe]; exact Finset.sum_congr rfl fun j _ => he j
  set S := ∑ j, e j
  have hc0 : (0 : EReal) ≤ (S⁻¹ : ℝ) := by exact_mod_cast (inv_pos.mpr hS).le
  have hcT : ((S⁻¹ : ℝ) : EReal) ≠ ⊤ := EReal.coe_ne_top _
  have hdiv : ∀ x, Ideal.div x (total q K) = x * (S⁻¹ : ℝ) := fun x => by
    rw [ht, Ideal.div, if_neg (by exact_mod_cast hS.ne'), EReal.coe_inv]
  have hdiv2 : Ideal.div 1 (total q K * total q K) = (S⁻¹ : ℝ) * (S⁻¹ : ℝ) := by
    rw [ht, ← EReal.coe_mul, Ideal.div, if_neg (by exact_mod_cast (mul_pos hS hS).ne'), one_mul, ← EReal.coe_inv,
      ← EReal.coe_mul, mul_inv]
  have hsum : ∑ j', dprob o V j' * Ideal.div 1 (total q K * total q K) * expo q K j'
      = (∑ j', dprob o V j' * prob q K j') * (S⁻¹ : ℝ) := by
    rw [← sum_mul_of_nonneg hc0 hcT]
    refine Finset.sum_congr rfl fun j' _ => ?_
    rw [hdiv2, prob, hdiv]
    ac_rfl
  rw [dscoreQuot, dscore, hsum, hdiv, prob, hdiv, ← EReal.neg_mul, ← EReal.right_distrib_of_nonneg_of_ne_top hc0 hcT,
    ← sub_eq_add_neg]
  ac_rfl

end Finite

end Cert.Attn

end
-- ==== Proof.AttnBlock.lean ====
/-
  What the attention backward kernel leaves at one grid point, read at coordinates: the block of query gradients, and the
  accumulator of key and value gradients with this block of rows added. The four heads are the same text at four places.
-/
module

public import proofs.«01_k».proof.Proof.Gen.AttnBwdIdeal.Value
public import proofs.«01_k».proof.Proof.AttnMath
public import Idealize.ShloMosaic.Lib.Pointwise
public import Idealize.ShloMosaic.Lib.Pipeline.ReadBack
public import Idealize.ShloMosaic.Lib.Pipeline.CanonAppend

@[expose] public section

set_option maxRecDepth 16384

noncomputable section

namespace Cert.AttnBwdIdeal.Val

open Cert.AttnBwdIdeal Cert.AttnBwdIdeal.Gen Idealize.ShloMosaic Idealize.ShloMosaic.TcCoe Idealize.SL.Sem
open Cert.Attn

local notation "𝕀" => Idealize.ShloMosaic.Ideal

/-! ## One head -/

theorem pay2_apply (q : Vec 𝕀 S512x256 .bf16) (k : Vec 𝕀 S256x256 .bf16) (r : Fin 512) (l : Fin 256) :
    k0_pay2 q k (ix2 r l) = prob (fun d => q (ix2 r d)) (fun j d => k (ix2 j d)) l := by
  pointwise [k0_pay2]
  rfl

theorem pay3_apply (q : Vec 𝕀 S512x256 .bf16) (k v : Vec 𝕀 S256x256 .bf16) (o : Vec 𝕀 S512x256 .bf16) (r : Fin 512)
    (l : Fin 256) :
    k0_pay3 q k v o (ix2 r l)
      = dscore (fun d => q (ix2 r d)) (fun d => o (ix2 r d)) (fun j d => k (ix2 j d)) (fun j d => v (ix2 j d)) l := by
  pointwise [k0_pay3, pay2_apply]
  rfl

theorem pay4_apply (q : Vec 𝕀 S512x256 .bf16) (k v : Vec 𝕀 S256x256 .bf16) (o : Vec 𝕀 S512x256 .bf16) (r : Fin 512)
    (l : Fin 256) :
    k0_pay4 q k v o (ix2 r l)
      = (∑ j, dscore (fun d => q (ix2 r d)) (fun d => o (ix2 r d)) (fun j d => k (ix2 j d)) (fun j d => v (ix2 j d)) j
          * k (ix2 j l)) * sc := by
  pointwise [k0_pay4, pay3_apply]
  rfl

/-- The accumulated key gradient of one head. -/
def dkPay (q : Vec 𝕀 S512x256 .bf16) (k v : Vec 𝕀 S256x256 .bf16) (o : Vec 𝕀 S512x256 .bf16) (a : Vec 𝕀 S256x256 .f32) :
    FVec 𝕀 S256x256 .f32 :=
  k0_pay6 q (k0_pay3 q k v o) (k0_pay5 a) (constant S256x256 .f32 0x00000000#32)

/-- The accumulated value gradient of one head. -/
def dvPay (q : Vec 𝕀 S512x256 .bf16) (k : Vec 𝕀 S256x256 .bf16) (o : Vec 𝕀 S512x256 .bf16) (a : Vec 𝕀 S256x256 .f32) :
    FVec 𝕀 S256x256 .f32 :=
  k0_pay7 o (k0_pay2 q k) a

theorem dkPay_apply (q : Vec 𝕀 S512x256 .bf16) (k v : Vec 𝕀 S256x256 .bf16) (o : Vec 𝕀 S512x256 .bf16)
    (a : Vec 𝕀 S256x256 .f32) (j l : Fin 256) :
    dkPay q k v o a (ix2 j l)
      = a (ix2 j l) + (∑ r : Fin 512,
          dscore (fun d => q (ix2 r d)) (fun d => o (ix2 r d)) (fun j d => k (ix2 j d)) (fun j d => v (ix2 j d)) j
            * q (ix2 r l)) * sc := by
  pointwise [dkPay, k0_pay6, k0_pay5, pay3_apply]
  rfl

theorem dvPay_apply (q : Vec 𝕀 S512x256 .bf16) (k : Vec 𝕀 S256x256 .bf16) (o : Vec 𝕀 S512x256 .bf16)
    (a : Vec 𝕀 S256x256 .f32) (j l : Fin 256) :
    dvPay q k o a (ix2 j l)
      = a (ix2 j l) + ∑ r : Fin 512, prob (fun d => q (ix2 r d)) (fun j d => k (ix2 j d)) j * o (ix2 r l) := by
  pointwise [dvPay, k0_pay7, pay2_apply]

/-! The same with the four loads given by what they read. -/

theorem pay4_of (q : Vec 𝕀 S512x256 .bf16) (k v : Vec 𝕀 S256x256 .bf16) (o : Vec 𝕀 S512x256 .bf16) {r : Fin 512}
    (Q O : Fin 256 → EReal) (K V : Fin 256 → Fin 256 → EReal) (hq : ∀ d, q (ix2 r d) = Q d) (ho : ∀ d, o (ix2 r d) = O d)
    (hk : ∀ j d, k (ix2 j d) = K j d) (hv : ∀ j d, v (ix2 j d) = V j d) (l : Fin 256) :
    k0_pay4 q k v o (ix2 r l) = (∑ j, dscore Q O K V j * K j l) * sc := by
  rw [pay4_apply]
  simp only [hq, ho, hk, hv]

theorem dkPay_of (q : Vec 𝕀 S512x256 .bf16) (k v : Vec 𝕀 S256x256 .bf16) (o : Vec 𝕀 S512x256 .bf16) (a : Vec 𝕀 S256x256 .f32)
    (Q O : Fin 512 → Fin 256 → EReal) (K V : Fin 256 → Fin 256 → EReal) (hq : ∀ r d, q (ix2 r d) = Q r d)
    (ho : ∀ r d, o (ix2 r d) = O r d) (hk : ∀ j d, k (ix2 j d) = K j d) (hv : ∀ j d, v (ix2 j d) = V j d) (j l : Fin 256)
    (A : EReal) (ha : a (ix2 j l) = A) :
    dkPay q k v o a (ix2 j l) = A + (∑ r : Fin 512, dscore (Q r) (O r) K V j * Q r l) * sc := by
  rw [dkPay_apply]
  simp only [hq, ho, hk, hv, ha]

theorem dvPay_of (q : Vec 𝕀 S512x256 .bf16) (k : Vec 𝕀 S256x256 .bf16) (o : Vec 𝕀 S512x256 .bf16) (a : Vec 𝕀 S256x256 .f32)
    (Q O : Fin 512 → Fin 256 → EReal) (K : Fin 256 → Fin 256 → EReal) (hq : ∀ r d, q (ix2 r d) = Q r d)
    (ho : ∀ r d, o (ix2 r d) = O r d) (hk : ∀ j d, k (ix2 j d) = K j d) (j l : Fin 256) (A : EReal) (ha : a (ix2 j l) = A) :
    dvPay q k o a (ix2 j l) = A + ∑ r : Fin 512, prob (Q r) K j * O r l := by
  rw [dvPay_apply]
  simp only [hq, ho, hk, ha]

/-! ## The four heads of a block -/

/-- A load of `w` whole columns from column `o` on reads the contents `o` columns further. -/
theorem ld_cols {n m w : ℕ} {e : EltTy} (X : (⟨2, ![n, m]⟩ : Shape).Idx → Elt 𝕀 e) (o : ℕ)
    (inb : ∀ a, (![0, o] : Fin 2 → ℕ) a + (![n, w] : Fin 2 → ℕ) a ≤ (⟨2, ![n, m]⟩ : Shape).size a) (r : Fin n) (l : Fin w)
    (c : Fin m) (hc : c.val = o + l.val) :
    View.ld X (Rect.unit (s := ⟨2, ![n, m]⟩) ![0, o] ![n, w] inb) (ix2 r l) = X (ix2 r c) :=
  congrArg X (funext fun a => by
    match a with
    | ⟨0, _⟩ => exact Fin.ext (by show 0 + 1 * r.val = r.val; omega)
    | ⟨1, _⟩ => exact Fin.ext (by show o + 1 * l.val = c.val; omega))

/-- Column `d` of head `h` among the 1024 columns of the queries. -/
abbrev qcol (h : Fin 4) (d : Fin 256) : Fin 1024 := ⟨256 * h.val + d.val, by omega⟩
/-- Column `d` of head `h` among the keys, the first half of the 2048 columns. -/
abbrev kcol (h : Fin 4) (d : Fin 256) : Fin 2048 := ⟨256 * h.val + d.val, by omega⟩
/-- Column `d` of head `h` among the values, the second half. -/
abbrev vcol (h : Fin 4) (d : Fin 256) : Fin 2048 := ⟨1024 + (256 * h.val + d.val), by omega⟩

theorem ld_q {e : EltTy} {n : ℕ} (X : (⟨2, ![n, 1024]⟩ : Shape).Idx → Elt 𝕀 e) (h : Fin 4)
    (inb : ∀ a, (![0, 256 * h.val] : Fin 2 → ℕ) a + (![n, 256] : Fin 2 → ℕ) a ≤ (⟨2, ![n, 1024]⟩ : Shape).size a) (r : Fin n)
    (l : Fin 256) :
    View.ld X (Rect.unit (s := ⟨2, ![n, 1024]⟩) ![0, 256 * h.val] ![n, 256] inb) (ix2 r l) = X (ix2 r (qcol h l)) :=
  ld_cols X _ inb r l (qcol h l) rfl

theorem ld_k {e : EltTy} {n : ℕ} (X : (⟨2, ![n, 2048]⟩ : Shape).Idx → Elt 𝕀 e) (h : Fin 4)
    (inb : ∀ a, (![0, 256 * h.val] : Fin 2 → ℕ) a + (![n, 256] : Fin 2 → ℕ) a ≤ (⟨2, ![n, 2048]⟩ : Shape).size a) (r : Fin n)
    (l : Fin 256) :
    View.ld X (Rect.unit (s := ⟨2, ![n, 2048]⟩) ![0, 256 * h.val] ![n, 256] inb) (ix2 r l) = X (ix2 r (kcol h l)) :=
  ld_cols X _ inb r l (kcol h l) rfl

theorem ld_v {e : EltTy} {n : ℕ} (X : (⟨2, ![n, 2048]⟩ : Shape).Idx → Elt 𝕀 e) (h : Fin 4)
    (inb : ∀ a, (![0, 1024 + 256 * h.val] : Fin 2 → ℕ) a + (![n, 256] : Fin 2 → ℕ) a ≤ (⟨2, ![n, 2048]⟩ : Shape).size a)
    (r : Fin n) (l : Fin 256) :
    View.ld X (Rect.unit (s := ⟨2, ![n, 2048]⟩) ![0, 1024 + 256 * h.val] ![n, 256] inb) (ix2 r l) = X (ix2 r (vcol h l)) :=
  ld_cols X _ inb r l (vcol h l) (Nat.add_assoc _ _ _).symm

section Block

variable (x0 x1 : Vec 𝕀 S512x1024 .bf16) (x2 : Vec 𝕀 S256x2048 .bf16)

/-- The keys of head `h`. -/
def keys (h : Fin 4) : Fin 256 → Fin 256 → EReal := fun j d => x2 (ix2 j (kcol h d))
/-- The values of head `h`. -/
def vals (h : Fin 4) : Fin 256 → Fin 256 → EReal := fun j d => x2 (ix2 j (vcol h d))
/-- Row `r` of head `h` of a block of queries, or of their cotangents. -/
def rowOf (x : Vec 𝕀 S512x1024 .bf16) (h : Fin 4) (r : Fin 512) : Fin 256 → EReal := fun d => x (ix2 r (qcol h d))

/-- The block's query gradient. -/
def dqBlk (h : Fin 4) (r : Fin 512) (l : Fin 256) : EReal :=
  (∑ j, dscore (rowOf x1 h r) (rowOf x0 h r) (keys x2 h) (vals x2 h) j * keys x2 h j l) * sc
/-- The block's part of the key gradient. -/
def dkBlk (h : Fin 4) (j l : Fin 256) : EReal :=
  (∑ r, dscore (rowOf x1 h r) (rowOf x0 h r) (keys x2 h) (vals x2 h) j * rowOf x1 h r l) * sc
/-- The block's part of the value gradient. -/
def dvBlk (h : Fin 4) (j l : Fin 256) : EReal :=
  ∑ r, prob (rowOf x1 h r) (keys x2 h) j * rowOf x0 h r l

/-- The head a column belongs to. -/
abbrev headOf {n : ℕ} (c : Fin n) : Fin 4 := ⟨c.val / 256 % 4, Nat.mod_lt _ (by decide)⟩
/-- The column's place in its head. -/
abbrev inHead {n : ℕ} (c : Fin n) : Fin 256 := ⟨c.val % 256, Nat.mod_lt _ (by decide)⟩

theorem headOf_eq {n : ℕ} (c : Fin n) (h : Fin 4) (d : Fin 256) (e : c.val = 256 * h.val + d.val) : headOf c = h :=
  Fin.ext (by show c.val / 256 % 4 = h.val; omega)
theorem headOf_eq' {n : ℕ} (c : Fin n) (h : Fin 4) (d : Fin 256) (e : c.val = 1024 + (256 * h.val + d.val)) : headOf c = h :=
  Fin.ext (by show c.val / 256 % 4 = h.val; omega)
theorem inHead_eq {n : ℕ} (c : Fin n) (h : Fin 4) (d : Fin 256) (e : c.val = 256 * h.val + d.val) : inHead c = d :=
  Fin.ext (by show c.val % 256 = d.val; omega)
theorem inHead_eq' {n : ℕ} (c : Fin n) (h : Fin 4) (d : Fin 256) (e : c.val = 1024 + (256 * h.val + d.val)) : inHead c = d :=
  Fin.ext (by show c.val % 256 = d.val; omega)

/-- The block of query gradients as an array. -/
def dqOut : Vec 𝕀 S512x1024 .bf16 := fun y => dqBlk x0 x1 x2 (headOf (y 1)) (y 0) (inHead (y 1))

/-- What this block adds to the accumulator of key and value gradients. -/
def dkvAdd : Vec 𝕀 S256x2048 .f32 := fun y =>
  if (y 1).val < 1024 then dkBlk x0 x1 x2 (headOf (y 1)) (y 0) (inHead (y 1))
  else dvBlk x0 x1 x2 (headOf (y 1)) (y 0) (inHead (y 1))

/-- What the block leaves in the accumulator that held `a`. -/
def dkvOut (a : Vec 𝕀 S256x2048 .f32) : Vec 𝕀 S256x2048 .f32 := fun y => a y + dkvAdd x0 x1 x2 y

/-! ## The four stores of the query gradients -/

/-- One store of query gradients, at column `o`. -/
def dqPiece (o : ℕ) (h1 : ∀ a, (![0, o] : Fin 2 → ℕ) a + (![512, 256] : Fin 2 → ℕ) a ≤ S512x1024.size a)
    (h2 : ∀ a, (![0, o] : Fin 2 → ℕ) a + (![256, 256] : Fin 2 → ℕ) a ≤ S256x2048.size a)
    (h3 : ∀ a, (![0, 1024 + o] : Fin 2 → ℕ) a + (![256, 256] : Fin 2 → ℕ) a ≤ S256x2048.size a) :
    View.Piece (Elt 𝕀) S512x1024 .bf16 :=
  ⟨Rect.unit ![0, o] ![512, 256] h1,
    k0_pay4 (View.ld x1 (Rect.unit ![0, o] ![512, 256] h1)) (View.ld x2 (Rect.unit ![0, o] ![256, 256] h2))
      (View.ld x2 (Rect.unit ![0, 1024 + o] ![256, 256] h3)) (View.ld x0 (Rect.unit ![0, o] ![512, 256] h1))⟩

theorem dqPiece_eq (h : Fin 4) (o : ℕ) (ho : o = 256 * h.val) (h1) (h2) (h3) (x : (dqPiece x0 x1 x2 o h1 h2 h3).1.shape.Idx) :
    (dqPiece x0 x1 x2 o h1 h2 h3).2 x = dqOut x0 x1 x2 ((dqPiece x0 x1 x2 o h1 h2 h3).1.emb x) := by
  subst ho
  obtain ⟨r, l, rfl⟩ : ∃ (r : Fin 512) (l : Fin 256), x = ix2 r l := ⟨x 0, x 1, by
    funext a; match a with | ⟨0, _⟩ => rfl | ⟨1, _⟩ => rfl⟩
  have e : (dqPiece x0 x1 x2 (256 * h.val) h1 h2 h3).1.emb (ix2 r l) = (ix2 r (qcol h l) : S512x1024.Idx) := by
    funext a
    match a with
    | ⟨0, _⟩ => exact Fin.ext (by show 0 + 1 * r.val = r.val; omega)
    | ⟨1, _⟩ => exact Fin.ext (by show 256 * h.val + 1 * l.val = 256 * h.val + l.val; omega)
  rw [e]
  show k0_pay4 (F := 𝕀) _ _ _ _ (ix2 r l) = dqBlk x0 x1 x2 (headOf (qcol h l)) r (inHead (qcol h l))
  rw [headOf_eq (qcol h l) h l rfl, inHead_eq (qcol h l) h l rfl]
  exact pay4_of _ _ _ _ _ _ _ _ (ld_q x1 h _ r) (ld_q x0 h _ r) (ld_k x2 h _) (ld_v x2 h _) l

/-! ## The eight stores of the accumulator -/

/-- One store of key gradients, at column `o`, over an accumulator that held `a`. -/
def dkPiece (a : Vec 𝕀 S256x2048 .f32) (o : ℕ) (h1 : ∀ a, (![0, o] : Fin 2 → ℕ) a + (![512, 256] : Fin 2 → ℕ) a ≤ S512x1024.size a)
    (h2 : ∀ a, (![0, o] : Fin 2 → ℕ) a + (![256, 256] : Fin 2 → ℕ) a ≤ S256x2048.size a)
    (h3 : ∀ a, (![0, 1024 + o] : Fin 2 → ℕ) a + (![256, 256] : Fin 2 → ℕ) a ≤ S256x2048.size a) :
    View.Piece (Elt 𝕀) S256x2048 .f32 :=
  ⟨Rect.unit ![0, o] ![256, 256] h2,
    dkPay (View.ld x1 (Rect.unit ![0, o] ![512, 256] h1)) (View.ld x2 (Rect.unit ![0, o] ![256, 256] h2))
      (View.ld x2 (Rect.unit ![0, 1024 + o] ![256, 256] h3)) (View.ld x0 (Rect.unit ![0, o] ![512, 256] h1))
      (View.ld a (Rect.unit ![0, o] ![256, 256] h2))⟩

/-- One store of value gradients. -/
def dvPiece (a : Vec 𝕀 S256x2048 .f32) (o : ℕ) (h1 : ∀ a, (![0, o] : Fin 2 → ℕ) a + (![512, 256] : Fin 2 → ℕ) a ≤ S512x1024.size a)
    (h2 : ∀ a, (![0, o] : Fin 2 → ℕ) a + (![256, 256] : Fin 2 → ℕ) a ≤ S256x2048.size a)
    (h3 : ∀ a, (![0, 1024 + o] : Fin 2 → ℕ) a + (![256, 256] : Fin 2 → ℕ) a ≤ S256x2048.size a) :
    View.Piece (Elt 𝕀) S256x2048 .f32 :=
  ⟨Rect.unit ![0, 1024 + o] ![256, 256] h3,
    dvPay (View.ld x1 (Rect.unit ![0, o] ![512, 256] h1)) (View.ld x2 (Rect.unit ![0, o] ![256, 256] h2))
      (View.ld x0 (Rect.unit ![0, o] ![512, 256] h1)) (View.ld a (Rect.unit ![0, 1024 + o] ![256, 256] h3))⟩

theorem dkPiece_eq (a : Vec 𝕀 S256x2048 .f32) (h : Fin 4) (o : ℕ) (ho : o = 256 * h.val) (h1) (h2) (h3)
    (x : (dkPiece x0 x1 x2 a o h1 h2 h3).1.shape.Idx) :
    (dkPiece x0 x1 x2 a o h1 h2 h3).2 x = dkvOut x0 x1 x2 a ((dkPiece x0 x1 x2 a o h1 h2 h3).1.emb x) := by
  subst ho
  obtain ⟨r, l, rfl⟩ : ∃ (r : Fin 256) (l : Fin 256), x = ix2 r l := ⟨x 0, x 1, by
    funext a; match a with | ⟨0, _⟩ => rfl | ⟨1, _⟩ => rfl⟩
  have e : (dkPiece x0 x1 x2 a (256 * h.val) h1 h2 h3).1.emb (ix2 r l) = (ix2 r (kcol h l) : S256x2048.Idx) := by
    funext a
    match a with
    | ⟨0, _⟩ => exact Fin.ext (by show 0 + 1 * r.val = r.val; omega)
    | ⟨1, _⟩ => exact Fin.ext (by show 256 * h.val + 1 * l.val = 256 * h.val + l.val; omega)
  rw [e]
  show dkPay _ _ _ _ _ (ix2 r l) = a (ix2 r (kcol h l)) + dkvAdd x0 x1 x2 (ix2 r (kcol h l))
  have hlt : ((ix2 r (kcol h l) : S256x2048.Idx) 1).val < 1024 := by show 256 * h.val + l.val < 1024; omega
  rw [dkvAdd, if_pos hlt]
  show _ = _ + dkBlk x0 x1 x2 (headOf (kcol h l)) r (inHead (kcol h l))
  rw [headOf_eq (kcol h l) h l rfl, inHead_eq (kcol h l) h l rfl]
  exact dkPay_of _ _ _ _ _ _ _ _ _ (ld_q x1 h _) (ld_q x0 h _) (ld_k x2 h _) (ld_v x2 h _) r l _ (ld_k a h _ r l)

theorem dvPiece_eq (a : Vec 𝕀 S256x2048 .f32) (h : Fin 4) (o : ℕ) (ho : o = 256 * h.val) (h1) (h2) (h3)
    (x : (dvPiece x0 x1 x2 a o h1 h2 h3).1.shape.Idx) :
    (dvPiece x0 x1 x2 a o h1 h2 h3).2 x = dkvOut x0 x1 x2 a ((dvPiece x0 x1 x2 a o h1 h2 h3).1.emb x) := by
  subst ho
  obtain ⟨r, l, rfl⟩ : ∃ (r : Fin 256) (l : Fin 256), x = ix2 r l := ⟨x 0, x 1, by
    funext a; match a with | ⟨0, _⟩ => rfl | ⟨1, _⟩ => rfl⟩
  have e : (dvPiece x0 x1 x2 a (256 * h.val) h1 h2 h3).1.emb (ix2 r l) = (ix2 r (vcol h l) : S256x2048.Idx) := by
    funext a
    match a with
    | ⟨0, _⟩ => exact Fin.ext (by show 0 + 1 * r.val = r.val; omega)
    | ⟨1, _⟩ => exact Fin.ext (by show 1024 + 256 * h.val + 1 * l.val = 1024 + (256 * h.val + l.val); omega)
  rw [e]
  show dvPay _ _ _ _ (ix2 r l) = a (ix2 r (vcol h l)) + dkvAdd x0 x1 x2 (ix2 r (vcol h l))
  have hge : ¬((ix2 r (vcol h l) : S256x2048.Idx) 1).val < 1024 := by
    show ¬(1024 + (256 * h.val + l.val) < 1024); omega
  rw [dkvAdd, if_neg hge]
  show _ = _ + dvBlk x0 x1 x2 (headOf (vcol h l)) r (inHead (vcol h l))
  rw [headOf_eq' (vcol h l) h l rfl, inHead_eq' (vcol h l) h l rfl]
  exact dvPay_of _ _ _ _ _ _ _ (ld_q x1 h _) (ld_q x0 h _) (ld_k x2 h _) r l _ (ld_v a h _ r l)

/-! ## The two cases -/

/-- The four stores of query gradients, last first. -/
def dqPieces : List (View.Piece (Elt 𝕀) S512x1024 .bf16) :=
  [dqPiece x0 x1 x2 768 inb_S512x1024_S512x256_0_768 inb_S256x2048_S256x256_0_768 inb_S256x2048_S256x256_0_1792,
   dqPiece x0 x1 x2 512 inb_S512x1024_S512x256_0_512 inb_S256x2048_S256x256_0_512 inb_S256x2048_S256x256_0_1536,
   dqPiece x0 x1 x2 256 inb_S512x1024_S512x256_0_256 inb_S256x2048_S256x256_0_256 inb_S256x2048_S256x256_0_1280,
   dqPiece x0 x1 x2 0 inb_S512x1024_S512x256_0_0 inb_S256x2048_S256x256_0_0 inb_S256x2048_S256x256_0_1024]

/-- The eight stores of the accumulator, last first. -/
def dkvPieces (a : Vec 𝕀 S256x2048 .f32) : List (View.Piece (Elt 𝕀) S256x2048 .f32) :=
  [dvPiece x0 x1 x2 a 768 inb_S512x1024_S512x256_0_768 inb_S256x2048_S256x256_0_768 inb_S256x2048_S256x256_0_1792,
   dkPiece x0 x1 x2 a 768 inb_S512x1024_S512x256_0_768 inb_S256x2048_S256x256_0_768 inb_S256x2048_S256x256_0_1792,
   dvPiece x0 x1 x2 a 512 inb_S512x1024_S512x256_0_512 inb_S256x2048_S256x256_0_512 inb_S256x2048_S256x256_0_1536,
   dkPiece x0 x1 x2 a 512 inb_S512x1024_S512x256_0_512 inb_S256x2048_S256x256_0_512 inb_S256x2048_S256x256_0_1536,
   dvPiece x0 x1 x2 a 256 inb_S512x1024_S512x256_0_256 inb_S256x2048_S256x256_0_256 inb_S256x2048_S256x256_0_1280,
   dkPiece x0 x1 x2 a 256 inb_S512x1024_S512x256_0_256 inb_S256x2048_S256x256_0_256 inb_S256x2048_S256x256_0_1280,
   dvPiece x0 x1 x2 a 0 inb_S512x1024_S512x256_0_0 inb_S256x2048_S256x256_0_0 inb_S256x2048_S256x256_0_1024,
   dkPiece x0 x1 x2 a 0 inb_S512x1024_S512x256_0_0 inb_S256x2048_S256x256_0_0 inb_S256x2048_S256x256_0_1024]

theorem dqPieces_of : View.PiecesOf (dqOut x0 x1 x2) (dqPieces x0 x1 x2) :=
  ⟨dqPiece_eq x0 x1 x2 3 768 rfl _ _ _, dqPiece_eq x0 x1 x2 2 512 rfl _ _ _, dqPiece_eq x0 x1 x2 1 256 rfl _ _ _,
   dqPiece_eq x0 x1 x2 0 0 rfl _ _ _, trivial⟩

theorem dkvPieces_of (a : Vec 𝕀 S256x2048 .f32) : View.PiecesOf (dkvOut x0 x1 x2 a) (dkvPieces x0 x1 x2 a) :=
  ⟨dvPiece_eq x0 x1 x2 a 3 768 rfl _ _ _, dkPiece_eq x0 x1 x2 a 3 768 rfl _ _ _, dvPiece_eq x0 x1 x2 a 2 512 rfl _ _ _,
   dkPiece_eq x0 x1 x2 a 2 512 rfl _ _ _, dvPiece_eq x0 x1 x2 a 1 256 rfl _ _ _, dkPiece_eq x0 x1 x2 a 1 256 rfl _ _ _,
   dvPiece_eq x0 x1 x2 a 0 0 rfl _ _ _, dkPiece_eq x0 x1 x2 a 0 0 rfl _ _ _, trivial⟩

theorem dkvPieces_cover (a : Vec 𝕀 S256x2048 .f32) (y : S256x2048.Idx) : ∃ p ∈ dkvPieces x0 x1 x2 a, y ∈ p.1.set :=
  View.cover_of_tiledL (dkvPieces x0 x1 x2 a) S256x256.size (by sl_kernel_rfl) y

/-- A load after the accumulator was cleared reads the cleared contents. -/
theorem readCov_clear (v : View sig .tc .vmem S256x2048 .f32) (Z : Vec 𝕀 S256x2048 .f32) (r : Rect S256x2048) :
    v.readCov [(⟨Rect.unit ![0, 0] ![256, 2048] inb_S256x2048_S256x2048_0_0, Z⟩ : View.Piece (Elt 𝕀) S256x2048 .f32)] r.toLoadRect
      = View.ld Z r :=
  View.readCov_fill v _ Z [] r fun a => by match a with | ⟨0, _⟩ => rfl | ⟨1, _⟩ => rfl

variable (c : Dev nD) (i : grid0.Coords) (a2 : Memref sig .tc .vmem S512x1024 .bf16) (w2 : a2.IsWhole)
  (a3 : Memref sig .tc .vmem S512x1024 .bf16) (w3 : a3.IsWhole) (a4 : Memref sig .tc .vmem S256x2048 .bf16) (w4 : a4.IsWhole)
  (a5 : Memref sig .tc .vmem S512x1024 .bf16) (w5 : a5.IsWhole) (a6 : Memref sig .tc .vmem S256x2048 .f32) (w6 : a6.IsWhole)

theorem out_B_3 (hc : ¬cond0_0 i) (xo : Vec 𝕀 S256x2048 .f32) :
    out0_B_3 c i a2 w2 a3 w3 a4 w4 a5 w5 a6 w6 hc x0 x1 x2 xo = dqOut x0 x1 x2 := by
  have hcov := cover0_B_3 c i a2 w2 a3 w3 a4 w4 a5 w5 a6 w6 hc x0 x1 x2 xo
  have hL : (kernelRun0_B c i a2 w2 a3 w3 a4 w4 a5 w5 a6 w6 hc x0 x1 x2 xo).1 = dqPieces x0 x1 x2 := by
    unfold kernelRun0_B
    dsimp only
    sl_unfold_words
    simp only [View.readAt_eq_ld, w2.read_unread, w3.read_unread, w4.read_unread]
    rfl
  unfold out0_B_3
  rw [View.read_writes_eq_canon _ _ _ hcov]
  rw [hL] at hcov ⊢
  exact funext fun y => View.canon_apply_of_pieces _ _ (dqPieces_of x0 x1 x2).mem y (hcov y)

theorem out_B_4 (hc : ¬cond0_0 i) (xo : Vec 𝕀 S256x2048 .f32) :
    out0_B_4 c i a2 w2 a3 w3 a4 w4 a5 w5 a6 w6 hc x0 x1 x2 xo = dkvOut x0 x1 x2 xo := by
  have hcov := cover0_B_4 c i a2 w2 a3 w3 a4 w4 a5 w5 a6 w6 hc x0 x1 x2 xo
  have hL : (kernelRun0_B c i a2 w2 a3 w3 a4 w4 a5 w5 a6 w6 hc x0 x1 x2 xo).2.1 = dkvPieces x0 x1 x2 xo := by
    unfold kernelRun0_B
    dsimp only
    sl_unfold_words
    simp only [View.readAt_eq_ld, w2.read_unread, w3.read_unread, w4.read_unread, w6.read_unread]
    rfl
  unfold out0_B_4
  rw [View.read_writes_eq_canon _ _ _ hcov]
  rw [hL] at hcov ⊢
  exact funext fun y => View.canon_apply_of_pieces _ _ (dkvPieces_of x0 x1 x2 xo).mem y (hcov y)

theorem out_A_3 (hc : cond0_0 i) :
    out0_A_3 c i a2 w2 a3 w3 a4 w4 a5 w5 a6 w6 hc x0 x1 x2 = dqOut x0 x1 x2 := by
  have hcov := cover0_A_3 c i a2 w2 a3 w3 a4 w4 a5 w5 a6 w6 hc x0 x1 x2
  have hL : (kernelRun0_A c i a2 w2 a3 w3 a4 w4 a5 w5 a6 w6 hc x0 x1 x2).1 = dqPieces x0 x1 x2 := by
    unfold kernelRun0_A
    dsimp only
    sl_unfold_words
    simp only [View.readAt_eq_ld, w2.read_unread, w3.read_unread, w4.read_unread]
    rfl
  unfold out0_A_3
  rw [View.read_writes_eq_canon _ _ _ hcov]
  rw [hL] at hcov ⊢
  exact funext fun y => View.canon_apply_of_pieces _ _ (dqPieces_of x0 x1 x2).mem y (hcov y)

theorem out_A_4 (hc : cond0_0 i) :
    out0_A_4 c i a2 w2 a3 w3 a4 w4 a5 w5 a6 w6 hc x0 x1 x2 = dkvOut x0 x1 x2 (k0_pay1 (F := 𝕀)) := by
  have hL : (kernelRun0_A c i a2 w2 a3 w3 a4 w4 a5 w5 a6 w6 hc x0 x1 x2).2.1
      = dkvPieces x0 x1 x2 (k0_pay1 (F := 𝕀))
        ++ [⟨Rect.unit ![0, 0] ![256, 2048] inb_S256x2048_S256x2048_0_0, k0_pay1 (F := 𝕀)⟩] := by
    unfold kernelRun0_A
    dsimp only
    sl_unfold_words
    simp only [View.readAt_eq_ld, w2.read_unread, w3.read_unread, w4.read_unread]
    simp (disch := decide) only [View.readCov_skip, readCov_clear]
    rfl
  unfold out0_A_4
  rw [View.read_writes_junk_eq_canon, hL]
  exact funext fun y => View.canon_append_of_piecesOf _ _ _ (dkvPieces_of x0 x1 x2 _) y (dkvPieces_cover x0 x1 x2 _ y)

end Block

end Cert.AttnBwdIdeal.Val

end
-- ==== Proof.AttnValue.lean ====
/-
  The two result arrays of the attention backward kernel, as functions of its arguments: the query gradients in columns
  5120 to 6143 of the array that already holds the other gradients, and the gradients of the keys and values, whose sums
  over the 8192 rows the kernel takes 512 rows at a time.
-/
module

public import proofs.«01_k».proof.Proof.AttnBlock
public import Idealize.ShloMosaic.Lib.Pipeline.ValueKit

@[expose] public section

set_option maxRecDepth 16384

noncomputable section

namespace Cert.Attn

open Idealize.ShloMosaic

local notation "𝕀" => Idealize.ShloMosaic.Ideal

/-- Row `i` of head `h` of the queries, columns 5120 to 6143 of the projections. -/
def qRow (x : (⟨2, ![8192, 12288]⟩ : Shape).Idx → EReal) (h : Fin 4) (i : Fin 8192) : Fin 256 → EReal :=
  fun d => x (ix2 i ⟨5120 + (256 * h.val + d.val), by omega⟩)
/-- Row `i` of head `h` of the output's cotangent. -/
def oRow (x : (⟨2, ![8192, 1024]⟩ : Shape).Idx → EReal) (h : Fin 4) (i : Fin 8192) : Fin 256 → EReal :=
  fun d => x (ix2 i ⟨256 * h.val + d.val, by omega⟩)
/-- The keys of head `h`, in the first half of the columns. -/
def keyTab (x : (⟨2, ![256, 2048]⟩ : Shape).Idx → EReal) (h : Fin 4) : Fin 256 → Fin 256 → EReal :=
  fun j d => x (ix2 j ⟨256 * h.val + d.val, by omega⟩)
/-- The values of head `h`, in the second half. -/
def valTab (x : (⟨2, ![256, 2048]⟩ : Shape).Idx → EReal) (h : Fin 4) : Fin 256 → Fin 256 → EReal :=
  fun j d => x (ix2 j ⟨1024 + (256 * h.val + d.val), by omega⟩)

section Arrays

variable (x0 : (⟨2, ![8192, 12288]⟩ : Shape).Idx → EReal) (x1 : (⟨2, ![8192, 1024]⟩ : Shape).Idx → EReal)
  (x2 : (⟨2, ![8192, 12288]⟩ : Shape).Idx → EReal) (x3 : (⟨2, ![256, 2048]⟩ : Shape).Idx → EReal)

/-- The cotangent of the scores of row `i` of head `h`. -/
def ds (h : Fin 4) (i : Fin 8192) (j : Fin 256) : EReal := dscore (qRow x2 h i) (oRow x1 h i) (keyTab x3 h) (valTab x3 h) j

/-- The query gradient. -/
def dq (h : Fin 4) (i : Fin 8192) (l : Fin 256) : EReal := (∑ j, ds x1 x2 x3 h i j * keyTab x3 h j l) * sc
/-- The key gradient. -/
def dk (h : Fin 4) (j l : Fin 256) : EReal := (∑ i, ds x1 x2 x3 h i j * qRow x2 h i l) * sc
/-- The value gradient. -/
def dv (h : Fin 4) (j l : Fin 256) : EReal := ∑ i, prob (qRow x2 h i) (keyTab x3 h) j * oRow x1 h i l

/-- The head a column belongs to, where each block of 1024 columns is four heads of 256. -/
abbrev hd {n : ℕ} (c : Fin n) : Fin 4 := ⟨c.val / 256 % 4, Nat.mod_lt _ (by decide)⟩
/-- The column's place in its head. -/
abbrev ln {n : ℕ} (c : Fin n) : Fin 256 := ⟨c.val % 256, Nat.mod_lt _ (by decide)⟩

/-- The first result: the query gradients in place of columns 5120 to 6143. -/
def out0 : (⟨2, ![8192, 12288]⟩ : Shape).Idx → EReal := fun y =>
  if 5120 ≤ (y 1).val ∧ (y 1).val < 6144 then dq x1 x2 x3 (hd (y 1)) (y 0) (ln (y 1)) else x0 y

/-- The second result: the gradients of the keys, then of the values. -/
def out1 : (⟨2, ![256, 2048]⟩ : Shape).Idx → EReal := fun y =>
  if (y 1).val < 1024 then dk x1 x2 x3 (hd (y 1)) (y 0) (ln (y 1)) else dv x1 x2 x3 (hd (y 1)) (y 0) (ln (y 1))

end Arrays

end Cert.Attn

namespace Cert.AttnBwdIdeal.Val

open Cert.AttnBwdIdeal Cert.AttnBwdIdeal.Gen Idealize.ShloMosaic Idealize.ShloMosaic.TcCoe Idealize.SL.Sem
open Cert.Attn

local notation "𝕀" => Idealize.ShloMosaic.Ideal

variable (m : (ℓ : Loc nD τ sig) → Buf (Elt 𝕀) ℓ) (c : Dev nD)

/-- The arguments on device `c`. -/
abbrev X0 : Vec 𝕀 S8192x12288 .bf16 := m ((c : Thread nD τ).loc main_arg0)
abbrev X1 : Vec 𝕀 S8192x1024 .bf16 := m ((c : Thread nD τ).loc main_arg1)
abbrev X2 : Vec 𝕀 S8192x12288 .bf16 := m ((c : Thread nD τ).loc main_arg2)
abbrev X3 : Vec 𝕀 S256x2048 .bf16 := m ((c : Thread nD τ).loc main_arg3)

theorem idx (t : Fin grid0.N) : win0_0.index t = ![t.val, 0] ∧ win0_1.index t = ![t.val, 5] ∧ win0_2.index t = ![0, 0]
    ∧ win0_3.index t = ![t.val, 5] ∧ win0_4.index t = ![0, 0] :=
  (by decide +kernel : ∀ t : Fin grid0.N, win0_0.index t = ![t.val, 0] ∧ win0_1.index t = ![t.val, 5] ∧ win0_2.index t = ![0, 0]
    ∧ win0_3.index t = ![t.val, 5] ∧ win0_4.index t = ![0, 0]) t

/-- Row `r` of block `t`. -/
abbrev row (t : Fin cfg0.N) (r : Fin 512) : Fin 8192 :=
  ⟨512 * t.val + r.val, by have := t.isLt; have : cfg0.N = 16 := N_0; omega⟩

theorem iblk0 (t : Fin cfg0.N) (r : Fin 512) (l : Fin 1024) : iblk m c 0 t (ix2 r l) = X1 m c (ix2 (row t r) l) := by
  blk_ext [iblk, V, (idx t).1]

theorem iblk1 (t : Fin cfg0.N) (r : Fin 512) (l : Fin 1024) :
    iblk m c 1 t (ix2 r l) = X2 m c (ix2 (row t r) ⟨5120 + l.val, by omega⟩) := by
  blk_ext [iblk, V, (idx t).2.1]

theorem iblk2 (t : Fin cfg0.N) : iblk m c 2 t = X3 m c := by
  funext y
  blk_ext [iblk, V, (idx t).2.2.1]

theorem rowOf_q (t : Fin cfg0.N) (h : Fin 4) (r : Fin 512) : rowOf (iblk m c 1 t) h r = qRow (X2 m c) h (row t r) :=
  funext fun _ => iblk1 m c t r _
theorem rowOf_o (t : Fin cfg0.N) (h : Fin 4) (r : Fin 512) : rowOf (iblk m c 0 t) h r = oRow (X1 m c) h (row t r) :=
  funext fun _ => iblk0 m c t r _
theorem keys_eq (t : Fin cfg0.N) (h : Fin 4) : keys (iblk m c 2 t) h = keyTab (X3 m c) h := by rw [iblk2]; rfl
theorem vals_eq (t : Fin cfg0.N) (h : Fin 4) : vals (iblk m c 2 t) h = valTab (X3 m c) h := by rw [iblk2]; rfl

/-- What block `t` leaves of the query gradients. -/
theorem outs_1 (t : Fin cfg0.N) : (outsAt0 m c t.val t.isLt).1 = dqOut (iblk m c 0 t) (iblk m c 1 t) (iblk m c 2 t) := by
  by_cases h0 : t.val % 16 = 0
  · rw [outsAt0_A m c t h0]; dsimp only; rw [out_A_3]
  · rw [outsAt0_B m c t h0]; dsimp only; rw [out_B_3]

/-- The accumulator after the last block: what every block added. -/
theorem outs_2 (y : S256x2048.Idx) : (outsAt0 m c t0_15.val t0_15.isLt).2 y
    = ∑ t : Fin cfg0.N, dkvAdd (iblk m c 0 t) (iblk m c 1 t) (iblk m c 2 t) y := by
  have e := Pipeline.eq_sum_fin_of_reset_step_apply_last (M := EReal) (ι := S256x2048.Idx) (fun n h => (outsAt0 m c n h).2) 16 (fun _ => 0)
    (fun t => dkvAdd (iblk m c 0 t) (iblk m c 1 t) (iblk m c 2 t))
    (fun t h i => by
      rw [outsAt0_A m c t h]
      dsimp only
      rw [out_A_4, dkvOut]
      congr 1
      show Ideal.ofBits .f32 0x00000000#32 = 0
      exact Ideal.ofBits_zero_f32)
    (fun t h i => by
      rw [outsAt0_B m c t h]
      dsimp only
      rw [out_B_4, dkvOut])
    (by rw [show cfg0.N = 16 from N_0]) t0_15 (show 15 + 1 = grid0.N from N_0.symm) y
  rw [e, zero_add]

/-- Where block `t` of the first array lies. -/
theorem place0 (t : Fin cfg0.N) (r : Fin 512) (l : Fin 1024) :
    (win0_3.blk t).view.emb (ix2 r l) = (ix2 (row t r) ⟨5120 + l.val, by omega⟩ : S8192x12288.Idx) := by
  blk_ext [(idx t).2.2.2.1]

/-- The first array after the run. -/
theorem arr0 : (dats m 0 c).arrAt 3 cfg0.N = out0 (X0 m c) (X1 m c) (X2 m c) (X3 m c) := by
  refine (dats m 0 c).arrAt_eq_of_coversWhere_of_agree 3 _ (fun β => β (1 : Fin 2) = 5) (by decide +kernel) (fun t hf y => ?_) (fun j hj => ?_)
  · blk_simp
    rw [after0_3, outs_1]
    obtain ⟨r, l, rfl⟩ : ∃ (r : Fin 512) (l : Fin 1024), y = ix2 r l := ⟨y 0, y 1, by
      funext a; match a with | ⟨0, _⟩ => rfl | ⟨1, _⟩ => rfl⟩
    refine Eq.trans ?_ (congrArg (out0 (X0 m c) (X1 m c) (X2 m c) (X3 m c)) (place0 t r l)).symm
    have hin : 5120 ≤ ((ix2 (row t r) (⟨5120 + l.val, by omega⟩ : Fin 12288) : S8192x12288.Idx) 1).val
        ∧ ((ix2 (row t r) (⟨5120 + l.val, by omega⟩ : Fin 12288) : S8192x12288.Idx) 1).val < 6144 := by
      show 5120 ≤ 5120 + l.val ∧ 5120 + l.val < 6144; omega
    rw [out0, if_pos hin]
    have eh : hd (⟨5120 + l.val, by omega⟩ : Fin 12288) = headOf l :=
      Fin.ext (by show (5120 + l.val) / 256 % 4 = l.val / 256 % 4; omega)
    have el : ln (⟨5120 + l.val, by omega⟩ : Fin 12288) = inHead l :=
      Fin.ext (by show (5120 + l.val) % 256 = l.val % 256; omega)
    show dqBlk (iblk m c 0 t) (iblk m c 1 t) (iblk m c 2 t) (headOf l) r (inHead l)
      = dq (X1 m c) (X2 m c) (X3 m c) (hd (⟨5120 + l.val, by omega⟩ : Fin 12288)) (row t r) (ln (⟨5120 + l.val, by omega⟩ : Fin 12288))
    rw [eh, el, dqBlk, rowOf_q, rowOf_o, keys_eq, vals_eq]
    rfl
  · blk_simp [Pipeline.Window.cell_apply] at hj
    blk_simp
    rw [out0, if_neg (by omega)]
    rw [A_eq]
    blk_ext [V]

theorem dkBlk_eq (t : Fin cfg0.N) (h : Fin 4) (j l : Fin 256) : dkBlk (iblk m c 0 t) (iblk m c 1 t) (iblk m c 2 t) h j l
    = ∑ r : Fin 512, ds (X1 m c) (X2 m c) (X3 m c) h (row t r) j * qRow (X2 m c) h (row t r) l * sc := by
  rw [sum_mul_sc, dkBlk, keys_eq, vals_eq]
  simp only [rowOf_q, rowOf_o]
  rfl

theorem dvBlk_eq (t : Fin cfg0.N) (h : Fin 4) (j l : Fin 256) : dvBlk (iblk m c 0 t) (iblk m c 1 t) (iblk m c 2 t) h j l
    = ∑ r : Fin 512, prob (qRow (X2 m c) h (row t r)) (keyTab (X3 m c) h) j * oRow (X1 m c) h (row t r) l := by
  rw [dvBlk, keys_eq]
  simp only [rowOf_q, rowOf_o]

/-- The rows of the sixteen blocks are all the rows. -/
theorem sum_rows (g : Fin 8192 → EReal) : ∑ t : Fin cfg0.N, ∑ r : Fin 512, g (row t r) = ∑ i, g i :=
  Fin.sum_mul_add_congr (S := cfg0.N) (n := 512)
    fun s k _ => congrArg g (Fin.ext (by show 512 * s.val + k.val = s.val * 512 + k.val; omega))

theorem dk_sum (h : Fin 4) (j l : Fin 256) :
    ∑ t : Fin cfg0.N, dkBlk (iblk m c 0 t) (iblk m c 1 t) (iblk m c 2 t) h j l = dk (X1 m c) (X2 m c) (X3 m c) h j l := by
  rw [dk, ← sum_mul_sc, ← sum_rows]
  exact Finset.sum_congr rfl fun t _ => dkBlk_eq m c t _ _ _

theorem dv_sum (h : Fin 4) (j l : Fin 256) :
    ∑ t : Fin cfg0.N, dvBlk (iblk m c 0 t) (iblk m c 1 t) (iblk m c 2 t) h j l = dv (X1 m c) (X2 m c) (X3 m c) h j l := by
  rw [dv, ← sum_rows]
  exact Finset.sum_congr rfl fun t _ => dvBlk_eq m c t _ _ _

/-- The second array after the run. -/
theorem arr1 : (dats m 0 c).arrAt 4 cfg0.N = out1 (X1 m c) (X2 m c) (X3 m c) := by
  refine (dats m 0 c).arrAt_eq_of_after_last 4 t0_15 (by decide +kernel) _ fun y => ?_
  blk_simp
  rw [after0_4]
  refine (outs_2 m c y).trans ?_
  by_cases hy : ((y : S256x2048.Idx) 1).val < 1024
  · simp only [dkvAdd, out1, if_pos hy]
    exact dk_sum m c _ _ _
  · simp only [dkvAdd, out1, if_neg hy]
    exact dv_sum m c _ _ _

end Cert.AttnBwdIdeal.Val

end
-- ==== Proof.AttnRef.lean ====
/-
  What differentiating the attention's forward lines computes, read at coordinates.
-/
module

public import proofs.«01_k».proof.Proof.Gen.AttnRefIdeal.Read
public import proofs.«01_k».proof.Proof.AttnMath
public import proofs.«01_k».proof.Proof.AttnValue
public import Idealize.ShloMosaic.Lib.Pointwise

@[expose] public section

set_option maxRecDepth 16384

noncomputable section

namespace Cert.AttnRefIdeal.Val

open Cert.AttnRefIdeal Cert.AttnRefIdeal.Gen Cert.AttnRefIdeal.Read Idealize.ShloMosaic Idealize.ShloMosaic.TcCoe Idealize.SL.Sem
open Cert.Attn

local notation "𝕀" => Idealize.ShloMosaic.Ideal

variable (x0 : Vec 𝕀 S8192x12288 .bf16) (x1 : Vec 𝕀 S8192x1024 .bf16) (x2 : Vec 𝕀 S8192x12288 .bf16) (x3 : Vec 𝕀 S256x2048 .bf16)

theorem v7_apply (i : Fin 8192) (h : Fin 4) (d : Fin 256) :
    val_main_v7 (F := 𝕀) x2 (ix4 0 i h d) = qRow x2 h i d := by
  pointwise [val_main_v7, val_main_v6, val_main_v1, val_main_v0]
  exact congrArg (fun l => x2 (ix2 i l)) (Fin.ext (by show 5120 + (h.val * 256 + d.val) = 5120 + (256 * h.val + d.val); omega))

theorem v8_apply (j : Fin 256) (h : Fin 4) (d : Fin 256) :
    val_main_v8 (F := 𝕀) x3 (ix4 0 j h d) = keyTab x3 h j d := by
  pointwise [val_main_v8, val_main_v4, val_main_v3, val_main_v2]
  exact congrArg (fun l => x3 (ix2 j l)) (Fin.ext (by show h.val * 256 + d.val = 256 * h.val + d.val; omega))

theorem v9_apply (j : Fin 256) (h : Fin 4) (d : Fin 256) :
    val_main_v9 (F := 𝕀) x3 (ix4 0 j h d) = valTab x3 h j d := by
  pointwise [val_main_v9, val_main_v5, val_main_v3, val_main_v2]
  exact congrArg (fun l => x3 (ix2 j l)) (Fin.ext (by show 1024 + (h.val * 256 + d.val) = 1024 + (256 * h.val + d.val); omega))

theorem v45_apply (i : Fin 8192) (h : Fin 4) (d : Fin 256) :
    val_main_v45 (F := 𝕀) x1 (ix4 0 i h d) = oRow x1 h i d := by
  pointwise [val_main_v45, val_main_v44]
  exact congrArg (fun l => x1 (ix2 i l)) (Fin.ext (by show h.val * 256 + d.val = 256 * h.val + d.val; omega))

theorem v12_apply (h : Fin 4) (i : Fin 8192) (j : Fin 256) :
    val_main_v12 (F := 𝕀) x2 x3 (ix4 0 h i j) = score (qRow x2 h i) (keyTab x3 h) j := by
  pointwise [val_main_v12, val_main_v10, val_main_v11, val_main_cst, v7_apply, v8_apply]
  rfl

theorem v13_apply (h : Fin 4) (i : Fin 8192) :
    val_main_v13 (F := 𝕀) x2 x3 (ix3 0 h i) = top (qRow x2 h i) (keyTab x3 h) := by
  have e := v12_apply x2 x3 h i
  unfold val_main_v13
  generalize val_main_v12 (F := 𝕀) x2 x3 = y at e ⊢
  rw [Host.reduce_eq_fold_single _ y _ _ (by decide : S1x4x8192x256.Reduces [3] S1x4x8192) h_S_]
  refine congrArg (fun f => Finset.fold max (Ideal.ofBits .f32 0xFF800000#32) f Finset.univ) (funext fun k => ?_)
  refine Eq.trans (congrArg y (funext fun a => ?_)) (e k)
  match a with
  | ⟨0, _⟩ => rfl
  | ⟨1, _⟩ => rfl
  | ⟨2, _⟩ => rfl
  | ⟨3, _⟩ => rfl

theorem v20_apply (h : Fin 4) (i : Fin 8192) :
    val_main_v20 (F := 𝕀) x2 x3 (ix3 0 h i) = top (qRow x2 h i) (keyTab x3 h) := by
  have e : val_main_v19 (F := 𝕀) (ix3 0 h i) = (⊥ : EReal) := by
    rw [val_main_v19_apply, val_main_cst_2_apply]; exact ofBits_negInf
  rw [val_main_v20_apply, v13_apply, e]
  exact max_eq_right bot_le

theorem v33_apply (h : Fin 4) (i : Fin 8192) (j : Fin 256) :
    val_main_v33 (F := 𝕀) x2 x3 (ix4 0 h i j) = expo (qRow x2 h i) (keyTab x3 h) j := by
  pointwise [val_main_v33, val_main_v32, val_main_v31, val_main_v30, v20_apply, v12_apply]
  rfl

theorem v35_apply (h : Fin 4) (i : Fin 8192) (z : Fin 1) :
    val_main_v35 (F := 𝕀) x2 x3 (ix4 0 h i z) = total (qRow x2 h i) (keyTab x3 h) := by
  pointwise [val_main_v35, val_main_v34, val_main_cst_8, v33_apply]
  rfl

theorem v37_apply (h : Fin 4) (i : Fin 8192) (j : Fin 256) :
    val_main_v37 (F := 𝕀) x2 x3 (ix4 0 h i j) = prob (qRow x2 h i) (keyTab x3 h) j := by
  pointwise [val_main_v37, val_main_v36, v35_apply, v33_apply]
  rfl

theorem v40_apply (h : Fin 4) (i : Fin 8192) (z : Fin 1) : val_main_v40 (F := 𝕀) x2 x3 (ix4 0 h i z)
    = Ideal.div 1 (total (qRow x2 h i) (keyTab x3 h) * total (qRow x2 h i) (keyTab x3 h)) := by
  pointwise [val_main_v40, val_main_v39, val_main_v38, val_main_cst_9, v35_apply]

theorem v47_apply (h : Fin 4) (i : Fin 8192) (j : Fin 256) :
    val_main_v47 (F := 𝕀) x1 x3 (ix4 0 h i j) = dprob (oRow x1 h i) (valTab x3 h) j := by
  pointwise [val_main_v47, val_main_v46, v45_apply, v9_apply]
  rfl

theorem v49_apply (j : Fin 256) (h : Fin 4) (l : Fin 256) :
    val_main_v49 (F := 𝕀) x1 x2 x3 (ix4 0 j h l) = dv x1 x2 x3 h j l := by
  pointwise [val_main_v49, val_main_v48, val_main_v46, v45_apply, v37_apply]
  exact Finset.sum_congr rfl fun _ _ => mul_comm _ _

theorem v55_apply (h : Fin 4) (i : Fin 8192) (z : Fin 1) : val_main_v55 (F := 𝕀) x1 x2 x3 (ix4 0 h i z)
    = -∑ j, dprob (oRow x1 h i) (valTab x3 h) j
        * Ideal.div 1 (total (qRow x2 h i) (keyTab x3 h) * total (qRow x2 h i) (keyTab x3 h)) * expo (qRow x2 h i) (keyTab x3 h) j := by
  pointwise [val_main_v55, val_main_v54, val_main_v53, val_main_v52, val_main_v51, val_main_v50, val_main_cst_10, v47_apply,
    v40_apply, v33_apply]

theorem v58_apply (h : Fin 4) (i : Fin 8192) :
    val_main_v58 (F := 𝕀) x1 x2 x3 (ix2 h i) = val_main_v55 (F := 𝕀) x1 x2 x3 (ix4 0 h i 0) := by
  unfold val_main_v58
  generalize val_main_v55 (F := 𝕀) x1 x2 x3 = y
  pointwise [val_main_cst_11]
  unfold Ideal.hostReduceAdd
  rw [zero_add]
  refine (Finset.sum_eq_single_of_mem (ix4 0 h i 0) ?_ fun b hb hne => ?_).trans rfl
  · refine Finset.mem_filter.mpr ⟨Finset.mem_univ _, funext fun a => ?_⟩
    match a with
    | ⟨0, _⟩ => rfl
    | ⟨1, _⟩ => rfl
  · have hj := (Finset.mem_filter.mp hb).2
    refine absurd (funext fun a => ?_) hne
    match a with
    | ⟨0, _⟩ => exact Subsingleton.elim (α := Fin 1) _ _
    | ⟨1, _⟩ => have := congrArg Fin.val (congrFun hj ⟨0, by decide⟩); exact Fin.ext this
    | ⟨2, _⟩ => have := congrArg Fin.val (congrFun hj ⟨1, by decide⟩); exact Fin.ext this
    | ⟨3, _⟩ => exact Subsingleton.elim (α := Fin 1) _ _

theorem v64_apply (h : Fin 4) (i : Fin 8192) (j : Fin 256) : val_main_v64 (F := 𝕀) x1 x2 x3 (ix4 0 h i j)
    = dscoreQuot (qRow x2 h i) (oRow x1 h i) (keyTab x3 h) (valTab x3 h) j * sc := by
  pointwise [val_main_v64, val_main_v63, val_main_v62, val_main_v61, val_main_v60, val_main_v59, val_main_v57, val_main_v56,
    val_main_cst_12, v58_apply, v55_apply, v47_apply, v35_apply, v33_apply]
  rfl

theorem v66_apply (j : Fin 256) (h : Fin 4) (l : Fin 256) : val_main_v66 (F := 𝕀) x1 x2 x3 (ix4 0 j h l)
    = ∑ i, dscoreQuot (qRow x2 h i) (oRow x1 h i) (keyTab x3 h) (valTab x3 h) j * sc * qRow x2 h i l := by
  pointwise [val_main_v66, val_main_v65, v64_apply, v7_apply]

theorem v68_apply (i : Fin 8192) (h : Fin 4) (l : Fin 256) : val_main_v68 (F := 𝕀) x1 x2 x3 (ix4 0 i h l)
    = ∑ j, dscoreQuot (qRow x2 h i) (oRow x1 h i) (keyTab x3 h) (valTab x3 h) j * sc * keyTab x3 h j l := by
  pointwise [val_main_v68, val_main_v67, v64_apply, v8_apply]

/-- Two heads and places within the head that are equal as numbers. -/
theorem ix4_congr {n : ℕ} (i : Fin n) {h h' : Fin 4} {l l' : Fin 256} (e : h.val = h'.val) (f : l.val = l'.val) :
    ix4 (0 : Fin 1) i h l = ix4 0 i h' l' := by rw [Fin.ext e, Fin.ext f]

theorem v72_apply (i : Fin 8192) (l : Fin 1024) : val_main_v72 (F := 𝕀) x1 x2 x3 (ix2 i l)
    = val_main_v68 (F := 𝕀) x1 x2 x3 (ix4 0 i (hd l) (ln l)) := by
  pointwise [val_main_v72, val_main_v71, val_main_cst_13]
  rw [Fin.sum_univ_one]
  exact congrArg (val_main_v68 (F := 𝕀) x1 x2 x3) (ix4_congr _ (by show l.val / 256 = l.val / 256 % 4; omega) rfl)

theorem v74_apply (i : Fin 256) (l : Fin 2048) : val_main_v74 (F := 𝕀) x1 x2 x3 (ix2 i l)
    = if l.val < 1024 then val_main_v66 (F := 𝕀) x1 x2 x3 (ix4 0 i (hd l) (ln l))
      else val_main_v49 (F := 𝕀) x1 x2 x3 (ix4 0 i (hd l) (ln l)) := by
  pointwise [val_main_v74, val_main_v73, val_main_v70, val_main_v69, val_main_cst_14]
  rw [Fin.sum_univ_one]
  split
  · next hl => exact congrArg (val_main_v66 (F := 𝕀) x1 x2 x3) (ix4_congr _ (by show l.val / 256 = l.val / 256 % 4; omega) rfl)
  · next hl =>
    exact congrArg (val_main_v49 (F := 𝕀) x1 x2 x3) (ix4_congr _ (by show (l.val - 1024) / 256 = l.val / 256 % 4; omega)
      (by show (l.val - 1024) % 256 = l.val % 256; omega))

theorem v78_apply (i : Fin 8192) (l : Fin 12288) : val_main_v78 (F := 𝕀) x0 x1 x2 x3 (ix2 i l)
    = if 5120 ≤ l.val ∧ l.val < 6144 then val_main_v68 (F := 𝕀) x1 x2 x3 (ix4 0 i (hd l) (ln l)) else x0 (ix2 i l) := by
  pointwise [val_main_v78, val_main_v77, val_main_v76, val_main_v75, v72_apply]
  by_cases h1 : l.val < 5120
  · rw [dif_pos h1, if_neg (by omega)]
  · rw [dif_neg h1]
    by_cases h2 : l.val - 5120 < 1024
    · have hc : 5120 ≤ l.val ∧ l.val < 6144 := by omega
      rw [dif_pos h2, if_pos hc]
      exact congrArg (val_main_v68 (F := 𝕀) x1 x2 x3) (ix4_congr _ (by show (l.val - 5120) / 256 % 4 = l.val / 256 % 4; omega)
        (by show (l.val - 5120) % 256 = l.val % 256; omega))
    · have hc : ¬(5120 ≤ l.val ∧ l.val < 6144) := by omega
      rw [dif_neg h2, if_neg hc]
      exact congrArg (fun l => x0 (ix2 i l)) (Fin.ext (by show 6144 + (l.val - 5120 - 1024) = l.val; omega))

/-! ### With finite queries and keys -/

section Finite

variable {x2 x3} (hq : ∀ h i d, ∃ r : ℝ, qRow x2 h i d = r) (hK : ∀ h j d, ∃ r : ℝ, keyTab x3 h j d = r)
include hq hK

theorem v68_eq (i : Fin 8192) (h : Fin 4) (l : Fin 256) : val_main_v68 (F := 𝕀) x1 x2 x3 (ix4 0 i h l) = dq x1 x2 x3 h i l := by
  rw [v68_apply, dq, ← sum_mul_sc]
  refine Finset.sum_congr rfl fun j _ => ?_
  rw [dscoreQuot_eq (hq h i) (hK h), ds]
  exact mul_right_comm _ _ _

theorem v66_eq (j : Fin 256) (h : Fin 4) (l : Fin 256) : val_main_v66 (F := 𝕀) x1 x2 x3 (ix4 0 j h l) = dk x1 x2 x3 h j l := by
  rw [v66_apply, dk, ← sum_mul_sc]
  refine Finset.sum_congr rfl fun i _ => ?_
  rw [dscoreQuot_eq (hq h i) (hK h), ds]
  exact mul_right_comm _ _ _

theorem v78_eq : val_main_v78 (F := 𝕀) x0 x1 x2 x3 = out0 x0 x1 x2 x3 := by
  funext y
  obtain ⟨i, l, rfl⟩ : ∃ (i : Fin 8192) (l : Fin 12288), y = ix2 i l :=
    ⟨y 0, y 1, by funext a; match a with | ⟨0, _⟩ => rfl | ⟨1, _⟩ => rfl⟩
  rw [v78_apply, v68_eq x1 hq hK]; rfl

theorem v74_eq : val_main_v74 (F := 𝕀) x1 x2 x3 = out1 x1 x2 x3 := by
  funext y
  obtain ⟨i, l, rfl⟩ : ∃ (i : Fin 256) (l : Fin 2048), y = ix2 i l :=
    ⟨y 0, y 1, by funext a; match a with | ⟨0, _⟩ => rfl | ⟨1, _⟩ => rfl⟩
  rw [v74_apply, v66_eq x1 hq hK, v49_apply]; rfl

end Finite

end Cert.AttnRefIdeal.Val

end
-- ==== Proof.AttnClaim.lean ====
/-
  The attention's gradients: the kernel's two results are the reference's where the queries and the keys are finite.
-/
module

public import proofs.«01_k».proof.Defs
public import proofs.«01_k».proof.Proof.Gen.AttnBwdIdeal.Value
public import proofs.«01_k».proof.Proof.Gen.AttnRefIdeal.Run
public import proofs.«01_k».proof.Proof.Gen.AttnRefIdeal.Read
public import proofs.«01_k».proof.Proof.Gen.Pre_finite_queries_and_keys
public import proofs.«01_k».proof.Proof.AttnValue
public import proofs.«01_k».proof.Proof.AttnRef

@[expose] public section

noncomputable section

namespace Cert.Attn

open Idealize.ShloMosaic Idealize.SL.Sem

local notation "𝕀" => Idealize.ShloMosaic.Ideal

/-- An extended real whose absolute value is below infinity is a real. -/
theorem real_of_abs_lt {x : EReal} (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  have hlt : max x (-x) < ⊤ := by
    by_contra hn
    rw [ht] at h
    simp [Ideal.cmp, hn] at h
  induction x with
  | bot => exact absurd hlt (by simp)
  | top => exact absurd hlt (by simp)
  | coe r => exact ⟨r, rfl⟩

section Pre

variable (x0 : Vec 𝕀 ⟨2, ![8192, 12288]⟩ .bf16) (x1 : Vec 𝕀 ⟨2, ![8192, 1024]⟩ .bf16)
  (x2 : Vec 𝕀 ⟨2, ![8192, 12288]⟩ .bf16) (x3 : Vec 𝕀 ⟨2, ![256, 2048]⟩ .bf16)

theorem queries_real (h : (Cert.Pre_finite_queries_and_keys.fn (F := 𝕀) x0 x1 x2 x3).1 = fun _ => 1#1)
    (g : Fin 4) (i : Fin 8192) (d : Fin 256) : ∃ r : ℝ, qRow x2 g i d = r := by
  have e := congrFun h (ix2 i ⟨256 * g.val + d.val, by omega⟩)
  refine real_of_abs_lt (Eq.trans ?_ e)
  pointwise [Cert.Pre_finite_queries_and_keys.fn]
  rfl

theorem keys_real (h : (Cert.Pre_finite_queries_and_keys.fn (F := 𝕀) x0 x1 x2 x3).2 = fun _ => 1#1)
    (g : Fin 4) (j d : Fin 256) : ∃ r : ℝ, keyTab x3 g j d = r := by
  have e := congrFun h (ix2 j ⟨256 * g.val + d.val, by omega⟩)
  refine real_of_abs_lt (Eq.trans ?_ e)
  pointwise [Cert.Pre_finite_queries_and_keys.fn]
  rfl

end Pre

/-- The reference runs and leaves its arguments. -/
theorem frame_ref : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := 𝕀) m ρ)

theorem algebraic : Cert.algebraic_AttnBwdIdeal_AttnRefIdeal_pre_finite_queries_and_keys := by
  intro m ρ m' ρ' hpre hag
  refine ⟨_, _, Cert.AttnBwdIdeal.Value.run_blocks (F := 𝕀) m ρ, ?_⟩
  refine (θ_run Cert.AttnRefIdeal.defs _ _).mono (fun r h c => ?_) (Cert.AttnRefIdeal.Value.run (F := 𝕀) m' ρ')
  obtain ⟨a0, a1, a2, a3⟩ := hag c
  obtain ⟨p1, p2⟩ := hpre c
  have hq := queries_real _ _ _ _ p1
  have hK := keys_real _ _ _ _ p2
  refine ⟨(h c).1.trans ?_, (h c).2.1.trans ?_, (h c).2.2⟩
  · rw [Cert.AttnRefIdeal.Read.val_main_v78_eq, a0, a1, a2, a3]
    exact (Cert.AttnRefIdeal.Val.v78_eq _ _ hq hK).trans (Cert.AttnBwdIdeal.Val.arr0 m c).symm
  · rw [Cert.AttnRefIdeal.Read.val_main_v74_eq, a1, a2, a3]
    exact (Cert.AttnRefIdeal.Val.v74_eq _ hq hK).trans (Cert.AttnBwdIdeal.Val.arr1 m c).symm

end Cert.Attn

end
-- ==== Proof.Mm.lean ====
/-
  What the products share: indices of two and three axes by their coordinates, and the squared positive part.
-/
module

public import Idealize.ShloMosaic.Lib.Pipeline.ValueKit
public import Idealize.ShloMosaic.Lib.Pointwise

@[expose] public section

noncomputable section

namespace Cert.Mm

open Idealize.ShloMosaic

theorem split2 {n k : ℕ} (y : (⟨2, ![n, k]⟩ : Shape).Idx) : ∃ (r : Fin n) (l : Fin k), y = ix2 r l :=
  ⟨y 0, y 1, by funext a; match a with | ⟨0, _⟩ => rfl | ⟨1, _⟩ => rfl⟩

theorem split3 {s n k : ℕ} (y : (⟨3, ![s, n, k]⟩ : Shape).Idx) : ∃ (z : Fin s) (r : Fin n) (l : Fin k), y = ix3 z r l :=
  ⟨y 0, y 1, y 2, by funext a; match a with | ⟨0, _⟩ => rfl | ⟨1, _⟩ => rfl | ⟨2, _⟩ => rfl⟩

/-- An index of a single slot. -/
theorem split3_one {n k : ℕ} (y : (⟨3, ![1, n, k]⟩ : Shape).Idx) : ∃ (r : Fin n) (l : Fin k), y = ix3 (0 : Fin 1) r l := by
  obtain ⟨z, r, l, rfl⟩ := split3 y
  exact ⟨r, l, by rw [Fin.eq_zero z]⟩

/-- The positive part. -/
def pos (x : EReal) : EReal := max x 0

/-- Reading an array at an equal column. -/
theorem read_col {n k : ℕ} (x : (⟨2, ![n, k]⟩ : Shape).Idx → EReal) (r : Fin n) {l l' : Fin k} (h : l.val = l'.val) :
    x (ix2 r l) = x (ix2 r l') :=
  congrArg x (congrArg (ix2 r) (Fin.ext h))

end Cert.Mm

end
-- ==== Proof.DownDxValue.lean ====
/-
  The input gradient of the product that narrows, through the squared positive part before it: what the kernel leaves,
  the reference at one index, and that they agree.
-/
module

public import proofs.«01_k».proof.Defs
public import proofs.«01_k».proof.Proof.Mm
public import proofs.«01_k».proof.Proof.Gen.DownDxIdeal.Value
public import proofs.«01_k».proof.Proof.Gen.DownDxRefIdeal.Run
public import proofs.«01_k».proof.Proof.Gen.DownDxRefIdeal.Read

@[expose] public section

set_option maxRecDepth 16384

noncomputable section

namespace Cert.DownDxIdeal.Val

open Cert.DownDxIdeal Cert.DownDxIdeal.Gen Cert.Mm
open Idealize.ShloMosaic Idealize.ShloMosaic.TcCoe Idealize.SL.Sem

local notation "𝕀" => Idealize.ShloMosaic.Ideal

/-- The derivative of the squared positive part, twice the positive part, with the number two as the programs hold it. -/
def slope (x : EReal) : EReal := Ideal.ofBits .f32 0x40000000#32 * pos x

/-- The gradient at the activations: the cotangent against the weight's rows, times the slope. -/
def grad (x0 : Vec 𝕀 S8192x2048 .bf16) (w : Vec 𝕀 S8192x2048 .f32) (x2 : Vec 𝕀 S8192x8192 .bf16) : Vec 𝕀 S8192x8192 .bf16 :=
  fun y => (∑ k : Fin 2048, x0 (ix2 (y 0) k) * w (ix2 (y 1) k)) * slope (x2 y)

theorem pay_apply (a : Vec 𝕀 S1024x2048 .bf16) (b : Vec 𝕀 S1x1024x2048 .bf16) (u : Vec 𝕀 S1024x1024 .bf16) (r l : Fin 1024) :
    k0_pay1 a b u (ix2 r l) = (∑ k : Fin 2048, a (ix2 r k) * b (ix3 (0 : Fin 1) l k)) * slope (u (ix2 r l)) := by
  pointwise [k0_pay1]
  simp only [slope, pos]

theorem out_eq (a : Vec 𝕀 S1024x2048 .bf16) (b : Vec 𝕀 S1x1024x2048 .bf16) (u : Vec 𝕀 S1024x1024 .bf16) :
    out0_3 a b u = k0_pay1 a b u := by
  rw [out0_3]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S8192x2048 .f32 := m ((c : Thread nD τ).loc main_arg1)
abbrev X2 : Vec 𝕀 S8192x8192 .bf16 := m ((c : Thread nD τ).loc main_arg2)

theorem idx (t : Fin grid0.N) : win0_0.index t = ![t.val / 8, 0] ∧ win0_1.index t = ![0, t.val % 8, 0]
    ∧ win0_2.index t = ![t.val / 8, t.val % 8] ∧ win0_3.index t = ![t.val / 8, t.val % 8] :=
  (by decide +kernel : ∀ t : Fin grid0.N, win0_0.index t = ![t.val / 8, 0] ∧ win0_1.index t = ![0, t.val % 8, 0]
    ∧ win0_2.index t = ![t.val / 8, t.val % 8] ∧ win0_3.index t = ![t.val / 8, t.val % 8]) t

theorem lt_N (t : Fin cfg0.N) : t.val < 64 := lt_of_lt_of_eq t.isLt N_0

/-- Row `r` of the row block of point `t`, and column `l` of its column block. -/
abbrev row (t : Fin cfg0.N) (r : Fin 1024) : Fin 8192 := ⟨1024 * (t.val / 8) + r.val, by have := lt_N t; omega⟩
abbrev col (t : Fin cfg0.N) (l : Fin 1024) : Fin 8192 := ⟨1024 * (t.val % 8) + l.val, by omega⟩

/-- The weight as the kernel finds it, in its one slot. -/
theorem slots : (V m c main_v1 : Vec 𝕀 S1x8192x2048 .bf16)
    = shapeCast S1x8192x2048 (truncf (F := 𝕀) .bf16 (X1 m c) bitsLt_bf16_f32) shapeCasts_S8192x2048_S1x8192x2048 := by
  show StableHlo.after hostOps0 _ _ = _
  after_results <;> rfl

theorem slots_apply (r : Fin 8192) (k : Fin 2048) :
    (V m c main_v1 : Vec 𝕀 S1x8192x2048 .bf16) (ix3 (0 : Fin 1) r k) = X1 m c (ix2 r k) := by
  rw [slots]
  pointwise []

theorem iblk0 (t : Fin cfg0.N) (r : Fin 1024) (k : Fin 2048) : iblk m c 0 t (ix2 r k) = X0 m c (ix2 (row t r) k) := by
  blk_ext [iblk, V_main_arg0, (idx t).1]

theorem iblk1 (t : Fin cfg0.N) (l : Fin 1024) (k : Fin 2048) : iblk m c 1 t (ix3 (0 : Fin 1) l k) = X1 m c (ix2 (col t l) k) := by
  refine Eq.trans ?_ (slots_apply m c (col t l) k)
  blk_ext [iblk, (idx t).2.1]

theorem iblk2 (t : Fin cfg0.N) (r l : Fin 1024) : iblk m c 2 t (ix2 r l) = X2 m c (ix2 (row t r) (col t l)) := by
  blk_ext [iblk, V_main_arg2, (idx t).2.2.1]

/-- Where block `t` of the result lies. -/
theorem place (t : Fin cfg0.N) (r l : Fin 1024) :
    (win0_3.blk t).view.emb (ix2 r l) = (ix2 (row t r) (col t l) : S8192x8192.Idx) := by
  blk_ext [(idx t).2.2.2]

/-- The result after the run. -/
theorem arr : (dats m 0 c).arrAt 3 cfg0.N = grad (X0 m c) (X1 m c) (X2 m c) := by
  refine (dats m 0 c).arrAt_eq_of_covers 3 _ (by decide +kernel) fun t hf y => ?_
  blk_simp
  rw [after0_3, out_eq]
  obtain ⟨r, l, rfl⟩ := split2 y
  refine Eq.trans ?_ (congrArg (grad (X0 m c) (X1 m c) (X2 m c)) (place t r l)).symm
  refine (pay_apply _ _ _ r l).trans ?_
  simp only [iblk0, iblk1, iblk2]
  rfl

end Cert.DownDxIdeal.Val

namespace Cert.DownDxRefIdeal.Val

open Cert.DownDxRefIdeal Cert.DownDxRefIdeal.Read Cert.Mm Idealize.ShloMosaic

local notation "𝕀" => Idealize.ShloMosaic.Ideal

theorem ref_eq (x0 : Vec 𝕀 S8192x2048 .bf16) (w : Vec 𝕀 S8192x2048 .f32) (x2 : Vec 𝕀 S8192x8192 .bf16) :
    val_main_v14 (F := 𝕀) x0 w x2 = Cert.DownDxIdeal.Val.grad x0 w x2 := by
  funext y
  obtain ⟨r, l, rfl⟩ := split2 y
  pointwise [val_main_v14, val_main_v13, val_main_v12, val_main_cst_2, val_main_v11, val_main_v10, val_main_v9, val_main_v7,
    val_main_v6, val_main_cst_1, val_main_v3, val_main_v2, val_main_cst, val_main_v1, val_main_v0, val_main_call0_v0,
    val_main_call0_cst]
  split_ifs with h
  · rfl
  · show 0 = _ * (Ideal.ofBits .f32 0x40000000#32 * pos (x2 (ix2 r l)))
    rw [pos, max_eq_right (not_lt.mp h), mul_zero, mul_zero]

end Cert.DownDxRefIdeal.Val

namespace Cert.DownDx

open Idealize.ShloMosaic Idealize.SL.Sem

local notation "𝕀" => Idealize.ShloMosaic.Ideal

/-- The reference runs and leaves its arguments. -/
theorem frame_ref : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := 𝕀) m ρ)

theorem algebraic : Cert.algebraic_DownDxIdeal_DownDxRefIdeal := by
  intro m ρ m' ρ' _ hag
  refine ⟨_, Cert.DownDxIdeal.Value.run_blocks (F := 𝕀) m ρ, ?_⟩
  refine (θ_run Cert.DownDxRefIdeal.defs _ _).mono (fun r h c => ?_) (Cert.DownDxRefIdeal.Value.run (F := 𝕀) m' ρ')
  obtain ⟨a0, a1, a2⟩ := hag c
  refine ⟨(h c).1.trans ?_, (h c).2⟩
  rw [Cert.DownDxRefIdeal.Read.val_main_v14_eq, a0, a1, a2]
  exact (Cert.DownDxRefIdeal.Val.ref_eq _ _ _).trans (Cert.DownDxIdeal.Val.arr m c).symm

end Cert.DownDx

end
-- ==== Proof.DownDwValue.lean ====
/-
  The weight gradient of the product that narrows, over the squared positive parts: what the kernel leaves, the reference at one index, and that they agree.
-/
module

public import proofs.«01_k».proof.Defs
public import proofs.«01_k».proof.Proof.Mm
public import proofs.«01_k».proof.Proof.Gen.DownDwIdeal.Value
public import proofs.«01_k».proof.Proof.Gen.DownDwRefIdeal.Run
public import proofs.«01_k».proof.Proof.Gen.DownDwRefIdeal.Read

@[expose] public section

set_option maxRecDepth 16384

noncomputable section

namespace Cert.DownDwIdeal.Val

open Cert.DownDwIdeal Cert.DownDwIdeal.Gen Cert.Mm
open Idealize.ShloMosaic Idealize.ShloMosaic.TcCoe Idealize.SL.Sem

local notation "𝕀" => Idealize.ShloMosaic.Ideal

/-- Column `l` of slot `s`. -/
abbrev col (s : Fin 1) (l : Fin 2048) : Fin 2048 := ⟨2048 * s.val + l.val, by omega⟩

/-- The weight gradient in its one slot: the sum over the tokens. -/
def grad (x0 : Vec 𝕀 S8192x8192 .bf16) (x1 : Vec 𝕀 S8192x2048 .bf16) : Vec 𝕀 S1x8192x2048 .bf16 := fun y =>
  ∑ k : Fin 8192, (pos (x0 (ix2 k (y 1))) * pos (x0 (ix2 k (y 1)))) * x1 (ix2 k (col (y 0) (y 2)))

theorem pay_apply (a b : Vec 𝕀 S8192x512 .bf16) (r l : Fin 512) :
    k0_pay1 a b (ix3 (0 : Fin 1) r l) = ∑ k : Fin 8192, (pos (a (ix2 k r)) * pos (a (ix2 k r))) * b (ix2 k l) := by
  pointwise [k0_pay1]
  simp only [pos, Ideal.ofBits_zero_bf16]

theorem out_eq (a b : Vec 𝕀 S8192x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x8192 .bf16 := m ((c : Thread nD τ).loc main_arg0)
abbrev X1 : Vec 𝕀 S8192x2048 .bf16 := m ((c : Thread nD τ).loc main_arg1)

theorem idx (t : Fin grid0.N) : win0_0.index t = ![0, t.val / 4] ∧ win0_1.index t = ![0, t.val % 4]
    ∧ win0_2.index t = ![t.val % 4 / 4, t.val / 4, t.val % 4 % 4] :=
  (by decide +kernel : ∀ t : Fin grid0.N, win0_0.index t = ![0, t.val / 4] ∧ win0_1.index t = ![0, t.val % 4]
    ∧ win0_2.index t = ![t.val % 4 / 4, t.val / 4, t.val % 4 % 4]) t

theorem lt_N (t : Fin cfg0.N) : t.val < 64 := lt_of_lt_of_eq t.isLt N_0

theorem iblk0 (t : Fin cfg0.N) (k : Fin 8192) (r : Fin 512) :
    iblk m c 0 t (ix2 k r) = X0 m c (ix2 k ⟨512 * (t.val / 4) + r.val, by have := lt_N t; omega⟩) := by
  blk_ext [iblk, V, (idx t).1]

theorem iblk1 (t : Fin cfg0.N) (k : Fin 8192) (l : Fin 512) :
    iblk m c 1 t (ix2 k l) = X1 m c (ix2 k ⟨512 * (t.val % 4) + l.val, by omega⟩) := by
  blk_ext [iblk, V, (idx t).2.1]

/-- Where block `t` of the result lies. -/
theorem place (t : Fin cfg0.N) (r l : Fin 512) : (win0_2.blk t).view.emb (ix3 (0 : Fin 1) r l)
    = (ix3 (⟨t.val % 4 / 4, by omega⟩ : Fin 1) (⟨512 * (t.val / 4) + r.val, by have := lt_N t; omega⟩ : Fin 8192)
        (⟨512 * (t.val % 4 % 4) + l.val, by omega⟩ : Fin 2048) : S1x8192x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split3_one y
  refine Eq.trans ?_ (congrArg (grad (X0 m c) (X1 m c)) (place t r l)).symm
  refine (pay_apply _ _ r l).trans ?_
  simp only [iblk0, iblk1]
  refine Finset.sum_congr rfl fun k _ => congrArg _ (read_col _ k ?_)
  show 512 * (t.val % 4) + l.val = 2048 * (t.val % 4 / 4) + (512 * (t.val % 4 % 4) + l.val)
  omega

end Cert.DownDwIdeal.Val

namespace Cert.DownDwRefIdeal.Val

open Cert.DownDwRefIdeal Cert.DownDwRefIdeal.Read Cert.Mm Idealize.ShloMosaic

local notation "𝕀" => Idealize.ShloMosaic.Ideal

theorem ref_eq (x0 : Vec 𝕀 S8192x8192 .bf16) (x1 : Vec 𝕀 S8192x2048 .bf16) :
    val_main_v9 (F := 𝕀) x0 x1 = Cert.DownDwIdeal.Val.grad x0 x1 := by
  funext y
  obtain ⟨s, r, l, rfl⟩ := split3 y
  pointwise [val_main_v9, val_main_v8, val_main_v7, val_main_v6, val_main_v5, val_main_v3, val_main_v2, val_main_v1,
    val_main_call0_v0, val_main_call0_cst]
  exact Finset.sum_congr rfl fun k _ => (mul_comm _ _).trans (congrArg (pos (x0 (ix2 k r)) * pos (x0 (ix2 k r)) * ·)
    (read_col _ k (by show l.val = 2048 * s.val + l.val; omega)))

end Cert.DownDwRefIdeal.Val

namespace Cert.DownDw

open Idealize.ShloMosaic Idealize.SL.Sem

local notation "𝕀" => Idealize.ShloMosaic.Ideal

/-- The reference runs and leaves its arguments. -/
theorem frame_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := 𝕀) m ρ)

theorem algebraic : Cert.algebraic_DownDwIdeal_DownDwRefIdeal := by
  intro m ρ m' ρ' _ hag
  refine ⟨_, Cert.DownDwIdeal.Value.run_blocks (F := 𝕀) m ρ, ?_⟩
  refine (θ_run Cert.DownDwRefIdeal.defs _ _).mono (fun r h c => ?_) (Cert.DownDwRefIdeal.Value.run (F := 𝕀) m' ρ')
  obtain ⟨a0, a1⟩ := hag c
  refine ⟨(h c).1.trans ?_, (h c).2⟩
  rw [Cert.DownDwRefIdeal.Read.val_main_v9_eq, a0, a1]
  exact (Cert.DownDwRefIdeal.Val.ref_eq _ _).trans (Cert.DownDwIdeal.Val.arr m c).symm

end Cert.DownDw

end
-- ==== Proof.UpDxValue.lean ====
/-
  The input gradient of the product that widens: what the kernel leaves, the reference at one index, and that they agree. The kernel adds up the
  four slots of columns in turn.
-/
module

public import proofs.«01_k».proof.Defs
public import proofs.«01_k».proof.Proof.Mm
public import proofs.«01_k».proof.Proof.Gen.UpDxIdeal.Value
public import proofs.«01_k».proof.Proof.Gen.UpDxRefIdeal.Run
public import proofs.«01_k».proof.Proof.Gen.UpDxRefIdeal.Read

@[expose] public section

set_option maxRecDepth 16384

noncomputable section

namespace Cert.UpDxIdeal.Val

open Cert.UpDxIdeal Cert.UpDxIdeal.Gen Cert.Mm
open Idealize.ShloMosaic Idealize.ShloMosaic.TcCoe Idealize.SL.Sem

local notation "𝕀" => Idealize.ShloMosaic.Ideal

/-- The input gradient: the cotangent's rows against the weight's rows. -/
def grad (x0 : Vec 𝕀 S8192x8192 .bf16) (w : Vec 𝕀 S2048x8192 .f32) : Vec 𝕀 S8192x2048 .bf16 :=
  fun y => ∑ k : Fin 8192, x0 (ix2 (y 0) k) * w (ix2 (y 1) k)

/-- What one point adds at row `r`, column `l` of its block. -/
def part (a : Vec 𝕀 S1024x2048 .bf16) (b : Vec 𝕀 S1x1024x2048 .bf16) (r l : Fin 1024) : EReal :=
  ∑ k : Fin 2048, a (ix2 r k) * b (ix3 (0 : Fin 1) l k)

theorem pay2_apply (a : Vec 𝕀 S1024x2048 .bf16) (b : Vec 𝕀 S1x1024x2048 .bf16) (r l : Fin 1024) :
    k0_pay2 a b (ix2 r l) = part a b r l := by
  pointwise [k0_pay2, k0_pay1]
  rfl

theorem pay3_apply (a : Vec 𝕀 S1024x2048 .bf16) (b : Vec 𝕀 S1x1024x2048 .bf16) (v : Vec 𝕀 S1024x1024 .f32) (r l : Fin 1024) :
    k0_pay3 a b v (ix2 r l) = v (ix2 r l) + part a b r l := by
  pointwise [k0_pay3, k0_pay1]
  rfl

section Cases

variable (c : Dev nD) (i : grid0.Coords) (a3 : Memref sig .tc .vmem S1024x2048 .bf16) (h3 : a3.IsWhole)
  (a4 : Memref sig .tc .vmem S1x1024x2048 .bf16) (h4 : a4.IsWhole) (a5 : Memref sig .tc .vmem S1024x1024 .bf16) (h5 : a5.IsWhole)
  (a6 : Memref sig .tc .vmem S1024x1024 .f32) (h6 : a6.IsWhole) (x0 : Vec 𝕀 S1024x2048 .bf16) (x1 : Vec 𝕀 S1x1024x2048 .bf16)
  (v : Vec 𝕀 S1024x1024 .f32)

theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  frame_out

theorem middle (hc0 : ¬cond0_0 i) (hc1 : cond0_1 i) (hc2 : ¬cond0_2 i) :
    sout0_B_0 c i a3 h3 a4 h4 a5 h5 a6 h6 hc0 hc1 hc2 x0 x1 v = k0_pay3 x0 x1 v := by
  frame_out

theorem last (hc0 : ¬cond0_0 i) (hc1 : cond0_1 i) (hc2 : cond0_2 i) :
    sout0_C_0 c i a3 h3 a4 h4 a5 h5 a6 h6 hc0 hc1 hc2 x0 x1 v = k0_pay3 x0 x1 v := by
  frame_out

theorem last_out (hc0 : ¬cond0_0 i) (hc1 : cond0_1 i) (hc2 : cond0_2 i) :
    out0_C_2 c i a3 h3 a4 h4 a5 h5 a6 h6 hc0 hc1 hc2 x0 x1 v = k0_pay3 x0 x1 v := by
  frame_out
  rfl

end Cases

variable (m : (ℓ : Loc nD τ sig) → Buf (Elt 𝕀) ℓ) (c : Dev nD)

/-- The arguments on device `c`. -/
abbrev X0 : Vec 𝕀 S8192x8192 .bf16 := m ((c : Thread nD τ).loc main_arg0)
abbrev X1 : Vec 𝕀 S2048x8192 .f32 := m ((c : Thread nD τ).loc main_arg1)

theorem idx (t : Fin grid0.N) : win0_0.index t = ![t.val / 8, t.val % 4] ∧ win0_1.index t = ![t.val % 4, t.val / 4 % 2, 0]
    ∧ win0_2.index t = ![t.val / 8, t.val / 4 % 2] :=
  (by decide +kernel : ∀ t : Fin grid0.N, win0_0.index t = ![t.val / 8, t.val % 4]
    ∧ win0_1.index t = ![t.val % 4, t.val / 4 % 2, 0] ∧ win0_2.index t = ![t.val / 8, t.val / 4 % 2]) t

theorem lt_N (t : Fin cfg0.N) : t.val < 64 := lt_of_lt_of_eq t.isLt N_0

/-- Row `r` of the row block of point `t`, row `l` of its block of the weight, and column `k` of its slot. -/
abbrev row (t : Fin cfg0.N) (r : Fin 1024) : Fin 8192 := ⟨1024 * (t.val / 8) + r.val, by have := lt_N t; omega⟩
abbrev col (t : Fin cfg0.N) (l : Fin 1024) : Fin 2048 := ⟨1024 * (t.val / 4 % 2) + l.val, by omega⟩
abbrev lane (s : Fin 4) (k : Fin 2048) : Fin 8192 := ⟨2048 * s.val + k.val, by omega⟩
/-- The slot of point `t`. -/
abbrev slot (t : Fin cfg0.N) : Fin 4 := ⟨t.val % 4, by omega⟩

/-- The weight as the kernel finds it, in four slots of columns. -/
theorem slots : (V m c main_v2 : Vec 𝕀 S4x2048x2048 .bf16)
    = transpose S4x2048x2048 [1, 0, 2] (shapeCast S2048x4x2048 (truncf (F := 𝕀) .bf16 (X1 m c) bitsLt_bf16_f32)
        shapeCasts_S2048x8192_S2048x4x2048) transposes_S2048x4x2048_S4x2048x2048_1_0_2 := by
  show StableHlo.after hostOps0 _ _ = _
  after_results <;> rfl

theorem slots_apply (s : Fin 4) (r : Fin 2048) (k : Fin 2048) :
    (V m c main_v2 : Vec 𝕀 S4x2048x2048 .bf16) (ix3 s r k) = X1 m c (ix2 r (lane s k)) := by
  rw [slots]
  pointwise []
  exact read_col _ r (by show s.val * 2048 + k.val = 2048 * s.val + k.val; omega)

theorem iblk0 (t : Fin cfg0.N) (r : Fin 1024) (k : Fin 2048) :
    iblk m c 0 t (ix2 r k) = X0 m c (ix2 (row t r) (lane (slot t) k)) := by
  blk_ext [iblk, V_main_arg0, (idx t).1]

theorem iblk1 (t : Fin cfg0.N) (l : Fin 1024) (k : Fin 2048) :
    iblk m c 1 t (ix3 (0 : Fin 1) l k) = X1 m c (ix2 (col t l) (lane (slot t) k)) := by
  refine Eq.trans ?_ (slots_apply m c (slot t) (col t l) k)
  blk_ext [iblk, (idx t).2.1]

theorem part_eq (t : Fin cfg0.N) (r l : Fin 1024) : part (iblk m c 0 t) (iblk m c 1 t) r l
    = ∑ k : Fin 2048, X0 m c (ix2 (row t r) (lane (slot t) k)) * X1 m c (ix2 (col t l) (lane (slot t) k)) := by
  simp only [part, iblk0, iblk1]

/-- What the accumulator holds at the last of the four points of a block. -/
theorem acc (t : Fin cfg0.N) (ht : t.val % 4 = 3) (r l : Fin 1024) :
    (outsAt0 m c t.val t.isLt).2 (ix2 r l) = grad (X0 m c) (X1 m c) (ix2 (row t r) (col t l)) := by
  have e := Pipeline.eq_sum_fin_of_reset_step_apply_of_flush (M := EReal) (ι := S1024x1024.Idx) (fun n h => (outsAt0 m c n h).2) 4
    (fun _ => 0) (fun t y => part (iblk m c 0 t) (iblk m c 1 t) (y 0) (y 1))
    (fun t h y => by
      obtain ⟨r, l, rfl⟩ := split2 y
      rw [outsAt0_A m c t h (by omega) (by omega)]
      dsimp only
      rw [first, zero_add]
      exact pay2_apply _ _ r l)
    (fun t h y => by
      obtain ⟨r, l, rfl⟩ := split2 y
      by_cases h2 : t.val % 4 = 3
      · rw [outsAt0_C m c t h (by omega) h2]
        dsimp only
        rw [last]
        exact pay3_apply _ _ _ r l
      · rw [outsAt0_B m c t h (by omega) h2]
        dsimp only
        rw [middle]
        exact pay3_apply _ _ _ r l)
    t ht (ix2 r l)
  rw [e, zero_add, grad]
  refine (Finset.sum_congr rfl fun s _ => part_eq m c _ r l).trans ?_
  refine Fin.sum_mul_add_congr fun s k hl => ?_
  have hs := s.isLt
  have e1 : (4 * (t.val / 4) + s.val) / 8 = t.val / 8 := by omega
  have e2 : (4 * (t.val / 4) + s.val) / 4 % 2 = t.val / 4 % 2 := by omega
  have e3 : 2048 * ((4 * (t.val / 4) + s.val) % 4) + k.val = s.val * 2048 + k.val := by omega
  simp only [row, col, lane, slot, e1, e2, e3]
  rfl

theorem outs (t : Fin cfg0.N) (ht : t.val % 4 = 3) : (outsAt0 m c t.val t.isLt).1 = (outsAt0 m c t.val t.isLt).2 := by
  rw [outsAt0_C m c t (by omega) (by omega) ht]
  dsimp only
  rw [last, last_out]

/-- Where block `t` of the result lies. -/
theorem place (t : Fin cfg0.N) (r l : Fin 1024) :
    (win0_2.blk t).view.emb (ix2 r l) = (ix2 (row t r) (col t l) : S8192x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  have ht : t.val % 4 = 3 := (flush0_2 t).mp hf
  blk_simp
  rw [after0_2, outs m c t ht]
  obtain ⟨r, l, rfl⟩ := split2 y
  exact (acc m c t ht r l).trans (congrArg (grad (X0 m c) (X1 m c)) (place t r l)).symm

end Cert.UpDxIdeal.Val

namespace Cert.UpDxRefIdeal.Val

open Cert.UpDxRefIdeal Cert.UpDxRefIdeal.Read Cert.Mm Idealize.ShloMosaic

local notation "𝕀" => Idealize.ShloMosaic.Ideal

theorem ref_eq (x0 : Vec 𝕀 S8192x8192 .bf16) (w : Vec 𝕀 S2048x8192 .f32) :
    val_main_v4 (F := 𝕀) x0 w = Cert.UpDxIdeal.Val.grad x0 w := by
  funext y
  obtain ⟨r, l, rfl⟩ := split2 y
  pointwise [val_main_v4, val_main_v3, val_main_v2]
  rfl

end Cert.UpDxRefIdeal.Val

namespace Cert.UpDx

open Idealize.ShloMosaic Idealize.SL.Sem

local notation "𝕀" => Idealize.ShloMosaic.Ideal

/-- The reference runs and leaves its arguments. -/
theorem frame_ref : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := 𝕀) m ρ)

theorem algebraic : Cert.algebraic_UpDxIdeal_UpDxRefIdeal := by
  intro m ρ m' ρ' _ hag
  refine ⟨_, Cert.UpDxIdeal.Value.run_blocks (F := 𝕀) m ρ, ?_⟩
  refine (θ_run Cert.UpDxRefIdeal.defs _ _).mono (fun r h c => ?_) (Cert.UpDxRefIdeal.Value.run (F := 𝕀) m' ρ')
  obtain ⟨a0, a1⟩ := hag c
  refine ⟨(h c).1.trans ?_, (h c).2⟩
  rw [Cert.UpDxRefIdeal.Read.val_main_v4_eq, a0, a1]
  exact (Cert.UpDxRefIdeal.Val.ref_eq _ _).trans (Cert.UpDxIdeal.Val.arr m c).symm

end Cert.UpDx

end
-- ==== Proof.UpDwValue.lean ====
/-
  The weight gradient of the product that widens: what the kernel leaves, the reference at one index, and that they agree.
-/
module

public import proofs.«01_k».proof.Defs
public import proofs.«01_k».proof.Proof.Mm
public import proofs.«01_k».proof.Proof.Gen.UpDwIdeal.Value
public import proofs.«01_k».proof.Proof.Gen.UpDwRefIdeal.Run
public import proofs.«01_k».proof.Proof.Gen.UpDwRefIdeal.Read

@[expose] public section

set_option maxRecDepth 16384

noncomputable section

namespace Cert.UpDwIdeal.Val

open Cert.UpDwIdeal Cert.UpDwIdeal.Gen Cert.Mm
open Idealize.ShloMosaic Idealize.ShloMosaic.TcCoe Idealize.SL.Sem

local notation "𝕀" => Idealize.ShloMosaic.Ideal

/-- Column `l` of slot `s`. -/
abbrev col (s : Fin 4) (l : Fin 2048) : Fin 8192 := ⟨2048 * s.val + l.val, by omega⟩

/-- The weight gradient in its slots of columns: the sum over the tokens. -/
def grad (x0 : Vec 𝕀 S8192x2048 .bf16) (x1 : Vec 𝕀 S8192x8192 .bf16) : Vec 𝕀 S4x2048x2048 .bf16 := fun y =>
  ∑ k : Fin 8192, x0 (ix2 k (y 1)) * x1 (ix2 k (col (y 0) (y 2)))

theorem pay_apply (a b : Vec 𝕀 S8192x512 .bf16) (r l : Fin 512) :
    k0_pay1 a b (ix3 (0 : Fin 1) r l) = ∑ k : Fin 8192, a (ix2 k r) * b (ix2 k l) := by
  pointwise [k0_pay1]

theorem out_eq (a b : Vec 𝕀 S8192x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S8192x8192 .bf16 := m ((c : Thread nD τ).loc main_arg1)

theorem idx (t : Fin grid0.N) : win0_0.index t = ![0, t.val / 16] ∧ win0_1.index t = ![0, t.val % 16]
    ∧ win0_2.index t = ![t.val % 16 / 4, t.val / 16, t.val % 16 % 4] :=
  (by decide +kernel : ∀ t : Fin grid0.N, win0_0.index t = ![0, t.val / 16] ∧ win0_1.index t = ![0, t.val % 16]
    ∧ win0_2.index t = ![t.val % 16 / 4, t.val / 16, t.val % 16 % 4]) t

theorem lt_N (t : Fin cfg0.N) : t.val < 64 := lt_of_lt_of_eq t.isLt N_0

theorem iblk0 (t : Fin cfg0.N) (k : Fin 8192) (r : Fin 512) :
    iblk m c 0 t (ix2 k r) = X0 m c (ix2 k ⟨512 * (t.val / 16) + r.val, by have := lt_N t; omega⟩) := by
  blk_ext [iblk, V, (idx t).1]

theorem iblk1 (t : Fin cfg0.N) (k : Fin 8192) (l : Fin 512) :
    iblk m c 1 t (ix2 k l) = X1 m c (ix2 k ⟨512 * (t.val % 16) + l.val, by omega⟩) := by
  blk_ext [iblk, V, (idx t).2.1]

/-- Where block `t` of the result lies. -/
theorem place (t : Fin cfg0.N) (r l : Fin 512) : (win0_2.blk t).view.emb (ix3 (0 : Fin 1) r l)
    = (ix3 (⟨t.val % 16 / 4, by omega⟩ : Fin 4) (⟨512 * (t.val / 16) + r.val, by have := lt_N t; omega⟩ : Fin 2048)
        (⟨512 * (t.val % 16 % 4) + l.val, by omega⟩ : Fin 2048) : S4x2048x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split3_one y
  refine Eq.trans ?_ (congrArg (grad (X0 m c) (X1 m c)) (place t r l)).symm
  refine (pay_apply _ _ r l).trans ?_
  simp only [iblk0, iblk1]
  refine Finset.sum_congr rfl fun k _ => congrArg _ (read_col _ k ?_)
  show 512 * (t.val % 16) + l.val = 2048 * (t.val % 16 / 4) + (512 * (t.val % 16 % 4) + l.val)
  omega

end Cert.UpDwIdeal.Val

namespace Cert.UpDwRefIdeal.Val

open Cert.UpDwRefIdeal Cert.UpDwRefIdeal.Read Cert.Mm Idealize.ShloMosaic

local notation "𝕀" => Idealize.ShloMosaic.Ideal

theorem ref_eq (x0 : Vec 𝕀 S8192x2048 .bf16) (x1 : Vec 𝕀 S8192x8192 .bf16) :
    val_main_v8 (F := 𝕀) x0 x1 = Cert.UpDwIdeal.Val.grad x0 x1 := by
  funext y
  obtain ⟨s, r, l, rfl⟩ := split3 y
  pointwise [val_main_v8, val_main_v7, val_main_v6, val_main_v5, val_main_v4, val_main_v3, val_main_v1]
  exact Finset.sum_congr rfl fun k _ => (mul_comm _ _).trans (congrArg (x0 (ix2 k r) * ·)
    (read_col _ k (by show s.val * 2048 + l.val = 2048 * s.val + l.val; omega)))

end Cert.UpDwRefIdeal.Val

namespace Cert.UpDw

open Idealize.ShloMosaic Idealize.SL.Sem

local notation "𝕀" => Idealize.ShloMosaic.Ideal

/-- The reference runs and leaves its arguments. -/
theorem frame_ref : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := 𝕀) m ρ)

theorem algebraic : Cert.algebraic_UpDwIdeal_UpDwRefIdeal := by
  intro m ρ m' ρ' _ hag
  refine ⟨_, Cert.UpDwIdeal.Value.run_blocks (F := 𝕀) m ρ, ?_⟩
  refine (θ_run Cert.UpDwRefIdeal.defs _ _).mono (fun r h c => ?_) (Cert.UpDwRefIdeal.Value.run (F := 𝕀) m' ρ')
  obtain ⟨a0, a1⟩ := hag c
  refine ⟨(h c).1.trans ?_, (h c).2⟩
  rw [Cert.UpDwRefIdeal.Read.val_main_v8_eq, a0, a1]
  exact (Cert.UpDwRefIdeal.Val.ref_eq _ _).trans (Cert.UpDwIdeal.Val.arr m c).symm

end Cert.UpDw

end
-- ==== Proof.InDxValue.lean ====
/-
  The input gradient of the input projection: what the kernel leaves, the reference at one index, and that they agree. The kernel adds up the
  four slots of columns in turn.
-/
module

public import proofs.«01_k».proof.Defs
public import proofs.«01_k».proof.Proof.Mm
public import proofs.«01_k».proof.Proof.Gen.InDxIdeal.Value
public import proofs.«01_k».proof.Proof.Gen.InDxRefIdeal.Run
public import proofs.«01_k».proof.Proof.Gen.InDxRefIdeal.Read

@[expose] public section

set_option maxRecDepth 16384

noncomputable section

namespace Cert.InDxIdeal.Val

open Cert.InDxIdeal Cert.InDxIdeal.Gen Cert.Mm
open Idealize.ShloMosaic Idealize.ShloMosaic.TcCoe Idealize.SL.Sem

local notation "𝕀" => Idealize.ShloMosaic.Ideal

/-- The input gradient: the cotangent's rows against the weight's rows. -/
def grad (x0 : Vec 𝕀 S8192x12288 .bf16) (w : Vec 𝕀 S2048x12288 .f32) : Vec 𝕀 S8192x2048 .bf16 :=
  fun y => ∑ k : Fin 12288, x0 (ix2 (y 0) k) * w (ix2 (y 1) k)

/-- What one point adds at row `r`, column `l` of its block. -/
def part (a : Vec 𝕀 S1024x3072 .bf16) (b : Vec 𝕀 S1x1024x3072 .bf16) (r l : Fin 1024) : EReal :=
  ∑ k : Fin 3072, a (ix2 r k) * b (ix3 (0 : Fin 1) l k)

theorem pay2_apply (a : Vec 𝕀 S1024x3072 .bf16) (b : Vec 𝕀 S1x1024x3072 .bf16) (r l : Fin 1024) :
    k0_pay2 a b (ix2 r l) = part a b r l := by
  pointwise [k0_pay2, k0_pay1]
  rfl

theorem pay3_apply (a : Vec 𝕀 S1024x3072 .bf16) (b : Vec 𝕀 S1x1024x3072 .bf16) (v : Vec 𝕀 S1024x1024 .f32) (r l : Fin 1024) :
    k0_pay3 a b v (ix2 r l) = v (ix2 r l) + part a b r l := by
  pointwise [k0_pay3, k0_pay1]
  rfl

section Cases

variable (c : Dev nD) (i : grid0.Coords) (a3 : Memref sig .tc .vmem S1024x3072 .bf16) (h3 : a3.IsWhole)
  (a4 : Memref sig .tc .vmem S1x1024x3072 .bf16) (h4 : a4.IsWhole) (a5 : Memref sig .tc .vmem S1024x1024 .bf16) (h5 : a5.IsWhole)
  (a6 : Memref sig .tc .vmem S1024x1024 .f32) (h6 : a6.IsWhole) (x0 : Vec 𝕀 S1024x3072 .bf16) (x1 : Vec 𝕀 S1x1024x3072 .bf16)
  (v : Vec 𝕀 S1024x1024 .f32)

theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  frame_out

theorem middle (hc0 : ¬cond0_0 i) (hc1 : cond0_1 i) (hc2 : ¬cond0_2 i) :
    sout0_B_0 c i a3 h3 a4 h4 a5 h5 a6 h6 hc0 hc1 hc2 x0 x1 v = k0_pay3 x0 x1 v := by
  frame_out

theorem last (hc0 : ¬cond0_0 i) (hc1 : cond0_1 i) (hc2 : cond0_2 i) :
    sout0_C_0 c i a3 h3 a4 h4 a5 h5 a6 h6 hc0 hc1 hc2 x0 x1 v = k0_pay3 x0 x1 v := by
  frame_out

theorem last_out (hc0 : ¬cond0_0 i) (hc1 : cond0_1 i) (hc2 : cond0_2 i) :
    out0_C_2 c i a3 h3 a4 h4 a5 h5 a6 h6 hc0 hc1 hc2 x0 x1 v = k0_pay3 x0 x1 v := by
  frame_out
  rfl

end Cases

variable (m : (ℓ : Loc nD τ sig) → Buf (Elt 𝕀) ℓ) (c : Dev nD)

/-- The arguments on device `c`. -/
abbrev X0 : Vec 𝕀 S8192x12288 .bf16 := m ((c : Thread nD τ).loc main_arg0)
abbrev X1 : Vec 𝕀 S2048x12288 .f32 := m ((c : Thread nD τ).loc main_arg1)

theorem idx (t : Fin grid0.N) : win0_0.index t = ![t.val / 8, t.val % 4] ∧ win0_1.index t = ![t.val % 4, t.val / 4 % 2, 0]
    ∧ win0_2.index t = ![t.val / 8, t.val / 4 % 2] :=
  (by decide +kernel : ∀ t : Fin grid0.N, win0_0.index t = ![t.val / 8, t.val % 4]
    ∧ win0_1.index t = ![t.val % 4, t.val / 4 % 2, 0] ∧ win0_2.index t = ![t.val / 8, t.val / 4 % 2]) t

theorem lt_N (t : Fin cfg0.N) : t.val < 64 := lt_of_lt_of_eq t.isLt N_0

/-- Row `r` of the row block of point `t`, row `l` of its block of the weight, and column `k` of its slot. -/
abbrev row (t : Fin cfg0.N) (r : Fin 1024) : Fin 8192 := ⟨1024 * (t.val / 8) + r.val, by have := lt_N t; omega⟩
abbrev col (t : Fin cfg0.N) (l : Fin 1024) : Fin 2048 := ⟨1024 * (t.val / 4 % 2) + l.val, by omega⟩
abbrev lane (s : Fin 4) (k : Fin 3072) : Fin 12288 := ⟨3072 * s.val + k.val, by omega⟩
/-- The slot of point `t`. -/
abbrev slot (t : Fin cfg0.N) : Fin 4 := ⟨t.val % 4, by omega⟩

/-- The weight as the kernel finds it, in four slots of columns. -/
theorem slots : (V m c main_v2 : Vec 𝕀 S4x2048x3072 .bf16)
    = transpose S4x2048x3072 [1, 0, 2] (shapeCast S2048x4x3072 (truncf (F := 𝕀) .bf16 (X1 m c) bitsLt_bf16_f32)
        shapeCasts_S2048x12288_S2048x4x3072) transposes_S2048x4x3072_S4x2048x3072_1_0_2 := by
  show StableHlo.after hostOps0 _ _ = _
  after_results <;> rfl

theorem slots_apply (s : Fin 4) (r : Fin 2048) (k : Fin 3072) :
    (V m c main_v2 : Vec 𝕀 S4x2048x3072 .bf16) (ix3 s r k) = X1 m c (ix2 r (lane s k)) := by
  rw [slots]
  pointwise []
  exact read_col _ r (by show s.val * 3072 + k.val = 3072 * s.val + k.val; omega)

theorem iblk0 (t : Fin cfg0.N) (r : Fin 1024) (k : Fin 3072) :
    iblk m c 0 t (ix2 r k) = X0 m c (ix2 (row t r) (lane (slot t) k)) := by
  blk_ext [iblk, V_main_arg0, (idx t).1]

theorem iblk1 (t : Fin cfg0.N) (l : Fin 1024) (k : Fin 3072) :
    iblk m c 1 t (ix3 (0 : Fin 1) l k) = X1 m c (ix2 (col t l) (lane (slot t) k)) := by
  refine Eq.trans ?_ (slots_apply m c (slot t) (col t l) k)
  blk_ext [iblk, (idx t).2.1]

theorem part_eq (t : Fin cfg0.N) (r l : Fin 1024) : part (iblk m c 0 t) (iblk m c 1 t) r l
    = ∑ k : Fin 3072, X0 m c (ix2 (row t r) (lane (slot t) k)) * X1 m c (ix2 (col t l) (lane (slot t) k)) := by
  simp only [part, iblk0, iblk1]

/-- What the accumulator holds at the last of the four points of a block. -/
theorem acc (t : Fin cfg0.N) (ht : t.val % 4 = 3) (r l : Fin 1024) :
    (outsAt0 m c t.val t.isLt).2 (ix2 r l) = grad (X0 m c) (X1 m c) (ix2 (row t r) (col t l)) := by
  have e := Pipeline.eq_sum_fin_of_reset_step_apply_of_flush (M := EReal) (ι := S1024x1024.Idx) (fun n h => (outsAt0 m c n h).2) 4
    (fun _ => 0) (fun t y => part (iblk m c 0 t) (iblk m c 1 t) (y 0) (y 1))
    (fun t h y => by
      obtain ⟨r, l, rfl⟩ := split2 y
      rw [outsAt0_A m c t h (by omega) (by omega)]
      dsimp only
      rw [first, zero_add]
      exact pay2_apply _ _ r l)
    (fun t h y => by
      obtain ⟨r, l, rfl⟩ := split2 y
      by_cases h2 : t.val % 4 = 3
      · rw [outsAt0_C m c t h (by omega) h2]
        dsimp only
        rw [last]
        exact pay3_apply _ _ _ r l
      · rw [outsAt0_B m c t h (by omega) h2]
        dsimp only
        rw [middle]
        exact pay3_apply _ _ _ r l)
    t ht (ix2 r l)
  rw [e, zero_add, grad]
  refine (Finset.sum_congr rfl fun s _ => part_eq m c _ r l).trans ?_
  refine Fin.sum_mul_add_congr fun s k hl => ?_
  have hs := s.isLt
  have e1 : (4 * (t.val / 4) + s.val) / 8 = t.val / 8 := by omega
  have e2 : (4 * (t.val / 4) + s.val) / 4 % 2 = t.val / 4 % 2 := by omega
  have e3 : 3072 * ((4 * (t.val / 4) + s.val) % 4) + k.val = s.val * 3072 + k.val := by omega
  simp only [row, col, lane, slot, e1, e2, e3]
  rfl

theorem outs (t : Fin cfg0.N) (ht : t.val % 4 = 3) : (outsAt0 m c t.val t.isLt).1 = (outsAt0 m c t.val t.isLt).2 := by
  rw [outsAt0_C m c t (by omega) (by omega) ht]
  dsimp only
  rw [last, last_out]

/-- Where block `t` of the result lies. -/
theorem place (t : Fin cfg0.N) (r l : Fin 1024) :
    (win0_2.blk t).view.emb (ix2 r l) = (ix2 (row t r) (col t l) : S8192x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  have ht : t.val % 4 = 3 := (flush0_2 t).mp hf
  blk_simp
  rw [after0_2, outs m c t ht]
  obtain ⟨r, l, rfl⟩ := split2 y
  exact (acc m c t ht r l).trans (congrArg (grad (X0 m c) (X1 m c)) (place t r l)).symm

end Cert.InDxIdeal.Val

namespace Cert.InDxRefIdeal.Val

open Cert.InDxRefIdeal Cert.InDxRefIdeal.Read Cert.Mm Idealize.ShloMosaic

local notation "𝕀" => Idealize.ShloMosaic.Ideal

theorem ref_eq (x0 : Vec 𝕀 S8192x12288 .bf16) (w : Vec 𝕀 S2048x12288 .f32) :
    val_main_v4 (F := 𝕀) x0 w = Cert.InDxIdeal.Val.grad x0 w := by
  funext y
  obtain ⟨r, l, rfl⟩ := split2 y
  pointwise [val_main_v4, val_main_v3, val_main_v2]
  rfl

end Cert.InDxRefIdeal.Val

namespace Cert.InDx

open Idealize.ShloMosaic Idealize.SL.Sem

local notation "𝕀" => Idealize.ShloMosaic.Ideal

/-- The reference runs and leaves its arguments. -/
theorem frame_ref : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := 𝕀) m ρ)

theorem algebraic : Cert.algebraic_InDxIdeal_InDxRefIdeal := by
  intro m ρ m' ρ' _ hag
  refine ⟨_, Cert.InDxIdeal.Value.run_blocks (F := 𝕀) m ρ, ?_⟩
  refine (θ_run Cert.InDxRefIdeal.defs _ _).mono (fun r h c => ?_) (Cert.InDxRefIdeal.Value.run (F := 𝕀) m' ρ')
  obtain ⟨a0, a1⟩ := hag c
  refine ⟨(h c).1.trans ?_, (h c).2⟩
  rw [Cert.InDxRefIdeal.Read.val_main_v4_eq, a0, a1]
  exact (Cert.InDxRefIdeal.Val.ref_eq _ _).trans (Cert.InDxIdeal.Val.arr m c).symm

end Cert.InDx

end
-- ==== Proof.InDwValue.lean ====
/-
  The input projection's weight gradient: what the kernel leaves, the reference at one index, and that they agree.
-/
module

public import proofs.«01_k».proof.Defs
public import proofs.«01_k».proof.Proof.Mm
public import proofs.«01_k».proof.Proof.Gen.InDwIdeal.Value
public import proofs.«01_k».proof.Proof.Gen.InDwRefIdeal.Run
public import proofs.«01_k».proof.Proof.Gen.InDwRefIdeal.Read

@[expose] public section

set_option maxRecDepth 16384

noncomputable section

namespace Cert.InDwIdeal.Val

open Cert.InDwIdeal Cert.InDwIdeal.Gen Cert.Mm
open Idealize.ShloMosaic Idealize.ShloMosaic.TcCoe Idealize.SL.Sem

local notation "𝕀" => Idealize.ShloMosaic.Ideal

/-- Column `l` of slot `s`. -/
abbrev col (s : Fin 4) (l : Fin 3072) : Fin 12288 := ⟨3072 * s.val + l.val, by omega⟩

/-- The weight gradient in its slots of columns: the sum over the tokens. -/
def grad (x0 : Vec 𝕀 S8192x2048 .bf16) (x1 : Vec 𝕀 S8192x12288 .bf16) : Vec 𝕀 S4x2048x3072 .bf16 := fun y =>
  ∑ k : Fin 8192, x0 (ix2 k (y 1)) * x1 (ix2 k (col (y 0) (y 2)))

theorem pay_apply (a b : Vec 𝕀 S8192x512 .bf16) (r l : Fin 512) :
    k0_pay1 a b (ix3 (0 : Fin 1) r l) = ∑ k : Fin 8192, a (ix2 k r) * b (ix2 k l) := by
  pointwise [k0_pay1]

theorem out_eq (a b : Vec 𝕀 S8192x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S8192x12288 .bf16 := m ((c : Thread nD τ).loc main_arg1)

theorem idx (t : Fin grid0.N) : win0_0.index t = ![0, t.val / 24] ∧ win0_1.index t = ![0, t.val % 24]
    ∧ win0_2.index t = ![t.val % 24 / 6, t.val / 24, t.val % 24 % 6] :=
  (by decide +kernel : ∀ t : Fin grid0.N, win0_0.index t = ![0, t.val / 24] ∧ win0_1.index t = ![0, t.val % 24]
    ∧ win0_2.index t = ![t.val % 24 / 6, t.val / 24, t.val % 24 % 6]) t

theorem lt_N (t : Fin cfg0.N) : t.val < 96 := lt_of_lt_of_eq t.isLt N_0

theorem iblk0 (t : Fin cfg0.N) (k : Fin 8192) (r : Fin 512) :
    iblk m c 0 t (ix2 k r) = X0 m c (ix2 k ⟨512 * (t.val / 24) + r.val, by have := lt_N t; omega⟩) := by
  blk_ext [iblk, V, (idx t).1]

theorem iblk1 (t : Fin cfg0.N) (k : Fin 8192) (l : Fin 512) :
    iblk m c 1 t (ix2 k l) = X1 m c (ix2 k ⟨512 * (t.val % 24) + l.val, by omega⟩) := by
  blk_ext [iblk, V, (idx t).2.1]

/-- Where block `t` of the result lies. -/
theorem place (t : Fin cfg0.N) (r l : Fin 512) : (win0_2.blk t).view.emb (ix3 (0 : Fin 1) r l)
    = (ix3 (⟨t.val % 24 / 6, by omega⟩ : Fin 4) (⟨512 * (t.val / 24) + r.val, by have := lt_N t; omega⟩ : Fin 2048)
        (⟨512 * (t.val % 24 % 6) + l.val, by omega⟩ : Fin 3072) : S4x2048x3072.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split3_one y
  refine Eq.trans ?_ (congrArg (grad (X0 m c) (X1 m c)) (place t r l)).symm
  refine (pay_apply _ _ r l).trans ?_
  simp only [iblk0, iblk1]
  refine Finset.sum_congr rfl fun k _ => congrArg _ (read_col _ k ?_)
  show 512 * (t.val % 24) + l.val = 3072 * (t.val % 24 / 6) + (512 * (t.val % 24 % 6) + l.val)
  omega

end Cert.InDwIdeal.Val

namespace Cert.InDwRefIdeal.Val

open Cert.InDwRefIdeal Cert.InDwRefIdeal.Read Cert.Mm Idealize.ShloMosaic

local notation "𝕀" => Idealize.ShloMosaic.Ideal

theorem ref_eq (x0 : Vec 𝕀 S8192x2048 .bf16) (x1 : Vec 𝕀 S8192x12288 .bf16) :
    val_main_v8 (F := 𝕀) x0 x1 = Cert.InDwIdeal.Val.grad x0 x1 := by
  funext y
  obtain ⟨s, r, l, rfl⟩ := split3 y
  pointwise [val_main_v8, val_main_v7, val_main_v6, val_main_v5, val_main_v4, val_main_v3, val_main_v1]
  exact Finset.sum_congr rfl fun k _ => (mul_comm _ _).trans (congrArg (x0 (ix2 k r) * ·)
    (read_col _ k (by show s.val * 3072 + l.val = 3072 * s.val + l.val; omega)))

end Cert.InDwRefIdeal.Val

namespace Cert.InDw

open Idealize.ShloMosaic Idealize.SL.Sem

local notation "𝕀" => Idealize.ShloMosaic.Ideal

/-- The reference runs and leaves its arguments. -/
theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := 𝕀) m ρ)

theorem algebraic : Cert.algebraic_InDwIdeal_InDwRefIdeal := by
  intro m ρ m' ρ' _ hag
  refine ⟨_, Cert.InDwIdeal.Value.run_blocks (F := 𝕀) m ρ, ?_⟩
  refine (θ_run Cert.InDwRefIdeal.defs _ _).mono (fun r h c => ?_) (Cert.InDwRefIdeal.Value.run (F := 𝕀) m' ρ')
  obtain ⟨a0, a1⟩ := hag c
  refine ⟨(h c).1.trans ?_, (h c).2⟩
  rw [Cert.InDwRefIdeal.Read.val_main_v8_eq, a0, a1]
  exact (Cert.InDwRefIdeal.Val.ref_eq _ _).trans (Cert.InDwIdeal.Val.arr m c).symm

end Cert.InDw

end
-- ==== Proof.ODxValue.lean ====
/-
  The input gradient of the product after the merge: what the kernel leaves, the reference at one index, and that they agree.
-/
module

public import proofs.«01_k».proof.Defs
public import proofs.«01_k».proof.Proof.Mm
public import proofs.«01_k».proof.Proof.Gen.ODxIdeal.Value
public import proofs.«01_k».proof.Proof.Gen.ODxRefIdeal.Run
public import proofs.«01_k».proof.Proof.Gen.ODxRefIdeal.Read

@[expose] public section

set_option maxRecDepth 16384

noncomputable section

namespace Cert.ODxIdeal.Val

open Cert.ODxIdeal Cert.ODxIdeal.Gen Cert.Mm
open Idealize.ShloMosaic Idealize.ShloMosaic.TcCoe Idealize.SL.Sem

local notation "𝕀" => Idealize.ShloMosaic.Ideal

/-- The input gradient: the cotangent's rows against the weight's rows. -/
def grad (x0 : Vec 𝕀 S8192x2048 .bf16) (w : Vec 𝕀 S2048x2048 .f32) : Vec 𝕀 S8192x2048 .bf16 :=
  fun y => ∑ k : Fin 2048, x0 (ix2 (y 0) k) * w (ix2 (y 1) k)

theorem pay_apply (a : Vec 𝕀 S1024x2048 .bf16) (b : Vec 𝕀 S1x1024x2048 .bf16) (r : Fin 1024) (l : Fin 1024) :
    k0_pay1 a b (ix2 r l) = ∑ k : Fin 2048, a (ix2 r k) * b (ix3 (0 : Fin 1) l k) := by
  pointwise [k0_pay1]

theorem out_eq (a : Vec 𝕀 S1024x2048 .bf16) (b : Vec 𝕀 S1x1024x2048 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S2048x2048 .f32 := m ((c : Thread nD τ).loc main_arg1)

theorem idx (t : Fin grid0.N) : win0_0.index t = ![t.val / 2, 0] ∧ win0_1.index t = ![0, t.val % 2, 0]
    ∧ win0_2.index t = ![t.val / 2, t.val % 2] :=
  (by decide +kernel : ∀ t : Fin grid0.N, win0_0.index t = ![t.val / 2, 0] ∧ win0_1.index t = ![0, t.val % 2, 0]
    ∧ win0_2.index t = ![t.val / 2, t.val % 2]) t

theorem lt_N (t : Fin cfg0.N) : t.val < 16 := lt_of_lt_of_eq t.isLt N_0

/-- Row `r` of the row block of point `t`, and column `l` of its column block. -/
abbrev row (t : Fin cfg0.N) (r : Fin 1024) : Fin 8192 := ⟨1024 * (t.val / 2) + r.val, by have := lt_N t; omega⟩
abbrev col (t : Fin cfg0.N) (l : Fin 1024) : Fin 2048 := ⟨1024 * (t.val % 2) + l.val, by omega⟩

/-- The weight as the kernel finds it, in its one slot. -/
theorem slots : (V m c main_v1 : Vec 𝕀 S1x2048x2048 .bf16)
    = shapeCast S1x2048x2048 (truncf (F := 𝕀) .bf16 (X1 m c) bitsLt_bf16_f32) shapeCasts_S2048x2048_S1x2048x2048 := by
  show StableHlo.after hostOps0 _ _ = _
  after_results <;> rfl

theorem slots_apply (r : Fin 2048) (k : Fin 2048) :
    (V m c main_v1 : Vec 𝕀 S1x2048x2048 .bf16) (ix3 (0 : Fin 1) r k) = X1 m c (ix2 r k) := by
  rw [slots]
  pointwise []

theorem iblk0 (t : Fin cfg0.N) (r : Fin 1024) (k : Fin 2048) : iblk m c 0 t (ix2 r k) = X0 m c (ix2 (row t r) k) := by
  blk_ext [iblk, V_main_arg0, (idx t).1]

theorem iblk1 (t : Fin cfg0.N) (l : Fin 1024) (k : Fin 2048) : iblk m c 1 t (ix3 (0 : Fin 1) l k) = X1 m c (ix2 (col t l) k) := by
  refine Eq.trans ?_ (slots_apply m c (col t l) k)
  blk_ext [iblk, (idx t).2.1]

/-- Where block `t` of the result lies. -/
theorem place (t : Fin cfg0.N) (r : Fin 1024) (l : Fin 1024) :
    (win0_2.blk t).view.emb (ix2 r l) = (ix2 (row t r) (col t l) : S8192x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (grad (X0 m c) (X1 m c)) (place t r l)).symm
  refine (pay_apply _ _ r l).trans ?_
  simp only [iblk0, iblk1]
  rfl

end Cert.ODxIdeal.Val

namespace Cert.ODxRefIdeal.Val

open Cert.ODxRefIdeal Cert.ODxRefIdeal.Read Cert.Mm Idealize.ShloMosaic

local notation "𝕀" => Idealize.ShloMosaic.Ideal

theorem ref_eq (x0 : Vec 𝕀 S8192x2048 .bf16) (w : Vec 𝕀 S2048x2048 .f32) :
    val_main_v4 (F := 𝕀) x0 w = Cert.ODxIdeal.Val.grad x0 w := by
  funext y
  obtain ⟨r, l, rfl⟩ := split2 y
  pointwise [val_main_v4, val_main_v3, val_main_v2]
  rfl

end Cert.ODxRefIdeal.Val

namespace Cert.ODx

open Idealize.ShloMosaic Idealize.SL.Sem

local notation "𝕀" => Idealize.ShloMosaic.Ideal

/-- The reference runs and leaves its arguments. -/
theorem frame_ref : Cert.quiescent_ODxRefIdeal := fun m ρ _ =>
  (θ_run Cert.ODxRefIdeal.defs _ _).mono (fun r h => ⟨fun c => (h c).2, sem_eq_zero_of_no_sems (by decide) r.2⟩)
    (Cert.ODxRefIdeal.Value.run (F := 𝕀) m ρ)

theorem algebraic : Cert.algebraic_ODxIdeal_ODxRefIdeal := by
  intro m ρ m' ρ' _ hag
  refine ⟨_, Cert.ODxIdeal.Value.run_blocks (F := 𝕀) m ρ, ?_⟩
  refine (θ_run Cert.ODxRefIdeal.defs _ _).mono (fun r h c => ?_) (Cert.ODxRefIdeal.Value.run (F := 𝕀) m' ρ')
  obtain ⟨a0, a1⟩ := hag c
  refine ⟨(h c).1.trans ?_, (h c).2⟩
  rw [Cert.ODxRefIdeal.Read.val_main_v4_eq, a0, a1]
  exact (Cert.ODxRefIdeal.Val.ref_eq _ _).trans (Cert.ODxIdeal.Val.arr m c).symm

end Cert.ODx

end
-- ==== Proof.ODwValue.lean ====
/-
  The weight gradient of the product after the merge: what the kernel leaves, the reference at one index, and that they agree.
-/
module

public import proofs.«01_k».proof.Defs
public import proofs.«01_k».proof.Proof.Mm
public import proofs.«01_k».proof.Proof.Gen.ODwIdeal.Value
public import proofs.«01_k».proof.Proof.Gen.ODwRefIdeal.Run
public import proofs.«01_k».proof.Proof.Gen.ODwRefIdeal.Read

@[expose] public section

set_option maxRecDepth 16384

noncomputable section

namespace Cert.ODwIdeal.Val

open Cert.ODwIdeal Cert.ODwIdeal.Gen Cert.Mm
open Idealize.ShloMosaic Idealize.ShloMosaic.TcCoe Idealize.SL.Sem

local notation "𝕀" => Idealize.ShloMosaic.Ideal

/-- Column `l` of slot `s`. -/
abbrev col (s : Fin 1) (l : Fin 2048) : Fin 2048 := ⟨2048 * s.val + l.val, by omega⟩

/-- The weight gradient in its one slot: the sum over the tokens. -/
def grad (x0 : Vec 𝕀 S8192x2048 .bf16) (x1 : Vec 𝕀 S8192x2048 .bf16) : Vec 𝕀 S1x2048x2048 .bf16 := fun y =>
  ∑ k : Fin 8192, x0 (ix2 k (y 1)) * x1 (ix2 k (col (y 0) (y 2)))

theorem pay_apply (a b : Vec 𝕀 S8192x512 .bf16) (r l : Fin 512) :
    k0_pay1 a b (ix3 (0 : Fin 1) r l) = ∑ k : Fin 8192, a (ix2 k r) * b (ix2 k l) := by
  pointwise [k0_pay1]

theorem out_eq (a b : Vec 𝕀 S8192x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S8192x2048 .bf16 := m ((c : Thread nD τ).loc main_arg1)

theorem idx (t : Fin grid0.N) : win0_0.index t = ![0, t.val / 4] ∧ win0_1.index t = ![0, t.val % 4]
    ∧ win0_2.index t = ![t.val % 4 / 4, t.val / 4, t.val % 4 % 4] :=
  (by decide +kernel : ∀ t : Fin grid0.N, win0_0.index t = ![0, t.val / 4] ∧ win0_1.index t = ![0, t.val % 4]
    ∧ win0_2.index t = ![t.val % 4 / 4, t.val / 4, t.val % 4 % 4]) t

theorem lt_N (t : Fin cfg0.N) : t.val < 16 := lt_of_lt_of_eq t.isLt N_0

theorem iblk0 (t : Fin cfg0.N) (k : Fin 8192) (r : Fin 512) :
    iblk m c 0 t (ix2 k r) = X0 m c (ix2 k ⟨512 * (t.val / 4) + r.val, by have := lt_N t; omega⟩) := by
  blk_ext [iblk, V, (idx t).1]

theorem iblk1 (t : Fin cfg0.N) (k : Fin 8192) (l : Fin 512) :
    iblk m c 1 t (ix2 k l) = X1 m c (ix2 k ⟨512 * (t.val % 4) + l.val, by omega⟩) := by
  blk_ext [iblk, V, (idx t).2.1]

/-- Where block `t` of the result lies. -/
theorem place (t : Fin cfg0.N) (r l : Fin 512) : (win0_2.blk t).view.emb (ix3 (0 : Fin 1) r l)
    = (ix3 (⟨t.val % 4 / 4, by omega⟩ : Fin 1) (⟨512 * (t.val / 4) + r.val, by have := lt_N t; omega⟩ : Fin 2048)
        (⟨512 * (t.val % 4 % 4) + l.val, by omega⟩ : Fin 2048) : S1x2048x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split3_one y
  refine Eq.trans ?_ (congrArg (grad (X0 m c) (X1 m c)) (place t r l)).symm
  refine (pay_apply _ _ r l).trans ?_
  simp only [iblk0, iblk1]
  refine Finset.sum_congr rfl fun k _ => congrArg _ (read_col _ k ?_)
  show 512 * (t.val % 4) + l.val = 2048 * (t.val % 4 / 4) + (512 * (t.val % 4 % 4) + l.val)
  omega

end Cert.ODwIdeal.Val

namespace Cert.ODwRefIdeal.Val

open Cert.ODwRefIdeal Cert.ODwRefIdeal.Read Cert.Mm Idealize.ShloMosaic

local notation "𝕀" => Idealize.ShloMosaic.Ideal

theorem ref_eq (x0 : Vec 𝕀 S8192x2048 .bf16) (x1 : Vec 𝕀 S8192x2048 .bf16) :
    val_main_v7 (F := 𝕀) x0 x1 = Cert.ODwIdeal.Val.grad x0 x1 := by
  funext y
  obtain ⟨s, r, l, rfl⟩ := split3 y
  pointwise [val_main_v7, val_main_v6, val_main_v5, val_main_v4, val_main_v3, val_main_v1]
  exact Finset.sum_congr rfl fun k _ => (mul_comm _ _).trans (congrArg (x0 (ix2 k r) * ·)
    (read_col _ k (by show l.val = 2048 * s.val + l.val; omega)))

end Cert.ODwRefIdeal.Val

namespace Cert.ODw

open Idealize.ShloMosaic Idealize.SL.Sem

local notation "𝕀" => Idealize.ShloMosaic.Ideal

/-- The reference runs and leaves its arguments. -/
theorem frame_ref : Cert.quiescent_ODwRefIdeal := fun m ρ _ =>
  (θ_run Cert.ODwRefIdeal.defs _ _).mono (fun r h => ⟨fun c => (h c).2, sem_eq_zero_of_no_sems (by decide) r.2⟩)
    (Cert.ODwRefIdeal.Value.run (F := 𝕀) m ρ)

theorem algebraic : Cert.algebraic_ODwIdeal_ODwRefIdeal := by
  intro m ρ m' ρ' _ hag
  refine ⟨_, Cert.ODwIdeal.Value.run_blocks (F := 𝕀) m ρ, ?_⟩
  refine (θ_run Cert.ODwRefIdeal.defs _ _).mono (fun r h c => ?_) (Cert.ODwRefIdeal.Value.run (F := 𝕀) m' ρ')
  obtain ⟨a0, a1⟩ := hag c
  refine ⟨(h c).1.trans ?_, (h c).2⟩
  rw [Cert.ODwRefIdeal.Read.val_main_v7_eq, a0, a1]
  exact (Cert.ODwRefIdeal.Val.ref_eq _ _).trans (Cert.ODwIdeal.Val.arr m c).symm

end Cert.ODw

end
-- ==== Proof.OutDxValue.lean ====
/-
  The input gradient of a branch's output product: what the kernel leaves, the reference at one index, and that they agree. The kernel adds up the
  four slots of columns in turn.
-/
module

public import proofs.«01_k».proof.Defs
public import proofs.«01_k».proof.Proof.Mm
public import proofs.«01_k».proof.Proof.Gen.OutDxIdeal.Value
public import proofs.«01_k».proof.Proof.Gen.OutDxRefIdeal.Run
public import proofs.«01_k».proof.Proof.Gen.OutDxRefIdeal.Read

@[expose] public section

set_option maxRecDepth 16384

noncomputable section

namespace Cert.OutDxIdeal.Val

open Cert.OutDxIdeal Cert.OutDxIdeal.Gen Cert.Mm
open Idealize.ShloMosaic Idealize.ShloMosaic.TcCoe Idealize.SL.Sem

local notation "𝕀" => Idealize.ShloMosaic.Ideal

/-- The input gradient: the cotangent's rows against the weight's rows. -/
def grad (x0 : Vec 𝕀 S8192x2048 .bf16) (w : Vec 𝕀 S1024x2048 .f32) : Vec 𝕀 S8192x1024 .bf16 :=
  fun y => ∑ k : Fin 2048, x0 (ix2 (y 0) k) * w (ix2 (y 1) k)

/-- What one point adds at row `r`, column `l` of its block. -/
def part (a : Vec 𝕀 S1024x512 .bf16) (b : Vec 𝕀 S1x1024x512 .bf16) (r l : Fin 1024) : EReal :=
  ∑ k : Fin 512, a (ix2 r k) * b (ix3 (0 : Fin 1) l k)

theorem pay2_apply (a : Vec 𝕀 S1024x512 .bf16) (b : Vec 𝕀 S1x1024x512 .bf16) (r l : Fin 1024) :
    k0_pay2 a b (ix2 r l) = part a b r l := by
  pointwise [k0_pay2, k0_pay1]
  rfl

theorem pay3_apply (a : Vec 𝕀 S1024x512 .bf16) (b : Vec 𝕀 S1x1024x512 .bf16) (v : Vec 𝕀 S1024x1024 .f32) (r l : Fin 1024) :
    k0_pay3 a b v (ix2 r l) = v (ix2 r l) + part a b r l := by
  pointwise [k0_pay3, k0_pay1]
  rfl

section Cases

variable (c : Dev nD) (i : grid0.Coords) (a3 : Memref sig .tc .vmem S1024x512 .bf16) (h3 : a3.IsWhole)
  (a4 : Memref sig .tc .vmem S1x1024x512 .bf16) (h4 : a4.IsWhole) (a5 : Memref sig .tc .vmem S1024x1024 .bf16) (h5 : a5.IsWhole)
  (a6 : Memref sig .tc .vmem S1024x1024 .f32) (h6 : a6.IsWhole) (x0 : Vec 𝕀 S1024x512 .bf16) (x1 : Vec 𝕀 S1x1024x512 .bf16)
  (v : Vec 𝕀 S1024x1024 .f32)

theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  frame_out

theorem middle (hc0 : ¬cond0_0 i) (hc1 : cond0_1 i) (hc2 : ¬cond0_2 i) :
    sout0_B_0 c i a3 h3 a4 h4 a5 h5 a6 h6 hc0 hc1 hc2 x0 x1 v = k0_pay3 x0 x1 v := by
  frame_out

theorem last (hc0 : ¬cond0_0 i) (hc1 : cond0_1 i) (hc2 : cond0_2 i) :
    sout0_C_0 c i a3 h3 a4 h4 a5 h5 a6 h6 hc0 hc1 hc2 x0 x1 v = k0_pay3 x0 x1 v := by
  frame_out

theorem last_out (hc0 : ¬cond0_0 i) (hc1 : cond0_1 i) (hc2 : cond0_2 i) :
    out0_C_2 c i a3 h3 a4 h4 a5 h5 a6 h6 hc0 hc1 hc2 x0 x1 v = k0_pay3 x0 x1 v := by
  frame_out
  rfl

end Cases

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S1024x2048 .f32 := m ((c : Thread nD τ).loc main_arg1)

theorem idx (t : Fin grid0.N) : win0_0.index t = ![t.val / 4, t.val % 4] ∧ win0_1.index t = ![t.val % 4, t.val / 4 % 1, 0]
    ∧ win0_2.index t = ![t.val / 4, t.val / 4 % 1] :=
  (by decide +kernel : ∀ t : Fin grid0.N, win0_0.index t = ![t.val / 4, t.val % 4]
    ∧ win0_1.index t = ![t.val % 4, t.val / 4 % 1, 0] ∧ win0_2.index t = ![t.val / 4, t.val / 4 % 1]) t

theorem lt_N (t : Fin cfg0.N) : t.val < 32 := lt_of_lt_of_eq t.isLt N_0

/-- Row `r` of the row block of point `t`, row `l` of its block of the weight, and column `k` of its slot. -/
abbrev row (t : Fin cfg0.N) (r : Fin 1024) : Fin 8192 := ⟨1024 * (t.val / 4) + r.val, by have := lt_N t; omega⟩
abbrev col (t : Fin cfg0.N) (l : Fin 1024) : Fin 1024 := ⟨1024 * (t.val / 4 % 1) + l.val, by omega⟩
abbrev lane (s : Fin 4) (k : Fin 512) : Fin 2048 := ⟨512 * s.val + k.val, by omega⟩
/-- The slot of point `t`. -/
abbrev slot (t : Fin cfg0.N) : Fin 4 := ⟨t.val % 4, by omega⟩

/-- The weight as the kernel finds it, in four slots of columns. -/
theorem slots : (V m c main_v2 : Vec 𝕀 S4x1024x512 .bf16)
    = transpose S4x1024x512 [1, 0, 2] (shapeCast S1024x4x512 (truncf (F := 𝕀) .bf16 (X1 m c) bitsLt_bf16_f32)
        shapeCasts_S1024x2048_S1024x4x512) transposes_S1024x4x512_S4x1024x512_1_0_2 := by
  show StableHlo.after hostOps0 _ _ = _
  after_results <;> rfl

theorem slots_apply (s : Fin 4) (r : Fin 1024) (k : Fin 512) :
    (V m c main_v2 : Vec 𝕀 S4x1024x512 .bf16) (ix3 s r k) = X1 m c (ix2 r (lane s k)) := by
  rw [slots]
  pointwise []
  exact read_col _ r (by show s.val * 512 + k.val = 512 * s.val + k.val; omega)

theorem iblk0 (t : Fin cfg0.N) (r : Fin 1024) (k : Fin 512) :
    iblk m c 0 t (ix2 r k) = X0 m c (ix2 (row t r) (lane (slot t) k)) := by
  blk_ext [iblk, V_main_arg0, (idx t).1]

theorem iblk1 (t : Fin cfg0.N) (l : Fin 1024) (k : Fin 512) :
    iblk m c 1 t (ix3 (0 : Fin 1) l k) = X1 m c (ix2 (col t l) (lane (slot t) k)) := by
  refine Eq.trans ?_ (slots_apply m c (slot t) (col t l) k)
  blk_ext [iblk, (idx t).2.1]

theorem part_eq (t : Fin cfg0.N) (r l : Fin 1024) : part (iblk m c 0 t) (iblk m c 1 t) r l
    = ∑ k : Fin 512, X0 m c (ix2 (row t r) (lane (slot t) k)) * X1 m c (ix2 (col t l) (lane (slot t) k)) := by
  simp only [part, iblk0, iblk1]

/-- What the accumulator holds at the last of the four points of a block. -/
theorem acc (t : Fin cfg0.N) (ht : t.val % 4 = 3) (r l : Fin 1024) :
    (outsAt0 m c t.val t.isLt).2 (ix2 r l) = grad (X0 m c) (X1 m c) (ix2 (row t r) (col t l)) := by
  have e := Pipeline.eq_sum_fin_of_reset_step_apply_of_flush (M := EReal) (ι := S1024x1024.Idx) (fun n h => (outsAt0 m c n h).2) 4
    (fun _ => 0) (fun t y => part (iblk m c 0 t) (iblk m c 1 t) (y 0) (y 1))
    (fun t h y => by
      obtain ⟨r, l, rfl⟩ := split2 y
      rw [outsAt0_A m c t h (by omega) (by omega)]
      dsimp only
      rw [first, zero_add]
      exact pay2_apply _ _ r l)
    (fun t h y => by
      obtain ⟨r, l, rfl⟩ := split2 y
      by_cases h2 : t.val % 4 = 3
      · rw [outsAt0_C m c t h (by omega) h2]
        dsimp only
        rw [last]
        exact pay3_apply _ _ _ r l
      · rw [outsAt0_B m c t h (by omega) h2]
        dsimp only
        rw [middle]
        exact pay3_apply _ _ _ r l)
    t ht (ix2 r l)
  rw [e, zero_add, grad]
  refine (Finset.sum_congr rfl fun s _ => part_eq m c _ r l).trans ?_
  refine Fin.sum_mul_add_congr fun s k hl => ?_
  have hs := s.isLt
  have e1 : (4 * (t.val / 4) + s.val) / 4 = t.val / 4 := by omega
  have e2 : (4 * (t.val / 4) + s.val) / 4 % 1 = t.val / 4 % 1 := by omega
  have e3 : 512 * ((4 * (t.val / 4) + s.val) % 4) + k.val = s.val * 512 + k.val := by omega
  simp only [row, col, lane, slot, e1, e2, e3]
  rfl

theorem outs (t : Fin cfg0.N) (ht : t.val % 4 = 3) : (outsAt0 m c t.val t.isLt).1 = (outsAt0 m c t.val t.isLt).2 := by
  rw [outsAt0_C m c t (by omega) (by omega) ht]
  dsimp only
  rw [last, last_out]

/-- Where block `t` of the result lies. -/
theorem place (t : Fin cfg0.N) (r l : Fin 1024) :
    (win0_2.blk t).view.emb (ix2 r l) = (ix2 (row t r) (col t l) : S8192x1024.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  have ht : t.val % 4 = 3 := (flush0_2 t).mp hf
  blk_simp
  rw [after0_2, outs m c t ht]
  obtain ⟨r, l, rfl⟩ := split2 y
  exact (acc m c t ht r l).trans (congrArg (grad (X0 m c) (X1 m c)) (place t r l)).symm

end Cert.OutDxIdeal.Val

namespace Cert.OutDxRefIdeal.Val

open Cert.OutDxRefIdeal Cert.OutDxRefIdeal.Read Cert.Mm Idealize.ShloMosaic

local notation "𝕀" => Idealize.ShloMosaic.Ideal

theorem ref_eq (x0 : Vec 𝕀 S8192x2048 .bf16) (w : Vec 𝕀 S1024x2048 .f32) :
    val_main_v4 (F := 𝕀) x0 w = Cert.OutDxIdeal.Val.grad x0 w := by
  funext y
  obtain ⟨r, l, rfl⟩ := split2 y
  pointwise [val_main_v4, val_main_v3, val_main_v2]
  rfl

end Cert.OutDxRefIdeal.Val

namespace Cert.OutDx

open Idealize.ShloMosaic Idealize.SL.Sem

local notation "𝕀" => Idealize.ShloMosaic.Ideal

/-- The reference runs and leaves its arguments. -/
theorem frame_ref : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := 𝕀) m ρ)

theorem algebraic : Cert.algebraic_OutDxIdeal_OutDxRefIdeal := by
  intro m ρ m' ρ' _ hag
  refine ⟨_, Cert.OutDxIdeal.Value.run_blocks (F := 𝕀) m ρ, ?_⟩
  refine (θ_run Cert.OutDxRefIdeal.defs _ _).mono (fun r h c => ?_) (Cert.OutDxRefIdeal.Value.run (F := 𝕀) m' ρ')
  obtain ⟨a0, a1⟩ := hag c
  refine ⟨(h c).1.trans ?_, (h c).2⟩
  rw [Cert.OutDxRefIdeal.Read.val_main_v4_eq, a0, a1]
  exact (Cert.OutDxRefIdeal.Val.ref_eq _ _).trans (Cert.OutDxIdeal.Val.arr m c).symm

end Cert.OutDx

end
-- ==== Proof.OutDwValue.lean ====
/-
  A branch's output product's weight gradient: what the kernel leaves, the reference at one index, and that they agree.
-/
module

public import proofs.«01_k».proof.Defs
public import proofs.«01_k».proof.Proof.Mm
public import proofs.«01_k».proof.Proof.Gen.OutDwIdeal.Value
public import proofs.«01_k».proof.Proof.Gen.OutDwRefIdeal.Run
public import proofs.«01_k».proof.Proof.Gen.OutDwRefIdeal.Read

@[expose] public section

set_option maxRecDepth 16384

noncomputable section

namespace Cert.OutDwIdeal.Val

open Cert.OutDwIdeal Cert.OutDwIdeal.Gen Cert.Mm
open Idealize.ShloMosaic Idealize.ShloMosaic.TcCoe Idealize.SL.Sem

local notation "𝕀" => Idealize.ShloMosaic.Ideal

/-- Column `l` of slot `s`. -/
abbrev col (s : Fin 4) (l : Fin 512) : Fin 2048 := ⟨512 * s.val + l.val, by omega⟩

/-- The weight gradient in its slots of columns: the sum over the tokens. -/
def grad (x0 : Vec 𝕀 S8192x1024 .bf16) (x1 : Vec 𝕀 S8192x2048 .bf16) : Vec 𝕀 S4x1024x512 .bf16 := fun y =>
  ∑ k : Fin 8192, x0 (ix2 k (y 1)) * x1 (ix2 k (col (y 0) (y 2)))

theorem pay_apply (a b : Vec 𝕀 S8192x512 .bf16) (r l : Fin 512) :
    k0_pay1 a b (ix3 (0 : Fin 1) r l) = ∑ k : Fin 8192, a (ix2 k r) * b (ix2 k l) := by
  pointwise [k0_pay1]

theorem out_eq (a b : Vec 𝕀 S8192x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x1024 .bf16 := m ((c : Thread nD τ).loc main_arg0)
abbrev X1 : Vec 𝕀 S8192x2048 .bf16 := m ((c : Thread nD τ).loc main_arg1)

theorem idx (t : Fin grid0.N) : win0_0.index t = ![0, t.val / 4] ∧ win0_1.index t = ![0, t.val % 4]
    ∧ win0_2.index t = ![t.val % 4 / 1, t.val / 4, t.val % 4 % 1] :=
  (by decide +kernel : ∀ t : Fin grid0.N, win0_0.index t = ![0, t.val / 4] ∧ win0_1.index t = ![0, t.val % 4]
    ∧ win0_2.index t = ![t.val % 4 / 1, t.val / 4, t.val % 4 % 1]) t

theorem lt_N (t : Fin cfg0.N) : t.val < 8 := lt_of_lt_of_eq t.isLt N_0

theorem iblk0 (t : Fin cfg0.N) (k : Fin 8192) (r : Fin 512) :
    iblk m c 0 t (ix2 k r) = X0 m c (ix2 k ⟨512 * (t.val / 4) + r.val, by have := lt_N t; omega⟩) := by
  blk_ext [iblk, V, (idx t).1]

theorem iblk1 (t : Fin cfg0.N) (k : Fin 8192) (l : Fin 512) :
    iblk m c 1 t (ix2 k l) = X1 m c (ix2 k ⟨512 * (t.val % 4) + l.val, by omega⟩) := by
  blk_ext [iblk, V, (idx t).2.1]

/-- Where block `t` of the result lies. -/
theorem place (t : Fin cfg0.N) (r l : Fin 512) : (win0_2.blk t).view.emb (ix3 (0 : Fin 1) r l)
    = (ix3 (⟨t.val % 4 / 1, by omega⟩ : Fin 4) (⟨512 * (t.val / 4) + r.val, by have := lt_N t; omega⟩ : Fin 1024)
        (⟨512 * (t.val % 4 % 1) + l.val, by omega⟩ : Fin 512) : S4x1024x512.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split3_one y
  refine Eq.trans ?_ (congrArg (grad (X0 m c) (X1 m c)) (place t r l)).symm
  refine (pay_apply _ _ r l).trans ?_
  simp only [iblk0, iblk1]
  refine Finset.sum_congr rfl fun k _ => congrArg _ (read_col _ k ?_)
  show 512 * (t.val % 4) + l.val = 512 * (t.val % 4 / 1) + (512 * (t.val % 4 % 1) + l.val)
  omega

end Cert.OutDwIdeal.Val

namespace Cert.OutDwRefIdeal.Val

open Cert.OutDwRefIdeal Cert.OutDwRefIdeal.Read Cert.Mm Idealize.ShloMosaic

local notation "𝕀" => Idealize.ShloMosaic.Ideal

theorem ref_eq (x0 : Vec 𝕀 S8192x1024 .bf16) (x1 : Vec 𝕀 S8192x2048 .bf16) :
    val_main_v8 (F := 𝕀) x0 x1 = Cert.OutDwIdeal.Val.grad x0 x1 := by
  funext y
  obtain ⟨s, r, l, rfl⟩ := split3 y
  pointwise [val_main_v8, val_main_v7, val_main_v6, val_main_v5, val_main_v4, val_main_v3, val_main_v1]
  exact Finset.sum_congr rfl fun k _ => (mul_comm _ _).trans (congrArg (x0 (ix2 k r) * ·)
    (read_col _ k (by show s.val * 512 + l.val = 512 * s.val + l.val; omega)))

end Cert.OutDwRefIdeal.Val

namespace Cert.OutDw

open Idealize.ShloMosaic Idealize.SL.Sem

local notation "𝕀" => Idealize.ShloMosaic.Ideal

/-- The reference runs and leaves its arguments. -/
theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := 𝕀) m ρ)

theorem algebraic : Cert.algebraic_OutDwIdeal_OutDwRefIdeal := by
  intro m ρ m' ρ' _ hag
  refine ⟨_, Cert.OutDwIdeal.Value.run_blocks (F := 𝕀) m ρ, ?_⟩
  refine (θ_run Cert.OutDwRefIdeal.defs _ _).mono (fun r h c => ?_) (Cert.OutDwRefIdeal.Value.run (F := 𝕀) m' ρ')
  obtain ⟨a0, a1⟩ := hag c
  refine ⟨(h c).1.trans ?_, (h c).2⟩
  rw [Cert.OutDwRefIdeal.Read.val_main_v8_eq, a0, a1]
  exact (Cert.OutDwRefIdeal.Val.ref_eq _ _).trans (Cert.OutDwIdeal.Val.arr m c).symm

end Cert.OutDw

end
-- ==== Proof.KvDxValue.lean ====
/-
  The gradient of the memory through the keys and values: what the kernel leaves, the reference at one index, and that they agree.
-/
module

public import proofs.«01_k».proof.Defs
public import proofs.«01_k».proof.Proof.Mm
public import proofs.«01_k».proof.Proof.Gen.KvDxIdeal.Value
public import proofs.«01_k».proof.Proof.Gen.KvDxRefIdeal.Run
public import proofs.«01_k».proof.Proof.Gen.KvDxRefIdeal.Read

@[expose] public section

set_option maxRecDepth 16384

noncomputable section

namespace Cert.KvDxIdeal.Val

open Cert.KvDxIdeal Cert.KvDxIdeal.Gen Cert.Mm
open Idealize.ShloMosaic Idealize.ShloMosaic.TcCoe Idealize.SL.Sem

local notation "𝕀" => Idealize.ShloMosaic.Ideal

/-- The input gradient: the cotangent's rows against the weight's rows. -/
def grad (x0 : Vec 𝕀 S256x2048 .f32) (w : Vec 𝕀 S2048x2048 .f32) : Vec 𝕀 S256x2048 .f32 :=
  fun y => ∑ k : Fin 2048, x0 (ix2 (y 0) k) * w (ix2 (y 1) k)

theorem pay_apply (a : Vec 𝕀 S256x2048 .f32) (b : Vec 𝕀 S1x1024x2048 .bf16) (r : Fin 256) (l : Fin 1024) :
    k0_pay1 a b (ix2 r l) = ∑ k : Fin 2048, a (ix2 r k) * b (ix3 (0 : Fin 1) l k) := by
  pointwise [k0_pay1]

theorem out_eq (a : Vec 𝕀 S256x2048 .f32) (b : Vec 𝕀 S1x1024x2048 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S256x2048 .f32 := m ((c : Thread nD τ).loc main_arg0)
abbrev X1 : Vec 𝕀 S2048x2048 .f32 := m ((c : Thread nD τ).loc main_arg1)

theorem idx (t : Fin grid0.N) : win0_0.index t = ![t.val / 2, 0] ∧ win0_1.index t = ![0, t.val % 2, 0]
    ∧ win0_2.index t = ![t.val / 2, t.val % 2] :=
  (by decide +kernel : ∀ t : Fin grid0.N, win0_0.index t = ![t.val / 2, 0] ∧ win0_1.index t = ![0, t.val % 2, 0]
    ∧ win0_2.index t = ![t.val / 2, t.val % 2]) t

theorem lt_N (t : Fin cfg0.N) : t.val < 2 := lt_of_lt_of_eq t.isLt N_0

/-- Row `r` of the row block of point `t`, and column `l` of its column block. -/
abbrev row (t : Fin cfg0.N) (r : Fin 256) : Fin 256 := ⟨256 * (t.val / 2) + r.val, by have := lt_N t; omega⟩
abbrev col (t : Fin cfg0.N) (l : Fin 1024) : Fin 2048 := ⟨1024 * (t.val % 2) + l.val, by omega⟩

/-- The weight as the kernel finds it, in its one slot. -/
theorem slots : (V m c main_v1 : Vec 𝕀 S1x2048x2048 .bf16)
    = shapeCast S1x2048x2048 (truncf (F := 𝕀) .bf16 (X1 m c) bitsLt_bf16_f32) shapeCasts_S2048x2048_S1x2048x2048 := by
  show StableHlo.after hostOps0 _ _ = _
  after_results <;> rfl

theorem slots_apply (r : Fin 2048) (k : Fin 2048) :
    (V m c main_v1 : Vec 𝕀 S1x2048x2048 .bf16) (ix3 (0 : Fin 1) r k) = X1 m c (ix2 r k) := by
  rw [slots]
  pointwise []

theorem iblk0 (t : Fin cfg0.N) (r : Fin 256) (k : Fin 2048) : iblk m c 0 t (ix2 r k) = X0 m c (ix2 (row t r) k) := by
  blk_ext [iblk, V_main_arg0, (idx t).1]

theorem iblk1 (t : Fin cfg0.N) (l : Fin 1024) (k : Fin 2048) : iblk m c 1 t (ix3 (0 : Fin 1) l k) = X1 m c (ix2 (col t l) k) := by
  refine Eq.trans ?_ (slots_apply m c (col t l) k)
  blk_ext [iblk, (idx t).2.1]

/-- Where block `t` of the result lies. -/
theorem place (t : Fin cfg0.N) (r : Fin 256) (l : Fin 1024) :
    (win0_2.blk t).view.emb (ix2 r l) = (ix2 (row t r) (col t l) : S256x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (grad (X0 m c) (X1 m c)) (place t r l)).symm
  refine (pay_apply _ _ r l).trans ?_
  simp only [iblk0, iblk1]
  rfl

end Cert.KvDxIdeal.Val

namespace Cert.KvDxRefIdeal.Val

open Cert.KvDxRefIdeal Cert.KvDxRefIdeal.Read Cert.Mm Idealize.ShloMosaic

local notation "𝕀" => Idealize.ShloMosaic.Ideal

theorem ref_eq (x0 : Vec 𝕀 S256x2048 .f32) (w : Vec 𝕀 S2048x2048 .f32) :
    val_main_v2 (F := 𝕀) x0 w = Cert.KvDxIdeal.Val.grad x0 w := by
  funext y
  obtain ⟨r, l, rfl⟩ := split2 y
  pointwise [val_main_v2]
  rfl

end Cert.KvDxRefIdeal.Val

namespace Cert.KvDx

open Idealize.ShloMosaic Idealize.SL.Sem

local notation "𝕀" => Idealize.ShloMosaic.Ideal

/-- The reference runs and leaves its arguments. -/
theorem frame_ref : Cert.quiescent_KvDxRefIdeal := fun m ρ _ =>
  (θ_run Cert.KvDxRefIdeal.defs _ _).mono (fun r h => ⟨fun c => (h c).2, sem_eq_zero_of_no_sems (by decide) r.2⟩)
    (Cert.KvDxRefIdeal.Value.run (F := 𝕀) m ρ)

theorem algebraic : Cert.algebraic_KvDxIdeal_KvDxRefIdeal := by
  intro m ρ m' ρ' _ hag
  refine ⟨_, Cert.KvDxIdeal.Value.run_blocks (F := 𝕀) m ρ, ?_⟩
  refine (θ_run Cert.KvDxRefIdeal.defs _ _).mono (fun r h c => ?_) (Cert.KvDxRefIdeal.Value.run (F := 𝕀) m' ρ')
  obtain ⟨a0, a1⟩ := hag c
  refine ⟨(h c).1.trans ?_, (h c).2⟩
  rw [Cert.KvDxRefIdeal.Read.val_main_v2_eq, a0, a1]
  exact (Cert.KvDxRefIdeal.Val.ref_eq _ _).trans (Cert.KvDxIdeal.Val.arr m c).symm

end Cert.KvDx

end
-- ==== Proof.KvDwValue.lean ====
/-
  The weight gradient of the memory's keys and values: what the kernel leaves, the reference at one index, and that they agree.
-/
module

public import proofs.«01_k».proof.Defs
public import proofs.«01_k».proof.Proof.Mm
public import proofs.«01_k».proof.Proof.Gen.KvDwIdeal.Value
public import proofs.«01_k».proof.Proof.Gen.KvDwRefIdeal.Run
public import proofs.«01_k».proof.Proof.Gen.KvDwRefIdeal.Read

@[expose] public section

set_option maxRecDepth 16384

noncomputable section

namespace Cert.KvDwIdeal.Val

open Cert.KvDwIdeal Cert.KvDwIdeal.Gen Cert.Mm
open Idealize.ShloMosaic Idealize.ShloMosaic.TcCoe Idealize.SL.Sem

local notation "𝕀" => Idealize.ShloMosaic.Ideal

/-- Column `l` of slot `s`. -/
abbrev col (s : Fin 1) (l : Fin 2048) : Fin 2048 := ⟨2048 * s.val + l.val, by omega⟩

/-- The weight gradient in its one slot: the sum over the memory tokens. -/
def grad (x0 : Vec 𝕀 S256x2048 .bf16) (x1 : Vec 𝕀 S256x2048 .f32) : Vec 𝕀 S1x2048x2048 .bf16 := fun y =>
  ∑ k : Fin 256, x0 (ix2 k (y 1)) * x1 (ix2 k (col (y 0) (y 2)))

theorem pay_apply (a : Vec 𝕀 S256x1024 .bf16) (b : Vec 𝕀 S256x1024 .f32) (r l : Fin 1024) :
    k0_pay1 a b (ix3 (0 : Fin 1) r l) = ∑ k : Fin 256, a (ix2 k r) * b (ix2 k l) := by
  pointwise [k0_pay1]

theorem out_eq (a : Vec 𝕀 S256x1024 .bf16) (b : Vec 𝕀 S256x1024 .f32) : out0_2 a b = k0_pay1 a b := by
  rw [out0_2]
  frame_out

variable (m : (ℓ : Loc nD τ sig) → Buf (Elt 𝕀) ℓ) (c : Dev nD)

/-- The arguments on device `c`. -/
abbrev X0 : Vec 𝕀 S256x2048 .bf16 := m ((c : Thread nD τ).loc main_arg0)
abbrev X1 : Vec 𝕀 S256x2048 .f32 := m ((c : Thread nD τ).loc main_arg1)

theorem idx (t : Fin grid0.N) : win0_0.index t = ![0, t.val / 2] ∧ win0_1.index t = ![0, t.val % 2]
    ∧ win0_2.index t = ![t.val % 2 / 2, t.val / 2, t.val % 2 % 2] :=
  (by decide +kernel : ∀ t : Fin grid0.N, win0_0.index t = ![0, t.val / 2] ∧ win0_1.index t = ![0, t.val % 2]
    ∧ win0_2.index t = ![t.val % 2 / 2, t.val / 2, t.val % 2 % 2]) t

theorem lt_N (t : Fin cfg0.N) : t.val < 4 := lt_of_lt_of_eq t.isLt N_0

theorem iblk0 (t : Fin cfg0.N) (k : Fin 256) (r : Fin 1024) :
    iblk m c 0 t (ix2 k r) = X0 m c (ix2 k ⟨1024 * (t.val / 2) + r.val, by have := lt_N t; omega⟩) := by
  blk_ext [iblk, V, (idx t).1]

theorem iblk1 (t : Fin cfg0.N) (k : Fin 256) (l : Fin 1024) :
    iblk m c 1 t (ix2 k l) = X1 m c (ix2 k ⟨1024 * (t.val % 2) + l.val, by omega⟩) := by
  blk_ext [iblk, V, (idx t).2.1]

/-- Where block `t` of the result lies. -/
theorem place (t : Fin cfg0.N) (r l : Fin 1024) : (win0_2.blk t).view.emb (ix3 (0 : Fin 1) r l)
    = (ix3 (⟨t.val % 2 / 2, by omega⟩ : Fin 1) (⟨1024 * (t.val / 2) + r.val, by have := lt_N t; omega⟩ : Fin 2048)
        (⟨1024 * (t.val % 2 % 2) + l.val, by omega⟩ : Fin 2048) : S1x2048x2048.Idx) := by
  blk_ext [(idx t).2.2]

/-- The result after the run. -/
theorem arr : (dats m 0 c).arrAt 2 cfg0.N = grad (X0 m c) (X1 m c) := by
  refine (dats m 0 c).arrAt_eq_of_covers 2 _ (by decide +kernel) fun t hf y => ?_
  blk_simp
  rw [after0_2, out_eq]
  obtain ⟨r, l, rfl⟩ := split3_one y
  refine Eq.trans ?_ (congrArg (grad (X0 m c) (X1 m c)) (place t r l)).symm
  refine (pay_apply _ _ r l).trans ?_
  simp only [iblk0, iblk1]
  refine Finset.sum_congr rfl fun k _ => congrArg _ (read_col _ k ?_)
  show 1024 * (t.val % 2) + l.val = 2048 * (t.val % 2 / 2) + (1024 * (t.val % 2 % 2) + l.val)
  omega

end Cert.KvDwIdeal.Val

namespace Cert.KvDwRefIdeal.Val

open Cert.KvDwRefIdeal Cert.KvDwRefIdeal.Read Cert.Mm Idealize.ShloMosaic

local notation "𝕀" => Idealize.ShloMosaic.Ideal

theorem ref_eq (x0 : Vec 𝕀 S256x2048 .bf16) (x1 : Vec 𝕀 S256x2048 .f32) :
    val_main_v6 (F := 𝕀) x0 x1 = Cert.KvDwIdeal.Val.grad x0 x1 := by
  funext y
  obtain ⟨s, r, l, rfl⟩ := split3 y
  pointwise [val_main_v6, val_main_v5, val_main_v4, val_main_v3, val_main_v1]
  exact Finset.sum_congr rfl fun k _ => (mul_comm _ _).trans (congrArg (x0 (ix2 k r) * ·)
    (read_col _ k (by show l.val = 2048 * s.val + l.val; omega)))

end Cert.KvDwRefIdeal.Val

namespace Cert.KvDw

open Idealize.ShloMosaic Idealize.SL.Sem

local notation "𝕀" => Idealize.ShloMosaic.Ideal

/-- The reference runs and leaves its arguments. -/
theorem frame_ref : Cert.quiescent_KvDwRefIdeal := fun m ρ _ =>
  (θ_run Cert.KvDwRefIdeal.defs _ _).mono (fun r h => ⟨fun c => (h c).2, sem_eq_zero_of_no_sems (by decide) r.2⟩)
    (Cert.KvDwRefIdeal.Value.run (F := 𝕀) m ρ)

theorem algebraic : Cert.algebraic_KvDwIdeal_KvDwRefIdeal := by
  intro m ρ m' ρ' _ hag
  refine ⟨_, Cert.KvDwIdeal.Value.run_blocks (F := 𝕀) m ρ, ?_⟩
  refine (θ_run Cert.KvDwRefIdeal.defs _ _).mono (fun r h c => ?_) (Cert.KvDwRefIdeal.Value.run (F := 𝕀) m' ρ')
  obtain ⟨a0, a1⟩ := hag c
  refine ⟨(h c).1.trans ?_, (h c).2⟩
  rw [Cert.KvDwRefIdeal.Read.val_main_v6_eq, a0, a1]
  exact (Cert.KvDwRefIdeal.Val.ref_eq _ _).trans (Cert.KvDwIdeal.Val.arr m c).symm

end Cert.KvDw

end
-- ==== Proof.MmInValue.lean ====
/-
  The input projection: what the kernel leaves, the reference at one index, and that they agree.
-/
module

public import proofs.«01_k».proof.Defs
public import proofs.«01_k».proof.Proof.Mm
public import proofs.«01_k».proof.Proof.Gen.MmInIdeal.Value
public import proofs.«01_k».proof.Proof.Gen.MmInRefIdeal.Run
public import proofs.«01_k».proof.Proof.Gen.MmInRefIdeal.Read

@[expose] public section

set_option maxRecDepth 16384

noncomputable section

namespace Cert.MmInIdeal.Val

open Cert.MmInIdeal Cert.MmInIdeal.Gen Cert.Mm
open Idealize.ShloMosaic Idealize.ShloMosaic.TcCoe Idealize.SL.Sem

local notation "𝕀" => Idealize.ShloMosaic.Ideal

/-- The product. -/
def prod (x0 : Vec 𝕀 S8192x2048 .bf16) (w : Vec 𝕀 S2048x12288 .f32) : Vec 𝕀 S8192x12288 .bf16 :=
  fun y => ∑ k : Fin 2048, x0 (ix2 (y 0) k) * w (ix2 k (y 1))

theorem pay_apply (a : Vec 𝕀 S1024x2048 .bf16) (b : Vec 𝕀 S1x2048x1024 .bf16) (r : Fin 1024) (l : Fin 1024) :
    k0_pay1 a b (ix2 r l) = ∑ k : Fin 2048, a (ix2 r k) * b (ix3 (0 : Fin 1) k l) := by
  pointwise [k0_pay1]

theorem out_eq (a : Vec 𝕀 S1024x2048 .bf16) (b : Vec 𝕀 S1x2048x1024 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S2048x12288 .f32 := m ((c : Thread nD τ).loc main_arg1)

theorem idx (t : Fin grid0.N) : win0_0.index t = ![t.val / 12, 0] ∧ win0_1.index t = ![t.val % 12 / 3, 0, t.val % 12 % 3]
    ∧ win0_2.index t = ![t.val / 12, t.val % 12] :=
  (by decide +kernel : ∀ t : Fin grid0.N, win0_0.index t = ![t.val / 12, 0] ∧ win0_1.index t = ![t.val % 12 / 3, 0, t.val % 12 % 3]
    ∧ win0_2.index t = ![t.val / 12, t.val % 12]) t

theorem lt_N (t : Fin cfg0.N) : t.val < 96 := lt_of_lt_of_eq t.isLt N_0

/-- Row `r` of the row block of point `t`, and column `l` of its column block. -/
abbrev row (t : Fin cfg0.N) (r : Fin 1024) : Fin 8192 := ⟨1024 * (t.val / 12) + r.val, by have := lt_N t; omega⟩
abbrev col (t : Fin cfg0.N) (l : Fin 1024) : Fin 12288 := ⟨1024 * (t.val % 12) + l.val, by have := lt_N t; omega⟩

/-- The weight as the kernel finds it, in four slots of columns. -/
theorem slots : (V m c main_v2 : Vec 𝕀 S4x2048x3072 .bf16)
    = transpose S4x2048x3072 [1, 0, 2] (shapeCast S2048x4x3072 (truncf (F := 𝕀) .bf16 (X1 m c) bitsLt_bf16_f32)
        shapeCasts_S2048x12288_S2048x4x3072) transposes_S2048x4x3072_S4x2048x3072_1_0_2 := by
  show StableHlo.after hostOps0 _ _ = _
  after_results <;> rfl

theorem slots_apply (s : Fin 4) (r : Fin 2048) (k : Fin 3072) (j : Fin 12288) (hj : 3072 * s.val + k.val = j.val) :
    (V m c main_v2 : Vec 𝕀 S4x2048x3072 .bf16) (ix3 s r k) = X1 m c (ix2 r j) := by
  rw [slots]
  pointwise []
  exact read_col _ r (by show s.val * 3072 + k.val = j.val; omega)

theorem iblk0 (t : Fin cfg0.N) (r : Fin 1024) (k : Fin 2048) : iblk m c 0 t (ix2 r k) = X0 m c (ix2 (row t r) k) := by
  blk_ext [iblk, V_main_arg0, (idx t).1]

theorem iblk1 (t : Fin cfg0.N) (k : Fin 2048) (l : Fin 1024) : iblk m c 1 t (ix3 (0 : Fin 1) k l) = X1 m c (ix2 k (col t l)) := by
  refine Eq.trans ?_ (slots_apply m c ⟨t.val % 12 / 3, by omega⟩ k ⟨1024 * (t.val % 12 % 3) + l.val, by omega⟩ (col t l)
    (by show 3072 * (t.val % 12 / 3) + (1024 * (t.val % 12 % 3) + l.val) = 1024 * (t.val % 12) + l.val; omega))
  blk_ext [iblk, (idx t).2.1]

/-- Where block `t` of the result lies. -/
theorem place (t : Fin cfg0.N) (r : Fin 1024) (l : Fin 1024) :
    (win0_2.blk t).view.emb (ix2 r l) = (ix2 (row t r) (col t l) : S8192x12288.Idx) := by
  blk_ext [(idx t).2.2]

/-- The result after the run. -/
theorem arr : (dats m 0 c).arrAt 2 cfg0.N = prod (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (prod (X0 m c) (X1 m c)) (place t r l)).symm
  refine (pay_apply _ _ r l).trans ?_
  simp only [iblk0, iblk1]
  rfl

end Cert.MmInIdeal.Val

namespace Cert.MmInRefIdeal.Val

open Cert.MmInRefIdeal Cert.MmInRefIdeal.Read Cert.Mm Idealize.ShloMosaic

local notation "𝕀" => Idealize.ShloMosaic.Ideal

theorem ref_eq (x0 : Vec 𝕀 S8192x2048 .bf16) (w : Vec 𝕀 S2048x12288 .f32) :
    val_main_v2 (F := 𝕀) x0 w = Cert.MmInIdeal.Val.prod x0 w := by
  funext y
  obtain ⟨r, l, rfl⟩ := split2 y
  pointwise [val_main_v2, val_main_v1, val_main_v0]
  rfl

end Cert.MmInRefIdeal.Val

namespace Cert.MmIn

open Idealize.ShloMosaic Idealize.SL.Sem

local notation "𝕀" => Idealize.ShloMosaic.Ideal

/-- The reference runs and leaves its arguments. -/
theorem frame_ref : Cert.quiescent_MmInRefIdeal := fun m ρ _ =>
  (θ_run Cert.MmInRefIdeal.defs _ _).mono (fun r h => ⟨fun c => (h c).2, sem_eq_zero_of_no_sems (by decide) r.2⟩)
    (Cert.MmInRefIdeal.Value.run (F := 𝕀) m ρ)

theorem algebraic : Cert.algebraic_MmInIdeal_MmInRefIdeal := by
  intro m ρ m' ρ' _ hag
  refine ⟨_, Cert.MmInIdeal.Value.run_blocks (F := 𝕀) m ρ, ?_⟩
  refine (θ_run Cert.MmInRefIdeal.defs _ _).mono (fun r h c => ?_) (Cert.MmInRefIdeal.Value.run (F := 𝕀) m' ρ')
  obtain ⟨a0, a1⟩ := hag c
  refine ⟨(h c).1.trans ?_, (h c).2⟩
  rw [Cert.MmInRefIdeal.Read.val_main_v2_eq, a0, a1]
  exact (Cert.MmInRefIdeal.Val.ref_eq _ _).trans (Cert.MmInIdeal.Val.arr m c).symm

end Cert.MmIn

end
-- ==== Proof.MmUpValue.lean ====
/-
  The product that widens: what the kernel leaves, the reference at one index, and that they agree.
-/
module

public import proofs.«01_k».proof.Defs
public import proofs.«01_k».proof.Proof.Mm
public import proofs.«01_k».proof.Proof.Gen.MmUpIdeal.Value
public import proofs.«01_k».proof.Proof.Gen.MmUpRefIdeal.Run
public import proofs.«01_k».proof.Proof.Gen.MmUpRefIdeal.Read

@[expose] public section

set_option maxRecDepth 16384

noncomputable section

namespace Cert.MmUpIdeal.Val

open Cert.MmUpIdeal Cert.MmUpIdeal.Gen Cert.Mm
open Idealize.ShloMosaic Idealize.ShloMosaic.TcCoe Idealize.SL.Sem

local notation "𝕀" => Idealize.ShloMosaic.Ideal

/-- The product. -/
def prod (x0 : Vec 𝕀 S8192x2048 .bf16) (w : Vec 𝕀 S2048x8192 .f32) : Vec 𝕀 S8192x8192 .bf16 :=
  fun y => ∑ k : Fin 2048, x0 (ix2 (y 0) k) * w (ix2 k (y 1))

theorem pay_apply (a : Vec 𝕀 S1024x2048 .bf16) (b : Vec 𝕀 S1x2048x1024 .bf16) (r : Fin 1024) (l : Fin 1024) :
    k0_pay1 a b (ix2 r l) = ∑ k : Fin 2048, a (ix2 r k) * b (ix3 (0 : Fin 1) k l) := by
  pointwise [k0_pay1]

theorem out_eq (a : Vec 𝕀 S1024x2048 .bf16) (b : Vec 𝕀 S1x2048x1024 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S2048x8192 .f32 := m ((c : Thread nD τ).loc main_arg1)

theorem idx (t : Fin grid0.N) : win0_0.index t = ![t.val / 8, 0] ∧ win0_1.index t = ![t.val % 8 / 2, 0, t.val % 8 % 2]
    ∧ win0_2.index t = ![t.val / 8, t.val % 8] :=
  (by decide +kernel : ∀ t : Fin grid0.N, win0_0.index t = ![t.val / 8, 0] ∧ win0_1.index t = ![t.val % 8 / 2, 0, t.val % 8 % 2]
    ∧ win0_2.index t = ![t.val / 8, t.val % 8]) t

theorem lt_N (t : Fin cfg0.N) : t.val < 64 := lt_of_lt_of_eq t.isLt N_0

/-- Row `r` of the row block of point `t`, and column `l` of its column block. -/
abbrev row (t : Fin cfg0.N) (r : Fin 1024) : Fin 8192 := ⟨1024 * (t.val / 8) + r.val, by have := lt_N t; omega⟩
abbrev col (t : Fin cfg0.N) (l : Fin 1024) : Fin 8192 := ⟨1024 * (t.val % 8) + l.val, by have := lt_N t; omega⟩

/-- The weight as the kernel finds it, in four slots of columns. -/
theorem slots : (V m c main_v2 : Vec 𝕀 S4x2048x2048 .bf16)
    = transpose S4x2048x2048 [1, 0, 2] (shapeCast S2048x4x2048 (truncf (F := 𝕀) .bf16 (X1 m c) bitsLt_bf16_f32)
        shapeCasts_S2048x8192_S2048x4x2048) transposes_S2048x4x2048_S4x2048x2048_1_0_2 := by
  show StableHlo.after hostOps0 _ _ = _
  after_results <;> rfl

theorem slots_apply (s : Fin 4) (r : Fin 2048) (k : Fin 2048) (j : Fin 8192) (hj : 2048 * s.val + k.val = j.val) :
    (V m c main_v2 : Vec 𝕀 S4x2048x2048 .bf16) (ix3 s r k) = X1 m c (ix2 r j) := by
  rw [slots]
  pointwise []
  exact read_col _ r (by show s.val * 2048 + k.val = j.val; omega)

theorem iblk0 (t : Fin cfg0.N) (r : Fin 1024) (k : Fin 2048) : iblk m c 0 t (ix2 r k) = X0 m c (ix2 (row t r) k) := by
  blk_ext [iblk, V_main_arg0, (idx t).1]

theorem iblk1 (t : Fin cfg0.N) (k : Fin 2048) (l : Fin 1024) : iblk m c 1 t (ix3 (0 : Fin 1) k l) = X1 m c (ix2 k (col t l)) := by
  refine Eq.trans ?_ (slots_apply m c ⟨t.val % 8 / 2, by omega⟩ k ⟨1024 * (t.val % 8 % 2) + l.val, by omega⟩ (col t l)
    (by show 2048 * (t.val % 8 / 2) + (1024 * (t.val % 8 % 2) + l.val) = 1024 * (t.val % 8) + l.val; omega))
  blk_ext [iblk, (idx t).2.1]

/-- Where block `t` of the result lies. -/
theorem place (t : Fin cfg0.N) (r : Fin 1024) (l : Fin 1024) :
    (win0_2.blk t).view.emb (ix2 r l) = (ix2 (row t r) (col t l) : S8192x8192.Idx) := by
  blk_ext [(idx t).2.2]

/-- The result after the run. -/
theorem arr : (dats m 0 c).arrAt 2 cfg0.N = prod (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (prod (X0 m c) (X1 m c)) (place t r l)).symm
  refine (pay_apply _ _ r l).trans ?_
  simp only [iblk0, iblk1]
  rfl

end Cert.MmUpIdeal.Val

namespace Cert.MmUpRefIdeal.Val

open Cert.MmUpRefIdeal Cert.MmUpRefIdeal.Read Cert.Mm Idealize.ShloMosaic

local notation "𝕀" => Idealize.ShloMosaic.Ideal

theorem ref_eq (x0 : Vec 𝕀 S8192x2048 .bf16) (w : Vec 𝕀 S2048x8192 .f32) :
    val_main_v2 (F := 𝕀) x0 w = Cert.MmUpIdeal.Val.prod x0 w := by
  funext y
  obtain ⟨r, l, rfl⟩ := split2 y
  pointwise [val_main_v2, val_main_v1, val_main_v0]
  rfl

end Cert.MmUpRefIdeal.Val

namespace Cert.MmUp

open Idealize.ShloMosaic Idealize.SL.Sem

local notation "𝕀" => Idealize.ShloMosaic.Ideal

/-- The reference runs and leaves its arguments. -/
theorem frame_ref : Cert.quiescent_MmUpRefIdeal := fun m ρ _ =>
  (θ_run Cert.MmUpRefIdeal.defs _ _).mono (fun r h => ⟨fun c => (h c).2, sem_eq_zero_of_no_sems (by decide) r.2⟩)
    (Cert.MmUpRefIdeal.Value.run (F := 𝕀) m ρ)

theorem algebraic : Cert.algebraic_MmUpIdeal_MmUpRefIdeal := by
  intro m ρ m' ρ' _ hag
  refine ⟨_, Cert.MmUpIdeal.Value.run_blocks (F := 𝕀) m ρ, ?_⟩
  refine (θ_run Cert.MmUpRefIdeal.defs _ _).mono (fun r h c => ?_) (Cert.MmUpRefIdeal.Value.run (F := 𝕀) m' ρ')
  obtain ⟨a0, a1⟩ := hag c
  refine ⟨(h c).1.trans ?_, (h c).2⟩
  rw [Cert.MmUpRefIdeal.Read.val_main_v2_eq, a0, a1]
  exact (Cert.MmUpRefIdeal.Val.ref_eq _ _).trans (Cert.MmUpIdeal.Val.arr m c).symm

end Cert.MmUp

end
-- ==== Proof.MmOutValue.lean ====
/-
  A branch's output product: what the kernel leaves, the reference at one index, and that they agree.
-/
module

public import proofs.«01_k».proof.Defs
public import proofs.«01_k».proof.Proof.Mm
public import proofs.«01_k».proof.Proof.Gen.MmOutIdeal.Value
public import proofs.«01_k».proof.Proof.Gen.MmOutRefIdeal.Run
public import proofs.«01_k».proof.Proof.Gen.MmOutRefIdeal.Read

@[expose] public section

set_option maxRecDepth 16384

noncomputable section

namespace Cert.MmOutIdeal.Val

open Cert.MmOutIdeal Cert.MmOutIdeal.Gen Cert.Mm
open Idealize.ShloMosaic Idealize.ShloMosaic.TcCoe Idealize.SL.Sem

local notation "𝕀" => Idealize.ShloMosaic.Ideal

/-- The product. -/
def prod (x0 : Vec 𝕀 S8192x1024 .bf16) (w : Vec 𝕀 S1024x2048 .f32) : Vec 𝕀 S8192x2048 .bf16 :=
  fun y => ∑ k : Fin 1024, x0 (ix2 (y 0) k) * w (ix2 k (y 1))

theorem pay_apply (a : Vec 𝕀 S1024x1024 .bf16) (b : Vec 𝕀 S1x1024x512 .bf16) (r : Fin 1024) (l : Fin 512) :
    k0_pay1 a b (ix2 r l) = ∑ k : Fin 1024, a (ix2 r k) * b (ix3 (0 : Fin 1) k l) := by
  pointwise [k0_pay1]

theorem out_eq (a : Vec 𝕀 S1024x1024 .bf16) (b : Vec 𝕀 S1x1024x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x1024 .bf16 := m ((c : Thread nD τ).loc main_arg0)
abbrev X1 : Vec 𝕀 S1024x2048 .f32 := m ((c : Thread nD τ).loc main_arg1)

theorem idx (t : Fin grid0.N) : win0_0.index t = ![t.val / 4, 0] ∧ win0_1.index t = ![t.val % 4 / 1, 0, t.val % 4 % 1]
    ∧ win0_2.index t = ![t.val / 4, t.val % 4] :=
  (by decide +kernel : ∀ t : Fin grid0.N, win0_0.index t = ![t.val / 4, 0] ∧ win0_1.index t = ![t.val % 4 / 1, 0, t.val % 4 % 1]
    ∧ win0_2.index t = ![t.val / 4, t.val % 4]) t

theorem lt_N (t : Fin cfg0.N) : t.val < 32 := lt_of_lt_of_eq t.isLt N_0

/-- Row `r` of the row block of point `t`, and column `l` of its column block. -/
abbrev row (t : Fin cfg0.N) (r : Fin 1024) : Fin 8192 := ⟨1024 * (t.val / 4) + r.val, by have := lt_N t; omega⟩
abbrev col (t : Fin cfg0.N) (l : Fin 512) : Fin 2048 := ⟨512 * (t.val % 4) + l.val, by have := lt_N t; omega⟩

/-- The weight as the kernel finds it, in four slots of columns. -/
theorem slots : (V m c main_v2 : Vec 𝕀 S4x1024x512 .bf16)
    = transpose S4x1024x512 [1, 0, 2] (shapeCast S1024x4x512 (truncf (F := 𝕀) .bf16 (X1 m c) bitsLt_bf16_f32)
        shapeCasts_S1024x2048_S1024x4x512) transposes_S1024x4x512_S4x1024x512_1_0_2 := by
  show StableHlo.after hostOps0 _ _ = _
  after_results <;> rfl

theorem slots_apply (s : Fin 4) (r : Fin 1024) (k : Fin 512) (j : Fin 2048) (hj : 512 * s.val + k.val = j.val) :
    (V m c main_v2 : Vec 𝕀 S4x1024x512 .bf16) (ix3 s r k) = X1 m c (ix2 r j) := by
  rw [slots]
  pointwise []
  exact read_col _ r (by show s.val * 512 + k.val = j.val; omega)

theorem iblk0 (t : Fin cfg0.N) (r : Fin 1024) (k : Fin 1024) : iblk m c 0 t (ix2 r k) = X0 m c (ix2 (row t r) k) := by
  blk_ext [iblk, V_main_arg0, (idx t).1]

theorem iblk1 (t : Fin cfg0.N) (k : Fin 1024) (l : Fin 512) : iblk m c 1 t (ix3 (0 : Fin 1) k l) = X1 m c (ix2 k (col t l)) := by
  refine Eq.trans ?_ (slots_apply m c ⟨t.val % 4 / 1, by omega⟩ k ⟨512 * (t.val % 4 % 1) + l.val, by omega⟩ (col t l)
    (by show 512 * (t.val % 4 / 1) + (512 * (t.val % 4 % 1) + l.val) = 512 * (t.val % 4) + l.val; omega))
  blk_ext [iblk, (idx t).2.1]

/-- Where block `t` of the result lies. -/
theorem place (t : Fin cfg0.N) (r : Fin 1024) (l : Fin 512) :
    (win0_2.blk t).view.emb (ix2 r l) = (ix2 (row t r) (col t l) : S8192x2048.Idx) := by
  blk_ext [(idx t).2.2]

/-- The result after the run. -/
theorem arr : (dats m 0 c).arrAt 2 cfg0.N = prod (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (prod (X0 m c) (X1 m c)) (place t r l)).symm
  refine (pay_apply _ _ r l).trans ?_
  simp only [iblk0, iblk1]
  rfl

end Cert.MmOutIdeal.Val

namespace Cert.MmOutRefIdeal.Val

open Cert.MmOutRefIdeal Cert.MmOutRefIdeal.Read Cert.Mm Idealize.ShloMosaic

local notation "𝕀" => Idealize.ShloMosaic.Ideal

theorem ref_eq (x0 : Vec 𝕀 S8192x1024 .bf16) (w : Vec 𝕀 S1024x2048 .f32) :
    val_main_v2 (F := 𝕀) x0 w = Cert.MmOutIdeal.Val.prod x0 w := by
  funext y
  obtain ⟨r, l, rfl⟩ := split2 y
  pointwise [val_main_v2, val_main_v1, val_main_v0]
  rfl

end Cert.MmOutRefIdeal.Val

namespace Cert.MmOut

open Idealize.ShloMosaic Idealize.SL.Sem

local notation "𝕀" => Idealize.ShloMosaic.Ideal

/-- The reference runs and leaves its arguments. -/
theorem frame_ref : Cert.quiescent_MmOutRefIdeal := fun m ρ _ =>
  (θ_run Cert.MmOutRefIdeal.defs _ _).mono (fun r h => ⟨fun c => (h c).2, sem_eq_zero_of_no_sems (by decide) r.2⟩)
    (Cert.MmOutRefIdeal.Value.run (F := 𝕀) m ρ)

theorem algebraic : Cert.algebraic_MmOutIdeal_MmOutRefIdeal := by
  intro m ρ m' ρ' _ hag
  refine ⟨_, Cert.MmOutIdeal.Value.run_blocks (F := 𝕀) m ρ, ?_⟩
  refine (θ_run Cert.MmOutRefIdeal.defs _ _).mono (fun r h c => ?_) (Cert.MmOutRefIdeal.Value.run (F := 𝕀) m' ρ')
  obtain ⟨a0, a1⟩ := hag c
  refine ⟨(h c).1.trans ?_, (h c).2⟩
  rw [Cert.MmOutRefIdeal.Read.val_main_v2_eq, a0, a1]
  exact (Cert.MmOutRefIdeal.Val.ref_eq _ _).trans (Cert.MmOutIdeal.Val.arr m c).symm

end Cert.MmOut

end
-- ==== Proof.MmOValue.lean ====
/-
  The product after the merge: what the kernel leaves, the reference at one index, and that they agree.
-/
module

public import proofs.«01_k».proof.Defs
public import proofs.«01_k».proof.Proof.Mm
public import proofs.«01_k».proof.Proof.Gen.MmOIdeal.Value
public import proofs.«01_k».proof.Proof.Gen.MmORefIdeal.Run
public import proofs.«01_k».proof.Proof.Gen.MmORefIdeal.Read

@[expose] public section

set_option maxRecDepth 16384

noncomputable section

namespace Cert.MmOIdeal.Val

open Cert.MmOIdeal Cert.MmOIdeal.Gen Cert.Mm
open Idealize.ShloMosaic Idealize.ShloMosaic.TcCoe Idealize.SL.Sem

local notation "𝕀" => Idealize.ShloMosaic.Ideal

/-- The product. -/
def prod (x0 : Vec 𝕀 S8192x2048 .bf16) (w : Vec 𝕀 S2048x2048 .f32) : Vec 𝕀 S8192x2048 .bf16 :=
  fun y => ∑ k : Fin 2048, x0 (ix2 (y 0) k) * w (ix2 k (y 1))

theorem pay_apply (a : Vec 𝕀 S1024x2048 .bf16) (b : Vec 𝕀 S1x2048x1024 .bf16) (r : Fin 1024) (l : Fin 1024) :
    k0_pay1 a b (ix2 r l) = ∑ k : Fin 2048, a (ix2 r k) * b (ix3 (0 : Fin 1) k l) := by
  pointwise [k0_pay1]

theorem out_eq (a : Vec 𝕀 S1024x2048 .bf16) (b : Vec 𝕀 S1x2048x1024 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S2048x2048 .f32 := m ((c : Thread nD τ).loc main_arg1)

theorem idx (t : Fin grid0.N) : win0_0.index t = ![t.val / 2, 0] ∧ win0_1.index t = ![0, 0, t.val % 2]
    ∧ win0_2.index t = ![t.val / 2, t.val % 2] :=
  (by decide +kernel : ∀ t : Fin grid0.N, win0_0.index t = ![t.val / 2, 0] ∧ win0_1.index t = ![0, 0, t.val % 2]
    ∧ win0_2.index t = ![t.val / 2, t.val % 2]) t

theorem lt_N (t : Fin cfg0.N) : t.val < 16 := lt_of_lt_of_eq t.isLt N_0

/-- Row `r` of the row block of point `t`, and column `l` of its column block. -/
abbrev row (t : Fin cfg0.N) (r : Fin 1024) : Fin 8192 := ⟨1024 * (t.val / 2) + r.val, by have := lt_N t; omega⟩
abbrev col (t : Fin cfg0.N) (l : Fin 1024) : Fin 2048 := ⟨1024 * (t.val % 2) + l.val, by have := lt_N t; omega⟩

/-- The weight as the kernel finds it, in its one slot. -/
theorem slots : (V m c main_v1 : Vec 𝕀 S1x2048x2048 .bf16)
    = shapeCast S1x2048x2048 (truncf (F := 𝕀) .bf16 (X1 m c) bitsLt_bf16_f32) shapeCasts_S2048x2048_S1x2048x2048 := by
  show StableHlo.after hostOps0 _ _ = _
  after_results <;> rfl

theorem slots_apply (r : Fin 2048) (k : Fin 2048) :
    (V m c main_v1 : Vec 𝕀 S1x2048x2048 .bf16) (ix3 (0 : Fin 1) r k) = X1 m c (ix2 r k) := by
  rw [slots]
  pointwise []

theorem iblk0 (t : Fin cfg0.N) (r : Fin 1024) (k : Fin 2048) : iblk m c 0 t (ix2 r k) = X0 m c (ix2 (row t r) k) := by
  blk_ext [iblk, V_main_arg0, (idx t).1]

theorem iblk1 (t : Fin cfg0.N) (k : Fin 2048) (l : Fin 1024) : iblk m c 1 t (ix3 (0 : Fin 1) k l) = X1 m c (ix2 k (col t l)) := by
  refine Eq.trans ?_ (slots_apply m c k (col t l))
  blk_ext [iblk, (idx t).2.1]

/-- Where block `t` of the result lies. -/
theorem place (t : Fin cfg0.N) (r : Fin 1024) (l : Fin 1024) :
    (win0_2.blk t).view.emb (ix2 r l) = (ix2 (row t r) (col t l) : S8192x2048.Idx) := by
  blk_ext [(idx t).2.2]

/-- The result after the run. -/
theorem arr : (dats m 0 c).arrAt 2 cfg0.N = prod (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (prod (X0 m c) (X1 m c)) (place t r l)).symm
  refine (pay_apply _ _ r l).trans ?_
  simp only [iblk0, iblk1]
  rfl

end Cert.MmOIdeal.Val

namespace Cert.MmORefIdeal.Val

open Cert.MmORefIdeal Cert.MmORefIdeal.Read Cert.Mm Idealize.ShloMosaic

local notation "𝕀" => Idealize.ShloMosaic.Ideal

theorem ref_eq (x0 : Vec 𝕀 S8192x2048 .bf16) (w : Vec 𝕀 S2048x2048 .f32) :
    val_main_v2 (F := 𝕀) x0 w = Cert.MmOIdeal.Val.prod x0 w := by
  funext y
  obtain ⟨r, l, rfl⟩ := split2 y
  pointwise [val_main_v2, val_main_v1, val_main_v0]
  rfl

end Cert.MmORefIdeal.Val

namespace Cert.MmO

open Idealize.ShloMosaic Idealize.SL.Sem

local notation "𝕀" => Idealize.ShloMosaic.Ideal

/-- The reference runs and leaves its arguments. -/
theorem frame_ref : Cert.quiescent_MmORefIdeal := fun m ρ _ =>
  (θ_run Cert.MmORefIdeal.defs _ _).mono (fun r h => ⟨fun c => (h c).2, sem_eq_zero_of_no_sems (by decide) r.2⟩)
    (Cert.MmORefIdeal.Value.run (F := 𝕀) m ρ)

theorem algebraic : Cert.algebraic_MmOIdeal_MmORefIdeal := by
  intro m ρ m' ρ' _ hag
  refine ⟨_, Cert.MmOIdeal.Value.run_blocks (F := 𝕀) m ρ, ?_⟩
  refine (θ_run Cert.MmORefIdeal.defs _ _).mono (fun r h c => ?_) (Cert.MmORefIdeal.Value.run (F := 𝕀) m' ρ')
  obtain ⟨a0, a1⟩ := hag c
  refine ⟨(h c).1.trans ?_, (h c).2⟩
  rw [Cert.MmORefIdeal.Read.val_main_v2_eq, a0, a1]
  exact (Cert.MmORefIdeal.Val.ref_eq _ _).trans (Cert.MmOIdeal.Val.arr m c).symm

end Cert.MmO

end
-- ==== Proof.MmKvValue.lean ====
/-
  The keys and values of the memory: what the kernel leaves, the reference at one index, and that they agree.
-/
module

public import proofs.«01_k».proof.Defs
public import proofs.«01_k».proof.Proof.Mm
public import proofs.«01_k».proof.Proof.Gen.MmKvIdeal.Value
public import proofs.«01_k».proof.Proof.Gen.MmKvRefIdeal.Run
public import proofs.«01_k».proof.Proof.Gen.MmKvRefIdeal.Read

@[expose] public section

set_option maxRecDepth 16384

noncomputable section

namespace Cert.MmKvIdeal.Val

open Cert.MmKvIdeal Cert.MmKvIdeal.Gen Cert.Mm
open Idealize.ShloMosaic Idealize.ShloMosaic.TcCoe Idealize.SL.Sem

local notation "𝕀" => Idealize.ShloMosaic.Ideal

/-- The product. -/
def prod (x0 : Vec 𝕀 S256x2048 .bf16) (w : Vec 𝕀 S2048x2048 .f32) : Vec 𝕀 S256x2048 .bf16 :=
  fun y => ∑ k : Fin 2048, x0 (ix2 (y 0) k) * w (ix2 k (y 1))

theorem pay_apply (a : Vec 𝕀 S256x2048 .bf16) (b : Vec 𝕀 S1x2048x1024 .bf16) (r : Fin 256) (l : Fin 1024) :
    k0_pay1 a b (ix2 r l) = ∑ k : Fin 2048, a (ix2 r k) * b (ix3 (0 : Fin 1) k l) := by
  pointwise [k0_pay1]

theorem out_eq (a : Vec 𝕀 S256x2048 .bf16) (b : Vec 𝕀 S1x2048x1024 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S256x2048 .bf16 := m ((c : Thread nD τ).loc main_arg0)
abbrev X1 : Vec 𝕀 S2048x2048 .f32 := m ((c : Thread nD τ).loc main_arg1)

theorem idx (t : Fin grid0.N) : win0_0.index t = ![t.val / 2, 0] ∧ win0_1.index t = ![0, 0, t.val % 2]
    ∧ win0_2.index t = ![t.val / 2, t.val % 2] :=
  (by decide +kernel : ∀ t : Fin grid0.N, win0_0.index t = ![t.val / 2, 0] ∧ win0_1.index t = ![0, 0, t.val % 2]
    ∧ win0_2.index t = ![t.val / 2, t.val % 2]) t

theorem lt_N (t : Fin cfg0.N) : t.val < 2 := lt_of_lt_of_eq t.isLt N_0

/-- Row `r` of the row block of point `t`, and column `l` of its column block. -/
abbrev row (t : Fin cfg0.N) (r : Fin 256) : Fin 256 := ⟨256 * (t.val / 2) + r.val, by have := lt_N t; omega⟩
abbrev col (t : Fin cfg0.N) (l : Fin 1024) : Fin 2048 := ⟨1024 * (t.val % 2) + l.val, by have := lt_N t; omega⟩

/-- The weight as the kernel finds it, in its one slot. -/
theorem slots : (V m c main_v1 : Vec 𝕀 S1x2048x2048 .bf16)
    = shapeCast S1x2048x2048 (truncf (F := 𝕀) .bf16 (X1 m c) bitsLt_bf16_f32) shapeCasts_S2048x2048_S1x2048x2048 := by
  show StableHlo.after hostOps0 _ _ = _
  after_results <;> rfl

theorem slots_apply (r : Fin 2048) (k : Fin 2048) :
    (V m c main_v1 : Vec 𝕀 S1x2048x2048 .bf16) (ix3 (0 : Fin 1) r k) = X1 m c (ix2 r k) := by
  rw [slots]
  pointwise []

theorem iblk0 (t : Fin cfg0.N) (r : Fin 256) (k : Fin 2048) : iblk m c 0 t (ix2 r k) = X0 m c (ix2 (row t r) k) := by
  blk_ext [iblk, V_main_arg0, (idx t).1]

theorem iblk1 (t : Fin cfg0.N) (k : Fin 2048) (l : Fin 1024) : iblk m c 1 t (ix3 (0 : Fin 1) k l) = X1 m c (ix2 k (col t l)) := by
  refine Eq.trans ?_ (slots_apply m c k (col t l))
  blk_ext [iblk, (idx t).2.1]

/-- Where block `t` of the result lies. -/
theorem place (t : Fin cfg0.N) (r : Fin 256) (l : Fin 1024) :
    (win0_2.blk t).view.emb (ix2 r l) = (ix2 (row t r) (col t l) : S256x2048.Idx) := by
  blk_ext [(idx t).2.2]

/-- The result after the run. -/
theorem arr : (dats m 0 c).arrAt 2 cfg0.N = prod (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (prod (X0 m c) (X1 m c)) (place t r l)).symm
  refine (pay_apply _ _ r l).trans ?_
  simp only [iblk0, iblk1]
  rfl

end Cert.MmKvIdeal.Val

namespace Cert.MmKvRefIdeal.Val

open Cert.MmKvRefIdeal Cert.MmKvRefIdeal.Read Cert.Mm Idealize.ShloMosaic

local notation "𝕀" => Idealize.ShloMosaic.Ideal

theorem ref_eq (x0 : Vec 𝕀 S256x2048 .bf16) (w : Vec 𝕀 S2048x2048 .f32) :
    val_main_v2 (F := 𝕀) x0 w = Cert.MmKvIdeal.Val.prod x0 w := by
  funext y
  obtain ⟨r, l, rfl⟩ := split2 y
  pointwise [val_main_v2, val_main_v1, val_main_v0]
  rfl

end Cert.MmKvRefIdeal.Val

namespace Cert.MmKv

open Idealize.ShloMosaic Idealize.SL.Sem

local notation "𝕀" => Idealize.ShloMosaic.Ideal

/-- The reference runs and leaves its arguments. -/
theorem frame_ref : Cert.quiescent_MmKvRefIdeal := fun m ρ _ =>
  (θ_run Cert.MmKvRefIdeal.defs _ _).mono (fun r h => ⟨fun c => (h c).2, sem_eq_zero_of_no_sems (by decide) r.2⟩)
    (Cert.MmKvRefIdeal.Value.run (F := 𝕀) m ρ)

theorem algebraic : Cert.algebraic_MmKvIdeal_MmKvRefIdeal := by
  intro m ρ m' ρ' _ hag
  refine ⟨_, Cert.MmKvIdeal.Value.run_blocks (F := 𝕀) m ρ, ?_⟩
  refine (θ_run Cert.MmKvRefIdeal.defs _ _).mono (fun r h c => ?_) (Cert.MmKvRefIdeal.Value.run (F := 𝕀) m' ρ')
  obtain ⟨a0, a1⟩ := hag c
  refine ⟨(h c).1.trans ?_, (h c).2⟩
  rw [Cert.MmKvRefIdeal.Read.val_main_v2_eq, a0, a1]
  exact (Cert.MmKvRefIdeal.Val.ref_eq _ _).trans (Cert.MmKvIdeal.Val.arr m c).symm

end Cert.MmKv

end
-- ==== Proof.MmDownValue.lean ====
/-
  The product that narrows, of the squared positive parts: what the kernel leaves, the reference at one index, and that they agree.
-/
module

public import proofs.«01_k».proof.Defs
public import proofs.«01_k».proof.Proof.Mm
public import proofs.«01_k».proof.Proof.Gen.MmDownIdeal.Value
public import proofs.«01_k».proof.Proof.Gen.MmDownRefIdeal.Run
public import proofs.«01_k».proof.Proof.Gen.MmDownRefIdeal.Read

@[expose] public section

set_option maxRecDepth 16384

noncomputable section

namespace Cert.MmDownIdeal.Val

open Cert.MmDownIdeal Cert.MmDownIdeal.Gen Cert.Mm
open Idealize.ShloMosaic Idealize.ShloMosaic.TcCoe Idealize.SL.Sem

local notation "𝕀" => Idealize.ShloMosaic.Ideal

/-- The product of the squared positive parts with the weight. -/
def prod (x0 : Vec 𝕀 S8192x8192 .bf16) (w : Vec 𝕀 S8192x2048 .f32) : Vec 𝕀 S8192x2048 .bf16 :=
  fun y => ∑ k : Fin 8192, (pos (x0 (ix2 (y 0) k)) * pos (x0 (ix2 (y 0) k))) * w (ix2 k (y 1))

theorem pay_apply (a : Vec 𝕀 S512x8192 .bf16) (b : Vec 𝕀 S1x8192x512 .bf16) (r : Fin 512) (l : Fin 512) :
    k0_pay1 a b (ix2 r l) = ∑ k : Fin 8192, (pos (a (ix2 r k)) * pos (a (ix2 r k))) * b (ix3 (0 : Fin 1) k l) := by
  pointwise [k0_pay1]
  simp only [pos, Ideal.ofBits_zero_bf16]

theorem out_eq (a : Vec 𝕀 S512x8192 .bf16) (b : Vec 𝕀 S1x8192x512 .bf16) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x8192 .bf16 := m ((c : Thread nD τ).loc main_arg0)
abbrev X1 : Vec 𝕀 S8192x2048 .f32 := m ((c : Thread nD τ).loc main_arg1)

theorem idx (t : Fin grid0.N) : win0_0.index t = ![t.val % 16, 0] ∧ win0_1.index t = ![0, 0, t.val / 16]
    ∧ win0_2.index t = ![t.val % 16, t.val / 16] :=
  (by decide +kernel : ∀ t : Fin grid0.N, win0_0.index t = ![t.val % 16, 0] ∧ win0_1.index t = ![0, 0, t.val / 16]
    ∧ win0_2.index t = ![t.val % 16, t.val / 16]) t

theorem lt_N (t : Fin cfg0.N) : t.val < 64 := lt_of_lt_of_eq t.isLt N_0

/-- Row `r` of the row block of point `t`, and column `l` of its column block. -/
abbrev row (t : Fin cfg0.N) (r : Fin 512) : Fin 8192 := ⟨512 * (t.val % 16) + r.val, by have := lt_N t; omega⟩
abbrev col (t : Fin cfg0.N) (l : Fin 512) : Fin 2048 := ⟨512 * (t.val / 16) + l.val, by have := lt_N t; omega⟩

/-- The weight as the kernel finds it, in its one slot. -/
theorem slots : (V m c main_v1 : Vec 𝕀 S1x8192x2048 .bf16)
    = shapeCast S1x8192x2048 (truncf (F := 𝕀) .bf16 (X1 m c) bitsLt_bf16_f32) shapeCasts_S8192x2048_S1x8192x2048 := by
  show StableHlo.after hostOps0 _ _ = _
  after_results <;> rfl

theorem slots_apply (r : Fin 8192) (k : Fin 2048) :
    (V m c main_v1 : Vec 𝕀 S1x8192x2048 .bf16) (ix3 (0 : Fin 1) r k) = X1 m c (ix2 r k) := by
  rw [slots]
  pointwise []

theorem iblk0 (t : Fin cfg0.N) (r : Fin 512) (k : Fin 8192) : iblk m c 0 t (ix2 r k) = X0 m c (ix2 (row t r) k) := by
  blk_ext [iblk, V_main_arg0, (idx t).1]

theorem iblk1 (t : Fin cfg0.N) (k : Fin 8192) (l : Fin 512) : iblk m c 1 t (ix3 (0 : Fin 1) k l) = X1 m c (ix2 k (col t l)) := by
  refine Eq.trans ?_ (slots_apply m c k (col t l))
  blk_ext [iblk, (idx t).2.1]

/-- Where block `t` of the result lies. -/
theorem place (t : Fin cfg0.N) (r : Fin 512) (l : Fin 512) :
    (win0_2.blk t).view.emb (ix2 r l) = (ix2 (row t r) (col t l) : S8192x2048.Idx) := by
  blk_ext [(idx t).2.2]

/-- The result after the run. -/
theorem arr : (dats m 0 c).arrAt 2 cfg0.N = prod (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (prod (X0 m c) (X1 m c)) (place t r l)).symm
  refine (pay_apply _ _ r l).trans ?_
  simp only [iblk0, iblk1]
  rfl

end Cert.MmDownIdeal.Val

namespace Cert.MmDownRefIdeal.Val

open Cert.MmDownRefIdeal Cert.MmDownRefIdeal.Read Cert.Mm Idealize.ShloMosaic

local notation "𝕀" => Idealize.ShloMosaic.Ideal

theorem ref_eq (x0 : Vec 𝕀 S8192x8192 .bf16) (w : Vec 𝕀 S8192x2048 .f32) :
    val_main_v4 (F := 𝕀) x0 w = Cert.MmDownIdeal.Val.prod x0 w := by
  funext y
  obtain ⟨r, l, rfl⟩ := split2 y
  pointwise [val_main_v4, val_main_v3, val_main_v2, val_main_v1, val_main_v0, val_main_call0_v0, val_main_call0_cst]
  rfl

end Cert.MmDownRefIdeal.Val

namespace Cert.MmDown

open Idealize.ShloMosaic Idealize.SL.Sem

local notation "𝕀" => Idealize.ShloMosaic.Ideal

/-- The reference runs and leaves its arguments. -/
theorem frame_ref : Cert.quiescent_MmDownRefIdeal := fun m ρ _ =>
  (θ_run Cert.MmDownRefIdeal.defs _ _).mono (fun r h => ⟨fun c => (h c).2, sem_eq_zero_of_no_sems (by decide) r.2⟩)
    (Cert.MmDownRefIdeal.Value.run (F := 𝕀) m ρ)

theorem algebraic : Cert.algebraic_MmDownIdeal_MmDownRefIdeal := by
  intro m ρ m' ρ' _ hag
  refine ⟨_, Cert.MmDownIdeal.Value.run_blocks (F := 𝕀) m ρ, ?_⟩
  refine (θ_run Cert.MmDownRefIdeal.defs _ _).mono (fun r h c => ?_) (Cert.MmDownRefIdeal.Value.run (F := 𝕀) m' ρ')
  obtain ⟨a0, a1⟩ := hag c
  refine ⟨(h c).1.trans ?_, (h c).2⟩
  rw [Cert.MmDownRefIdeal.Read.val_main_v4_eq, a0, a1]
  exact (Cert.MmDownRefIdeal.Val.ref_eq _ _).trans (Cert.MmDownIdeal.Val.arr m c).symm

end Cert.MmDown

end
-- ==== Proof.Gate.lean ====
/-
  The gates of the merge: the logistic function, the columns at which the gates lie, and its derivative's form.
-/
module

public import proofs.«01_k».proof.Defs
public import proofs.«01_k».proof.Proof.AttnBlock

@[expose] public section

noncomputable section

namespace Cert.Gate

open Idealize.ShloMosaic

/-- The logistic function. -/
def gate (x : EReal) : EReal := Ideal.div 1 (1 + Ideal.exp (-x))

/-- Column `l` of gate `b` among the gates, and in the whole projection. -/
abbrev bcol (b : Fin 3) (l : Fin 2048) : Fin 6144 := ⟨2048 * b.val + l.val, by omega⟩
abbrev gcol (b : Fin 3) (l : Fin 2048) : Fin 12288 := ⟨6144 + (2048 * b.val + l.val), by omega⟩

end Cert.Gate

end
-- ==== Proof.MergeBwdValue.lean ====
/-
  The merge's backward call: what the kernel leaves, the reference at one index, and that they agree.
-/
module

public import proofs.«01_k».proof.Defs
public import proofs.«01_k».proof.Proof.Mm
public import proofs.«01_k».proof.Proof.Gate
public import proofs.«01_k».proof.Proof.Gen.MergeBwdIdeal.Frame
public import proofs.«01_k».proof.Proof.Gen.MergeBwdRefIdeal.Run
public import proofs.«01_k».proof.Proof.Gen.MergeBwdRefIdeal.Read

@[expose] public section

set_option maxRecDepth 16384

noncomputable section

namespace Cert.MergeBwdIdeal.Val

open Cert.MergeBwdIdeal Cert.MergeBwdIdeal.Gen Cert.Mm Cert.Gate
open Cert.AttnBwdIdeal.Val (ld_cols)
open Idealize.ShloMosaic Idealize.ShloMosaic.TcCoe Idealize.SL.Sem

local notation "𝕀" => Idealize.ShloMosaic.Ideal

/-- One entry of the gates' gradient. -/
def dgate (d y p : EReal) : EReal := d * y * gate p * (1 - gate p)

/-- A branch's gradient: its gate times the merge's. -/
def dbranch (b : Fin 3) (d : Vec 𝕀 S8192x2048 .bf16) (p : Vec 𝕀 S8192x12288 .bf16) : Vec 𝕀 S8192x2048 .bf16 :=
  fun y => d y * gate (p (ix2 (y 0) (gcol b (y 1))))

/-- The branch and the column in it of a column of the gates. -/
abbrev bof (q : Fin 6144) : Fin 3 := ⟨q.val / 2048, by omega⟩
abbrev lof (q : Fin 6144) : Fin 2048 := ⟨q.val % 2048, by omega⟩

theorem bof_bcol (b : Fin 3) (l : Fin 2048) : bof (bcol b l) = b := Fin.ext (by show (2048 * b.val + l.val) / 2048 = b.val; omega)
theorem lof_bcol (b : Fin 3) (l : Fin 2048) : lof (bcol b l) = l := Fin.ext (by show (2048 * b.val + l.val) % 2048 = l.val; omega)

/-- One of three branches. -/
def pick {α : Type} (a b x : α) : Fin 3 → α
  | ⟨0, _⟩ => a
  | ⟨1, _⟩ => b
  | ⟨2, _⟩ => x

/-- The gates' gradient. -/
def dgates (d : Vec 𝕀 S8192x2048 .bf16) (p : Vec 𝕀 S8192x12288 .bf16) (a b x : Vec 𝕀 S8192x2048 .bf16) : Vec 𝕀 S8192x6144 .bf16 :=
  fun y => dgate (d (ix2 (y 0) (lof (y 1)))) (pick a b x (bof (y 1)) (ix2 (y 0) (lof (y 1)))) (p (ix2 (y 0) (gcol (bof (y 1)) (lof (y 1)))))

theorem dgates_apply (d : Vec 𝕀 S8192x2048 .bf16) (p : Vec 𝕀 S8192x12288 .bf16) (a b x : Vec 𝕀 S8192x2048 .bf16)
    (i : Fin 8192) (k : Fin 3) (l : Fin 2048) :
    dgates d p a b x (ix2 i (bcol k l)) = dgate (d (ix2 i l)) (pick a b x k (ix2 i l)) (p (ix2 i (gcol k l))) := by
  show dgate (d (ix2 i (lof (bcol k l)))) (pick a b x (bof (bcol k l)) (ix2 i (lof (bcol k l)))) (p (ix2 i (gcol (bof (bcol k l)) (lof (bcol k l))))) = _
  rw [bof_bcol, lof_bcol]

theorem pay2_apply (d k : Vec 𝕀 S256x2048 .bf16) (r : Fin 256) (l : Fin 2048) :
    k0_pay2 (k0_pay6 d) (k0_pay10 k) (ix2 r l) = d (ix2 r l) * gate (k (ix2 r l)) := by
  pointwise [k0_pay2, k0_pay6, k0_pay10]
  simp only [Ideal.ofBits_zero_f32, Ideal.ofBits_one_f32, zero_sub]
  rfl

theorem pay5_apply (d k : Vec 𝕀 S256x2048 .bf16) (r : Fin 256) (l : Fin 2048) :
    k0_pay5 (k0_pay6 d) k (ix2 r l) = d (ix2 r l) * gate (k (ix2 r l)) := by
  pointwise [k0_pay5, k0_pay6, k0_pay3]
  simp only [Ideal.ofBits_zero_f32, Ideal.ofBits_one_f32, zero_sub]
  rfl

theorem pay9_apply (d k : Vec 𝕀 S256x2048 .bf16) (r : Fin 256) (l : Fin 2048) :
    k0_pay9 d k (ix2 r l) = d (ix2 r l) * gate (k (ix2 r l)) := by
  pointwise [k0_pay9, k0_pay6, k0_pay7]
  simp only [Ideal.ofBits_zero_f32, Ideal.ofBits_one_f32, zero_sub]
  rfl

theorem pay8_apply (d k y : Vec 𝕀 S256x2048 .bf16) (r : Fin 256) (l : Fin 2048) :
    k0_pay8 d k y (ix2 r l) = dgate (d (ix2 r l)) (y (ix2 r l)) (k (ix2 r l)) := by
  pointwise [k0_pay8, k0_pay6, k0_pay7]
  simp only [Ideal.ofBits_zero_f32, Ideal.ofBits_one_f32, zero_sub]
  rfl

theorem pay1_apply (d k y : Vec 𝕀 S256x2048 .bf16) (r : Fin 256) (l : Fin 2048) :
    k0_pay1 (k0_pay10 k) (k0_pay11 d k y) (ix2 r l) = dgate (d (ix2 r l)) (y (ix2 r l)) (k (ix2 r l)) := by
  pointwise [k0_pay1, k0_pay6, k0_pay10, k0_pay11]
  simp only [Ideal.ofBits_zero_f32, Ideal.ofBits_one_f32, zero_sub]
  rfl

theorem pay4_apply (d k y : Vec 𝕀 S256x2048 .bf16) (r : Fin 256) (l : Fin 2048) :
    k0_pay4 (k0_pay6 d) k y (ix2 r l) = dgate (d (ix2 r l)) (y (ix2 r l)) (k (ix2 r l)) := by
  pointwise [k0_pay4, k0_pay6, k0_pay3]
  simp only [Ideal.ofBits_zero_f32, Ideal.ofBits_one_f32, zero_sub]
  rfl

section Block

variable (d : Vec 𝕀 S256x2048 .bf16) (g : Vec 𝕀 S256x6144 .bf16) (a b x : Vec 𝕀 S256x2048 .bf16)

/-- The gates' gradient in one block. -/
def gatesBlk : Vec 𝕀 S256x6144 .bf16 :=
  fun y => dgate (d (ix2 (y 0) (lof (y 1)))) (pick a b x (bof (y 1)) (ix2 (y 0) (lof (y 1)))) (g (ix2 (y 0) (bcol (bof (y 1)) (lof (y 1)))))

theorem gatesBlk_apply (r : Fin 256) (k : Fin 3) (l : Fin 2048) :
    gatesBlk d g a b x (ix2 r (bcol k l)) = dgate (d (ix2 r l)) (pick a b x k (ix2 r l)) (g (ix2 r (bcol k l))) := by
  show dgate (d (ix2 r (lof (bcol k l)))) (pick a b x (bof (bcol k l)) (ix2 r (lof (bcol k l)))) (g (ix2 r (bcol (bof (bcol k l)) (lof (bcol k l))))) = _
  rw [bof_bcol, lof_bcol]

theorem ld_whole (y : Vec 𝕀 S256x2048 .bf16) : View.ld y r0_0 = y := by
  frame_out

theorem out5_eq : out0_5 d g a b x = gatesBlk d g a b x := by
  rw [out0_5, k0_pay12, k0_pay13]
  simp only [ld_whole]
  refine funext fun y => View.canon_apply_of_pieces _ _ (View.PiecesOf.mem (show View.PiecesOf (gatesBlk d g a b x) [_, _, _] from ⟨fun z => ?_, fun z => ?_, fun z => ?_, trivial⟩)) y (cover0_5 _ _ _ y)
  · obtain ⟨r, l, rfl⟩ := split2 (n := 256) (k := 2048) z
    refine (pay4_apply _ _ _ r l).trans (Eq.trans ?_ (congrArg (gatesBlk d g a b x) (show r0_3.emb (ix2 r l) = (ix2 r (bcol 2 l) : S256x6144.Idx) from funext fun q => by
      match q with
      | ⟨0, _⟩ => exact Fin.ext (by show 0 + 1 * r.val = r.val; omega)
      | ⟨1, _⟩ => exact Fin.ext (by show 4096 + 1 * l.val = 2048 * 2 + l.val; omega))).symm)
    rw [gatesBlk_apply, ld_cols g 4096 _ r l (bcol 2 l) rfl]
    rfl
  · obtain ⟨r, l, rfl⟩ := split2 (n := 256) (k := 2048) z
    refine (pay1_apply _ _ _ r l).trans (Eq.trans ?_ (congrArg (gatesBlk d g a b x) (show r0_2.emb (ix2 r l) = (ix2 r (bcol 1 l) : S256x6144.Idx) from funext fun q => by
      match q with
      | ⟨0, _⟩ => exact Fin.ext (by show 0 + 1 * r.val = r.val; omega)
      | ⟨1, _⟩ => exact Fin.ext (by show 2048 + 1 * l.val = 2048 * 1 + l.val; omega))).symm)
    rw [gatesBlk_apply, ld_cols g 2048 _ r l (bcol 1 l) rfl]
    rfl
  · obtain ⟨r, l, rfl⟩ := split2 (n := 256) (k := 2048) z
    refine (pay8_apply _ _ _ r l).trans (Eq.trans ?_ (congrArg (gatesBlk d g a b x) (show r0_1.emb (ix2 r l) = (ix2 r (bcol 0 l) : S256x6144.Idx) from funext fun q => by
      match q with
      | ⟨0, _⟩ => exact Fin.ext (by show 0 + 1 * r.val = r.val; omega)
      | ⟨1, _⟩ => exact Fin.ext (by show 0 + 1 * l.val = 2048 * 0 + l.val; omega))).symm)
    rw [gatesBlk_apply, ld_cols g 0 _ r l (bcol 0 l) rfl]
    rfl

theorem out6_apply (r : Fin 256) (l : Fin 2048) : out0_6 d g a b x (ix2 r l) = d (ix2 r l) * gate (g (ix2 r (bcol 0 l))) := by
  rw [out0_6]
  frame_out
  refine (pay9_apply _ _ r l).trans ?_
  rw [ld_cols g 0 _ r l (bcol 0 l) rfl]

theorem out7_apply (r : Fin 256) (l : Fin 2048) : out0_7 d g a b x (ix2 r l) = d (ix2 r l) * gate (g (ix2 r (bcol 1 l))) := by
  rw [out0_7, k0_pay12, k0_pay13]
  frame_out
  refine (pay2_apply _ _ r l).trans ?_
  rw [ld_cols g 2048 _ r l (bcol 1 l) rfl]

theorem out8_apply (r : Fin 256) (l : Fin 2048) : out0_8 d g a b x (ix2 r l) = d (ix2 r l) * gate (g (ix2 r (bcol 2 l))) := by
  rw [out0_8, k0_pay12]
  frame_out
  refine (pay5_apply _ _ r l).trans ?_
  rw [ld_cols g 4096 _ r l (bcol 2 l) rfl]

end Block

variable (m : (ℓ : Loc nD τ sig) → Buf (Elt 𝕀) ℓ) (c : Dev nD)

/-- The arguments on device `c`. -/
abbrev X0 : Vec 𝕀 S8192x2048 .bf16 := m ((c : Thread nD τ).loc main_arg0)
abbrev X1 : Vec 𝕀 S8192x12288 .bf16 := m ((c : Thread nD τ).loc main_arg1)
abbrev X2 : Vec 𝕀 S8192x2048 .bf16 := m ((c : Thread nD τ).loc main_arg2)
abbrev X3 : Vec 𝕀 S8192x2048 .bf16 := m ((c : Thread nD τ).loc main_arg3)
abbrev X4 : Vec 𝕀 S8192x2048 .bf16 := m ((c : Thread nD τ).loc main_arg4)

theorem idx0 (t : Fin grid0.N) : win0_0.index t = ![t.val, 0] := (by decide +kernel : ∀ t : Fin grid0.N, win0_0.index t = ![t.val, 0]) t
theorem idx1 (t : Fin grid0.N) : win0_1.index t = ![t.val, 1] := (by decide +kernel : ∀ t : Fin grid0.N, win0_1.index t = ![t.val, 1]) t
theorem idx2 (t : Fin grid0.N) : win0_2.index t = ![t.val, 0] := (by decide +kernel : ∀ t : Fin grid0.N, win0_2.index t = ![t.val, 0]) t
theorem idx3 (t : Fin grid0.N) : win0_3.index t = ![t.val, 0] := (by decide +kernel : ∀ t : Fin grid0.N, win0_3.index t = ![t.val, 0]) t
theorem idx4 (t : Fin grid0.N) : win0_4.index t = ![t.val, 0] := (by decide +kernel : ∀ t : Fin grid0.N, win0_4.index t = ![t.val, 0]) t
theorem idx5 (t : Fin grid0.N) : win0_5.index t = ![t.val, 1] := (by decide +kernel : ∀ t : Fin grid0.N, win0_5.index t = ![t.val, 1]) t
theorem idx6 (t : Fin grid0.N) : win0_6.index t = ![t.val, 0] := (by decide +kernel : ∀ t : Fin grid0.N, win0_6.index t = ![t.val, 0]) t
theorem idx7 (t : Fin grid0.N) : win0_7.index t = ![t.val, 0] := (by decide +kernel : ∀ t : Fin grid0.N, win0_7.index t = ![t.val, 0]) t
theorem idx8 (t : Fin grid0.N) : win0_8.index t = ![t.val, 0] := (by decide +kernel : ∀ t : Fin grid0.N, win0_8.index t = ![t.val, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk1 (t : Fin cfg0.N) (r : Fin 256) (b : Fin 3) (l : Fin 2048) :
    iblk m c 1 t (ix2 r (bcol b l)) = X1 m c (ix2 (row t r) (gcol b l)) := by
  blk_ext [iblk, V_main_arg1, idx1]

theorem iblk0 (t : Fin cfg0.N) (r : Fin 256) (k : Fin 2048) : iblk m c 0 t (ix2 r k) = X0 m c (ix2 (row t r) k) := by
  blk_ext [iblk, V_main_arg0, idx0]

theorem iblk2 (t : Fin cfg0.N) (r : Fin 256) (k : Fin 2048) : iblk m c 2 t (ix2 r k) = X2 m c (ix2 (row t r) k) := by
  blk_ext [iblk, V_main_arg2, idx2]

theorem iblk3 (t : Fin cfg0.N) (r : Fin 256) (k : Fin 2048) : iblk m c 3 t (ix2 r k) = X3 m c (ix2 (row t r) k) := by
  blk_ext [iblk, V_main_arg3, idx3]

theorem iblk4 (t : Fin cfg0.N) (r : Fin 256) (k : Fin 2048) : iblk m c 4 t (ix2 r k) = X4 m c (ix2 (row t r) k) := by
  blk_ext [iblk, V_main_arg4, idx4]

/-- Where block `t` of result 6 lies. -/
theorem place6 (t : Fin cfg0.N) (r : Fin 256) (l : Fin 2048) :
    (win0_6.blk t).view.emb (ix2 r l) = (ix2 (row t r) l : S8192x2048.Idx) := by
  blk_ext [idx6]

/-- Where block `t` of result 7 lies. -/
theorem place7 (t : Fin cfg0.N) (r : Fin 256) (l : Fin 2048) :
    (win0_7.blk t).view.emb (ix2 r l) = (ix2 (row t r) l : S8192x2048.Idx) := by
  blk_ext [idx7]

/-- Where block `t` of result 8 lies. -/
theorem place8 (t : Fin cfg0.N) (r : Fin 256) (l : Fin 2048) :
    (win0_8.blk t).view.emb (ix2 r l) = (ix2 (row t r) l : S8192x2048.Idx) := by
  blk_ext [idx8]

/-- Result 6 after the run. -/
theorem arr6 : (dats m 0 c).arrAt 6 cfg0.N = dbranch 0 (X0 m c) (X1 m c) := by
  refine (dats m 0 c).arrAt_eq_of_covers 6 _ (by decide +kernel) fun t hf y => ?_
  blk_simp
  rw [after0_6]
  obtain ⟨r, l, rfl⟩ := split2 y
  refine Eq.trans ?_ (congrArg (dbranch 0 (X0 m c) (X1 m c)) (place6 t r l)).symm
  refine (out6_apply _ _ _ _ _ r l).trans ?_
  rw [iblk0, iblk1]
  rfl

/-- Result 7 after the run. -/
theorem arr7 : (dats m 0 c).arrAt 7 cfg0.N = dbranch 1 (X0 m c) (X1 m c) := by
  refine (dats m 0 c).arrAt_eq_of_covers 7 _ (by decide +kernel) fun t hf y => ?_
  blk_simp
  rw [after0_7]
  obtain ⟨r, l, rfl⟩ := split2 y
  refine Eq.trans ?_ (congrArg (dbranch 1 (X0 m c) (X1 m c)) (place7 t r l)).symm
  refine (out7_apply _ _ _ _ _ r l).trans ?_
  rw [iblk0, iblk1]
  rfl

/-- Result 8 after the run. -/
theorem arr8 : (dats m 0 c).arrAt 8 cfg0.N = dbranch 2 (X0 m c) (X1 m c) := by
  refine (dats m 0 c).arrAt_eq_of_covers 8 _ (by decide +kernel) fun t hf y => ?_
  blk_simp
  rw [after0_8]
  obtain ⟨r, l, rfl⟩ := split2 y
  refine Eq.trans ?_ (congrArg (dbranch 2 (X0 m c) (X1 m c)) (place8 t r l)).symm
  refine (out8_apply _ _ _ _ _ r l).trans ?_
  rw [iblk0, iblk1]
  rfl

/-- Where block `t` of result 5 lies. -/
theorem place5 (t : Fin cfg0.N) (r : Fin 256) (l : Fin 6144) :
    (win0_5.blk t).view.emb (ix2 r l) = (ix2 (row t r) ⟨6144 + l.val, by omega⟩ : S8192x12288.Idx) := by
  blk_ext [idx5]

/-- The gates' gradient at the gates' columns of the projection. -/
def wide (y : S8192x12288.Idx) : EReal :=
  dgates (X0 m c) (X1 m c) (X2 m c) (X3 m c) (X4 m c) (ix2 (y 0) (⟨(y 1).val - 6144, by have : (y 1).val < 12288 := (y 1).isLt; omega⟩ : Fin 6144))

/-- Result 5 after the run: the gates' gradient in the second half of the columns. -/
theorem arr5 (i : Fin 8192) (q : Fin 6144) : (dats m 0 c).arrAt 5 cfg0.N (ix2 i (⟨6144 + q.val, by omega⟩ : Fin 12288)) = dgates (X0 m c) (X1 m c) (X2 m c) (X3 m c) (X4 m c) (ix2 i q) := by
  have e : (dats m 0 c).arrAt 5 cfg0.N = fun y : S8192x12288.Idx => if 1 ≤ (y 1).val / 6144 then wide m c y else V m c main_v0_0 y := by
    refine (dats m 0 c).arrAt_eq_of_coversWhere 5 _ (fun β => 1 ≤ β (1 : Fin _)) (by decide +kernel) (fun t hf y => ?_) (fun j => Iff.rfl)
    blk_simp
    rw [after0_5, out5_eq]
    obtain ⟨r, l, rfl⟩ := split2 y
    refine Eq.trans ?_ (congrArg (wide m c) (place5 t r l)).symm
    obtain ⟨b, k, rfl⟩ : ∃ (b : Fin 3) (k : Fin 2048), l = bcol b k :=
      ⟨bof l, lof l, Fin.ext (by show l.val = 2048 * (l.val / 2048) + l.val % 2048; omega)⟩
    refine (gatesBlk_apply _ _ _ _ _ r b k).trans ?_
    rw [iblk0, iblk1]
    refine Eq.trans ?_ (Eq.trans (dgates_apply (X0 m c) (X1 m c) (X2 m c) (X3 m c) (X4 m c) (row t r) b k).symm
      (congrArg (fun l' => dgates (X0 m c) (X1 m c) (X2 m c) (X3 m c) (X4 m c) (ix2 (row t r) l')) (Fin.ext (by show 2048 * b.val + k.val = 6144 + (2048 * b.val + k.val) - 6144; omega))))
    match b with
    | ⟨0, _⟩ => exact congrArg (fun z => dgate _ z _) (iblk2 m c t r k)
    | ⟨1, _⟩ => exact congrArg (fun z => dgate _ z _) (iblk3 m c t r k)
    | ⟨2, _⟩ => exact congrArg (fun z => dgate _ z _) (iblk4 m c t r k)
  rw [e]
  refine (if_pos (show 1 ≤ (6144 + q.val) / 6144 by omega)).trans ?_
  exact congrArg (fun l' => dgates (X0 m c) (X1 m c) (X2 m c) (X3 m c) (X4 m c) (ix2 i l')) (Fin.ext (by show 6144 + q.val - 6144 = q.val; omega))

/-- The first result: the columns of the gates, sliced after the kernel. -/
theorem tail (r : PUnit × MemSt nD τ sig (Elt 𝕀)) (h : Pipeline.FramePost cfgs (dats m) 0 (Pipeline.afterTail₀ cfgs (dats m) 0 (V0 m) [hostOps1]) r) :
    r.2.mem ((c : Thread nD τ).loc main_v1) = dgates (X0 m c) (X1 m c) (X2 m c) (X3 m c) (X4 m c) := by
  refine ((h c).2 main_v1 (Pipeline.mem_restRefs_of main_v1 (by decide) (by decide))).trans ?_
  have e : Pipeline.withArrays (cfgs 0).spec c (V0 m c) (fun w => (dats m 0 c).arrAt w (cfgs 0).N) (Proc.devRef .tc main_v0_0)
      = (dats m 0 c).arrAt 5 cfg0.N := Pipeline.withArrays_arr spec0 launch0.win.arr_inj c _ _ 5
  unfold Pipeline.afterTail₀
  simp only [List.flatten_cons, List.flatten_nil, List.append_nil]
  after_results
  rw [e]
  funext y
  obtain ⟨i, q, rfl⟩ := split2 y
  refine Eq.trans ?_ (arr5 m c i q)
  pointwise []

theorem run (ρ : Dev nD → PrngReg) : θ_run defs (onTc (τ := τ) (main (F := 𝕀))) ⟨m, fun _ => 0, ρ⟩ fun r => ∀ c : Dev nD,
      r.2.mem ((c : Thread nD τ).loc main_v1) = dgates (X0 m c) (X1 m c) (X2 m c) (X3 m c) (X4 m c)
      ∧ r.2.mem ((c : Thread nD τ).loc main_v0_1) = dbranch 0 (X0 m c) (X1 m c)
      ∧ r.2.mem ((c : Thread nD τ).loc main_v0_2) = dbranch 1 (X0 m c) (X1 m c)
      ∧ r.2.mem ((c : Thread nD τ).loc main_v0_3) = dbranch 2 (X0 m c) (X1 m c)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c
      ∧ r.2.mem ((c : Thread nD τ).loc main_arg4) = X4 m c :=
  (θ_run defs _ _).mono (fun r h c => ⟨tail m c r h.1, ((h.1 c).1 6).trans (arr6 m c), ((h.1 c).1 7).trans (arr7 m c),
    ((h.1 c).1 8).trans (arr8 m c), h.2 c⟩) (θ_run_and (run_main m ρ) (unchanged m ρ))

end Cert.MergeBwdIdeal.Val

namespace Cert.MergeBwdRefIdeal.Val

open Cert.MergeBwdRefIdeal Cert.MergeBwdRefIdeal.Read Cert.Mm Cert.Gate Cert.MergeBwdIdeal.Val Idealize.ShloMosaic

local notation "𝕀" => Idealize.ShloMosaic.Ideal

variable (d : Vec 𝕀 S8192x2048 .bf16) (p : Vec 𝕀 S8192x12288 .bf16) (a b x : Vec 𝕀 S8192x2048 .bf16)

theorem ref0 : val_main_v44 (F := 𝕀) d p = dbranch 0 d p := by
  funext y
  obtain ⟨r, l, rfl⟩ := split2 y
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rw [show (⟨6144 + l.val, by omega⟩ : Fin 12288) = gcol 0 l from Fin.ext (by show 6144 + l.val = 6144 + (2048 * 0 + l.val); omega)]
  exact mul_comm _ _

theorem ref1 : val_main_v45 (F := 𝕀) d p = dbranch 1 d p := by
  funext y
  obtain ⟨r, l, rfl⟩ := split2 y
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  exact mul_comm _ _

theorem ref2 : val_main_v46 (F := 𝕀) d p = dbranch 2 d p := by
  funext y
  obtain ⟨r, l, rfl⟩ := split2 y
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  exact mul_comm _ _

/-- Of the three padded pieces one is not zero. -/
theorem sum_pick (q : Fin 6144) (f : Fin 3 → Fin 2048 → EReal) :
    ((if h : (2 ≤ q.val / 2048 ∧ q.val / 2048 - 2 < 1) ∧ q.val % 2048 < 2048 then f 2 ⟨q.val % 2048, h.2⟩ else 0)
      + (if h : (1 ≤ q.val / 2048 ∧ q.val / 2048 - 1 < 1) ∧ q.val % 2048 < 2048 then f 1 ⟨q.val % 2048, h.2⟩ else 0))
      + (if h : q.val / 2048 < 1 ∧ q.val % 2048 < 2048 then f 0 ⟨q.val % 2048, h.2⟩ else 0) = f (bof q) (lof q) := by
  have hl : q.val / 2048 = 0 ∨ q.val / 2048 = 1 ∨ q.val / 2048 = 2 := by omega
  rcases hl with h | h | h
  · rw [dif_neg (by omega), dif_neg (by omega), dif_pos (by omega), zero_add, zero_add, show bof q = 0 from Fin.ext h]
  · rw [dif_neg (by omega), dif_pos (by omega), dif_neg (by omega), zero_add, add_zero, show bof q = 1 from Fin.ext h]
  · rw [dif_pos (by omega), dif_neg (by omega), dif_neg (by omega), add_zero, add_zero, show bof q = 2 from Fin.ext h]

set_option maxHeartbeats 1000000 in
theorem refg : val_main_v43 (F := 𝕀) d p a b x = dgates d p a b x := by
  funext y
  obtain ⟨r, l, rfl⟩ := split2 y
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rw [show (⟨6144 + l.val, by omega⟩ : Fin 12288) = gcol (bof l) (lof l) from
    Fin.ext (by show 6144 + l.val = 6144 + (2048 * (l.val / 2048) + l.val % 2048); omega)]
  exact (congrArg (· * _) (sum_pick l fun k l' => d (ix2 r l') * pick a b x k (ix2 r l'))).trans (mul_assoc _ _ _).symm

end Cert.MergeBwdRefIdeal.Val

namespace Cert.MergeBwd

open Idealize.ShloMosaic Idealize.SL.Sem

local notation "𝕀" => Idealize.ShloMosaic.Ideal

/-- The reference runs and leaves its arguments. -/
theorem frame_ref : Cert.quiescent_MergeBwdRefIdeal := fun m ρ _ =>
  (θ_run Cert.MergeBwdRefIdeal.defs _ _).mono (fun r h => ⟨fun c => (h c).2.2.2.2, sem_eq_zero_of_no_sems (by decide) r.2⟩)
    (Cert.MergeBwdRefIdeal.Value.run (F := 𝕀) m ρ)

theorem algebraic : Cert.algebraic_MergeBwdIdeal_MergeBwdRefIdeal := by
  intro m ρ m' ρ' _ hag
  refine ⟨_, _, _, _, Cert.MergeBwdIdeal.Val.run m ρ, ?_⟩
  refine (θ_run Cert.MergeBwdRefIdeal.defs _ _).mono (fun r h c => ?_) (Cert.MergeBwdRefIdeal.Value.run (F := 𝕀) m' ρ')
  obtain ⟨a0, a1, a2, a3, a4⟩ := hag c
  refine ⟨(h c).1.trans ?_, (h c).2.1.trans ?_, (h c).2.2.1.trans ?_, (h c).2.2.2.1.trans ?_, (h c).2.2.2.2⟩
  · rw [Cert.MergeBwdRefIdeal.Read.val_main_v43_eq, a0, a1, a2, a3, a4]
    exact Cert.MergeBwdRefIdeal.Val.refg _ _ _ _ _
  · rw [Cert.MergeBwdRefIdeal.Read.val_main_v44_eq, a0, a1]
    exact Cert.MergeBwdRefIdeal.Val.ref0 _ _
  · rw [Cert.MergeBwdRefIdeal.Read.val_main_v45_eq, a0, a1]
    exact Cert.MergeBwdRefIdeal.Val.ref1 _ _
  · rw [Cert.MergeBwdRefIdeal.Read.val_main_v46_eq, a0, a1]
    exact Cert.MergeBwdRefIdeal.Val.ref2 _ _

end Cert.MergeBwd

end
-- ==== Proof.Norm.lean ====
/-
  What the norms share: the scale of a row and the gradient of a norm at its row.
-/
module

public import Idealize.ShloMosaic.Lib.Pipeline.ValueKit
public import Idealize.ShloMosaic.Lib.Pointwise

@[expose] public section

noncomputable section

namespace Cert.Norm

open Idealize.ShloMosaic

/-- The width of a row, and the constant added to the mean of its squares. -/
def width : EReal := Ideal.ofBits .f32 0x45000000#32
def eps : EReal := Ideal.ofBits .f32 0x358637BD#32

theorem width_eq : width = ((2048 : ℝ) : EReal) := by
  simp [width, Ideal.ofBits, Ideal.ieee]
  norm_num [← EReal.coe_mul]

theorem half_eq : Ideal.ofBits .f32 0xBF000000#32 = ((-(1 / 2) : ℝ) : EReal) := by
  simp [Ideal.ofBits, Ideal.ieee]
  norm_num [← EReal.coe_mul]

theorem eps_eq : ∃ r : ℝ, 0 < r ∧ eps = (r : EReal) := by
  refine ⟨8796093 / 8796093022208, by norm_num, ?_⟩
  simp [eps, Ideal.ofBits, Ideal.ieee]
  norm_num [← EReal.coe_mul]

variable {n : ℕ}

/-- The mean of the squares of a row, with the constant; and the factor that the row is scaled by. -/
def meanSq (x : Fin n → EReal) : EReal := Ideal.div (∑ k, x k * x k) width + eps
def scale (x : Fin n → EReal) : EReal := Ideal.rsqrt (meanSq x)

/-- The norm of a row with the gains `g`. -/
def norm (x g : Fin n → EReal) (l : Fin n) : EReal := x l * scale x * g l

/-- A row with the norm of another added. -/
def added (x z g : Fin n → EReal) (l : Fin n) : EReal := x l + norm z g l

/-- The gradient of the norm at its row. -/
def dnorm (d x g : Fin n → EReal) (l : Fin n) : EReal :=
  scale x * (d l * g l) - x l * (scale x * scale x * scale x) * Ideal.div (∑ k, d k * g k * x k) width

/-- The gradient of the norm at its gains: summed over the rows. -/
def dgain {T : ℕ} (d x : Fin T → Fin n → EReal) (l : Fin n) : EReal := ∑ r, d r l * x r l * scale (x r)

/-- The same, as the reference multiplies it. -/
theorem dgain_eq {T : ℕ} (d x : Fin T → Fin n → EReal) (l : Fin n) : ∑ r, x r l * scale (x r) * d r l = dgain d x l :=
  Finset.sum_congr rfl fun r _ => (mul_comm _ _).trans (mul_assoc _ _ _).symm

/-- The sum of the blocks' gradients at the gains. -/
theorem dgain_blocks (d x : Fin 8192 → Fin n → EReal) (l : Fin n) :
    ∑ t : Fin 32, dgain (fun r : Fin 256 => d ⟨256 * t.val + r.val, by omega⟩) (fun r => x ⟨256 * t.val + r.val, by omega⟩) l
      = dgain d x l :=
  Fin.sum_mul_add_congr (f := fun r => d r l * x r l * scale (x r)) fun t r h => by
    have e : (⟨256 * t.val + r.val, by omega⟩ : Fin 8192) = ⟨t.val * 256 + r.val, h⟩ := Fin.ext (by show 256 * t.val + r.val = t.val * 256 + r.val; omega)
    simp only [e]

theorem div_width (x : EReal) : Ideal.div x width = x * (((2048 : ℝ)⁻¹ : ℝ) : EReal) := by
  rw [width_eq, Ideal.div, if_neg (by exact_mod_cast (by norm_num : (2048 : ℝ) ≠ 0)), EReal.coe_inv]

theorem mul_self_nonneg (x : EReal) : 0 ≤ x * x := by
  induction x with
  | bot => simp
  | top => simp
  | coe r => exact_mod_cast _root_.mul_self_nonneg r

theorem mean_nonneg (x : Fin n → EReal) : 0 ≤ Ideal.div (∑ k, x k * x k) width := by
  rw [div_width]
  exact EReal.mul_nonneg (Finset.sum_nonneg fun k _ => mul_self_nonneg _) (EReal.coe_nonneg.mpr (by norm_num))

/-- The scale's cube is the scale divided by what its root is taken of: that is positive, possibly infinite. -/
theorem cube (x : Fin n → EReal) : scale x * scale x * scale x = Ideal.div (scale x) (meanSq x) := by
  obtain ⟨e, he, h⟩ := eps_eq
  have h0 := mean_nonneg x
  unfold scale meanSq
  rw [h]
  generalize Ideal.div (∑ k, x k * x k) width = u at h0
  induction u with
  | bot => exact absurd h0 (by simp)
  | top => simp [Ideal.div]
  | coe r =>
    have hr : 0 < r + e := add_pos_of_nonneg_of_pos (EReal.coe_nonneg.mp h0) he
    rw [← EReal.coe_add, Ideal.rsqrt_coe, if_neg hr.not_gt, if_neg hr.ne', Ideal.div, if_neg (by exact_mod_cast hr.ne'),
      ← EReal.coe_inv, ← EReal.coe_mul, ← EReal.coe_mul, ← EReal.coe_mul, ← mul_inv, Real.mul_self_sqrt hr.le, mul_comm]

theorem half_twice (x : EReal) : x * ((-(1 / 2) : ℝ) : EReal) + x * ((-(1 / 2) : ℝ) : EReal) = -x := by
  induction x with
  | bot => rw [EReal.bot_mul_coe_of_neg (by norm_num)]; rfl
  | top => rw [EReal.top_mul_coe_of_neg (by norm_num)]; rfl
  | coe r => rw [← EReal.coe_mul, ← EReal.coe_add, ← EReal.coe_neg]; congr 1; ring

/-- The mean's part of the gradient: the derivative of the root, met once for each factor of the square. -/
theorem mean_part (v S : EReal) (x : Fin n → EReal) :
    v * Ideal.div (S * (Ideal.ofBits .f32 0xBF000000#32 * Ideal.div (scale x) (meanSq x))) width
      + Ideal.div (S * (Ideal.ofBits .f32 0xBF000000#32 * Ideal.div (scale x) (meanSq x))) width * v
      = -(v * (scale x * scale x * scale x) * Ideal.div S width) := by
  rw [← cube, div_width, div_width, half_eq, ← half_twice, mul_comm _ v]
  congr 1 <;> ac_rfl

/-- The gradient of the norm at its row, as the reference adds it up onto `a`. -/
theorem dnorm_eq (a : EReal) (d x g : Fin n → EReal) (l : Fin n) :
    a + d l * g l * scale x
        + x l * Ideal.div ((∑ k, x k * (d k * g k)) * (Ideal.ofBits .f32 0xBF000000#32 * Ideal.div (scale x) (meanSq x))) width
        + Ideal.div ((∑ k, x k * (d k * g k)) * (Ideal.ofBits .f32 0xBF000000#32 * Ideal.div (scale x) (meanSq x))) width * x l
      = a + dnorm d x g l := by
  rw [add_assoc, mean_part, add_assoc, dnorm, sub_eq_add_neg, mul_comm (scale x) (d l * g l)]
  simp only [mul_comm (x _) (d _ * g _)]

/-- The same without the summand. -/
theorem dnorm_eq' (d x g : Fin n → EReal) (l : Fin n) :
    d l * g l * scale x
        + x l * Ideal.div ((∑ k, x k * (d k * g k)) * (Ideal.ofBits .f32 0xBF000000#32 * Ideal.div (scale x) (meanSq x))) width
        + Ideal.div ((∑ k, x k * (d k * g k)) * (Ideal.ofBits .f32 0xBF000000#32 * Ideal.div (scale x) (meanSq x))) width * x l
      = dnorm d x g l := by
  have h := dnorm_eq 0 d x g l
  rwa [zero_add, zero_add] at h

end Cert.Norm

end
-- ==== Proof.NormBwdTopValue.lean ====
/-
  The gradient through the last layer's norm: what the kernel leaves, the reference at one index, and that they agree.
-/
module

public import proofs.«01_k».proof.Defs
public import proofs.«01_k».proof.Proof.Mm
public import proofs.«01_k».proof.Proof.Norm
public import proofs.«01_k».proof.Proof.Gen.NormBwdTopIdeal.Value
public import proofs.«01_k».proof.Proof.Gen.NormBwdTopRefIdeal.Run
public import proofs.«01_k».proof.Proof.Gen.NormBwdTopRefIdeal.Read

@[expose] public section

set_option maxRecDepth 16384

noncomputable section

namespace Cert.NormBwdTopIdeal.Val

open Cert.NormBwdTopIdeal Cert.NormBwdTopIdeal.Gen Cert.Mm Cert.Norm
open Idealize.ShloMosaic Idealize.ShloMosaic.TcCoe Idealize.SL.Sem

local notation "𝕀" => Idealize.ShloMosaic.Ideal

/-- The gradient at the rows, and at the gains in one row. -/
def drows (d : Vec 𝕀 S8192x2048 .f32) (x : Vec 𝕀 S8192x2048 .bf16) (g : Vec 𝕀 S2048 .f32) : Vec 𝕀 S8192x2048 .bf16 :=
  fun y => dnorm (fun k => d (ix2 (y 0) k)) (fun k => x (ix2 (y 0) k)) (fun k => g (ix1 k)) (y 1)

def dgains (d : Vec 𝕀 S8192x2048 .f32) (x : Vec 𝕀 S8192x2048 .bf16) : Vec 𝕀 S1x2048 .f32 :=
  fun y => dgain (fun r k => d (ix2 r k)) (fun r k => x (ix2 r k)) (y 1)

section Block

variable (d : Vec 𝕀 S256x2048 .f32) (x : Vec 𝕀 S256x2048 .bf16) (b : Vec 𝕀 S1x2048 .f32)

theorem pay_rows (r : Fin 256) (l : Fin 2048) : k0_pay4 d x b (ix2 r l)
    = dnorm (fun k => d (ix2 r k)) (fun k => x (ix2 r k)) (fun k => b (ix2 (0 : Fin 1) k)) l := by
  pointwise [k0_pay4, k0_pay2, k0_pay3]
  rfl

theorem pay_gains (e : Vec 𝕀 S1x2048 .f32) (l : Fin 2048) : k0_pay1 (k0_pay6 e) (k0_pay7 d x) (ix2 (0 : Fin 1) l)
    = e (ix2 (0 : Fin 1) l) + dgain (fun r k => d (ix2 r k)) (fun r k => x (ix2 r k)) l := by
  pointwise [k0_pay1, k0_pay2, k0_pay3, k0_pay6, k0_pay7]
  rfl

variable (c : Dev nD) (i : grid0.Coords)
  (m0 : Memref sig .tc .vmem S256x2048 .f32) (w0 : m0.IsWhole)
  (m1 : Memref sig .tc .vmem S256x2048 .bf16) (w1 : m1.IsWhole)
  (m2 : Memref sig .tc .vmem S1x2048 .f32) (w2 : m2.IsWhole)
  (m3 : Memref sig .tc .vmem S256x2048 .bf16) (w3 : m3.IsWhole)
  (m4 : Memref sig .tc .vmem S1x2048 .f32) (w4 : m4.IsWhole)

theorem out_A_3 (hc : cond0_0 i) : out0_A_3 c i m0 w0 m1 w1 m2 w2 m3 w3 m4 w4 hc d x b = k0_pay4 d x b := by
  rw [out0_A_3]
  frame_out

theorem out_A_4 (hc : cond0_0 i) : out0_A_4 c i m0 w0 m1 w1 m2 w2 m3 w3 m4 w4 hc d x b = k0_pay1 (k0_pay6 (k0_pay5 (F := 𝕀))) (k0_pay7 d x) := by
  rw [out0_A_4]
  frame_out

theorem out_B_3 (hc : ¬cond0_0 i) (e : Vec 𝕀 S1x2048 .f32) : out0_B_3 c i m0 w0 m1 w1 m2 w2 m3 w3 m4 w4 hc d x b e = k0_pay4 d x b := by
  rw [out0_B_3]
  frame_out

theorem out_B_4 (hc : ¬cond0_0 i) (e : Vec 𝕀 S1x2048 .f32) : out0_B_4 c i m0 w0 m1 w1 m2 w2 m3 w3 m4 w4 hc d x b e = k0_pay1 (k0_pay6 e) (k0_pay7 d x) := by
  rw [out0_B_4]
  frame_out

end Block

variable (m : (ℓ : Loc nD τ sig) → Buf (Elt 𝕀) ℓ) (c : Dev nD)

/-- The arguments on device `c`. -/
abbrev X0 : Vec 𝕀 S8192x2048 .f32 := m ((c : Thread nD τ).loc main_arg0)
abbrev X1 : Vec 𝕀 S8192x2048 .bf16 := m ((c : Thread nD τ).loc main_arg1)
abbrev X2 : Vec 𝕀 S2048 .f32 := m ((c : Thread nD τ).loc main_arg2)

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx2 (t : Fin grid0.N) : win0_2.index t = ![0, 0] := (by decide +kernel : ∀ t : Fin grid0.N, win0_2.index t = ![0, 0]) t
theorem idx3 (t : Fin grid0.N) : win0_3.index t = ![t.val, 0] := (by decide +kernel : ∀ t : Fin grid0.N, win0_3.index t = ![t.val, 0]) t
theorem idx4 (t : Fin grid0.N) : win0_4.index t = ![0, 0] := (by decide +kernel : ∀ t : Fin grid0.N, win0_4.index t = ![0, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (k : Fin 2048) : iblk m c 0 t (ix2 r k) = X0 m c (ix2 (row t r) k) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

theorem iblk2 (t : Fin cfg0.N) (k : Fin 2048) : iblk m c 2 t (ix2 (0 : Fin 1) k) = X2 m c (ix1 k) := by
  have e : (V m c main_v0 : Vec 𝕀 S1x2048 .f32) = shapeCast S1x2048 (X2 m c) shapeCasts_S2048_S1x2048 := by
    show StableHlo.after hostOps0 _ _ = _
    after_results <;> rfl
  have e' : (V m c main_v0 : Vec 𝕀 S1x2048 .f32) (ix2 (0 : Fin 1) k) = X2 m c (ix1 k) := by
    rw [e]
    pointwise []
  refine Eq.trans ?_ e'
  blk_ext [iblk, idx2]

/-- Where block `t` of result 3 lies. -/
theorem place3 (t : Fin cfg0.N) (r : Fin 256) (l : Fin 2048) :
    (win0_3.blk t).view.emb (ix2 r l) = (ix2 (row t r) l : S8192x2048.Idx) := by
  blk_ext [idx3]

/-- Where the gains' gradient lies. -/
theorem place4 (t : Fin cfg0.N) (l : Fin 2048) :
    (win0_4.blk t).view.emb (ix2 (0 : Fin 1) l) = (ix2 (0 : Fin 1) l : S1x2048.Idx) := by
  blk_ext [idx4]

theorem outs3 (t : Fin cfg0.N) (r : Fin 256) (l : Fin 2048) : (outsAt0 m c t.val t.isLt).1 (ix2 r l)
    = drows (X0 m c) (X1 m c) (X2 m c) (ix2 (row t r) l) := by
  have e : (outsAt0 m c t.val t.isLt).1 = k0_pay4 (iblk m c 0 t) (iblk m c 1 t) (iblk m c 2 t) := by
    by_cases h : t.val % 32 = 0
    · rw [outsAt0_A m c t h]
      dsimp only
      rw [out_A_3]
    · rw [outsAt0_B m c t h]
      dsimp only
      rw [out_B_3]
  rw [e]
  refine (pay_rows _ _ _ r l).trans ?_
  simp only [iblk0, iblk1, iblk2]
  rfl

/-- The last point. -/
abbrev tL : Fin cfg0.N := ⟨31, by rw [show cfg0.N = 32 from N_0]; decide⟩

/-- What the gains' gradient has added up after the last block. -/
theorem outs4 (l : Fin 2048) : (outsAt0 m c tL.val tL.isLt).2 (ix2 (0 : Fin 1) l) = ∑ t : Fin cfg0.N, dgain (fun r k => iblk m c 0 t (ix2 r k)) (fun r k => iblk m c 1 t (ix2 r k)) l := by
  have e := Pipeline.eq_sum_fin_of_reset_step_apply_last (M := EReal) (ι := Fin 2048)
    (fun n h l => (outsAt0 m c n h).2 (ix2 (0 : Fin 1) l)) 32 (fun _ => 0) (fun t l => dgain (fun r k => iblk m c 0 t (ix2 r k)) (fun r k => iblk m c 1 t (ix2 r k)) l)
    (fun t h l => by
      rw [outsAt0_A m c t h]
      dsimp only
      rw [out_A_4]
      refine (pay_gains _ _ _ l).trans (congrArg (· + _) ?_)
      exact Ideal.ofBits_zero_f32)
    (fun t h l => by
      rw [outsAt0_B m c t h]
      dsimp only
      rw [out_B_4]
      exact pay_gains _ _ _ l)
    (by rw [show cfg0.N = 32 from N_0]) tL (show 31 + 1 = grid0.N from N_0.symm) l
  exact e.trans (zero_add _)

/-- The results after the run. -/
theorem arr_rows : (dats m 0 c).arrAt 3 cfg0.N = drows (X0 m c) (X1 m c) (X2 m c) := by
  refine (dats m 0 c).arrAt_eq_of_covers 3 _ (by decide +kernel) fun t hf y => ?_
  blk_simp
  rw [after0_3]
  obtain ⟨r, l, rfl⟩ := split2 y
  exact (outs3 m c t r l).trans (congrArg (drows (X0 m c) (X1 m c) (X2 m c)) (place3 t r l)).symm

theorem arr_gains : (dats m 0 c).arrAt 4 cfg0.N = dgains (X0 m c) (X1 m c) := by
  refine (dats m 0 c).arrAt_eq_of_covers 4 _ (by decide +kernel) fun t hf y => ?_
  blk_simp
  rw [after0_4]
  obtain ⟨z, l, rfl⟩ := split2 y
  obtain rfl := Fin.eq_zero z
  refine Eq.trans ?_ (congrArg (dgains (X0 m c) (X1 m c)) (place4 t l)).symm
  have ht : t = tL := Fin.ext (by have := (flush0_4 t).mp hf; have := lt_N t; show t.val = 31; omega)
  subst ht
  refine (outs4 m c l).trans ?_
  refine Eq.trans ?_ (dgain_blocks (fun r k => X0 m c (ix2 r k)) (fun r k => X1 m c (ix2 r k)) l)
  refine Eq.trans (Finset.sum_congr rfl fun t _ => ?_) (Equiv.sum_comp (finCongr N_0) _)
  simp only [iblk0, iblk1]
  rfl

end Cert.NormBwdTopIdeal.Val

namespace Cert.NormBwdTopRefIdeal.Val

open Cert.NormBwdTopRefIdeal Cert.NormBwdTopRefIdeal.Read Cert.Mm Cert.Norm Idealize.ShloMosaic

local notation "𝕀" => Idealize.ShloMosaic.Ideal

variable (d : Vec 𝕀 S8192x2048 .f32) (x : Vec 𝕀 S8192x2048 .bf16) (g : Vec 𝕀 S2048 .f32)

theorem ref_rows : val_main_v37 (F := 𝕀) d x g = Cert.NormBwdTopIdeal.Val.drows d x g := by
  funext y
  obtain ⟨r, l, rfl⟩ := split2 y
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Finset.univ_unique, Finset.sum_singleton]
  exact dnorm_eq' (fun k => d (ix2 r k)) (fun k => x (ix2 r k)) (fun k => g (ix1 k)) l

theorem ref_gains : val_main_v38 (F := 𝕀) d x = Cert.NormBwdTopIdeal.Val.dgains d x := by
  funext y
  obtain ⟨z, l, rfl⟩ := split2 y
  pointwise [val_main_v38, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  exact (Fintype.sum_unique _).trans <| dgain_eq (fun r k => d (ix2 r k)) (fun r k => x (ix2 r k)) l

end Cert.NormBwdTopRefIdeal.Val

namespace Cert.NormBwdTop

open Idealize.ShloMosaic Idealize.SL.Sem

local notation "𝕀" => Idealize.ShloMosaic.Ideal

/-- The reference runs and leaves its arguments. -/
theorem frame_ref : Cert.quiescent_NormBwdTopRefIdeal := fun m ρ _ =>
  (θ_run Cert.NormBwdTopRefIdeal.defs _ _).mono (fun r h => ⟨fun c => (h c).2.2, sem_eq_zero_of_no_sems (by decide) r.2⟩)
    (Cert.NormBwdTopRefIdeal.Value.run (F := 𝕀) m ρ)

theorem algebraic : Cert.algebraic_NormBwdTopIdeal_NormBwdTopRefIdeal := by
  intro m ρ m' ρ' _ hag
  refine ⟨_, _, Cert.NormBwdTopIdeal.Value.run_blocks (F := 𝕀) m ρ, ?_⟩
  refine (θ_run Cert.NormBwdTopRefIdeal.defs _ _).mono (fun r h c => ?_) (Cert.NormBwdTopRefIdeal.Value.run (F := 𝕀) m' ρ')
  obtain ⟨a0, a1, a2⟩ := hag c
  refine ⟨(h c).1.trans ?_, (h c).2.1.trans ?_, (h c).2.2⟩
  · rw [Cert.NormBwdTopRefIdeal.Read.val_main_v37_eq, a0, a1, a2]
    exact (Cert.NormBwdTopRefIdeal.Val.ref_rows _ _ _).trans (Cert.NormBwdTopIdeal.Val.arr_rows m c).symm
  · rw [Cert.NormBwdTopRefIdeal.Read.val_main_v38_eq, a0, a1]
    exact (Cert.NormBwdTopRefIdeal.Val.ref_gains _ _).trans (Cert.NormBwdTopIdeal.Val.arr_gains m c).symm

end Cert.NormBwdTop

end
-- ==== Proof.NormBwdMemValue.lean ====
/-
  The gradient of the memory's gains: what the kernel leaves, the reference at one index, and that they agree.
-/
module

public import proofs.«01_k».proof.Defs
public import proofs.«01_k».proof.Proof.Mm
public import proofs.«01_k».proof.Proof.Norm
public import proofs.«01_k».proof.Proof.Gen.NormBwdMemIdeal.Value
public import proofs.«01_k».proof.Proof.Gen.NormBwdMemRefIdeal.Run
public import proofs.«01_k».proof.Proof.Gen.NormBwdMemRefIdeal.Read

@[expose] public section

set_option maxRecDepth 16384

noncomputable section

namespace Cert.NormBwdMemIdeal.Val

open Cert.NormBwdMemIdeal Cert.NormBwdMemIdeal.Gen Cert.Mm Cert.Norm
open Idealize.ShloMosaic Idealize.ShloMosaic.TcCoe Idealize.SL.Sem

local notation "𝕀" => Idealize.ShloMosaic.Ideal

/-- The gradient of the gains, in one row. -/
def dgains (d x : Vec 𝕀 S256x2048 .f32) : Vec 𝕀 S1x2048 .f32 :=
  fun y => dgain (fun r k => d (ix2 r k)) (fun r k => x (ix2 r k)) (y 1)

theorem pay_apply (d x : Vec 𝕀 S256x2048 .f32) (z : Vec 𝕀 S1x2048 .f32) (l : Fin 2048) : k0_pay2 x d z (ix2 (0 : Fin 1) l)
    = z (ix2 (0 : Fin 1) l) + dgain (fun r k => d (ix2 r k)) (fun r k => x (ix2 r k)) l := by
  pointwise [k0_pay2]
  rfl

variable (m : (ℓ : Loc nD τ sig) → Buf (Elt 𝕀) ℓ) (c : Dev nD)

/-- The arguments on device `c`. -/
abbrev X0 : Vec 𝕀 S256x2048 .f32 := m ((c : Thread nD τ).loc main_arg0)
abbrev X1 : Vec 𝕀 S256x2048 .f32 := m ((c : Thread nD τ).loc main_arg1)
abbrev X2 : Vec 𝕀 S2048 .f32 := m ((c : Thread nD τ).loc main_arg2)

theorem out_eq (t : Fin cfg0.N) : outsAt0 m c t = k0_pay2 (iblk m c 1 t) (iblk m c 0 t) (k0_pay1 (F := 𝕀)) := by
  rw [outsAt0, out0_A_3]
  frame_out

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx3 (t : Fin grid0.N) : win0_3.index t = ![t.val, 0] := (by decide +kernel : ∀ t : Fin grid0.N, win0_3.index t = ![t.val, 0]) t

theorem lt_N (t : Fin cfg0.N) : t.val < 1 := lt_of_lt_of_eq t.isLt N_0

/-- Row `r` of block `t`. -/
abbrev row (t : Fin cfg0.N) (r : Fin 256) : Fin 256 := ⟨256 * t.val + r.val, by have := lt_N t; omega⟩

theorem iblk0 (t : Fin cfg0.N) (r : Fin 256) (k : Fin 2048) : iblk m c 0 t (ix2 r k) = X0 m c (ix2 (row t r) k) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

/-- Where the one block lies. -/
theorem place (t : Fin cfg0.N) (l : Fin 2048) :
    (win0_3.blk t).view.emb (ix2 (0 : Fin 1) l) = (ix2 (0 : Fin 1) l : S1x2048.Idx) := by
  have := lt_N t
  blk_ext [idx3]

/-- The result after the run. -/
theorem arr : (dats m 0 c).arrAt 3 cfg0.N = dgains (X0 m c) (X1 m c) := by
  refine (dats m 0 c).arrAt_eq_of_covers 3 _ (by decide +kernel) fun t hf y => ?_
  blk_simp
  rw [after0_3, out_eq]
  obtain ⟨z, l, rfl⟩ := split2 y
  obtain rfl := Fin.eq_zero z
  refine Eq.trans ?_ (congrArg (dgains (X0 m c) (X1 m c)) (place t l)).symm
  refine (pay_apply _ _ _ l).trans ?_
  have h : ∀ r : Fin 256, row t r = r := fun r => Fin.ext (by have := lt_N t; show 256 * t.val + r.val = r.val; omega)
  simp only [iblk0, iblk1, h]
  refine Eq.trans (congrArg (· + _) ?_) (zero_add _)
  exact Ideal.ofBits_zero_f32

end Cert.NormBwdMemIdeal.Val

namespace Cert.NormBwdMemRefIdeal.Val

open Cert.NormBwdMemRefIdeal Cert.NormBwdMemRefIdeal.Read Cert.Mm Cert.Norm Idealize.ShloMosaic

local notation "𝕀" => Idealize.ShloMosaic.Ideal

theorem ref_eq (d x : Vec 𝕀 S256x2048 .f32) : val_main_v17 (F := 𝕀) d x = Cert.NormBwdMemIdeal.Val.dgains d x := by
  funext y
  obtain ⟨z, l, rfl⟩ := split2 y
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  exact (Fintype.sum_unique _).trans <| dgain_eq (fun r k => d (ix2 r k)) (fun r k => x (ix2 r k)) l

end Cert.NormBwdMemRefIdeal.Val

namespace Cert.NormBwdMem

open Idealize.ShloMosaic Idealize.SL.Sem

local notation "𝕀" => Idealize.ShloMosaic.Ideal

/-- The reference runs and leaves its arguments. -/
theorem frame_ref : Cert.quiescent_NormBwdMemRefIdeal := fun m ρ _ =>
  (θ_run Cert.NormBwdMemRefIdeal.defs _ _).mono (fun r h => ⟨fun c => (h c).2, sem_eq_zero_of_no_sems (by decide) r.2⟩)
    (Cert.NormBwdMemRefIdeal.Value.run (F := 𝕀) m ρ)

theorem algebraic : Cert.algebraic_NormBwdMemIdeal_NormBwdMemRefIdeal := by
  intro m ρ m' ρ' _ hag
  refine ⟨_, Cert.NormBwdMemIdeal.Value.run_blocks (F := 𝕀) m ρ, ?_⟩
  refine (θ_run Cert.NormBwdMemRefIdeal.defs _ _).mono (fun r h c => ?_) (Cert.NormBwdMemRefIdeal.Value.run (F := 𝕀) m' ρ')
  obtain ⟨a0, a1, a2⟩ := hag c
  refine ⟨(h c).1.trans ?_, (h c).2⟩
  rw [Cert.NormBwdMemRefIdeal.Read.val_main_v17_eq, a0, a1]
  exact (Cert.NormBwdMemRefIdeal.Val.ref_eq _ _).trans (Cert.NormBwdMemIdeal.Val.arr m c).symm

end Cert.NormBwdMem

end
-- ==== Proof.NormBwdLastValue.lean ====
/-
  The gradient through the first layer's norm: what the kernel leaves, the reference at one index, and that they agree.
-/
module

public import proofs.«01_k».proof.Defs
public import proofs.«01_k».proof.Proof.Mm
public import proofs.«01_k».proof.Proof.Norm
public import proofs.«01_k».proof.Proof.Gen.NormBwdLastIdeal.Value
public import proofs.«01_k».proof.Proof.Gen.NormBwdLastRefIdeal.Run
public import proofs.«01_k».proof.Proof.Gen.NormBwdLastRefIdeal.Read

@[expose] public section

set_option maxRecDepth 16384

noncomputable section

namespace Cert.NormBwdLastIdeal.Val

open Cert.NormBwdLastIdeal Cert.NormBwdLastIdeal.Gen Cert.Mm Cert.Norm
open Idealize.ShloMosaic Idealize.ShloMosaic.TcCoe Idealize.SL.Sem

local notation "𝕀" => Idealize.ShloMosaic.Ideal

/-- The gradient at the rows, and at the gains in one row. -/
def drows (a : Vec 𝕀 S8192x2048 .f32) (d : Vec 𝕀 S8192x2048 .bf16) (x : Vec 𝕀 S8192x2048 .f32) (g : Vec 𝕀 S2048 .f32) : Vec 𝕀 S8192x2048 .f32 :=
  fun y => a y + dnorm (fun k => d (ix2 (y 0) k)) (fun k => x (ix2 (y 0) k)) (fun k => g (ix1 k)) (y 1)

def dgains (d : Vec 𝕀 S8192x2048 .bf16) (x : Vec 𝕀 S8192x2048 .f32) : Vec 𝕀 S1x2048 .f32 :=
  fun y => dgain (fun r k => d (ix2 r k)) (fun r k => x (ix2 r k)) (y 1)

section Block

variable (a : Vec 𝕀 S256x2048 .f32) (d : Vec 𝕀 S256x2048 .bf16) (x : Vec 𝕀 S256x2048 .f32) (b : Vec 𝕀 S1x2048 .f32)

theorem pay_rows (r : Fin 256) (l : Fin 2048) : k0_pay4 a x d b (ix2 r l)
    = a (ix2 r l) + dnorm (fun k => d (ix2 r k)) (fun k => x (ix2 r k)) (fun k => b (ix2 (0 : Fin 1) k)) l := by
  pointwise [k0_pay4, k0_pay2, k0_pay3]
  rfl

theorem pay_gains (e : Vec 𝕀 S1x2048 .f32) (l : Fin 2048) : k0_pay1 (k0_pay3 x) (k0_pay6 e) (k0_pay7 x d) (ix2 (0 : Fin 1) l)
    = e (ix2 (0 : Fin 1) l) + dgain (fun r k => d (ix2 r k)) (fun r k => x (ix2 r k)) l := by
  pointwise [k0_pay1, k0_pay2, k0_pay3, k0_pay6, k0_pay7]
  rfl

variable (c : Dev nD) (i : grid0.Coords)
  (m0 : Memref sig .tc .vmem S256x2048 .f32) (w0 : m0.IsWhole)
  (m1 : Memref sig .tc .vmem S256x2048 .bf16) (w1 : m1.IsWhole)
  (m2 : Memref sig .tc .vmem S256x2048 .f32) (w2 : m2.IsWhole)
  (m3 : Memref sig .tc .vmem S1x2048 .f32) (w3 : m3.IsWhole)
  (m4 : Memref sig .tc .vmem S256x2048 .f32) (w4 : m4.IsWhole)
  (m5 : Memref sig .tc .vmem S1x2048 .f32) (w5 : m5.IsWhole)

theorem out_A_4 (hc : cond0_0 i) : out0_A_4 c i m0 w0 m1 w1 m2 w2 m3 w3 m4 w4 m5 w5 hc a d x b = k0_pay4 a x d b := by
  rw [out0_A_4]
  frame_out

theorem out_A_5 (hc : cond0_0 i) : out0_A_5 c i m0 w0 m1 w1 m2 w2 m3 w3 m4 w4 m5 w5 hc a d x b = k0_pay1 (k0_pay3 x) (k0_pay6 (k0_pay5 (F := 𝕀))) (k0_pay7 x d) := by
  rw [out0_A_5]
  frame_out

theorem out_B_4 (hc : ¬cond0_0 i) (e : Vec 𝕀 S1x2048 .f32) : out0_B_4 c i m0 w0 m1 w1 m2 w2 m3 w3 m4 w4 m5 w5 hc a d x b e = k0_pay4 a x d b := by
  rw [out0_B_4]
  frame_out

theorem out_B_5 (hc : ¬cond0_0 i) (e : Vec 𝕀 S1x2048 .f32) : out0_B_5 c i m0 w0 m1 w1 m2 w2 m3 w3 m4 w4 m5 w5 hc a d x b e = k0_pay1 (k0_pay3 x) (k0_pay6 e) (k0_pay7 x d) := by
  rw [out0_B_5]
  frame_out

end Block

variable (m : (ℓ : Loc nD τ sig) → Buf (Elt 𝕀) ℓ) (c : Dev nD)

/-- The arguments on device `c`. -/
abbrev X0 : Vec 𝕀 S8192x2048 .f32 := m ((c : Thread nD τ).loc main_arg0)
abbrev X1 : Vec 𝕀 S8192x2048 .bf16 := m ((c : Thread nD τ).loc main_arg1)
abbrev X2 : Vec 𝕀 S8192x2048 .f32 := m ((c : Thread nD τ).loc main_arg2)
abbrev X3 : Vec 𝕀 S2048 .f32 := m ((c : Thread nD τ).loc main_arg3)

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx2 (t : Fin grid0.N) : win0_2.index t = ![t.val, 0] := (by decide +kernel : ∀ t : Fin grid0.N, win0_2.index t = ![t.val, 0]) t
theorem idx3 (t : Fin grid0.N) : win0_3.index t = ![0, 0] := (by decide +kernel : ∀ t : Fin grid0.N, win0_3.index t = ![0, 0]) t
theorem idx4 (t : Fin grid0.N) : win0_4.index t = ![t.val, 0] := (by decide +kernel : ∀ t : Fin grid0.N, win0_4.index t = ![t.val, 0]) t
theorem idx5 (t : Fin grid0.N) : win0_5.index t = ![0, 0] := (by decide +kernel : ∀ t : Fin grid0.N, win0_5.index t = ![0, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (k : Fin 2048) : iblk m c 0 t (ix2 r k) = X0 m c (ix2 (row t r) k) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

theorem iblk2 (t : Fin cfg0.N) (r : Fin 256) (k : Fin 2048) : iblk m c 2 t (ix2 r k) = X2 m c (ix2 (row t r) k) := by
  blk_ext [iblk, V_main_arg2, idx2]

theorem iblk3 (t : Fin cfg0.N) (k : Fin 2048) : iblk m c 3 t (ix2 (0 : Fin 1) k) = X3 m c (ix1 k) := by
  have e : (V m c main_v0 : Vec 𝕀 S1x2048 .f32) = shapeCast S1x2048 (X3 m c) shapeCasts_S2048_S1x2048 := by
    show StableHlo.after hostOps0 _ _ = _
    after_results <;> rfl
  have e' : (V m c main_v0 : Vec 𝕀 S1x2048 .f32) (ix2 (0 : Fin 1) k) = X3 m c (ix1 k) := by
    rw [e]
    pointwise []
  refine Eq.trans ?_ e'
  blk_ext [iblk, idx3]

/-- Where block `t` of result 4 lies. -/
theorem place4 (t : Fin cfg0.N) (r : Fin 256) (l : Fin 2048) :
    (win0_4.blk t).view.emb (ix2 r l) = (ix2 (row t r) l : S8192x2048.Idx) := by
  blk_ext [idx4]

/-- Where the gains' gradient lies. -/
theorem place5 (t : Fin cfg0.N) (l : Fin 2048) :
    (win0_5.blk t).view.emb (ix2 (0 : Fin 1) l) = (ix2 (0 : Fin 1) l : S1x2048.Idx) := by
  blk_ext [idx5]

theorem outs4 (t : Fin cfg0.N) (r : Fin 256) (l : Fin 2048) : (outsAt0 m c t.val t.isLt).1 (ix2 r l)
    = drows (X0 m c) (X1 m c) (X2 m c) (X3 m c) (ix2 (row t r) l) := by
  have e : (outsAt0 m c t.val t.isLt).1 = k0_pay4 (iblk m c 0 t) (iblk m c 2 t) (iblk m c 1 t) (iblk m c 3 t) := by
    by_cases h : t.val % 32 = 0
    · rw [outsAt0_A m c t h]
      dsimp only
      rw [out_A_4]
    · rw [outsAt0_B m c t h]
      dsimp only
      rw [out_B_4]
  rw [e]
  refine (pay_rows _ _ _ _ r l).trans ?_
  simp only [iblk0, iblk1, iblk2, iblk3]
  rfl

/-- The last point. -/
abbrev tL : Fin cfg0.N := ⟨31, by rw [show cfg0.N = 32 from N_0]; decide⟩

/-- What the gains' gradient has added up after the last block. -/
theorem outs5 (l : Fin 2048) : (outsAt0 m c tL.val tL.isLt).2 (ix2 (0 : Fin 1) l) = ∑ t : Fin cfg0.N, dgain (fun r k => iblk m c 1 t (ix2 r k)) (fun r k => iblk m c 2 t (ix2 r k)) l := by
  have e := Pipeline.eq_sum_fin_of_reset_step_apply_last (M := EReal) (ι := Fin 2048)
    (fun n h l => (outsAt0 m c n h).2 (ix2 (0 : Fin 1) l)) 32 (fun _ => 0) (fun t l => dgain (fun r k => iblk m c 1 t (ix2 r k)) (fun r k => iblk m c 2 t (ix2 r k)) l)
    (fun t h l => by
      rw [outsAt0_A m c t h]
      dsimp only
      rw [out_A_5]
      refine (pay_gains _ _ _ l).trans (congrArg (· + _) ?_)
      exact Ideal.ofBits_zero_f32)
    (fun t h l => by
      rw [outsAt0_B m c t h]
      dsimp only
      rw [out_B_5]
      exact pay_gains _ _ _ l)
    (by rw [show cfg0.N = 32 from N_0]) tL (show 31 + 1 = grid0.N from N_0.symm) l
  exact e.trans (zero_add _)

/-- The results after the run. -/
theorem arr_rows : (dats m 0 c).arrAt 4 cfg0.N = drows (X0 m c) (X1 m c) (X2 m c) (X3 m c) := by
  refine (dats m 0 c).arrAt_eq_of_covers 4 _ (by decide +kernel) fun t hf y => ?_
  blk_simp
  rw [after0_4]
  obtain ⟨r, l, rfl⟩ := split2 y
  exact (outs4 m c t r l).trans (congrArg (drows (X0 m c) (X1 m c) (X2 m c) (X3 m c)) (place4 t r l)).symm

theorem arr_gains : (dats m 0 c).arrAt 5 cfg0.N = dgains (X1 m c) (X2 m c) := by
  refine (dats m 0 c).arrAt_eq_of_covers 5 _ (by decide +kernel) fun t hf y => ?_
  blk_simp
  rw [after0_5]
  obtain ⟨z, l, rfl⟩ := split2 y
  obtain rfl := Fin.eq_zero z
  refine Eq.trans ?_ (congrArg (dgains (X1 m c) (X2 m c)) (place5 t l)).symm
  have ht : t = tL := Fin.ext (by have := (flush0_5 t).mp hf; have := lt_N t; show t.val = 31; omega)
  subst ht
  refine (outs5 m c l).trans ?_
  refine Eq.trans ?_ (dgain_blocks (fun r k => X1 m c (ix2 r k)) (fun r k => X2 m c (ix2 r k)) l)
  refine Eq.trans (Finset.sum_congr rfl fun t _ => ?_) (Equiv.sum_comp (finCongr N_0) _)
  simp only [iblk1, iblk2]
  rfl

end Cert.NormBwdLastIdeal.Val

namespace Cert.NormBwdLastRefIdeal.Val

open Cert.NormBwdLastRefIdeal Cert.NormBwdLastRefIdeal.Read Cert.Mm Cert.Norm Idealize.ShloMosaic

local notation "𝕀" => Idealize.ShloMosaic.Ideal

variable (a : Vec 𝕀 S8192x2048 .f32) (d : Vec 𝕀 S8192x2048 .bf16) (x : Vec 𝕀 S8192x2048 .f32) (g : Vec 𝕀 S2048 .f32)

theorem ref_rows : val_main_v37 (F := 𝕀) a d x g = Cert.NormBwdLastIdeal.Val.drows a d x g := by
  funext y
  obtain ⟨r, l, rfl⟩ := split2 y
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Finset.univ_unique, Finset.sum_singleton]
  exact dnorm_eq (a (ix2 r l)) (fun k => d (ix2 r k)) (fun k => x (ix2 r k)) (fun k => g (ix1 k)) l

theorem ref_gains : val_main_v38 (F := 𝕀) d x = Cert.NormBwdLastIdeal.Val.dgains d x := by
  funext y
  obtain ⟨z, l, rfl⟩ := split2 y
  pointwise [val_main_v38, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  exact (Fintype.sum_unique _).trans <| dgain_eq (fun r k => d (ix2 r k)) (fun r k => x (ix2 r k)) l

end Cert.NormBwdLastRefIdeal.Val

namespace Cert.NormBwdLast

open Idealize.ShloMosaic Idealize.SL.Sem

local notation "𝕀" => Idealize.ShloMosaic.Ideal

/-- The reference runs and leaves its arguments. -/
theorem frame_ref : Cert.quiescent_NormBwdLastRefIdeal := fun m ρ _ =>
  (θ_run Cert.NormBwdLastRefIdeal.defs _ _).mono (fun r h => ⟨fun c => (h c).2.2, sem_eq_zero_of_no_sems (by decide) r.2⟩)
    (Cert.NormBwdLastRefIdeal.Value.run (F := 𝕀) m ρ)

theorem algebraic : Cert.algebraic_NormBwdLastIdeal_NormBwdLastRefIdeal := by
  intro m ρ m' ρ' _ hag
  refine ⟨_, _, Cert.NormBwdLastIdeal.Value.run_blocks (F := 𝕀) m ρ, ?_⟩
  refine (θ_run Cert.NormBwdLastRefIdeal.defs _ _).mono (fun r h c => ?_) (Cert.NormBwdLastRefIdeal.Value.run (F := 𝕀) m' ρ')
  obtain ⟨a0, a1, a2, a3⟩ := hag c
  refine ⟨(h c).1.trans ?_, (h c).2.1.trans ?_, (h c).2.2⟩
  · rw [Cert.NormBwdLastRefIdeal.Read.val_main_v37_eq, a0, a1, a2, a3]
    exact (Cert.NormBwdLastRefIdeal.Val.ref_rows _ _ _ _).trans (Cert.NormBwdLastIdeal.Val.arr_rows m c).symm
  · rw [Cert.NormBwdLastRefIdeal.Read.val_main_v38_eq, a1, a2]
    exact (Cert.NormBwdLastRefIdeal.Val.ref_gains _ _).trans (Cert.NormBwdLastIdeal.Val.arr_gains m c).symm

end Cert.NormBwdLast

end
-- ==== Proof.NormBwdMidValue.lean ====
/-
  The gradient through the two norms between the layers: what the kernel leaves, the reference at one index, and that they agree.
-/
module

public import proofs.«01_k».proof.Defs
public import proofs.«01_k».proof.Proof.Mm
public import proofs.«01_k».proof.Proof.Norm
public import proofs.«01_k».proof.Proof.Gen.NormBwdMidIdeal.Value
public import proofs.«01_k».proof.Proof.Gen.NormBwdMidRefIdeal.Run
public import proofs.«01_k».proof.Proof.Gen.NormBwdMidRefIdeal.Read

@[expose] public section

set_option maxRecDepth 16384

noncomputable section

namespace Cert.NormBwdMidIdeal.Val

open Cert.NormBwdMidIdeal Cert.NormBwdMidIdeal.Gen Cert.Mm Cert.Norm
open Idealize.ShloMosaic Idealize.ShloMosaic.TcCoe Idealize.SL.Sem

local notation "𝕀" => Idealize.ShloMosaic.Ideal

/-- The rows that the second norm takes. -/
def sums (x : Vec 𝕀 S8192x2048 .f32) (z : Vec 𝕀 S8192x2048 .bf16) (g : Vec 𝕀 S2048 .f32) : Vec 𝕀 S8192x2048 .f32 :=
  fun y => added (fun k => x (ix2 (y 0) k)) (fun k => z (ix2 (y 0) k)) (fun k => g (ix1 k)) (y 1)

/-- A row's cotangent with the second norm's gradient added. -/
def dsum (a d x h : Fin 2048 → EReal) (l : Fin 2048) : EReal := a l + dnorm d x h l

/-- The gradients: at the sums, at the layer's result, at the second norm's gains and at the first's. -/
def dsums (a : Vec 𝕀 S8192x2048 .f32) (d : Vec 𝕀 S8192x2048 .bf16) (x : Vec 𝕀 S8192x2048 .f32) (z : Vec 𝕀 S8192x2048 .bf16) (g h : Vec 𝕀 S2048 .f32) : Vec 𝕀 S8192x2048 .f32 := fun y =>
  dsum (fun k => a (ix2 (y 0) k)) (fun k => d (ix2 (y 0) k)) (fun k => sums x z g (ix2 (y 0) k)) (fun k => h (ix1 k)) (y 1)

def dlast (a : Vec 𝕀 S8192x2048 .f32) (d : Vec 𝕀 S8192x2048 .bf16) (x : Vec 𝕀 S8192x2048 .f32) (z : Vec 𝕀 S8192x2048 .bf16) (g h : Vec 𝕀 S2048 .f32) : Vec 𝕀 S8192x2048 .bf16 := fun y =>
  dnorm (fun k => dsums a d x z g h (ix2 (y 0) k)) (fun k => z (ix2 (y 0) k)) (fun k => g (ix1 k)) (y 1)

def dgains2 (d : Vec 𝕀 S8192x2048 .bf16) (x : Vec 𝕀 S8192x2048 .f32) (z : Vec 𝕀 S8192x2048 .bf16) (g : Vec 𝕀 S2048 .f32) : Vec 𝕀 S1x2048 .f32 :=
  fun y => dgain (fun r k => d (ix2 r k)) (fun r k => sums x z g (ix2 r k)) (y 1)

def dgains1 (a : Vec 𝕀 S8192x2048 .f32) (d : Vec 𝕀 S8192x2048 .bf16) (x : Vec 𝕀 S8192x2048 .f32) (z : Vec 𝕀 S8192x2048 .bf16) (g h : Vec 𝕀 S2048 .f32) : Vec 𝕀 S1x2048 .f32 :=
  fun y => dgain (fun r k => dsums a d x z g h (ix2 r k)) (fun r k => z (ix2 r k)) (y 1)

section Block

variable (a : Vec 𝕀 S256x2048 .f32) (d : Vec 𝕀 S256x2048 .bf16) (x : Vec 𝕀 S256x2048 .f32) (b : Vec 𝕀 S1x2048 .f32)
  (z : Vec 𝕀 S256x2048 .bf16) (e : Vec 𝕀 S1x2048 .f32)

theorem pay_dsum (r : Fin 256) (l : Fin 2048) : k0_pay5 a x d b (ix2 r l)
    = dsum (fun k => a (ix2 r k)) (fun k => d (ix2 r k)) (fun k => x (ix2 r k)) (fun k => b (ix2 (0 : Fin 1) k)) l := by
  pointwise [k0_pay5, k0_pay2, k0_pay3, k0_pay4]
  rfl

theorem pay_dlast (r : Fin 256) (l : Fin 2048) : k0_pay11 (k0_pay5 a x d b) z e (ix2 r l)
    = dnorm (dsum (fun k => a (ix2 r k)) (fun k => d (ix2 r k)) (fun k => x (ix2 r k)) (fun k => b (ix2 (0 : Fin 1) k)))
        (fun k => z (ix2 r k)) (fun k => e (ix2 (0 : Fin 1) k)) l := by
  pointwise [k0_pay11, k0_pay9, k0_pay10]
  simp only [pay_dsum]
  rfl

theorem pay_gains2 (v : Vec 𝕀 S1x2048 .f32) (l : Fin 2048) : k0_pay8 (k0_pay2 x) (k0_pay3 d) (k0_pay4 x) (k0_pay7 v) (ix2 (0 : Fin 1) l)
    = v (ix2 (0 : Fin 1) l) + dgain (fun r k => d (ix2 r k)) (fun r k => x (ix2 r k)) l := by
  pointwise [k0_pay8, k0_pay2, k0_pay3, k0_pay4, k0_pay7]
  rfl

theorem pay_gains1 (v : Vec 𝕀 S1x2048 .f32) (l : Fin 2048) : k0_pay1 (k0_pay5 a x d b) (k0_pay9 z) (k0_pay10 z) v (ix2 (0 : Fin 1) l)
    = v (ix2 (0 : Fin 1) l) + dgain (fun r => dsum (fun k => a (ix2 r k)) (fun k => d (ix2 r k)) (fun k => x (ix2 r k))
        (fun k => b (ix2 (0 : Fin 1) k))) (fun r k => z (ix2 r k)) l := by
  pointwise [k0_pay1, k0_pay9, k0_pay10]
  simp only [pay_dsum]
  rfl

variable (c : Dev nD) (i : grid0.Coords)
  (m0 : Memref sig .tc .vmem S256x2048 .f32) (w0 : m0.IsWhole)
  (m1 : Memref sig .tc .vmem S256x2048 .bf16) (w1 : m1.IsWhole)
  (m2 : Memref sig .tc .vmem S256x2048 .f32) (w2 : m2.IsWhole)
  (m3 : Memref sig .tc .vmem S1x2048 .f32) (w3 : m3.IsWhole)
  (m4 : Memref sig .tc .vmem S256x2048 .bf16) (w4 : m4.IsWhole)
  (m5 : Memref sig .tc .vmem S1x2048 .f32) (w5 : m5.IsWhole)
  (m6 : Memref sig .tc .vmem S256x2048 .f32) (w6 : m6.IsWhole)
  (m7 : Memref sig .tc .vmem S256x2048 .bf16) (w7 : m7.IsWhole)
  (m8 : Memref sig .tc .vmem S1x2048 .f32) (w8 : m8.IsWhole)
  (m9 : Memref sig .tc .vmem S1x2048 .f32) (w9 : m9.IsWhole)

theorem out_A_6 (hc : cond0_0 i) (hd : cond0_1 i) : out0_A_6 c i m0 w0 m1 w1 m2 w2 m3 w3 m4 w4 m5 w5 m6 w6 m7 w7 m8 w8 m9 w9 hc hd a d x b z e = k0_pay5 a x d b := by
  rw [out0_A_6]
  frame_out

theorem out_B_6 (hc : ¬cond0_0 i) (hd : ¬cond0_1 i) (u v : Vec 𝕀 S1x2048 .f32) : out0_B_6 c i m0 w0 m1 w1 m2 w2 m3 w3 m4 w4 m5 w5 m6 w6 m7 w7 m8 w8 m9 w9 hc hd a d x b z e u v = k0_pay5 a x d b := by
  rw [out0_B_6]
  frame_out

theorem out_A_7 (hc : cond0_0 i) (hd : cond0_1 i) : out0_A_7 c i m0 w0 m1 w1 m2 w2 m3 w3 m4 w4 m5 w5 m6 w6 m7 w7 m8 w8 m9 w9 hc hd a d x b z e = k0_pay11 (k0_pay5 a x d b) z e := by
  rw [out0_A_7]
  frame_out

theorem out_B_7 (hc : ¬cond0_0 i) (hd : ¬cond0_1 i) (u v : Vec 𝕀 S1x2048 .f32) : out0_B_7 c i m0 w0 m1 w1 m2 w2 m3 w3 m4 w4 m5 w5 m6 w6 m7 w7 m8 w8 m9 w9 hc hd a d x b z e u v = k0_pay11 (k0_pay5 a x d b) z e := by
  rw [out0_B_7]
  frame_out

theorem out_A_8 (hc : cond0_0 i) (hd : cond0_1 i) : out0_A_8 c i m0 w0 m1 w1 m2 w2 m3 w3 m4 w4 m5 w5 m6 w6 m7 w7 m8 w8 m9 w9 hc hd a d x b z e = k0_pay8 (k0_pay2 x) (k0_pay3 d) (k0_pay4 x) (k0_pay7 (k0_pay6 (F := 𝕀))) := by
  rw [out0_A_8]
  frame_out

theorem out_B_8 (hc : ¬cond0_0 i) (hd : ¬cond0_1 i) (u v : Vec 𝕀 S1x2048 .f32) : out0_B_8 c i m0 w0 m1 w1 m2 w2 m3 w3 m4 w4 m5 w5 m6 w6 m7 w7 m8 w8 m9 w9 hc hd a d x b z e u v = k0_pay8 (k0_pay2 x) (k0_pay3 d) (k0_pay4 x) (k0_pay7 u) := by
  rw [out0_B_8]
  frame_out

theorem out_A_9 (hc : cond0_0 i) (hd : cond0_1 i) : out0_A_9 c i m0 w0 m1 w1 m2 w2 m3 w3 m4 w4 m5 w5 m6 w6 m7 w7 m8 w8 m9 w9 hc hd a d x b z e = k0_pay1 (k0_pay5 a x d b) (k0_pay9 z) (k0_pay10 z) (k0_pay12 (F := 𝕀)) := by
  rw [out0_A_9]
  frame_out

theorem out_B_9 (hc : ¬cond0_0 i) (hd : ¬cond0_1 i) (u v : Vec 𝕀 S1x2048 .f32) : out0_B_9 c i m0 w0 m1 w1 m2 w2 m3 w3 m4 w4 m5 w5 m6 w6 m7 w7 m8 w8 m9 w9 hc hd a d x b z e u v = k0_pay1 (k0_pay5 a x d b) (k0_pay9 z) (k0_pay10 z) v := by
  rw [out0_B_9]
  frame_out

end Block

variable (m : (ℓ : Loc nD τ sig) → Buf (Elt 𝕀) ℓ) (c : Dev nD)

/-- The arguments on device `c`. -/
abbrev X0 : Vec 𝕀 S8192x2048 .f32 := m ((c : Thread nD τ).loc main_arg0)
abbrev X1 : Vec 𝕀 S8192x2048 .bf16 := m ((c : Thread nD τ).loc main_arg1)
abbrev X2 : Vec 𝕀 S8192x2048 .f32 := m ((c : Thread nD τ).loc main_arg2)
abbrev X3 : Vec 𝕀 S8192x2048 .bf16 := m ((c : Thread nD τ).loc main_arg3)
abbrev X4 : Vec 𝕀 S2048 .f32 := m ((c : Thread nD τ).loc main_arg4)
abbrev X5 : Vec 𝕀 S2048 .f32 := m ((c : Thread nD τ).loc main_arg5)

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx2 (t : Fin grid0.N) : win0_2.index t = ![t.val, 0] := (by decide +kernel : ∀ t : Fin grid0.N, win0_2.index t = ![t.val, 0]) t
theorem idx3 (t : Fin grid0.N) : win0_3.index t = ![0, 0] := (by decide +kernel : ∀ t : Fin grid0.N, win0_3.index t = ![0, 0]) t
theorem idx4 (t : Fin grid0.N) : win0_4.index t = ![t.val, 0] := (by decide +kernel : ∀ t : Fin grid0.N, win0_4.index t = ![t.val, 0]) t
theorem idx5 (t : Fin grid0.N) : win0_5.index t = ![0, 0] := (by decide +kernel : ∀ t : Fin grid0.N, win0_5.index t = ![0, 0]) t
theorem idx6 (t : Fin grid0.N) : win0_6.index t = ![t.val, 0] := (by decide +kernel : ∀ t : Fin grid0.N, win0_6.index t = ![t.val, 0]) t
theorem idx7 (t : Fin grid0.N) : win0_7.index t = ![t.val, 0] := (by decide +kernel : ∀ t : Fin grid0.N, win0_7.index t = ![t.val, 0]) t
theorem idx8 (t : Fin grid0.N) : win0_8.index t = ![0, 0] := (by decide +kernel : ∀ t : Fin grid0.N, win0_8.index t = ![0, 0]) t
theorem idx9 (t : Fin grid0.N) : win0_9.index t = ![0, 0] := (by decide +kernel : ∀ t : Fin grid0.N, win0_9.index t = ![0, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (k : Fin 2048) : iblk m c 0 t (ix2 r k) = X0 m c (ix2 (row t r) k) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

theorem iblk3 (t : Fin cfg0.N) (k : Fin 2048) : iblk m c 3 t (ix2 (0 : Fin 1) k) = X5 m c (ix1 k) := by
  have e : (V m c main_v15 : Vec 𝕀 S1x2048 .f32) = shapeCast S1x2048 (X5 m c) shapeCasts_S2048_S1x2048 := by
    show StableHlo.after hostOps0 _ _ = _
    after_results <;> rfl
  have e' : (V m c main_v15 : Vec 𝕀 S1x2048 .f32) (ix2 (0 : Fin 1) k) = X5 m c (ix1 k) := by
    rw [e]
    pointwise []
  refine Eq.trans ?_ e'
  blk_ext [iblk, idx3]

theorem iblk4 (t : Fin cfg0.N) (r : Fin 256) (k : Fin 2048) : iblk m c 4 t (ix2 r k) = X3 m c (ix2 (row t r) k) := by
  blk_ext [iblk, V_main_arg3, idx4]

theorem iblk5 (t : Fin cfg0.N) (k : Fin 2048) : iblk m c 5 t (ix2 (0 : Fin 1) k) = X4 m c (ix1 k) := by
  have e : (V m c main_v16 : Vec 𝕀 S1x2048 .f32) = shapeCast S1x2048 (X4 m c) shapeCasts_S2048_S1x2048 := by
    show StableHlo.after hostOps0 _ _ = _
    after_results <;> rfl
  have e' : (V m c main_v16 : Vec 𝕀 S1x2048 .f32) (ix2 (0 : Fin 1) k) = X4 m c (ix1 k) := by
    rw [e]
    pointwise []
  refine Eq.trans ?_ e'
  blk_ext [iblk, idx5]

/-- The rows that the second norm takes, as the kernel finds them: the host's sum of the rows and the first norm. -/
def hostScale (z : Vec 𝕀 S8192x2048 .bf16) : Vec 𝕀 S8192x1 .f32 :=
  Host.rsqrt (F := 𝕀) (addf (F := 𝕀) (Host.divf (F := 𝕀) (broadcastInDim S8192x1 ![0] bcast_S8192_S8192x1_0
      (Host.reduceAdd (F := 𝕀) (mulf (F := 𝕀) (extf (F := 𝕀) .f32 z bitsLt_bf16_f32) (extf (F := 𝕀) .f32 z bitsLt_bf16_f32))
        (constant (F := 𝕀) S_ .f32 0x00000000#32) reducesTo_S8192x2048_S8192_d1 h_S_))
      (broadcastInDim S8192x1 ![] bcast_S_S8192x1 (constant (F := 𝕀) S_ .f32 0x45000000#32)))
    (broadcastInDim S8192x1 ![] bcast_S_S8192x1 (constant (F := 𝕀) S_ .f32 0x358637BD#32)))

def hostSums (x : Vec 𝕀 S8192x2048 .f32) (z : Vec 𝕀 S8192x2048 .bf16) (g : Vec 𝕀 S2048 .f32) : Vec 𝕀 S8192x2048 .f32 :=
  addf (F := 𝕀) x (mulf (F := 𝕀) (mulf (F := 𝕀) (extf (F := 𝕀) .f32 z bitsLt_bf16_f32)
      (broadcastInDim S8192x2048 ![0, 1] bcast_S8192x1_S8192x2048_0_1 (hostScale z)))
    (broadcastInDim S8192x2048 ![0, 1] bcast_S1x2048_S8192x2048_0_1 (broadcastInDim S1x2048 ![1] bcast_S2048_S1x2048_1 g)))

theorem host_sums : (V m c main_v14 : Vec 𝕀 S8192x2048 .f32) = hostSums (X2 m c) (X3 m c) (X4 m c) := by
  show StableHlo.after hostOps0 _ _ = _
  after_results <;> rfl

theorem host_sums_apply (r : Fin 8192) (k : Fin 2048) :
    (V m c main_v14 : Vec 𝕀 S8192x2048 .f32) (ix2 r k) = sums (X2 m c) (X3 m c) (X4 m c) (ix2 r k) := by
  rw [host_sums]
  pointwise [hostSums, hostScale]
  rfl

theorem iblk2 (t : Fin cfg0.N) (r : Fin 256) (k : Fin 2048) :
    iblk m c 2 t (ix2 r k) = sums (X2 m c) (X3 m c) (X4 m c) (ix2 (row t r) k) := by
  refine Eq.trans ?_ (host_sums_apply m c (row t r) k)
  blk_ext [iblk, idx2]

/-- Where block `t` of result 6 lies. -/
theorem place6 (t : Fin cfg0.N) (r : Fin 256) (l : Fin 2048) :
    (win0_6.blk t).view.emb (ix2 r l) = (ix2 (row t r) l : S8192x2048.Idx) := by
  blk_ext [idx6]

/-- Where block `t` of result 7 lies. -/
theorem place7 (t : Fin cfg0.N) (r : Fin 256) (l : Fin 2048) :
    (win0_7.blk t).view.emb (ix2 r l) = (ix2 (row t r) l : S8192x2048.Idx) := by
  blk_ext [idx7]

/-- Where result 8 lies. -/
theorem place8 (t : Fin cfg0.N) (l : Fin 2048) :
    (win0_8.blk t).view.emb (ix2 (0 : Fin 1) l) = (ix2 (0 : Fin 1) l : S1x2048.Idx) := by
  blk_ext [idx8]

/-- Where result 9 lies. -/
theorem place9 (t : Fin cfg0.N) (l : Fin 2048) :
    (win0_9.blk t).view.emb (ix2 (0 : Fin 1) l) = (ix2 (0 : Fin 1) l : S1x2048.Idx) := by
  blk_ext [idx9]

theorem outs6 (t : Fin cfg0.N) (r : Fin 256) (l : Fin 2048) : (outsAt0 m c t.val t.isLt).1 (ix2 r l)
    = dsums (X0 m c) (X1 m c) (X2 m c) (X3 m c) (X4 m c) (X5 m c) (ix2 (row t r) l) := by
  have e : (outsAt0 m c t.val t.isLt).1 = k0_pay5 (iblk m c 0 t) (iblk m c 2 t) (iblk m c 1 t) (iblk m c 3 t) := by
    by_cases h : t.val % 32 = 0
    · rw [outsAt0_A m c t h h]
      dsimp only
      rw [out_A_6]
    · rw [outsAt0_B m c t h h]
      dsimp only
      rw [out_B_6]
  rw [e]
  refine (pay_dsum _ _ _ _ r l).trans ?_
  simp only [iblk0, iblk1, iblk2, iblk3, iblk4, iblk5]
  rfl

theorem outs7 (t : Fin cfg0.N) (r : Fin 256) (l : Fin 2048) : (outsAt0 m c t.val t.isLt).2.1 (ix2 r l)
    = dlast (X0 m c) (X1 m c) (X2 m c) (X3 m c) (X4 m c) (X5 m c) (ix2 (row t r) l) := by
  have e : (outsAt0 m c t.val t.isLt).2.1 = k0_pay11 (k0_pay5 (iblk m c 0 t) (iblk m c 2 t) (iblk m c 1 t) (iblk m c 3 t)) (iblk m c 4 t) (iblk m c 5 t) := by
    by_cases h : t.val % 32 = 0
    · rw [outsAt0_A m c t h h]
      dsimp only
      rw [out_A_7]
    · rw [outsAt0_B m c t h h]
      dsimp only
      rw [out_B_7]
  rw [e]
  refine (pay_dlast _ _ _ _ _ _ r l).trans ?_
  simp only [iblk0, iblk1, iblk2, iblk3, iblk4, iblk5]
  rfl

/-- The last point. -/
abbrev tL : Fin cfg0.N := ⟨31, by rw [show cfg0.N = 32 from N_0]; decide⟩

/-- What the gains' gradient has added up after the last block. -/
theorem outs8 (l : Fin 2048) : (outsAt0 m c tL.val tL.isLt).2.2.1 (ix2 (0 : Fin 1) l) = ∑ t : Fin cfg0.N, dgain (fun r k => iblk m c 1 t (ix2 r k)) (fun r k => iblk m c 2 t (ix2 r k)) l := by
  have e := Pipeline.eq_sum_fin_of_reset_step_apply_last (M := EReal) (ι := Fin 2048)
    (fun n h l => (outsAt0 m c n h).2.2.1 (ix2 (0 : Fin 1) l)) 32 (fun _ => 0) (fun t l => dgain (fun r k => iblk m c 1 t (ix2 r k)) (fun r k => iblk m c 2 t (ix2 r k)) l)
    (fun t h l => by
      rw [outsAt0_A m c t h h]
      dsimp only
      rw [out_A_8]
      refine (pay_gains2 _ _ _ l).trans (congrArg (· + _) ?_)
      exact Ideal.ofBits_zero_f32)
    (fun t h l => by
      rw [outsAt0_B m c t h h]
      dsimp only
      rw [out_B_8]
      exact pay_gains2 _ _ _ l)
    (by rw [show cfg0.N = 32 from N_0]) tL (show 31 + 1 = grid0.N from N_0.symm) l
  exact e.trans (zero_add _)

/-- What the gains' gradient has added up after the last block. -/
theorem outs9 (l : Fin 2048) : (outsAt0 m c tL.val tL.isLt).2.2.2 (ix2 (0 : Fin 1) l) = ∑ t : Fin cfg0.N, dgain (fun r => dsum (fun k => iblk m c 0 t (ix2 r k)) (fun k => iblk m c 1 t (ix2 r k)) (fun k => iblk m c 2 t (ix2 r k)) (fun k => iblk m c 3 t (ix2 (0 : Fin 1) k))) (fun r k => iblk m c 4 t (ix2 r k)) l := by
  have e := Pipeline.eq_sum_fin_of_reset_step_apply_last (M := EReal) (ι := Fin 2048)
    (fun n h l => (outsAt0 m c n h).2.2.2 (ix2 (0 : Fin 1) l)) 32 (fun _ => 0) (fun t l => dgain (fun r => dsum (fun k => iblk m c 0 t (ix2 r k)) (fun k => iblk m c 1 t (ix2 r k)) (fun k => iblk m c 2 t (ix2 r k)) (fun k => iblk m c 3 t (ix2 (0 : Fin 1) k))) (fun r k => iblk m c 4 t (ix2 r k)) l)
    (fun t h l => by
      rw [outsAt0_A m c t h h]
      dsimp only
      rw [out_A_9]
      refine (pay_gains1 _ _ _ _ _ _ l).trans (congrArg (· + _) ?_)
      exact Ideal.ofBits_zero_f32)
    (fun t h l => by
      rw [outsAt0_B m c t h h]
      dsimp only
      rw [out_B_9]
      exact pay_gains1 _ _ _ _ _ _ l)
    (by rw [show cfg0.N = 32 from N_0]) tL (show 31 + 1 = grid0.N from N_0.symm) l
  exact e.trans (zero_add _)

/-- The results after the run. -/
theorem arr6 : (dats m 0 c).arrAt 6 cfg0.N = dsums (X0 m c) (X1 m c) (X2 m c) (X3 m c) (X4 m c) (X5 m c) := by
  refine (dats m 0 c).arrAt_eq_of_covers 6 _ (by decide +kernel) fun t hf y => ?_
  blk_simp
  rw [after0_6]
  obtain ⟨r, l, rfl⟩ := split2 y
  exact (outs6 m c t r l).trans (congrArg (dsums (X0 m c) (X1 m c) (X2 m c) (X3 m c) (X4 m c) (X5 m c)) (place6 t r l)).symm

theorem arr7 : (dats m 0 c).arrAt 7 cfg0.N = dlast (X0 m c) (X1 m c) (X2 m c) (X3 m c) (X4 m c) (X5 m c) := by
  refine (dats m 0 c).arrAt_eq_of_covers 7 _ (by decide +kernel) fun t hf y => ?_
  blk_simp
  rw [after0_7]
  obtain ⟨r, l, rfl⟩ := split2 y
  exact (outs7 m c t r l).trans (congrArg (dlast (X0 m c) (X1 m c) (X2 m c) (X3 m c) (X4 m c) (X5 m c)) (place7 t r l)).symm

theorem arr8 : (dats m 0 c).arrAt 8 cfg0.N = dgains2 (X1 m c) (X2 m c) (X3 m c) (X4 m c) := by
  refine (dats m 0 c).arrAt_eq_of_covers 8 _ (by decide +kernel) fun t hf y => ?_
  blk_simp
  rw [after0_8]
  obtain ⟨z, l, rfl⟩ := split2 y
  obtain rfl := Fin.eq_zero z
  refine Eq.trans ?_ (congrArg (dgains2 (X1 m c) (X2 m c) (X3 m c) (X4 m c)) (place8 t l)).symm
  have ht : t = tL := Fin.ext (by have := (flush0_8 t).mp hf; have := lt_N t; show t.val = 31; omega)
  subst ht
  refine (outs8 m c l).trans ?_
  refine Eq.trans ?_ (dgain_blocks (fun r k => X1 m c (ix2 r k)) (fun r k => sums (X2 m c) (X3 m c) (X4 m c) (ix2 r k)) l)
  refine Eq.trans (Finset.sum_congr rfl fun t _ => ?_) (Equiv.sum_comp (finCongr N_0) _)
  simp only [iblk1, iblk2]
  rfl

theorem arr9 : (dats m 0 c).arrAt 9 cfg0.N = dgains1 (X0 m c) (X1 m c) (X2 m c) (X3 m c) (X4 m c) (X5 m c) := by
  refine (dats m 0 c).arrAt_eq_of_covers 9 _ (by decide +kernel) fun t hf y => ?_
  blk_simp
  rw [after0_9]
  obtain ⟨z, l, rfl⟩ := split2 y
  obtain rfl := Fin.eq_zero z
  refine Eq.trans ?_ (congrArg (dgains1 (X0 m c) (X1 m c) (X2 m c) (X3 m c) (X4 m c) (X5 m c)) (place9 t l)).symm
  have ht : t = tL := Fin.ext (by have := (flush0_9 t).mp hf; have := lt_N t; show t.val = 31; omega)
  subst ht
  refine (outs9 m c l).trans ?_
  refine Eq.trans ?_ (dgain_blocks (fun r k => dsums (X0 m c) (X1 m c) (X2 m c) (X3 m c) (X4 m c) (X5 m c) (ix2 r k)) (fun r k => X3 m c (ix2 r k)) l)
  refine Eq.trans (Finset.sum_congr rfl fun t _ => ?_) (Equiv.sum_comp (finCongr N_0) _)
  simp only [iblk0, iblk1, iblk2, iblk3, iblk4]
  rfl

end Cert.NormBwdMidIdeal.Val

namespace Cert.NormBwdMidRefIdeal.Val

open Cert.NormBwdMidRefIdeal Cert.NormBwdMidRefIdeal.Read Cert.Mm Cert.NormBwdMidIdeal.Val Cert.Norm Idealize.ShloMosaic

local notation "𝕀" => Idealize.ShloMosaic.Ideal

variable (a : Vec 𝕀 S8192x2048 .f32) (d : Vec 𝕀 S8192x2048 .bf16) (x : Vec 𝕀 S8192x2048 .f32) (z : Vec 𝕀 S8192x2048 .bf16) (g h : Vec 𝕀 S2048 .f32)

theorem ref_sums : val_main_v17 (F := 𝕀) x z g = sums x z g := by
  funext y
  obtain ⟨r, l, rfl⟩ := split2 y
  pointwise [val_main_v17, val_main_v16, val_main_v15, val_main_v14, val_main_v13, val_main_v12, val_main_v8, val_main_v7, val_main_v6, val_main_v5, val_main_v4, val_main_v3, val_main_v2, val_main_v1, val_main_v0, val_main_cst, val_main_cst_0]
  rfl

theorem ref_dsums : val_main_v55 (F := 𝕀) a d x z g h = dsums a d x z g h := by
  funext y
  obtain ⟨r, l, rfl⟩ := split2 y
  pointwise [val_main_v55, val_main_v54, val_main_v53, val_main_v52, val_main_v51, val_main_v50, val_main_v49, val_main_v48, val_main_v47, val_main_v46, val_main_v45, val_main_v44, val_main_v43, val_main_v42, val_main_v41, val_main_v39, val_main_v38, val_main_v34, val_main_v32, val_main_v31, val_main_v29, val_main_v28, val_main_v27, val_main_v26, val_main_v25, val_main_v24, val_main_v23, val_main_v22, val_main_v21, val_main_v20, val_main_v19, val_main_v18, val_main_cst_3, val_main_cst_4, val_main_cst_5, val_main_cst_6, val_main_cst_7, val_main_cst_8, val_main_cst_9, val_main_cst_10, val_main_cst_11]
  simp only [Finset.univ_unique, Finset.sum_singleton, ref_sums]
  exact dnorm_eq (a (ix2 r l)) (fun k => d (ix2 r k)) (fun k => sums x z g (ix2 r k)) (fun k => h (ix1 k)) l

theorem ref_dlast : val_main_v77 (F := 𝕀) a d x z g h = dlast a d x z g h := by
  funext y
  obtain ⟨r, l, rfl⟩ := split2 y
  pointwise [val_main_v77, val_main_v76, val_main_v75, val_main_v74, val_main_v73, val_main_v72, val_main_v71, val_main_v70, val_main_v69, val_main_v68, val_main_v67, val_main_v66, val_main_v65, val_main_v64, val_main_v63, val_main_v61, val_main_v60, val_main_v56, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_14, val_main_cst_15, val_main_cst_16]
  simp only [Finset.univ_unique, Finset.sum_singleton, ref_dsums]
  exact dnorm_eq' (fun k => dsums a d x z g h (ix2 r k)) (fun k => z (ix2 r k)) (fun k => g (ix1 k)) l

theorem ref_gains2 : val_main_v78 (F := 𝕀) d x z g = dgains2 d x z g := by
  funext y
  obtain ⟨w, l, rfl⟩ := split2 y
  pointwise [val_main_v78, val_main_v40, val_main_v37, val_main_v36, val_main_v35, val_main_v34, val_main_v30, val_main_v29, val_main_v25, val_main_v24, val_main_v23, val_main_v22, val_main_v21, val_main_v20, val_main_v19, val_main_v18, val_main_cst_3, val_main_cst_4, val_main_cst_5, val_main_cst_7, val_main_cst_8]
  simp only [ref_sums]
  exact (Fintype.sum_unique _).trans <| dgain_eq (fun r k => d (ix2 r k)) (fun r k => sums x z g (ix2 r k)) l

theorem ref_gains1 : val_main_v79 (F := 𝕀) a d x z g h = dgains1 a d x z g h := by
  funext y
  obtain ⟨w, l, rfl⟩ := split2 y
  pointwise [val_main_v79, val_main_v62, val_main_v59, val_main_v58, val_main_v57, val_main_v56, val_main_v13, val_main_v12, val_main_v8, val_main_v7, val_main_v6, val_main_v5, val_main_v4, val_main_v3, val_main_v2, val_main_v1, val_main_v0, val_main_cst, val_main_cst_0, val_main_cst_1, val_main_cst_12, val_main_cst_13]
  simp only [ref_dsums]
  exact (Fintype.sum_unique _).trans <| dgain_eq (fun r k => dsums a d x z g h (ix2 r k)) (fun r k => z (ix2 r k)) l

end Cert.NormBwdMidRefIdeal.Val

namespace Cert.NormBwdMid

open Idealize.ShloMosaic Idealize.SL.Sem

local notation "𝕀" => Idealize.ShloMosaic.Ideal

/-- The reference runs and leaves its arguments. -/
theorem frame_ref : Cert.quiescent_NormBwdMidRefIdeal := fun m ρ _ =>
  (θ_run Cert.NormBwdMidRefIdeal.defs _ _).mono (fun r h => ⟨fun c => (h c).2.2.2.2, sem_eq_zero_of_no_sems (by decide) r.2⟩)
    (Cert.NormBwdMidRefIdeal.Value.run (F := 𝕀) m ρ)

theorem algebraic : Cert.algebraic_NormBwdMidIdeal_NormBwdMidRefIdeal := by
  intro m ρ m' ρ' _ hag
  refine ⟨_, _, _, _, Cert.NormBwdMidIdeal.Value.run_blocks (F := 𝕀) m ρ, ?_⟩
  refine (θ_run Cert.NormBwdMidRefIdeal.defs _ _).mono (fun r h c => ?_) (Cert.NormBwdMidRefIdeal.Value.run (F := 𝕀) m' ρ')
  obtain ⟨a0, a1, a2, a3, a4, a5⟩ := hag c
  refine ⟨(h c).1.trans ?_, (h c).2.1.trans ?_, (h c).2.2.1.trans ?_, (h c).2.2.2.1.trans ?_, (h c).2.2.2.2⟩
  · rw [Cert.NormBwdMidRefIdeal.Read.val_main_v55_eq, a0, a1, a2, a3, a4, a5]
    exact (Cert.NormBwdMidRefIdeal.Val.ref_dsums _ _ _ _ _ _).trans (Cert.NormBwdMidIdeal.Val.arr6 m c).symm
  · rw [Cert.NormBwdMidRefIdeal.Read.val_main_v77_eq, a0, a1, a2, a3, a4, a5]
    exact (Cert.NormBwdMidRefIdeal.Val.ref_dlast _ _ _ _ _ _).trans (Cert.NormBwdMidIdeal.Val.arr7 m c).symm
  · rw [Cert.NormBwdMidRefIdeal.Read.val_main_v78_eq, a1, a2, a3, a4]
    exact (Cert.NormBwdMidRefIdeal.Val.ref_gains2 _ _ _ _).trans (Cert.NormBwdMidIdeal.Val.arr8 m c).symm
  · rw [Cert.NormBwdMidRefIdeal.Read.val_main_v79_eq, a0, a1, a2, a3, a4, a5]
    exact (Cert.NormBwdMidRefIdeal.Val.ref_gains1 _ _ _ _ _ _).trans (Cert.NormBwdMidIdeal.Val.arr9 m c).symm

end Cert.NormBwdMid

end
-- ==== Proof.Conv.lean ====
/-
  The causal convolution of three taps along the rows, and a load of whole rows.
-/
module

public import Idealize.ShloMosaic.Lib.Pipeline.ValueKit
public import Idealize.ShloMosaic.Lib.Pointwise
public import Idealize.ShloMosaic.Lib.Pipeline.ReadBack
public import Idealize.ShloMosaic.Lib.Pipeline.CanonAppend

@[expose] public section

noncomputable section

namespace Cert.Conv

open Idealize.ShloMosaic

local notation "𝕀" => Idealize.ShloMosaic.Ideal

/-- A load of `k` whole rows from row `o` on reads the contents `o` rows further. -/
theorem ld_rows {n m k : ℕ} {e : EltTy} (X : (⟨2, ![m, n]⟩ : Shape).Idx → Elt 𝕀 e) (o : ℕ)
    (inb : ∀ a, (![o, 0] : Fin 2 → ℕ) a + (![k, n] : Fin 2 → ℕ) a ≤ (⟨2, ![m, n]⟩ : Shape).size a) (r : Fin k) (l : Fin n)
    (q : Fin m) (hq : q.val = o + r.val) :
    View.ld X (Rect.unit (s := ⟨2, ![m, n]⟩) ![o, 0] ![k, n] inb) (ix2 r l) = X (ix2 q l) :=
  congrArg X (funext fun a => by
    match a with
    | ⟨0, _⟩ => exact Fin.ext (by show o + 1 * r.val = q.val; omega)
    | ⟨1, _⟩ => exact Fin.ext (by show 0 + 1 * l.val = l.val; omega))

/-- The entry `n` rows back, zero before the first row. -/
def back (u : Fin 8192 → EReal) (n : ℕ) (i : Fin 8192) : EReal := if h : n ≤ i.val then u ⟨i.val - n, by omega⟩ else 0

/-- The convolution: the last tap on the row itself. -/
def conv (w : Fin 3 → EReal) (u : Fin 8192 → EReal) (i : Fin 8192) : EReal :=
  w 0 * back u 2 i + w 1 * back u 1 i + w 2 * back u 0 i

theorem back_of_le {u : Fin 8192 → EReal} {n : ℕ} {i j : Fin 8192} (h : j.val + n = i.val) : back u n i = u j := by
  unfold back
  rw [dif_pos (by omega)]
  exact congrArg u (Fin.ext (by show i.val - n = j.val; omega))

theorem back_of_lt {u : Fin 8192 → EReal} {n : ℕ} {i : Fin 8192} (h : i.val < n) : back u n i = 0 := by
  unfold back
  rw [dif_neg (by omega)]

end Cert.Conv

end
-- ==== Proof.BranchBFwdValue.lean ====
/-
  The short convolution's forward call: what the kernel leaves, the reference at one index, and that they agree.
-/
module

public import proofs.«01_k».proof.Defs
public import proofs.«01_k».proof.Proof.Mm
public import proofs.«01_k».proof.Proof.Conv
public import proofs.«01_k».proof.Proof.Gen.BranchBFwdIdeal.Value
public import proofs.«01_k».proof.Proof.Gen.BranchBFwdRefIdeal.Run
public import proofs.«01_k».proof.Proof.Gen.BranchBFwdRefIdeal.Read

@[expose] public section

set_option maxRecDepth 16384

noncomputable section

namespace Cert.BranchBFwdIdeal.Val

open Cert.BranchBFwdIdeal Cert.BranchBFwdIdeal.Gen Cert.Mm Cert.Conv
open Idealize.ShloMosaic Idealize.ShloMosaic.TcCoe Idealize.SL.Sem

local notation "𝕀" => Idealize.ShloMosaic.Ideal

/-- The rows convolved: the product of two of the projection's columns. -/
def prods (x : Vec 𝕀 S8192x12288 .bf16) (l : Fin 1024) (i : Fin 8192) : EReal :=
  x (ix2 i ⟨3072 + l.val, by omega⟩) * x (ix2 i ⟨4096 + l.val, by omega⟩)

/-- The branch's rows: a third column times the convolution. -/
def branch (x : Vec 𝕀 S8192x12288 .bf16) (w : Vec 𝕀 S3x1024 .f32) : Vec 𝕀 S8192x1024 .bf16 :=
  fun y => x (ix2 (y 0) ⟨2048 + (y 1).val, by have : (y 1).val < 1024 := (y 1).isLt; omega⟩)
    * conv (fun k => w (ix2 k (y 1))) (prods x (y 1)) (y 0)

section Block

variable (b u v : Vec 𝕀 S256x1024 .bf16) (hu hv : Vec 𝕀 S32x1024 .bf16) (w : Vec 𝕀 S3x1024 .f32)
variable (c : Dev nD) (i : grid0.Coords)

/-- The scratch rows: 32 rows from before the block, then the block's. -/
def buf : Vec 𝕀 S288x1024 .f32 := fun y =>
  if h : (y 0).val < 32 then k0_pay2 i hu hv (ix2 ⟨(y 0).val, h⟩ (y 1))
  else k0_pay3 u v (ix2 ⟨(y 0).val - 32, by have : (y 0).val < 288 := (y 0).isLt; omega⟩ (y 1))

theorem buf_lo (q : Fin 288) (l : Fin 1024) (h : q.val < 32) : buf u v hu hv i (ix2 q l) = k0_pay2 i hu hv (ix2 (⟨q.val, h⟩ : Fin 32) l) :=
  dif_pos h

theorem buf_hi (q : Fin 288) (l : Fin 1024) (h : ¬q.val < 32) :
    buf u v hu hv i (ix2 q l) = k0_pay3 u v (ix2 (⟨q.val - 32, by omega⟩ : Fin 256) l) :=
  dif_neg h

theorem buf_eq : View.canon [(⟨Rect.unit ![32, 0] ![256, 1024] inb_S288x1024_S256x1024_32_0, k0_pay3 u v⟩ : View.Piece (Elt 𝕀) S288x1024 .f32),
    ⟨Rect.unit ![0, 0] ![32, 1024] inb_S288x1024_S32x1024_0_0, k0_pay2 i hu hv⟩] = buf u v hu hv i := by
  funext y
  have cov : ∃ p ∈ [(⟨Rect.unit ![32, 0] ![256, 1024] inb_S288x1024_S256x1024_32_0, k0_pay3 u v⟩ : View.Piece (Elt 𝕀) S288x1024 .f32),
      ⟨Rect.unit ![0, 0] ![32, 1024] inb_S288x1024_S32x1024_0_0, k0_pay2 i hu hv⟩], y ∈ p.1.set := by
    have h0 : (y 0).val < 288 := (y 0).isLt
    have h1 : (y 1).val < 1024 := (y 1).isLt
    by_cases h : (y 0).val < 32
    · refine ⟨⟨Rect.unit ![0, 0] ![32, 1024] inb_S288x1024_S32x1024_0_0, k0_pay2 i hu hv⟩, List.mem_cons_of_mem _ List.mem_cons_self,
        (Rect.mem_set_unit (inb := inb_S288x1024_S32x1024_0_0)).2 fun a => ?_⟩
      match a with
      | ⟨0, _⟩ => exact ⟨Nat.zero_le _, by show (y 0).val < 0 + 32; omega⟩
      | ⟨1, _⟩ => exact ⟨Nat.zero_le _, by show (y 1).val < 0 + 1024; omega⟩
    · refine ⟨_, List.mem_cons_self, (Rect.mem_set_unit (inb := inb_S288x1024_S256x1024_32_0)).2 fun a => ?_⟩
      match a with
      | ⟨0, _⟩ => exact ⟨by show 32 ≤ (y 0).val; omega, by show (y 0).val < 32 + 256; omega⟩
      | ⟨1, _⟩ => exact ⟨Nat.zero_le _, by show (y 1).val < 0 + 1024; omega⟩
  have pc : View.PiecesOf (buf u v hu hv i) [(⟨Rect.unit ![32, 0] ![256, 1024] inb_S288x1024_S256x1024_32_0, k0_pay3 u v⟩ : View.Piece (Elt 𝕀) S288x1024 .f32),
      ⟨Rect.unit ![0, 0] ![32, 1024] inb_S288x1024_S32x1024_0_0, k0_pay2 i hu hv⟩] := by
    refine ⟨fun x => ?_, fun x => ?_, trivial⟩
    · obtain ⟨r, l, rfl⟩ := split2 (n := 256) (k := 1024) x
      have e : (Rect.unit (s := S288x1024) ![32, 0] ![256, 1024] inb_S288x1024_S256x1024_32_0).emb (ix2 r l)
          = (ix2 (⟨32 + r.val, by omega⟩ : Fin 288) l : S288x1024.Idx) := funext fun a => by
        match a with
        | ⟨0, _⟩ => exact Fin.ext (by show 32 + 1 * r.val = 32 + r.val; omega)
        | ⟨1, _⟩ => exact Fin.ext (by show 0 + 1 * l.val = l.val; omega)
      refine Eq.trans ?_ (congrArg (buf u v hu hv i) e).symm
      refine Eq.trans ?_ (buf_hi u v hu hv i ⟨32 + r.val, by omega⟩ l (by show ¬32 + r.val < 32; omega)).symm
      exact congrArg (fun r' => k0_pay3 u v (ix2 r' l)) (Fin.ext (by show r.val = 32 + r.val - 32; omega))
    · obtain ⟨r, l, rfl⟩ := split2 (n := 32) (k := 1024) x
      have e : (Rect.unit (s := S288x1024) ![0, 0] ![32, 1024] inb_S288x1024_S32x1024_0_0).emb (ix2 r l)
          = (ix2 (⟨r.val, by omega⟩ : Fin 288) l : S288x1024.Idx) := funext fun a => by
        match a with
        | ⟨0, _⟩ => exact Fin.ext (by show 0 + 1 * r.val = r.val; omega)
        | ⟨1, _⟩ => exact Fin.ext (by show 0 + 1 * l.val = l.val; omega)
      refine Eq.trans ?_ (congrArg (buf u v hu hv i) e).symm
      exact (buf_lo u v hu hv i ⟨r.val, by omega⟩ l r.isLt).symm
  exact View.canon_apply_of_pieces (buf u v hu hv i) _ pc.mem y cov

theorem pay_apply (f0 f1 f2 : Vec 𝕀 S256x1024 .f32) (g0 g1 g2 : Vec 𝕀 S1x1024 .f32) (r : Fin 256) (l : Fin 1024) :
    k0_pay1 (k0_pay4 g0 f0 g1 f1) g2 f2 b (ix2 r l)
      = b (ix2 r l) * (g0 (ix2 (0 : Fin 1) l) * f0 (ix2 r l) + g1 (ix2 (0 : Fin 1) l) * f1 (ix2 r l) + g2 (ix2 (0 : Fin 1) l) * f2 (ix2 r l)) := by
  pointwise [k0_pay1, k0_pay4]

variable {m0 : Memref sig .tc .vmem S256x1024 .bf16} {w0 : m0.IsWhole}
  {m1 : Memref sig .tc .vmem S256x1024 .bf16} {w1 : m1.IsWhole}
  {m2 : Memref sig .tc .vmem S256x1024 .bf16} {w2 : m2.IsWhole}
  {m3 : Memref sig .tc .vmem S32x1024 .bf16} {w3 : m3.IsWhole}
  {m4 : Memref sig .tc .vmem S32x1024 .bf16} {w4 : m4.IsWhole}
  {m5 : Memref sig .tc .vmem S3x1024 .f32} {w5 : m5.IsWhole}
  {m6 : Memref sig .tc .vmem S256x1024 .bf16} {w6 : m6.IsWhole}
  {m7 : Memref sig .tc .vmem S288x1024 .f32} {w7 : m7.IsWhole}

theorem out_apply (r : Fin 256) (l : Fin 1024) : out0_A_6 c i m0 w0 m1 w1 m2 w2 m3 w3 m4 w4 m5 w5 m6 w6 m7 w7 b u v hu hv w (ix2 r l)
    = b (ix2 r l) * (w (ix2 (0 : Fin 3) l) * buf u v hu hv i (ix2 (⟨30 + r.val, by omega⟩ : Fin 288) l)
        + w (ix2 (1 : Fin 3) l) * buf u v hu hv i (ix2 (⟨31 + r.val, by omega⟩ : Fin 288) l)
        + w (ix2 (2 : Fin 3) l) * buf u v hu hv i (ix2 (⟨32 + r.val, by omega⟩ : Fin 288) l)) := by
  rw [out0_A_6]
  frame_out
  refine (pay_apply _ _ _ _ _ _ _ r l).trans ?_
  simp only [View.readCov_eq_canon', buf_eq]
  rw [ld_rows w 0 _ 0 l 0 rfl, ld_rows w 1 _ 0 l 1 rfl, ld_rows w 2 _ 0 l 2 rfl]
  exact congrArg (b (ix2 r l) * ·) (congrArg₂ (· + ·) (congrArg₂ (· + ·)
    (congrArg (w (ix2 (0 : Fin 3) l) * ·) (ld_rows (buf u v hu hv i) 30 inb_S288x1024_S256x1024_30_0 r l ⟨30 + r.val, by omega⟩ rfl))
    (congrArg (w (ix2 (1 : Fin 3) l) * ·) (ld_rows (buf u v hu hv i) 31 inb_S288x1024_S256x1024_31_0 r l ⟨31 + r.val, by omega⟩ rfl)))
    (congrArg (w (ix2 (2 : Fin 3) l) * ·) (ld_rows (buf u v hu hv i) 32 inb_S288x1024_S256x1024_32_0 r l ⟨32 + r.val, by omega⟩ rfl)))

/-- The rows from before the block count as zero at the first point. -/
theorem pay_halo (t : Fin grid0.N) (r : Fin 32) (l : Fin 1024) :
    k0_pay2 (grid0.coords t) hu hv (ix2 r l) = if t.val = 0 then 0 else hu (ix2 r l) * hv (ix2 r l) := by
  have e : Scalar.cmpi .sgt (BitVec.ofNat 32 (grid0.coords t 0).val) 0#32 = if t.val = 0 then 0#1 else 1#1 :=
    (by decide +kernel : ∀ t : Fin grid0.N,
      Scalar.cmpi .sgt (BitVec.ofNat 32 (grid0.coords t 0).val) 0#32 = if t.val = 0 then 0#1 else 1#1) t
  rw [k0_pay2]
  dsimp only
  rw [e]
  split
  · pointwise []
  · pointwise []

theorem pay_block (r : Fin 256) (l : Fin 1024) : k0_pay3 u v (ix2 r l) = u (ix2 r l) * v (ix2 r l) := by
  pointwise [k0_pay3]

end Block

variable (m : (ℓ : Loc nD τ sig) → Buf (Elt 𝕀) ℓ) (c : Dev nD)

/-- The arguments on device `c`. -/
abbrev X0 : Vec 𝕀 S8192x12288 .bf16 := m ((c : Thread nD τ).loc main_arg0)
abbrev X1 : Vec 𝕀 S3x1024 .f32 := m ((c : Thread nD τ).loc main_arg1)

theorem idx0 (t : Fin grid0.N) : win0_0.index t = ![t.val, 2] := (by decide +kernel : ∀ t : Fin grid0.N, win0_0.index t = ![t.val, 2]) t
theorem idx1 (t : Fin grid0.N) : win0_1.index t = ![t.val, 3] := (by decide +kernel : ∀ t : Fin grid0.N, win0_1.index t = ![t.val, 3]) t
theorem idx2 (t : Fin grid0.N) : win0_2.index t = ![t.val, 4] := (by decide +kernel : ∀ t : Fin grid0.N, win0_2.index t = ![t.val, 4]) t
theorem idx3 (t : Fin grid0.N) : win0_3.index t = ![8 * t.val - 1, 3] := (by decide +kernel : ∀ t : Fin grid0.N, win0_3.index t = ![8 * t.val - 1, 3]) t
theorem idx4 (t : Fin grid0.N) : win0_4.index t = ![8 * t.val - 1, 4] := (by decide +kernel : ∀ t : Fin grid0.N, win0_4.index t = ![8 * t.val - 1, 4]) t
theorem idx5 (t : Fin grid0.N) : win0_5.index t = ![0, 0] := (by decide +kernel : ∀ t : Fin grid0.N, win0_5.index t = ![0, 0]) t
theorem idx6 (t : Fin grid0.N) : win0_6.index t = ![t.val, 0] := (by decide +kernel : ∀ t : Fin grid0.N, win0_6.index t = ![t.val, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (l : Fin 1024) :
    iblk m c 0 t (ix2 r l) = X0 m c (ix2 (row t r) ⟨2048 + l.val, by omega⟩) := by
  blk_ext [iblk, V_main_arg0, idx0]

theorem iblk1 (t : Fin cfg0.N) (r : Fin 256) (l : Fin 1024) :
    iblk m c 1 t (ix2 r l) = X0 m c (ix2 (row t r) ⟨3072 + l.val, by omega⟩) := by
  blk_ext [iblk, V_main_arg0, idx1]

theorem iblk2 (t : Fin cfg0.N) (r : Fin 256) (l : Fin 1024) :
    iblk m c 2 t (ix2 r l) = X0 m c (ix2 (row t r) ⟨4096 + l.val, by omega⟩) := by
  blk_ext [iblk, V_main_arg0, idx2]

theorem iblk3 (t : Fin cfg0.N) (ht : t.val ≠ 0) (r : Fin 32) (l : Fin 1024) (j : Fin 8192) (hj : j.val + 32 = 256 * t.val + r.val) :
    iblk m c 3 t (ix2 r l) = X0 m c (ix2 j ⟨3072 + l.val, by omega⟩) := by
  have e : iblk m c 3 t (ix2 r l) = X0 m c (ix2 (⟨32 * (8 * t.val - 1) + r.val, by have := lt_N t; omega⟩ : Fin 8192) ⟨3072 + l.val, by omega⟩) := by
    blk_ext [iblk, V_main_arg0, idx3]
  exact e.trans (congrArg (fun j => X0 m c (ix2 j ⟨3072 + l.val, by omega⟩)) (Fin.ext (by show 32 * (8 * t.val - 1) + r.val = j.val; omega)))

theorem iblk4 (t : Fin cfg0.N) (ht : t.val ≠ 0) (r : Fin 32) (l : Fin 1024) (j : Fin 8192) (hj : j.val + 32 = 256 * t.val + r.val) :
    iblk m c 4 t (ix2 r l) = X0 m c (ix2 j ⟨4096 + l.val, by omega⟩) := by
  have e : iblk m c 4 t (ix2 r l) = X0 m c (ix2 (⟨32 * (8 * t.val - 1) + r.val, by have := lt_N t; omega⟩ : Fin 8192) ⟨4096 + l.val, by omega⟩) := by
    blk_ext [iblk, V_main_arg0, idx4]
  exact e.trans (congrArg (fun j => X0 m c (ix2 j ⟨4096 + l.val, by omega⟩)) (Fin.ext (by show 32 * (8 * t.val - 1) + r.val = j.val; omega)))

theorem iblk5 (t : Fin cfg0.N) : iblk m c 5 t = X1 m c := by
  funext y
  blk_ext [iblk, V_main_arg1, idx5]

/-- The scratch rows at a point are the rows convolved, from 32 before the block. -/
theorem buf_apply (t : Fin cfg0.N) (n : ℕ) (hn : n ≤ 2) (r : Fin 256) (l : Fin 1024) (q : Fin 288) (hq : q.val + n = 32 + r.val) :
    buf (iblk m c 1 t) (iblk m c 2 t) (iblk m c 3 t) (iblk m c 4 t) (grid0.coords t) (ix2 q l) = back (prods (X0 m c) l) n (row t r) := by
  have := lt_N t
  unfold buf
  split
  · next h =>
    change q.val < 32 at h
    refine (pay_halo _ _ t _ _).trans ?_
    split
    · next ht => exact (back_of_lt (by show 256 * t.val + r.val < n; omega)).symm
    · next ht =>
      rw [back_of_le (show (⟨256 * t.val + q.val - 32, by omega⟩ : Fin 8192).val + n = (row t r).val by
        show 256 * t.val + q.val - 32 + n = 256 * t.val + r.val; omega)]
      exact congrArg₂ (· * ·)
        (iblk3 m c t ht ⟨q.val, h⟩ l _ (by show 256 * t.val + q.val - 32 + 32 = 256 * t.val + q.val; omega))
        (iblk4 m c t ht ⟨q.val, h⟩ l _ (by show 256 * t.val + q.val - 32 + 32 = 256 * t.val + q.val; omega))
  · next h =>
    change ¬q.val < 32 at h
    refine (pay_block _ _ _ _).trans ?_
    rw [back_of_le (show (row t ⟨q.val - 32, by omega⟩).val + n = (row t r).val by
      show 256 * t.val + (q.val - 32) + n = 256 * t.val + r.val; omega)]
    exact congrArg₂ (· * ·) (iblk1 m c t ⟨q.val - 32, by omega⟩ l) (iblk2 m c t ⟨q.val - 32, by omega⟩ l)

/-- Where block `t` of result 6 lies. -/
theorem place6 (t : Fin cfg0.N) (r : Fin 256) (l : Fin 1024) :
    (win0_6.blk t).view.emb (ix2 r l) = (ix2 (row t r) l : S8192x1024.Idx) := by
  blk_ext [idx6]

/-- The result after the run. -/
theorem arr : (dats m 0 c).arrAt 6 cfg0.N = branch (X0 m c) (X1 m c) := by
  refine (dats m 0 c).arrAt_eq_of_covers 6 _ (by decide +kernel) fun t hf y => ?_
  blk_simp
  rw [after0_6, outsAt0]
  obtain ⟨r, l, rfl⟩ := split2 y
  refine Eq.trans ?_ (congrArg (branch (X0 m c) (X1 m c)) (place6 t r l)).symm
  refine (out_apply _ _ _ _ _ _ _ _ r l).trans ?_
  rw [buf_apply m c t 2 (by omega) r l _ (by show 30 + r.val + 2 = 32 + r.val; omega),
    buf_apply m c t 1 (by omega) r l _ (by show 31 + r.val + 1 = 32 + r.val; omega),
    buf_apply m c t 0 (by omega) r l _ rfl, iblk0, iblk5]
  rfl

end Cert.BranchBFwdIdeal.Val

namespace Cert.BranchBFwdRefIdeal.Val

open Cert.BranchBFwdRefIdeal Cert.BranchBFwdRefIdeal.Read Cert.Mm Cert.Conv Cert.BranchBFwdIdeal.Val Idealize.ShloMosaic

local notation "𝕀" => Idealize.ShloMosaic.Ideal

variable (x : Vec 𝕀 S8192x12288 .bf16) (w : Vec 𝕀 S3x1024 .f32)

/-- The padded rows. -/
theorem v8_apply (q : Fin 8194) (n : ℕ) (i : Fin 8192) (l : Fin 1024) (h : q.val + n = i.val + 2) :
    val_main_v8 (F := 𝕀) x (ix2 q l) = back (prods x l) n i := by
  pointwise [val_main_v8, val_main_v7, val_main_v6, val_main_v5, val_main_v4, val_main_v3, val_main_v2, val_main_v1, val_main_v0, val_main_cst]
  split
  · next h' => exact (back_of_lt (by omega)).symm
  · next h' =>
    rw [back_of_le (show (⟨q.val - 2, by omega⟩ : Fin 8192).val + n = i.val by show q.val - 2 + n = i.val; omega)]
    rfl

theorem ref_eq : val_main_v32 (F := 𝕀) x w = branch x w := by
  funext y
  obtain ⟨i, l, rfl⟩ := split2 y
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v1, val_main_v0, val_main_cst_0]
  rw [v8_apply x _ 2 i l (by rfl), v8_apply x _ 1 i l (by show 1 + i.val + 1 = i.val + 2; omega), v8_apply x _ 0 i l (by show 2 + i.val + 0 = i.val + 2; omega)]
  rfl

end Cert.BranchBFwdRefIdeal.Val

namespace Cert.BranchBFwd

open Idealize.ShloMosaic Idealize.SL.Sem

local notation "𝕀" => Idealize.ShloMosaic.Ideal

/-- The reference runs and leaves its arguments. -/
theorem frame_ref : Cert.quiescent_BranchBFwdRefIdeal := fun m ρ _ =>
  (θ_run Cert.BranchBFwdRefIdeal.defs _ _).mono (fun r h => ⟨fun c => (h c).2, sem_eq_zero_of_no_sems (by decide) r.2⟩)
    (Cert.BranchBFwdRefIdeal.Value.run (F := 𝕀) m ρ)

theorem algebraic : Cert.algebraic_BranchBFwdIdeal_BranchBFwdRefIdeal := by
  intro m ρ m' ρ' _ hag
  refine ⟨_, Cert.BranchBFwdIdeal.Value.run_blocks (F := 𝕀) m ρ, ?_⟩
  refine (θ_run Cert.BranchBFwdRefIdeal.defs _ _).mono (fun r h c => ?_) (Cert.BranchBFwdRefIdeal.Value.run (F := 𝕀) m' ρ')
  obtain ⟨a0, a1⟩ := hag c
  refine ⟨(h c).1.trans ?_, (h c).2⟩
  rw [Cert.BranchBFwdRefIdeal.Read.val_main_v32_eq, a0, a1]
  exact (Cert.BranchBFwdRefIdeal.Val.ref_eq _ _).trans (Cert.BranchBFwdIdeal.Val.arr m c).symm

end Cert.BranchBFwd

end
-- ==== Proof.BranchBBwdRef.lean ====
/-
  The short convolution's gradient, and that the reference's results are it.
-/
module

public import proofs.«01_k».proof.Defs
public import proofs.«01_k».proof.Proof.BranchBFwdValue
public import proofs.«01_k».proof.Proof.Gen.BranchBBwdRefIdeal.Run
public import proofs.«01_k».proof.Proof.Gen.BranchBBwdRefIdeal.Read

@[expose] public section

set_option maxRecDepth 16384

noncomputable section

namespace Cert.BranchBBwdRefIdeal.Val

open Cert.BranchBBwdRefIdeal Cert.BranchBBwdRefIdeal.Read Cert.Mm Cert.Conv Idealize.ShloMosaic
open Cert.BranchBFwdIdeal.Val (prods)

local notation "𝕀" => Idealize.ShloMosaic.Ideal

/-- The entry `n` rows ahead, zero past the last row. -/
def ahead (u : Fin 8192 → EReal) (n : ℕ) (i : Fin 8192) : EReal := if h : i.val + n < 8192 then u ⟨i.val + n, h⟩ else 0

/-- The convolution's transpose. -/
def convT (w : Fin 3 → EReal) (u : Fin 8192 → EReal) (i : Fin 8192) : EReal :=
  w 0 * ahead u 2 i + w 1 * ahead u 1 i + w 2 * ahead u 0 i

theorem ahead_of_lt {u : Fin 8192 → EReal} {n : ℕ} {i j : Fin 8192} (h : i.val + n = j.val) : ahead u n i = u j := by
  unfold ahead
  rw [dif_pos (by omega)]
  exact congrArg u (Fin.ext h)

theorem ahead_of_ge {u : Fin 8192 → EReal} {n : ℕ} {i : Fin 8192} (h : 8192 ≤ i.val + n) : ahead u n i = 0 := by
  unfold ahead
  rw [dif_neg (by omega)]

variable (p : Vec 𝕀 S8192x12288 .bf16) (d : Vec 𝕀 S8192x1024 .bf16) (x : Vec 𝕀 S8192x12288 .bf16) (w : Vec 𝕀 S3x1024 .f32)

/-- The convolution's gradient: a column of the projection times the branch's gradient. -/
def du (l : Fin 1024) (i : Fin 8192) : EReal := d (ix2 i l) * x (ix2 i ⟨2048 + l.val, by omega⟩)

/-- The gradients of the three columns. -/
def dpart (b : ℕ) (i : Fin 8192) (l : Fin 1024) : EReal :=
  if b = 0 then d (ix2 i l) * conv (fun k => w (ix2 k l)) (prods x l) i
  else if b = 1 then convT (fun k => w (ix2 k l)) (du d x l) i * x (ix2 i ⟨4096 + l.val, by omega⟩)
  else convT (fun k => w (ix2 k l)) (du d x l) i * x (ix2 i ⟨3072 + l.val, by omega⟩)

/-- The projection's gradient with the three columns' written in. -/
def dcols : Vec 𝕀 S8192x12288 .bf16 := fun y =>
  if 2 ≤ (y 1).val / 1024 ∧ (y 1).val / 1024 < 5 then dpart d x w ((y 1).val / 1024 - 2) (y 0) ⟨(y 1).val % 1024, Nat.mod_lt _ (by decide)⟩ else p y

/-- The gradient of the tap `n` rows back, and of the three taps. -/
def dtap (n : ℕ) (l : Fin 1024) : EReal := ∑ i, du d x l i * back (prods x l) n i
def dtaps : Vec 𝕀 S3x1024 .f32 := fun y => dtap d x (2 - (y 0).val) (y 1)

/-! ## The reference -/

theorem v8_apply (q : Fin 8194) (n : ℕ) (i : Fin 8192) (l : Fin 1024) (h : q.val + n = i.val + 2) :
    val_main_v8 (F := 𝕀) x (ix2 q l) = back (prods x l) n i := by
  pointwise [val_main_v8, val_main_v7, val_main_v6, val_main_v5, val_main_v4, val_main_v3, val_main_v2, val_main_cst]
  split
  · next h' => exact (back_of_lt (by omega)).symm
  · next h' =>
    rw [back_of_le (show (⟨q.val - 2, by omega⟩ : Fin 8192).val + n = i.val by show q.val - 2 + n = i.val; omega)]
    rfl

theorem v31_apply (i : Fin 8192) (l : Fin 1024) : val_main_v31 (F := 𝕀) x w (ix2 i l) = conv (fun k => w (ix2 k l)) (prods x l) i := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_cst_1]
  rw [v8_apply x _ 2 i l (by rfl), v8_apply x _ 1 i l (by show 1 + i.val + 1 = i.val + 2; omega), v8_apply x _ 0 i l (by show 2 + i.val + 0 = i.val + 2; omega)]
  rfl

theorem v34_apply (i : Fin 8192) (l : Fin 1024) : val_main_v34 (F := 𝕀) d x (ix2 i l) = du d x l i := by
  pointwise [val_main_v34, val_main_v33, val_main_v1, val_main_v0]
  exact mul_comm _ _

theorem v72_apply (i : Fin 8192) (l : Fin 1024) : val_main_v72 (F := 𝕀) d x w (ix2 i l) = dpart d x w 0 i l := by
  pointwise [val_main_v72, val_main_v35, val_main_v33]
  rw [v31_apply]
  rfl

theorem v68_apply (i : Fin 8192) (l : Fin 1024) : val_main_v68 (F := 𝕀) d x w (ix2 i l) = convT (fun k => w (ix2 k l)) (du d x l) i := by
  pointwise [val_main_v68, val_main_v63, val_main_v62, val_main_v57, val_main_v56, val_main_v52, val_main_v51, val_main_v46, val_main_v45, val_main_v42, val_main_v37, val_main_v36, val_main_v28, val_main_v26, val_main_v25, val_main_v21, val_main_v19, val_main_v18, val_main_v13, val_main_v11, val_main_v10, val_main_cst_4, val_main_cst_8, val_main_cst_12]
  have h1 : (if h : 1 ≤ 2 + i.val ∧ 2 + i.val - 1 < 8192 then w (ix2 (1 : Fin 3) l) * val_main_v34 (F := 𝕀) d x (ix2 (⟨2 + i.val - 1, h.2⟩ : Fin 8192) l) else 0)
      = w (ix2 (1 : Fin 3) l) * ahead (du d x l) 1 i := by
    split
    · next h => rw [v34_apply, ahead_of_lt (show i.val + 1 = (⟨2 + i.val - 1, h.2⟩ : Fin 8192).val by show i.val + 1 = 2 + i.val - 1; omega)]
    · next h => rw [ahead_of_ge (by omega), mul_zero]
  have h0 : (if h : 2 + i.val < 8192 then w (ix2 (0 : Fin 3) l) * val_main_v34 (F := 𝕀) d x (ix2 (⟨2 + i.val, h⟩ : Fin 8192) l) else 0)
      = w (ix2 (0 : Fin 3) l) * ahead (du d x l) 2 i := by
    split
    · next h => rw [v34_apply, ahead_of_lt (show i.val + 2 = (⟨2 + i.val, h⟩ : Fin 8192).val by show i.val + 2 = 2 + i.val; omega)]
    · next h => rw [ahead_of_ge (by omega), mul_zero]
  refine (congrArg₂ (· + ·) (congrArg₂ (· + ·) (congrArg (w (ix2 (2 : Fin 3) l) * ·) (v34_apply d x i l)) h1) h0).trans ?_
  rw [convT, ahead_of_lt (show i.val + 0 = i.val from rfl)]
  ac_rfl

theorem v73_apply (i : Fin 8192) (l : Fin 1024) : val_main_v73 (F := 𝕀) d x w (ix2 i l) = dpart d x w 1 i l := by
  pointwise [val_main_v73, val_main_v70, val_main_v5, val_main_v4]
  rw [v68_apply]
  rfl

theorem v74_apply (i : Fin 8192) (l : Fin 1024) : val_main_v74 (F := 𝕀) d x w (ix2 i l) = dpart d x w 2 i l := by
  pointwise [val_main_v74, val_main_v69, val_main_v3, val_main_v2]
  rw [v68_apply]
  exact mul_comm _ _

theorem v41_apply (l : Fin 1024) : val_main_v41 (F := 𝕀) d x (ix1 l) = dtap d x 0 l := by
  have e : ∀ i : Fin 8192, val_main_v38 (F := 𝕀) d x (ix2 i l) = du d x l i * back (prods x l) 0 i := fun i => by
    pointwise [val_main_v38, val_main_v27]
    exact congrArg₂ (· * ·) (v34_apply d x i l) (v8_apply x _ 0 i l (by show 2 + i.val + 0 = i.val + 2; omega))
  pointwise [val_main_v41, val_main_v40, val_main_v39, val_main_cst_2, val_main_cst_3]
  exact (Fintype.sum_unique _).trans (Finset.sum_congr rfl fun i _ => e i)

theorem v50_apply (l : Fin 1024) : val_main_v50 (F := 𝕀) d x (ix1 l) = dtap d x 1 l := by
  have e : ∀ i : Fin 8192, val_main_v47 (F := 𝕀) d x (ix2 i l) = du d x l i * back (prods x l) 1 i := fun i => by
    pointwise [val_main_v47, val_main_v20]
    exact congrArg₂ (· * ·) (v34_apply d x i l) (v8_apply x _ 1 i l (by show 1 + i.val + 1 = i.val + 2; omega))
  pointwise [val_main_v50, val_main_v49, val_main_v48, val_main_cst_6, val_main_cst_7]
  exact (Fintype.sum_unique _).trans (Finset.sum_congr rfl fun i _ => e i)

theorem v61_apply (l : Fin 1024) : val_main_v61 (F := 𝕀) d x (ix1 l) = dtap d x 2 l := by
  have e : ∀ i : Fin 8192, val_main_v58 (F := 𝕀) d x (ix2 i l) = du d x l i * back (prods x l) 2 i := fun i => by
    pointwise [val_main_v58, val_main_v12]
    exact congrArg₂ (· * ·) (v34_apply d x i l) (v8_apply x _ 2 i l (by rfl))
  pointwise [val_main_v61, val_main_v60, val_main_v59, val_main_cst_10, val_main_cst_11]
  exact (Fintype.sum_unique _).trans (Finset.sum_congr rfl fun i _ => e i)

theorem ref_taps : val_main_v66 (F := 𝕀) d x = dtaps d x := by
  funext y
  obtain ⟨k, l, rfl⟩ := split2 y
  pointwise [val_main_v66, val_main_v65, val_main_v64, val_main_v55, val_main_v54, val_main_v53, val_main_v44, val_main_v43, val_main_cst_5, val_main_cst_9, val_main_cst_13]
  rw [v41_apply, v50_apply, v61_apply]
  match k with
  | ⟨0, _⟩ => exact (congrArg₂ (· + ·) ((congrArg₂ (· + ·) (dif_neg (by dsimp only; omega)) (dif_neg (by dsimp only; omega))).trans (zero_add _)) (dif_pos (by dsimp only; omega))).trans (zero_add _)
  | ⟨1, _⟩ => exact (congrArg₂ (· + ·) ((congrArg₂ (· + ·) (dif_neg (by dsimp only; omega)) (dif_pos (by dsimp only; omega))).trans (zero_add _)) (dif_neg (by dsimp only; omega))).trans (add_zero _)
  | ⟨2, _⟩ => exact (congrArg₂ (· + ·) ((congrArg₂ (· + ·) (dif_pos (by dsimp only; omega)) (dif_neg (by dsimp only; omega))).trans (add_zero _)) (dif_neg (by dsimp only; omega))).trans (add_zero _)

theorem ref_cols : val_main_v76 (F := 𝕀) p d x w = dcols p d x w := by
  funext y
  obtain ⟨i, q, rfl⟩ := split2 y
  pointwise [val_main_v76, val_main_v71, val_main_v75]
  by_cases h : 2 ≤ q.val / 1024 ∧ q.val / 1024 < 5
  · refine Eq.trans ?_ (if_pos h : dcols p d x w (ix2 i q) = _).symm
    have hb : q.val / 1024 = 2 ∨ q.val / 1024 = 3 ∨ q.val / 1024 = 4 := by omega
    rw [dif_neg (by omega)]
    rcases hb with hb | hb | hb
    · rw [dif_pos (by omega), v72_apply]
      exact congrArg₂ (fun b l => dpart d x w b i l) (show 0 = q.val / 1024 - 2 by omega) (Fin.ext (show q.val - 2048 = q.val % 1024 by omega))
    · rw [dif_neg (by omega), dif_pos (by omega), v73_apply]
      exact congrArg₂ (fun b l => dpart d x w b i l) (show 1 = q.val / 1024 - 2 by omega) (Fin.ext (show q.val - 2048 - 1024 = q.val % 1024 by omega))
    · rw [dif_neg (by omega), dif_neg (by omega), dif_pos (by omega), v74_apply]
      exact congrArg₂ (fun b l => dpart d x w b i l) (show 2 = q.val / 1024 - 2 by omega) (Fin.ext (show q.val - 2048 - 1024 - 1024 = q.val % 1024 by omega))
  · refine Eq.trans ?_ (if_neg h : dcols p d x w (ix2 i q) = _).symm
    by_cases hq : q.val < 2048
    · rw [dif_pos hq]
    · rw [dif_neg hq, dif_neg (by omega), dif_neg (by omega), dif_neg (by omega)]
      exact congrArg (fun q' => p (ix2 i q')) (Fin.ext (by show 5120 + (q.val - 2048 - 1024 - 1024 - 1024) = q.val; omega))

end Cert.BranchBBwdRefIdeal.Val

end
-- ==== Proof.BranchBBwdBlock.lean ====
/-
  The backward call of the short convolution: the blocks its body leaves, entry by entry.
-/
module

public import proofs.«01_k».proof.Proof.BranchBBwdRef
public import proofs.«01_k».proof.Proof.BranchBBwdIdealFrame

@[expose] public section

set_option maxRecDepth 16384

noncomputable section

namespace Cert.BranchBBwdIdeal.Val

open Cert.BranchBBwdIdeal Cert.BranchBBwdIdeal.Gen Cert.BranchBBwdIdeal.Body Cert.Mm Cert.Conv
open Idealize.ShloMosaic Idealize.ShloMosaic.TcCoe Idealize.SL.Sem

local notation "𝕀" => Idealize.ShloMosaic.Ideal

/-- Scratch rows: 32 rows, then a block of 256. -/
def bufP (lo : Vec 𝕀 S32x1024 .f32) (hi : Vec 𝕀 S256x1024 .f32) : Vec 𝕀 S288x1024 .f32 := fun y =>
  if h : (y 0).val < 32 then lo (ix2 ⟨(y 0).val, h⟩ (y 1))
  else hi (ix2 ⟨(y 0).val - 32, by have : (y 0).val < 288 := (y 0).isLt; omega⟩ (y 1))

theorem bufP_lo (lo : Vec 𝕀 S32x1024 .f32) (hi : Vec 𝕀 S256x1024 .f32) (q : Fin 288) (l : Fin 1024) (h : q.val < 32) :
    bufP lo hi (ix2 q l) = lo (ix2 (⟨q.val, h⟩ : Fin 32) l) :=
  dif_pos h

theorem bufP_hi (lo : Vec 𝕀 S32x1024 .f32) (hi : Vec 𝕀 S256x1024 .f32) (q : Fin 288) (l : Fin 1024) (h : ¬q.val < 32) :
    bufP lo hi (ix2 q l) = hi (ix2 (⟨q.val - 32, by omega⟩ : Fin 256) l) :=
  dif_neg h

theorem bufP_eq (lo : Vec 𝕀 S32x1024 .f32) (hi : Vec 𝕀 S256x1024 .f32) :
    View.canon [(⟨Rect.unit ![32, 0] ![256, 1024] inb_S288x1024_S256x1024_32_0, hi⟩ : View.Piece (Elt 𝕀) S288x1024 .f32),
      ⟨Rect.unit ![0, 0] ![32, 1024] inb_S288x1024_S32x1024_0_0, lo⟩] = bufP lo hi := by
  funext y
  have cov : ∃ p ∈ [(⟨Rect.unit ![32, 0] ![256, 1024] inb_S288x1024_S256x1024_32_0, hi⟩ : View.Piece (Elt 𝕀) S288x1024 .f32),
      ⟨Rect.unit ![0, 0] ![32, 1024] inb_S288x1024_S32x1024_0_0, lo⟩], y ∈ p.1.set := by
    have h0 : (y 0).val < 288 := (y 0).isLt
    have h1 : (y 1).val < 1024 := (y 1).isLt
    by_cases h : (y 0).val < 32
    · refine ⟨⟨Rect.unit ![0, 0] ![32, 1024] inb_S288x1024_S32x1024_0_0, lo⟩, List.mem_cons_of_mem _ List.mem_cons_self,
        (Rect.mem_set_unit (inb := inb_S288x1024_S32x1024_0_0)).2 fun a => ?_⟩
      match a with
      | ⟨0, _⟩ => exact ⟨Nat.zero_le _, by show (y 0).val < 0 + 32; omega⟩
      | ⟨1, _⟩ => exact ⟨Nat.zero_le _, by show (y 1).val < 0 + 1024; omega⟩
    · refine ⟨_, List.mem_cons_self, (Rect.mem_set_unit (inb := inb_S288x1024_S256x1024_32_0)).2 fun a => ?_⟩
      match a with
      | ⟨0, _⟩ => exact ⟨by show 32 ≤ (y 0).val; omega, by show (y 0).val < 32 + 256; omega⟩
      | ⟨1, _⟩ => exact ⟨Nat.zero_le _, by show (y 1).val < 0 + 1024; omega⟩
  have pc : View.PiecesOf (bufP lo hi) [(⟨Rect.unit ![32, 0] ![256, 1024] inb_S288x1024_S256x1024_32_0, hi⟩ : View.Piece (Elt 𝕀) S288x1024 .f32),
      ⟨Rect.unit ![0, 0] ![32, 1024] inb_S288x1024_S32x1024_0_0, lo⟩] := by
    refine ⟨fun x => ?_, fun x => ?_, trivial⟩
    · obtain ⟨r, l, rfl⟩ := split2 (n := 256) (k := 1024) x
      have e : (Rect.unit (s := S288x1024) ![32, 0] ![256, 1024] inb_S288x1024_S256x1024_32_0).emb (ix2 r l)
          = (ix2 (⟨32 + r.val, by omega⟩ : Fin 288) l : S288x1024.Idx) := funext fun a => by
        match a with
        | ⟨0, _⟩ => exact Fin.ext (by show 32 + 1 * r.val = 32 + r.val; omega)
        | ⟨1, _⟩ => exact Fin.ext (by show 0 + 1 * l.val = l.val; omega)
      refine Eq.trans ?_ (congrArg (bufP lo hi) e).symm
      refine Eq.trans ?_ (bufP_hi lo hi ⟨32 + r.val, by omega⟩ l (by show ¬32 + r.val < 32; omega)).symm
      exact congrArg (fun r' => hi (ix2 r' l)) (Fin.ext (by show r.val = 32 + r.val - 32; omega))
    · obtain ⟨r, l, rfl⟩ := split2 (n := 32) (k := 1024) x
      have e : (Rect.unit (s := S288x1024) ![0, 0] ![32, 1024] inb_S288x1024_S32x1024_0_0).emb (ix2 r l)
          = (ix2 (⟨r.val, by omega⟩ : Fin 288) l : S288x1024.Idx) := funext fun a => by
        match a with
        | ⟨0, _⟩ => exact Fin.ext (by show 0 + 1 * r.val = r.val; omega)
        | ⟨1, _⟩ => exact Fin.ext (by show 0 + 1 * l.val = l.val; omega)
      refine Eq.trans ?_ (congrArg (bufP lo hi) e).symm
      exact (bufP_lo lo hi ⟨r.val, by omega⟩ l r.isLt).symm
  exact View.canon_apply_of_pieces (bufP lo hi) _ pc.mem y cov

/-- Scratch rows: a block of 256 rows, then 32. -/
def bufD (lo : Vec 𝕀 S256x1024 .f32) (hi : Vec 𝕀 S32x1024 .f32) : Vec 𝕀 S288x1024 .f32 := fun y =>
  if h : (y 0).val < 256 then lo (ix2 ⟨(y 0).val, h⟩ (y 1))
  else hi (ix2 ⟨(y 0).val - 256, by have : (y 0).val < 288 := (y 0).isLt; omega⟩ (y 1))

theorem bufD_lo (lo : Vec 𝕀 S256x1024 .f32) (hi : Vec 𝕀 S32x1024 .f32) (q : Fin 288) (l : Fin 1024) (h : q.val < 256) :
    bufD lo hi (ix2 q l) = lo (ix2 (⟨q.val, h⟩ : Fin 256) l) :=
  dif_pos h

theorem bufD_hi (lo : Vec 𝕀 S256x1024 .f32) (hi : Vec 𝕀 S32x1024 .f32) (q : Fin 288) (l : Fin 1024) (h : ¬q.val < 256) :
    bufD lo hi (ix2 q l) = hi (ix2 (⟨q.val - 256, by omega⟩ : Fin 32) l) :=
  dif_neg h

theorem bufD_eq (lo : Vec 𝕀 S256x1024 .f32) (hi : Vec 𝕀 S32x1024 .f32) :
    View.canon [(⟨Rect.unit ![256, 0] ![32, 1024] inb_S288x1024_S32x1024_256_0, hi⟩ : View.Piece (Elt 𝕀) S288x1024 .f32),
      ⟨Rect.unit ![0, 0] ![256, 1024] inb_S288x1024_S256x1024_0_0, lo⟩] = bufD lo hi := by
  funext y
  have cov : ∃ p ∈ [(⟨Rect.unit ![256, 0] ![32, 1024] inb_S288x1024_S32x1024_256_0, hi⟩ : View.Piece (Elt 𝕀) S288x1024 .f32),
      ⟨Rect.unit ![0, 0] ![256, 1024] inb_S288x1024_S256x1024_0_0, lo⟩], y ∈ p.1.set := by
    have h0 : (y 0).val < 288 := (y 0).isLt
    have h1 : (y 1).val < 1024 := (y 1).isLt
    by_cases h : (y 0).val < 256
    · refine ⟨⟨Rect.unit ![0, 0] ![256, 1024] inb_S288x1024_S256x1024_0_0, lo⟩, List.mem_cons_of_mem _ List.mem_cons_self,
        (Rect.mem_set_unit (inb := inb_S288x1024_S256x1024_0_0)).2 fun a => ?_⟩
      match a with
      | ⟨0, _⟩ => exact ⟨Nat.zero_le _, by show (y 0).val < 0 + 256; omega⟩
      | ⟨1, _⟩ => exact ⟨Nat.zero_le _, by show (y 1).val < 0 + 1024; omega⟩
    · refine ⟨_, List.mem_cons_self, (Rect.mem_set_unit (inb := inb_S288x1024_S32x1024_256_0)).2 fun a => ?_⟩
      match a with
      | ⟨0, _⟩ => exact ⟨by show 256 ≤ (y 0).val; omega, by show (y 0).val < 256 + 32; omega⟩
      | ⟨1, _⟩ => exact ⟨Nat.zero_le _, by show (y 1).val < 0 + 1024; omega⟩
  have pc : View.PiecesOf (bufD lo hi) [(⟨Rect.unit ![256, 0] ![32, 1024] inb_S288x1024_S32x1024_256_0, hi⟩ : View.Piece (Elt 𝕀) S288x1024 .f32),
      ⟨Rect.unit ![0, 0] ![256, 1024] inb_S288x1024_S256x1024_0_0, lo⟩] := by
    refine ⟨fun x => ?_, fun x => ?_, trivial⟩
    · obtain ⟨r, l, rfl⟩ := split2 (n := 32) (k := 1024) x
      have e : (Rect.unit (s := S288x1024) ![256, 0] ![32, 1024] inb_S288x1024_S32x1024_256_0).emb (ix2 r l)
          = (ix2 (⟨256 + r.val, by omega⟩ : Fin 288) l : S288x1024.Idx) := funext fun a => by
        match a with
        | ⟨0, _⟩ => exact Fin.ext (by show 256 + 1 * r.val = 256 + r.val; omega)
        | ⟨1, _⟩ => exact Fin.ext (by show 0 + 1 * l.val = l.val; omega)
      refine Eq.trans ?_ (congrArg (bufD lo hi) e).symm
      refine Eq.trans ?_ (bufD_hi lo hi ⟨256 + r.val, by omega⟩ l (by show ¬256 + r.val < 256; omega)).symm
      exact congrArg (fun r' => hi (ix2 r' l)) (Fin.ext (by show r.val = 256 + r.val - 256; omega))
    · obtain ⟨r, l, rfl⟩ := split2 (n := 256) (k := 1024) x
      have e : (Rect.unit (s := S288x1024) ![0, 0] ![256, 1024] inb_S288x1024_S256x1024_0_0).emb (ix2 r l)
          = (ix2 (⟨r.val, by omega⟩ : Fin 288) l : S288x1024.Idx) := funext fun a => by
        match a with
        | ⟨0, _⟩ => exact Fin.ext (by show 0 + 1 * r.val = r.val; omega)
        | ⟨1, _⟩ => exact Fin.ext (by show 0 + 1 * l.val = l.val; omega)
      refine Eq.trans ?_ (congrArg (bufD lo hi) e).symm
      exact (bufD_lo lo hi ⟨r.val, by omega⟩ l r.isLt).symm
  exact View.canon_apply_of_pieces (bufD lo hi) _ pc.mem y cov

/-- Three blocks stored one after the other. -/
theorem kept_eq (v0 v1 v2 : Vec 𝕀 S1x256x1024 .bf16) (G : Vec 𝕀 S3x256x1024 .bf16)
    (h0 : ∀ (r : Fin 256) (l : Fin 1024), v0 (ix3 (0 : Fin 1) r l) = G (ix3 (0 : Fin 3) r l))
    (h1 : ∀ (r : Fin 256) (l : Fin 1024), v1 (ix3 (0 : Fin 1) r l) = G (ix3 (1 : Fin 3) r l))
    (h2 : ∀ (r : Fin 256) (l : Fin 1024), v2 (ix3 (0 : Fin 1) r l) = G (ix3 (2 : Fin 3) r l)) :
    View.canon [(⟨Rect.unit ![2, 0, 0] ![1, 256, 1024] inb_S3x256x1024_S1x256x1024_2_0_0, v2⟩ : View.Piece (Elt 𝕀) S3x256x1024 .bf16),
      ⟨Rect.unit ![1, 0, 0] ![1, 256, 1024] inb_S3x256x1024_S1x256x1024_1_0_0, v1⟩, ⟨Rect.unit ![0, 0, 0] ![1, 256, 1024] inb_zero, v0⟩] = G := by
  funext y
  have pc : View.PiecesOf G [(⟨Rect.unit ![2, 0, 0] ![1, 256, 1024] inb_S3x256x1024_S1x256x1024_2_0_0, v2⟩ : View.Piece (Elt 𝕀) S3x256x1024 .bf16),
      ⟨Rect.unit ![1, 0, 0] ![1, 256, 1024] inb_S3x256x1024_S1x256x1024_1_0_0, v1⟩, ⟨Rect.unit ![0, 0, 0] ![1, 256, 1024] inb_zero, v0⟩] := by
    refine ⟨fun x => ?_, fun x => ?_, fun x => ?_, trivial⟩
    · obtain ⟨r, l, rfl⟩ := split3_one (n := 256) (k := 1024) x
      refine (h2 r l).trans (congrArg G (funext fun a => ?_))
      match a with
      | ⟨0, _⟩ => exact Fin.ext (by show 2 = 2 + 1 * 0; omega)
      | ⟨1, _⟩ => exact Fin.ext (by show r.val = 0 + 1 * r.val; omega)
      | ⟨2, _⟩ => exact Fin.ext (by show l.val = 0 + 1 * l.val; omega)
    · obtain ⟨r, l, rfl⟩ := split3_one (n := 256) (k := 1024) x
      refine (h1 r l).trans (congrArg G (funext fun a => ?_))
      match a with
      | ⟨0, _⟩ => exact Fin.ext (by show 1 = 1 + 1 * 0; omega)
      | ⟨1, _⟩ => exact Fin.ext (by show r.val = 0 + 1 * r.val; omega)
      | ⟨2, _⟩ => exact Fin.ext (by show l.val = 0 + 1 * l.val; omega)
    · obtain ⟨r, l, rfl⟩ := split3_one (n := 256) (k := 1024) x
      refine (h0 r l).trans (congrArg G (funext fun a => ?_))
      match a with
      | ⟨0, _⟩ => exact Fin.ext (by show 0 = 0 + 1 * 0; omega)
      | ⟨1, _⟩ => exact Fin.ext (by show r.val = 0 + 1 * r.val; omega)
      | ⟨2, _⟩ => exact Fin.ext (by show l.val = 0 + 1 * l.val; omega)
  refine View.canon_apply_of_pieces G _ pc.mem y ?_
  have b0 : (y 0).val < 3 := (y 0).isLt
  have b1 : (y 1).val < 256 := (y 1).isLt
  have b2 : (y 2).val < 1024 := (y 2).isLt
  rcases (by omega : (y 0).val = 2 ∨ (y 0).val = 1 ∨ (y 0).val = 0) with h | h | h
  · refine ⟨⟨Rect.unit ![2, 0, 0] ![1, 256, 1024] inb_S3x256x1024_S1x256x1024_2_0_0, v2⟩, List.mem_cons_self, (Rect.mem_set_unit (inb := inb_S3x256x1024_S1x256x1024_2_0_0)).2 fun a => ?_⟩
    match a with
    | ⟨0, _⟩ => exact ⟨by show 2 ≤ (y 0).val; omega, by show (y 0).val < 2 + 1; omega⟩
    | ⟨1, _⟩ => exact ⟨Nat.zero_le _, by show (y 1).val < 0 + 256; omega⟩
    | ⟨2, _⟩ => exact ⟨Nat.zero_le _, by show (y 2).val < 0 + 1024; omega⟩
  · refine ⟨⟨Rect.unit ![1, 0, 0] ![1, 256, 1024] inb_S3x256x1024_S1x256x1024_1_0_0, v1⟩, List.mem_cons_of_mem _ List.mem_cons_self, (Rect.mem_set_unit (inb := inb_S3x256x1024_S1x256x1024_1_0_0)).2 fun a => ?_⟩
    match a with
    | ⟨0, _⟩ => exact ⟨by show 1 ≤ (y 0).val; omega, by show (y 0).val < 1 + 1; omega⟩
    | ⟨1, _⟩ => exact ⟨Nat.zero_le _, by show (y 1).val < 0 + 256; omega⟩
    | ⟨2, _⟩ => exact ⟨Nat.zero_le _, by show (y 2).val < 0 + 1024; omega⟩
  · refine ⟨⟨Rect.unit ![0, 0, 0] ![1, 256, 1024] inb_zero, v0⟩, List.mem_cons_of_mem _ (List.mem_cons_of_mem _ List.mem_cons_self), (Rect.mem_set_unit (inb := inb_zero)).2 fun a => ?_⟩
    match a with
    | ⟨0, _⟩ => exact ⟨by show 0 ≤ (y 0).val; omega, by show (y 0).val < 0 + 1; omega⟩
    | ⟨1, _⟩ => exact ⟨Nat.zero_le _, by show (y 1).val < 0 + 256; omega⟩
    | ⟨2, _⟩ => exact ⟨Nat.zero_le _, by show (y 2).val < 0 + 1024; omega⟩

/-- Three rows stored one after the other, over anything. -/
theorem taps_eq (v0 v1 v2 : Vec 𝕀 S1x1024 .f32) (L : List (View.Piece (Elt 𝕀) S3x1024 .f32)) (G : Vec 𝕀 S3x1024 .f32)
    (h0 : ∀ l : Fin 1024, v0 (ix2 (0 : Fin 1) l) = G (ix2 (0 : Fin 3) l))
    (h1 : ∀ l : Fin 1024, v1 (ix2 (0 : Fin 1) l) = G (ix2 (1 : Fin 3) l))
    (h2 : ∀ l : Fin 1024, v2 (ix2 (0 : Fin 1) l) = G (ix2 (2 : Fin 3) l)) :
    View.canon ((⟨Rect.unit ![2, 0] ![1, 1024] inb_S3x1024_S1x1024_2_0, v2⟩ : View.Piece (Elt 𝕀) S3x1024 .f32) ::
      ⟨Rect.unit ![1, 0] ![1, 1024] inb_S3x1024_S1x1024_1_0, v1⟩ :: ⟨Rect.unit ![0, 0] ![1, 1024] inb_S3x1024_S1x1024_0_0, v0⟩ :: L) = G := by
  funext y
  have pc : View.PiecesOf G [(⟨Rect.unit ![2, 0] ![1, 1024] inb_S3x1024_S1x1024_2_0, v2⟩ : View.Piece (Elt 𝕀) S3x1024 .f32),
      ⟨Rect.unit ![1, 0] ![1, 1024] inb_S3x1024_S1x1024_1_0, v1⟩, ⟨Rect.unit ![0, 0] ![1, 1024] inb_S3x1024_S1x1024_0_0, v0⟩] := by
    refine ⟨fun x => ?_, fun x => ?_, fun x => ?_, trivial⟩
    · obtain ⟨r, l, rfl⟩ := split2 (n := 1) (k := 1024) x
      obtain rfl : r = 0 := Subsingleton.elim _ _
      refine (h2 l).trans (congrArg G (funext fun a => ?_))
      match a with
      | ⟨0, _⟩ => exact Fin.ext (by show 2 = 2 + 1 * 0; omega)
      | ⟨1, _⟩ => exact Fin.ext (by show l.val = 0 + 1 * l.val; omega)
    · obtain ⟨r, l, rfl⟩ := split2 (n := 1) (k := 1024) x
      obtain rfl : r = 0 := Subsingleton.elim _ _
      refine (h1 l).trans (congrArg G (funext fun a => ?_))
      match a with
      | ⟨0, _⟩ => exact Fin.ext (by show 1 = 1 + 1 * 0; omega)
      | ⟨1, _⟩ => exact Fin.ext (by show l.val = 0 + 1 * l.val; omega)
    · obtain ⟨r, l, rfl⟩ := split2 (n := 1) (k := 1024) x
      obtain rfl : r = 0 := Subsingleton.elim _ _
      refine (h0 l).trans (congrArg G (funext fun a => ?_))
      match a with
      | ⟨0, _⟩ => exact Fin.ext (by show 0 = 0 + 1 * 0; omega)
      | ⟨1, _⟩ => exact Fin.ext (by show l.val = 0 + 1 * l.val; omega)
  have b0 : (y 0).val < 3 := (y 0).isLt
  have b1 : (y 1).val < 1024 := (y 1).isLt
  refine View.canon_append_of_piecesOf G L [(⟨Rect.unit ![2, 0] ![1, 1024] inb_S3x1024_S1x1024_2_0, v2⟩ : View.Piece (Elt 𝕀) S3x1024 .f32),
      ⟨Rect.unit ![1, 0] ![1, 1024] inb_S3x1024_S1x1024_1_0, v1⟩, ⟨Rect.unit ![0, 0] ![1, 1024] inb_S3x1024_S1x1024_0_0, v0⟩] pc y ?_
  rcases (by omega : (y 0).val = 2 ∨ (y 0).val = 1 ∨ (y 0).val = 0) with h | h | h
  · refine ⟨⟨Rect.unit ![2, 0] ![1, 1024] inb_S3x1024_S1x1024_2_0, v2⟩, List.mem_cons_self, (Rect.mem_set_unit (inb := inb_S3x1024_S1x1024_2_0)).2 fun a => ?_⟩
    match a with
    | ⟨0, _⟩ => exact ⟨by show 2 ≤ (y 0).val; omega, by show (y 0).val < 2 + 1; omega⟩
    | ⟨1, _⟩ => exact ⟨Nat.zero_le _, by show (y 1).val < 0 + 1024; omega⟩
  · refine ⟨⟨Rect.unit ![1, 0] ![1, 1024] inb_S3x1024_S1x1024_1_0, v1⟩, List.mem_cons_of_mem _ List.mem_cons_self, (Rect.mem_set_unit (inb := inb_S3x1024_S1x1024_1_0)).2 fun a => ?_⟩
    match a with
    | ⟨0, _⟩ => exact ⟨by show 1 ≤ (y 0).val; omega, by show (y 0).val < 1 + 1; omega⟩
    | ⟨1, _⟩ => exact ⟨Nat.zero_le _, by show (y 1).val < 0 + 1024; omega⟩
  · refine ⟨⟨Rect.unit ![0, 0] ![1, 1024] inb_S3x1024_S1x1024_0_0, v0⟩, List.mem_cons_of_mem _ (List.mem_cons_of_mem _ List.mem_cons_self), (Rect.mem_set_unit (inb := inb_S3x1024_S1x1024_0_0)).2 fun a => ?_⟩
    match a with
    | ⟨0, _⟩ => exact ⟨by show 0 ≤ (y 0).val; omega, by show (y 0).val < 0 + 1; omega⟩
    | ⟨1, _⟩ => exact ⟨Nat.zero_le _, by show (y 1).val < 0 + 1024; omega⟩

/-! ## The body's arithmetic -/

theorem pay0_apply (x0 : Vec 𝕀 S256x1024 .bf16) (f0 f1 f2 : Vec 𝕀 S256x1024 .f32) (w0 w1 w2 : Vec 𝕀 S1x1024 .f32) (r : Fin 256) (l : Fin 1024) :
    k0_pay1 (k0_pay21 (k0_pay7 x0) (k0_pay17 f0 w0 f1 w1) f2 w2) (ix3 (0 : Fin 1) r l)
      = x0 (ix2 r l) * (w0 (ix2 (0 : Fin 1) l) * f0 (ix2 r l) + w1 (ix2 (0 : Fin 1) l) * f1 (ix2 r l) + w2 (ix2 (0 : Fin 1) l) * f2 (ix2 r l)) := by
  pointwise [k0_pay1, k0_pay21, k0_pay7, k0_pay17]

theorem pay1_apply (x5 : Vec 𝕀 S256x1024 .bf16) (f0 f1 f2 : Vec 𝕀 S256x1024 .f32) (w0 w1 w2 : Vec 𝕀 S1x1024 .f32) (r : Fin 256) (l : Fin 1024) :
    k0_pay2 (k0_pay6 x5) (k0_pay19 (k0_pay15 w0 f0) w1 f1 w2 f2) (ix3 (0 : Fin 1) r l)
      = (w0 (ix2 (0 : Fin 1) l) * f0 (ix2 r l) + w1 (ix2 (0 : Fin 1) l) * f1 (ix2 r l) + w2 (ix2 (0 : Fin 1) l) * f2 (ix2 r l)) * x5 (ix2 r l) := by
  pointwise [k0_pay2, k0_pay6, k0_pay19, k0_pay15]

theorem pay2_apply (x4 : Vec 𝕀 S256x1024 .bf16) (f0 f1 f2 : Vec 𝕀 S256x1024 .f32) (w0 w1 w2 : Vec 𝕀 S1x1024 .f32) (r : Fin 256) (l : Fin 1024) :
    k0_pay3 (k0_pay5 x4) (k0_pay19 (k0_pay15 w0 f0) w1 f1 w2 f2) (ix3 (0 : Fin 1) r l)
      = (w0 (ix2 (0 : Fin 1) l) * f0 (ix2 r l) + w1 (ix2 (0 : Fin 1) l) * f1 (ix2 r l) + w2 (ix2 (0 : Fin 1) l) * f2 (ix2 r l)) * x4 (ix2 r l) := by
  pointwise [k0_pay3, k0_pay5, k0_pay19, k0_pay15]

theorem pay4_apply (v : Vec 𝕀 S1x256x1024 .bf16) (r : Fin 256) (l : Fin 1024) : k0_pay4 v (ix2 r l) = v (ix3 (0 : Fin 1) r l) := by
  pointwise [k0_pay4]

theorem pay9_apply (u v : Vec 𝕀 S256x1024 .bf16) (r : Fin 256) (l : Fin 1024) : k0_pay9 u v (ix2 r l) = u (ix2 r l) * v (ix2 r l) := by
  pointwise [k0_pay9, k0_pay5, k0_pay6]

theorem pay12_apply (u v : Vec 𝕀 S256x1024 .bf16) (r : Fin 256) (l : Fin 1024) : k0_pay12 u v (ix2 r l) = v (ix2 r l) * u (ix2 r l) := by
  pointwise [k0_pay12, k0_pay10, k0_pay7]

theorem pay14_apply (k : Fin 3) (l : Fin 1024) : k0_pay14 (F := 𝕀) (ix2 k l) = 0 := by
  pointwise [k0_pay14]

theorem pay16_apply (u v : Vec 𝕀 S256x1024 .bf16) (f : Vec 𝕀 S256x1024 .f32) (z : Vec 𝕀 S1x1024 .f32) (l : Fin 1024) :
    k0_pay16 (k0_pay10 u v) f z (ix2 (0 : Fin 1) l) = z (ix2 (0 : Fin 1) l) + ∑ r : Fin 256, v (ix2 r l) * u (ix2 r l) * f (ix2 r l) := by
  pointwise [k0_pay16, k0_pay10, k0_pay7]

theorem pay18_apply (u v : Vec 𝕀 S256x1024 .bf16) (f : Vec 𝕀 S256x1024 .f32) (z : Vec 𝕀 S1x1024 .f32) (l : Fin 1024) :
    k0_pay18 (k0_pay10 u v) f z (ix2 (0 : Fin 1) l) = z (ix2 (0 : Fin 1) l) + ∑ r : Fin 256, v (ix2 r l) * u (ix2 r l) * f (ix2 r l) := by
  pointwise [k0_pay18, k0_pay10, k0_pay7]

theorem pay20_apply (u v : Vec 𝕀 S256x1024 .bf16) (f : Vec 𝕀 S256x1024 .f32) (z : Vec 𝕀 S1x1024 .f32) (l : Fin 1024) :
    k0_pay20 (k0_pay10 u v) f z (ix2 (0 : Fin 1) l) = z (ix2 (0 : Fin 1) l) + ∑ r : Fin 256, v (ix2 r l) * u (ix2 r l) * f (ix2 r l) := by
  pointwise [k0_pay20, k0_pay10, k0_pay7]

theorem whole_zero (y : S3x1024.Idx) : View.canon [(⟨Rect.unit ![0, 0] ![3, 1024] inb_S3x1024_S3x1024_0_0, k0_pay14 (F := 𝕀)⟩ : View.Piece (Elt 𝕀) S3x1024 .f32)] y = 0 := by
  refine (congrFun (View.canon_cons_unit_lit' (Val := Elt 𝕀) (e := .f32) (S := S3x1024) inb_S3x1024_S3x1024_0_0 (k0_pay14 (F := 𝕀)) [] (by decide)) y).trans ?_
  obtain ⟨k, l, rfl⟩ := split2 (n := 3) (k := 1024) y
  exact pay14_apply k l

theorem start1 (v : Vec 𝕀 S1x1024 .f32) (y : S3x1024.Idx) (h0 : ¬(y 0).val = 0) :
    View.canon [(⟨Rect.unit ![0, 0] ![1, 1024] inb_S3x1024_S1x1024_0_0, v⟩ : View.Piece (Elt 𝕀) S3x1024 .f32), (⟨Rect.unit ![0, 0] ![3, 1024] inb_S3x1024_S3x1024_0_0, k0_pay14 (F := 𝕀)⟩ : View.Piece (Elt 𝕀) S3x1024 .f32)] y = 0 :=
  (View.canon_cons_of_not_mem _ _ (fun m => h0 (by have := ((Rect.mem_set_unit (inb := inb_S3x1024_S1x1024_0_0)).1 m) 0; revert this; show 0 ≤ (y 0).val ∧ (y 0).val < 0 + 1 → (y 0).val = 0; omega))).trans (whole_zero y)

theorem start2 (u v : Vec 𝕀 S1x1024 .f32) (y : S3x1024.Idx) (h0 : ¬(y 0).val = 0) (h1 : ¬(y 0).val = 1) :
    View.canon [(⟨Rect.unit ![1, 0] ![1, 1024] inb_S3x1024_S1x1024_1_0, u⟩ : View.Piece (Elt 𝕀) S3x1024 .f32), ⟨Rect.unit ![0, 0] ![1, 1024] inb_S3x1024_S1x1024_0_0, v⟩, (⟨Rect.unit ![0, 0] ![3, 1024] inb_S3x1024_S3x1024_0_0, k0_pay14 (F := 𝕀)⟩ : View.Piece (Elt 𝕀) S3x1024 .f32)] y = 0 :=
  (View.canon_cons_of_not_mem _ _ (fun m => h1 (by have := ((Rect.mem_set_unit (inb := inb_S3x1024_S1x1024_1_0)).1 m) 0; revert this; show 1 ≤ (y 0).val ∧ (y 0).val < 1 + 1 → (y 0).val = 1; omega))).trans (start1 v y h0)

/-- The rows before a band count as zero at the first band. -/
theorem halo_before (t : Fin grid0.N) (u v : Vec 𝕀 S32x1024 .bf16) (r : Fin 32) (l : Fin 1024) :
    k0_pay8 (BitVec.ofNat 32 (grid0.coords t 0).val) u v (ix2 r l) = if t.val / 3 = 0 then 0 else u (ix2 r l) * v (ix2 r l) := by
  have e : Scalar.cmpi .sgt (BitVec.ofNat 32 (grid0.coords t 0).val) 0#32 = if t.val / 3 = 0 then 0#1 else 1#1 :=
    (by decide +kernel : ∀ t : Fin grid0.N,
      Scalar.cmpi .sgt (BitVec.ofNat 32 (grid0.coords t 0).val) 0#32 = if t.val / 3 = 0 then 0#1 else 1#1) t
  rw [k0_pay8]
  dsimp only
  rw [e]
  split
  · pointwise []
  · pointwise []

/-- The rows after a band count as zero at the last band. -/
theorem halo_after (t : Fin grid0.N) (u v : Vec 𝕀 S32x1024 .bf16) (r : Fin 32) (l : Fin 1024) :
    k0_pay13 (BitVec.ofNat 32 (grid0.coords t 0).val) (k0_pay11 u v) 31#32 (ix2 r l) = if t.val / 3 < 31 then u (ix2 r l) * v (ix2 r l) else 0 := by
  have e : Scalar.cmpi .slt (BitVec.ofNat 32 (grid0.coords t 0).val) 31#32 = if t.val / 3 < 31 then 1#1 else 0#1 :=
    (by decide +kernel : ∀ t : Fin grid0.N,
      Scalar.cmpi .slt (BitVec.ofNat 32 (grid0.coords t 0).val) 31#32 = if t.val / 3 < 31 then 1#1 else 0#1) t
  rw [k0_pay13]
  dsimp only
  rw [e]
  split
  · pointwise [k0_pay11]
  · pointwise []

/-! ## The blocks a point (i, 0) leaves -/

section Block

variable (i : grid0.Coords) (x0 : Vec 𝕀 S256x1024 .bf16) (x1 : Vec 𝕀 S32x1024 .bf16) (x2 : Vec 𝕀 S256x1024 .bf16) (x3 : Vec 𝕀 S32x1024 .bf16)
  (x4 x5 : Vec 𝕀 S256x1024 .bf16) (x6 x7 : Vec 𝕀 S32x1024 .bf16) (w : Vec 𝕀 S3x1024 .f32)

/-- The rows convolved, from 32 before the band. -/
def pbuf : Vec 𝕀 S288x1024 .f32 := bufP (k0_pay8 (BitVec.ofNat 32 (i 0).val) x6 x7) (k0_pay9 x4 x5)

/-- The convolution's gradient, to 32 rows past the band. -/
def dbuf : Vec 𝕀 S288x1024 .f32 := bufD (k0_pay12 x2 x0) (k0_pay13 (BitVec.ofNat 32 (i 0).val) (k0_pay11 x1 x3) 31#32)

theorem pbuf_eq : View.canon [(⟨Rect.unit ![32, 0] ![256, 1024] inb_S288x1024_S256x1024_32_0, k0_pay9 x4 x5⟩ : View.Piece (Elt 𝕀) S288x1024 .f32),
      ⟨Rect.unit ![0, 0] ![32, 1024] inb_S288x1024_S32x1024_0_0, k0_pay8 (BitVec.ofNat 32 (i 0).val) x6 x7⟩] = pbuf i x4 x5 x6 x7 :=
  bufP_eq _ _

theorem dbuf_eq : View.canon [(⟨Rect.unit ![256, 0] ![32, 1024] inb_S288x1024_S32x1024_256_0, k0_pay13 (BitVec.ofNat 32 (i 0).val) (k0_pay11 x1 x3) 31#32⟩ : View.Piece (Elt 𝕀) S288x1024 .f32),
      ⟨Rect.unit ![0, 0] ![256, 1024] inb_S288x1024_S256x1024_0_0, k0_pay12 x2 x0⟩] = dbuf i x0 x1 x2 x3 :=
  bufD_eq _ _

/-- A band convolved. -/
def convB (p : Vec 𝕀 S288x1024 .f32) (w : Vec 𝕀 S3x1024 .f32) (r : Fin 256) (l : Fin 1024) : EReal :=
  w (ix2 (0 : Fin 3) l) * p (ix2 (⟨30 + r.val, by omega⟩ : Fin 288) l) + w (ix2 (1 : Fin 3) l) * p (ix2 (⟨31 + r.val, by omega⟩ : Fin 288) l)
    + w (ix2 (2 : Fin 3) l) * p (ix2 (⟨32 + r.val, by omega⟩ : Fin 288) l)

/-- A band of the convolution's transpose. -/
def convTB (q : Vec 𝕀 S288x1024 .f32) (w : Vec 𝕀 S3x1024 .f32) (r : Fin 256) (l : Fin 1024) : EReal :=
  w (ix2 (0 : Fin 3) l) * q (ix2 (⟨2 + r.val, by omega⟩ : Fin 288) l) + w (ix2 (1 : Fin 3) l) * q (ix2 (⟨1 + r.val, by omega⟩ : Fin 288) l)
    + w (ix2 (2 : Fin 3) l) * q (ix2 (⟨0 + r.val, by omega⟩ : Fin 288) l)

/-- The three blocks kept. -/
def kept : Vec 𝕀 S3x256x1024 .bf16 := fun y =>
  if (y 0).val = 0 then x0 (ix2 (y 1) (y 2)) * convB (pbuf i x4 x5 x6 x7) w (y 1) (y 2)
  else if (y 0).val = 1 then convTB (dbuf i x0 x1 x2 x3) w (y 1) (y 2) * x5 (ix2 (y 1) (y 2))
  else convTB (dbuf i x0 x1 x2 x3) w (y 1) (y 2) * x4 (ix2 (y 1) (y 2))

/-- What a band adds to the gradient of tap `k`. -/
def tapB (k : Fin 3) (l : Fin 1024) : EReal :=
  ∑ r : Fin 256, x0 (ix2 r l) * x2 (ix2 r l) * pbuf i x4 x5 x6 x7 (ix2 (⟨30 + k.val + r.val, by omega⟩ : Fin 288) l)

theorem kept_canon (w0 : Vec 𝕀 S1x1024 .f32) (hw0 : ∀ l : Fin 1024, w0 (ix2 (0 : Fin 1) l) = w (ix2 (⟨0, by omega⟩ : Fin 3) l))
    (w1 : Vec 𝕀 S1x1024 .f32) (hw1 : ∀ l : Fin 1024, w1 (ix2 (0 : Fin 1) l) = w (ix2 (⟨1, by omega⟩ : Fin 3) l))
    (w2 : Vec 𝕀 S1x1024 .f32) (hw2 : ∀ l : Fin 1024, w2 (ix2 (0 : Fin 1) l) = w (ix2 (⟨2, by omega⟩ : Fin 3) l))
   (p0 : Vec 𝕀 S256x1024 .f32) (hp0 : ∀ (r : Fin 256) (l : Fin 1024), p0 (ix2 r l) = pbuf i x4 x5 x6 x7 (ix2 (⟨30 + r.val, by omega⟩ : Fin 288) l))
    (p1 : Vec 𝕀 S256x1024 .f32) (hp1 : ∀ (r : Fin 256) (l : Fin 1024), p1 (ix2 r l) = pbuf i x4 x5 x6 x7 (ix2 (⟨31 + r.val, by omega⟩ : Fin 288) l))
    (p2 : Vec 𝕀 S256x1024 .f32) (hp2 : ∀ (r : Fin 256) (l : Fin 1024), p2 (ix2 r l) = pbuf i x4 x5 x6 x7 (ix2 (⟨32 + r.val, by omega⟩ : Fin 288) l))
   (q0 : Vec 𝕀 S256x1024 .f32) (hq0 : ∀ (r : Fin 256) (l : Fin 1024), q0 (ix2 r l) = dbuf i x0 x1 x2 x3 (ix2 (⟨0 + r.val, by omega⟩ : Fin 288) l))
    (q1 : Vec 𝕀 S256x1024 .f32) (hq1 : ∀ (r : Fin 256) (l : Fin 1024), q1 (ix2 r l) = dbuf i x0 x1 x2 x3 (ix2 (⟨1 + r.val, by omega⟩ : Fin 288) l))
    (q2 : Vec 𝕀 S256x1024 .f32) (hq2 : ∀ (r : Fin 256) (l : Fin 1024), q2 (ix2 r l) = dbuf i x0 x1 x2 x3 (ix2 (⟨2 + r.val, by omega⟩ : Fin 288) l))
    :
    View.canon [(⟨Rect.unit ![2, 0, 0] ![1, 256, 1024] inb_S3x256x1024_S1x256x1024_2_0_0, k0_pay3 (k0_pay5 x4) (k0_pay19 (k0_pay15 w0 q2) w1 q1 w2 q0)⟩ : View.Piece (Elt 𝕀) S3x256x1024 .bf16),
      ⟨Rect.unit ![1, 0, 0] ![1, 256, 1024] inb_S3x256x1024_S1x256x1024_1_0_0, k0_pay2 (k0_pay6 x5) (k0_pay19 (k0_pay15 w0 q2) w1 q1 w2 q0)⟩,
      ⟨Rect.unit ![0, 0, 0] ![1, 256, 1024] inb_zero, k0_pay1 (k0_pay21 (k0_pay7 x0) (k0_pay17 p0 w0 p1 w1) p2 w2)⟩]
      = kept i x0 x1 x2 x3 x4 x5 x6 x7 w := by
  refine kept_eq _ _ _ _ (fun r l => ?_) (fun r l => ?_) (fun r l => ?_)
  · refine (pay0_apply _ _ _ _ _ _ _ r l).trans ?_
    rw [hw0, hw1, hw2, hp0, hp1, hp2]
    rfl
  · refine (pay1_apply _ _ _ _ _ _ _ r l).trans ?_
    rw [hw0, hw1, hw2, hq0, hq1, hq2]
    rfl
  · refine (pay2_apply _ _ _ _ _ _ _ r l).trans ?_
    rw [hw0, hw1, hw2, hq0, hq1, hq2]
    rfl

theorem taps_canon (z : Vec 𝕀 S3x1024 .f32) (z0 : Vec 𝕀 S1x1024 .f32) (hz0 : ∀ l : Fin 1024, z0 (ix2 (0 : Fin 1) l) = z (ix2 (⟨0, by omega⟩ : Fin 3) l))
    (z1 : Vec 𝕀 S1x1024 .f32) (hz1 : ∀ l : Fin 1024, z1 (ix2 (0 : Fin 1) l) = z (ix2 (⟨1, by omega⟩ : Fin 3) l))
    (z2 : Vec 𝕀 S1x1024 .f32) (hz2 : ∀ l : Fin 1024, z2 (ix2 (0 : Fin 1) l) = z (ix2 (⟨2, by omega⟩ : Fin 3) l))
   (p0 : Vec 𝕀 S256x1024 .f32) (hp0 : ∀ (r : Fin 256) (l : Fin 1024), p0 (ix2 r l) = pbuf i x4 x5 x6 x7 (ix2 (⟨30 + r.val, by omega⟩ : Fin 288) l))
    (p1 : Vec 𝕀 S256x1024 .f32) (hp1 : ∀ (r : Fin 256) (l : Fin 1024), p1 (ix2 r l) = pbuf i x4 x5 x6 x7 (ix2 (⟨31 + r.val, by omega⟩ : Fin 288) l))
    (p2 : Vec 𝕀 S256x1024 .f32) (hp2 : ∀ (r : Fin 256) (l : Fin 1024), p2 (ix2 r l) = pbuf i x4 x5 x6 x7 (ix2 (⟨32 + r.val, by omega⟩ : Fin 288) l))
   (L : List (View.Piece (Elt 𝕀) S3x1024 .f32)) :
    View.canon ((⟨Rect.unit ![2, 0] ![1, 1024] inb_S3x1024_S1x1024_2_0, k0_pay20 (k0_pay10 x2 x0) p2 z2⟩ : View.Piece (Elt 𝕀) S3x1024 .f32) ::
      ⟨Rect.unit ![1, 0] ![1, 1024] inb_S3x1024_S1x1024_1_0, k0_pay18 (k0_pay10 x2 x0) p1 z1⟩ :: ⟨Rect.unit ![0, 0] ![1, 1024] inb_S3x1024_S1x1024_0_0, k0_pay16 (k0_pay10 x2 x0) p0 z0⟩ :: L)
      = fun y => z y + tapB i x0 x2 x4 x5 x6 x7 (y 0) (y 1) := by
  refine taps_eq _ _ _ L _ (fun l => ?_) (fun l => ?_) (fun l => ?_)
  · exact (pay16_apply x2 x0 _ _ l).trans (congrArg₂ (· + ·) (hz0 l) (Finset.sum_congr rfl fun r _ => congrArg (x0 (ix2 r l) * x2 (ix2 r l) * ·) (hp0 r l)))
  · exact (pay18_apply x2 x0 _ _ l).trans (congrArg₂ (· + ·) (hz1 l) (Finset.sum_congr rfl fun r _ => congrArg (x0 (ix2 r l) * x2 (ix2 r l) * ·) (hp1 r l)))
  · exact (pay20_apply x2 x0 _ _ l).trans (congrArg₂ (· + ·) (hz2 l) (Finset.sum_congr rfl fun r _ => congrArg (x0 (ix2 r l) * x2 (ix2 r l) * ·) (hp2 r l)))
variable (c : Dev nD)
variable
  {b0 : Memref sig .tc .vmem S256x1024 .bf16} {hb0 : b0.IsWhole}
  {b1 : Memref sig .tc .vmem S32x1024 .bf16} {hb1 : b1.IsWhole}
  {b2 : Memref sig .tc .vmem S256x1024 .bf16} {hb2 : b2.IsWhole}
  {b3 : Memref sig .tc .vmem S32x1024 .bf16} {hb3 : b3.IsWhole}
  {b4 : Memref sig .tc .vmem S256x1024 .bf16} {hb4 : b4.IsWhole}
  {b5 : Memref sig .tc .vmem S256x1024 .bf16} {hb5 : b5.IsWhole}
  {b6 : Memref sig .tc .vmem S32x1024 .bf16} {hb6 : b6.IsWhole}
  {b7 : Memref sig .tc .vmem S32x1024 .bf16} {hb7 : b7.IsWhole}
  {b8 : Memref sig .tc .vmem S3x1024 .f32} {hb8 : b8.IsWhole}
  {b9 : Memref sig .tc .vmem S256x1024 .bf16} {hb9 : b9.IsWhole}
  {b10 : Memref sig .tc .vmem S3x1024 .f32} {hb10 : b10.IsWhole}
  {b11 : Memref sig .tc .vmem S288x1024 .f32} {hb11 : b11.IsWhole}
  {b12 : Memref sig .tc .vmem S288x1024 .f32} {hb12 : b12.IsWhole}
  {b13 : Memref sig .tc .vmem S3x256x1024 .bf16} {hb13 : b13.IsWhole}

theorem kept_A (hc : k0_cond1 i = 1#1) (hd : k0_cond2 i = 1#1) : View.canon (runA c i b0 hb0 b1 hb1 b2 hb2 b3 hb3 b4 hb4 b5 hb5 b6 hb6 b7 hb7 b8 hb8 b9 hb9 b10 hb10 b11 hb11 b12 hb12 b13 hb13 hc hd x0 x1 x2 x3 x4 x5 x6 x7 w).2.2.2.2.1 = kept i x0 x1 x2 x3 x4 x5 x6 x7 w := by
  unfold runA
  dsimp only
  frame_out
  simp only [View.readCov_eq_canon', View.canon_cons_unit_lit', pbuf_eq, dbuf_eq]
  exact kept_canon i x0 x1 x2 x3 x4 x5 x6 x7 w _ (fun l => ld_rows w 0 _ 0 l ⟨0, by omega⟩ rfl) _ (fun l => ld_rows w 1 _ 0 l ⟨1, by omega⟩ rfl) _ (fun l => ld_rows w 2 _ 0 l ⟨2, by omega⟩ rfl)
    _ (fun r l => ld_rows (pbuf i x4 x5 x6 x7) 30 inb_S288x1024_S256x1024_30_0 r l ⟨30 + r.val, by omega⟩ rfl) _ (fun r l => ld_rows (pbuf i x4 x5 x6 x7) 31 inb_S288x1024_S256x1024_31_0 r l ⟨31 + r.val, by omega⟩ rfl) _ (fun r l => ld_rows (pbuf i x4 x5 x6 x7) 32 inb_S288x1024_S256x1024_32_0 r l ⟨32 + r.val, by omega⟩ rfl)
    _ (fun r l => ld_rows (dbuf i x0 x1 x2 x3) 0 inb_S288x1024_S256x1024_0_0 r l ⟨0 + r.val, by omega⟩ rfl) _ (fun r l => ld_rows (dbuf i x0 x1 x2 x3) 1 inb_S288x1024_S256x1024_1_0 r l ⟨1 + r.val, by omega⟩ rfl) _ (fun r l => ld_rows (dbuf i x0 x1 x2 x3) 2 inb_S288x1024_S256x1024_2_0 r l ⟨2 + r.val, by omega⟩ rfl)

theorem block_A (hc : k0_cond1 i = 1#1) (hd : k0_cond2 i = 1#1) : View.canon (runA c i b0 hb0 b1 hb1 b2 hb2 b3 hb3 b4 hb4 b5 hb5 b6 hb6 b7 hb7 b8 hb8 b9 hb9 b10 hb10 b11 hb11 b12 hb12 b13 hb13 hc hd x0 x1 x2 x3 x4 x5 x6 x7 w).1 = fun y => kept i x0 x1 x2 x3 x4 x5 x6 x7 w (ix3 (0 : Fin 3) (y 0) (y 1)) := by
  unfold runA
  dsimp only
  frame_out
  simp only [View.readCov_eq_canon', View.canon_cons_unit_lit', pbuf_eq, dbuf_eq]
  funext y
  obtain ⟨r, l, rfl⟩ := split2 (n := 256) (k := 1024) y
  refine (pay4_apply _ r l).trans ((congrFun (kept_canon i x0 x1 x2 x3 x4 x5 x6 x7 w _ (fun l => ld_rows w 0 _ 0 l ⟨0, by omega⟩ rfl) _ (fun l => ld_rows w 1 _ 0 l ⟨1, by omega⟩ rfl) _ (fun l => ld_rows w 2 _ 0 l ⟨2, by omega⟩ rfl)
    _ (fun r l => ld_rows (pbuf i x4 x5 x6 x7) 30 inb_S288x1024_S256x1024_30_0 r l ⟨30 + r.val, by omega⟩ rfl) _ (fun r l => ld_rows (pbuf i x4 x5 x6 x7) 31 inb_S288x1024_S256x1024_31_0 r l ⟨31 + r.val, by omega⟩ rfl) _ (fun r l => ld_rows (pbuf i x4 x5 x6 x7) 32 inb_S288x1024_S256x1024_32_0 r l ⟨32 + r.val, by omega⟩ rfl)
    _ (fun r l => ld_rows (dbuf i x0 x1 x2 x3) 0 inb_S288x1024_S256x1024_0_0 r l ⟨0 + r.val, by omega⟩ rfl) _ (fun r l => ld_rows (dbuf i x0 x1 x2 x3) 1 inb_S288x1024_S256x1024_1_0 r l ⟨1 + r.val, by omega⟩ rfl) _ (fun r l => ld_rows (dbuf i x0 x1 x2 x3) 2 inb_S288x1024_S256x1024_2_0 r l ⟨2 + r.val, by omega⟩ rfl)) _).trans (congrArg (kept i x0 x1 x2 x3 x4 x5 x6 x7 w) (funext fun a => ?_)))
  match a with
  | ⟨0, _⟩ => rfl
  | ⟨1, _⟩ => exact Fin.ext (by show 0 + 1 * r.val = r.val; omega)
  | ⟨2, _⟩ => exact Fin.ext (by show 0 + 1 * l.val = l.val; omega)

theorem taps_A (hc : k0_cond1 i = 1#1) (hd : k0_cond2 i = 1#1) : View.canon (runA c i b0 hb0 b1 hb1 b2 hb2 b3 hb3 b4 hb4 b5 hb5 b6 hb6 b7 hb7 b8 hb8 b9 hb9 b10 hb10 b11 hb11 b12 hb12 b13 hb13 hc hd x0 x1 x2 x3 x4 x5 x6 x7 w).2.1 = fun y => tapB i x0 x2 x4 x5 x6 x7 (y 0) (y 1) := by
  unfold runA
  dsimp only
  frame_out
  simp only [View.readCov_eq_canon', View.canon_cons_unit_lit', pbuf_eq, dbuf_eq]
  exact (taps_canon i x0 x2 x4 x5 x6 x7 (fun _ => 0) _ (fun l => whole_zero _) _ (fun l => start1 _ _ (by show ¬1 + 1 * 0 = 0; omega)) _ (fun l => start2 _ _ _ (by show ¬2 + 1 * 0 = 0; omega) (by show ¬2 + 1 * 0 = 1; omega))
    _ (fun r l => ld_rows (pbuf i x4 x5 x6 x7) 30 inb_S288x1024_S256x1024_30_0 r l ⟨30 + r.val, by omega⟩ rfl) _ (fun r l => ld_rows (pbuf i x4 x5 x6 x7) 31 inb_S288x1024_S256x1024_31_0 r l ⟨31 + r.val, by omega⟩ rfl) _ (fun r l => ld_rows (pbuf i x4 x5 x6 x7) 32 inb_S288x1024_S256x1024_32_0 r l ⟨32 + r.val, by omega⟩ rfl) _).trans (funext fun y => zero_add _)

theorem kept_B (hc : k0_cond1 i = 1#1) (hd : ¬k0_cond2 i = 1#1) (z : Vec 𝕀 S3x1024 .f32) : View.canon (runB c i b0 hb0 b1 hb1 b2 hb2 b3 hb3 b4 hb4 b5 hb5 b6 hb6 b7 hb7 b8 hb8 b9 hb9 b10 hb10 b11 hb11 b12 hb12 b13 hb13 hc hd x0 x1 x2 x3 x4 x5 x6 x7 w z).2.2.2.2.1 = kept i x0 x1 x2 x3 x4 x5 x6 x7 w := by
  unfold runB
  dsimp only
  frame_out
  simp only [View.readCov_eq_canon', View.canon_cons_unit_lit', pbuf_eq, dbuf_eq]
  exact kept_canon i x0 x1 x2 x3 x4 x5 x6 x7 w _ (fun l => ld_rows w 0 _ 0 l ⟨0, by omega⟩ rfl) _ (fun l => ld_rows w 1 _ 0 l ⟨1, by omega⟩ rfl) _ (fun l => ld_rows w 2 _ 0 l ⟨2, by omega⟩ rfl)
    _ (fun r l => ld_rows (pbuf i x4 x5 x6 x7) 30 inb_S288x1024_S256x1024_30_0 r l ⟨30 + r.val, by omega⟩ rfl) _ (fun r l => ld_rows (pbuf i x4 x5 x6 x7) 31 inb_S288x1024_S256x1024_31_0 r l ⟨31 + r.val, by omega⟩ rfl) _ (fun r l => ld_rows (pbuf i x4 x5 x6 x7) 32 inb_S288x1024_S256x1024_32_0 r l ⟨32 + r.val, by omega⟩ rfl)
    _ (fun r l => ld_rows (dbuf i x0 x1 x2 x3) 0 inb_S288x1024_S256x1024_0_0 r l ⟨0 + r.val, by omega⟩ rfl) _ (fun r l => ld_rows (dbuf i x0 x1 x2 x3) 1 inb_S288x1024_S256x1024_1_0 r l ⟨1 + r.val, by omega⟩ rfl) _ (fun r l => ld_rows (dbuf i x0 x1 x2 x3) 2 inb_S288x1024_S256x1024_2_0 r l ⟨2 + r.val, by omega⟩ rfl)

theorem block_B (hc : k0_cond1 i = 1#1) (hd : ¬k0_cond2 i = 1#1) (z : Vec 𝕀 S3x1024 .f32) : View.canon (runB c i b0 hb0 b1 hb1 b2 hb2 b3 hb3 b4 hb4 b5 hb5 b6 hb6 b7 hb7 b8 hb8 b9 hb9 b10 hb10 b11 hb11 b12 hb12 b13 hb13 hc hd x0 x1 x2 x3 x4 x5 x6 x7 w z).1 = fun y => kept i x0 x1 x2 x3 x4 x5 x6 x7 w (ix3 (0 : Fin 3) (y 0) (y 1)) := by
  unfold runB
  dsimp only
  frame_out
  simp only [View.readCov_eq_canon', View.canon_cons_unit_lit', pbuf_eq, dbuf_eq]
  funext y
  obtain ⟨r, l, rfl⟩ := split2 (n := 256) (k := 1024) y
  refine (pay4_apply _ r l).trans ((congrFun (kept_canon i x0 x1 x2 x3 x4 x5 x6 x7 w _ (fun l => ld_rows w 0 _ 0 l ⟨0, by omega⟩ rfl) _ (fun l => ld_rows w 1 _ 0 l ⟨1, by omega⟩ rfl) _ (fun l => ld_rows w 2 _ 0 l ⟨2, by omega⟩ rfl)
    _ (fun r l => ld_rows (pbuf i x4 x5 x6 x7) 30 inb_S288x1024_S256x1024_30_0 r l ⟨30 + r.val, by omega⟩ rfl) _ (fun r l => ld_rows (pbuf i x4 x5 x6 x7) 31 inb_S288x1024_S256x1024_31_0 r l ⟨31 + r.val, by omega⟩ rfl) _ (fun r l => ld_rows (pbuf i x4 x5 x6 x7) 32 inb_S288x1024_S256x1024_32_0 r l ⟨32 + r.val, by omega⟩ rfl)
    _ (fun r l => ld_rows (dbuf i x0 x1 x2 x3) 0 inb_S288x1024_S256x1024_0_0 r l ⟨0 + r.val, by omega⟩ rfl) _ (fun r l => ld_rows (dbuf i x0 x1 x2 x3) 1 inb_S288x1024_S256x1024_1_0 r l ⟨1 + r.val, by omega⟩ rfl) _ (fun r l => ld_rows (dbuf i x0 x1 x2 x3) 2 inb_S288x1024_S256x1024_2_0 r l ⟨2 + r.val, by omega⟩ rfl)) _).trans (congrArg (kept i x0 x1 x2 x3 x4 x5 x6 x7 w) (funext fun a => ?_)))
  match a with
  | ⟨0, _⟩ => rfl
  | ⟨1, _⟩ => exact Fin.ext (by show 0 + 1 * r.val = r.val; omega)
  | ⟨2, _⟩ => exact Fin.ext (by show 0 + 1 * l.val = l.val; omega)

theorem taps_B (hc : k0_cond1 i = 1#1) (hd : ¬k0_cond2 i = 1#1) (z : Vec 𝕀 S3x1024 .f32) : View.canon (runB c i b0 hb0 b1 hb1 b2 hb2 b3 hb3 b4 hb4 b5 hb5 b6 hb6 b7 hb7 b8 hb8 b9 hb9 b10 hb10 b11 hb11 b12 hb12 b13 hb13 hc hd x0 x1 x2 x3 x4 x5 x6 x7 w z).2.1 = fun y => z y + tapB i x0 x2 x4 x5 x6 x7 (y 0) (y 1) := by
  unfold runB
  dsimp only
  frame_out
  simp only [View.readCov_eq_canon', View.canon_cons_unit_lit', pbuf_eq, dbuf_eq]
  exact taps_canon i x0 x2 x4 x5 x6 x7 z _ (fun l => ld_rows z 0 _ 0 l ⟨0, by omega⟩ rfl) _ (fun l => ld_rows z 1 _ 0 l ⟨1, by omega⟩ rfl) _ (fun l => ld_rows z 2 _ 0 l ⟨2, by omega⟩ rfl)
    _ (fun r l => ld_rows (pbuf i x4 x5 x6 x7) 30 inb_S288x1024_S256x1024_30_0 r l ⟨30 + r.val, by omega⟩ rfl) _ (fun r l => ld_rows (pbuf i x4 x5 x6 x7) 31 inb_S288x1024_S256x1024_31_0 r l ⟨31 + r.val, by omega⟩ rfl) _ (fun r l => ld_rows (pbuf i x4 x5 x6 x7) 32 inb_S288x1024_S256x1024_32_0 r l ⟨32 + r.val, by omega⟩ rfl) []

theorem block_C (hc : ¬k0_cond1 i = 1#1) (v : Vec 𝕀 S3x256x1024 .bf16) (k : Fin 3) (hk : k0_off1 i = ![k.val, 0, 0]) :
    View.canon (runC c i b0 hb0 b1 hb1 b2 hb2 b3 hb3 b4 hb4 b5 hb5 b6 hb6 b7 hb7 b8 hb8 b9 hb9 b10 hb10 b11 hb11 b12 hb12 b13 hb13 hc v).1 = fun y => v (ix3 k (y 0) (y 1)) := by
  unfold runC
  dsimp only
  frame_out
  funext y
  obtain ⟨r, l, rfl⟩ := split2 (n := 256) (k := 1024) y
  refine (pay4_apply _ r l).trans (congrArg v (funext fun a => ?_))
  have e0 : k0_off1 i 0 = k.val := congrFun hk 0
  have e1 : k0_off1 i 1 = 0 := congrFun hk 1
  have e2 : k0_off1 i 2 = 0 := congrFun hk 2
  match a with
  | ⟨0, _⟩ => exact Fin.ext (by show k0_off1 i 0 + 1 * 0 = k.val; omega)
  | ⟨1, _⟩ => exact Fin.ext (by show k0_off1 i 1 + 1 * r.val = r.val; omega)
  | ⟨2, _⟩ => exact Fin.ext (by show k0_off1 i 2 + 1 * l.val = l.val; omega)

end Block

end Cert.BranchBBwdIdeal.Val

end
-- ==== Proof.BranchBBwdValue.lean ====
/-
  The backward call of the short convolution: what the kernel leaves, that it is the gradient, and that the reference's
  results are the same.
-/
module

public import proofs.«01_k».proof.Proof.BranchBBwdBlock

@[expose] public section

set_option maxRecDepth 16384

noncomputable section

namespace Cert.BranchBBwdIdeal.Val

open Cert.BranchBBwdIdeal Cert.BranchBBwdIdeal.Gen Cert.BranchBBwdIdeal.Body Cert.Mm Cert.Conv
open Cert.BranchBFwdIdeal.Val (prods)
open Cert.BranchBBwdRefIdeal.Val (ahead ahead_of_lt ahead_of_ge convT du dpart dcols dtap dtaps)
open Idealize.ShloMosaic Idealize.ShloMosaic.TcCoe Idealize.SL.Sem

local notation "𝕀" => Idealize.ShloMosaic.Ideal

variable (m : (ℓ : Loc nD τ sig) → Buf (Elt 𝕀) ℓ) (c : Dev nD)

/-- The arguments on device `c`. -/
abbrev X0 : Vec 𝕀 S8192x12288 .bf16 := m ((c : Thread nD τ).loc main_arg0)
abbrev X1 : Vec 𝕀 S8192x1024 .bf16 := m ((c : Thread nD τ).loc main_arg1)
abbrev X2 : Vec 𝕀 S8192x12288 .bf16 := m ((c : Thread nD τ).loc main_arg2)
abbrev X3 : Vec 𝕀 S3x1024 .f32 := m ((c : Thread nD τ).loc main_arg3)

theorem idx0 (t : Fin grid0.N) : win0_0.index t = ![t.val / 3, 0] := (by decide +kernel : ∀ t : Fin grid0.N, win0_0.index t = ![t.val / 3, 0]) t
theorem idx1 (t : Fin grid0.N) : win0_1.index t = ![min (8 * (t.val / 3 + 1)) 255, 0] := (by decide +kernel : ∀ t : Fin grid0.N, win0_1.index t = ![min (8 * (t.val / 3 + 1)) 255, 0]) t
theorem idx2 (t : Fin grid0.N) : win0_2.index t = ![t.val / 3, 2] := (by decide +kernel : ∀ t : Fin grid0.N, win0_2.index t = ![t.val / 3, 2]) t
theorem idx3 (t : Fin grid0.N) : win0_3.index t = ![min (8 * (t.val / 3 + 1)) 255, 2] := (by decide +kernel : ∀ t : Fin grid0.N, win0_3.index t = ![min (8 * (t.val / 3 + 1)) 255, 2]) t
theorem idx4 (t : Fin grid0.N) : win0_4.index t = ![t.val / 3, 3] := (by decide +kernel : ∀ t : Fin grid0.N, win0_4.index t = ![t.val / 3, 3]) t
theorem idx5 (t : Fin grid0.N) : win0_5.index t = ![t.val / 3, 4] := (by decide +kernel : ∀ t : Fin grid0.N, win0_5.index t = ![t.val / 3, 4]) t
theorem idx6 (t : Fin grid0.N) : win0_6.index t = ![8 * (t.val / 3) - 1, 3] := (by decide +kernel : ∀ t : Fin grid0.N, win0_6.index t = ![8 * (t.val / 3) - 1, 3]) t
theorem idx7 (t : Fin grid0.N) : win0_7.index t = ![8 * (t.val / 3) - 1, 4] := (by decide +kernel : ∀ t : Fin grid0.N, win0_7.index t = ![8 * (t.val / 3) - 1, 4]) t
theorem idx8 (t : Fin grid0.N) : win0_8.index t = ![0, 0] := (by decide +kernel : ∀ t : Fin grid0.N, win0_8.index t = ![0, 0]) t
theorem idx9 (t : Fin grid0.N) : win0_9.index t = ![t.val / 3, 2 + t.val % 3] := (by decide +kernel : ∀ t : Fin grid0.N, win0_9.index t = ![t.val / 3, 2 + t.val % 3]) t
theorem idx10 (t : Fin grid0.N) : win0_10.index t = ![0, 0] := (by decide +kernel : ∀ t : Fin grid0.N, win0_10.index t = ![0, 0]) t

theorem lt_N (t : Fin cfg0.N) : t.val < 96 := lt_of_lt_of_eq t.isLt N_0

/-- Row `r` of the band of point `t`. -/
abbrev row (t : Fin cfg0.N) (r : Fin 256) : Fin 8192 := ⟨256 * (t.val / 3) + r.val, by have := lt_N t; omega⟩

theorem iblk0 (t : Fin cfg0.N) (r : Fin 256) (l : Fin 1024) :
    iblk m c 0 t (ix2 r l) = X1 m c (ix2 (row t r) l) := by
  blk_ext [iblk, V_main_arg1, idx0]

theorem iblk2 (t : Fin cfg0.N) (r : Fin 256) (l : Fin 1024) :
    iblk m c 2 t (ix2 r l) = X2 m c (ix2 (row t r) ⟨2048 + l.val, by omega⟩) := by
  blk_ext [iblk, V_main_arg2, idx2]

theorem iblk4 (t : Fin cfg0.N) (r : Fin 256) (l : Fin 1024) :
    iblk m c 4 t (ix2 r l) = X2 m c (ix2 (row t r) ⟨3072 + l.val, by omega⟩) := by
  blk_ext [iblk, V_main_arg2, idx4]

theorem iblk5 (t : Fin cfg0.N) (r : Fin 256) (l : Fin 1024) :
    iblk m c 5 t (ix2 r l) = X2 m c (ix2 (row t r) ⟨4096 + l.val, by omega⟩) := by
  blk_ext [iblk, V_main_arg2, idx5]

theorem iblk1 (t : Fin cfg0.N) (ht : t.val / 3 < 31) (r : Fin 32) (l : Fin 1024) (j : Fin 8192) (hj : j.val = 256 * (t.val / 3) + 256 + r.val) :
    iblk m c 1 t (ix2 r l) = X1 m c (ix2 j l) := by
  have e : iblk m c 1 t (ix2 r l) = X1 m c (ix2 (⟨32 * min (8 * (t.val / 3 + 1)) 255 + r.val, by omega⟩ : Fin 8192) l) := by
    blk_ext [iblk, V_main_arg1, idx1]
  exact e.trans (congrArg (fun j => X1 m c (ix2 j l)) (Fin.ext (by show 32 * min (8 * (t.val / 3 + 1)) 255 + r.val = j.val; omega)))

theorem iblk3 (t : Fin cfg0.N) (ht : t.val / 3 < 31) (r : Fin 32) (l : Fin 1024) (j : Fin 8192) (hj : j.val = 256 * (t.val / 3) + 256 + r.val) :
    iblk m c 3 t (ix2 r l) = X2 m c (ix2 j ⟨2048 + l.val, by omega⟩) := by
  have e : iblk m c 3 t (ix2 r l) = X2 m c (ix2 (⟨32 * min (8 * (t.val / 3 + 1)) 255 + r.val, by omega⟩ : Fin 8192) ⟨2048 + l.val, by omega⟩) := by
    blk_ext [iblk, V_main_arg2, idx3]
  exact e.trans (congrArg (fun j => X2 m c (ix2 j ⟨2048 + l.val, by omega⟩)) (Fin.ext (by show 32 * min (8 * (t.val / 3 + 1)) 255 + r.val = j.val; omega)))

theorem iblk6 (t : Fin cfg0.N) (ht : t.val / 3 ≠ 0) (r : Fin 32) (l : Fin 1024) (j : Fin 8192) (hj : j.val + 32 = 256 * (t.val / 3) + r.val) :
    iblk m c 6 t (ix2 r l) = X2 m c (ix2 j ⟨3072 + l.val, by omega⟩) := by
  have e : iblk m c 6 t (ix2 r l) = X2 m c (ix2 (⟨32 * (8 * (t.val / 3) - 1) + r.val, by have := lt_N t; omega⟩ : Fin 8192) ⟨3072 + l.val, by omega⟩) := by
    blk_ext [iblk, V_main_arg2, idx6]
  exact e.trans (congrArg (fun j => X2 m c (ix2 j ⟨3072 + l.val, by omega⟩)) (Fin.ext (by show 32 * (8 * (t.val / 3) - 1) + r.val = j.val; omega)))

theorem iblk7 (t : Fin cfg0.N) (ht : t.val / 3 ≠ 0) (r : Fin 32) (l : Fin 1024) (j : Fin 8192) (hj : j.val + 32 = 256 * (t.val / 3) + r.val) :
    iblk m c 7 t (ix2 r l) = X2 m c (ix2 j ⟨4096 + l.val, by omega⟩) := by
  have e : iblk m c 7 t (ix2 r l) = X2 m c (ix2 (⟨32 * (8 * (t.val / 3) - 1) + r.val, by have := lt_N t; omega⟩ : Fin 8192) ⟨4096 + l.val, by omega⟩) := by
    blk_ext [iblk, V_main_arg2, idx7]
  exact e.trans (congrArg (fun j => X2 m c (ix2 j ⟨4096 + l.val, by omega⟩)) (Fin.ext (by show 32 * (8 * (t.val / 3) - 1) + r.val = j.val; omega)))

theorem iblk8 (t : Fin cfg0.N) : iblk m c 8 t = X3 m c := by
  funext y
  blk_ext [iblk, V_main_arg3, idx8]

/-- The first scratch rows are the rows convolved, from 32 before the band. -/
theorem pbuf_apply (t : Fin cfg0.N) (n : ℕ) (hn : n ≤ 2) (r : Fin 256) (l : Fin 1024) (q : Fin 288) (hq : q.val + n = 32 + r.val) :
    pbuf (grid0.coords t) (iblk m c 4 t) (iblk m c 5 t) (iblk m c 6 t) (iblk m c 7 t) (ix2 q l) = back (prods (X2 m c) l) n (row t r) := by
  have := lt_N t
  unfold pbuf
  by_cases h : q.val < 32
  · refine (bufP_lo _ _ q l h).trans ((halo_before t _ _ _ _).trans ?_)
    split
    · next ht => exact (back_of_lt (by show 256 * (t.val / 3) + r.val < n; omega)).symm
    · next ht =>
      rw [back_of_le (show (⟨256 * (t.val / 3) + q.val - 32, by omega⟩ : Fin 8192).val + n = (row t r).val by
        show 256 * (t.val / 3) + q.val - 32 + n = 256 * (t.val / 3) + r.val; omega)]
      exact congrArg₂ (· * ·)
        (iblk6 m c t ht ⟨q.val, h⟩ l _ (by show 256 * (t.val / 3) + q.val - 32 + 32 = 256 * (t.val / 3) + q.val; omega))
        (iblk7 m c t ht ⟨q.val, h⟩ l _ (by show 256 * (t.val / 3) + q.val - 32 + 32 = 256 * (t.val / 3) + q.val; omega))
  · refine (bufP_hi _ _ q l h).trans ((pay9_apply _ _ _ _).trans ?_)
    rw [back_of_le (show (row t ⟨q.val - 32, by omega⟩).val + n = (row t r).val by
      show 256 * (t.val / 3) + (q.val - 32) + n = 256 * (t.val / 3) + r.val; omega)]
    exact congrArg₂ (· * ·) (iblk4 m c t ⟨q.val - 32, by omega⟩ l) (iblk5 m c t ⟨q.val - 32, by omega⟩ l)

/-- The second scratch rows are the convolution's gradient, to 32 rows past the band. -/
theorem dbuf_apply (t : Fin cfg0.N) (n : ℕ) (hn : n ≤ 2) (r : Fin 256) (l : Fin 1024) (q : Fin 288) (hq : q.val = n + r.val) :
    dbuf (grid0.coords t) (iblk m c 0 t) (iblk m c 1 t) (iblk m c 2 t) (iblk m c 3 t) (ix2 q l) = ahead (du (X1 m c) (X2 m c) l) n (row t r) := by
  have := lt_N t
  unfold dbuf
  by_cases h : q.val < 256
  · refine (bufD_lo _ _ q l h).trans ((pay12_apply _ _ _ _).trans ?_)
    rw [ahead_of_lt (show (row t r).val + n = (row t ⟨q.val, h⟩).val by
      show 256 * (t.val / 3) + r.val + n = 256 * (t.val / 3) + q.val; omega)]
    exact congrArg₂ (· * ·) (iblk0 m c t ⟨q.val, h⟩ l) (iblk2 m c t ⟨q.val, h⟩ l)
  · refine (bufD_hi _ _ q l h).trans ((halo_after t _ _ _ _).trans ?_)
    split
    · next ht =>
      rw [ahead_of_lt (show (row t r).val + n = (⟨256 * (t.val / 3) + q.val, by omega⟩ : Fin 8192).val by
        show 256 * (t.val / 3) + r.val + n = 256 * (t.val / 3) + q.val; omega)]
      exact congrArg₂ (· * ·)
        (iblk1 m c t ht ⟨q.val - 256, by omega⟩ l _ (by show 256 * (t.val / 3) + q.val = 256 * (t.val / 3) + 256 + (q.val - 256); omega))
        (iblk3 m c t ht ⟨q.val - 256, by omega⟩ l _ (by show 256 * (t.val / 3) + q.val = 256 * (t.val / 3) + 256 + (q.val - 256); omega))
    · next ht => exact (ahead_of_ge (by show 8192 ≤ 256 * (t.val / 3) + r.val + n; omega)).symm

theorem convB_apply (t : Fin cfg0.N) (r : Fin 256) (l : Fin 1024) :
    convB (pbuf (grid0.coords t) (iblk m c 4 t) (iblk m c 5 t) (iblk m c 6 t) (iblk m c 7 t)) (iblk m c 8 t) r l = conv (fun k => X3 m c (ix2 k l)) (prods (X2 m c) l) (row t r) := by
  unfold convB conv
  rw [pbuf_apply m c t 2 (by omega) r l _ (by show 30 + r.val + 2 = 32 + r.val; omega),
    pbuf_apply m c t 1 (by omega) r l _ (by show 31 + r.val + 1 = 32 + r.val; omega),
    pbuf_apply m c t 0 (by omega) r l _ (by show 32 + r.val + 0 = 32 + r.val; omega), iblk8]

theorem convTB_apply (t : Fin cfg0.N) (r : Fin 256) (l : Fin 1024) :
    convTB (dbuf (grid0.coords t) (iblk m c 0 t) (iblk m c 1 t) (iblk m c 2 t) (iblk m c 3 t)) (iblk m c 8 t) r l = convT (fun k => X3 m c (ix2 k l)) (du (X1 m c) (X2 m c) l) (row t r) := by
  unfold convTB convT
  rw [dbuf_apply m c t 2 (by omega) r l _ rfl, dbuf_apply m c t 1 (by omega) r l _ rfl, dbuf_apply m c t 0 (by omega) r l _ rfl, iblk8]

/-- The blocks kept are the columns' gradients on the band. -/
theorem kept_apply (t : Fin cfg0.N) (k : Fin 3) (r : Fin 256) (l : Fin 1024) :
    kept (grid0.coords t) (iblk m c 0 t) (iblk m c 1 t) (iblk m c 2 t) (iblk m c 3 t) (iblk m c 4 t) (iblk m c 5 t) (iblk m c 6 t) (iblk m c 7 t) (iblk m c 8 t) (ix3 k r l) = dpart (X1 m c) (X2 m c) (X3 m c) k.val (row t r) l := by
  match k with
  | ⟨0, _⟩ => exact congrArg₂ (· * ·) (iblk0 m c t r l) (convB_apply m c t r l)
  | ⟨1, _⟩ => exact congrArg₂ (· * ·) (convTB_apply m c t r l) (iblk5 m c t r l)
  | ⟨2, _⟩ => exact congrArg₂ (· * ·) (convTB_apply m c t r l) (iblk4 m c t r l)

/-- What row `i` adds to the gradient of tap `k`. -/
def term (k : Fin 3) (l : Fin 1024) (i : Fin 8192) : EReal := du (X1 m c) (X2 m c) l i * back (prods (X2 m c) l) (2 - k.val) i

theorem tapB_apply (t : Fin cfg0.N) (k : Fin 3) (l : Fin 1024) :
    tapB (grid0.coords t) (iblk m c 0 t) (iblk m c 2 t) (iblk m c 4 t) (iblk m c 5 t) (iblk m c 6 t) (iblk m c 7 t) k l = ∑ r : Fin 256, term m c k l (row t r) := by
  refine Finset.sum_congr rfl fun r _ => ?_
  rw [pbuf_apply m c t (2 - k.val) (by omega) r l _ (by show 30 + k.val + r.val + (2 - k.val) = 32 + r.val; omega), iblk0, iblk2]
  rfl

/-! ## Point by point -/

theorem off_eq (t : Fin grid0.N) : k0_off1 (grid0.coords t) = ![t.val % 3, 0, 0] :=
  (by decide +kernel : ∀ t : Fin grid0.N, k0_off1 (grid0.coords t) = ![t.val % 3, 0, 0]) t

theorem vA_kept (t : Fin cfg0.N) (h1 h2) : (vA m c t h1 h2).2.2 = kept (grid0.coords t) (iblk m c 0 t) (iblk m c 1 t) (iblk m c 2 t) (iblk m c 3 t) (iblk m c 4 t) (iblk m c 5 t) (iblk m c 6 t) (iblk m c 7 t) (iblk m c 8 t) := by
  unfold vA
  dsimp only
  rw [View.read_writes_junk_eq_canon]
  exact kept_A (grid0.coords t) (iblk m c 0 t) (iblk m c 1 t) (iblk m c 2 t) (iblk m c 3 t) (iblk m c 4 t) (iblk m c 5 t) (iblk m c 6 t) (iblk m c 7 t) (iblk m c 8 t) c h1 h2

theorem vA_block (t : Fin cfg0.N) (h1 h2) : (vA m c t h1 h2).1 = fun y => kept (grid0.coords t) (iblk m c 0 t) (iblk m c 1 t) (iblk m c 2 t) (iblk m c 3 t) (iblk m c 4 t) (iblk m c 5 t) (iblk m c 6 t) (iblk m c 7 t) (iblk m c 8 t) (ix3 (0 : Fin 3) (y 0) (y 1)) := by
  unfold vA
  dsimp only
  rw [View.read_writes_junk_eq_canon]
  exact block_A (grid0.coords t) (iblk m c 0 t) (iblk m c 1 t) (iblk m c 2 t) (iblk m c 3 t) (iblk m c 4 t) (iblk m c 5 t) (iblk m c 6 t) (iblk m c 7 t) (iblk m c 8 t) c h1 h2

theorem vA_taps (t : Fin cfg0.N) (h1 h2) : (vA m c t h1 h2).2.1 = fun y => tapB (grid0.coords t) (iblk m c 0 t) (iblk m c 2 t) (iblk m c 4 t) (iblk m c 5 t) (iblk m c 6 t) (iblk m c 7 t) (y 0) (y 1) := by
  unfold vA
  dsimp only
  rw [View.read_writes_junk_eq_canon]
  exact taps_A (grid0.coords t) (iblk m c 0 t) (iblk m c 1 t) (iblk m c 2 t) (iblk m c 3 t) (iblk m c 4 t) (iblk m c 5 t) (iblk m c 6 t) (iblk m c 7 t) (iblk m c 8 t) c h1 h2

theorem vB_kept (t : Fin cfg0.N) (h1 h2 z) : (vB m c t h1 h2 z).2.2 = kept (grid0.coords t) (iblk m c 0 t) (iblk m c 1 t) (iblk m c 2 t) (iblk m c 3 t) (iblk m c 4 t) (iblk m c 5 t) (iblk m c 6 t) (iblk m c 7 t) (iblk m c 8 t) := by
  unfold vB
  dsimp only
  rw [View.read_writes_junk_eq_canon]
  exact kept_B (grid0.coords t) (iblk m c 0 t) (iblk m c 1 t) (iblk m c 2 t) (iblk m c 3 t) (iblk m c 4 t) (iblk m c 5 t) (iblk m c 6 t) (iblk m c 7 t) (iblk m c 8 t) c h1 h2 z

theorem vB_block (t : Fin cfg0.N) (h1 h2 z) : (vB m c t h1 h2 z).1 = fun y => kept (grid0.coords t) (iblk m c 0 t) (iblk m c 1 t) (iblk m c 2 t) (iblk m c 3 t) (iblk m c 4 t) (iblk m c 5 t) (iblk m c 6 t) (iblk m c 7 t) (iblk m c 8 t) (ix3 (0 : Fin 3) (y 0) (y 1)) := by
  unfold vB
  dsimp only
  rw [View.read_writes_junk_eq_canon]
  exact block_B (grid0.coords t) (iblk m c 0 t) (iblk m c 1 t) (iblk m c 2 t) (iblk m c 3 t) (iblk m c 4 t) (iblk m c 5 t) (iblk m c 6 t) (iblk m c 7 t) (iblk m c 8 t) c h1 h2 z

theorem vB_taps (t : Fin cfg0.N) (h1 h2 z) : (vB m c t h1 h2 z).2.1 = fun y => z y + tapB (grid0.coords t) (iblk m c 0 t) (iblk m c 2 t) (iblk m c 4 t) (iblk m c 5 t) (iblk m c 6 t) (iblk m c 7 t) (y 0) (y 1) := by
  unfold vB
  dsimp only
  rw [View.read_writes_junk_eq_canon]
  exact taps_B (grid0.coords t) (iblk m c 0 t) (iblk m c 1 t) (iblk m c 2 t) (iblk m c 3 t) (iblk m c 4 t) (iblk m c 5 t) (iblk m c 6 t) (iblk m c 7 t) (iblk m c 8 t) c h1 h2 z

theorem vC_block (t : Fin cfg0.N) (h1) (v : Vec 𝕀 S3x256x1024 .bf16) :
    vC c t h1 v = fun y => v (ix3 (⟨t.val % 3, Nat.mod_lt _ (by decide)⟩ : Fin 3) (y 0) (y 1)) := by
  unfold vC
  rw [View.read_writes_junk_eq_canon]
  exact block_C (grid0.coords t) c h1 v _ (off_eq t)

/-- After every point the blocks kept are those of its band. -/
theorem st_kept (n : ℕ) : ∀ (hn : n < cfg0.N) (k : Fin 3) (r : Fin 256) (l : Fin 1024),
    (st m c n hn).2.2 (ix3 k r l) = dpart (X1 m c) (X2 m c) (X3 m c) k.val (row ⟨n, hn⟩ r) l := by
  induction n with
  | zero =>
    intro hn k r l
    rw [st_A m c ⟨0, hn⟩ rfl ((cond1_iff _).mpr rfl) ((cond2_iff _).mpr (Nat.zero_lt_succ _)), vA_kept]
    exact kept_apply m c ⟨0, hn⟩ k r l
  | succ n ih =>
    intro hn k r l
    by_cases h : (n + 1) % 3 = 0
    · rw [st_B m c ⟨n + 1, hn⟩ (Nat.succ_ne_zero n) h ((cond1_iff _).mpr h) (not_cond2 n hn h), vB_kept]
      exact kept_apply m c ⟨n + 1, hn⟩ k r l
    · rw [st_C m c ⟨n + 1, hn⟩ h (fun h1 => h ((cond1_iff _).mp h1))]
      refine (ih (Nat.lt_of_succ_lt hn) k r l).trans (congrArg (fun i => dpart (X1 m c) (X2 m c) (X3 m c) k.val i l) (Fin.ext ?_))
      show 256 * (n / 3) + r.val = 256 * ((n + 1) / 3) + r.val
      omega

/-- The block of the first result after a point. -/
theorem st_block (t : Fin cfg0.N) (r : Fin 256) (l : Fin 1024) :
    (st m c t.val t.isLt).1 (ix2 r l) = dpart (X1 m c) (X2 m c) (X3 m c) (t.val % 3) (row t r) l := by
  by_cases h : t.val % 3 = 0
  · by_cases hz : t.val = 0
    · rw [st_A m c t hz ((cond1_iff _).mpr h) ((cond2_iff _).mpr (by omega)), vA_block, h]
      exact kept_apply m c t 0 r l
    · rw [st_B m c t hz h ((cond1_iff _).mpr h) (fun h2 => hz (by have := (cond2_iff t).mp h2; omega)), vB_block, h]
      exact kept_apply m c t 0 r l
  · rw [st_C m c t h (fun h1 => h ((cond1_iff _).mp h1))]
    dsimp only
    rw [vC_block]
    refine (st_kept m c (t.val - 1) (pred_lt t) _ r l).trans (congrArg (fun i => dpart (X1 m c) (X2 m c) (X3 m c) (t.val % 3) i l) (Fin.ext ?_))
    show 256 * ((t.val - 1) / 3) + r.val = 256 * (t.val / 3) + r.val
    omega

/-- What band `b` adds to the gradient of tap `k`. -/
def band (k : Fin 3) (l : Fin 1024) (b : ℕ) : EReal := ∑ r : Fin 256, term m c k l ⟨(256 * b + r.val) % 8192, Nat.mod_lt _ (by decide)⟩

theorem band_eq (t : Fin cfg0.N) (k : Fin 3) (l : Fin 1024) : ∑ r : Fin 256, term m c k l (row t r) = band m c k l (t.val / 3) :=
  Finset.sum_congr rfl fun r _ => congrArg (term m c k l) (Fin.ext (by
    have := lt_N t
    show 256 * (t.val / 3) + r.val = (256 * (t.val / 3) + r.val) % 8192
    omega))

/-- The taps' gradients after a point: the sum over the bands so far. -/
theorem st_taps (n : ℕ) : ∀ (hn : n < cfg0.N) (k : Fin 3) (l : Fin 1024),
    (st m c n hn).2.1 (ix2 k l) = ∑ b ∈ Finset.range (n / 3 + 1), band m c k l b := by
  induction n with
  | zero =>
    intro hn k l
    rw [st_A m c ⟨0, hn⟩ rfl ((cond1_iff _).mpr rfl) ((cond2_iff _).mpr (Nat.zero_lt_succ _)), vA_taps]
    rw [show 0 / 3 + 1 = 1 from rfl, Finset.sum_range_one]
    exact (tapB_apply m c ⟨0, hn⟩ k l).trans ((band_eq m c ⟨0, hn⟩ k l).trans (congrArg (band m c k l) (Nat.zero_div 3)))
  | succ n ih =>
    intro hn k l
    by_cases h : (n + 1) % 3 = 0
    · rw [st_B m c ⟨n + 1, hn⟩ (Nat.succ_ne_zero n) h ((cond1_iff _).mpr h) (not_cond2 n hn h), vB_taps]
      have e : (n + 1) / 3 = n / 3 + 1 := by omega
      rw [e, Finset.sum_range_succ]
      refine congrArg₂ (· + ·) (ih (Nat.lt_of_succ_lt hn) k l) ((tapB_apply m c ⟨n + 1, hn⟩ k l).trans ((band_eq m c ⟨n + 1, hn⟩ k l).trans ?_))
      exact congrArg (band m c k l) e
    · rw [st_C m c ⟨n + 1, hn⟩ h (fun h1 => h ((cond1_iff _).mp h1))]
      refine (ih (Nat.lt_of_succ_lt hn) k l).trans ?_
      rw [show (n + 1) / 3 = n / 3 by omega]

/-- All the bands together are all the rows. -/
theorem bands (k : Fin 3) (l : Fin 1024) : ∑ b ∈ Finset.range 32, band m c k l b = dtaps (X1 m c) (X2 m c) (ix2 k l) := by
  rw [Finset.sum_range]
  exact Fin.sum_mul_add_congr (f := term m c k l) fun t r h => by
    exact congrArg (term m c k l) (Fin.ext (by show (256 * t.val + r.val) % 8192 = t.val * 256 + r.val; omega))

/-! ## The results -/

/-- Where the block of point `t` lies. -/
theorem place9 (t : Fin cfg0.N) (r : Fin 256) (l : Fin 1024) :
    (win0_9.blk t).view.emb (ix2 r l) = (ix2 (row t r) (⟨1024 * (2 + t.val % 3) + l.val, by omega⟩ : Fin 12288) : S8192x12288.Idx) := by
  blk_ext [idx9]

theorem place10 (t : Fin cfg0.N) (y : S3x1024.Idx) : (win0_10.blk t).view.emb y = y := by
  blk_ext [idx10]

/-- The columns' gradients at the columns' places. -/
def cols (y : S8192x12288.Idx) : EReal :=
  dpart (X1 m c) (X2 m c) (X3 m c) ((y 1).val / 1024 - 2) (y 0) ⟨(y 1).val % 1024, Nat.mod_lt _ (by decide)⟩

theorem V_out : V m c main_v0_0 = X0 m c := by
  unfold V hostOps0
  after_results
  rfl

/-- The first result after the run. -/
theorem arr9 : (dats m 0 c).arrAt 9 cfg0.N = dcols (X0 m c) (X1 m c) (X2 m c) (X3 m c) := by
  have e : (dats m 0 c).arrAt 9 cfg0.N = fun y : S8192x12288.Idx => if 2 ≤ (y 1).val / 1024 ∧ (y 1).val / 1024 < 5 then cols m c y else V m c main_v0_0 y := by
    refine (dats m 0 c).arrAt_eq_of_coversWhere 9 _ (fun β => 2 ≤ β (1 : Fin _) ∧ β (1 : Fin _) < 5) (by decide +kernel) (fun t hf y => ?_) (fun j => Iff.rfl)
    blk_simp
    rw [after9]
    obtain ⟨r, l, rfl⟩ := split2 y
    refine Eq.trans ?_ (congrArg (cols m c) (place9 t r l)).symm
    refine (st_block m c t r l).trans ?_
    have e1 : (1024 * (2 + t.val % 3) + l.val) / 1024 - 2 = t.val % 3 := by omega
    have e2 : (⟨(1024 * (2 + t.val % 3) + l.val) % 1024, Nat.mod_lt _ (by decide)⟩ : Fin 1024) = l := Fin.ext (by
      show (1024 * (2 + t.val % 3) + l.val) % 1024 = l.val
      omega)
    exact (congrArg₂ (fun b l' => dpart (X1 m c) (X2 m c) (X3 m c) b (row t r) l') e1 e2).symm
  rw [e, V_out]
  rfl

/-- The second result after the run. -/
theorem arr10 : (dats m 0 c).arrAt 10 cfg0.N = dtaps (X1 m c) (X2 m c) := by
  refine (dats m 0 c).arrAt_eq_of_covers 10 _ (by decide +kernel) fun t hf y => ?_
  have ht : t.val = 95 := by have := (flush0_10 t).mp hf; have := lt_N t; omega
  blk_simp
  rw [after10]
  obtain ⟨k, l, rfl⟩ := split2 y
  refine Eq.trans ?_ (congrArg (dtaps (X1 m c) (X2 m c)) (place10 t (ix2 k l))).symm
  refine (st_taps m c t.val t.isLt k l).trans ?_
  rw [ht]
  exact bands m c k l

theorem run (ρ : Dev nD → PrngReg) : θ_run defs (onTc (τ := τ) (main (F := 𝕀))) ⟨m, fun _ => 0, ρ⟩ fun r => ∀ c : Dev nD,
      r.2.mem ((c : Thread nD τ).loc main_v0_0) = dcols (X0 m c) (X1 m c) (X2 m c) (X3 m c)
      ∧ r.2.mem ((c : Thread nD τ).loc main_v0_1) = dtaps (X1 m c) (X2 m c)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c :=
  (θ_run defs _ _).mono (fun r h c => ⟨((h.1 c).1 9).trans (arr9 m c), ((h.1 c).1 10).trans (arr10 m c), h.2 c⟩)
    (θ_run_and (run_main m ρ) (unchanged m ρ))

end Cert.BranchBBwdIdeal.Val

namespace Cert.BranchBBwd

open Idealize.ShloMosaic Idealize.SL.Sem

local notation "𝕀" => Idealize.ShloMosaic.Ideal

/-- The reference runs and leaves its arguments. -/
theorem frame_ref : Cert.quiescent_BranchBBwdRefIdeal := fun m ρ _ =>
  (θ_run Cert.BranchBBwdRefIdeal.defs _ _).mono (fun r h => ⟨fun c => (h c).2.2, sem_eq_zero_of_no_sems (by decide) r.2⟩)
    (Cert.BranchBBwdRefIdeal.Value.run (F := 𝕀) m ρ)

theorem algebraic : Cert.algebraic_BranchBBwdIdeal_BranchBBwdRefIdeal := by
  intro m ρ m' ρ' _ hag
  refine ⟨_, _, Cert.BranchBBwdIdeal.Val.run m ρ, ?_⟩
  refine (θ_run Cert.BranchBBwdRefIdeal.defs _ _).mono (fun r h c => ?_) (Cert.BranchBBwdRefIdeal.Value.run (F := 𝕀) m' ρ')
  obtain ⟨a0, a1, a2, a3⟩ := hag c
  refine ⟨(h c).1.trans ?_, (h c).2.1.trans ?_, (h c).2.2⟩
  · rw [Cert.BranchBBwdRefIdeal.Read.val_main_v76_eq, a0, a1, a2, a3]
    exact Cert.BranchBBwdRefIdeal.Val.ref_cols _ _ _ _
  · rw [Cert.BranchBBwdRefIdeal.Read.val_main_v66_eq, a1, a2]
    exact Cert.BranchBBwdRefIdeal.Val.ref_taps _ _

end Cert.BranchBBwd

end
-- ==== Proof.NormFirstValue.lean ====
/-
  The first layer's norm: what the kernel leaves, the reference at one index, and that they agree.
-/
module

public import proofs.«01_k».proof.Defs
public import proofs.«01_k».proof.Proof.Mm
public import proofs.«01_k».proof.Proof.Norm
public import proofs.«01_k».proof.Proof.Gen.NormFirstIdeal.Value
public import proofs.«01_k».proof.Proof.Gen.NormFirstRefIdeal.Run
public import proofs.«01_k».proof.Proof.Gen.NormFirstRefIdeal.Read

@[expose] public section

set_option maxRecDepth 16384

noncomputable section

namespace Cert.NormFirstIdeal.Val

open Cert.NormFirstIdeal Cert.NormFirstIdeal.Gen Cert.Mm Cert.Norm
open Idealize.ShloMosaic Idealize.ShloMosaic.TcCoe Idealize.SL.Sem

local notation "𝕀" => Idealize.ShloMosaic.Ideal

/-- Every row's norm. -/
def norms (x : Vec 𝕀 S8192x2048 .f32) (g : Vec 𝕀 S2048 .f32) : Vec 𝕀 S8192x2048 .bf16 :=
  fun y => norm (fun k => x (ix2 (y 0) k)) (fun k => g (ix1 k)) (y 1)

theorem pay_apply (a : Vec 𝕀 S256x2048 .f32) (b : Vec 𝕀 S1x2048 .f32) (r : Fin 256) (l : Fin 2048) :
    k0_pay1 a b (ix2 r l) = norm (fun k => a (ix2 r k)) (fun k => b (ix2 (0 : Fin 1) k)) l := by
  pointwise [k0_pay1]
  rfl

theorem out_eq (a : Vec 𝕀 S256x2048 .f32) (b : Vec 𝕀 S1x2048 .f32) : out0_2 a b = k0_pay1 a b := by
  rw [out0_2]
  frame_out

variable (m : (ℓ : Loc nD τ sig) → Buf (Elt 𝕀) ℓ) (c : Dev nD)

/-- The arguments on device `c`. -/
abbrev X0 : Vec 𝕀 S8192x2048 .f32 := m ((c : Thread nD τ).loc main_arg0)
abbrev X1 : Vec 𝕀 S2048 .f32 := m ((c : Thread nD τ).loc main_arg1)

theorem idx (t : Fin grid0.N) : win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

/-- The gains as the kernel finds them, in one row. -/
theorem gains : (V m c main_v0 : Vec 𝕀 S1x2048 .f32) = shapeCast S1x2048 (X1 m c) shapeCasts_S2048_S1x2048 := by
  show StableHlo.after hostOps0 _ _ = _
  after_results <;> rfl

theorem gains_apply (k : Fin 2048) : (V m c main_v0 : Vec 𝕀 S1x2048 .f32) (ix2 (0 : Fin 1) k) = X1 m c (ix1 k) := by
  rw [gains]
  pointwise []

theorem iblk0 (t : Fin cfg0.N) (r : Fin 256) (k : Fin 2048) : iblk m c 0 t (ix2 r k) = X0 m c (ix2 (row t r) k) := by
  blk_ext [iblk, V_main_arg0, (idx t).1]

theorem iblk1 (t : Fin cfg0.N) (k : Fin 2048) : iblk m c 1 t (ix2 (0 : Fin 1) k) = X1 m c (ix1 k) := by
  refine Eq.trans ?_ (gains_apply m c k)
  blk_ext [iblk, (idx t).2.1]

/-- Where block `t` of the result lies. -/
theorem place (t : Fin cfg0.N) (r : Fin 256) (l : Fin 2048) :
    (win0_2.blk t).view.emb (ix2 r l) = (ix2 (row t r) l : S8192x2048.Idx) := by
  blk_ext [(idx t).2.2]

/-- The result after the run. -/
theorem arr : (dats m 0 c).arrAt 2 cfg0.N = norms (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (norms (X0 m c) (X1 m c)) (place t r l)).symm
  refine (pay_apply _ _ r l).trans ?_
  simp only [iblk0, iblk1]
  rfl

end Cert.NormFirstIdeal.Val

namespace Cert.NormFirstRefIdeal.Val

open Cert.NormFirstRefIdeal Cert.NormFirstRefIdeal.Read Cert.Mm Cert.Norm Idealize.ShloMosaic

local notation "𝕀" => Idealize.ShloMosaic.Ideal

theorem ref_eq (x0 : Vec 𝕀 S8192x2048 .f32) (g : Vec 𝕀 S2048 .f32) :
    val_main_v13 (F := 𝕀) x0 g = Cert.NormFirstIdeal.Val.norms x0 g := by
  funext y
  obtain ⟨r, l, rfl⟩ := split2 y
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.NormFirstRefIdeal.Val

namespace Cert.NormFirst

open Idealize.ShloMosaic Idealize.SL.Sem

local notation "𝕀" => Idealize.ShloMosaic.Ideal

/-- The reference runs and leaves its arguments. -/
theorem frame_ref : Cert.quiescent_NormFirstRefIdeal := fun m ρ _ =>
  (θ_run Cert.NormFirstRefIdeal.defs _ _).mono (fun r h => ⟨fun c => (h c).2, sem_eq_zero_of_no_sems (by decide) r.2⟩)
    (Cert.NormFirstRefIdeal.Value.run (F := 𝕀) m ρ)

theorem algebraic : Cert.algebraic_NormFirstIdeal_NormFirstRefIdeal := by
  intro m ρ m' ρ' _ hag
  refine ⟨_, Cert.NormFirstIdeal.Value.run_blocks (F := 𝕀) m ρ, ?_⟩
  refine (θ_run Cert.NormFirstRefIdeal.defs _ _).mono (fun r h c => ?_) (Cert.NormFirstRefIdeal.Value.run (F := 𝕀) m' ρ')
  obtain ⟨a0, a1⟩ := hag c
  refine ⟨(h c).1.trans ?_, (h c).2⟩
  rw [Cert.NormFirstRefIdeal.Read.val_main_v13_eq, a0, a1]
  exact (Cert.NormFirstRefIdeal.Val.ref_eq _ _).trans (Cert.NormFirstIdeal.Val.arr m c).symm

end Cert.NormFirst

end
-- ==== Proof.NormMemValue.lean ====
/-
  The norm of the memory: what the kernel leaves, the reference at one index, and that they agree.
-/
module

public import proofs.«01_k».proof.Defs
public import proofs.«01_k».proof.Proof.Mm
public import proofs.«01_k».proof.Proof.Norm
public import proofs.«01_k».proof.Proof.Gen.NormMemIdeal.Value
public import proofs.«01_k».proof.Proof.Gen.NormMemRefIdeal.Run
public import proofs.«01_k».proof.Proof.Gen.NormMemRefIdeal.Read

@[expose] public section

set_option maxRecDepth 16384

noncomputable section

namespace Cert.NormMemIdeal.Val

open Cert.NormMemIdeal Cert.NormMemIdeal.Gen Cert.Mm Cert.Norm
open Idealize.ShloMosaic Idealize.ShloMosaic.TcCoe Idealize.SL.Sem

local notation "𝕀" => Idealize.ShloMosaic.Ideal

/-- Every row's norm. -/
def norms (x : Vec 𝕀 S256x2048 .f32) (g : Vec 𝕀 S2048 .f32) : Vec 𝕀 S256x2048 .bf16 :=
  fun y => norm (fun k => x (ix2 (y 0) k)) (fun k => g (ix1 k)) (y 1)

theorem pay_apply (a : Vec 𝕀 S256x2048 .f32) (b : Vec 𝕀 S1x2048 .f32) (r : Fin 256) (l : Fin 2048) :
    k0_pay1 a b (ix2 r l) = norm (fun k => a (ix2 r k)) (fun k => b (ix2 (0 : Fin 1) k)) l := by
  pointwise [k0_pay1]
  rfl

theorem out_eq (a : Vec 𝕀 S256x2048 .f32) (b : Vec 𝕀 S1x2048 .f32) : out0_2 a b = k0_pay1 a b := by
  rw [out0_2]
  frame_out

variable (m : (ℓ : Loc nD τ sig) → Buf (Elt 𝕀) ℓ) (c : Dev nD)

/-- The arguments on device `c`. -/
abbrev X0 : Vec 𝕀 S256x2048 .f32 := m ((c : Thread nD τ).loc main_arg0)
abbrev X1 : Vec 𝕀 S2048 .f32 := m ((c : Thread nD τ).loc main_arg1)

theorem idx (t : Fin grid0.N) : win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0]) t

theorem lt_N (t : Fin cfg0.N) : t.val < 1 := lt_of_lt_of_eq t.isLt N_0

/-- Row `r` of block `t`. -/
abbrev row (t : Fin cfg0.N) (r : Fin 256) : Fin 256 := ⟨256 * t.val + r.val, by have := lt_N t; omega⟩

/-- The gains as the kernel finds them, in one row. -/
theorem gains : (V m c main_v0 : Vec 𝕀 S1x2048 .f32) = shapeCast S1x2048 (X1 m c) shapeCasts_S2048_S1x2048 := by
  show StableHlo.after hostOps0 _ _ = _
  after_results <;> rfl

theorem gains_apply (k : Fin 2048) : (V m c main_v0 : Vec 𝕀 S1x2048 .f32) (ix2 (0 : Fin 1) k) = X1 m c (ix1 k) := by
  rw [gains]
  pointwise []

theorem iblk0 (t : Fin cfg0.N) (r : Fin 256) (k : Fin 2048) : iblk m c 0 t (ix2 r k) = X0 m c (ix2 (row t r) k) := by
  blk_ext [iblk, V_main_arg0, (idx t).1]

theorem iblk1 (t : Fin cfg0.N) (k : Fin 2048) : iblk m c 1 t (ix2 (0 : Fin 1) k) = X1 m c (ix1 k) := by
  refine Eq.trans ?_ (gains_apply m c k)
  blk_ext [iblk, (idx t).2.1]

/-- Where block `t` of the result lies. -/
theorem place (t : Fin cfg0.N) (r : Fin 256) (l : Fin 2048) :
    (win0_2.blk t).view.emb (ix2 r l) = (ix2 (row t r) l : S256x2048.Idx) := by
  blk_ext [(idx t).2.2]

/-- The result after the run. -/
theorem arr : (dats m 0 c).arrAt 2 cfg0.N = norms (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (norms (X0 m c) (X1 m c)) (place t r l)).symm
  refine (pay_apply _ _ r l).trans ?_
  simp only [iblk0, iblk1]
  rfl

end Cert.NormMemIdeal.Val

namespace Cert.NormMemRefIdeal.Val

open Cert.NormMemRefIdeal Cert.NormMemRefIdeal.Read Cert.Mm Cert.Norm Idealize.ShloMosaic

local notation "𝕀" => Idealize.ShloMosaic.Ideal

theorem ref_eq (x0 : Vec 𝕀 S256x2048 .f32) (g : Vec 𝕀 S2048 .f32) :
    val_main_v13 (F := 𝕀) x0 g = Cert.NormMemIdeal.Val.norms x0 g := by
  funext y
  obtain ⟨r, l, rfl⟩ := split2 y
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.NormMemRefIdeal.Val

namespace Cert.NormMem

open Idealize.ShloMosaic Idealize.SL.Sem

local notation "𝕀" => Idealize.ShloMosaic.Ideal

/-- The reference runs and leaves its arguments. -/
theorem frame_ref : Cert.quiescent_NormMemRefIdeal := fun m ρ _ =>
  (θ_run Cert.NormMemRefIdeal.defs _ _).mono (fun r h => ⟨fun c => (h c).2, sem_eq_zero_of_no_sems (by decide) r.2⟩)
    (Cert.NormMemRefIdeal.Value.run (F := 𝕀) m ρ)

theorem algebraic : Cert.algebraic_NormMemIdeal_NormMemRefIdeal := by
  intro m ρ m' ρ' _ hag
  refine ⟨_, Cert.NormMemIdeal.Value.run_blocks (F := 𝕀) m ρ, ?_⟩
  refine (θ_run Cert.NormMemRefIdeal.defs _ _).mono (fun r h c => ?_) (Cert.NormMemRefIdeal.Value.run (F := 𝕀) m' ρ')
  obtain ⟨a0, a1⟩ := hag c
  refine ⟨(h c).1.trans ?_, (h c).2⟩
  rw [Cert.NormMemRefIdeal.Read.val_main_v13_eq, a0, a1]
  exact (Cert.NormMemRefIdeal.Val.ref_eq _ _).trans (Cert.NormMemIdeal.Val.arr m c).symm

end Cert.NormMem

end
-- ==== Proof.NormMidValue.lean ====
/-
  The two norms between the layers: what the kernel leaves, the reference at one index, and that they agree.
-/
module

public import proofs.«01_k».proof.Defs
public import proofs.«01_k».proof.Proof.Mm
public import proofs.«01_k».proof.Proof.Norm
public import proofs.«01_k».proof.Proof.Gen.NormMidIdeal.Value
public import proofs.«01_k».proof.Proof.Gen.NormMidRefIdeal.Run
public import proofs.«01_k».proof.Proof.Gen.NormMidRefIdeal.Read

@[expose] public section

set_option maxRecDepth 16384

noncomputable section

namespace Cert.NormMidIdeal.Val

open Cert.NormMidIdeal Cert.NormMidIdeal.Gen Cert.Mm Cert.Norm
open Idealize.ShloMosaic Idealize.ShloMosaic.TcCoe Idealize.SL.Sem

local notation "𝕀" => Idealize.ShloMosaic.Ideal

/-- The rows after the addition, and their norms with the next layer's gains. -/
def sums (x : Vec 𝕀 S8192x2048 .f32) (z : Vec 𝕀 S8192x2048 .bf16) (g : Vec 𝕀 S2048 .f32) : Vec 𝕀 S8192x2048 .f32 :=
  fun y => added (fun k => x (ix2 (y 0) k)) (fun k => z (ix2 (y 0) k)) (fun k => g (ix1 k)) (y 1)

def norms (x : Vec 𝕀 S8192x2048 .f32) (z : Vec 𝕀 S8192x2048 .bf16) (g h : Vec 𝕀 S2048 .f32) : Vec 𝕀 S8192x2048 .bf16 :=
  fun y => norm (added (fun k => x (ix2 (y 0) k)) (fun k => z (ix2 (y 0) k)) (fun k => g (ix1 k))) (fun k => h (ix1 k)) (y 1)

section Block

variable (a : Vec 𝕀 S256x2048 .f32) (z : Vec 𝕀 S256x2048 .bf16) (b d : Vec 𝕀 S1x2048 .f32)

theorem pay_sum (r : Fin 256) (l : Fin 2048) : k0_pay1 a z b (ix2 r l)
    = added (fun k => a (ix2 r k)) (fun k => z (ix2 r k)) (fun k => b (ix2 (0 : Fin 1) k)) l := by
  pointwise [k0_pay1]
  rfl

theorem pay_norm (r : Fin 256) (l : Fin 2048) : k0_pay2 a z b d (ix2 r l)
    = norm (added (fun k => a (ix2 r k)) (fun k => z (ix2 r k)) (fun k => b (ix2 (0 : Fin 1) k)))
        (fun k => d (ix2 (0 : Fin 1) k)) l := by
  pointwise [k0_pay2]
  simp only [pay_sum]
  rfl

theorem out_sum : out0_4 a z b d = k0_pay1 a z b := by
  rw [out0_4]
  frame_out

theorem out_norm : out0_5 a z b d = k0_pay2 a z b d := by
  rw [out0_5]
  frame_out

end Block

variable (m : (ℓ : Loc nD τ sig) → Buf (Elt 𝕀) ℓ) (c : Dev nD)

/-- The arguments on device `c`. -/
abbrev X0 : Vec 𝕀 S8192x2048 .f32 := m ((c : Thread nD τ).loc main_arg0)
abbrev X1 : Vec 𝕀 S8192x2048 .bf16 := m ((c : Thread nD τ).loc main_arg1)
abbrev X2 : Vec 𝕀 S2048 .f32 := m ((c : Thread nD τ).loc main_arg2)
abbrev X3 : Vec 𝕀 S2048 .f32 := m ((c : Thread nD τ).loc main_arg3)

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx2 (t : Fin grid0.N) : win0_2.index t = ![0, 0] := (by decide +kernel : ∀ t : Fin grid0.N, win0_2.index t = ![0, 0]) t
theorem idx3 (t : Fin grid0.N) : win0_3.index t = ![0, 0] := (by decide +kernel : ∀ t : Fin grid0.N, win0_3.index t = ![0, 0]) t
theorem idx4 (t : Fin grid0.N) : win0_4.index t = ![t.val, 0] := (by decide +kernel : ∀ t : Fin grid0.N, win0_4.index t = ![t.val, 0]) t
theorem idx5 (t : Fin grid0.N) : win0_5.index t = ![t.val, 0] := (by decide +kernel : ∀ t : Fin grid0.N, win0_5.index t = ![t.val, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (k : Fin 2048) : iblk m c 0 t (ix2 r k) = X0 m c (ix2 (row t r) k) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

theorem iblk2 (t : Fin cfg0.N) (k : Fin 2048) : iblk m c 2 t (ix2 (0 : Fin 1) k) = X2 m c (ix1 k) := by
  have e : (V m c main_v0 : Vec 𝕀 S1x2048 .f32) = shapeCast S1x2048 (X2 m c) shapeCasts_S2048_S1x2048 := by
    show StableHlo.after hostOps0 _ _ = _
    after_results <;> rfl
  have e' : (V m c main_v0 : Vec 𝕀 S1x2048 .f32) (ix2 (0 : Fin 1) k) = X2 m c (ix1 k) := by
    rw [e]
    pointwise []
  refine Eq.trans ?_ e'
  blk_ext [iblk, idx2]

theorem iblk3 (t : Fin cfg0.N) (k : Fin 2048) : iblk m c 3 t (ix2 (0 : Fin 1) k) = X3 m c (ix1 k) := by
  have e : (V m c main_v1 : Vec 𝕀 S1x2048 .f32) = shapeCast S1x2048 (X3 m c) shapeCasts_S2048_S1x2048 := by
    show StableHlo.after hostOps0 _ _ = _
    after_results <;> rfl
  have e' : (V m c main_v1 : Vec 𝕀 S1x2048 .f32) (ix2 (0 : Fin 1) k) = X3 m c (ix1 k) := by
    rw [e]
    pointwise []
  refine Eq.trans ?_ e'
  blk_ext [iblk, idx3]

/-- Where block `t` of result 4 lies. -/
theorem place4 (t : Fin cfg0.N) (r : Fin 256) (l : Fin 2048) :
    (win0_4.blk t).view.emb (ix2 r l) = (ix2 (row t r) l : S8192x2048.Idx) := by
  blk_ext [idx4]

/-- Where block `t` of result 5 lies. -/
theorem place5 (t : Fin cfg0.N) (r : Fin 256) (l : Fin 2048) :
    (win0_5.blk t).view.emb (ix2 r l) = (ix2 (row t r) l : S8192x2048.Idx) := by
  blk_ext [idx5]

/-- The results after the run. -/
theorem arr_sum : (dats m 0 c).arrAt 4 cfg0.N = sums (X0 m c) (X1 m c) (X2 m c) := by
  refine (dats m 0 c).arrAt_eq_of_covers 4 _ (by decide +kernel) fun t hf y => ?_
  blk_simp
  rw [after0_4, out_sum]
  obtain ⟨r, l, rfl⟩ := split2 y
  refine Eq.trans ?_ (congrArg (sums (X0 m c) (X1 m c) (X2 m c)) (place4 t r l)).symm
  refine (pay_sum _ _ _ r l).trans ?_
  simp only [iblk0, iblk1, iblk2]
  rfl

theorem arr_norm : (dats m 0 c).arrAt 5 cfg0.N = norms (X0 m c) (X1 m c) (X2 m c) (X3 m c) := by
  refine (dats m 0 c).arrAt_eq_of_covers 5 _ (by decide +kernel) fun t hf y => ?_
  blk_simp
  rw [after0_5, out_norm]
  obtain ⟨r, l, rfl⟩ := split2 y
  refine Eq.trans ?_ (congrArg (norms (X0 m c) (X1 m c) (X2 m c) (X3 m c)) (place5 t r l)).symm
  refine (pay_norm _ _ _ _ r l).trans ?_
  simp only [iblk0, iblk1, iblk2, iblk3]
  rfl

end Cert.NormMidIdeal.Val

namespace Cert.NormMidRefIdeal.Val

open Cert.NormMidRefIdeal Cert.NormMidRefIdeal.Read Cert.Mm Cert.Norm Idealize.ShloMosaic

local notation "𝕀" => Idealize.ShloMosaic.Ideal

variable (x : Vec 𝕀 S8192x2048 .f32) (z : Vec 𝕀 S8192x2048 .bf16) (g h : Vec 𝕀 S2048 .f32)

theorem ref_sum : val_main_v14 (F := 𝕀) x z g = Cert.NormMidIdeal.Val.sums x z g := by
  funext y
  obtain ⟨r, l, rfl⟩ := split2 y
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_norm : val_main_v28 (F := 𝕀) x z g h = Cert.NormMidIdeal.Val.norms x z g h := by
  funext y
  obtain ⟨r, l, rfl⟩ := split2 y
  pointwise [val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rw [ref_sum]
  rfl

end Cert.NormMidRefIdeal.Val

namespace Cert.NormMid

open Idealize.ShloMosaic Idealize.SL.Sem

local notation "𝕀" => Idealize.ShloMosaic.Ideal

/-- The reference runs and leaves its arguments. -/
theorem frame_ref : Cert.quiescent_NormMidRefIdeal := fun m ρ _ =>
  (θ_run Cert.NormMidRefIdeal.defs _ _).mono (fun r h => ⟨fun c => (h c).2.2, sem_eq_zero_of_no_sems (by decide) r.2⟩)
    (Cert.NormMidRefIdeal.Value.run (F := 𝕀) m ρ)

theorem algebraic : Cert.algebraic_NormMidIdeal_NormMidRefIdeal := by
  intro m ρ m' ρ' _ hag
  refine ⟨_, _, Cert.NormMidIdeal.Value.run_blocks (F := 𝕀) m ρ, ?_⟩
  refine (θ_run Cert.NormMidRefIdeal.defs _ _).mono (fun r h c => ?_) (Cert.NormMidRefIdeal.Value.run (F := 𝕀) m' ρ')
  obtain ⟨a0, a1, a2, a3⟩ := hag c
  refine ⟨(h c).1.trans ?_, (h c).2.1.trans ?_, (h c).2.2⟩
  · rw [Cert.NormMidRefIdeal.Read.val_main_v14_eq, a0, a1, a2]
    exact (Cert.NormMidRefIdeal.Val.ref_sum _ _ _).trans (Cert.NormMidIdeal.Val.arr_sum m c).symm
  · rw [Cert.NormMidRefIdeal.Read.val_main_v28_eq, a0, a1, a2, a3]
    exact (Cert.NormMidRefIdeal.Val.ref_norm _ _ _ _).trans (Cert.NormMidIdeal.Val.arr_norm m c).symm

end Cert.NormMid

end
-- ==== Proof.NormLossValue.lean ====
/-
  The last norm and the loss: what the kernel leaves, the reference at one index, and that they agree.
-/
module

public import proofs.«01_k».proof.Defs
public import proofs.«01_k».proof.Proof.Mm
public import proofs.«01_k».proof.Proof.Norm
public import proofs.«01_k».proof.Proof.Gen.NormLossIdeal.Frame
public import proofs.«01_k».proof.Proof.Gen.NormLossRefIdeal.Run
public import proofs.«01_k».proof.Proof.Gen.NormLossRefIdeal.Read

@[expose] public section

set_option maxRecDepth 16384

noncomputable section

namespace Cert.NormLossIdeal.Val

open Cert.NormLossIdeal Cert.NormLossIdeal.Gen Cert.Mm Cert.Norm
open Idealize.ShloMosaic Idealize.ShloMosaic.TcCoe Idealize.SL.Sem

local notation "𝕀" => Idealize.ShloMosaic.Ideal

/-- The difference from the target at one entry of a row, and in all the rows. -/
def off {n : ℕ} (x z g t : Fin n → EReal) (k : Fin n) : EReal := added x z g k - t k

def offs (x : Vec 𝕀 S8192x2048 .f32) (z : Vec 𝕀 S8192x2048 .bf16) (g : Vec 𝕀 S2048 .f32) (t : Vec 𝕀 S8192x2048 .f32)
    (r : Fin 8192) : Fin 2048 → EReal := off (fun k => x (ix2 r k)) (fun k => z (ix2 r k)) (fun k => g (ix1 k)) (fun k => t (ix2 r k))

/-- The loss's gradient at the rows. -/
def drows (e : Fin 8192 → Fin 2048 → EReal) : Vec 𝕀 S8192x2048 .f32 := fun y => e (y 0) (y 1) * Ideal.ofBits .f32 0x3A000000#32

/-- The squares summed over the rows, column by column. -/
def squares {n : ℕ} (e : Fin n → Fin 2048 → EReal) (l : Fin 2048) : EReal := ∑ r, e r l * e r l
def cols (e : Fin 8192 → Fin 2048 → EReal) : Vec 𝕀 S1x2048 .f32 := fun y => squares e (y 1)

/-- The loss: half the sum over the rows of the mean of the squares. -/
def total (e : Fin 8192 → Fin 2048 → EReal) : EReal := Ideal.ofBits .f32 0x3F000000#32 * ∑ r, Ideal.div (∑ k, e r k * e r k) width

theorem sum_mul {n : ℕ} (f : Fin n → EReal) (h : ∀ k, 0 ≤ f k) (c : EReal) : (∑ k, f k) * c = ∑ k, f k * c := by
  induction n with
  | zero => simp
  | succ n ih =>
    rw [Fin.sum_univ_succ, Fin.sum_univ_succ, EReal.right_distrib_of_nonneg (h 0) (Finset.sum_nonneg fun k _ => h _), ih _ fun k => h _]

/-- Summing the columns first makes no difference: squares are not negative. -/
theorem total_eq (e : Fin 8192 → Fin 2048 → EReal) :
    Ideal.div (Ideal.ofBits .f32 0x3F000000#32 * ∑ l, squares e l) width = total e := by
  rw [div_width, total, mul_assoc]
  refine congrArg _ ?_
  unfold squares
  rw [Finset.sum_comm, sum_mul _ fun r => Finset.sum_nonneg fun k _ => mul_self_nonneg _]
  exact Finset.sum_congr rfl fun r _ => (div_width _).symm

/-- The factor of the gradient: half of twice the mean's. -/
theorem factor (x : EReal) : Ideal.div (Ideal.ofBits .f32 0x3F000000#32 * Ideal.ofBits .f32 0x3F800000#32) width
    * (Ideal.ofBits .f32 0x40000000#32 * x) = x * Ideal.ofBits .f32 0x3A000000#32 := by
  have h : Ideal.ofBits .f32 0x3F000000#32 = ((1 / 2 : ℝ) : EReal) := by
    simp [Ideal.ofBits, Ideal.ieee]
    norm_num [← EReal.coe_mul]
  have o : Ideal.ofBits .f32 0x3F800000#32 = ((1 : ℝ) : EReal) := by
    simp [Ideal.ofBits, Ideal.ieee]
    norm_num [← EReal.coe_mul]
  have w : Ideal.ofBits .f32 0x40000000#32 = ((2 : ℝ) : EReal) := by
    simp [Ideal.ofBits, Ideal.ieee]
    norm_num [← EReal.coe_mul]
  have q : Ideal.ofBits .f32 0x3A000000#32 = ((1 / 2048 : ℝ) : EReal) := by
    simp [Ideal.ofBits, Ideal.ieee]
    norm_num [← EReal.coe_mul]
  rw [div_width, h, o, w, q, ← mul_assoc, mul_comm x]
  refine congrArg (· * x) ?_
  rw [← EReal.coe_mul, ← EReal.coe_mul, ← EReal.coe_mul]
  norm_num

section Block

variable (a : Vec 𝕀 S256x2048 .f32) (z : Vec 𝕀 S256x2048 .bf16) (b : Vec 𝕀 S1x2048 .f32) (u : Vec 𝕀 S256x2048 .f32)

/-- The differences of a block. -/
def blk (r : Fin 256) : Fin 2048 → EReal :=
  off (fun k => a (ix2 r k)) (fun k => z (ix2 r k)) (fun k => b (ix2 (0 : Fin 1) k)) (fun k => u (ix2 r k))

theorem pay_off (r : Fin 256) (l : Fin 2048) : k0_pay1 a z b u (ix2 r l) = blk a z b u r l := by
  pointwise [k0_pay1]
  rfl

theorem pay_rows (r : Fin 256) (l : Fin 2048) : k0_pay2 a z b u (ix2 r l) = blk a z b u r l * Ideal.ofBits .f32 0x3A000000#32 := by
  pointwise [k0_pay2]
  rw [pay_off]

theorem pay_cols (e : Vec 𝕀 S1x2048 .f32) (l : Fin 2048) : k0_pay4 a z b u e (ix2 (0 : Fin 1) l)
    = e (ix2 (0 : Fin 1) l) + squares (blk a z b u) l := by
  pointwise [k0_pay4]
  simp only [pay_off]
  rfl

variable (c : Dev nD) (i : grid0.Coords)
  (m0 : Memref sig .tc .vmem S256x2048 .f32) (w0 : m0.IsWhole)
  (m1 : Memref sig .tc .vmem S256x2048 .bf16) (w1 : m1.IsWhole)
  (m2 : Memref sig .tc .vmem S1x2048 .f32) (w2 : m2.IsWhole)
  (m3 : Memref sig .tc .vmem S256x2048 .f32) (w3 : m3.IsWhole)
  (m4 : Memref sig .tc .vmem S256x2048 .f32) (w4 : m4.IsWhole)
  (m5 : Memref sig .tc .vmem S1x2048 .f32) (w5 : m5.IsWhole)

theorem out_A_4 (hc : cond0_0 i) : out0_A_4 c i m0 w0 m1 w1 m2 w2 m3 w3 m4 w4 m5 w5 hc a z b u = k0_pay2 a z b u := by
  rw [out0_A_4]
  frame_out

theorem out_A_5 (hc : cond0_0 i) : out0_A_5 c i m0 w0 m1 w1 m2 w2 m3 w3 m4 w4 m5 w5 hc a z b u = k0_pay4 a z b u (k0_pay3 (F := 𝕀)) := by
  rw [out0_A_5]
  frame_out

theorem out_B_4 (hc : ¬cond0_0 i) (e : Vec 𝕀 S1x2048 .f32) : out0_B_4 c i m0 w0 m1 w1 m2 w2 m3 w3 m4 w4 m5 w5 hc a z b u e = k0_pay2 a z b u := by
  rw [out0_B_4]
  frame_out

theorem out_B_5 (hc : ¬cond0_0 i) (e : Vec 𝕀 S1x2048 .f32) : out0_B_5 c i m0 w0 m1 w1 m2 w2 m3 w3 m4 w4 m5 w5 hc a z b u e = k0_pay4 a z b u e := by
  rw [out0_B_5]
  frame_out

end Block

variable (m : (ℓ : Loc nD τ sig) → Buf (Elt 𝕀) ℓ) (c : Dev nD)

/-- The arguments on device `c`, and the differences. -/
abbrev X0 : Vec 𝕀 S8192x2048 .f32 := m ((c : Thread nD τ).loc main_arg0)
abbrev X1 : Vec 𝕀 S8192x2048 .bf16 := m ((c : Thread nD τ).loc main_arg1)
abbrev X2 : Vec 𝕀 S2048 .f32 := m ((c : Thread nD τ).loc main_arg2)
abbrev X3 : Vec 𝕀 S8192x2048 .f32 := m ((c : Thread nD τ).loc main_arg3)
abbrev E : Fin 8192 → Fin 2048 → EReal := offs (X0 m c) (X1 m c) (X2 m c) (X3 m c)

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx2 (t : Fin grid0.N) : win0_2.index t = ![0, 0] := (by decide +kernel : ∀ t : Fin grid0.N, win0_2.index t = ![0, 0]) t
theorem idx3 (t : Fin grid0.N) : win0_3.index t = ![t.val, 0] := (by decide +kernel : ∀ t : Fin grid0.N, win0_3.index t = ![t.val, 0]) t
theorem idx4 (t : Fin grid0.N) : win0_4.index t = ![t.val, 0] := (by decide +kernel : ∀ t : Fin grid0.N, win0_4.index t = ![t.val, 0]) t
theorem idx5 (t : Fin grid0.N) : win0_5.index t = ![0, 0] := (by decide +kernel : ∀ t : Fin grid0.N, win0_5.index t = ![0, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (k : Fin 2048) : iblk m c 0 t (ix2 r k) = X0 m c (ix2 (row t r) k) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

theorem iblk2 (t : Fin cfg0.N) (k : Fin 2048) : iblk m c 2 t (ix2 (0 : Fin 1) k) = X2 m c (ix1 k) := by
  have e : (V m c main_v0 : Vec 𝕀 S1x2048 .f32) = shapeCast S1x2048 (X2 m c) shapeCasts_S2048_S1x2048 := by
    show StableHlo.after hostOps0 _ _ = _
    after_results <;> rfl
  have e' : (V m c main_v0 : Vec 𝕀 S1x2048 .f32) (ix2 (0 : Fin 1) k) = X2 m c (ix1 k) := by
    rw [e]
    pointwise []
  refine Eq.trans ?_ e'
  blk_ext [iblk, idx2]

theorem iblk3 (t : Fin cfg0.N) (r : Fin 256) (k : Fin 2048) : iblk m c 3 t (ix2 r k) = X3 m c (ix2 (row t r) k) := by
  blk_ext [iblk, V_main_arg3, idx3]

/-- A block's differences. -/
theorem blk_eq (t : Fin cfg0.N) (r : Fin 256) : blk (iblk m c 0 t) (iblk m c 1 t) (iblk m c 2 t) (iblk m c 3 t) r = E m c (row t r) := by
  unfold blk
  simp only [iblk0, iblk1, iblk2, iblk3]
  rfl

/-- Where block `t` of the gradient lies. -/
theorem place4 (t : Fin cfg0.N) (r : Fin 256) (l : Fin 2048) :
    (win0_4.blk t).view.emb (ix2 r l) = (ix2 (row t r) l : S8192x2048.Idx) := by
  blk_ext [idx4]

/-- Where the columns' sums lie. -/
theorem place5 (t : Fin cfg0.N) (l : Fin 2048) :
    (win0_5.blk t).view.emb (ix2 (0 : Fin 1) l) = (ix2 (0 : Fin 1) l : S1x2048.Idx) := by
  blk_ext [idx5]

theorem outs4 (t : Fin cfg0.N) (r : Fin 256) (l : Fin 2048) : (outsAt0 m c t.val t.isLt).1 (ix2 r l)
    = drows (E m c) (ix2 (row t r) l) := by
  have e : (outsAt0 m c t.val t.isLt).1 = k0_pay2 (iblk m c 0 t) (iblk m c 1 t) (iblk m c 2 t) (iblk m c 3 t) := by
    by_cases h : t.val % 32 = 0
    · rw [outsAt0_A m c t h]
      dsimp only
      rw [out_A_4]
    · rw [outsAt0_B m c t h]
      dsimp only
      rw [out_B_4]
  rw [e]
  refine (pay_rows _ _ _ _ r l).trans ?_
  rw [blk_eq]
  rfl

/-- The last point. -/
abbrev tL : Fin cfg0.N := ⟨31, by rw [show cfg0.N = 32 from N_0]; decide⟩

/-- What the columns' sums have added up after the last block. -/
theorem outs5 (l : Fin 2048) : (outsAt0 m c tL.val tL.isLt).2 (ix2 (0 : Fin 1) l) = ∑ t : Fin cfg0.N, squares (fun r : Fin 256 => E m c (row t r)) l := by
  have e := Pipeline.eq_sum_fin_of_reset_step_apply_last (M := EReal) (ι := Fin 2048)
    (fun n h l => (outsAt0 m c n h).2 (ix2 (0 : Fin 1) l)) 32 (fun _ => 0) (fun t l => squares (fun r : Fin 256 => E m c (row t r)) l)
    (fun t h l => by
      rw [outsAt0_A m c t h]
      dsimp only
      rw [out_A_5]
      refine (pay_cols _ _ _ _ _ l).trans (congrArg₂ (· + ·) ?_ ?_)
      · exact Ideal.ofBits_zero_f32
      · exact congrArg (squares · l) (funext fun r => blk_eq m c t r))
    (fun t h l => by
      rw [outsAt0_B m c t h]
      dsimp only
      rw [out_B_5]
      refine (pay_cols _ _ _ _ _ l).trans (congrArg (_ + ·) ?_)
      exact congrArg (squares · l) (funext fun r => blk_eq m c t r))
    (by rw [show cfg0.N = 32 from N_0]) tL (show 31 + 1 = grid0.N from N_0.symm) l
  exact e.trans (zero_add _)

/-- The sums over the blocks. -/
theorem squares_blocks (e : Fin 8192 → Fin 2048 → EReal) (l : Fin 2048) :
    ∑ t : Fin 32, squares (fun r : Fin 256 => e ⟨256 * t.val + r.val, by omega⟩) l = squares e l :=
  Fin.sum_mul_add_congr (f := fun r => e r l * e r l) fun t r h => by
    have q : (⟨256 * t.val + r.val, by omega⟩ : Fin 8192) = ⟨t.val * 256 + r.val, h⟩ := Fin.ext (by show 256 * t.val + r.val = t.val * 256 + r.val; omega)
    simp only [q]

/-- What the kernel leaves. -/
theorem arr_rows : (dats m 0 c).arrAt 4 cfg0.N = drows (E m c) := by
  refine (dats m 0 c).arrAt_eq_of_covers 4 _ (by decide +kernel) fun t hf y => ?_
  blk_simp
  rw [after0_4]
  obtain ⟨r, l, rfl⟩ := split2 y
  exact (outs4 m c t r l).trans (congrArg (drows (E m c)) (place4 t r l)).symm

theorem arr_cols : (dats m 0 c).arrAt 5 cfg0.N = cols (E m c) := by
  refine (dats m 0 c).arrAt_eq_of_covers 5 _ (by decide +kernel) fun t hf y => ?_
  blk_simp
  rw [after0_5]
  obtain ⟨z, l, rfl⟩ := split2 y
  obtain rfl := Fin.eq_zero z
  refine Eq.trans ?_ (congrArg (cols (E m c)) (place5 t l)).symm
  have ht : t = tL := Fin.ext (by have := (flush0_5 t).mp hf; have := lt_N t; show t.val = 31; omega)
  subst ht
  refine (outs5 m c l).trans ?_
  refine Eq.trans ?_ (squares_blocks (E m c) l)
  exact Equiv.sum_comp (finCongr N_0) fun t : Fin 32 => squares (fun r : Fin 256 => E m c ⟨256 * t.val + r.val, by omega⟩) l

/-- The host's sum over both axes, halved and divided. -/
theorem sum_all (v : Vec 𝕀 S1x2048 .f32) (y : S_.Idx) : Host.divf (mulf (constant (F := 𝕀) S_ .f32 0x3F000000#32)
    (Host.reduceAdd v (constant (F := 𝕀) S_ .f32 0x00000000#32) reducesTo_S1x2048_S_d0_1 h_S_)) (constant (F := 𝕀) S_ .f32 0x45000000#32) y
    = Ideal.div (Ideal.ofBits .f32 0x3F000000#32 * ∑ l : Fin 2048, v (ix2 (0 : Fin 1) l)) width := by
  pointwise []
  exact congrArg (fun w => Ideal.div (_ * w) width) (Fin.sum_univ_one fun k : Fin 1 => ∑ l : Fin 2048, v (ix2 k l))

theorem loss_eq (e : Fin 8192 → Fin 2048 → EReal) : Host.divf (mulf (constant (F := 𝕀) S_ .f32 0x3F000000#32)
    (Host.reduceAdd (cols e) (constant (F := 𝕀) S_ .f32 0x00000000#32) reducesTo_S1x2048_S_d0_1 h_S_)) (constant (F := 𝕀) S_ .f32 0x45000000#32)
    = fun _ => total e :=
  funext fun y => (sum_all (cols e) y).trans (total_eq e)

/-- The loss, from the columns' sums after the kernel. -/
theorem tail (r : PUnit × MemSt nD τ sig (Elt 𝕀)) (h : Pipeline.FramePost cfgs (dats m) 0 (Pipeline.afterTail₀ cfgs (dats m) 0 (V0 m) [hostOps1]) r) :
    r.2.mem ((c : Thread nD τ).loc main_v4) = (fun _ => total (E m c) : Vec 𝕀 S_ .f32) := by
  refine ((h c).2 main_v4 (Pipeline.mem_restRefs_of main_v4 (by decide) (by decide))).trans ?_
  have e : Pipeline.withArrays (cfgs 0).spec c (V0 m c) (fun w => (dats m 0 c).arrAt w (cfgs 0).N) (Proc.devRef .tc main_v1_1)
      = (dats m 0 c).arrAt 5 cfg0.N := Pipeline.withArrays_arr spec0 launch0.win.arr_inj c _ _ 5
  unfold Pipeline.afterTail₀
  simp only [List.flatten_cons, List.flatten_nil, List.append_nil]
  after_results
  rw [e, arr_cols]
  exact loss_eq (E m c)

theorem run (ρ : Dev nD → PrngReg) : θ_run defs (onTc (τ := τ) (main (F := 𝕀))) ⟨m, fun _ => 0, ρ⟩ fun r => ∀ c : Dev nD,
      r.2.mem ((c : Thread nD τ).loc main_v1_0) = drows (E m c)
      ∧ r.2.mem ((c : Thread nD τ).loc main_v4) = (fun _ => total (E m c) : Vec 𝕀 S_ .f32)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c :=
  (θ_run defs _ _).mono (fun r h c => ⟨((h.1 c).1 4).trans (arr_rows m c), tail m c r h.1, h.2 c⟩) (θ_run_and (run_main m ρ) (unchanged m ρ))

end Cert.NormLossIdeal.Val

namespace Cert.NormLossRefIdeal.Val

open Cert.NormLossRefIdeal Cert.NormLossRefIdeal.Read Cert.Mm Cert.Norm Cert.NormLossIdeal.Val Idealize.ShloMosaic

local notation "𝕀" => Idealize.ShloMosaic.Ideal

variable (x : Vec 𝕀 S8192x2048 .f32) (z : Vec 𝕀 S8192x2048 .bf16) (g : Vec 𝕀 S2048 .f32) (t : Vec 𝕀 S8192x2048 .f32)

theorem ref_off (r : Fin 8192) (l : Fin 2048) : val_main_v15 (F := 𝕀) x z g t (ix2 r l) = offs x z g t r l := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_rows : val_main_v29 (F := 𝕀) x z g t = drows (offs x z g t) := by
  funext y
  obtain ⟨r, l, rfl⟩ := split2 y
  refine Eq.trans ?_ (factor (offs x z g t r l))
  pointwise [val_main_v29, val_main_v28, val_main_v27, val_main_v26, val_main_v25, val_main_v24, val_main_v18, val_main_v17, val_main_cst_2, val_main_cst_7, val_main_cst_8, val_main_cst_9]
  rw [ref_off]
  rfl

theorem ref_total : val_main_v23 (F := 𝕀) x z g t = fun _ => total (offs x z g t) := by
  funext y
  pointwise [val_main_v23, val_main_v22, val_main_v21, val_main_v20, val_main_v19, val_main_v16, val_main_cst_3, val_main_cst_4, val_main_cst_5, val_main_cst_6]
  simp only [ref_off]
  rfl

end Cert.NormLossRefIdeal.Val

namespace Cert.NormLoss

open Idealize.ShloMosaic Idealize.SL.Sem

local notation "𝕀" => Idealize.ShloMosaic.Ideal

/-- The reference runs and leaves its arguments. -/
theorem frame_ref : Cert.quiescent_NormLossRefIdeal := fun m ρ _ =>
  (θ_run Cert.NormLossRefIdeal.defs _ _).mono (fun r h => ⟨fun c => (h c).2.2, sem_eq_zero_of_no_sems (by decide) r.2⟩)
    (Cert.NormLossRefIdeal.Value.run (F := 𝕀) m ρ)

theorem algebraic : Cert.algebraic_NormLossIdeal_NormLossRefIdeal := by
  intro m ρ m' ρ' _ hag
  refine ⟨_, _, Cert.NormLossIdeal.Val.run m ρ, ?_⟩
  refine (θ_run Cert.NormLossRefIdeal.defs _ _).mono (fun r h c => ?_) (Cert.NormLossRefIdeal.Value.run (F := 𝕀) m' ρ')
  obtain ⟨a0, a1, a2, a3⟩ := hag c
  refine ⟨(h c).1.trans ?_, (h c).2.1.trans ?_, (h c).2.2⟩
  · rw [Cert.NormLossRefIdeal.Read.val_main_v29_eq, a0, a1, a2, a3]
    exact Cert.NormLossRefIdeal.Val.ref_rows _ _ _ _
  · rw [Cert.NormLossRefIdeal.Read.val_main_v23_eq, a0, a1, a2, a3]
    exact Cert.NormLossRefIdeal.Val.ref_total _ _ _ _

end Cert.NormLoss

end
-- ==== Proof.MergeFwdValue.lean ====
/-
  The merge of the three branches: what the kernel leaves, the reference at one index, and that they agree.
-/
module

public import proofs.«01_k».proof.Defs
public import proofs.«01_k».proof.Proof.Mm
public import proofs.«01_k».proof.Proof.Gate
public import proofs.«01_k».proof.Proof.Gen.MergeFwdIdeal.Value
public import proofs.«01_k».proof.Proof.Gen.MergeFwdRefIdeal.Run
public import proofs.«01_k».proof.Proof.Gen.MergeFwdRefIdeal.Read

@[expose] public section

set_option maxRecDepth 16384

noncomputable section

namespace Cert.MergeFwdIdeal.Val

open Cert.MergeFwdIdeal Cert.MergeFwdIdeal.Gen Cert.Mm Cert.Gate
open Cert.AttnBwdIdeal.Val (ld_cols)
open Idealize.ShloMosaic Idealize.ShloMosaic.TcCoe Idealize.SL.Sem

local notation "𝕀" => Idealize.ShloMosaic.Ideal

/-- Every merged row. -/
def merged (p : Vec 𝕀 S8192x12288 .bf16) (a b x : Vec 𝕀 S8192x2048 .bf16) : Vec 𝕀 S8192x2048 .bf16 :=
  fun y => gate (p (ix2 (y 0) (gcol 0 (y 1)))) * a y + gate (p (ix2 (y 0) (gcol 1 (y 1)))) * b y
    + gate (p (ix2 (y 0) (gcol 2 (y 1)))) * x y

theorem pay_apply (g a h b k x : Vec 𝕀 S256x2048 .bf16) (r : Fin 256) (l : Fin 2048) :
    k0_pay1 (k0_pay2 g a h b) (k0_pay3 k) x (ix2 r l)
      = gate (g (ix2 r l)) * a (ix2 r l) + gate (h (ix2 r l)) * b (ix2 r l) + gate (k (ix2 r l)) * x (ix2 r l) := by
  pointwise [k0_pay1, k0_pay2, k0_pay3]
  simp only [Ideal.ofBits_zero_f32, Ideal.ofBits_one_f32, zero_add, zero_sub]
  rfl

theorem out_apply (g : Vec 𝕀 S256x6144 .bf16) (a b x : Vec 𝕀 S256x2048 .bf16) (r : Fin 256) (l : Fin 2048) :
    out0_4 g a b x (ix2 r l) = gate (g (ix2 r (bcol 0 l))) * a (ix2 r l) + gate (g (ix2 r (bcol 1 l))) * b (ix2 r l)
      + gate (g (ix2 r (bcol 2 l))) * x (ix2 r l) := by
  rw [show out0_4 g a b x = k0_pay1 (k0_pay2 (View.ld g r0_0) a (View.ld g r0_2) b) (k0_pay3 (View.ld g r0_3)) x by
    rw [out0_4]
    frame_out]
  refine (pay_apply _ _ _ _ _ _ r l).trans ?_
  rw [ld_cols g 0 _ r l (bcol 0 l) rfl, ld_cols g 2048 _ r l (bcol 1 l) rfl, ld_cols g 4096 _ r l (bcol 2 l) rfl]

variable (m : (ℓ : Loc nD τ sig) → Buf (Elt 𝕀) ℓ) (c : Dev nD)

/-- The arguments on device `c`. -/
abbrev X0 : Vec 𝕀 S8192x12288 .bf16 := m ((c : Thread nD τ).loc main_arg0)
abbrev X1 : Vec 𝕀 S8192x2048 .bf16 := m ((c : Thread nD τ).loc main_arg1)
abbrev X2 : Vec 𝕀 S8192x2048 .bf16 := m ((c : Thread nD τ).loc main_arg2)
abbrev X3 : Vec 𝕀 S8192x2048 .bf16 := m ((c : Thread nD τ).loc main_arg3)

theorem idx0 (t : Fin grid0.N) : win0_0.index t = ![t.val, 1] := (by decide +kernel : ∀ t : Fin grid0.N, win0_0.index t = ![t.val, 1]) t
theorem idx1 (t : Fin grid0.N) : win0_1.index t = ![t.val, 0] := (by decide +kernel : ∀ t : Fin grid0.N, win0_1.index t = ![t.val, 0]) t
theorem idx2 (t : Fin grid0.N) : win0_2.index t = ![t.val, 0] := (by decide +kernel : ∀ t : Fin grid0.N, win0_2.index t = ![t.val, 0]) t
theorem idx3 (t : Fin grid0.N) : win0_3.index t = ![t.val, 0] := (by decide +kernel : ∀ t : Fin grid0.N, win0_3.index t = ![t.val, 0]) t
theorem idx4 (t : Fin grid0.N) : win0_4.index t = ![t.val, 0] := (by decide +kernel : ∀ t : Fin grid0.N, win0_4.index t = ![t.val, 0]) t

theorem lt_N (t : Fin cfg0.N) : t.val < 32 := lt_of_lt_of_eq t.isLt N_0

/-- Row `r` of block `t`. -/
abbrev row (t : Fin cfg0.N) (r : Fin 256) : Fin 8192 := ⟨256 * t.val + r.val, by have := lt_N t; omega⟩

theorem iblk0 (t : Fin cfg0.N) (r : Fin 256) (b : Fin 3) (l : Fin 2048) :
    iblk m c 0 t (ix2 r (bcol b l)) = X0 m c (ix2 (row t r) (gcol b l)) := by
  blk_ext [iblk, V_main_arg0, idx0]

theorem iblk1 (t : Fin cfg0.N) (r : Fin 256) (k : Fin 2048) : iblk m c 1 t (ix2 r k) = X1 m c (ix2 (row t r) k) := by
  blk_ext [iblk, V_main_arg1, idx1]

theorem iblk2 (t : Fin cfg0.N) (r : Fin 256) (k : Fin 2048) : iblk m c 2 t (ix2 r k) = X2 m c (ix2 (row t r) k) := by
  blk_ext [iblk, V_main_arg2, idx2]

theorem iblk3 (t : Fin cfg0.N) (r : Fin 256) (k : Fin 2048) : iblk m c 3 t (ix2 r k) = X3 m c (ix2 (row t r) k) := by
  blk_ext [iblk, V_main_arg3, idx3]

/-- Where block `t` of result 4 lies. -/
theorem place4 (t : Fin cfg0.N) (r : Fin 256) (l : Fin 2048) :
    (win0_4.blk t).view.emb (ix2 r l) = (ix2 (row t r) l : S8192x2048.Idx) := by
  blk_ext [idx4]

/-- The result after the run. -/
theorem arr : (dats m 0 c).arrAt 4 cfg0.N = merged (X0 m c) (X1 m c) (X2 m c) (X3 m c) := by
  refine (dats m 0 c).arrAt_eq_of_covers 4 _ (by decide +kernel) fun t hf y => ?_
  blk_simp
  rw [after0_4]
  obtain ⟨r, l, rfl⟩ := split2 y
  refine Eq.trans ?_ (congrArg (merged (X0 m c) (X1 m c) (X2 m c) (X3 m c)) (place4 t r l)).symm
  refine (out_apply _ _ _ _ r l).trans ?_
  simp only [iblk0, iblk1, iblk2, iblk3]
  rfl

end Cert.MergeFwdIdeal.Val

namespace Cert.MergeFwdRefIdeal.Val

open Cert.MergeFwdRefIdeal Cert.MergeFwdRefIdeal.Read Cert.Mm Cert.Gate Idealize.ShloMosaic

local notation "𝕀" => Idealize.ShloMosaic.Ideal

theorem ref_eq (p : Vec 𝕀 S8192x12288 .bf16) (a b x : Vec 𝕀 S8192x2048 .bf16) :
    val_main_v23 (F := 𝕀) p a b x = Cert.MergeFwdIdeal.Val.merged p a b x := by
  funext y
  obtain ⟨r, l, rfl⟩ := split2 y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rw [show (⟨6144 + l.val, by omega⟩ : Fin 12288) = gcol 0 l from Fin.ext (by show 6144 + l.val = 6144 + (2048 * 0 + l.val); omega)]
  rfl

end Cert.MergeFwdRefIdeal.Val

namespace Cert.MergeFwd

open Idealize.ShloMosaic Idealize.SL.Sem

local notation "𝕀" => Idealize.ShloMosaic.Ideal

/-- The reference runs and leaves its arguments. -/
theorem frame_ref : Cert.quiescent_MergeFwdRefIdeal := fun m ρ _ =>
  (θ_run Cert.MergeFwdRefIdeal.defs _ _).mono (fun r h => ⟨fun c => (h c).2, sem_eq_zero_of_no_sems (by decide) r.2⟩)
    (Cert.MergeFwdRefIdeal.Value.run (F := 𝕀) m ρ)

theorem algebraic : Cert.algebraic_MergeFwdIdeal_MergeFwdRefIdeal := by
  intro m ρ m' ρ' _ hag
  refine ⟨_, Cert.MergeFwdIdeal.Value.run_blocks (F := 𝕀) m ρ, ?_⟩
  refine (θ_run Cert.MergeFwdRefIdeal.defs _ _).mono (fun r h c => ?_) (Cert.MergeFwdRefIdeal.Value.run (F := 𝕀) m' ρ')
  obtain ⟨a0, a1, a2, a3⟩ := hag c
  refine ⟨(h c).1.trans ?_, (h c).2⟩
  rw [Cert.MergeFwdRefIdeal.Read.val_main_v23_eq, a0, a1, a2, a3]
  exact (Cert.MergeFwdRefIdeal.Val.ref_eq _ _ _ _).trans (Cert.MergeFwdIdeal.Val.arr m c).symm

end Cert.MergeFwd

end
-- ==== Proof.AttnFwdValue.lean ====
/-
  The attention's forward call: what the kernel leaves, the reference at one index, and that they agree.
-/
module

public import proofs.«01_k».proof.Defs
public import proofs.«01_k».proof.Proof.Mm
public import proofs.«01_k».proof.Proof.AttnValue
public import proofs.«01_k».proof.Proof.Gen.AttnFwdIdeal.Value
public import proofs.«01_k».proof.Proof.Gen.AttnFwdRefIdeal.Run
public import proofs.«01_k».proof.Proof.Gen.AttnFwdRefIdeal.Read

@[expose] public section

set_option maxRecDepth 16384

noncomputable section

namespace Cert.AttnFwdIdeal.Val

open Cert.AttnFwdIdeal Cert.AttnFwdIdeal.Gen Cert.Mm Cert.Attn
open Cert.AttnBwdIdeal.Val (ld_q ld_k ld_v qcol keys vals rowOf)
open Idealize.ShloMosaic Idealize.ShloMosaic.TcCoe Idealize.SL.Sem

local notation "𝕀" => Idealize.ShloMosaic.Ideal

/-- One row's attention to the 256 keys. -/
def attend (q : Fin 256 → EReal) (K V : Fin 256 → Fin 256 → EReal) (l : Fin 256) : EReal := ∑ j, prob q K j * V j l

/-- Every row's, the heads side by side. -/
def attended (x : Vec 𝕀 S8192x12288 .bf16) (kv : Vec 𝕀 S256x2048 .bf16) : Vec 𝕀 S8192x1024 .bf16 :=
  fun y => attend (qRow x (hd (y 1)) (y 0)) (keyTab kv (hd (y 1))) (valTab kv (hd (y 1))) (ln (y 1))

/-! ## A block -/

theorem pay_apply (q : Vec 𝕀 S512x256 .bf16) (k v : Vec 𝕀 S256x256 .bf16) (r : Fin 512) (l : Fin 256) :
    k0_pay2 q k v (ix2 r l) = attend (fun d => q (ix2 r d)) (fun j d => k (ix2 j d)) (fun j d => v (ix2 j d)) l := by
  pointwise [k0_pay2]
  rfl

/-! The other three heads are the same operations. -/

theorem pay_1 (q : Vec 𝕀 S512x256 .bf16) (k v : Vec 𝕀 S256x256 .bf16) : k0_pay4 v (k0_pay3 q k) = k0_pay2 q k v := rfl
theorem pay_2 (q : Vec 𝕀 S512x256 .bf16) (k v : Vec 𝕀 S256x256 .bf16) : k0_pay5 q k v = k0_pay2 q k v := rfl
theorem pay_3 (q : Vec 𝕀 S512x256 .bf16) (k v : Vec 𝕀 S256x256 .bf16) : k0_pay1 v (k0_pay6 q k) = k0_pay2 q k v := rfl

section Block

variable (x : Vec 𝕀 S512x1024 .bf16) (kv : Vec 𝕀 S256x2048 .bf16)

/-- A block's rows, the heads side by side. -/
def blkOut : Vec 𝕀 S512x1024 .bf16 :=
  fun y => attend (rowOf x (hd (y 1)) (y 0)) (keys kv (hd (y 1))) (vals kv (hd (y 1))) (ln (y 1))

/-- One head's store, at column `o`. -/
def piece (o : ℕ) (h1 : ∀ a, (![0, o] : Fin 2 → ℕ) a + (![512, 256] : Fin 2 → ℕ) a ≤ S512x1024.size a)
    (h2 : ∀ a, (![0, o] : Fin 2 → ℕ) a + (![256, 256] : Fin 2 → ℕ) a ≤ S256x2048.size a)
    (h3 : ∀ a, (![0, 1024 + o] : Fin 2 → ℕ) a + (![256, 256] : Fin 2 → ℕ) a ≤ S256x2048.size a) :
    View.Piece (Elt 𝕀) S512x1024 .bf16 :=
  ⟨Rect.unit ![0, o] ![512, 256] h1,
    k0_pay2 (View.ld x (Rect.unit ![0, o] ![512, 256] h1)) (View.ld kv (Rect.unit ![0, o] ![256, 256] h2))
      (View.ld kv (Rect.unit ![0, 1024 + o] ![256, 256] h3))⟩

theorem piece_eq (h : Fin 4) (o : ℕ) (ho : o = 256 * h.val) (h1) (h2) (h3) (y : (piece x kv o h1 h2 h3).1.shape.Idx) :
    (piece x kv o h1 h2 h3).2 y = blkOut x kv ((piece x kv o h1 h2 h3).1.emb y) := by
  subst ho
  obtain ⟨r, l, rfl⟩ := split2 (n := 512) (k := 256) y
  have e : (piece x kv (256 * h.val) h1 h2 h3).1.emb (ix2 r l) = (ix2 r (qcol h l) : S512x1024.Idx) := by
    funext a
    match a with
    | ⟨0, _⟩ => exact Fin.ext (by show 0 + 1 * r.val = r.val; omega)
    | ⟨1, _⟩ => exact Fin.ext (by show 256 * h.val + 1 * l.val = 256 * h.val + l.val; omega)
  have eh : hd (qcol h l) = h := Fin.ext (by show (256 * h.val + l.val) / 256 % 4 = h.val; omega)
  have el : ln (qcol h l) = l := Fin.ext (by show (256 * h.val + l.val) % 256 = l.val; omega)
  rw [e]
  show k0_pay2 (F := 𝕀) _ _ _ (ix2 r l)
    = attend (rowOf x (hd (qcol h l)) r) (keys kv (hd (qcol h l))) (vals kv (hd (qcol h l))) (ln (qcol h l))
  rw [eh, el]
  refine (pay_apply _ _ _ r l).trans ?_
  simp only [ld_q x h h1 r, ld_k kv h h2, ld_v kv h h3]
  rfl

/-- The four heads' stores, last first. -/
def pieces : List (View.Piece (Elt 𝕀) S512x1024 .bf16) :=
  [piece x kv 768 inb_S512x1024_S512x256_0_768 inb_S256x2048_S256x256_0_768 inb_S256x2048_S256x256_0_1792,
   piece x kv 512 inb_S512x1024_S512x256_0_512 inb_S256x2048_S256x256_0_512 inb_S256x2048_S256x256_0_1536,
   piece x kv 256 inb_S512x1024_S512x256_0_256 inb_S256x2048_S256x256_0_256 inb_S256x2048_S256x256_0_1280,
   piece x kv 0 inb_S512x1024_S512x256_0_0 inb_S256x2048_S256x256_0_0 inb_S256x2048_S256x256_0_1024]

theorem pieces_of : View.PiecesOf (blkOut x kv) (pieces x kv) :=
  ⟨piece_eq x kv 3 768 rfl _ _ _, piece_eq x kv 2 512 rfl _ _ _, piece_eq x kv 1 256 rfl _ _ _, piece_eq x kv 0 0 rfl _ _ _, trivial⟩

theorem out_eq : out0_2 x kv = blkOut x kv := by
  rw [out0_2, pay_1, pay_2, pay_3]
  exact funext fun y => View.canon_apply_of_pieces _ (pieces x kv) (pieces_of x kv).mem y (cover0_2 _ _ _ _ y)

end Block

/-! ## The array -/

variable (m : (ℓ : Loc nD τ sig) → Buf (Elt 𝕀) ℓ) (c : Dev nD)

/-- The arguments on device `c`. -/
abbrev X0 : Vec 𝕀 S8192x12288 .bf16 := m ((c : Thread nD τ).loc main_arg0)
abbrev X1 : Vec 𝕀 S256x2048 .bf16 := m ((c : Thread nD τ).loc main_arg1)

theorem idx0 (t : Fin grid0.N) : win0_0.index t = ![t.val, 5] := (by decide +kernel : ∀ t : Fin grid0.N, win0_0.index t = ![t.val, 5]) t
theorem idx1 (t : Fin grid0.N) : win0_1.index t = ![0, 0] := (by decide +kernel : ∀ t : Fin grid0.N, win0_1.index t = ![0, 0]) t
theorem idx2 (t : Fin grid0.N) : win0_2.index t = ![t.val, 0] := (by decide +kernel : ∀ t : Fin grid0.N, win0_2.index t = ![t.val, 0]) t

theorem lt_N (t : Fin cfg0.N) : t.val < 16 := lt_of_lt_of_eq t.isLt N_0

/-- Row `r` of block `t`. -/
abbrev row (t : Fin cfg0.N) (r : Fin 512) : Fin 8192 := ⟨512 * t.val + r.val, by have := lt_N t; omega⟩

theorem iblk0 (t : Fin cfg0.N) (r : Fin 512) (l : Fin 1024) :
    iblk m c 0 t (ix2 r l) = X0 m c (ix2 (row t r) ⟨5120 + l.val, by omega⟩) := by
  blk_ext [iblk, V_main_arg0, idx0]

theorem iblk1 (t : Fin cfg0.N) : iblk m c 1 t = X1 m c := by
  funext y
  blk_ext [iblk, V_main_arg1, idx1]

/-- Where block `t` of result 2 lies. -/
theorem place2 (t : Fin cfg0.N) (r : Fin 512) (l : Fin 1024) :
    (win0_2.blk t).view.emb (ix2 r l) = (ix2 (row t r) l : S8192x1024.Idx) := by
  blk_ext [idx2]

/-- The result after the run. -/
theorem arr : (dats m 0 c).arrAt 2 cfg0.N = attended (X0 m c) (X1 m c) := by
  refine (dats m 0 c).arrAt_eq_of_covers 2 _ (by decide +kernel) fun t hf y => ?_
  blk_simp
  rw [after0_2, out_eq]
  obtain ⟨r, l, rfl⟩ := split2 y
  refine Eq.trans ?_ (congrArg (attended (X0 m c) (X1 m c)) (place2 t r l)).symm
  show attend (rowOf (iblk m c 0 t) (hd l) r) (keys (iblk m c 1 t) (hd l)) (vals (iblk m c 1 t) (hd l)) (ln l) = _
  rw [show rowOf (iblk m c 0 t) (hd l) r = qRow (X0 m c) (hd l) (row t r) from funext fun _ => iblk0 m c t r _, iblk1]
  rfl

end Cert.AttnFwdIdeal.Val

namespace Cert.AttnFwdRefIdeal.Val

open Cert.AttnFwdRefIdeal Cert.AttnFwdRefIdeal.Read Cert.Mm Cert.Attn Cert.AttnFwdIdeal.Val Idealize.ShloMosaic

local notation "𝕀" => Idealize.ShloMosaic.Ideal

variable (x : Vec 𝕀 S8192x12288 .bf16) (kv : Vec 𝕀 S256x2048 .bf16)

theorem v7_apply (i : Fin 8192) (h : Fin 4) (d : Fin 256) : val_main_v7 (F := 𝕀) x (ix4 0 i h d) = qRow x h i d := by
  pointwise [val_main_v7, val_main_v6, val_main_v1, val_main_v0]
  exact read_col x i (by show 5120 + (h.val * 256 + d.val) = 5120 + (256 * h.val + d.val); omega)

theorem v8_apply (j : Fin 256) (h : Fin 4) (d : Fin 256) : val_main_v8 (F := 𝕀) kv (ix4 0 j h d) = keyTab kv h j d := by
  pointwise [val_main_v8, val_main_v4, val_main_v3, val_main_v2]
  exact read_col kv j (by show h.val * 256 + d.val = 256 * h.val + d.val; omega)

theorem v9_apply (j : Fin 256) (h : Fin 4) (d : Fin 256) : val_main_v9 (F := 𝕀) kv (ix4 0 j h d) = valTab kv h j d := by
  pointwise [val_main_v9, val_main_v5, val_main_v3, val_main_v2]
  exact read_col kv j (by show 1024 + (h.val * 256 + d.val) = 1024 + (256 * h.val + d.val); omega)

theorem v12_apply (h : Fin 4) (i : Fin 8192) (j : Fin 256) :
    val_main_v12 (F := 𝕀) x kv (ix4 0 h i j) = score (qRow x h i) (keyTab kv h) j := by
  pointwise [val_main_v12, val_main_v10, val_main_v11, val_main_cst, v7_apply, v8_apply]
  rfl

/-- The largest of a row, over the last of four axes. -/
theorem v15_apply (h : Fin 4) (i : Fin 8192) : val_main_v15 (F := 𝕀) x kv (ix3 0 h i) = top (qRow x h i) (keyTab kv h) := by
  have s := v12_apply x kv h i
  have b : val_main_v14 (F := 𝕀) (ix3 0 h i) = (⊥ : EReal) := by
    rw [val_main_v14_apply, val_main_cst_1_apply]
    exact ofBits_negInf
  rw [val_main_v15_apply, b]
  refine (max_eq_right bot_le).trans ?_
  unfold val_main_v13
  generalize val_main_v12 (F := 𝕀) x kv = y at s ⊢
  rw [Host.reduce_eq_fold_single _ y _ _ (by decide : S1x4x8192x256.Reduces [3] S1x4x8192) Gen.h_S_]
  refine congrArg (fun f => Finset.fold max (Ideal.ofBits .f32 0xFF800000#32) f Finset.univ) (funext fun k => ?_)
  refine Eq.trans (congrArg y (funext fun a => ?_)) (s k)
  match a with
  | ⟨0, _⟩ => rfl
  | ⟨1, _⟩ => rfl
  | ⟨2, _⟩ => rfl
  | ⟨3, _⟩ => rfl

theorem v19_apply (h : Fin 4) (i : Fin 8192) (j : Fin 256) :
    val_main_v19 (F := 𝕀) x kv (ix4 0 h i j) = expo (qRow x h i) (keyTab kv h) j := by
  pointwise [val_main_v19, val_main_v18, val_main_v17, val_main_v16, v15_apply, v12_apply]
  rfl

theorem v23_apply (h : Fin 4) (i : Fin 8192) (j : Fin 256) :
    val_main_v23 (F := 𝕀) x kv (ix4 0 h i j) = prob (qRow x h i) (keyTab kv h) j := by
  pointwise [val_main_v23, val_main_v22, val_main_v21, val_main_v20, val_main_cst_2, v19_apply]
  rfl

theorem ref_eq : val_main_v27 (F := 𝕀) x kv = attended x kv := by
  funext y
  obtain ⟨i, l, rfl⟩ := split2 y
  have e : ∀ (h : Fin 4) (d : Fin 256), val_main_v25 (F := 𝕀) x kv (ix4 0 i h d)
      = attend (qRow x h i) (keyTab kv h) (valTab kv h) d := by
    intro h d
    pointwise [val_main_v25, val_main_v24, v23_apply, v9_apply]
    exact Finset.sum_congr rfl fun _ _ => mul_comm _ _
  pointwise [val_main_v27, val_main_v26, e]
  rw [show (⟨l.val / 256, by omega⟩ : Fin 4) = hd l from Fin.ext (by show l.val / 256 = l.val / 256 % 4; omega)]
  rfl

end Cert.AttnFwdRefIdeal.Val

namespace Cert.AttnFwd

open Idealize.ShloMosaic Idealize.SL.Sem

local notation "𝕀" => Idealize.ShloMosaic.Ideal

/-- The reference runs and leaves its arguments. -/
theorem frame_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := 𝕀) m ρ)

theorem algebraic : Cert.algebraic_AttnFwdIdeal_AttnFwdRefIdeal := by
  intro m ρ m' ρ' _ hag
  refine ⟨_, Cert.AttnFwdIdeal.Value.run_blocks (F := 𝕀) m ρ, ?_⟩
  refine (θ_run Cert.AttnFwdRefIdeal.defs _ _).mono (fun r h c => ?_) (Cert.AttnFwdRefIdeal.Value.run (F := 𝕀) m' ρ')
  obtain ⟨a0, a1⟩ := hag c
  refine ⟨(h c).1.trans ?_, (h c).2⟩
  rw [Cert.AttnFwdRefIdeal.Read.val_main_v27_eq, a0, a1]
  exact (Cert.AttnFwdRefIdeal.Val.ref_eq _ _).trans (Cert.AttnFwdIdeal.Val.arr m c).symm

end Cert.AttnFwd

end
-- ==== Proof.Adam.lean ====
/-
  The optimiser's update of one entry.
-/
module

public import proofs.«01_k».proof.Defs

@[expose] public section

noncomputable section

namespace Cert.Adam

open Idealize.ShloMosaic

local notation "𝕀" => Idealize.ShloMosaic.Ideal

/-- The new first moment of one entry, from its gradient and its old first moment. -/
def mom (g m : EReal) : EReal :=
  (Scalar.ofBits (F := 𝕀) .f32 0x3F666666#32 : EReal) * m + (Scalar.ofBits (F := 𝕀) .f32 0x3DCCCCCD#32 : EReal) * g

/-- The new second moment. -/
def vel (g v : EReal) : EReal :=
  (Scalar.ofBits (F := 𝕀) .f32 0x3F7FBE77#32 : EReal) * v + (Scalar.ofBits (F := 𝕀) .f32 0x3A83126F#32 : EReal) * (g * g)

/-- The change of a weight. -/
def step (w g m v : EReal) : EReal :=
  (Scalar.ofBits (F := 𝕀) .f32 0xBA83126F#32 : EReal)
    * (Ideal.div (Ideal.div (mom g m) (Scalar.ofBits (F := 𝕀) .f32 0x3F26BD02#32))
        (Ideal.sqrt (Ideal.div (vel g v) (Scalar.ofBits (F := 𝕀) .f32 0x3C231ACC#32)) + (Scalar.ofBits (F := 𝕀) .f32 0x322BCC77#32 : EReal))
      + (Scalar.ofBits (F := 𝕀) .f32 0x3C23D70A#32 : EReal) * w)

/-- The three results, entry by entry. -/
def steps {ι : Type} (w g m v : ι → EReal) : ι → EReal := fun y => step (w y) (g y) (m y) (v y)
def moms {ι : Type} (g m : ι → EReal) : ι → EReal := fun y => mom (g y) (m y)
def vels {ι : Type} (g v : ι → EReal) : ι → EReal := fun y => vel (g y) (v y)

end Cert.Adam

end
-- ==== Proof.AdamInValue.lean ====
/-
  The optimiser on weights of shape 4×2048×3072: layers 1 to 3 by a first call, layer 0 by a second into the same arrays.
-/
module

public import proofs.«01_k».proof.Defs
public import proofs.«01_k».proof.Proof.Adam
public import proofs.«01_k».proof.Proof.Mm
public import proofs.«01_k».proof.Proof.Gen.AdamInIdeal.Frame
public import proofs.«01_k».proof.Proof.Gen.AdamInRefIdeal.Run
public import proofs.«01_k».proof.Proof.Gen.AdamInRefIdeal.Read

@[expose] public section

set_option maxRecDepth 16384

noncomputable section

namespace Cert.AdamInIdeal.Val

open Cert.AdamInIdeal Cert.AdamInIdeal.Gen Cert.Adam Cert.Mm
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

local notation "𝕀" => Idealize.ShloMosaic.Ideal
local notation "𝕄" => MT nD τ sig Unit (Elt 𝕀) ℕ (UR sig nD τ) ℕ

section Block

variable (w g m v : Vec 𝕀 S1x128x3072 .f32)

theorem pay0_step : k0_pay1 (k0_pay7 w g m v) = steps w g m v := by
  funext y
  obtain ⟨r, k, rfl⟩ := split3_one (n := 128) (k := 3072) y
  pointwise [k0_pay1, k0_pay7, k0_pay6, k0_pay5, k0_pay4]
  rfl

theorem pay0_mom : k0_pay2 (k0_pay5 g m) = moms g m := by
  funext y
  obtain ⟨r, k, rfl⟩ := split3_one (n := 128) (k := 3072) y
  pointwise [k0_pay2, k0_pay5, k0_pay4]
  rfl

theorem pay0_vel : k0_pay3 (k0_pay6 g v) = vels g v := by
  funext y
  obtain ⟨r, k, rfl⟩ := split3_one (n := 128) (k := 3072) y
  pointwise [k0_pay3, k0_pay6, k0_pay4]
  rfl

theorem pay1_step : k1_pay1 (k1_pay7 w g m v) = steps w g m v := by
  funext y
  obtain ⟨r, k, rfl⟩ := split3_one (n := 128) (k := 3072) y
  pointwise [k1_pay1, k1_pay7, k1_pay6, k1_pay5, k1_pay4]
  rfl

theorem pay1_mom : k1_pay2 (k1_pay5 g m) = moms g m := by
  funext y
  obtain ⟨r, k, rfl⟩ := split3_one (n := 128) (k := 3072) y
  pointwise [k1_pay2, k1_pay5, k1_pay4]
  rfl

theorem pay1_vel : k1_pay3 (k1_pay6 g v) = vels g v := by
  funext y
  obtain ⟨r, k, rfl⟩ := split3_one (n := 128) (k := 3072) y
  pointwise [k1_pay3, k1_pay6, k1_pay4]
  rfl

theorem out0_4_eq : out0_4 w g m v = steps w g m v := by
  rw [out0_4]
  frame_out
  exact pay0_step w g m v

theorem out0_5_eq : out0_5 w g m v = moms g m := by
  rw [out0_5]
  frame_out
  exact pay0_mom g m

theorem out0_6_eq : out0_6 w g m v = vels g v := by
  rw [out0_6]
  frame_out
  exact pay0_vel g v

end Block

variable (m : (ℓ : Loc nD τ sig) → Buf (Elt 𝕀) ℓ) (ρ : Dev nD → PrngReg) (c : Dev nD)

/-- The weights, their gradients and the two moments on device `c`. -/
abbrev X0 : Vec 𝕀 S4x2048x3072 .f32 := m ((c : Thread nD τ).loc main_arg0)
abbrev X1 : Vec 𝕀 S4x2048x3072 .f32 := m ((c : Thread nD τ).loc main_arg1)
abbrev X2 : Vec 𝕀 S4x2048x3072 .f32 := m ((c : Thread nD τ).loc main_arg2)
abbrev X3 : Vec 𝕀 S4x2048x3072 .f32 := m ((c : Thread nD τ).loc main_arg3)

/-- What the first call leaves in result 0: layers 1 to 3 are done. -/
theorem first4 : (dat0 (V0 m ρ) c).arrAt 4 cfg0.N = fun y : S4x2048x3072.Idx => if 1 ≤ (y 0).val / 1 then steps (X0 m c) (X1 m c) (X2 m c) (X3 m c) y else V0 m ρ c main_v0_0 y := by
  refine (dat0 (V0 m ρ) c).arrAt_eq_of_coversWhere 4 _ (fun β => 1 ≤ β (0 : Fin _)) (by decide +kernel) (fun t hf y => ?_) (fun j => Iff.rfl)
  blk_simp
  rw [after0_4, out0_4_eq]
  rfl

/-- What the first call leaves in result 1: layers 1 to 3 are done. -/
theorem first5 : (dat0 (V0 m ρ) c).arrAt 5 cfg0.N = fun y : S4x2048x3072.Idx => if 1 ≤ (y 0).val / 1 then moms (X1 m c) (X2 m c) y else V0 m ρ c main_v0_1 y := by
  refine (dat0 (V0 m ρ) c).arrAt_eq_of_coversWhere 5 _ (fun β => 1 ≤ β (0 : Fin _)) (by decide +kernel) (fun t hf y => ?_) (fun j => Iff.rfl)
  blk_simp
  rw [after0_5, out0_5_eq]
  rfl

/-- What the first call leaves in result 2: layers 1 to 3 are done. -/
theorem first6 : (dat0 (V0 m ρ) c).arrAt 6 cfg0.N = fun y : S4x2048x3072.Idx => if 1 ≤ (y 0).val / 1 then vels (X1 m c) (X3 m c) y else V0 m ρ c main_v0_2 y := by
  refine (dat0 (V0 m ρ) c).arrAt_eq_of_coversWhere 6 _ (fun β => 1 ≤ β (0 : Fin _)) (by decide +kernel) (fun t hf y => ?_) (fun j => Iff.rfl)
  blk_simp
  rw [after0_6, out0_6_eq]
  rfl

section Second

variable (V : (c : Dev nD) → (b : Ref sig .tc) → Buf (Elt 𝕀) ((c : Thread nD τ).loc b))

theorem outs4 (t : Fin cfg1.N) : (outsAt1 V c t).1 = steps (iblk1 V c 0 t) (iblk1 V c 1 t) (iblk1 V c 2 t) (iblk1 V c 3 t) := by
  rw [outsAt1]
  dsimp only
  rw [out1_A_4]
  frame_out
  exact pay1_step (iblk1 V c 0 t) (iblk1 V c 1 t) (iblk1 V c 2 t) (iblk1 V c 3 t)

/-- The second call, entered from any contents: layer 0. -/
theorem second4 : (dat1 V c).arrAt 4 cfg1.N = fun y : S4x2048x3072.Idx => if (y 0).val / 1 < 1 then steps (V c main_arg0) (V c main_arg1) (V c main_arg2) (V c main_arg3) y else V c main_v1_0 y := by
  refine (dat1 V c).arrAt_eq_of_coversWhere 4 _ (fun β => β (0 : Fin _) < 1) (by decide +kernel) (fun t hf y => ?_) (fun j => Iff.rfl)
  blk_simp
  rw [after1_4, outs4]
  rfl

theorem outs5 (t : Fin cfg1.N) : (outsAt1 V c t).2.1 = moms (iblk1 V c 1 t) (iblk1 V c 2 t) := by
  rw [outsAt1]
  dsimp only
  rw [out1_A_5]
  frame_out
  exact pay1_mom (iblk1 V c 1 t) (iblk1 V c 2 t)

/-- The second call, entered from any contents: layer 0. -/
theorem second5 : (dat1 V c).arrAt 5 cfg1.N = fun y : S4x2048x3072.Idx => if (y 0).val / 1 < 1 then moms (V c main_arg1) (V c main_arg2) y else V c main_v1_1 y := by
  refine (dat1 V c).arrAt_eq_of_coversWhere 5 _ (fun β => β (0 : Fin _) < 1) (by decide +kernel) (fun t hf y => ?_) (fun j => Iff.rfl)
  blk_simp
  rw [after1_5, outs5]
  rfl

theorem outs6 (t : Fin cfg1.N) : (outsAt1 V c t).2.2 = vels (iblk1 V c 1 t) (iblk1 V c 3 t) := by
  rw [outsAt1]
  dsimp only
  rw [out1_A_6]
  frame_out
  exact pay1_vel (iblk1 V c 1 t) (iblk1 V c 3 t)

/-- The second call, entered from any contents: layer 0. -/
theorem second6 : (dat1 V c).arrAt 6 cfg1.N = fun y : S4x2048x3072.Idx => if (y 0).val / 1 < 1 then vels (V c main_arg1) (V c main_arg3) y else V c main_v1_2 y := by
  refine (dat1 V c).arrAt_eq_of_coversWhere 6 _ (fun β => β (0 : Fin _) < 1) (by decide +kernel) (fun t hf y => ?_) (fun j => Iff.rfl)
  blk_simp
  rw [after1_6, outs6]
  rfl

end Second

/-- Result 0 at the end: every layer is done. -/
theorem whole4 : W3 m ρ c (Proc.devRef .tc main_v1_0) = steps (X0 m c) (X1 m c) (X2 m c) (X3 m c) := by
  refine (W3_arr m ρ c 4).trans ?_
  rw [second4, show V2 m ρ c main_arg0 = X0 m c from W2_args m ρ c main_arg0 (by decide), show V2 m ρ c main_arg1 = X1 m c from W2_args m ρ c main_arg1 (by decide), show V2 m ρ c main_arg2 = X2 m c from W2_args m ρ c main_arg2 (by decide), show V2 m ρ c main_arg3 = X3 m c from W2_args m ρ c main_arg3 (by decide)]
  have e : V2 m ρ c main_v1_0 = (dat0 (V0 m ρ) c).arrAt 4 cfg0.N :=
    Eq.trans (by show StableHlo.after hostOps1 (W1 m ρ c) (Proc.devRef .tc main_v1_0) = W1 m ρ c (Proc.devRef .tc main_v0_0); after_results; rfl) (W1_arr m ρ c 4)
  rw [e, first4]
  funext y
  by_cases h : (y 0).val / 1 < 1
  · exact if_pos h
  · exact (if_neg h).trans (if_pos (by omega))

/-- Result 1 at the end: every layer is done. -/
theorem whole5 : W3 m ρ c (Proc.devRef .tc main_v1_1) = moms (X1 m c) (X2 m c) := by
  refine (W3_arr m ρ c 5).trans ?_
  rw [second5, show V2 m ρ c main_arg1 = X1 m c from W2_args m ρ c main_arg1 (by decide), show V2 m ρ c main_arg2 = X2 m c from W2_args m ρ c main_arg2 (by decide)]
  have e : V2 m ρ c main_v1_1 = (dat0 (V0 m ρ) c).arrAt 5 cfg0.N :=
    Eq.trans (by show StableHlo.after hostOps1 (W1 m ρ c) (Proc.devRef .tc main_v1_1) = W1 m ρ c (Proc.devRef .tc main_v0_1); after_results; rfl) (W1_arr m ρ c 5)
  rw [e, first5]
  funext y
  by_cases h : (y 0).val / 1 < 1
  · exact if_pos h
  · exact (if_neg h).trans (if_pos (by omega))

/-- Result 2 at the end: every layer is done. -/
theorem whole6 : W3 m ρ c (Proc.devRef .tc main_v1_2) = vels (X1 m c) (X3 m c) := by
  refine (W3_arr m ρ c 6).trans ?_
  rw [second6, show V2 m ρ c main_arg1 = X1 m c from W2_args m ρ c main_arg1 (by decide), show V2 m ρ c main_arg3 = X3 m c from W2_args m ρ c main_arg3 (by decide)]
  have e : V2 m ρ c main_v1_2 = (dat0 (V0 m ρ) c).arrAt 6 cfg0.N :=
    Eq.trans (by show StableHlo.after hostOps1 (W1 m ρ c) (Proc.devRef .tc main_v1_2) = W1 m ρ c (Proc.devRef .tc main_v0_2); after_results; rfl) (W1_arr m ρ c 6)
  rw [e, first6]
  funext y
  by_cases h : (y 0).val / 1 < 1
  · exact if_pos h
  · exact (if_neg h).trans (if_pos (by omega))

set_option backward.isDefEq.respectTransparency.types false in
/-- Both calls run, and leave every layer's update. -/
theorem run : θ_run defs (onTc (τ := τ) (main (F := 𝕀))) ⟨m, fun _ => 0, ρ⟩ (fun r => ∀ c : Dev nD,
      r.2.mem ((c : Thread nD τ).loc main_v1_0) = steps (X0 m c) (X1 m c) (X2 m c) (X3 m c)
      ∧ r.2.mem ((c : Thread nD τ).loc main_v1_1) = moms (X1 m c) (X2 m c)
      ∧ r.2.mem ((c : Thread nD τ).loc main_v1_2) = vels (X1 m c) (X3 m c)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c) :=
  Pipeline.θ_run_regions_kit_sems (pcfgs (F := 𝕀)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans (whole4 m ρ c), (h c _ (mem_uc main_v1_1 (by decide))).trans (whole5 m ρ c),
       (h c _ (mem_uc main_v1_2 (by decide))).trans (whole6 m ρ c),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c)⟩)

end Cert.AdamInIdeal.Val

namespace Cert.AdamInRefIdeal.Val

open Cert.AdamInRefIdeal Cert.AdamInRefIdeal.Read Cert.Adam Cert.Mm Idealize.ShloMosaic

local notation "𝕀" => Idealize.ShloMosaic.Ideal

variable (w g m v : Vec 𝕀 S4x2048x3072 .f32)

theorem ref_mom : val_main_v4 (F := 𝕀) g m = moms g m := by
  funext y
  obtain ⟨b, r, l, rfl⟩ := split3 y
  pointwise [val_main_v4, val_main_v3, val_main_v2, val_main_v1, val_main_v0, val_main_cst, val_main_cst_0]
  rfl

theorem ref_vel : val_main_v10 (F := 𝕀) g v = vels g v := by
  funext y
  obtain ⟨b, r, l, rfl⟩ := split3 y
  pointwise [val_main_v10, val_main_v9, val_main_v8, val_main_v7, val_main_v6, val_main_v5, val_main_cst_1, val_main_cst_2]
  rfl

theorem ref_step : val_main_v23 (F := 𝕀) w g m v = steps w g m v := by
  funext y
  obtain ⟨b, r, l, rfl⟩ := split3 y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Cert.AdamInRefIdeal.Val

namespace Cert.AdamIn

open Idealize.ShloMosaic Idealize.SL.Sem

local notation "𝕀" => Idealize.ShloMosaic.Ideal

/-- The reference runs and leaves its arguments. -/
theorem frame_ref : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := 𝕀) m ρ)

theorem algebraic : Cert.algebraic_AdamInIdeal_AdamInRefIdeal := by
  intro m ρ m' ρ' _ hag
  refine ⟨_, _, _, Cert.AdamInIdeal.Val.run m ρ, ?_⟩
  refine (θ_run Cert.AdamInRefIdeal.defs _ _).mono (fun r h c => ?_) (Cert.AdamInRefIdeal.Value.run (F := 𝕀) m' ρ')
  obtain ⟨a0, a1, a2, a3⟩ := hag c
  refine ⟨(h c).1.trans ?_, (h c).2.1.trans ?_, (h c).2.2.1.trans ?_, (h c).2.2.2⟩
  · rw [Cert.AdamInRefIdeal.Read.val_main_v23_eq, a0, a1, a2, a3]
    exact Cert.AdamInRefIdeal.Val.ref_step _ _ _ _
  · rw [Cert.AdamInRefIdeal.Read.val_main_v4_eq, a1, a2]
    exact Cert.AdamInRefIdeal.Val.ref_mom _ _
  · rw [Cert.AdamInRefIdeal.Read.val_main_v10_eq, a1, a3]
    exact Cert.AdamInRefIdeal.Val.ref_vel _ _

end Cert.AdamIn

end
-- ==== Proof.AdamUpValue.lean ====
/-
  The optimiser on weights of shape 4×2048×2048: layers 1 to 3 by a first call, layer 0 by a second into the same arrays.
-/
module

public import proofs.«01_k».proof.Defs
public import proofs.«01_k».proof.Proof.Adam
public import proofs.«01_k».proof.Proof.Mm
public import proofs.«01_k».proof.Proof.Gen.AdamUpIdeal.Frame
public import proofs.«01_k».proof.Proof.Gen.AdamUpRefIdeal.Run
public import proofs.«01_k».proof.Proof.Gen.AdamUpRefIdeal.Read

@[expose] public section

set_option maxRecDepth 16384

noncomputable section

namespace Cert.AdamUpIdeal.Val

open Cert.AdamUpIdeal Cert.AdamUpIdeal.Gen Cert.Adam Cert.Mm
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

local notation "𝕀" => Idealize.ShloMosaic.Ideal
local notation "𝕄" => MT nD τ sig Unit (Elt 𝕀) ℕ (UR sig nD τ) ℕ

section Block

variable (w g m v : Vec 𝕀 S1x128x2048 .f32)

theorem pay0_step : k0_pay1 (k0_pay7 w g m v) = steps w g m v := by
  funext y
  obtain ⟨r, k, rfl⟩ := split3_one (n := 128) (k := 2048) y
  pointwise [k0_pay1, k0_pay7, k0_pay6, k0_pay5, k0_pay4]
  rfl

theorem pay0_mom : k0_pay2 (k0_pay5 g m) = moms g m := by
  funext y
  obtain ⟨r, k, rfl⟩ := split3_one (n := 128) (k := 2048) y
  pointwise [k0_pay2, k0_pay5, k0_pay4]
  rfl

theorem pay0_vel : k0_pay3 (k0_pay6 g v) = vels g v := by
  funext y
  obtain ⟨r, k, rfl⟩ := split3_one (n := 128) (k := 2048) y
  pointwise [k0_pay3, k0_pay6, k0_pay4]
  rfl

theorem pay1_step : k1_pay1 (k1_pay7 w g m v) = steps w g m v := by
  funext y
  obtain ⟨r, k, rfl⟩ := split3_one (n := 128) (k := 2048) y
  pointwise [k1_pay1, k1_pay7, k1_pay6, k1_pay5, k1_pay4]
  rfl

theorem pay1_mom : k1_pay2 (k1_pay5 g m) = moms g m := by
  funext y
  obtain ⟨r, k, rfl⟩ := split3_one (n := 128) (k := 2048) y
  pointwise [k1_pay2, k1_pay5, k1_pay4]
  rfl

theorem pay1_vel : k1_pay3 (k1_pay6 g v) = vels g v := by
  funext y
  obtain ⟨r, k, rfl⟩ := split3_one (n := 128) (k := 2048) y
  pointwise [k1_pay3, k1_pay6, k1_pay4]
  rfl

theorem out0_4_eq : out0_4 w g m v = steps w g m v := by
  rw [out0_4]
  frame_out
  exact pay0_step w g m v

theorem out0_5_eq : out0_5 w g m v = moms g m := by
  rw [out0_5]
  frame_out
  exact pay0_mom g m

theorem out0_6_eq : out0_6 w g m v = vels g v := by
  rw [out0_6]
  frame_out
  exact pay0_vel g v

end Block

variable (m : (ℓ : Loc nD τ sig) → Buf (Elt 𝕀) ℓ) (ρ : Dev nD → PrngReg) (c : Dev nD)

/-- The weights, their gradients and the two moments on device `c`. -/
abbrev X0 : Vec 𝕀 S4x2048x2048 .f32 := m ((c : Thread nD τ).loc main_arg0)
abbrev X1 : Vec 𝕀 S4x2048x2048 .f32 := m ((c : Thread nD τ).loc main_arg1)
abbrev X2 : Vec 𝕀 S4x2048x2048 .f32 := m ((c : Thread nD τ).loc main_arg2)
abbrev X3 : Vec 𝕀 S4x2048x2048 .f32 := m ((c : Thread nD τ).loc main_arg3)

/-- What the first call leaves in result 0: layers 1 to 3 are done. -/
theorem first4 : (dat0 (V0 m ρ) c).arrAt 4 cfg0.N = fun y : S4x2048x2048.Idx => if 1 ≤ (y 0).val / 1 then steps (X0 m c) (X1 m c) (X2 m c) (X3 m c) y else V0 m ρ c main_v0_0 y := by
  refine (dat0 (V0 m ρ) c).arrAt_eq_of_coversWhere 4 _ (fun β => 1 ≤ β (0 : Fin _)) (by decide +kernel) (fun t hf y => ?_) (fun j => Iff.rfl)
  blk_simp
  rw [after0_4, out0_4_eq]
  rfl

/-- What the first call leaves in result 1: layers 1 to 3 are done. -/
theorem first5 : (dat0 (V0 m ρ) c).arrAt 5 cfg0.N = fun y : S4x2048x2048.Idx => if 1 ≤ (y 0).val / 1 then moms (X1 m c) (X2 m c) y else V0 m ρ c main_v0_1 y := by
  refine (dat0 (V0 m ρ) c).arrAt_eq_of_coversWhere 5 _ (fun β => 1 ≤ β (0 : Fin _)) (by decide +kernel) (fun t hf y => ?_) (fun j => Iff.rfl)
  blk_simp
  rw [after0_5, out0_5_eq]
  rfl

/-- What the first call leaves in result 2: layers 1 to 3 are done. -/
theorem first6 : (dat0 (V0 m ρ) c).arrAt 6 cfg0.N = fun y : S4x2048x2048.Idx => if 1 ≤ (y 0).val / 1 then vels (X1 m c) (X3 m c) y else V0 m ρ c main_v0_2 y := by
  refine (dat0 (V0 m ρ) c).arrAt_eq_of_coversWhere 6 _ (fun β => 1 ≤ β (0 : Fin _)) (by decide +kernel) (fun t hf y => ?_) (fun j => Iff.rfl)
  blk_simp
  rw [after0_6, out0_6_eq]
  rfl

section Second

variable (V : (c : Dev nD) → (b : Ref sig .tc) → Buf (Elt 𝕀) ((c : Thread nD τ).loc b))

theorem outs4 (t : Fin cfg1.N) : (outsAt1 V c t).1 = steps (iblk1 V c 0 t) (iblk1 V c 1 t) (iblk1 V c 2 t) (iblk1 V c 3 t) := by
  rw [outsAt1]
  dsimp only
  rw [out1_A_4]
  frame_out
  exact pay1_step (iblk1 V c 0 t) (iblk1 V c 1 t) (iblk1 V c 2 t) (iblk1 V c 3 t)

/-- The second call, entered from any contents: layer 0. -/
theorem second4 : (dat1 V c).arrAt 4 cfg1.N = fun y : S4x2048x2048.Idx => if (y 0).val / 1 < 1 then steps (V c main_arg0) (V c main_arg1) (V c main_arg2) (V c main_arg3) y else V c main_v1_0 y := by
  refine (dat1 V c).arrAt_eq_of_coversWhere 4 _ (fun β => β (0 : Fin _) < 1) (by decide +kernel) (fun t hf y => ?_) (fun j => Iff.rfl)
  blk_simp
  rw [after1_4, outs4]
  rfl

theorem outs5 (t : Fin cfg1.N) : (outsAt1 V c t).2.1 = moms (iblk1 V c 1 t) (iblk1 V c 2 t) := by
  rw [outsAt1]
  dsimp only
  rw [out1_A_5]
  frame_out
  exact pay1_mom (iblk1 V c 1 t) (iblk1 V c 2 t)

/-- The second call, entered from any contents: layer 0. -/
theorem second5 : (dat1 V c).arrAt 5 cfg1.N = fun y : S4x2048x2048.Idx => if (y 0).val / 1 < 1 then moms (V c main_arg1) (V c main_arg2) y else V c main_v1_1 y := by
  refine (dat1 V c).arrAt_eq_of_coversWhere 5 _ (fun β => β (0 : Fin _) < 1) (by decide +kernel) (fun t hf y => ?_) (fun j => Iff.rfl)
  blk_simp
  rw [after1_5, outs5]
  rfl

theorem outs6 (t : Fin cfg1.N) : (outsAt1 V c t).2.2 = vels (iblk1 V c 1 t) (iblk1 V c 3 t) := by
  rw [outsAt1]
  dsimp only
  rw [out1_A_6]
  frame_out
  exact pay1_vel (iblk1 V c 1 t) (iblk1 V c 3 t)

/-- The second call, entered from any contents: layer 0. -/
theorem second6 : (dat1 V c).arrAt 6 cfg1.N = fun y : S4x2048x2048.Idx => if (y 0).val / 1 < 1 then vels (V c main_arg1) (V c main_arg3) y else V c main_v1_2 y := by
  refine (dat1 V c).arrAt_eq_of_coversWhere 6 _ (fun β => β (0 : Fin _) < 1) (by decide +kernel) (fun t hf y => ?_) (fun j => Iff.rfl)
  blk_simp
  rw [after1_6, outs6]
  rfl

end Second

/-- Result 0 at the end: every layer is done. -/
theorem whole4 : W3 m ρ c (Proc.devRef .tc main_v1_0) = steps (X0 m c) (X1 m c) (X2 m c) (X3 m c) := by
  refine (W3_arr m ρ c 4).trans ?_
  rw [second4, show V2 m ρ c main_arg0 = X0 m c from W2_args m ρ c main_arg0 (by decide), show V2 m ρ c main_arg1 = X1 m c from W2_args m ρ c main_arg1 (by decide), show V2 m ρ c main_arg2 = X2 m c from W2_args m ρ c main_arg2 (by decide), show V2 m ρ c main_arg3 = X3 m c from W2_args m ρ c main_arg3 (by decide)]
  have e : V2 m ρ c main_v1_0 = (dat0 (V0 m ρ) c).arrAt 4 cfg0.N :=
    Eq.trans (by show StableHlo.after hostOps1 (W1 m ρ c) (Proc.devRef .tc main_v1_0) = W1 m ρ c (Proc.devRef .tc main_v0_0); after_results; rfl) (W1_arr m ρ c 4)
  rw [e, first4]
  funext y
  by_cases h : (y 0).val / 1 < 1
  · exact if_pos h
  · exact (if_neg h).trans (if_pos (by omega))

/-- Result 1 at the end: every layer is done. -/
theorem whole5 : W3 m ρ c (Proc.devRef .tc main_v1_1) = moms (X1 m c) (X2 m c) := by
  refine (W3_arr m ρ c 5).trans ?_
  rw [second5, show V2 m ρ c main_arg1 = X1 m c from W2_args m ρ c main_arg1 (by decide), show V2 m ρ c main_arg2 = X2 m c from W2_args m ρ c main_arg2 (by decide)]
  have e : V2 m ρ c main_v1_1 = (dat0 (V0 m ρ) c).arrAt 5 cfg0.N :=
    Eq.trans (by show StableHlo.after hostOps1 (W1 m ρ c) (Proc.devRef .tc main_v1_1) = W1 m ρ c (Proc.devRef .tc main_v0_1); after_results; rfl) (W1_arr m ρ c 5)
  rw [e, first5]
  funext y
  by_cases h : (y 0).val / 1 < 1
  · exact if_pos h
  · exact (if_neg h).trans (if_pos (by omega))

/-- Result 2 at the end: every layer is done. -/
theorem whole6 : W3 m ρ c (Proc.devRef .tc main_v1_2) = vels (X1 m c) (X3 m c) := by
  refine (W3_arr m ρ c 6).trans ?_
  rw [second6, show V2 m ρ c main_arg1 = X1 m c from W2_args m ρ c main_arg1 (by decide), show V2 m ρ c main_arg3 = X3 m c from W2_args m ρ c main_arg3 (by decide)]
  have e : V2 m ρ c main_v1_2 = (dat0 (V0 m ρ) c).arrAt 6 cfg0.N :=
    Eq.trans (by show StableHlo.after hostOps1 (W1 m ρ c) (Proc.devRef .tc main_v1_2) = W1 m ρ c (Proc.devRef .tc main_v0_2); after_results; rfl) (W1_arr m ρ c 6)
  rw [e, first6]
  funext y
  by_cases h : (y 0).val / 1 < 1
  · exact if_pos h
  · exact (if_neg h).trans (if_pos (by omega))

set_option backward.isDefEq.respectTransparency.types false in
/-- Both calls run, and leave every layer's update. -/
theorem run : θ_run defs (onTc (τ := τ) (main (F := 𝕀))) ⟨m, fun _ => 0, ρ⟩ (fun r => ∀ c : Dev nD,
      r.2.mem ((c : Thread nD τ).loc main_v1_0) = steps (X0 m c) (X1 m c) (X2 m c) (X3 m c)
      ∧ r.2.mem ((c : Thread nD τ).loc main_v1_1) = moms (X1 m c) (X2 m c)
      ∧ r.2.mem ((c : Thread nD τ).loc main_v1_2) = vels (X1 m c) (X3 m c)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c) :=
  Pipeline.θ_run_regions_kit_sems (pcfgs (F := 𝕀)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans (whole4 m ρ c), (h c _ (mem_uc main_v1_1 (by decide))).trans (whole5 m ρ c),
       (h c _ (mem_uc main_v1_2 (by decide))).trans (whole6 m ρ c),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c)⟩)

end Cert.AdamUpIdeal.Val

namespace Cert.AdamUpRefIdeal.Val

open Cert.AdamUpRefIdeal Cert.AdamUpRefIdeal.Read Cert.Adam Cert.Mm Idealize.ShloMosaic

local notation "𝕀" => Idealize.ShloMosaic.Ideal

variable (w g m v : Vec 𝕀 S4x2048x2048 .f32)

theorem ref_mom : val_main_v4 (F := 𝕀) g m = moms g m := by
  funext y
  obtain ⟨b, r, l, rfl⟩ := split3 y
  pointwise [val_main_v4, val_main_v3, val_main_v2, val_main_v1, val_main_v0, val_main_cst, val_main_cst_0]
  rfl

theorem ref_vel : val_main_v10 (F := 𝕀) g v = vels g v := by
  funext y
  obtain ⟨b, r, l, rfl⟩ := split3 y
  pointwise [val_main_v10, val_main_v9, val_main_v8, val_main_v7, val_main_v6, val_main_v5, val_main_cst_1, val_main_cst_2]
  rfl

theorem ref_step : val_main_v23 (F := 𝕀) w g m v = steps w g m v := by
  funext y
  obtain ⟨b, r, l, rfl⟩ := split3 y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Cert.AdamUpRefIdeal.Val

namespace Cert.AdamUp

open Idealize.ShloMosaic Idealize.SL.Sem

local notation "𝕀" => Idealize.ShloMosaic.Ideal

/-- The reference runs and leaves its arguments. -/
theorem frame_ref : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := 𝕀) m ρ)

theorem algebraic : Cert.algebraic_AdamUpIdeal_AdamUpRefIdeal := by
  intro m ρ m' ρ' _ hag
  refine ⟨_, _, _, Cert.AdamUpIdeal.Val.run m ρ, ?_⟩
  refine (θ_run Cert.AdamUpRefIdeal.defs _ _).mono (fun r h c => ?_) (Cert.AdamUpRefIdeal.Value.run (F := 𝕀) m' ρ')
  obtain ⟨a0, a1, a2, a3⟩ := hag c
  refine ⟨(h c).1.trans ?_, (h c).2.1.trans ?_, (h c).2.2.1.trans ?_, (h c).2.2.2⟩
  · rw [Cert.AdamUpRefIdeal.Read.val_main_v23_eq, a0, a1, a2, a3]
    exact Cert.AdamUpRefIdeal.Val.ref_step _ _ _ _
  · rw [Cert.AdamUpRefIdeal.Read.val_main_v4_eq, a1, a2]
    exact Cert.AdamUpRefIdeal.Val.ref_mom _ _
  · rw [Cert.AdamUpRefIdeal.Read.val_main_v10_eq, a1, a3]
    exact Cert.AdamUpRefIdeal.Val.ref_vel _ _

end Cert.AdamUp

end
-- ==== Proof.AdamOutValue.lean ====
/-
  The optimiser on weights of shape 4×1024×512: layers 1 to 3 by a first call, layer 0 by a second into the same arrays.
-/
module

public import proofs.«01_k».proof.Defs
public import proofs.«01_k».proof.Proof.Adam
public import proofs.«01_k».proof.Proof.Mm
public import proofs.«01_k».proof.Proof.Gen.AdamOutIdeal.Frame
public import proofs.«01_k».proof.Proof.Gen.AdamOutRefIdeal.Run
public import proofs.«01_k».proof.Proof.Gen.AdamOutRefIdeal.Read

@[expose] public section

set_option maxRecDepth 16384

noncomputable section

namespace Cert.AdamOutIdeal.Val

open Cert.AdamOutIdeal Cert.AdamOutIdeal.Gen Cert.Adam Cert.Mm
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

local notation "𝕀" => Idealize.ShloMosaic.Ideal
local notation "𝕄" => MT nD τ sig Unit (Elt 𝕀) ℕ (UR sig nD τ) ℕ

section Block

variable (w g m v : Vec 𝕀 S1x512x512 .f32)

theorem pay0_step : k0_pay1 (k0_pay7 w g m v) = steps w g m v := by
  funext y
  obtain ⟨r, k, rfl⟩ := split3_one (n := 512) (k := 512) y
  pointwise [k0_pay1, k0_pay7, k0_pay6, k0_pay5, k0_pay4]
  rfl

theorem pay0_mom : k0_pay2 (k0_pay5 g m) = moms g m := by
  funext y
  obtain ⟨r, k, rfl⟩ := split3_one (n := 512) (k := 512) y
  pointwise [k0_pay2, k0_pay5, k0_pay4]
  rfl

theorem pay0_vel : k0_pay3 (k0_pay6 g v) = vels g v := by
  funext y
  obtain ⟨r, k, rfl⟩ := split3_one (n := 512) (k := 512) y
  pointwise [k0_pay3, k0_pay6, k0_pay4]
  rfl

theorem pay1_step : k1_pay1 (k1_pay7 w g m v) = steps w g m v := by
  funext y
  obtain ⟨r, k, rfl⟩ := split3_one (n := 512) (k := 512) y
  pointwise [k1_pay1, k1_pay7, k1_pay6, k1_pay5, k1_pay4]
  rfl

theorem pay1_mom : k1_pay2 (k1_pay5 g m) = moms g m := by
  funext y
  obtain ⟨r, k, rfl⟩ := split3_one (n := 512) (k := 512) y
  pointwise [k1_pay2, k1_pay5, k1_pay4]
  rfl

theorem pay1_vel : k1_pay3 (k1_pay6 g v) = vels g v := by
  funext y
  obtain ⟨r, k, rfl⟩ := split3_one (n := 512) (k := 512) y
  pointwise [k1_pay3, k1_pay6, k1_pay4]
  rfl

theorem out0_4_eq : out0_4 w g m v = steps w g m v := by
  rw [out0_4]
  frame_out
  exact pay0_step w g m v

theorem out0_5_eq : out0_5 w g m v = moms g m := by
  rw [out0_5]
  frame_out
  exact pay0_mom g m

theorem out0_6_eq : out0_6 w g m v = vels g v := by
  rw [out0_6]
  frame_out
  exact pay0_vel g v

end Block

variable (m : (ℓ : Loc nD τ sig) → Buf (Elt 𝕀) ℓ) (ρ : Dev nD → PrngReg) (c : Dev nD)

/-- The weights, their gradients and the two moments on device `c`. -/
abbrev X0 : Vec 𝕀 S4x1024x512 .f32 := m ((c : Thread nD τ).loc main_arg0)
abbrev X1 : Vec 𝕀 S4x1024x512 .f32 := m ((c : Thread nD τ).loc main_arg1)
abbrev X2 : Vec 𝕀 S4x1024x512 .f32 := m ((c : Thread nD τ).loc main_arg2)
abbrev X3 : Vec 𝕀 S4x1024x512 .f32 := m ((c : Thread nD τ).loc main_arg3)

/-- What the first call leaves in result 0: layers 1 to 3 are done. -/
theorem first4 : (dat0 (V0 m ρ) c).arrAt 4 cfg0.N = fun y : S4x1024x512.Idx => if 1 ≤ (y 0).val / 1 then steps (X0 m c) (X1 m c) (X2 m c) (X3 m c) y else V0 m ρ c main_v0_0 y := by
  refine (dat0 (V0 m ρ) c).arrAt_eq_of_coversWhere 4 _ (fun β => 1 ≤ β (0 : Fin _)) (by decide +kernel) (fun t hf y => ?_) (fun j => Iff.rfl)
  blk_simp
  rw [after0_4, out0_4_eq]
  rfl

/-- What the first call leaves in result 1: layers 1 to 3 are done. -/
theorem first5 : (dat0 (V0 m ρ) c).arrAt 5 cfg0.N = fun y : S4x1024x512.Idx => if 1 ≤ (y 0).val / 1 then moms (X1 m c) (X2 m c) y else V0 m ρ c main_v0_1 y := by
  refine (dat0 (V0 m ρ) c).arrAt_eq_of_coversWhere 5 _ (fun β => 1 ≤ β (0 : Fin _)) (by decide +kernel) (fun t hf y => ?_) (fun j => Iff.rfl)
  blk_simp
  rw [after0_5, out0_5_eq]
  rfl

/-- What the first call leaves in result 2: layers 1 to 3 are done. -/
theorem first6 : (dat0 (V0 m ρ) c).arrAt 6 cfg0.N = fun y : S4x1024x512.Idx => if 1 ≤ (y 0).val / 1 then vels (X1 m c) (X3 m c) y else V0 m ρ c main_v0_2 y := by
  refine (dat0 (V0 m ρ) c).arrAt_eq_of_coversWhere 6 _ (fun β => 1 ≤ β (0 : Fin _)) (by decide +kernel) (fun t hf y => ?_) (fun j => Iff.rfl)
  blk_simp
  rw [after0_6, out0_6_eq]
  rfl

section Second

variable (V : (c : Dev nD) → (b : Ref sig .tc) → Buf (Elt 𝕀) ((c : Thread nD τ).loc b))

theorem outs4 (t : Fin cfg1.N) : (outsAt1 V c t).1 = steps (iblk1 V c 0 t) (iblk1 V c 1 t) (iblk1 V c 2 t) (iblk1 V c 3 t) := by
  rw [outsAt1]
  dsimp only
  rw [out1_A_4]
  frame_out
  exact pay1_step (iblk1 V c 0 t) (iblk1 V c 1 t) (iblk1 V c 2 t) (iblk1 V c 3 t)

/-- The second call, entered from any contents: layer 0. -/
theorem second4 : (dat1 V c).arrAt 4 cfg1.N = fun y : S4x1024x512.Idx => if (y 0).val / 1 < 1 then steps (V c main_arg0) (V c main_arg1) (V c main_arg2) (V c main_arg3) y else V c main_v1_0 y := by
  refine (dat1 V c).arrAt_eq_of_coversWhere 4 _ (fun β => β (0 : Fin _) < 1) (by decide +kernel) (fun t hf y => ?_) (fun j => Iff.rfl)
  blk_simp
  rw [after1_4, outs4]
  rfl

theorem outs5 (t : Fin cfg1.N) : (outsAt1 V c t).2.1 = moms (iblk1 V c 1 t) (iblk1 V c 2 t) := by
  rw [outsAt1]
  dsimp only
  rw [out1_A_5]
  frame_out
  exact pay1_mom (iblk1 V c 1 t) (iblk1 V c 2 t)

/-- The second call, entered from any contents: layer 0. -/
theorem second5 : (dat1 V c).arrAt 5 cfg1.N = fun y : S4x1024x512.Idx => if (y 0).val / 1 < 1 then moms (V c main_arg1) (V c main_arg2) y else V c main_v1_1 y := by
  refine (dat1 V c).arrAt_eq_of_coversWhere 5 _ (fun β => β (0 : Fin _) < 1) (by decide +kernel) (fun t hf y => ?_) (fun j => Iff.rfl)
  blk_simp
  rw [after1_5, outs5]
  rfl

theorem outs6 (t : Fin cfg1.N) : (outsAt1 V c t).2.2 = vels (iblk1 V c 1 t) (iblk1 V c 3 t) := by
  rw [outsAt1]
  dsimp only
  rw [out1_A_6]
  frame_out
  exact pay1_vel (iblk1 V c 1 t) (iblk1 V c 3 t)

/-- The second call, entered from any contents: layer 0. -/
theorem second6 : (dat1 V c).arrAt 6 cfg1.N = fun y : S4x1024x512.Idx => if (y 0).val / 1 < 1 then vels (V c main_arg1) (V c main_arg3) y else V c main_v1_2 y := by
  refine (dat1 V c).arrAt_eq_of_coversWhere 6 _ (fun β => β (0 : Fin _) < 1) (by decide +kernel) (fun t hf y => ?_) (fun j => Iff.rfl)
  blk_simp
  rw [after1_6, outs6]
  rfl

end Second

/-- Result 0 at the end: every layer is done. -/
theorem whole4 : W3 m ρ c (Proc.devRef .tc main_v1_0) = steps (X0 m c) (X1 m c) (X2 m c) (X3 m c) := by
  refine (W3_arr m ρ c 4).trans ?_
  rw [second4, show V2 m ρ c main_arg0 = X0 m c from W2_args m ρ c main_arg0 (by decide), show V2 m ρ c main_arg1 = X1 m c from W2_args m ρ c main_arg1 (by decide), show V2 m ρ c main_arg2 = X2 m c from W2_args m ρ c main_arg2 (by decide), show V2 m ρ c main_arg3 = X3 m c from W2_args m ρ c main_arg3 (by decide)]
  have e : V2 m ρ c main_v1_0 = (dat0 (V0 m ρ) c).arrAt 4 cfg0.N :=
    Eq.trans (by show StableHlo.after hostOps1 (W1 m ρ c) (Proc.devRef .tc main_v1_0) = W1 m ρ c (Proc.devRef .tc main_v0_0); after_results; rfl) (W1_arr m ρ c 4)
  rw [e, first4]
  funext y
  by_cases h : (y 0).val / 1 < 1
  · exact if_pos h
  · exact (if_neg h).trans (if_pos (by omega))

/-- Result 1 at the end: every layer is done. -/
theorem whole5 : W3 m ρ c (Proc.devRef .tc main_v1_1) = moms (X1 m c) (X2 m c) := by
  refine (W3_arr m ρ c 5).trans ?_
  rw [second5, show V2 m ρ c main_arg1 = X1 m c from W2_args m ρ c main_arg1 (by decide), show V2 m ρ c main_arg2 = X2 m c from W2_args m ρ c main_arg2 (by decide)]
  have e : V2 m ρ c main_v1_1 = (dat0 (V0 m ρ) c).arrAt 5 cfg0.N :=
    Eq.trans (by show StableHlo.after hostOps1 (W1 m ρ c) (Proc.devRef .tc main_v1_1) = W1 m ρ c (Proc.devRef .tc main_v0_1); after_results; rfl) (W1_arr m ρ c 5)
  rw [e, first5]
  funext y
  by_cases h : (y 0).val / 1 < 1
  · exact if_pos h
  · exact (if_neg h).trans (if_pos (by omega))

/-- Result 2 at the end: every layer is done. -/
theorem whole6 : W3 m ρ c (Proc.devRef .tc main_v1_2) = vels (X1 m c) (X3 m c) := by
  refine (W3_arr m ρ c 6).trans ?_
  rw [second6, show V2 m ρ c main_arg1 = X1 m c from W2_args m ρ c main_arg1 (by decide), show V2 m ρ c main_arg3 = X3 m c from W2_args m ρ c main_arg3 (by decide)]
  have e : V2 m ρ c main_v1_2 = (dat0 (V0 m ρ) c).arrAt 6 cfg0.N :=
    Eq.trans (by show StableHlo.after hostOps1 (W1 m ρ c) (Proc.devRef .tc main_v1_2) = W1 m ρ c (Proc.devRef .tc main_v0_2); after_results; rfl) (W1_arr m ρ c 6)
  rw [e, first6]
  funext y
  by_cases h : (y 0).val / 1 < 1
  · exact if_pos h
  · exact (if_neg h).trans (if_pos (by omega))

set_option backward.isDefEq.respectTransparency.types false in
/-- Both calls run, and leave every layer's update. -/
theorem run : θ_run defs (onTc (τ := τ) (main (F := 𝕀))) ⟨m, fun _ => 0, ρ⟩ (fun r => ∀ c : Dev nD,
      r.2.mem ((c : Thread nD τ).loc main_v1_0) = steps (X0 m c) (X1 m c) (X2 m c) (X3 m c)
      ∧ r.2.mem ((c : Thread nD τ).loc main_v1_1) = moms (X1 m c) (X2 m c)
      ∧ r.2.mem ((c : Thread nD τ).loc main_v1_2) = vels (X1 m c) (X3 m c)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c) :=
  Pipeline.θ_run_regions_kit_sems (pcfgs (F := 𝕀)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans (whole4 m ρ c), (h c _ (mem_uc main_v1_1 (by decide))).trans (whole5 m ρ c),
       (h c _ (mem_uc main_v1_2 (by decide))).trans (whole6 m ρ c),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c)⟩)

end Cert.AdamOutIdeal.Val

namespace Cert.AdamOutRefIdeal.Val

open Cert.AdamOutRefIdeal Cert.AdamOutRefIdeal.Read Cert.Adam Cert.Mm Idealize.ShloMosaic

local notation "𝕀" => Idealize.ShloMosaic.Ideal

variable (w g m v : Vec 𝕀 S4x1024x512 .f32)

theorem ref_mom : val_main_v4 (F := 𝕀) g m = moms g m := by
  funext y
  obtain ⟨b, r, l, rfl⟩ := split3 y
  pointwise [val_main_v4, val_main_v3, val_main_v2, val_main_v1, val_main_v0, val_main_cst, val_main_cst_0]
  rfl

theorem ref_vel : val_main_v10 (F := 𝕀) g v = vels g v := by
  funext y
  obtain ⟨b, r, l, rfl⟩ := split3 y
  pointwise [val_main_v10, val_main_v9, val_main_v8, val_main_v7, val_main_v6, val_main_v5, val_main_cst_1, val_main_cst_2]
  rfl

theorem ref_step : val_main_v23 (F := 𝕀) w g m v = steps w g m v := by
  funext y
  obtain ⟨b, r, l, rfl⟩ := split3 y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Cert.AdamOutRefIdeal.Val

namespace Cert.AdamOut

open Idealize.ShloMosaic Idealize.SL.Sem

local notation "𝕀" => Idealize.ShloMosaic.Ideal

/-- The reference runs and leaves its arguments. -/
theorem frame_ref : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := 𝕀) m ρ)

theorem algebraic : Cert.algebraic_AdamOutIdeal_AdamOutRefIdeal := by
  intro m ρ m' ρ' _ hag
  refine ⟨_, _, _, Cert.AdamOutIdeal.Val.run m ρ, ?_⟩
  refine (θ_run Cert.AdamOutRefIdeal.defs _ _).mono (fun r h c => ?_) (Cert.AdamOutRefIdeal.Value.run (F := 𝕀) m' ρ')
  obtain ⟨a0, a1, a2, a3⟩ := hag c
  refine ⟨(h c).1.trans ?_, (h c).2.1.trans ?_, (h c).2.2.1.trans ?_, (h c).2.2.2⟩
  · rw [Cert.AdamOutRefIdeal.Read.val_main_v23_eq, a0, a1, a2, a3]
    exact Cert.AdamOutRefIdeal.Val.ref_step _ _ _ _
  · rw [Cert.AdamOutRefIdeal.Read.val_main_v4_eq, a1, a2]
    exact Cert.AdamOutRefIdeal.Val.ref_mom _ _
  · rw [Cert.AdamOutRefIdeal.Read.val_main_v10_eq, a1, a3]
    exact Cert.AdamOutRefIdeal.Val.ref_vel _ _

end Cert.AdamOut

end
-- ==== Proof.AdamKvValue.lean ====
/-
  The optimiser on weights of shape 4×512×2048: layers 1 to 3 by a first call, layer 0 by a second into the same arrays.
-/
module

public import proofs.«01_k».proof.Defs
public import proofs.«01_k».proof.Proof.Adam
public import proofs.«01_k».proof.Proof.Mm
public import proofs.«01_k».proof.Proof.Gen.AdamKvIdeal.Frame
public import proofs.«01_k».proof.Proof.Gen.AdamKvRefIdeal.Run
public import proofs.«01_k».proof.Proof.Gen.AdamKvRefIdeal.Read

@[expose] public section

set_option maxRecDepth 16384

noncomputable section

namespace Cert.AdamKvIdeal.Val

open Cert.AdamKvIdeal Cert.AdamKvIdeal.Gen Cert.Adam Cert.Mm
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

local notation "𝕀" => Idealize.ShloMosaic.Ideal
local notation "𝕄" => MT nD τ sig Unit (Elt 𝕀) ℕ (UR sig nD τ) ℕ

section Block

variable (w g m v : Vec 𝕀 S1x128x2048 .f32)

theorem pay0_step : k0_pay1 (k0_pay7 w g m v) = steps w g m v := by
  funext y
  obtain ⟨r, k, rfl⟩ := split3_one (n := 128) (k := 2048) y
  pointwise [k0_pay1, k0_pay7, k0_pay6, k0_pay5, k0_pay4]
  rfl

theorem pay0_mom : k0_pay2 (k0_pay5 g m) = moms g m := by
  funext y
  obtain ⟨r, k, rfl⟩ := split3_one (n := 128) (k := 2048) y
  pointwise [k0_pay2, k0_pay5, k0_pay4]
  rfl

theorem pay0_vel : k0_pay3 (k0_pay6 g v) = vels g v := by
  funext y
  obtain ⟨r, k, rfl⟩ := split3_one (n := 128) (k := 2048) y
  pointwise [k0_pay3, k0_pay6, k0_pay4]
  rfl

theorem pay1_step : k1_pay1 (k1_pay7 w g m v) = steps w g m v := by
  funext y
  obtain ⟨r, k, rfl⟩ := split3_one (n := 128) (k := 2048) y
  pointwise [k1_pay1, k1_pay7, k1_pay6, k1_pay5, k1_pay4]
  rfl

theorem pay1_mom : k1_pay2 (k1_pay5 g m) = moms g m := by
  funext y
  obtain ⟨r, k, rfl⟩ := split3_one (n := 128) (k := 2048) y
  pointwise [k1_pay2, k1_pay5, k1_pay4]
  rfl

theorem pay1_vel : k1_pay3 (k1_pay6 g v) = vels g v := by
  funext y
  obtain ⟨r, k, rfl⟩ := split3_one (n := 128) (k := 2048) y
  pointwise [k1_pay3, k1_pay6, k1_pay4]
  rfl

theorem out0_4_eq : out0_4 w g m v = steps w g m v := by
  rw [out0_4]
  frame_out
  exact pay0_step w g m v

theorem out0_5_eq : out0_5 w g m v = moms g m := by
  rw [out0_5]
  frame_out
  exact pay0_mom g m

theorem out0_6_eq : out0_6 w g m v = vels g v := by
  rw [out0_6]
  frame_out
  exact pay0_vel g v

end Block

variable (m : (ℓ : Loc nD τ sig) → Buf (Elt 𝕀) ℓ) (ρ : Dev nD → PrngReg) (c : Dev nD)

/-- The weights, their gradients and the two moments on device `c`. -/
abbrev X0 : Vec 𝕀 S4x512x2048 .f32 := m ((c : Thread nD τ).loc main_arg0)
abbrev X1 : Vec 𝕀 S4x512x2048 .f32 := m ((c : Thread nD τ).loc main_arg1)
abbrev X2 : Vec 𝕀 S4x512x2048 .f32 := m ((c : Thread nD τ).loc main_arg2)
abbrev X3 : Vec 𝕀 S4x512x2048 .f32 := m ((c : Thread nD τ).loc main_arg3)

/-- What the first call leaves in result 0: layers 1 to 3 are done. -/
theorem first4 : (dat0 (V0 m ρ) c).arrAt 4 cfg0.N = fun y : S4x512x2048.Idx => if 1 ≤ (y 0).val / 1 then steps (X0 m c) (X1 m c) (X2 m c) (X3 m c) y else V0 m ρ c main_v0_0 y := by
  refine (dat0 (V0 m ρ) c).arrAt_eq_of_coversWhere 4 _ (fun β => 1 ≤ β (0 : Fin _)) (by decide +kernel) (fun t hf y => ?_) (fun j => Iff.rfl)
  blk_simp
  rw [after0_4, out0_4_eq]
  rfl

/-- What the first call leaves in result 1: layers 1 to 3 are done. -/
theorem first5 : (dat0 (V0 m ρ) c).arrAt 5 cfg0.N = fun y : S4x512x2048.Idx => if 1 ≤ (y 0).val / 1 then moms (X1 m c) (X2 m c) y else V0 m ρ c main_v0_1 y := by
  refine (dat0 (V0 m ρ) c).arrAt_eq_of_coversWhere 5 _ (fun β => 1 ≤ β (0 : Fin _)) (by decide +kernel) (fun t hf y => ?_) (fun j => Iff.rfl)
  blk_simp
  rw [after0_5, out0_5_eq]
  rfl

/-- What the first call leaves in result 2: layers 1 to 3 are done. -/
theorem first6 : (dat0 (V0 m ρ) c).arrAt 6 cfg0.N = fun y : S4x512x2048.Idx => if 1 ≤ (y 0).val / 1 then vels (X1 m c) (X3 m c) y else V0 m ρ c main_v0_2 y := by
  refine (dat0 (V0 m ρ) c).arrAt_eq_of_coversWhere 6 _ (fun β => 1 ≤ β (0 : Fin _)) (by decide +kernel) (fun t hf y => ?_) (fun j => Iff.rfl)
  blk_simp
  rw [after0_6, out0_6_eq]
  rfl

section Second

variable (V : (c : Dev nD) → (b : Ref sig .tc) → Buf (Elt 𝕀) ((c : Thread nD τ).loc b))

theorem outs4 (t : Fin cfg1.N) : (outsAt1 V c t).1 = steps (iblk1 V c 0 t) (iblk1 V c 1 t) (iblk1 V c 2 t) (iblk1 V c 3 t) := by
  rw [outsAt1]
  dsimp only
  rw [out1_A_4]
  frame_out
  exact pay1_step (iblk1 V c 0 t) (iblk1 V c 1 t) (iblk1 V c 2 t) (iblk1 V c 3 t)

/-- The second call, entered from any contents: layer 0. -/
theorem second4 : (dat1 V c).arrAt 4 cfg1.N = fun y : S4x512x2048.Idx => if (y 0).val / 1 < 1 then steps (V c main_arg0) (V c main_arg1) (V c main_arg2) (V c main_arg3) y else V c main_v1_0 y := by
  refine (dat1 V c).arrAt_eq_of_coversWhere 4 _ (fun β => β (0 : Fin _) < 1) (by decide +kernel) (fun t hf y => ?_) (fun j => Iff.rfl)
  blk_simp
  rw [after1_4, outs4]
  rfl

theorem outs5 (t : Fin cfg1.N) : (outsAt1 V c t).2.1 = moms (iblk1 V c 1 t) (iblk1 V c 2 t) := by
  rw [outsAt1]
  dsimp only
  rw [out1_A_5]
  frame_out
  exact pay1_mom (iblk1 V c 1 t) (iblk1 V c 2 t)

/-- The second call, entered from any contents: layer 0. -/
theorem second5 : (dat1 V c).arrAt 5 cfg1.N = fun y : S4x512x2048.Idx => if (y 0).val / 1 < 1 then moms (V c main_arg1) (V c main_arg2) y else V c main_v1_1 y := by
  refine (dat1 V c).arrAt_eq_of_coversWhere 5 _ (fun β => β (0 : Fin _) < 1) (by decide +kernel) (fun t hf y => ?_) (fun j => Iff.rfl)
  blk_simp
  rw [after1_5, outs5]
  rfl

theorem outs6 (t : Fin cfg1.N) : (outsAt1 V c t).2.2 = vels (iblk1 V c 1 t) (iblk1 V c 3 t) := by
  rw [outsAt1]
  dsimp only
  rw [out1_A_6]
  frame_out
  exact pay1_vel (iblk1 V c 1 t) (iblk1 V c 3 t)

/-- The second call, entered from any contents: layer 0. -/
theorem second6 : (dat1 V c).arrAt 6 cfg1.N = fun y : S4x512x2048.Idx => if (y 0).val / 1 < 1 then vels (V c main_arg1) (V c main_arg3) y else V c main_v1_2 y := by
  refine (dat1 V c).arrAt_eq_of_coversWhere 6 _ (fun β => β (0 : Fin _) < 1) (by decide +kernel) (fun t hf y => ?_) (fun j => Iff.rfl)
  blk_simp
  rw [after1_6, outs6]
  rfl

end Second

/-- Result 0 at the end: every layer is done. -/
theorem whole4 : W3 m ρ c (Proc.devRef .tc main_v1_0) = steps (X0 m c) (X1 m c) (X2 m c) (X3 m c) := by
  refine (W3_arr m ρ c 4).trans ?_
  rw [second4, show V2 m ρ c main_arg0 = X0 m c from W2_args m ρ c main_arg0 (by decide), show V2 m ρ c main_arg1 = X1 m c from W2_args m ρ c main_arg1 (by decide), show V2 m ρ c main_arg2 = X2 m c from W2_args m ρ c main_arg2 (by decide), show V2 m ρ c main_arg3 = X3 m c from W2_args m ρ c main_arg3 (by decide)]
  have e : V2 m ρ c main_v1_0 = (dat0 (V0 m ρ) c).arrAt 4 cfg0.N :=
    Eq.trans (by show StableHlo.after hostOps1 (W1 m ρ c) (Proc.devRef .tc main_v1_0) = W1 m ρ c (Proc.devRef .tc main_v0_0); after_results; rfl) (W1_arr m ρ c 4)
  rw [e, first4]
  funext y
  by_cases h : (y 0).val / 1 < 1
  · exact if_pos h
  · exact (if_neg h).trans (if_pos (by omega))

/-- Result 1 at the end: every layer is done. -/
theorem whole5 : W3 m ρ c (Proc.devRef .tc main_v1_1) = moms (X1 m c) (X2 m c) := by
  refine (W3_arr m ρ c 5).trans ?_
  rw [second5, show V2 m ρ c main_arg1 = X1 m c from W2_args m ρ c main_arg1 (by decide), show V2 m ρ c main_arg2 = X2 m c from W2_args m ρ c main_arg2 (by decide)]
  have e : V2 m ρ c main_v1_1 = (dat0 (V0 m ρ) c).arrAt 5 cfg0.N :=
    Eq.trans (by show StableHlo.after hostOps1 (W1 m ρ c) (Proc.devRef .tc main_v1_1) = W1 m ρ c (Proc.devRef .tc main_v0_1); after_results; rfl) (W1_arr m ρ c 5)
  rw [e, first5]
  funext y
  by_cases h : (y 0).val / 1 < 1
  · exact if_pos h
  · exact (if_neg h).trans (if_pos (by omega))

/-- Result 2 at the end: every layer is done. -/
theorem whole6 : W3 m ρ c (Proc.devRef .tc main_v1_2) = vels (X1 m c) (X3 m c) := by
  refine (W3_arr m ρ c 6).trans ?_
  rw [second6, show V2 m ρ c main_arg1 = X1 m c from W2_args m ρ c main_arg1 (by decide), show V2 m ρ c main_arg3 = X3 m c from W2_args m ρ c main_arg3 (by decide)]
  have e : V2 m ρ c main_v1_2 = (dat0 (V0 m ρ) c).arrAt 6 cfg0.N :=
    Eq.trans (by show StableHlo.after hostOps1 (W1 m ρ c) (Proc.devRef .tc main_v1_2) = W1 m ρ c (Proc.devRef .tc main_v0_2); after_results; rfl) (W1_arr m ρ c 6)
  rw [e, first6]
  funext y
  by_cases h : (y 0).val / 1 < 1
  · exact if_pos h
  · exact (if_neg h).trans (if_pos (by omega))

set_option backward.isDefEq.respectTransparency.types false in
/-- Both calls run, and leave every layer's update. -/
theorem run : θ_run defs (onTc (τ := τ) (main (F := 𝕀))) ⟨m, fun _ => 0, ρ⟩ (fun r => ∀ c : Dev nD,
      r.2.mem ((c : Thread nD τ).loc main_v1_0) = steps (X0 m c) (X1 m c) (X2 m c) (X3 m c)
      ∧ r.2.mem ((c : Thread nD τ).loc main_v1_1) = moms (X1 m c) (X2 m c)
      ∧ r.2.mem ((c : Thread nD τ).loc main_v1_2) = vels (X1 m c) (X3 m c)
      ∧ r.2.mem ((c : Thread nD τ).loc main_arg0) = X0 m c
      ∧ r.2.mem ((c : Thread nD τ).loc main_arg1) = X1 m c
      ∧ r.2.mem ((c : Thread nD τ).loc main_arg2) = X2 m c
      ∧ r.2.mem ((c : Thread nD τ).loc main_arg3) = X3 m c) :=
  Pipeline.θ_run_regions_kit_sems (pcfgs (F := 𝕀)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans (whole4 m ρ c), (h c _ (mem_uc main_v1_1 (by decide))).trans (whole5 m ρ c),
       (h c _ (mem_uc main_v1_2 (by decide))).trans (whole6 m ρ c),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c)⟩)

end Cert.AdamKvIdeal.Val

namespace Cert.AdamKvRefIdeal.Val

open Cert.AdamKvRefIdeal Cert.AdamKvRefIdeal.Read Cert.Adam Cert.Mm Idealize.ShloMosaic

local notation "𝕀" => Idealize.ShloMosaic.Ideal

variable (w g m v : Vec 𝕀 S4x512x2048 .f32)

theorem ref_mom : val_main_v4 (F := 𝕀) g m = moms g m := by
  funext y
  obtain ⟨b, r, l, rfl⟩ := split3 y
  pointwise [val_main_v4, val_main_v3, val_main_v2, val_main_v1, val_main_v0, val_main_cst, val_main_cst_0]
  rfl

theorem ref_vel : val_main_v10 (F := 𝕀) g v = vels g v := by
  funext y
  obtain ⟨b, r, l, rfl⟩ := split3 y
  pointwise [val_main_v10, val_main_v9, val_main_v8, val_main_v7, val_main_v6, val_main_v5, val_main_cst_1, val_main_cst_2]
  rfl

theorem ref_step : val_main_v23 (F := 𝕀) w g m v = steps w g m v := by
  funext y
  obtain ⟨b, r, l, rfl⟩ := split3 y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Cert.AdamKvRefIdeal.Val

namespace Cert.AdamKv

open Idealize.ShloMosaic Idealize.SL.Sem

local notation "𝕀" => Idealize.ShloMosaic.Ideal

/-- The reference runs and leaves its arguments. -/
theorem frame_ref : Cert.quiescent_AdamKvRefIdeal := fun m ρ _ =>
  (θ_run Cert.AdamKvRefIdeal.defs _ _).mono (fun r h => ⟨fun c => (h c).2.2.2, sem_eq_zero_of_no_sems (by decide) r.2⟩)
    (Cert.AdamKvRefIdeal.Value.run (F := 𝕀) m ρ)

theorem algebraic : Cert.algebraic_AdamKvIdeal_AdamKvRefIdeal := by
  intro m ρ m' ρ' _ hag
  refine ⟨_, _, _, Cert.AdamKvIdeal.Val.run m ρ, ?_⟩
  refine (θ_run Cert.AdamKvRefIdeal.defs _ _).mono (fun r h c => ?_) (Cert.AdamKvRefIdeal.Value.run (F := 𝕀) m' ρ')
  obtain ⟨a0, a1, a2, a3⟩ := hag c
  refine ⟨(h c).1.trans ?_, (h c).2.1.trans ?_, (h c).2.2.1.trans ?_, (h c).2.2.2⟩
  · rw [Cert.AdamKvRefIdeal.Read.val_main_v23_eq, a0, a1, a2, a3]
    exact Cert.AdamKvRefIdeal.Val.ref_step _ _ _ _
  · rw [Cert.AdamKvRefIdeal.Read.val_main_v4_eq, a1, a2]
    exact Cert.AdamKvRefIdeal.Val.ref_mom _ _
  · rw [Cert.AdamKvRefIdeal.Read.val_main_v10_eq, a1, a3]
    exact Cert.AdamKvRefIdeal.Val.ref_vel _ _

end Cert.AdamKv

end
-- ==== Proof.lean ====
module

public import proofs.«01_k».proof.Defs
public import proofs.«01_k».proof.Proof.Gen.AttnBwd.Frame
public import proofs.«01_k».proof.Proof.Gen.AttnBwdIdeal.Frame
public import proofs.«01_k».proof.Proof.Gen.AttnBwdIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_queries_and_keys
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.ODx.Frame
public import proofs.«01_k».proof.Proof.Gen.ODxIdeal.Frame
public import proofs.«01_k».proof.Proof.Gen.ODxIdeal.Value
public import proofs.«01_k».proof.Proof.Gen.ODxRefIdeal.Run
public import proofs.«01_k».proof.Proof.Gen.ODxRefIdeal.Read
public import proofs.«01_k».proof.Proof.Gen.ODw.Frame
public import proofs.«01_k».proof.Proof.Gen.ODwIdeal.Frame
public import proofs.«01_k».proof.Proof.Gen.ODwIdeal.Value
public import proofs.«01_k».proof.Proof.Gen.ODwRefIdeal.Run
public import proofs.«01_k».proof.Proof.Gen.ODwRefIdeal.Read
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.KvDx.Frame
public import proofs.«01_k».proof.Proof.Gen.KvDxIdeal.Frame
public import proofs.«01_k».proof.Proof.Gen.KvDxIdeal.Value
public import proofs.«01_k».proof.Proof.Gen.KvDxRefIdeal.Run
public import proofs.«01_k».proof.Proof.Gen.KvDxRefIdeal.Read
public import proofs.«01_k».proof.Proof.Gen.KvDw.Frame
public import proofs.«01_k».proof.Proof.Gen.KvDwIdeal.Frame
public import proofs.«01_k».proof.Proof.Gen.KvDwIdeal.Value
public import proofs.«01_k».proof.Proof.Gen.KvDwRefIdeal.Run
public import proofs.«01_k».proof.Proof.Gen.KvDwRefIdeal.Read
public import proofs.«01_k».proof.Proof.Gen.MmIn.Frame
public import proofs.«01_k».proof.Proof.Gen.MmInIdeal.Frame
public import proofs.«01_k».proof.Proof.Gen.MmInIdeal.Value
public import proofs.«01_k».proof.Proof.Gen.MmInRefIdeal.Run
public import proofs.«01_k».proof.Proof.Gen.MmInRefIdeal.Read
public import proofs.«01_k».proof.Proof.Gen.MmUp.Frame
public import proofs.«01_k».proof.Proof.Gen.MmUpIdeal.Frame
public import proofs.«01_k».proof.Proof.Gen.MmUpIdeal.Value
public import proofs.«01_k».proof.Proof.Gen.MmUpRefIdeal.Run
public import proofs.«01_k».proof.Proof.Gen.MmUpRefIdeal.Read
public import proofs.«01_k».proof.Proof.Gen.MmOut.Frame
public import proofs.«01_k».proof.Proof.Gen.MmOutIdeal.Frame
public import proofs.«01_k».proof.Proof.Gen.MmOutIdeal.Value
public import proofs.«01_k».proof.Proof.Gen.MmOutRefIdeal.Run
public import proofs.«01_k».proof.Proof.Gen.MmOutRefIdeal.Read
public import proofs.«01_k».proof.Proof.Gen.MmO.Frame
public import proofs.«01_k».proof.Proof.Gen.MmOIdeal.Frame
public import proofs.«01_k».proof.Proof.Gen.MmOIdeal.Value
public import proofs.«01_k».proof.Proof.Gen.MmORefIdeal.Run
public import proofs.«01_k».proof.Proof.Gen.MmORefIdeal.Read
public import proofs.«01_k».proof.Proof.Gen.MmKv.Frame
public import proofs.«01_k».proof.Proof.Gen.MmKvIdeal.Frame
public import proofs.«01_k».proof.Proof.Gen.MmKvIdeal.Value
public import proofs.«01_k».proof.Proof.Gen.MmKvRefIdeal.Run
public import proofs.«01_k».proof.Proof.Gen.MmKvRefIdeal.Read
public import proofs.«01_k».proof.Proof.Gen.MmDown.Frame
public import proofs.«01_k».proof.Proof.Gen.MmDownIdeal.Frame
public import proofs.«01_k».proof.Proof.Gen.MmDownIdeal.Value
public import proofs.«01_k».proof.Proof.Gen.MmDownRefIdeal.Run
public import proofs.«01_k».proof.Proof.Gen.MmDownRefIdeal.Read
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import proofs.«01_k».proof.Proof.Gen.NormBwdTop.Frame
public import proofs.«01_k».proof.Proof.Gen.NormBwdTopIdeal.Frame
public import proofs.«01_k».proof.Proof.Gen.NormBwdTopIdeal.Value
public import proofs.«01_k».proof.Proof.Gen.NormBwdTopRefIdeal.Run
public import proofs.«01_k».proof.Proof.Gen.NormBwdTopRefIdeal.Read
public import proofs.«01_k».proof.Proof.Gen.NormBwdMem.Frame
public import proofs.«01_k».proof.Proof.Gen.NormBwdMemIdeal.Frame
public import proofs.«01_k».proof.Proof.Gen.NormBwdMemIdeal.Value
public import proofs.«01_k».proof.Proof.Gen.NormBwdMemRefIdeal.Run
public import proofs.«01_k».proof.Proof.Gen.NormBwdMemRefIdeal.Read
public import proofs.«01_k».proof.Proof.Gen.NormBwdLast.Frame
public import proofs.«01_k».proof.Proof.Gen.NormBwdLastIdeal.Frame
public import proofs.«01_k».proof.Proof.Gen.NormBwdLastIdeal.Value
public import proofs.«01_k».proof.Proof.Gen.NormBwdLastRefIdeal.Run
public import proofs.«01_k».proof.Proof.Gen.NormBwdLastRefIdeal.Read
public import proofs.«01_k».proof.Proof.Gen.NormBwdMid.Frame
public import proofs.«01_k».proof.Proof.Gen.NormBwdMidIdeal.Frame
public import proofs.«01_k».proof.Proof.Gen.NormBwdMidIdeal.Value
public import proofs.«01_k».proof.Proof.Gen.NormBwdMidRefIdeal.Run
public import proofs.«01_k».proof.Proof.Gen.NormBwdMidRefIdeal.Read
public import proofs.«01_k».proof.Proof.Gen.BranchBBwd.Frame
public import proofs.«01_k».proof.Proof.Gen.BranchBBwdIdeal.Frame
public import proofs.«01_k».proof.Proof.Gen.BranchBBwdRefIdeal.Run
public import proofs.«01_k».proof.Proof.Gen.BranchBBwdRefIdeal.Read
public import proofs.«01_k».proof.Proof.Gen.NormFirst.Frame
public import proofs.«01_k».proof.Proof.Gen.NormFirstIdeal.Frame
public import proofs.«01_k».proof.Proof.Gen.NormFirstIdeal.Value
public import proofs.«01_k».proof.Proof.Gen.NormFirstRefIdeal.Run
public import proofs.«01_k».proof.Proof.Gen.NormFirstRefIdeal.Read
public import proofs.«01_k».proof.Proof.Gen.NormMem.Frame
public import proofs.«01_k».proof.Proof.Gen.NormMemIdeal.Frame
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Gen.NormMid.Frame
public import proofs.«01_k».proof.Proof.Gen.NormMidIdeal.Frame
public import proofs.«01_k».proof.Proof.Gen.NormMidIdeal.Value
public import proofs.«01_k».proof.Proof.Gen.NormMidRefIdeal.Run
public import proofs.«01_k».proof.Proof.Gen.NormMidRefIdeal.Read
public import proofs.«01_k».proof.Proof.Gen.NormLoss.Frame
public import proofs.«01_k».proof.Proof.Gen.NormLossIdeal.Frame
public import proofs.«01_k».proof.Proof.Gen.NormLossRefIdeal.Run
public import proofs.«01_k».proof.Proof.Gen.NormLossRefIdeal.Read
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.BranchBFwd.Frame
public import proofs.«01_k».proof.Proof.Gen.BranchBFwdIdeal.Frame
public import proofs.«01_k».proof.Proof.Gen.BranchBFwdIdeal.Value
public import proofs.«01_k».proof.Proof.Gen.BranchBFwdRefIdeal.Run
public import proofs.«01_k».proof.Proof.Gen.BranchBFwdRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.AdamUpRefIdeal.Read
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamOutRefIdeal.Read
public import proofs.«01_k».proof.Proof.Gen.AdamKv.Frame
public import proofs.«01_k».proof.Proof.Gen.AdamKvIdeal.Frame
public import proofs.«01_k».proof.Proof.Gen.AdamKvRefIdeal.Run
public import proofs.«01_k».proof.Proof.Gen.AdamKvRefIdeal.Read
public import proofs.«01_k».proof.Proof.Gen.BranchBBwd.Skeleton
public import proofs.«01_k».proof.Proof.Gen.BranchBBwdIdeal.Skeleton
public import proofs.«01_k».proof.Proof.BranchBBwdFrame
public import proofs.«01_k».proof.Proof.BranchBBwdIdealFrame
public import proofs.«01_k».proof.Proof.AttnClaim
public import proofs.«01_k».proof.Proof.DownDxValue
public import proofs.«01_k».proof.Proof.DownDwValue
public import proofs.«01_k».proof.Proof.UpDxValue
public import proofs.«01_k».proof.Proof.UpDwValue
public import proofs.«01_k».proof.Proof.InDxValue
public import proofs.«01_k».proof.Proof.InDwValue
public import proofs.«01_k».proof.Proof.ODxValue
public import proofs.«01_k».proof.Proof.ODwValue
public import proofs.«01_k».proof.Proof.OutDxValue
public import proofs.«01_k».proof.Proof.OutDwValue
public import proofs.«01_k».proof.Proof.KvDxValue
public import proofs.«01_k».proof.Proof.KvDwValue
public import proofs.«01_k».proof.Proof.MmInValue
public import proofs.«01_k».proof.Proof.MmUpValue
public import proofs.«01_k».proof.Proof.MmOutValue
public import proofs.«01_k».proof.Proof.MmOValue
public import proofs.«01_k».proof.Proof.MmKvValue
public import proofs.«01_k».proof.Proof.MmDownValue
public import proofs.«01_k».proof.Proof.MergeBwdValue
public import proofs.«01_k».proof.Proof.NormBwdTopValue
public import proofs.«01_k».proof.Proof.NormBwdMemValue
public import proofs.«01_k».proof.Proof.NormBwdLastValue
public import proofs.«01_k».proof.Proof.NormBwdMidValue
public import proofs.«01_k».proof.Proof.BranchBBwdValue
public import proofs.«01_k».proof.Proof.NormFirstValue
public import proofs.«01_k».proof.Proof.NormMemValue
public import proofs.«01_k».proof.Proof.NormMidValue
public import proofs.«01_k».proof.Proof.NormLossValue
public import proofs.«01_k».proof.Proof.MergeFwdValue
public import proofs.«01_k».proof.Proof.BranchBFwdValue
public import proofs.«01_k».proof.Proof.AttnFwdValue
public import proofs.«01_k».proof.Proof.AdamInValue
public import proofs.«01_k».proof.Proof.AdamUpValue
public import proofs.«01_k».proof.Proof.AdamOutValue
public import proofs.«01_k».proof.Proof.AdamKvValue

@[expose] public section

noncomputable section

namespace Cert.Proof

open Idealize.ShloMosaic Idealize.SL.Sem

theorem claim : Cert.Claim :=
  ⟨Cert.AttnBwd.Gen.facts, Cert.AttnBwdIdeal.Gen.facts, Cert.AttnRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.ODx.Gen.facts, Cert.ODxIdeal.Gen.facts, Cert.ODxRefIdeal.Gen.facts,
    Cert.ODw.Gen.facts, Cert.ODwIdeal.Gen.facts, Cert.ODwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.KvDx.Gen.facts, Cert.KvDxIdeal.Gen.facts, Cert.KvDxRefIdeal.Gen.facts,
    Cert.KvDw.Gen.facts, Cert.KvDwIdeal.Gen.facts, Cert.KvDwRefIdeal.Gen.facts,
    Cert.MmIn.Gen.facts, Cert.MmInIdeal.Gen.facts, Cert.MmInRefIdeal.Gen.facts,
    Cert.MmUp.Gen.facts, Cert.MmUpIdeal.Gen.facts, Cert.MmUpRefIdeal.Gen.facts,
    Cert.MmOut.Gen.facts, Cert.MmOutIdeal.Gen.facts, Cert.MmOutRefIdeal.Gen.facts,
    Cert.MmO.Gen.facts, Cert.MmOIdeal.Gen.facts, Cert.MmORefIdeal.Gen.facts,
    Cert.MmKv.Gen.facts, Cert.MmKvIdeal.Gen.facts, Cert.MmKvRefIdeal.Gen.facts,
    Cert.MmDown.Gen.facts, Cert.MmDownIdeal.Gen.facts, Cert.MmDownRefIdeal.Gen.facts,
    Cert.MergeBwd.Gen.facts, Cert.MergeBwdIdeal.Gen.facts, Cert.MergeBwdRefIdeal.Gen.facts,
    Cert.NormBwdTop.Gen.facts, Cert.NormBwdTopIdeal.Gen.facts, Cert.NormBwdTopRefIdeal.Gen.facts,
    Cert.NormBwdMem.Gen.facts, Cert.NormBwdMemIdeal.Gen.facts, Cert.NormBwdMemRefIdeal.Gen.facts,
    Cert.NormBwdLast.Gen.facts, Cert.NormBwdLastIdeal.Gen.facts, Cert.NormBwdLastRefIdeal.Gen.facts,
    Cert.NormBwdMid.Gen.facts, Cert.NormBwdMidIdeal.Gen.facts, Cert.NormBwdMidRefIdeal.Gen.facts,
    Cert.BranchBBwd.Gen.facts, Cert.BranchBBwdIdeal.Gen.facts, Cert.BranchBBwdRefIdeal.Gen.facts,
    Cert.NormFirst.Gen.facts, Cert.NormFirstIdeal.Gen.facts, Cert.NormFirstRefIdeal.Gen.facts,
    Cert.NormMem.Gen.facts, Cert.NormMemIdeal.Gen.facts, Cert.NormMemRefIdeal.Gen.facts,
    Cert.NormMid.Gen.facts, Cert.NormMidIdeal.Gen.facts, Cert.NormMidRefIdeal.Gen.facts,
    Cert.NormLoss.Gen.facts, Cert.NormLossIdeal.Gen.facts, Cert.NormLossRefIdeal.Gen.facts,
    Cert.MergeFwd.Gen.facts, Cert.MergeFwdIdeal.Gen.facts, Cert.MergeFwdRefIdeal.Gen.facts,
    Cert.BranchBFwd.Gen.facts, Cert.BranchBFwdIdeal.Gen.facts, Cert.BranchBFwdRefIdeal.Gen.facts,
    Cert.AttnFwd.Gen.facts, Cert.AttnFwdIdeal.Gen.facts, Cert.AttnFwdRefIdeal.Gen.facts,
    Cert.AdamIn.Gen.facts, Cert.AdamInIdeal.Gen.facts, Cert.AdamInRefIdeal.Gen.facts,
    Cert.AdamUp.Gen.facts, Cert.AdamUpIdeal.Gen.facts, Cert.AdamUpRefIdeal.Gen.facts,
    Cert.AdamOut.Gen.facts, Cert.AdamOutIdeal.Gen.facts, Cert.AdamOutRefIdeal.Gen.facts,
    Cert.AdamKv.Gen.facts, Cert.AdamKvIdeal.Gen.facts, Cert.AdamKvRefIdeal.Gen.facts,
    Cert.Pre_finite_queries_and_keys.Gen.facts,
    fun m ρ _ => Cert.AttnBwd.Gen.frame m ρ,
    fun m ρ _ => Cert.AttnBwdIdeal.Gen.frame m ρ, fun m ρ _ => Cert.AttnBwdIdeal.Gen.frame m ρ,
    Cert.Attn.frame_ref, fun m ρ _ => Cert.Attn.frame_ref m ρ trivial,
    fun m ρ _ => Cert.DownDx.Gen.frame m ρ, fun m ρ _ => Cert.DownDxIdeal.Gen.frame m ρ, Cert.DownDx.frame_ref,
    fun m ρ _ => Cert.DownDw.Gen.frame m ρ, fun m ρ _ => Cert.DownDwIdeal.Gen.frame m ρ, Cert.DownDw.frame_ref,
    fun m ρ _ => Cert.UpDx.Gen.frame m ρ, fun m ρ _ => Cert.UpDxIdeal.Gen.frame m ρ, Cert.UpDx.frame_ref,
    fun m ρ _ => Cert.UpDw.Gen.frame m ρ, fun m ρ _ => Cert.UpDwIdeal.Gen.frame m ρ, Cert.UpDw.frame_ref,
    fun m ρ _ => Cert.InDx.Gen.frame m ρ, fun m ρ _ => Cert.InDxIdeal.Gen.frame m ρ, Cert.InDx.frame_ref,
    fun m ρ _ => Cert.InDw.Gen.frame m ρ, fun m ρ _ => Cert.InDwIdeal.Gen.frame m ρ, Cert.InDw.frame_ref,
    fun m ρ _ => Cert.ODx.Gen.frame m ρ, fun m ρ _ => Cert.ODxIdeal.Gen.frame m ρ, Cert.ODx.frame_ref,
    fun m ρ _ => Cert.ODw.Gen.frame m ρ, fun m ρ _ => Cert.ODwIdeal.Gen.frame m ρ, Cert.ODw.frame_ref,
    fun m ρ _ => Cert.OutDx.Gen.frame m ρ, fun m ρ _ => Cert.OutDxIdeal.Gen.frame m ρ, Cert.OutDx.frame_ref,
    fun m ρ _ => Cert.OutDw.Gen.frame m ρ, fun m ρ _ => Cert.OutDwIdeal.Gen.frame m ρ, Cert.OutDw.frame_ref,
    fun m ρ _ => Cert.KvDx.Gen.frame m ρ, fun m ρ _ => Cert.KvDxIdeal.Gen.frame m ρ, Cert.KvDx.frame_ref,
    fun m ρ _ => Cert.KvDw.Gen.frame m ρ, fun m ρ _ => Cert.KvDwIdeal.Gen.frame m ρ, Cert.KvDw.frame_ref,
    fun m ρ _ => Cert.MmIn.Gen.frame m ρ, fun m ρ _ => Cert.MmInIdeal.Gen.frame m ρ, Cert.MmIn.frame_ref,
    fun m ρ _ => Cert.MmUp.Gen.frame m ρ, fun m ρ _ => Cert.MmUpIdeal.Gen.frame m ρ, Cert.MmUp.frame_ref,
    fun m ρ _ => Cert.MmOut.Gen.frame m ρ, fun m ρ _ => Cert.MmOutIdeal.Gen.frame m ρ, Cert.MmOut.frame_ref,
    fun m ρ _ => Cert.MmO.Gen.frame m ρ, fun m ρ _ => Cert.MmOIdeal.Gen.frame m ρ, Cert.MmO.frame_ref,
    fun m ρ _ => Cert.MmKv.Gen.frame m ρ, fun m ρ _ => Cert.MmKvIdeal.Gen.frame m ρ, Cert.MmKv.frame_ref,
    fun m ρ _ => Cert.MmDown.Gen.frame m ρ, fun m ρ _ => Cert.MmDownIdeal.Gen.frame m ρ, Cert.MmDown.frame_ref,
    fun m ρ _ => Cert.MergeBwd.Gen.frame m ρ, fun m ρ _ => Cert.MergeBwdIdeal.Gen.frame m ρ, Cert.MergeBwd.frame_ref,
    fun m ρ _ => Cert.NormBwdTop.Gen.frame m ρ, fun m ρ _ => Cert.NormBwdTopIdeal.Gen.frame m ρ, Cert.NormBwdTop.frame_ref,
    fun m ρ _ => Cert.NormBwdMem.Gen.frame m ρ, fun m ρ _ => Cert.NormBwdMemIdeal.Gen.frame m ρ, Cert.NormBwdMem.frame_ref,
    fun m ρ _ => Cert.NormBwdLast.Gen.frame m ρ, fun m ρ _ => Cert.NormBwdLastIdeal.Gen.frame m ρ, Cert.NormBwdLast.frame_ref,
    fun m ρ _ => Cert.NormBwdMid.Gen.frame m ρ, fun m ρ _ => Cert.NormBwdMidIdeal.Gen.frame m ρ, Cert.NormBwdMid.frame_ref,
    fun m ρ _ => Cert.BranchBBwd.Body.frame m ρ, fun m ρ _ => Cert.BranchBBwdIdeal.Body.frame m ρ, Cert.BranchBBwd.frame_ref,
    fun m ρ _ => Cert.NormFirst.Gen.frame m ρ, fun m ρ _ => Cert.NormFirstIdeal.Gen.frame m ρ, Cert.NormFirst.frame_ref,
    fun m ρ _ => Cert.NormMem.Gen.frame m ρ, fun m ρ _ => Cert.NormMemIdeal.Gen.frame m ρ, Cert.NormMem.frame_ref,
    fun m ρ _ => Cert.NormMid.Gen.frame m ρ, fun m ρ _ => Cert.NormMidIdeal.Gen.frame m ρ, Cert.NormMid.frame_ref,
    fun m ρ _ => Cert.NormLoss.Gen.frame m ρ, fun m ρ _ => Cert.NormLossIdeal.Gen.frame m ρ, Cert.NormLoss.frame_ref,
    fun m ρ _ => Cert.MergeFwd.Gen.frame m ρ, fun m ρ _ => Cert.MergeFwdIdeal.Gen.frame m ρ, Cert.MergeFwd.frame_ref,
    fun m ρ _ => Cert.BranchBFwd.Gen.frame m ρ, fun m ρ _ => Cert.BranchBFwdIdeal.Gen.frame m ρ, Cert.BranchBFwd.frame_ref,
    fun m ρ _ => Cert.AttnFwd.Gen.frame m ρ, fun m ρ _ => Cert.AttnFwdIdeal.Gen.frame m ρ, Cert.AttnFwd.frame_ref,
    fun m ρ _ => Cert.AdamIn.Gen.frame m ρ, fun m ρ _ => Cert.AdamInIdeal.Gen.frame m ρ, Cert.AdamIn.frame_ref,
    fun m ρ _ => Cert.AdamUp.Gen.frame m ρ, fun m ρ _ => Cert.AdamUpIdeal.Gen.frame m ρ, Cert.AdamUp.frame_ref,
    fun m ρ _ => Cert.AdamOut.Gen.frame m ρ, fun m ρ _ => Cert.AdamOutIdeal.Gen.frame m ρ, Cert.AdamOut.frame_ref,
    fun m ρ _ => Cert.AdamKv.Gen.frame m ρ, fun m ρ _ => Cert.AdamKvIdeal.Gen.frame m ρ, Cert.AdamKv.frame_ref,
    trivial, Cert.Attn.algebraic,
    trivial, Cert.DownDx.algebraic,
    trivial, Cert.DownDw.algebraic,
    trivial, Cert.UpDx.algebraic,
    trivial, Cert.UpDw.algebraic,
    trivial, Cert.InDx.algebraic,
    trivial, Cert.InDw.algebraic,
    trivial, Cert.ODx.algebraic,
    trivial, Cert.ODw.algebraic,
    trivial, Cert.OutDx.algebraic,
    trivial, Cert.OutDw.algebraic,
    trivial, Cert.KvDx.algebraic,
    trivial, Cert.KvDw.algebraic,
    trivial, Cert.MmIn.algebraic,
    trivial, Cert.MmUp.algebraic,
    trivial, Cert.MmOut.algebraic,
    trivial, Cert.MmO.algebraic,
    trivial, Cert.MmKv.algebraic,
    trivial, Cert.MmDown.algebraic,
    trivial, Cert.MergeBwd.algebraic,
    trivial, Cert.NormBwdTop.algebraic,
    trivial, Cert.NormBwdMem.algebraic,
    trivial, Cert.NormBwdLast.algebraic,
    trivial, Cert.NormBwdMid.algebraic,
    trivial, Cert.BranchBBwd.algebraic,
    trivial, Cert.NormFirst.algebraic,
    trivial, Cert.NormMem.algebraic,
    trivial, Cert.NormMid.algebraic,
    trivial, Cert.NormLoss.algebraic,
    trivial, Cert.MergeFwd.algebraic,
    trivial, Cert.BranchBFwd.algebraic,
    trivial, Cert.AttnFwd.algebraic,
    trivial, Cert.AdamIn.algebraic,
    trivial, Cert.AdamUp.algebraic,
    trivial, Cert.AdamOut.algebraic,
    trivial, Cert.AdamKv.algebraic⟩

end Cert.Proof

end
